-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_fits [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerReferenceIdeal (m : (ℓ : Loc Cert.LayerReferenceIdeal.nD Cert.LayerReferenceIdeal.τ Cert.LayerReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_sums [hPre_sums : Cert.Pre_sums.Facts] (m : (ℓ : Loc Cert.NormIdeal.nD Cert.NormIdeal.τ Cert.NormIdeal.sig) → Buf (Elt Ideal) ℓ) : Prop :=
  ∀ c : Dev Cert.NormIdeal.nD,
    (Cert.Pre_sums.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_sums [hPre_sums : Cert.Pre_sums.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_sums.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_sums [hPre_head_sums : Cert.Pre_head_sums.Facts] (m : (ℓ : Loc Cert.HeadIdeal.nD Cert.HeadIdeal.τ Cert.HeadIdeal.sig) → Buf (Elt Ideal) ℓ) : Prop :=
  ∀ c : Dev Cert.HeadIdeal.nD,
    (Cert.Pre_head_sums.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_head_sums [hPre_head_sums : Cert.Pre_head_sums.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_head_sums.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_fits [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_sums [hNormIdeal : Cert.NormIdeal.Facts] [hPre_sums : Cert.Pre_sums.Facts] : Prop :=
  ∀ (m : (ℓ : Loc Cert.NormIdeal.nD Cert.NormIdeal.τ Cert.NormIdeal.sig) → Buf (Elt Ideal) ℓ) (g : Dev Cert.NormIdeal.nD → PrngReg), Pre_NormIdeal_sums m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_NormReferenceIdeal_pre_sums [hNormReferenceIdeal : Cert.NormReferenceIdeal.Facts] [hPre_sums : Cert.Pre_sums.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_sums m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadIdeal_pre_head_sums [hHeadIdeal : Cert.HeadIdeal.Facts] [hPre_head_sums : Cert.Pre_head_sums.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_sums m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10))
      ∧ r.2.sem = fun _ => 0)

def quiescent_HeadReferenceIdeal_pre_head_sums [hHeadReferenceIdeal : Cert.HeadReferenceIdeal.Facts] [hPre_head_sums : Cert.Pre_head_sums.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_head_sums m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10))
      ∧ r.2.sem = fun _ => 0)

def preserves_Kernel_KernelIdeal : Prop :=
  True

def algebraic_KernelIdeal_ReferenceIdeal_pre_fits [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Layer_LayerIdeal : Prop :=
  True

def algebraic_LayerIdeal_LayerReferenceIdeal [hLayerIdeal : Cert.LayerIdeal.Facts] [hLayerReferenceIdeal : Cert.LayerReferenceIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)) →
    ∃ (v0 : (c : Dev Cert.LayerIdeal.nD) → Buf (Elt Ideal) ((c.tc : Thread Cert.LayerIdeal.nD Cert.LayerIdeal.τ).loc Cert.LayerIdeal.main_v1_0)) (v1 : (c : Dev Cert.LayerIdeal.nD) → Buf (Elt Ideal) ((c.tc : Thread Cert.LayerIdeal.nD Cert.LayerIdeal.τ).loc Cert.LayerIdeal.main_v1_1)) (v2 : (c : Dev Cert.LayerIdeal.nD) → Buf (Elt Ideal) ((c.tc : Thread Cert.LayerIdeal.nD Cert.LayerIdeal.τ).loc Cert.LayerIdeal.main_v1_2)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v1_0) = v0 c
          ∧ r.2.mem ((c.tc : Thread Cert.LayerIdeal.nD Cert.LayerIdeal.τ).loc Cert.LayerIdeal.main_v1_1) = v1 c
          ∧ r.2.mem ((c.tc : Thread Cert.LayerIdeal.nD Cert.LayerIdeal.τ).loc Cert.LayerIdeal.main_v1_2) = v2 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v7) = v0 c
          ∧ r.2.mem ((c.tc : Thread Cert.LayerReferenceIdeal.nD Cert.LayerReferenceIdeal.τ).loc Cert.LayerReferenceIdeal.main_v9) = v1 c
          ∧ r.2.mem ((c.tc : Thread Cert.LayerReferenceIdeal.nD Cert.LayerReferenceIdeal.τ).loc Cert.LayerReferenceIdeal.main_v12) = v2 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4))

def preserves_Norm_NormIdeal : Prop :=
  IdealRules.named_const.Statement Cert.NormIdeal.κ "inv_n" .f32 0x38D1B717#32 ((1 / 10000 : ℝ) : EReal)

def algebraic_NormIdeal_NormReferenceIdeal_pre_sums [hNormIdeal : Cert.NormIdeal.Facts] [hNormReferenceIdeal : Cert.NormReferenceIdeal.Facts] [hPre_sums : Cert.Pre_sums.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_sums m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v25) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_Head_HeadIdeal : Prop :=
  IdealRules.named_const.Statement Cert.HeadIdeal.κ "inv_n" .f32 0x38D1B717#32 ((1 / 10000 : ℝ) : EReal)

def algebraic_HeadIdeal_HeadReferenceIdeal_pre_head_sums [hHeadIdeal : Cert.HeadIdeal.Facts] [hHeadReferenceIdeal : Cert.HeadReferenceIdeal.Facts] [hPre_head_sums : Cert.Pre_head_sums.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal_head_sums m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)
      ∧ m' ((c.tc : Thread Cert.HeadReferenceIdeal.nD Cert.HeadReferenceIdeal.τ).loc Cert.HeadReferenceIdeal.main_arg5) = m ((c.tc : Thread Cert.HeadIdeal.nD Cert.HeadIdeal.τ).loc Cert.HeadIdeal.main_arg5)
      ∧ m' ((c.tc : Thread Cert.HeadReferenceIdeal.nD Cert.HeadReferenceIdeal.τ).loc Cert.HeadReferenceIdeal.main_arg6) = m ((c.tc : Thread Cert.HeadIdeal.nD Cert.HeadIdeal.τ).loc Cert.HeadIdeal.main_arg6)
      ∧ m' ((c.tc : Thread Cert.HeadReferenceIdeal.nD Cert.HeadReferenceIdeal.τ).loc Cert.HeadReferenceIdeal.main_arg7) = m ((c.tc : Thread Cert.HeadIdeal.nD Cert.HeadIdeal.τ).loc Cert.HeadIdeal.main_arg7)
      ∧ m' ((c.tc : Thread Cert.HeadReferenceIdeal.nD Cert.HeadReferenceIdeal.τ).loc Cert.HeadReferenceIdeal.main_arg8) = m ((c.tc : Thread Cert.HeadIdeal.nD Cert.HeadIdeal.τ).loc Cert.HeadIdeal.main_arg8)
      ∧ m' ((c.tc : Thread Cert.HeadReferenceIdeal.nD Cert.HeadReferenceIdeal.τ).loc Cert.HeadReferenceIdeal.main_arg9) = m ((c.tc : Thread Cert.HeadIdeal.nD Cert.HeadIdeal.τ).loc Cert.HeadIdeal.main_arg9)
      ∧ m' ((c.tc : Thread Cert.HeadReferenceIdeal.nD Cert.HeadReferenceIdeal.τ).loc Cert.HeadReferenceIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v7) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v47) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6)
          ∧ r.2.mem ((c.tc : Thread Cert.HeadReferenceIdeal.nD Cert.HeadReferenceIdeal.τ).loc Cert.HeadReferenceIdeal.main_arg7) = m' ((c.tc : Thread Cert.HeadReferenceIdeal.nD Cert.HeadReferenceIdeal.τ).loc Cert.HeadReferenceIdeal.main_arg7)
          ∧ r.2.mem ((c.tc : Thread Cert.HeadReferenceIdeal.nD Cert.HeadReferenceIdeal.τ).loc Cert.HeadReferenceIdeal.main_arg8) = m' ((c.tc : Thread Cert.HeadReferenceIdeal.nD Cert.HeadReferenceIdeal.τ).loc Cert.HeadReferenceIdeal.main_arg8)
          ∧ r.2.mem ((c.tc : Thread Cert.HeadReferenceIdeal.nD Cert.HeadReferenceIdeal.τ).loc Cert.HeadReferenceIdeal.main_arg9) = m' ((c.tc : Thread Cert.HeadReferenceIdeal.nD Cert.HeadReferenceIdeal.τ).loc Cert.HeadReferenceIdeal.main_arg9)
          ∧ r.2.mem ((c.tc : Thread Cert.HeadReferenceIdeal.nD Cert.HeadReferenceIdeal.τ).loc Cert.HeadReferenceIdeal.main_arg10) = m' ((c.tc : Thread Cert.HeadReferenceIdeal.nD Cert.HeadReferenceIdeal.τ).loc Cert.HeadReferenceIdeal.main_arg10))

def Claim : Prop :=
  ∃ (hKernel : Cert.Kernel.Facts) (hKernelIdeal : Cert.KernelIdeal.Facts) (hReferenceIdeal : Cert.ReferenceIdeal.Facts) (hLayer : Cert.Layer.Facts) (hLayerIdeal : Cert.LayerIdeal.Facts) (hLayerReferenceIdeal : Cert.LayerReferenceIdeal.Facts) (hNorm : Cert.Norm.Facts) (hNormIdeal : Cert.NormIdeal.Facts) (hNormReferenceIdeal : Cert.NormReferenceIdeal.Facts) (hHead : Cert.Head.Facts) (hHeadIdeal : Cert.HeadIdeal.Facts) (hHeadReferenceIdeal : Cert.HeadReferenceIdeal.Facts) (hPre_in_range : Cert.Pre_in_range.Facts) (hPre_fits : Cert.Pre_fits.Facts) (hPre_sums : Cert.Pre_sums.Facts) (hPre_head_sums : Cert.Pre_head_sums.Facts),
    quiescent_Kernel (hKernel := hKernel) (hPre_in_range := hPre_in_range)
    ∧ quiescent_KernelIdeal (hKernelIdeal := hKernelIdeal) (hPre_in_range := hPre_in_range)
    ∧ quiescent_KernelIdeal_pre_fits (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ quiescent_Layer (hLayer := hLayer)
    ∧ quiescent_LayerIdeal (hLayerIdeal := hLayerIdeal)
    ∧ quiescent_LayerReferenceIdeal (hLayerReferenceIdeal := hLayerReferenceIdeal)
    ∧ quiescent_Norm (hNorm := hNorm)
    ∧ quiescent_NormIdeal (hNormIdeal := hNormIdeal)
    ∧ quiescent_NormIdeal_pre_sums (hNormIdeal := hNormIdeal) (hPre_sums := hPre_sums)
    ∧ quiescent_NormReferenceIdeal (hNormReferenceIdeal := hNormReferenceIdeal)
    ∧ quiescent_NormReferenceIdeal_pre_sums (hNormReferenceIdeal := hNormReferenceIdeal) (hPre_sums := hPre_sums)
    ∧ quiescent_Head (hHead := hHead)
    ∧ quiescent_HeadIdeal (hHeadIdeal := hHeadIdeal)
    ∧ quiescent_HeadIdeal_pre_head_sums (hHeadIdeal := hHeadIdeal) (hPre_head_sums := hPre_head_sums)
    ∧ quiescent_HeadReferenceIdeal (hHeadReferenceIdeal := hHeadReferenceIdeal)
    ∧ quiescent_HeadReferenceIdeal_pre_head_sums (hHeadReferenceIdeal := hHeadReferenceIdeal) (hPre_head_sums := hPre_head_sums)
    ∧ preserves_Kernel_KernelIdeal
    ∧ algebraic_KernelIdeal_ReferenceIdeal_pre_fits (hKernelIdeal := hKernelIdeal) (hReferenceIdeal := hReferenceIdeal) (hPre_fits := hPre_fits)
    ∧ preserves_Layer_LayerIdeal
    ∧ algebraic_LayerIdeal_LayerReferenceIdeal (hLayerIdeal := hLayerIdeal) (hLayerReferenceIdeal := hLayerReferenceIdeal)
    ∧ preserves_Norm_NormIdeal
    ∧ algebraic_NormIdeal_NormReferenceIdeal_pre_sums (hNormIdeal := hNormIdeal) (hNormReferenceIdeal := hNormReferenceIdeal) (hPre_sums := hPre_sums)
    ∧ preserves_Head_HeadIdeal
    ∧ algebraic_HeadIdeal_HeadReferenceIdeal_pre_head_sums (hHeadIdeal := hHeadIdeal) (hHeadReferenceIdeal := hHeadReferenceIdeal) (hPre_head_sums := hPre_head_sums)
-- ==== Pre_fits.lean ====
abbrev S10000x128 : Shape := ⟨2, ![10000, 128]⟩
abbrev S2x320000 : Shape := ⟨2, ![2, 320000]⟩
abbrev S_ : Shape := ⟨0, ![]⟩
abbrev S32 : Shape := ⟨1, ![32]⟩
abbrev S32x1 : Shape := ⟨2, ![32, 1]⟩
abbrev S1x316800 : Shape := ⟨2, ![1, 316800]⟩
abbrev S32x316800 : Shape := ⟨2, ![32, 316800]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S32_S32x1_0 : S32.BroadcastsInDim S32x1 (![0] : Fin 1 → Fin S32x1.rank)
  bcast_S_S32x1 : S_.BroadcastsInDim S32x1 (![] : Fin 0 → Fin S32x1.rank)
  slices_S2x320000_S1x316800_1_0 : S2x320000.Slices ![1, 0] S1x316800
  bcast_S1x316800_S32x316800_0_1 : S1x316800.BroadcastsInDim S32x316800 (![0, 1] : Fin 2 → Fin S32x316800.rank)
  bcast_S32x1_S32x316800_0_1 : S32x1.BroadcastsInDim S32x316800 (![0, 1] : Fin 2 → Fin S32x316800.rank)
  natLt_1_32 : 1 < 32
  reducesTo_S32x316800_S32_d1 : S32x316800.ReducesTo [1] S32
  bcast_S_S32 : S_.BroadcastsInDim S32 (![] : Fin 0 → Fin S32.rank)
  reducesTo_S32_S_d0 : S32.ReducesTo [0] S_

variable [Facts]

def fn_part1 {F : FTy → Type} [FloatOps F] (main_arg1 : IVec S2x320000 32) (main_v15 : IVec S_ 1) (main_v16 : IVec S32 32) : IVec S_ 1 :=
  let main_v17 : IVec S32x1 32 := broadcastInDim S32x1 ![0] bcast_S32_S32x1_0 main_v16
  let main_c_5 : IVec S_ 32 := constantI S_ 32 320#32
  let main_v18 : IVec S32x1 32 := broadcastInDim S32x1 ![] bcast_S_S32x1 main_c_5
  let main_v19 : IVec S32x1 32 := muli main_v17 main_v18
  let main_v20 : IVec S1x316800 32 := (extractStridedSlice S1x316800 ![1, 0] · slices_S2x320000_S1x316800_1_0) main_arg1
  let main_v21 : IVec S32x316800 32 := broadcastInDim S32x316800 ![0, 1] bcast_S1x316800_S32x316800_0_1 main_v20
  let main_v22 : IVec S32x316800 32 := broadcastInDim S32x316800 ![0, 1] bcast_S32x1_S32x316800_0_1 main_v19
  let main_v23 : IVec S32x316800 1 := cmpi .sge main_v21 main_v22
  let main_c_6 : IVec S_ 32 := constantI S_ 32 320#32
  let main_v24 : IVec S32x1 32 := broadcastInDim S32x1 ![] bcast_S_S32x1 main_c_6
  let main_v25 : IVec S32x1 32 := addi main_v19 main_v24
  let main_v26 : IVec S32x316800 32 := broadcastInDim S32x316800 ![0, 1] bcast_S1x316800_S32x316800_0_1 main_v20
  let main_v27 : IVec S32x316800 32 := broadcastInDim S32x316800 ![0, 1] bcast_S32x1_S32x316800_0_1 main_v25
  let main_v28 : IVec S32x316800 1 := cmpi .slt main_v26 main_v27
  let main_v29 : IVec S32x316800 1 := andi main_v23 main_v28
  let main_v30 : IVec S32x316800 32 := (extui 32 · natLt_1_32) main_v29
  let main_c_7 : IVec S_ 32 := constantI S_ 32 0#32
  let main_v31 : IVec S32 32 := (fun x v => Host.reduce IntOp.addi x v reducesTo_S32x316800_S32_d1 h_S_) main_v30 main_c_7
  let main_c_8 : IVec S_ 32 := constantI S_ 32 13184#32
  let main_v32 : IVec S32 32 := broadcastInDim S32 ![] bcast_S_S32 main_c_8
  let main_v33 : IVec S32 1 := cmpi .sle main_v31 main_v32
  let main_c_9 : IVec S_ 1 := constantI S_ 1 1#1
  let main_v34 : IVec S_ 1 := (fun x v => Host.reduce IntOp.andi x v reducesTo_S32_S_d0 h_S_) main_v33 main_c_9
  let main_v35 : IVec S_ 1 := andi main_v15 main_v34
  main_v35

def fn {F : FTy → Type} [FloatOps F] (main_arg0 : FVec F S10000x128 .f32) (main_arg1 : IVec S2x320000 32) (main_arg2 : FVec F S10000x128 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_v6 : FVec F S10000x128 .f32 := Host.absf main_arg0
  let main_cst : FVec F S_ .f32 := constant S_ .f32 0x7F800000#32
  let main_v7 : FVec F S10000x128 .f32 := broadcastInDim S10000x128 ![] bcast_S_S10000x128 main_cst
  let main_v8 : IVec S10000x128 1 := cmpf .olt main_v6 main_v7
  let main_c_2 : IVec S_ 1 := constantI S_ 1 1#1
  let main_v9 : IVec S_ 1 := (fun x v => Host.reduce IntOp.andi x v reducesTo_S10000x128_S_d0_1 h_S_) main_v8 main_c_2
  let main_v10 : IVec S_ 1 := andi main_v5 main_v9
  let main_v11 : FVec F S10000x128 .f32 := Host.absf main_arg2
  let main_cst_3 : FVec F S_ .f32 := constant S_ .f32 0x7F800000#32
  let main_v12 : FVec F S10000x128 .f32 := broadcastInDim S10000x128 ![] bcast_S_S10000x128 main_cst_3
  let main_v13 : IVec S10000x128 1 := cmpf .olt main_v11 main_v12
  let main_c_4 : IVec S_ 1 := constantI S_ 1 1#1
  let main_v14 : IVec S_ 1 := (fun x v => Host.reduce IntOp.andi x v reducesTo_S10000x128_S_d0_1 h_S_) main_v13 main_c_4
  let main_v15 : IVec S_ 1 := andi main_v10 main_v14
  let main_v16 : IVec S32 32 := iotaInDim S32 32 0
  fn_part1 (F := F) main_arg1 main_v15 main_v16
-- ==== Pre_head_sums.lean ====
abbrev S10000x128 : Shape := ⟨2, ![10000, 128]⟩
abbrev S1x128 : Shape := ⟨2, ![1, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  reducesTo_S10000x128_S128_d0 : S10000x128.ReducesTo [0] S128
  bcast_S128_S1x128_1 : S128.BroadcastsInDim S1x128 (![1] : Fin 1 → Fin S1x128.rank)
  reducesTo_S1x128_S_d0_1 : S1x128.ReducesTo [0, 1] S_

variable [Facts]

def fn {F : FTy → Type} [FloatOps F] (main_arg0 : FVec F S10000x128 .f32) (main_arg1 : FVec F S1x128 .f32) (main_arg2 : FVec F S1x128 .f32) (main_arg3 : FVec F S128 .f32) (main_arg4 : FVec F S128 .f32) (main_arg5 : FVec F S128 .f32) (main_arg6 : FVec F S10000x128 .f32) (main_arg7 : FVec F S64x128 .f32) (main_arg8 : FVec F S64 .f32) (main_arg9 : FVec F S1x64 .f32) (main_arg10 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_cst_0 : FVec F S_ .f32 := constant S_ .f32 0x00000000#32
  let main_v4 : FVec F S128 .f32 := (fun x v => Host.reduceAdd x v reducesTo_S10000x128_S128_d0 h_S_) main_arg0 main_cst_0
  let main_v5 : FVec F S1x128 .f32 := broadcastInDim S1x128 ![1] bcast_S128_S1x128_1 main_v4
  let main_v6 : IVec S1x128 1 := cmpf .oeq main_arg1 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S10000x128 .f32 := mulf main_arg0 main_arg0
  let main_cst_2 : FVec F S_ .f32 := constant S_ .f32 0x00000000#32
  let main_v10 : FVec F S128 .f32 := (fun x v => Host.reduceAdd x v reducesTo_S10000x128_S128_d0 h_S_) main_v9 main_cst_2
  let main_v11 : FVec F S1x128 .f32 := broadcastInDim S1x128 ![1] bcast_S128_S1x128_1 main_v10
  let main_v12 : IVec S1x128 1 := cmpf .oeq main_arg2 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v8 main_v13
  main_v14
-- ==== Pre_in_range.lean ====
abbrev S10000x128 : Shape := ⟨2, ![10000, 128]⟩
abbrev S2x320000 : Shape := ⟨2, ![2, 320000]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : IVec S2x320000 32) (main_arg2 : FVec F S10000x128 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  main_v5
-- ==== Pre_sums.lean ====
abbrev S10000x128 : Shape := ⟨2, ![10000, 128]⟩
abbrev S1x128 : Shape := ⟨2, ![1, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  reducesTo_S10000x128_S128_d0 : S10000x128.ReducesTo [0] S128
  bcast_S128_S1x128_1 : S128.BroadcastsInDim S1x128 (![1] : Fin 1 → Fin S1x128.rank)
  reducesTo_S1x128_S_d0_1 : S1x128.ReducesTo [0, 1] S_

variable [Facts]

def fn {F : FTy → Type} [FloatOps F] (main_arg0 : FVec F S10000x128 .f32) (main_arg1 : FVec F S1x128 .f32) (main_arg2 : FVec F S1x128 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_cst_0 : FVec F S_ .f32 := constant S_ .f32 0x00000000#32
  let main_v4 : FVec F S128 .f32 := (fun x v => Host.reduceAdd x v reducesTo_S10000x128_S128_d0 h_S_) main_arg0 main_cst_0
  let main_v5 : FVec F S1x128 .f32 := broadcastInDim S1x128 ![1] bcast_S128_S1x128_1 main_v4
  let main_v6 : IVec S1x128 1 := cmpf .oeq main_arg1 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S10000x128 .f32 := mulf main_arg0 main_arg0
  let main_cst_2 : FVec F S_ .f32 := constant S_ .f32 0x00000000#32
  let main_v10 : FVec F S128 .f32 := (fun x v => Host.reduceAdd x v reducesTo_S10000x128_S128_d0 h_S_) main_v9 main_cst_2
  let main_v11 : FVec F S1x128 .f32 := broadcastInDim S1x128 ![1] bcast_S128_S1x128_1 main_v10
  let main_v12 : IVec S1x128 1 := cmpf .oeq main_arg2 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v8 main_v13
  main_v14
-- ==== Kernel.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S524288 : Shape := ⟨1, ![524288]⟩
abbrev S512 : Shape := ⟨1, ![512]⟩
abbrev S3200 : Shape := ⟨1, ![3200]⟩
abbrev S16384 : Shape := ⟨1, ![16384]⟩
abbrev S321x128 : Shape := ⟨2, ![321, 128]⟩
abbrev S128x128 : Shape := ⟨2, ![128, 128]⟩
abbrev S16 : Shape := ⟨1, ![16]⟩
abbrev S_ : Shape := ⟨0, ![]⟩
abbrev S1x16 : Shape := ⟨2, ![1, 16]⟩
abbrev S1 : Shape := ⟨1, ![1]⟩
abbrev S128 : Shape := ⟨1, ![128]⟩
abbrev S320x128 : Shape := ⟨2, ![320, 128]⟩
abbrev S80x128 : Shape := ⟨2, ![80, 128]⟩

abbrev nBuf : Table → Nat
  | .hbm => 12
  | .local .scVector .vmem => 16
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S10000x128, .f32⟩
  | .hbm, ⟨3, _⟩ => ⟨S1x320000, .i32⟩
  | .hbm, ⟨4, _⟩ => ⟨S320000, .i32⟩
  | .hbm, ⟨5, _⟩ => ⟨S1x320000, .i32⟩
  | .hbm, ⟨6, _⟩ => ⟨S320000, .i32⟩
  | .hbm, ⟨7, _⟩ => ⟨S10000x128, .f32⟩
  | .hbm, ⟨8, _⟩ => ⟨S524288, .i32⟩
  | .hbm, ⟨9, _⟩ => ⟨S524288, .i32⟩
  | .hbm, ⟨10, _⟩ => ⟨S512, .i32⟩
  | .hbm, ⟨11, _⟩ => ⟨S10000x128, .f32⟩
  | .local .scVector .vmem, ⟨0, _⟩ => ⟨S3200, .i32⟩
  | .local .scVector .vmem, ⟨1, _⟩ => ⟨S3200, .i32⟩
  | .local .scVector .vmem, ⟨2, _⟩ => ⟨S3200, .i32⟩
  | .local .scVector .vmem, ⟨3, _⟩ => ⟨S3200, .i32⟩
  | .local .scVector .vmem, ⟨4, _⟩ => ⟨S16384, .i32⟩
  | .local .scVector .vmem, ⟨5, _⟩ => ⟨S16384, .i32⟩
  | .local .scVector .vmem, ⟨6, _⟩ => ⟨S321x128, .f32⟩
  | .local .scVector .vmem, ⟨7, _⟩ => ⟨S128x128, .f32⟩
  | .local .scVector .vmem, ⟨8, _⟩ => ⟨S128x128, .f32⟩
  | .local .scVector .vmem, ⟨9, _⟩ => ⟨S16, .i32⟩
  | .local .scVector .vmem, ⟨10, _⟩ => ⟨S16384, .i32⟩
  | .local .scVector .vmem, ⟨11, _⟩ => ⟨S16384, .i32⟩
  | .local .scVector .vmem, ⟨12, _⟩ => ⟨S321x128, .f32⟩
  | .local .scVector .vmem, ⟨13, _⟩ => ⟨S128x128, .f32⟩
  | .local .scVector .vmem, ⟨14, _⟩ => ⟨S128x128, .f32⟩
  | .local .scVector .vmem, ⟨15, _⟩ => ⟨S16, .i32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v5 : Ref sig .tc := ⟨.hbm, 11, rfl⟩
abbrev main_arg0_scv : Ref sig .scVector := ⟨.hbm, 0, rfl⟩
abbrev main_v1_scv : Ref sig .scVector := ⟨.hbm, 4, rfl⟩
abbrev main_v3_scv : Ref sig .scVector := ⟨.hbm, 6, rfl⟩
abbrev main_v4_0_scv : Ref sig .scVector := ⟨.hbm, 7, rfl⟩
abbrev main_v4_1_scv : Ref sig .scVector := ⟨.hbm, 8, rfl⟩
abbrev main_v4_2_scv : Ref sig .scVector := ⟨.hbm, 9, rfl⟩
abbrev main_v4_3_scv : Ref sig .scVector := ⟨.hbm, 10, rfl⟩
abbrev main_arg2_scv : Ref sig .scVector := ⟨.hbm, 2, rfl⟩
abbrev main_v5_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_scratch0 : Ref sig .scVector := ⟨.vmem, 10, rfl⟩
abbrev cc1_scratch1 : Ref sig .scVector := ⟨.vmem, 11, rfl⟩
abbrev cc1_scratch2 : Ref sig .scVector := ⟨.vmem, 12, rfl⟩
abbrev cc1_scratch3 : Ref sig .scVector := ⟨.vmem, 13, rfl⟩
abbrev cc1_scratch4 : Ref sig .scVector := ⟨.vmem, 14, rfl⟩
abbrev cc1_scratch5 : Ref sig .scVector := ⟨.vmem, 15, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c321_i32 : BitVec 32 := 321#32
  let v4 : BitVec 32 := Scalar.addi c0_i32_0 c321_i32
  let c1_i32 : BitVec 32 := 1#32
  ⟨c0_i32_0, v4, c1_i32⟩
def k0_off1 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v81 : Index := Scalar.indexCast arg23
  let c0_51 : Index := 0#32
  ![v81.toNat, 0]
def k0_off2 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v83 : Index := Scalar.indexCast arg23
  let c16 : Index := 16#32
  ![v83.toNat, 16]
def k0_off3 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v85 : Index := Scalar.indexCast arg23
  let c32 : Index := 32#32
  ![v85.toNat, 32]
def k0_off4 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v87 : Index := Scalar.indexCast arg23
  let c48 : Index := 48#32
  ![v87.toNat, 48]
def k0_off5 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v89 : Index := Scalar.indexCast arg23
  let c64 : Index := 64#32
  ![v89.toNat, 64]
def k0_off6 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v91 : Index := Scalar.indexCast arg23
  let c80 : Index := 80#32
  ![v91.toNat, 80]
def k0_off7 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v93 : Index := Scalar.indexCast arg23
  let c96 : Index := 96#32
  ![v93.toNat, 96]
def k0_off8 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let v95 : Index := Scalar.indexCast arg23
  let c112 : Index := 112#32
  ![v95.toNat, 112]
@[reducible] def k0_t2_loop : Scf.Loop 32 :=
  let c0_i32_5 : BitVec 32 := 0#32
  let c1024_i32 : BitVec 32 := 1024#32
  let v8 : BitVec 32 := Scalar.addi c0_i32_5 c1024_i32
  let c1_i32_6 : BitVec 32 := 1#32
  ⟨c0_i32_5, v8, c1_i32_6⟩
def k0_off9 (k0_t2 : Fin k0_t2_loop.trips) : Fin 1 → Nat :=
  let c0_i32_5 : BitVec 32 := 0#32
  let c1_i32_6 : BitVec 32 := 1#32
  let arg23 : BitVec 32 := Scf.iv c0_i32_5 c1_i32_6 k0_t2
  let c16_i32_51 : BitVec 32 := 16#32
  let v81 : BitVec 32 := Scalar.muli arg23 c16_i32_51
  let v82 : Index := Scalar.indexCast v81
  ![v82.toNat]
@[reducible] def k0_t3_loop : Scf.Loop 32 :=
  let c0_i32_16 : BitVec 32 := 0#32
  let c50_i32 : BitVec 32 := 50#32
  let v18 : BitVec 32 := Scalar.addi c0_i32_16 c50_i32
  let c1_i32_17 : BitVec 32 := 1#32
  ⟨c0_i32_16, v18, c1_i32_17⟩
@[reducible] def k0_t4_loop : Scf.Loop 32 :=
  let c0_i32_56 : BitVec 32 := 0#32
  let c200_i32 : BitVec 32 := 200#32
  let v87 : BitVec 32 := Scalar.addi c0_i32_56 c200_i32
  let c1_i32_57 : BitVec 32 := 1#32
  ⟨c0_i32_56, v87, c1_i32_57⟩
def k0_off10 (k0_t4 : Fin k0_t4_loop.trips) : Fin 1 → Nat :=
  let c0_i32_56 : BitVec 32 := 0#32
  let c1_i32_57 : BitVec 32 := 1#32
  let arg25 : BitVec 32 := Scf.iv c0_i32_56 c1_i32_57 k0_t4
  let c16_i32_72 : BitVec 32 := 16#32
  let v104 : BitVec 32 := Scalar.muli arg25 c16_i32_72
  let v105 : Index := Scalar.indexCast v104
  ![v105.toNat]

def k0_chk1 (v123 : IVec S16 32) : Prop :=
  (∀ a x, ((![v123] : Fin 1 → IVec S16 32) a x).toNat < S16384.size a) ∧
  (∀ a x, ((![v123] : Fin 1 → IVec S16 32) a x).toNat < S16384.size a)
theorem k0_idx1_inb : ∀ (v123 : IVec S16 32) (k0_hw1 : k0_chk1 v123), ∀ a x, ((![v123] : Fin 1 → IVec S16 32) a x).toNat < S16384.size a := fun v123 k0_hw1 => k0_hw1.1
theorem k0_idx2_inb : ∀ (v123 : IVec S16 32) (k0_hw1 : k0_chk1 v123), ∀ a x, ((![v123] : Fin 1 → IVec S16 32) a x).toNat < S16384.size a := fun v123 k0_hw1 => k0_hw1.2
def k0_cond1 (k0_t3 : Fin k0_t3_loop.trips) : BitVec 1 :=
  let c2_i32_51 : BitVec 32 := 2#32
  let c0_i32_16 : BitVec 32 := 0#32
  let c1_i32_17 : BitVec 32 := 1#32
  let arg23 : BitVec 32 := Scf.iv c0_i32_16 c1_i32_17 k0_t3
  let v81 : BitVec 32 := Scalar.muli c2_i32_51 arg23
  let c2_i32_59 : BitVec 32 := 2#32
  let v89 : BitVec 32 := Scalar.addi v81 c2_i32_59
  let c100_i32 : BitVec 32 := 100#32
  let v90 : BitVec 1 := Scalar.cmpi .slt v89 c100_i32
  let v91 : BitVec 32 := Scalar.extui v90
  let c0_i32_60 : BitVec 32 := 0#32
  let v92 : BitVec 1 := Scalar.cmpi .ne v91 c0_i32_60
  v92

def k0_off11 (k0_t3 : Fin k0_t3_loop.trips) : Fin 1 → Nat :=
  let c2_i32_51 : BitVec 32 := 2#32
  let c0_i32_16 : BitVec 32 := 0#32
  let c1_i32_17 : BitVec 32 := 1#32
  let arg23 : BitVec 32 := Scf.iv c0_i32_16 c1_i32_17 k0_t3
  let v81 : BitVec 32 := Scalar.muli c2_i32_51 arg23
  let c2_i32_72 : BitVec 32 := 2#32
  let v104 : BitVec 32 := Scalar.addi v81 c2_i32_72
  let c3200_i32_73 : BitVec 32 := 3200#32
  let v105 : BitVec 32 := Scalar.muli v104 c3200_i32_73
  ![v105.toNat]
@[reducible] def k0_t5_loop : Scf.Loop 32 :=
  let c0_i32_66 : BitVec 32 := 0#32
  let c200_i32_67 : BitVec 32 := 200#32
  let v98 : BitVec 32 := Scalar.addi c0_i32_66 c200_i32_67
  let c1_i32_68 : BitVec 32 := 1#32
  ⟨c0_i32_66, v98, c1_i32_68⟩
def k0_off12 (k0_t5 : Fin k0_t5_loop.trips) : Fin 1 → Nat :=
  let c0_i32_66 : BitVec 32 := 0#32
  let c1_i32_68 : BitVec 32 := 1#32
  let arg25 : BitVec 32 := Scf.iv c0_i32_66 c1_i32_68 k0_t5
  let c16_i32_72 : BitVec 32 := 16#32
  let v104 : BitVec 32 := Scalar.muli arg25 c16_i32_72
  let v105 : Index := Scalar.indexCast v104
  ![v105.toNat]

def k0_chk2 (v123 : IVec S16 32) : Prop :=
  (∀ a x, ((![v123] : Fin 1 → IVec S16 32) a x).toNat < S16384.size a) ∧
  (∀ a x, ((![v123] : Fin 1 → IVec S16 32) a x).toNat < S16384.size a)
theorem k0_idx3_inb : ∀ (v123 : IVec S16 32) (k0_hw2 : k0_chk2 v123), ∀ a x, ((![v123] : Fin 1 → IVec S16 32) a x).toNat < S16384.size a := fun v123 k0_hw2 => k0_hw2.1
theorem k0_idx4_inb : ∀ (v123 : IVec S16 32) (k0_hw2 : k0_chk2 v123), ∀ a x, ((![v123] : Fin 1 → IVec S16 32) a x).toNat < S16384.size a := fun v123 k0_hw2 => k0_hw2.2
def k0_cond2 (k0_t3 : Fin k0_t3_loop.trips) : BitVec 1 :=
  let c2_i32_51 : BitVec 32 := 2#32
  let c0_i32_16 : BitVec 32 := 0#32
  let c1_i32_17 : BitVec 32 := 1#32
  let arg23 : BitVec 32 := Scf.iv c0_i32_16 c1_i32_17 k0_t3
  let v81 : BitVec 32 := Scalar.muli c2_i32_51 arg23
  let c3_i32 : BitVec 32 := 3#32
  let v100 : BitVec 32 := Scalar.addi v81 c3_i32
  let c100_i32_70 : BitVec 32 := 100#32
  let v101 : BitVec 1 := Scalar.cmpi .slt v100 c100_i32_70
  let v102 : BitVec 32 := Scalar.extui v101
  let c0_i32_71 : BitVec 32 := 0#32
  let v103 : BitVec 1 := Scalar.cmpi .ne v102 c0_i32_71
  v103

def k0_off13 (k0_t3 : Fin k0_t3_loop.trips) : Fin 1 → Nat :=
  let c2_i32_51 : BitVec 32 := 2#32
  let c0_i32_16 : BitVec 32 := 0#32
  let c1_i32_17 : BitVec 32 := 1#32
  let arg23 : BitVec 32 := Scf.iv c0_i32_16 c1_i32_17 k0_t3
  let v81 : BitVec 32 := Scalar.muli c2_i32_51 arg23
  let c3_i32_72 : BitVec 32 := 3#32
  let v104 : BitVec 32 := Scalar.addi v81 c3_i32_72
  let c3200_i32_73 : BitVec 32 := 3200#32
  let v105 : BitVec 32 := Scalar.muli v104 c3200_i32_73
  ![v105.toNat]
def k0_off14 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v23 : BitVec 32 := Scalar.muli v1 c16_i32
  ![v23.toNat]
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v24 : BitVec 32 := Scalar.muli v1 c16384_i32
  ![v24.toNat]
@[reducible] def k0_t6_loop (v19 : BitVec 32) : Scf.Loop 32 :=
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_41 : BitVec 32 := 1#32
  ⟨c0_i32_38, v70, c1_i32_41⟩

def k0_off16 (v19 : BitVec 32) (k0_t6 : Fin (k0_t6_loop v19).trips) : Fin 1 → Nat :=
  let c2_i32_51 : BitVec 32 := 2#32
  let c0_i32_38 : BitVec 32 := 0#32
  let c1_i32_41 : BitVec 32 := 1#32
  let arg23 : BitVec 32 := Scf.iv c0_i32_38 c1_i32_41 k0_t6
  let v81 : BitVec 32 := Scalar.muli c2_i32_51 arg23
  let c0_i32_52 : BitVec 32 := 0#32
  let v82 : BitVec 32 := Scalar.addi v81 c0_i32_52
  let c1_i32_68 : BitVec 32 := 1#32
  let v100 : BitVec 32 := Scalar.addi v82 c1_i32_68
  let c128_i32_69 : BitVec 32 := 128#32
  let v101 : BitVec 32 := Scalar.muli v100 c128_i32_69
  ![v101.toNat]
def k0_cond4 (v19 : BitVec 32) (k0_t6 : Fin (k0_t6_loop v19).trips) : BitVec 1 :=
  let c2_i32_51 : BitVec 32 := 2#32
  let c0_i32_38 : BitVec 32 := 0#32
  let c1_i32_41 : BitVec 32 := 1#32
  let arg23 : BitVec 32 := Scf.iv c0_i32_38 c1_i32_41 k0_t6
  let v81 : BitVec 32 := Scalar.muli c2_i32_51 arg23
  let c0_i32_52 : BitVec 32 := 0#32
  let v82 : BitVec 32 := Scalar.addi v81 c0_i32_52
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let v83 : BitVec 1 := Scalar.cmpi .slt v82 v44
  let v84 : BitVec 32 := Scalar.extui v83
  let c0_i32_53 : BitVec 32 := 0#32
  let v85 : BitVec 1 := Scalar.cmpi .ne v84 c0_i32_53
  v85

def k0_cond5 (v19 : BitVec 32) (k0_t6 : Fin (k0_t6_loop v19).trips) : BitVec 1 :=
  let c2_i32_51 : BitVec 32 := 2#32
  let c0_i32_38 : BitVec 32 := 0#32
  let c1_i32_41 : BitVec 32 := 1#32
  let arg23 : BitVec 32 := Scf.iv c0_i32_38 c1_i32_41 k0_t6
  let v81 : BitVec 32 := Scalar.muli c2_i32_51 arg23
  let c0_i32_52 : BitVec 32 := 0#32
  let v82 : BitVec 32 := Scalar.addi v81 c0_i32_52
  let c1_i32_61 : BitVec 32 := 1#32
  let v93 : BitVec 32 := Scalar.addi v82 c1_i32_61
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let v94 : BitVec 1 := Scalar.cmpi .slt v93 v44
  let v95 : BitVec 32 := Scalar.extui v94
  let c0_i32_62 : BitVec 32 := 0#32
  let v96 : BitVec 1 := Scalar.cmpi .ne v95 c0_i32_62
  v96

@[reducible] def k0_t7_loop : Scf.Loop 32 :=
  let c0_i32_65 : BitVec 32 := 0#32
  let c8_i32 : BitVec 32 := 8#32
  let v98 : BitVec 32 := Scalar.addi c0_i32_65 c8_i32
  let c1_i32_66 : BitVec 32 := 1#32
  ⟨c0_i32_65, v98, c1_i32_66⟩
def k0_off17 (v19 : BitVec 32) (k0_t6 : Fin (k0_t6_loop v19).trips) (k0_t7 : Fin k0_t7_loop.trips) : Fin 1 → Nat :=
  let c2_i32_51 : BitVec 32 := 2#32
  let c0_i32_38 : BitVec 32 := 0#32
  let c1_i32_41 : BitVec 32 := 1#32
  let arg23 : BitVec 32 := Scf.iv c0_i32_38 c1_i32_41 k0_t6
  let v81 : BitVec 32 := Scalar.muli c2_i32_51 arg23
  let c0_i32_52 : BitVec 32 := 0#32
  let v82 : BitVec 32 := Scalar.addi v81 c0_i32_52
  let c128_i32_63 : BitVec 32 := 128#32
  let v97 : BitVec 32 := Scalar.muli v82 c128_i32_63
  let c0_i32_65 : BitVec 32 := 0#32
  let c1_i32_66 : BitVec 32 := 1#32
  let arg25 : BitVec 32 := Scf.iv c0_i32_65 c1_i32_66 k0_t7
  let c16_i32_68 : BitVec 32 := 16#32
  let v100 : BitVec 32 := Scalar.muli arg25 c16_i32_68
  let v101 : BitVec 32 := Scalar.addi v97 v100
  let v102 : Index := Scalar.indexCast v101
  ![v102.toNat]
def k0_off18 (v105 : BitVec 32) : Fin 2 → Nat :=
  let v108 : Index := Scalar.indexCast v105
  let c0_71 : Index := 0#32
  ![v108.toNat, 0]

def k0_off19 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v110 : Index := Scalar.indexCast v107
  let c0_72 : Index := 0#32
  ![v110.toNat, 0]
def k0_off20 (v105 : BitVec 32) : Fin 2 → Nat :=
  let v115 : Index := Scalar.indexCast v105
  let c16 : Index := 16#32
  ![v115.toNat, 16]
def k0_off21 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v117 : Index := Scalar.indexCast v107
  let c16_74 : Index := 16#32
  ![v117.toNat, 16]
def k0_off22 (v105 : BitVec 32) : Fin 2 → Nat :=
  let v122 : Index := Scalar.indexCast v105
  let c32 : Index := 32#32
  ![v122.toNat, 32]
def k0_off23 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v124 : Index := Scalar.indexCast v107
  let c32_76 : Index := 32#32
  ![v124.toNat, 32]
def k0_off24 (v105 : BitVec 32) : Fin 2 → Nat :=
  let v129 : Index := Scalar.indexCast v105
  let c48 : Index := 48#32
  ![v129.toNat, 48]
def k0_off25 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v131 : Index := Scalar.indexCast v107
  let c48_78 : Index := 48#32
  ![v131.toNat, 48]
def k0_off26 (v105 : BitVec 32) : Fin 2 → Nat :=
  let v136 : Index := Scalar.indexCast v105
  let c64 : Index := 64#32
  ![v136.toNat, 64]
def k0_off27 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v138 : Index := Scalar.indexCast v107
  let c64_80 : Index := 64#32
  ![v138.toNat, 64]
def k0_off28 (v105 : BitVec 32) : Fin 2 → Nat :=
  let v143 : Index := Scalar.indexCast v105
  let c80 : Index := 80#32
  ![v143.toNat, 80]
def k0_off29 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v145 : Index := Scalar.indexCast v107
  let c80_82 : Index := 80#32
  ![v145.toNat, 80]
def k0_off30 (v105 : BitVec 32) : Fin 2 → Nat :=
  let v150 : Index := Scalar.indexCast v105
  let c96 : Index := 96#32
  ![v150.toNat, 96]
def k0_off31 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v152 : Index := Scalar.indexCast v107
  let c96_84 : Index := 96#32
  ![v152.toNat, 96]
def k0_off32 (v105 : BitVec 32) : Fin 2 → Nat :=
  let v157 : Index := Scalar.indexCast v105
  let c112 : Index := 112#32
  ![v157.toNat, 112]

def k0_chk4 (v19 : BitVec 32) (k0_t6 : Fin (k0_t6_loop v19).trips) (v105 : BitVec 32) : Prop :=
  (∀ (k0_h4 : k0_cond4 v19 k0_t6 = 1#1), ∀ a, (k0_off18 v105) a + S1x16.size a ≤ S321x128.size a) ∧
  (∀ (k0_h4 : k0_cond4 v19 k0_t6 = 1#1), ∀ a, (k0_off20 v105) a + S1x16.size a ≤ S321x128.size a) ∧
  (∀ (k0_h4 : k0_cond4 v19 k0_t6 = 1#1), ∀ a, (k0_off22 v105) a + S1x16.size a ≤ S321x128.size a) ∧
  (∀ (k0_h4 : k0_cond4 v19 k0_t6 = 1#1), ∀ a, (k0_off24 v105) a + S1x16.size a ≤ S321x128.size a) ∧
  (∀ (k0_h4 : k0_cond4 v19 k0_t6 = 1#1), ∀ a, (k0_off26 v105) a + S1x16.size a ≤ S321x128.size a) ∧
  (∀ (k0_h4 : k0_cond4 v19 k0_t6 = 1#1), ∀ a, (k0_off28 v105) a + S1x16.size a ≤ S321x128.size a) ∧
  (∀ (k0_h4 : k0_cond4 v19 k0_t6 = 1#1), ∀ a, (k0_off30 v105) a + S1x16.size a ≤ S321x128.size a) ∧
  (∀ (k0_h4 : k0_cond4 v19 k0_t6 = 1#1), ∀ a, (k0_off32 v105) a + S1x16.size a ≤ S321x128.size a)
theorem k0_off18_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off18 v105) a + S1x16.size a ≤ S321x128.size a := fun v19 k0_t6 v105 k0_hw4 k0_h4 => k0_hw4.1 k0_h4
theorem k0_off20_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off20 v105) a + S1x16.size a ≤ S321x128.size a := fun v19 k0_t6 v105 k0_hw4 k0_h4 => k0_hw4.2.1 k0_h4
theorem k0_off22_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off22 v105) a + S1x16.size a ≤ S321x128.size a := fun v19 k0_t6 v105 k0_hw4 k0_h4 => k0_hw4.2.2.1 k0_h4
theorem k0_off24_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off24 v105) a + S1x16.size a ≤ S321x128.size a := fun v19 k0_t6 v105 k0_hw4 k0_h4 => k0_hw4.2.2.2.1 k0_h4
theorem k0_off26_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off26 v105) a + S1x16.size a ≤ S321x128.size a := fun v19 k0_t6 v105 k0_hw4 k0_h4 => k0_hw4.2.2.2.2.1 k0_h4
theorem k0_off28_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off28 v105) a + S1x16.size a ≤ S321x128.size a := fun v19 k0_t6 v105 k0_hw4 k0_h4 => k0_hw4.2.2.2.2.2.1 k0_h4
theorem k0_off30_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off30 v105) a + S1x16.size a ≤ S321x128.size a := fun v19 k0_t6 v105 k0_hw4 k0_h4 => k0_hw4.2.2.2.2.2.2.1 k0_h4
theorem k0_off32_inb : ∀ (v19 : BitVec 32) (k0_t6 : Fin (k0_t6_loop v19).trips) (v105 : BitVec 32) (k0_hw4 : k0_chk4 v19 k0_t6 v105), ∀ (k0_h4 : k0_cond4 v19 k0_t6 = 1#1), ∀ a, (k0_off32 v105) a + S1x16.size a ≤ S321x128.size a := fun v19 k0_t6 v105 k0_hw4 k0_h4 => k0_hw4.2.2.2.2.2.2.2 k0_h4

def k0_off33 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_69 : BitVec 32 := 16#32
  let v106 : BitVec 32 := Scalar.muli arg25 c16_i32_69
  let c0_i32_70 : BitVec 32 := 0#32
  let v107 : BitVec 32 := Scalar.addi v106 c0_i32_70
  let v159 : Index := Scalar.indexCast v107
  let c112_86 : Index := 112#32
  ![v159.toNat, 112]
def k0_off34 (v165 : BitVec 32) : Fin 2 → Nat :=
  let v168 : Index := Scalar.indexCast v165
  let c0_90 : Index := 0#32
  ![v168.toNat, 0]

def k0_off35 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v170 : Index := Scalar.indexCast v167
  let c0_91 : Index := 0#32
  ![v170.toNat, 0]
def k0_off36 (v165 : BitVec 32) : Fin 2 → Nat :=
  let v175 : Index := Scalar.indexCast v165
  let c16_93 : Index := 16#32
  ![v175.toNat, 16]
def k0_off37 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v177 : Index := Scalar.indexCast v167
  let c16_94 : Index := 16#32
  ![v177.toNat, 16]
def k0_off38 (v165 : BitVec 32) : Fin 2 → Nat :=
  let v182 : Index := Scalar.indexCast v165
  let c32_96 : Index := 32#32
  ![v182.toNat, 32]
def k0_off39 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v184 : Index := Scalar.indexCast v167
  let c32_97 : Index := 32#32
  ![v184.toNat, 32]
def k0_off40 (v165 : BitVec 32) : Fin 2 → Nat :=
  let v189 : Index := Scalar.indexCast v165
  let c48_99 : Index := 48#32
  ![v189.toNat, 48]
def k0_off41 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v191 : Index := Scalar.indexCast v167
  let c48_100 : Index := 48#32
  ![v191.toNat, 48]
def k0_off42 (v165 : BitVec 32) : Fin 2 → Nat :=
  let v196 : Index := Scalar.indexCast v165
  let c64_102 : Index := 64#32
  ![v196.toNat, 64]
def k0_off43 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v198 : Index := Scalar.indexCast v167
  let c64_103 : Index := 64#32
  ![v198.toNat, 64]
def k0_off44 (v165 : BitVec 32) : Fin 2 → Nat :=
  let v203 : Index := Scalar.indexCast v165
  let c80_105 : Index := 80#32
  ![v203.toNat, 80]
def k0_off45 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v205 : Index := Scalar.indexCast v167
  let c80_106 : Index := 80#32
  ![v205.toNat, 80]
def k0_off46 (v165 : BitVec 32) : Fin 2 → Nat :=
  let v210 : Index := Scalar.indexCast v165
  let c96_108 : Index := 96#32
  ![v210.toNat, 96]
def k0_off47 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v212 : Index := Scalar.indexCast v167
  let c96_109 : Index := 96#32
  ![v212.toNat, 96]
def k0_off48 (v165 : BitVec 32) : Fin 2 → Nat :=
  let v217 : Index := Scalar.indexCast v165
  let c112_111 : Index := 112#32
  ![v217.toNat, 112]

def k0_chk5 (v19 : BitVec 32) (k0_t6 : Fin (k0_t6_loop v19).trips) (v165 : BitVec 32) : Prop :=
  (∀ (k0_h4 : k0_cond4 v19 k0_t6 = 1#1), ∀ a, (k0_off34 v165) a + S1x16.size a ≤ S321x128.size a) ∧
  (∀ (k0_h4 : k0_cond4 v19 k0_t6 = 1#1), ∀ a, (k0_off36 v165) a + S1x16.size a ≤ S321x128.size a) ∧
  (∀ (k0_h4 : k0_cond4 v19 k0_t6 = 1#1), ∀ a, (k0_off38 v165) a + S1x16.size a ≤ S321x128.size a) ∧
  (∀ (k0_h4 : k0_cond4 v19 k0_t6 = 1#1), ∀ a, (k0_off40 v165) a + S1x16.size a ≤ S321x128.size a) ∧
  (∀ (k0_h4 : k0_cond4 v19 k0_t6 = 1#1), ∀ a, (k0_off42 v165) a + S1x16.size a ≤ S321x128.size a) ∧
  (∀ (k0_h4 : k0_cond4 v19 k0_t6 = 1#1), ∀ a, (k0_off44 v165) a + S1x16.size a ≤ S321x128.size a) ∧
  (∀ (k0_h4 : k0_cond4 v19 k0_t6 = 1#1), ∀ a, (k0_off46 v165) a + S1x16.size a ≤ S321x128.size a) ∧
  (∀ (k0_h4 : k0_cond4 v19 k0_t6 = 1#1), ∀ a, (k0_off48 v165) a + S1x16.size a ≤ S321x128.size a)
theorem k0_off34_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off34 v165) a + S1x16.size a ≤ S321x128.size a := fun v19 k0_t6 v165 k0_hw5 k0_h4 => k0_hw5.1 k0_h4
theorem k0_off36_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off36 v165) a + S1x16.size a ≤ S321x128.size a := fun v19 k0_t6 v165 k0_hw5 k0_h4 => k0_hw5.2.1 k0_h4
theorem k0_off38_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off38 v165) a + S1x16.size a ≤ S321x128.size a := fun v19 k0_t6 v165 k0_hw5 k0_h4 => k0_hw5.2.2.1 k0_h4
theorem k0_off40_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off40 v165) a + S1x16.size a ≤ S321x128.size a := fun v19 k0_t6 v165 k0_hw5 k0_h4 => k0_hw5.2.2.2.1 k0_h4
theorem k0_off42_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off42 v165) a + S1x16.size a ≤ S321x128.size a := fun v19 k0_t6 v165 k0_hw5 k0_h4 => k0_hw5.2.2.2.2.1 k0_h4
theorem k0_off44_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off44 v165) a + S1x16.size a ≤ S321x128.size a := fun v19 k0_t6 v165 k0_hw5 k0_h4 => k0_hw5.2.2.2.2.2.1 k0_h4
theorem k0_off46_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off46 v165) a + S1x16.size a ≤ S321x128.size a := fun v19 k0_t6 v165 k0_hw5 k0_h4 => k0_hw5.2.2.2.2.2.2.1 k0_h4
theorem k0_off48_inb : ∀ (v19 : BitVec 32) (k0_t6 : Fin (k0_t6_loop v19).trips) (v165 : BitVec 32) (k0_hw5 : k0_chk5 v19 k0_t6 v165), ∀ (k0_h4 : k0_cond4 v19 k0_t6 = 1#1), ∀ a, (k0_off48 v165) a + S1x16.size a ≤ S321x128.size a := fun v19 k0_t6 v165 k0_hw5 k0_h4 => k0_hw5.2.2.2.2.2.2.2 k0_h4

def k0_off49 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_88 : BitVec 32 := 16#32
  let v166 : BitVec 32 := Scalar.muli arg25 c16_i32_88
  let c1_i32_89 : BitVec 32 := 1#32
  let v167 : BitVec 32 := Scalar.addi v166 c1_i32_89
  let v219 : Index := Scalar.indexCast v167
  let c112_112 : Index := 112#32
  ![v219.toNat, 112]
def k0_off50 (v225 : BitVec 32) : Fin 2 → Nat :=
  let v228 : Index := Scalar.indexCast v225
  let c0_116 : Index := 0#32
  ![v228.toNat, 0]

def k0_off51 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v230 : Index := Scalar.indexCast v227
  let c0_117 : Index := 0#32
  ![v230.toNat, 0]
def k0_off52 (v225 : BitVec 32) : Fin 2 → Nat :=
  let v235 : Index := Scalar.indexCast v225
  let c16_119 : Index := 16#32
  ![v235.toNat, 16]
def k0_off53 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v237 : Index := Scalar.indexCast v227
  let c16_120 : Index := 16#32
  ![v237.toNat, 16]
def k0_off54 (v225 : BitVec 32) : Fin 2 → Nat :=
  let v242 : Index := Scalar.indexCast v225
  let c32_122 : Index := 32#32
  ![v242.toNat, 32]
def k0_off55 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v244 : Index := Scalar.indexCast v227
  let c32_123 : Index := 32#32
  ![v244.toNat, 32]
def k0_off56 (v225 : BitVec 32) : Fin 2 → Nat :=
  let v249 : Index := Scalar.indexCast v225
  let c48_125 : Index := 48#32
  ![v249.toNat, 48]
def k0_off57 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v251 : Index := Scalar.indexCast v227
  let c48_126 : Index := 48#32
  ![v251.toNat, 48]
def k0_off58 (v225 : BitVec 32) : Fin 2 → Nat :=
  let v256 : Index := Scalar.indexCast v225
  let c64_128 : Index := 64#32
  ![v256.toNat, 64]
def k0_off59 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v258 : Index := Scalar.indexCast v227
  let c64_129 : Index := 64#32
  ![v258.toNat, 64]
def k0_off60 (v225 : BitVec 32) : Fin 2 → Nat :=
  let v263 : Index := Scalar.indexCast v225
  let c80_131 : Index := 80#32
  ![v263.toNat, 80]
def k0_off61 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v265 : Index := Scalar.indexCast v227
  let c80_132 : Index := 80#32
  ![v265.toNat, 80]
def k0_off62 (v225 : BitVec 32) : Fin 2 → Nat :=
  let v270 : Index := Scalar.indexCast v225
  let c96_134 : Index := 96#32
  ![v270.toNat, 96]
def k0_off63 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v272 : Index := Scalar.indexCast v227
  let c96_135 : Index := 96#32
  ![v272.toNat, 96]
def k0_off64 (v225 : BitVec 32) : Fin 2 → Nat :=
  let v277 : Index := Scalar.indexCast v225
  let c112_137 : Index := 112#32
  ![v277.toNat, 112]

def k0_chk6 (v19 : BitVec 32) (k0_t6 : Fin (k0_t6_loop v19).trips) (v225 : BitVec 32) : Prop :=
  (∀ (k0_h4 : k0_cond4 v19 k0_t6 = 1#1), ∀ a, (k0_off50 v225) a + S1x16.size a ≤ S321x128.size a) ∧
  (∀ (k0_h4 : k0_cond4 v19 k0_t6 = 1#1), ∀ a, (k0_off52 v225) a + S1x16.size a ≤ S321x128.size a) ∧
  (∀ (k0_h4 : k0_cond4 v19 k0_t6 = 1#1), ∀ a, (k0_off54 v225) a + S1x16.size a ≤ S321x128.size a) ∧
  (∀ (k0_h4 : k0_cond4 v19 k0_t6 = 1#1), ∀ a, (k0_off56 v225) a + S1x16.size a ≤ S321x128.size a) ∧
  (∀ (k0_h4 : k0_cond4 v19 k0_t6 = 1#1), ∀ a, (k0_off58 v225) a + S1x16.size a ≤ S321x128.size a) ∧
  (∀ (k0_h4 : k0_cond4 v19 k0_t6 = 1#1), ∀ a, (k0_off60 v225) a + S1x16.size a ≤ S321x128.size a) ∧
  (∀ (k0_h4 : k0_cond4 v19 k0_t6 = 1#1), ∀ a, (k0_off62 v225) a + S1x16.size a ≤ S321x128.size a) ∧
  (∀ (k0_h4 : k0_cond4 v19 k0_t6 = 1#1), ∀ a, (k0_off64 v225) a + S1x16.size a ≤ S321x128.size a)
theorem k0_off50_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off50 v225) a + S1x16.size a ≤ S321x128.size a := fun v19 k0_t6 v225 k0_hw6 k0_h4 => k0_hw6.1 k0_h4
theorem k0_off52_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off52 v225) a + S1x16.size a ≤ S321x128.size a := fun v19 k0_t6 v225 k0_hw6 k0_h4 => k0_hw6.2.1 k0_h4
theorem k0_off54_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off54 v225) a + S1x16.size a ≤ S321x128.size a := fun v19 k0_t6 v225 k0_hw6 k0_h4 => k0_hw6.2.2.1 k0_h4
theorem k0_off56_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off56 v225) a + S1x16.size a ≤ S321x128.size a := fun v19 k0_t6 v225 k0_hw6 k0_h4 => k0_hw6.2.2.2.1 k0_h4
theorem k0_off58_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off58 v225) a + S1x16.size a ≤ S321x128.size a := fun v19 k0_t6 v225 k0_hw6 k0_h4 => k0_hw6.2.2.2.2.1 k0_h4
theorem k0_off60_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off60 v225) a + S1x16.size a ≤ S321x128.size a := fun v19 k0_t6 v225 k0_hw6 k0_h4 => k0_hw6.2.2.2.2.2.1 k0_h4
theorem k0_off62_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off62 v225) a + S1x16.size a ≤ S321x128.size a := fun v19 k0_t6 v225 k0_hw6 k0_h4 => k0_hw6.2.2.2.2.2.2.1 k0_h4
theorem k0_off64_inb : ∀ (v19 : BitVec 32) (k0_t6 : Fin (k0_t6_loop v19).trips) (v225 : BitVec 32) (k0_hw6 : k0_chk6 v19 k0_t6 v225), ∀ (k0_h4 : k0_cond4 v19 k0_t6 = 1#1), ∀ a, (k0_off64 v225) a + S1x16.size a ≤ S321x128.size a := fun v19 k0_t6 v225 k0_hw6 k0_h4 => k0_hw6.2.2.2.2.2.2.2 k0_h4

def k0_off65 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_114 : BitVec 32 := 16#32
  let v226 : BitVec 32 := Scalar.muli arg25 c16_i32_114
  let c2_i32_115 : BitVec 32 := 2#32
  let v227 : BitVec 32 := Scalar.addi v226 c2_i32_115
  let v279 : Index := Scalar.indexCast v227
  let c112_138 : Index := 112#32
  ![v279.toNat, 112]
def k0_off66 (v285 : BitVec 32) : Fin 2 → Nat :=
  let v288 : Index := Scalar.indexCast v285
  let c0_141 : Index := 0#32
  ![v288.toNat, 0]

def k0_off67 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v290 : Index := Scalar.indexCast v287
  let c0_142 : Index := 0#32
  ![v290.toNat, 0]
def k0_off68 (v285 : BitVec 32) : Fin 2 → Nat :=
  let v295 : Index := Scalar.indexCast v285
  let c16_144 : Index := 16#32
  ![v295.toNat, 16]
def k0_off69 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v297 : Index := Scalar.indexCast v287
  let c16_145 : Index := 16#32
  ![v297.toNat, 16]
def k0_off70 (v285 : BitVec 32) : Fin 2 → Nat :=
  let v302 : Index := Scalar.indexCast v285
  let c32_147 : Index := 32#32
  ![v302.toNat, 32]
def k0_off71 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v304 : Index := Scalar.indexCast v287
  let c32_148 : Index := 32#32
  ![v304.toNat, 32]
def k0_off72 (v285 : BitVec 32) : Fin 2 → Nat :=
  let v309 : Index := Scalar.indexCast v285
  let c48_150 : Index := 48#32
  ![v309.toNat, 48]
def k0_off73 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v311 : Index := Scalar.indexCast v287
  let c48_151 : Index := 48#32
  ![v311.toNat, 48]
def k0_off74 (v285 : BitVec 32) : Fin 2 → Nat :=
  let v316 : Index := Scalar.indexCast v285
  let c64_153 : Index := 64#32
  ![v316.toNat, 64]
def k0_off75 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v318 : Index := Scalar.indexCast v287
  let c64_154 : Index := 64#32
  ![v318.toNat, 64]
def k0_off76 (v285 : BitVec 32) : Fin 2 → Nat :=
  let v323 : Index := Scalar.indexCast v285
  let c80_156 : Index := 80#32
  ![v323.toNat, 80]
def k0_off77 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v325 : Index := Scalar.indexCast v287
  let c80_157 : Index := 80#32
  ![v325.toNat, 80]
def k0_off78 (v285 : BitVec 32) : Fin 2 → Nat :=
  let v330 : Index := Scalar.indexCast v285
  let c96_159 : Index := 96#32
  ![v330.toNat, 96]
def k0_off79 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v332 : Index := Scalar.indexCast v287
  let c96_160 : Index := 96#32
  ![v332.toNat, 96]
def k0_off80 (v285 : BitVec 32) : Fin 2 → Nat :=
  let v337 : Index := Scalar.indexCast v285
  let c112_162 : Index := 112#32
  ![v337.toNat, 112]

def k0_chk7 (v19 : BitVec 32) (k0_t6 : Fin (k0_t6_loop v19).trips) (v285 : BitVec 32) : Prop :=
  (∀ (k0_h4 : k0_cond4 v19 k0_t6 = 1#1), ∀ a, (k0_off66 v285) a + S1x16.size a ≤ S321x128.size a) ∧
  (∀ (k0_h4 : k0_cond4 v19 k0_t6 = 1#1), ∀ a, (k0_off68 v285) a + S1x16.size a ≤ S321x128.size a) ∧
  (∀ (k0_h4 : k0_cond4 v19 k0_t6 = 1#1), ∀ a, (k0_off70 v285) a + S1x16.size a ≤ S321x128.size a) ∧
  (∀ (k0_h4 : k0_cond4 v19 k0_t6 = 1#1), ∀ a, (k0_off72 v285) a + S1x16.size a ≤ S321x128.size a) ∧
  (∀ (k0_h4 : k0_cond4 v19 k0_t6 = 1#1), ∀ a, (k0_off74 v285) a + S1x16.size a ≤ S321x128.size a) ∧
  (∀ (k0_h4 : k0_cond4 v19 k0_t6 = 1#1), ∀ a, (k0_off76 v285) a + S1x16.size a ≤ S321x128.size a) ∧
  (∀ (k0_h4 : k0_cond4 v19 k0_t6 = 1#1), ∀ a, (k0_off78 v285) a + S1x16.size a ≤ S321x128.size a) ∧
  (∀ (k0_h4 : k0_cond4 v19 k0_t6 = 1#1), ∀ a, (k0_off80 v285) a + S1x16.size a ≤ S321x128.size a)
theorem k0_off66_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off66 v285) a + S1x16.size a ≤ S321x128.size a := fun v19 k0_t6 v285 k0_hw7 k0_h4 => k0_hw7.1 k0_h4
theorem k0_off68_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off68 v285) a + S1x16.size a ≤ S321x128.size a := fun v19 k0_t6 v285 k0_hw7 k0_h4 => k0_hw7.2.1 k0_h4
theorem k0_off70_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off70 v285) a + S1x16.size a ≤ S321x128.size a := fun v19 k0_t6 v285 k0_hw7 k0_h4 => k0_hw7.2.2.1 k0_h4
theorem k0_off72_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off72 v285) a + S1x16.size a ≤ S321x128.size a := fun v19 k0_t6 v285 k0_hw7 k0_h4 => k0_hw7.2.2.2.1 k0_h4
theorem k0_off74_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off74 v285) a + S1x16.size a ≤ S321x128.size a := fun v19 k0_t6 v285 k0_hw7 k0_h4 => k0_hw7.2.2.2.2.1 k0_h4
theorem k0_off76_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off76 v285) a + S1x16.size a ≤ S321x128.size a := fun v19 k0_t6 v285 k0_hw7 k0_h4 => k0_hw7.2.2.2.2.2.1 k0_h4
theorem k0_off78_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off78 v285) a + S1x16.size a ≤ S321x128.size a := fun v19 k0_t6 v285 k0_hw7 k0_h4 => k0_hw7.2.2.2.2.2.2.1 k0_h4
theorem k0_off80_inb : ∀ (v19 : BitVec 32) (k0_t6 : Fin (k0_t6_loop v19).trips) (v285 : BitVec 32) (k0_hw7 : k0_chk7 v19 k0_t6 v285), ∀ (k0_h4 : k0_cond4 v19 k0_t6 = 1#1), ∀ a, (k0_off80 v285) a + S1x16.size a ≤ S321x128.size a := fun v19 k0_t6 v285 k0_hw7 k0_h4 => k0_hw7.2.2.2.2.2.2.2 k0_h4

def k0_off81 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_140 : BitVec 32 := 16#32
  let v286 : BitVec 32 := Scalar.muli arg25 c16_i32_140
  let c3_i32 : BitVec 32 := 3#32
  let v287 : BitVec 32 := Scalar.addi v286 c3_i32
  let v339 : Index := Scalar.indexCast v287
  let c112_163 : Index := 112#32
  ![v339.toNat, 112]
def k0_off82 (v345 : BitVec 32) : Fin 2 → Nat :=
  let v348 : Index := Scalar.indexCast v345
  let c0_166 : Index := 0#32
  ![v348.toNat, 0]

def k0_off83 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v350 : Index := Scalar.indexCast v347
  let c0_167 : Index := 0#32
  ![v350.toNat, 0]
def k0_off84 (v345 : BitVec 32) : Fin 2 → Nat :=
  let v355 : Index := Scalar.indexCast v345
  let c16_169 : Index := 16#32
  ![v355.toNat, 16]
def k0_off85 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v357 : Index := Scalar.indexCast v347
  let c16_170 : Index := 16#32
  ![v357.toNat, 16]
def k0_off86 (v345 : BitVec 32) : Fin 2 → Nat :=
  let v362 : Index := Scalar.indexCast v345
  let c32_172 : Index := 32#32
  ![v362.toNat, 32]
def k0_off87 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v364 : Index := Scalar.indexCast v347
  let c32_173 : Index := 32#32
  ![v364.toNat, 32]
def k0_off88 (v345 : BitVec 32) : Fin 2 → Nat :=
  let v369 : Index := Scalar.indexCast v345
  let c48_175 : Index := 48#32
  ![v369.toNat, 48]
def k0_off89 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v371 : Index := Scalar.indexCast v347
  let c48_176 : Index := 48#32
  ![v371.toNat, 48]
def k0_off90 (v345 : BitVec 32) : Fin 2 → Nat :=
  let v376 : Index := Scalar.indexCast v345
  let c64_178 : Index := 64#32
  ![v376.toNat, 64]
def k0_off91 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v378 : Index := Scalar.indexCast v347
  let c64_179 : Index := 64#32
  ![v378.toNat, 64]
def k0_off92 (v345 : BitVec 32) : Fin 2 → Nat :=
  let v383 : Index := Scalar.indexCast v345
  let c80_181 : Index := 80#32
  ![v383.toNat, 80]
def k0_off93 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v385 : Index := Scalar.indexCast v347
  let c80_182 : Index := 80#32
  ![v385.toNat, 80]
def k0_off94 (v345 : BitVec 32) : Fin 2 → Nat :=
  let v390 : Index := Scalar.indexCast v345
  let c96_184 : Index := 96#32
  ![v390.toNat, 96]
def k0_off95 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v392 : Index := Scalar.indexCast v347
  let c96_185 : Index := 96#32
  ![v392.toNat, 96]
def k0_off96 (v345 : BitVec 32) : Fin 2 → Nat :=
  let v397 : Index := Scalar.indexCast v345
  let c112_187 : Index := 112#32
  ![v397.toNat, 112]

def k0_chk8 (v19 : BitVec 32) (k0_t6 : Fin (k0_t6_loop v19).trips) (v345 : BitVec 32) : Prop :=
  (∀ (k0_h4 : k0_cond4 v19 k0_t6 = 1#1), ∀ a, (k0_off82 v345) a + S1x16.size a ≤ S321x128.size a) ∧
  (∀ (k0_h4 : k0_cond4 v19 k0_t6 = 1#1), ∀ a, (k0_off84 v345) a + S1x16.size a ≤ S321x128.size a) ∧
  (∀ (k0_h4 : k0_cond4 v19 k0_t6 = 1#1), ∀ a, (k0_off86 v345) a + S1x16.size a ≤ S321x128.size a) ∧
  (∀ (k0_h4 : k0_cond4 v19 k0_t6 = 1#1), ∀ a, (k0_off88 v345) a + S1x16.size a ≤ S321x128.size a) ∧
  (∀ (k0_h4 : k0_cond4 v19 k0_t6 = 1#1), ∀ a, (k0_off90 v345) a + S1x16.size a ≤ S321x128.size a) ∧
  (∀ (k0_h4 : k0_cond4 v19 k0_t6 = 1#1), ∀ a, (k0_off92 v345) a + S1x16.size a ≤ S321x128.size a) ∧
  (∀ (k0_h4 : k0_cond4 v19 k0_t6 = 1#1), ∀ a, (k0_off94 v345) a + S1x16.size a ≤ S321x128.size a) ∧
  (∀ (k0_h4 : k0_cond4 v19 k0_t6 = 1#1), ∀ a, (k0_off96 v345) a + S1x16.size a ≤ S321x128.size a)
theorem k0_off82_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off82 v345) a + S1x16.size a ≤ S321x128.size a := fun v19 k0_t6 v345 k0_hw8 k0_h4 => k0_hw8.1 k0_h4
theorem k0_off84_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off84 v345) a + S1x16.size a ≤ S321x128.size a := fun v19 k0_t6 v345 k0_hw8 k0_h4 => k0_hw8.2.1 k0_h4
theorem k0_off86_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off86 v345) a + S1x16.size a ≤ S321x128.size a := fun v19 k0_t6 v345 k0_hw8 k0_h4 => k0_hw8.2.2.1 k0_h4
theorem k0_off88_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off88 v345) a + S1x16.size a ≤ S321x128.size a := fun v19 k0_t6 v345 k0_hw8 k0_h4 => k0_hw8.2.2.2.1 k0_h4
theorem k0_off90_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off90 v345) a + S1x16.size a ≤ S321x128.size a := fun v19 k0_t6 v345 k0_hw8 k0_h4 => k0_hw8.2.2.2.2.1 k0_h4
theorem k0_off92_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off92 v345) a + S1x16.size a ≤ S321x128.size a := fun v19 k0_t6 v345 k0_hw8 k0_h4 => k0_hw8.2.2.2.2.2.1 k0_h4
theorem k0_off94_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off94 v345) a + S1x16.size a ≤ S321x128.size a := fun v19 k0_t6 v345 k0_hw8 k0_h4 => k0_hw8.2.2.2.2.2.2.1 k0_h4
theorem k0_off96_inb : ∀ (v19 : BitVec 32) (k0_t6 : Fin (k0_t6_loop v19).trips) (v345 : BitVec 32) (k0_hw8 : k0_chk8 v19 k0_t6 v345), ∀ (k0_h4 : k0_cond4 v19 k0_t6 = 1#1), ∀ a, (k0_off96 v345) a + S1x16.size a ≤ S321x128.size a := fun v19 k0_t6 v345 k0_hw8 k0_h4 => k0_hw8.2.2.2.2.2.2.2 k0_h4

def k0_off97 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_165 : BitVec 32 := 16#32
  let v346 : BitVec 32 := Scalar.muli arg25 c16_i32_165
  let c4_i32 : BitVec 32 := 4#32
  let v347 : BitVec 32 := Scalar.addi v346 c4_i32
  let v399 : Index := Scalar.indexCast v347
  let c112_188 : Index := 112#32
  ![v399.toNat, 112]
def k0_off98 (v405 : BitVec 32) : Fin 2 → Nat :=
  let v408 : Index := Scalar.indexCast v405
  let c0_191 : Index := 0#32
  ![v408.toNat, 0]

def k0_off99 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v410 : Index := Scalar.indexCast v407
  let c0_192 : Index := 0#32
  ![v410.toNat, 0]
def k0_off100 (v405 : BitVec 32) : Fin 2 → Nat :=
  let v415 : Index := Scalar.indexCast v405
  let c16_194 : Index := 16#32
  ![v415.toNat, 16]
def k0_off101 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v417 : Index := Scalar.indexCast v407
  let c16_195 : Index := 16#32
  ![v417.toNat, 16]
def k0_off102 (v405 : BitVec 32) : Fin 2 → Nat :=
  let v422 : Index := Scalar.indexCast v405
  let c32_197 : Index := 32#32
  ![v422.toNat, 32]
def k0_off103 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v424 : Index := Scalar.indexCast v407
  let c32_198 : Index := 32#32
  ![v424.toNat, 32]
def k0_off104 (v405 : BitVec 32) : Fin 2 → Nat :=
  let v429 : Index := Scalar.indexCast v405
  let c48_200 : Index := 48#32
  ![v429.toNat, 48]
def k0_off105 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v431 : Index := Scalar.indexCast v407
  let c48_201 : Index := 48#32
  ![v431.toNat, 48]
def k0_off106 (v405 : BitVec 32) : Fin 2 → Nat :=
  let v436 : Index := Scalar.indexCast v405
  let c64_203 : Index := 64#32
  ![v436.toNat, 64]
def k0_off107 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v438 : Index := Scalar.indexCast v407
  let c64_204 : Index := 64#32
  ![v438.toNat, 64]
def k0_off108 (v405 : BitVec 32) : Fin 2 → Nat :=
  let v443 : Index := Scalar.indexCast v405
  let c80_206 : Index := 80#32
  ![v443.toNat, 80]
def k0_off109 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v445 : Index := Scalar.indexCast v407
  let c80_207 : Index := 80#32
  ![v445.toNat, 80]
def k0_off110 (v405 : BitVec 32) : Fin 2 → Nat :=
  let v450 : Index := Scalar.indexCast v405
  let c96_209 : Index := 96#32
  ![v450.toNat, 96]
def k0_off111 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v452 : Index := Scalar.indexCast v407
  let c96_210 : Index := 96#32
  ![v452.toNat, 96]
def k0_off112 (v405 : BitVec 32) : Fin 2 → Nat :=
  let v457 : Index := Scalar.indexCast v405
  let c112_212 : Index := 112#32
  ![v457.toNat, 112]

def k0_chk9 (v19 : BitVec 32) (k0_t6 : Fin (k0_t6_loop v19).trips) (v405 : BitVec 32) : Prop :=
  (∀ (k0_h4 : k0_cond4 v19 k0_t6 = 1#1), ∀ a, (k0_off98 v405) a + S1x16.size a ≤ S321x128.size a) ∧
  (∀ (k0_h4 : k0_cond4 v19 k0_t6 = 1#1), ∀ a, (k0_off100 v405) a + S1x16.size a ≤ S321x128.size a) ∧
  (∀ (k0_h4 : k0_cond4 v19 k0_t6 = 1#1), ∀ a, (k0_off102 v405) a + S1x16.size a ≤ S321x128.size a) ∧
  (∀ (k0_h4 : k0_cond4 v19 k0_t6 = 1#1), ∀ a, (k0_off104 v405) a + S1x16.size a ≤ S321x128.size a) ∧
  (∀ (k0_h4 : k0_cond4 v19 k0_t6 = 1#1), ∀ a, (k0_off106 v405) a + S1x16.size a ≤ S321x128.size a) ∧
  (∀ (k0_h4 : k0_cond4 v19 k0_t6 = 1#1), ∀ a, (k0_off108 v405) a + S1x16.size a ≤ S321x128.size a) ∧
  (∀ (k0_h4 : k0_cond4 v19 k0_t6 = 1#1), ∀ a, (k0_off110 v405) a + S1x16.size a ≤ S321x128.size a) ∧
  (∀ (k0_h4 : k0_cond4 v19 k0_t6 = 1#1), ∀ a, (k0_off112 v405) a + S1x16.size a ≤ S321x128.size a)
theorem k0_off98_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off98 v405) a + S1x16.size a ≤ S321x128.size a := fun v19 k0_t6 v405 k0_hw9 k0_h4 => k0_hw9.1 k0_h4
theorem k0_off100_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off100 v405) a + S1x16.size a ≤ S321x128.size a := fun v19 k0_t6 v405 k0_hw9 k0_h4 => k0_hw9.2.1 k0_h4
theorem k0_off102_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off102 v405) a + S1x16.size a ≤ S321x128.size a := fun v19 k0_t6 v405 k0_hw9 k0_h4 => k0_hw9.2.2.1 k0_h4
theorem k0_off104_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off104 v405) a + S1x16.size a ≤ S321x128.size a := fun v19 k0_t6 v405 k0_hw9 k0_h4 => k0_hw9.2.2.2.1 k0_h4
theorem k0_off106_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off106 v405) a + S1x16.size a ≤ S321x128.size a := fun v19 k0_t6 v405 k0_hw9 k0_h4 => k0_hw9.2.2.2.2.1 k0_h4
theorem k0_off108_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off108 v405) a + S1x16.size a ≤ S321x128.size a := fun v19 k0_t6 v405 k0_hw9 k0_h4 => k0_hw9.2.2.2.2.2.1 k0_h4
theorem k0_off110_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off110 v405) a + S1x16.size a ≤ S321x128.size a := fun v19 k0_t6 v405 k0_hw9 k0_h4 => k0_hw9.2.2.2.2.2.2.1 k0_h4
theorem k0_off112_inb : ∀ (v19 : BitVec 32) (k0_t6 : Fin (k0_t6_loop v19).trips) (v405 : BitVec 32) (k0_hw9 : k0_chk9 v19 k0_t6 v405), ∀ (k0_h4 : k0_cond4 v19 k0_t6 = 1#1), ∀ a, (k0_off112 v405) a + S1x16.size a ≤ S321x128.size a := fun v19 k0_t6 v405 k0_hw9 k0_h4 => k0_hw9.2.2.2.2.2.2.2 k0_h4

def k0_off113 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_190 : BitVec 32 := 16#32
  let v406 : BitVec 32 := Scalar.muli arg25 c16_i32_190
  let c5_i32 : BitVec 32 := 5#32
  let v407 : BitVec 32 := Scalar.addi v406 c5_i32
  let v459 : Index := Scalar.indexCast v407
  let c112_213 : Index := 112#32
  ![v459.toNat, 112]
def k0_off114 (v465 : BitVec 32) : Fin 2 → Nat :=
  let v468 : Index := Scalar.indexCast v465
  let c0_216 : Index := 0#32
  ![v468.toNat, 0]

def k0_off115 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v470 : Index := Scalar.indexCast v467
  let c0_217 : Index := 0#32
  ![v470.toNat, 0]
def k0_off116 (v465 : BitVec 32) : Fin 2 → Nat :=
  let v475 : Index := Scalar.indexCast v465
  let c16_219 : Index := 16#32
  ![v475.toNat, 16]
def k0_off117 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v477 : Index := Scalar.indexCast v467
  let c16_220 : Index := 16#32
  ![v477.toNat, 16]
def k0_off118 (v465 : BitVec 32) : Fin 2 → Nat :=
  let v482 : Index := Scalar.indexCast v465
  let c32_222 : Index := 32#32
  ![v482.toNat, 32]
def k0_off119 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v484 : Index := Scalar.indexCast v467
  let c32_223 : Index := 32#32
  ![v484.toNat, 32]
def k0_off120 (v465 : BitVec 32) : Fin 2 → Nat :=
  let v489 : Index := Scalar.indexCast v465
  let c48_225 : Index := 48#32
  ![v489.toNat, 48]
def k0_off121 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v491 : Index := Scalar.indexCast v467
  let c48_226 : Index := 48#32
  ![v491.toNat, 48]
def k0_off122 (v465 : BitVec 32) : Fin 2 → Nat :=
  let v496 : Index := Scalar.indexCast v465
  let c64_228 : Index := 64#32
  ![v496.toNat, 64]
def k0_off123 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v498 : Index := Scalar.indexCast v467
  let c64_229 : Index := 64#32
  ![v498.toNat, 64]
def k0_off124 (v465 : BitVec 32) : Fin 2 → Nat :=
  let v503 : Index := Scalar.indexCast v465
  let c80_231 : Index := 80#32
  ![v503.toNat, 80]
def k0_off125 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v505 : Index := Scalar.indexCast v467
  let c80_232 : Index := 80#32
  ![v505.toNat, 80]
def k0_off126 (v465 : BitVec 32) : Fin 2 → Nat :=
  let v510 : Index := Scalar.indexCast v465
  let c96_234 : Index := 96#32
  ![v510.toNat, 96]
def k0_off127 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v512 : Index := Scalar.indexCast v467
  let c96_235 : Index := 96#32
  ![v512.toNat, 96]
def k0_off128 (v465 : BitVec 32) : Fin 2 → Nat :=
  let v517 : Index := Scalar.indexCast v465
  let c112_237 : Index := 112#32
  ![v517.toNat, 112]

def k0_chk10 (v19 : BitVec 32) (k0_t6 : Fin (k0_t6_loop v19).trips) (v465 : BitVec 32) : Prop :=
  (∀ (k0_h4 : k0_cond4 v19 k0_t6 = 1#1), ∀ a, (k0_off114 v465) a + S1x16.size a ≤ S321x128.size a) ∧
  (∀ (k0_h4 : k0_cond4 v19 k0_t6 = 1#1), ∀ a, (k0_off116 v465) a + S1x16.size a ≤ S321x128.size a) ∧
  (∀ (k0_h4 : k0_cond4 v19 k0_t6 = 1#1), ∀ a, (k0_off118 v465) a + S1x16.size a ≤ S321x128.size a) ∧
  (∀ (k0_h4 : k0_cond4 v19 k0_t6 = 1#1), ∀ a, (k0_off120 v465) a + S1x16.size a ≤ S321x128.size a) ∧
  (∀ (k0_h4 : k0_cond4 v19 k0_t6 = 1#1), ∀ a, (k0_off122 v465) a + S1x16.size a ≤ S321x128.size a) ∧
  (∀ (k0_h4 : k0_cond4 v19 k0_t6 = 1#1), ∀ a, (k0_off124 v465) a + S1x16.size a ≤ S321x128.size a) ∧
  (∀ (k0_h4 : k0_cond4 v19 k0_t6 = 1#1), ∀ a, (k0_off126 v465) a + S1x16.size a ≤ S321x128.size a) ∧
  (∀ (k0_h4 : k0_cond4 v19 k0_t6 = 1#1), ∀ a, (k0_off128 v465) a + S1x16.size a ≤ S321x128.size a)
theorem k0_off114_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off114 v465) a + S1x16.size a ≤ S321x128.size a := fun v19 k0_t6 v465 k0_hw10 k0_h4 => k0_hw10.1 k0_h4
theorem k0_off116_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off116 v465) a + S1x16.size a ≤ S321x128.size a := fun v19 k0_t6 v465 k0_hw10 k0_h4 => k0_hw10.2.1 k0_h4
theorem k0_off118_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off118 v465) a + S1x16.size a ≤ S321x128.size a := fun v19 k0_t6 v465 k0_hw10 k0_h4 => k0_hw10.2.2.1 k0_h4
theorem k0_off120_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off120 v465) a + S1x16.size a ≤ S321x128.size a := fun v19 k0_t6 v465 k0_hw10 k0_h4 => k0_hw10.2.2.2.1 k0_h4
theorem k0_off122_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off122 v465) a + S1x16.size a ≤ S321x128.size a := fun v19 k0_t6 v465 k0_hw10 k0_h4 => k0_hw10.2.2.2.2.1 k0_h4
theorem k0_off124_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off124 v465) a + S1x16.size a ≤ S321x128.size a := fun v19 k0_t6 v465 k0_hw10 k0_h4 => k0_hw10.2.2.2.2.2.1 k0_h4
theorem k0_off126_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off126 v465) a + S1x16.size a ≤ S321x128.size a := fun v19 k0_t6 v465 k0_hw10 k0_h4 => k0_hw10.2.2.2.2.2.2.1 k0_h4
theorem k0_off128_inb : ∀ (v19 : BitVec 32) (k0_t6 : Fin (k0_t6_loop v19).trips) (v465 : BitVec 32) (k0_hw10 : k0_chk10 v19 k0_t6 v465), ∀ (k0_h4 : k0_cond4 v19 k0_t6 = 1#1), ∀ a, (k0_off128 v465) a + S1x16.size a ≤ S321x128.size a := fun v19 k0_t6 v465 k0_hw10 k0_h4 => k0_hw10.2.2.2.2.2.2.2 k0_h4

def k0_off129 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_215 : BitVec 32 := 16#32
  let v466 : BitVec 32 := Scalar.muli arg25 c16_i32_215
  let c6_i32 : BitVec 32 := 6#32
  let v467 : BitVec 32 := Scalar.addi v466 c6_i32
  let v519 : Index := Scalar.indexCast v467
  let c112_238 : Index := 112#32
  ![v519.toNat, 112]
def k0_off130 (v525 : BitVec 32) : Fin 2 → Nat :=
  let v528 : Index := Scalar.indexCast v525
  let c0_241 : Index := 0#32
  ![v528.toNat, 0]

def k0_off131 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v530 : Index := Scalar.indexCast v527
  let c0_242 : Index := 0#32
  ![v530.toNat, 0]
def k0_off132 (v525 : BitVec 32) : Fin 2 → Nat :=
  let v535 : Index := Scalar.indexCast v525
  let c16_244 : Index := 16#32
  ![v535.toNat, 16]
def k0_off133 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v537 : Index := Scalar.indexCast v527
  let c16_245 : Index := 16#32
  ![v537.toNat, 16]
def k0_off134 (v525 : BitVec 32) : Fin 2 → Nat :=
  let v542 : Index := Scalar.indexCast v525
  let c32_247 : Index := 32#32
  ![v542.toNat, 32]
def k0_off135 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v544 : Index := Scalar.indexCast v527
  let c32_248 : Index := 32#32
  ![v544.toNat, 32]
def k0_off136 (v525 : BitVec 32) : Fin 2 → Nat :=
  let v549 : Index := Scalar.indexCast v525
  let c48_250 : Index := 48#32
  ![v549.toNat, 48]
def k0_off137 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v551 : Index := Scalar.indexCast v527
  let c48_251 : Index := 48#32
  ![v551.toNat, 48]
def k0_off138 (v525 : BitVec 32) : Fin 2 → Nat :=
  let v556 : Index := Scalar.indexCast v525
  let c64_253 : Index := 64#32
  ![v556.toNat, 64]
def k0_off139 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v558 : Index := Scalar.indexCast v527
  let c64_254 : Index := 64#32
  ![v558.toNat, 64]
def k0_off140 (v525 : BitVec 32) : Fin 2 → Nat :=
  let v563 : Index := Scalar.indexCast v525
  let c80_256 : Index := 80#32
  ![v563.toNat, 80]
def k0_off141 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v565 : Index := Scalar.indexCast v527
  let c80_257 : Index := 80#32
  ![v565.toNat, 80]
def k0_off142 (v525 : BitVec 32) : Fin 2 → Nat :=
  let v570 : Index := Scalar.indexCast v525
  let c96_259 : Index := 96#32
  ![v570.toNat, 96]
def k0_off143 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v572 : Index := Scalar.indexCast v527
  let c96_260 : Index := 96#32
  ![v572.toNat, 96]
def k0_off144 (v525 : BitVec 32) : Fin 2 → Nat :=
  let v577 : Index := Scalar.indexCast v525
  let c112_262 : Index := 112#32
  ![v577.toNat, 112]

def k0_chk11 (v19 : BitVec 32) (k0_t6 : Fin (k0_t6_loop v19).trips) (v525 : BitVec 32) : Prop :=
  (∀ (k0_h4 : k0_cond4 v19 k0_t6 = 1#1), ∀ a, (k0_off130 v525) a + S1x16.size a ≤ S321x128.size a) ∧
  (∀ (k0_h4 : k0_cond4 v19 k0_t6 = 1#1), ∀ a, (k0_off132 v525) a + S1x16.size a ≤ S321x128.size a) ∧
  (∀ (k0_h4 : k0_cond4 v19 k0_t6 = 1#1), ∀ a, (k0_off134 v525) a + S1x16.size a ≤ S321x128.size a) ∧
  (∀ (k0_h4 : k0_cond4 v19 k0_t6 = 1#1), ∀ a, (k0_off136 v525) a + S1x16.size a ≤ S321x128.size a) ∧
  (∀ (k0_h4 : k0_cond4 v19 k0_t6 = 1#1), ∀ a, (k0_off138 v525) a + S1x16.size a ≤ S321x128.size a) ∧
  (∀ (k0_h4 : k0_cond4 v19 k0_t6 = 1#1), ∀ a, (k0_off140 v525) a + S1x16.size a ≤ S321x128.size a) ∧
  (∀ (k0_h4 : k0_cond4 v19 k0_t6 = 1#1), ∀ a, (k0_off142 v525) a + S1x16.size a ≤ S321x128.size a) ∧
  (∀ (k0_h4 : k0_cond4 v19 k0_t6 = 1#1), ∀ a, (k0_off144 v525) a + S1x16.size a ≤ S321x128.size a)
theorem k0_off130_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off130 v525) a + S1x16.size a ≤ S321x128.size a := fun v19 k0_t6 v525 k0_hw11 k0_h4 => k0_hw11.1 k0_h4
theorem k0_off132_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off132 v525) a + S1x16.size a ≤ S321x128.size a := fun v19 k0_t6 v525 k0_hw11 k0_h4 => k0_hw11.2.1 k0_h4
theorem k0_off134_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off134 v525) a + S1x16.size a ≤ S321x128.size a := fun v19 k0_t6 v525 k0_hw11 k0_h4 => k0_hw11.2.2.1 k0_h4
theorem k0_off136_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off136 v525) a + S1x16.size a ≤ S321x128.size a := fun v19 k0_t6 v525 k0_hw11 k0_h4 => k0_hw11.2.2.2.1 k0_h4
theorem k0_off138_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off138 v525) a + S1x16.size a ≤ S321x128.size a := fun v19 k0_t6 v525 k0_hw11 k0_h4 => k0_hw11.2.2.2.2.1 k0_h4
theorem k0_off140_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off140 v525) a + S1x16.size a ≤ S321x128.size a := fun v19 k0_t6 v525 k0_hw11 k0_h4 => k0_hw11.2.2.2.2.2.1 k0_h4
theorem k0_off142_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off142 v525) a + S1x16.size a ≤ S321x128.size a := fun v19 k0_t6 v525 k0_hw11 k0_h4 => k0_hw11.2.2.2.2.2.2.1 k0_h4
theorem k0_off144_inb : ∀ (v19 : BitVec 32) (k0_t6 : Fin (k0_t6_loop v19).trips) (v525 : BitVec 32) (k0_hw11 : k0_chk11 v19 k0_t6 v525), ∀ (k0_h4 : k0_cond4 v19 k0_t6 = 1#1), ∀ a, (k0_off144 v525) a + S1x16.size a ≤ S321x128.size a := fun v19 k0_t6 v525 k0_hw11 k0_h4 => k0_hw11.2.2.2.2.2.2.2 k0_h4

def k0_off145 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_240 : BitVec 32 := 16#32
  let v526 : BitVec 32 := Scalar.muli arg25 c16_i32_240
  let c7_i32 : BitVec 32 := 7#32
  let v527 : BitVec 32 := Scalar.addi v526 c7_i32
  let v579 : Index := Scalar.indexCast v527
  let c112_263 : Index := 112#32
  ![v579.toNat, 112]
def k0_off146 (v585 : BitVec 32) : Fin 2 → Nat :=
  let v588 : Index := Scalar.indexCast v585
  let c0_267 : Index := 0#32
  ![v588.toNat, 0]

def k0_off147 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v590 : Index := Scalar.indexCast v587
  let c0_268 : Index := 0#32
  ![v590.toNat, 0]
def k0_off148 (v585 : BitVec 32) : Fin 2 → Nat :=
  let v595 : Index := Scalar.indexCast v585
  let c16_270 : Index := 16#32
  ![v595.toNat, 16]
def k0_off149 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v597 : Index := Scalar.indexCast v587
  let c16_271 : Index := 16#32
  ![v597.toNat, 16]
def k0_off150 (v585 : BitVec 32) : Fin 2 → Nat :=
  let v602 : Index := Scalar.indexCast v585
  let c32_273 : Index := 32#32
  ![v602.toNat, 32]
def k0_off151 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v604 : Index := Scalar.indexCast v587
  let c32_274 : Index := 32#32
  ![v604.toNat, 32]
def k0_off152 (v585 : BitVec 32) : Fin 2 → Nat :=
  let v609 : Index := Scalar.indexCast v585
  let c48_276 : Index := 48#32
  ![v609.toNat, 48]
def k0_off153 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v611 : Index := Scalar.indexCast v587
  let c48_277 : Index := 48#32
  ![v611.toNat, 48]
def k0_off154 (v585 : BitVec 32) : Fin 2 → Nat :=
  let v616 : Index := Scalar.indexCast v585
  let c64_279 : Index := 64#32
  ![v616.toNat, 64]
def k0_off155 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v618 : Index := Scalar.indexCast v587
  let c64_280 : Index := 64#32
  ![v618.toNat, 64]
def k0_off156 (v585 : BitVec 32) : Fin 2 → Nat :=
  let v623 : Index := Scalar.indexCast v585
  let c80_282 : Index := 80#32
  ![v623.toNat, 80]
def k0_off157 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v625 : Index := Scalar.indexCast v587
  let c80_283 : Index := 80#32
  ![v625.toNat, 80]
def k0_off158 (v585 : BitVec 32) : Fin 2 → Nat :=
  let v630 : Index := Scalar.indexCast v585
  let c96_285 : Index := 96#32
  ![v630.toNat, 96]
def k0_off159 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v632 : Index := Scalar.indexCast v587
  let c96_286 : Index := 96#32
  ![v632.toNat, 96]
def k0_off160 (v585 : BitVec 32) : Fin 2 → Nat :=
  let v637 : Index := Scalar.indexCast v585
  let c112_288 : Index := 112#32
  ![v637.toNat, 112]

def k0_chk12 (v19 : BitVec 32) (k0_t6 : Fin (k0_t6_loop v19).trips) (v585 : BitVec 32) : Prop :=
  (∀ (k0_h4 : k0_cond4 v19 k0_t6 = 1#1), ∀ a, (k0_off146 v585) a + S1x16.size a ≤ S321x128.size a) ∧
  (∀ (k0_h4 : k0_cond4 v19 k0_t6 = 1#1), ∀ a, (k0_off148 v585) a + S1x16.size a ≤ S321x128.size a) ∧
  (∀ (k0_h4 : k0_cond4 v19 k0_t6 = 1#1), ∀ a, (k0_off150 v585) a + S1x16.size a ≤ S321x128.size a) ∧
  (∀ (k0_h4 : k0_cond4 v19 k0_t6 = 1#1), ∀ a, (k0_off152 v585) a + S1x16.size a ≤ S321x128.size a) ∧
  (∀ (k0_h4 : k0_cond4 v19 k0_t6 = 1#1), ∀ a, (k0_off154 v585) a + S1x16.size a ≤ S321x128.size a) ∧
  (∀ (k0_h4 : k0_cond4 v19 k0_t6 = 1#1), ∀ a, (k0_off156 v585) a + S1x16.size a ≤ S321x128.size a) ∧
  (∀ (k0_h4 : k0_cond4 v19 k0_t6 = 1#1), ∀ a, (k0_off158 v585) a + S1x16.size a ≤ S321x128.size a) ∧
  (∀ (k0_h4 : k0_cond4 v19 k0_t6 = 1#1), ∀ a, (k0_off160 v585) a + S1x16.size a ≤ S321x128.size a)
theorem k0_off146_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off146 v585) a + S1x16.size a ≤ S321x128.size a := fun v19 k0_t6 v585 k0_hw12 k0_h4 => k0_hw12.1 k0_h4
theorem k0_off148_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off148 v585) a + S1x16.size a ≤ S321x128.size a := fun v19 k0_t6 v585 k0_hw12 k0_h4 => k0_hw12.2.1 k0_h4
theorem k0_off150_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off150 v585) a + S1x16.size a ≤ S321x128.size a := fun v19 k0_t6 v585 k0_hw12 k0_h4 => k0_hw12.2.2.1 k0_h4
theorem k0_off152_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off152 v585) a + S1x16.size a ≤ S321x128.size a := fun v19 k0_t6 v585 k0_hw12 k0_h4 => k0_hw12.2.2.2.1 k0_h4
theorem k0_off154_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off154 v585) a + S1x16.size a ≤ S321x128.size a := fun v19 k0_t6 v585 k0_hw12 k0_h4 => k0_hw12.2.2.2.2.1 k0_h4
theorem k0_off156_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off156 v585) a + S1x16.size a ≤ S321x128.size a := fun v19 k0_t6 v585 k0_hw12 k0_h4 => k0_hw12.2.2.2.2.2.1 k0_h4
theorem k0_off158_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off158 v585) a + S1x16.size a ≤ S321x128.size a := fun v19 k0_t6 v585 k0_hw12 k0_h4 => k0_hw12.2.2.2.2.2.2.1 k0_h4
theorem k0_off160_inb : ∀ (v19 : BitVec 32) (k0_t6 : Fin (k0_t6_loop v19).trips) (v585 : BitVec 32) (k0_hw12 : k0_chk12 v19 k0_t6 v585), ∀ (k0_h4 : k0_cond4 v19 k0_t6 = 1#1), ∀ a, (k0_off160 v585) a + S1x16.size a ≤ S321x128.size a := fun v19 k0_t6 v585 k0_hw12 k0_h4 => k0_hw12.2.2.2.2.2.2.2 k0_h4

def k0_off161 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_265 : BitVec 32 := 16#32
  let v586 : BitVec 32 := Scalar.muli arg25 c16_i32_265
  let c8_i32_266 : BitVec 32 := 8#32
  let v587 : BitVec 32 := Scalar.addi v586 c8_i32_266
  let v639 : Index := Scalar.indexCast v587
  let c112_289 : Index := 112#32
  ![v639.toNat, 112]
def k0_off162 (v645 : BitVec 32) : Fin 2 → Nat :=
  let v648 : Index := Scalar.indexCast v645
  let c0_292 : Index := 0#32
  ![v648.toNat, 0]

def k0_off163 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v650 : Index := Scalar.indexCast v647
  let c0_293 : Index := 0#32
  ![v650.toNat, 0]
def k0_off164 (v645 : BitVec 32) : Fin 2 → Nat :=
  let v655 : Index := Scalar.indexCast v645
  let c16_295 : Index := 16#32
  ![v655.toNat, 16]
def k0_off165 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v657 : Index := Scalar.indexCast v647
  let c16_296 : Index := 16#32
  ![v657.toNat, 16]
def k0_off166 (v645 : BitVec 32) : Fin 2 → Nat :=
  let v662 : Index := Scalar.indexCast v645
  let c32_298 : Index := 32#32
  ![v662.toNat, 32]
def k0_off167 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v664 : Index := Scalar.indexCast v647
  let c32_299 : Index := 32#32
  ![v664.toNat, 32]
def k0_off168 (v645 : BitVec 32) : Fin 2 → Nat :=
  let v669 : Index := Scalar.indexCast v645
  let c48_301 : Index := 48#32
  ![v669.toNat, 48]
def k0_off169 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v671 : Index := Scalar.indexCast v647
  let c48_302 : Index := 48#32
  ![v671.toNat, 48]
def k0_off170 (v645 : BitVec 32) : Fin 2 → Nat :=
  let v676 : Index := Scalar.indexCast v645
  let c64_304 : Index := 64#32
  ![v676.toNat, 64]
def k0_off171 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v678 : Index := Scalar.indexCast v647
  let c64_305 : Index := 64#32
  ![v678.toNat, 64]
def k0_off172 (v645 : BitVec 32) : Fin 2 → Nat :=
  let v683 : Index := Scalar.indexCast v645
  let c80_307 : Index := 80#32
  ![v683.toNat, 80]
def k0_off173 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v685 : Index := Scalar.indexCast v647
  let c80_308 : Index := 80#32
  ![v685.toNat, 80]
def k0_off174 (v645 : BitVec 32) : Fin 2 → Nat :=
  let v690 : Index := Scalar.indexCast v645
  let c96_310 : Index := 96#32
  ![v690.toNat, 96]
def k0_off175 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v692 : Index := Scalar.indexCast v647
  let c96_311 : Index := 96#32
  ![v692.toNat, 96]
def k0_off176 (v645 : BitVec 32) : Fin 2 → Nat :=
  let v697 : Index := Scalar.indexCast v645
  let c112_313 : Index := 112#32
  ![v697.toNat, 112]

def k0_chk13 (v19 : BitVec 32) (k0_t6 : Fin (k0_t6_loop v19).trips) (v645 : BitVec 32) : Prop :=
  (∀ (k0_h4 : k0_cond4 v19 k0_t6 = 1#1), ∀ a, (k0_off162 v645) a + S1x16.size a ≤ S321x128.size a) ∧
  (∀ (k0_h4 : k0_cond4 v19 k0_t6 = 1#1), ∀ a, (k0_off164 v645) a + S1x16.size a ≤ S321x128.size a) ∧
  (∀ (k0_h4 : k0_cond4 v19 k0_t6 = 1#1), ∀ a, (k0_off166 v645) a + S1x16.size a ≤ S321x128.size a) ∧
  (∀ (k0_h4 : k0_cond4 v19 k0_t6 = 1#1), ∀ a, (k0_off168 v645) a + S1x16.size a ≤ S321x128.size a) ∧
  (∀ (k0_h4 : k0_cond4 v19 k0_t6 = 1#1), ∀ a, (k0_off170 v645) a + S1x16.size a ≤ S321x128.size a) ∧
  (∀ (k0_h4 : k0_cond4 v19 k0_t6 = 1#1), ∀ a, (k0_off172 v645) a + S1x16.size a ≤ S321x128.size a) ∧
  (∀ (k0_h4 : k0_cond4 v19 k0_t6 = 1#1), ∀ a, (k0_off174 v645) a + S1x16.size a ≤ S321x128.size a) ∧
  (∀ (k0_h4 : k0_cond4 v19 k0_t6 = 1#1), ∀ a, (k0_off176 v645) a + S1x16.size a ≤ S321x128.size a)
theorem k0_off162_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off162 v645) a + S1x16.size a ≤ S321x128.size a := fun v19 k0_t6 v645 k0_hw13 k0_h4 => k0_hw13.1 k0_h4
theorem k0_off164_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off164 v645) a + S1x16.size a ≤ S321x128.size a := fun v19 k0_t6 v645 k0_hw13 k0_h4 => k0_hw13.2.1 k0_h4
theorem k0_off166_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off166 v645) a + S1x16.size a ≤ S321x128.size a := fun v19 k0_t6 v645 k0_hw13 k0_h4 => k0_hw13.2.2.1 k0_h4
theorem k0_off168_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off168 v645) a + S1x16.size a ≤ S321x128.size a := fun v19 k0_t6 v645 k0_hw13 k0_h4 => k0_hw13.2.2.2.1 k0_h4
theorem k0_off170_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off170 v645) a + S1x16.size a ≤ S321x128.size a := fun v19 k0_t6 v645 k0_hw13 k0_h4 => k0_hw13.2.2.2.2.1 k0_h4
theorem k0_off172_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off172 v645) a + S1x16.size a ≤ S321x128.size a := fun v19 k0_t6 v645 k0_hw13 k0_h4 => k0_hw13.2.2.2.2.2.1 k0_h4
theorem k0_off174_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off174 v645) a + S1x16.size a ≤ S321x128.size a := fun v19 k0_t6 v645 k0_hw13 k0_h4 => k0_hw13.2.2.2.2.2.2.1 k0_h4
theorem k0_off176_inb : ∀ (v19 : BitVec 32) (k0_t6 : Fin (k0_t6_loop v19).trips) (v645 : BitVec 32) (k0_hw13 : k0_chk13 v19 k0_t6 v645), ∀ (k0_h4 : k0_cond4 v19 k0_t6 = 1#1), ∀ a, (k0_off176 v645) a + S1x16.size a ≤ S321x128.size a := fun v19 k0_t6 v645 k0_hw13 k0_h4 => k0_hw13.2.2.2.2.2.2.2 k0_h4

def k0_off177 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_291 : BitVec 32 := 16#32
  let v646 : BitVec 32 := Scalar.muli arg25 c16_i32_291
  let c9_i32 : BitVec 32 := 9#32
  let v647 : BitVec 32 := Scalar.addi v646 c9_i32
  let v699 : Index := Scalar.indexCast v647
  let c112_314 : Index := 112#32
  ![v699.toNat, 112]
def k0_off178 (v705 : BitVec 32) : Fin 2 → Nat :=
  let v708 : Index := Scalar.indexCast v705
  let c0_317 : Index := 0#32
  ![v708.toNat, 0]

def k0_off179 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v710 : Index := Scalar.indexCast v707
  let c0_318 : Index := 0#32
  ![v710.toNat, 0]
def k0_off180 (v705 : BitVec 32) : Fin 2 → Nat :=
  let v715 : Index := Scalar.indexCast v705
  let c16_320 : Index := 16#32
  ![v715.toNat, 16]
def k0_off181 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v717 : Index := Scalar.indexCast v707
  let c16_321 : Index := 16#32
  ![v717.toNat, 16]
def k0_off182 (v705 : BitVec 32) : Fin 2 → Nat :=
  let v722 : Index := Scalar.indexCast v705
  let c32_323 : Index := 32#32
  ![v722.toNat, 32]
def k0_off183 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v724 : Index := Scalar.indexCast v707
  let c32_324 : Index := 32#32
  ![v724.toNat, 32]
def k0_off184 (v705 : BitVec 32) : Fin 2 → Nat :=
  let v729 : Index := Scalar.indexCast v705
  let c48_326 : Index := 48#32
  ![v729.toNat, 48]
def k0_off185 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v731 : Index := Scalar.indexCast v707
  let c48_327 : Index := 48#32
  ![v731.toNat, 48]
def k0_off186 (v705 : BitVec 32) : Fin 2 → Nat :=
  let v736 : Index := Scalar.indexCast v705
  let c64_329 : Index := 64#32
  ![v736.toNat, 64]
def k0_off187 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v738 : Index := Scalar.indexCast v707
  let c64_330 : Index := 64#32
  ![v738.toNat, 64]
def k0_off188 (v705 : BitVec 32) : Fin 2 → Nat :=
  let v743 : Index := Scalar.indexCast v705
  let c80_332 : Index := 80#32
  ![v743.toNat, 80]
def k0_off189 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v745 : Index := Scalar.indexCast v707
  let c80_333 : Index := 80#32
  ![v745.toNat, 80]
def k0_off190 (v705 : BitVec 32) : Fin 2 → Nat :=
  let v750 : Index := Scalar.indexCast v705
  let c96_335 : Index := 96#32
  ![v750.toNat, 96]
def k0_off191 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v752 : Index := Scalar.indexCast v707
  let c96_336 : Index := 96#32
  ![v752.toNat, 96]
def k0_off192 (v705 : BitVec 32) : Fin 2 → Nat :=
  let v757 : Index := Scalar.indexCast v705
  let c112_338 : Index := 112#32
  ![v757.toNat, 112]

def k0_chk14 (v19 : BitVec 32) (k0_t6 : Fin (k0_t6_loop v19).trips) (v705 : BitVec 32) : Prop :=
  (∀ (k0_h4 : k0_cond4 v19 k0_t6 = 1#1), ∀ a, (k0_off178 v705) a + S1x16.size a ≤ S321x128.size a) ∧
  (∀ (k0_h4 : k0_cond4 v19 k0_t6 = 1#1), ∀ a, (k0_off180 v705) a + S1x16.size a ≤ S321x128.size a) ∧
  (∀ (k0_h4 : k0_cond4 v19 k0_t6 = 1#1), ∀ a, (k0_off182 v705) a + S1x16.size a ≤ S321x128.size a) ∧
  (∀ (k0_h4 : k0_cond4 v19 k0_t6 = 1#1), ∀ a, (k0_off184 v705) a + S1x16.size a ≤ S321x128.size a) ∧
  (∀ (k0_h4 : k0_cond4 v19 k0_t6 = 1#1), ∀ a, (k0_off186 v705) a + S1x16.size a ≤ S321x128.size a) ∧
  (∀ (k0_h4 : k0_cond4 v19 k0_t6 = 1#1), ∀ a, (k0_off188 v705) a + S1x16.size a ≤ S321x128.size a) ∧
  (∀ (k0_h4 : k0_cond4 v19 k0_t6 = 1#1), ∀ a, (k0_off190 v705) a + S1x16.size a ≤ S321x128.size a) ∧
  (∀ (k0_h4 : k0_cond4 v19 k0_t6 = 1#1), ∀ a, (k0_off192 v705) a + S1x16.size a ≤ S321x128.size a)
theorem k0_off178_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off178 v705) a + S1x16.size a ≤ S321x128.size a := fun v19 k0_t6 v705 k0_hw14 k0_h4 => k0_hw14.1 k0_h4
theorem k0_off180_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off180 v705) a + S1x16.size a ≤ S321x128.size a := fun v19 k0_t6 v705 k0_hw14 k0_h4 => k0_hw14.2.1 k0_h4
theorem k0_off182_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off182 v705) a + S1x16.size a ≤ S321x128.size a := fun v19 k0_t6 v705 k0_hw14 k0_h4 => k0_hw14.2.2.1 k0_h4
theorem k0_off184_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off184 v705) a + S1x16.size a ≤ S321x128.size a := fun v19 k0_t6 v705 k0_hw14 k0_h4 => k0_hw14.2.2.2.1 k0_h4
theorem k0_off186_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off186 v705) a + S1x16.size a ≤ S321x128.size a := fun v19 k0_t6 v705 k0_hw14 k0_h4 => k0_hw14.2.2.2.2.1 k0_h4
theorem k0_off188_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off188 v705) a + S1x16.size a ≤ S321x128.size a := fun v19 k0_t6 v705 k0_hw14 k0_h4 => k0_hw14.2.2.2.2.2.1 k0_h4
theorem k0_off190_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off190 v705) a + S1x16.size a ≤ S321x128.size a := fun v19 k0_t6 v705 k0_hw14 k0_h4 => k0_hw14.2.2.2.2.2.2.1 k0_h4
theorem k0_off192_inb : ∀ (v19 : BitVec 32) (k0_t6 : Fin (k0_t6_loop v19).trips) (v705 : BitVec 32) (k0_hw14 : k0_chk14 v19 k0_t6 v705), ∀ (k0_h4 : k0_cond4 v19 k0_t6 = 1#1), ∀ a, (k0_off192 v705) a + S1x16.size a ≤ S321x128.size a := fun v19 k0_t6 v705 k0_hw14 k0_h4 => k0_hw14.2.2.2.2.2.2.2 k0_h4

def k0_off193 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_316 : BitVec 32 := 16#32
  let v706 : BitVec 32 := Scalar.muli arg25 c16_i32_316
  let c10_i32 : BitVec 32 := 10#32
  let v707 : BitVec 32 := Scalar.addi v706 c10_i32
  let v759 : Index := Scalar.indexCast v707
  let c112_339 : Index := 112#32
  ![v759.toNat, 112]
def k0_off194 (v765 : BitVec 32) : Fin 2 → Nat :=
  let v768 : Index := Scalar.indexCast v765
  let c0_342 : Index := 0#32
  ![v768.toNat, 0]

def k0_off195 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v770 : Index := Scalar.indexCast v767
  let c0_343 : Index := 0#32
  ![v770.toNat, 0]
def k0_off196 (v765 : BitVec 32) : Fin 2 → Nat :=
  let v775 : Index := Scalar.indexCast v765
  let c16_345 : Index := 16#32
  ![v775.toNat, 16]
def k0_off197 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v777 : Index := Scalar.indexCast v767
  let c16_346 : Index := 16#32
  ![v777.toNat, 16]
def k0_off198 (v765 : BitVec 32) : Fin 2 → Nat :=
  let v782 : Index := Scalar.indexCast v765
  let c32_348 : Index := 32#32
  ![v782.toNat, 32]
def k0_off199 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v784 : Index := Scalar.indexCast v767
  let c32_349 : Index := 32#32
  ![v784.toNat, 32]
def k0_off200 (v765 : BitVec 32) : Fin 2 → Nat :=
  let v789 : Index := Scalar.indexCast v765
  let c48_351 : Index := 48#32
  ![v789.toNat, 48]
def k0_off201 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v791 : Index := Scalar.indexCast v767
  let c48_352 : Index := 48#32
  ![v791.toNat, 48]
def k0_off202 (v765 : BitVec 32) : Fin 2 → Nat :=
  let v796 : Index := Scalar.indexCast v765
  let c64_354 : Index := 64#32
  ![v796.toNat, 64]
def k0_off203 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v798 : Index := Scalar.indexCast v767
  let c64_355 : Index := 64#32
  ![v798.toNat, 64]
def k0_off204 (v765 : BitVec 32) : Fin 2 → Nat :=
  let v803 : Index := Scalar.indexCast v765
  let c80_357 : Index := 80#32
  ![v803.toNat, 80]
def k0_off205 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v805 : Index := Scalar.indexCast v767
  let c80_358 : Index := 80#32
  ![v805.toNat, 80]
def k0_off206 (v765 : BitVec 32) : Fin 2 → Nat :=
  let v810 : Index := Scalar.indexCast v765
  let c96_360 : Index := 96#32
  ![v810.toNat, 96]
def k0_off207 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v812 : Index := Scalar.indexCast v767
  let c96_361 : Index := 96#32
  ![v812.toNat, 96]
def k0_off208 (v765 : BitVec 32) : Fin 2 → Nat :=
  let v817 : Index := Scalar.indexCast v765
  let c112_363 : Index := 112#32
  ![v817.toNat, 112]

def k0_chk15 (v19 : BitVec 32) (k0_t6 : Fin (k0_t6_loop v19).trips) (v765 : BitVec 32) : Prop :=
  (∀ (k0_h4 : k0_cond4 v19 k0_t6 = 1#1), ∀ a, (k0_off194 v765) a + S1x16.size a ≤ S321x128.size a) ∧
  (∀ (k0_h4 : k0_cond4 v19 k0_t6 = 1#1), ∀ a, (k0_off196 v765) a + S1x16.size a ≤ S321x128.size a) ∧
  (∀ (k0_h4 : k0_cond4 v19 k0_t6 = 1#1), ∀ a, (k0_off198 v765) a + S1x16.size a ≤ S321x128.size a) ∧
  (∀ (k0_h4 : k0_cond4 v19 k0_t6 = 1#1), ∀ a, (k0_off200 v765) a + S1x16.size a ≤ S321x128.size a) ∧
  (∀ (k0_h4 : k0_cond4 v19 k0_t6 = 1#1), ∀ a, (k0_off202 v765) a + S1x16.size a ≤ S321x128.size a) ∧
  (∀ (k0_h4 : k0_cond4 v19 k0_t6 = 1#1), ∀ a, (k0_off204 v765) a + S1x16.size a ≤ S321x128.size a) ∧
  (∀ (k0_h4 : k0_cond4 v19 k0_t6 = 1#1), ∀ a, (k0_off206 v765) a + S1x16.size a ≤ S321x128.size a) ∧
  (∀ (k0_h4 : k0_cond4 v19 k0_t6 = 1#1), ∀ a, (k0_off208 v765) a + S1x16.size a ≤ S321x128.size a)
theorem k0_off194_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off194 v765) a + S1x16.size a ≤ S321x128.size a := fun v19 k0_t6 v765 k0_hw15 k0_h4 => k0_hw15.1 k0_h4
theorem k0_off196_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off196 v765) a + S1x16.size a ≤ S321x128.size a := fun v19 k0_t6 v765 k0_hw15 k0_h4 => k0_hw15.2.1 k0_h4
theorem k0_off198_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off198 v765) a + S1x16.size a ≤ S321x128.size a := fun v19 k0_t6 v765 k0_hw15 k0_h4 => k0_hw15.2.2.1 k0_h4
theorem k0_off200_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off200 v765) a + S1x16.size a ≤ S321x128.size a := fun v19 k0_t6 v765 k0_hw15 k0_h4 => k0_hw15.2.2.2.1 k0_h4
theorem k0_off202_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off202 v765) a + S1x16.size a ≤ S321x128.size a := fun v19 k0_t6 v765 k0_hw15 k0_h4 => k0_hw15.2.2.2.2.1 k0_h4
theorem k0_off204_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off204 v765) a + S1x16.size a ≤ S321x128.size a := fun v19 k0_t6 v765 k0_hw15 k0_h4 => k0_hw15.2.2.2.2.2.1 k0_h4
theorem k0_off206_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off206 v765) a + S1x16.size a ≤ S321x128.size a := fun v19 k0_t6 v765 k0_hw15 k0_h4 => k0_hw15.2.2.2.2.2.2.1 k0_h4
theorem k0_off208_inb : ∀ (v19 : BitVec 32) (k0_t6 : Fin (k0_t6_loop v19).trips) (v765 : BitVec 32) (k0_hw15 : k0_chk15 v19 k0_t6 v765), ∀ (k0_h4 : k0_cond4 v19 k0_t6 = 1#1), ∀ a, (k0_off208 v765) a + S1x16.size a ≤ S321x128.size a := fun v19 k0_t6 v765 k0_hw15 k0_h4 => k0_hw15.2.2.2.2.2.2.2 k0_h4

def k0_off209 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_341 : BitVec 32 := 16#32
  let v766 : BitVec 32 := Scalar.muli arg25 c16_i32_341
  let c11_i32 : BitVec 32 := 11#32
  let v767 : BitVec 32 := Scalar.addi v766 c11_i32
  let v819 : Index := Scalar.indexCast v767
  let c112_364 : Index := 112#32
  ![v819.toNat, 112]
def k0_off210 (v825 : BitVec 32) : Fin 2 → Nat :=
  let v828 : Index := Scalar.indexCast v825
  let c0_367 : Index := 0#32
  ![v828.toNat, 0]

def k0_off211 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v830 : Index := Scalar.indexCast v827
  let c0_368 : Index := 0#32
  ![v830.toNat, 0]
def k0_off212 (v825 : BitVec 32) : Fin 2 → Nat :=
  let v835 : Index := Scalar.indexCast v825
  let c16_370 : Index := 16#32
  ![v835.toNat, 16]
def k0_off213 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v837 : Index := Scalar.indexCast v827
  let c16_371 : Index := 16#32
  ![v837.toNat, 16]
def k0_off214 (v825 : BitVec 32) : Fin 2 → Nat :=
  let v842 : Index := Scalar.indexCast v825
  let c32_373 : Index := 32#32
  ![v842.toNat, 32]
def k0_off215 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v844 : Index := Scalar.indexCast v827
  let c32_374 : Index := 32#32
  ![v844.toNat, 32]
def k0_off216 (v825 : BitVec 32) : Fin 2 → Nat :=
  let v849 : Index := Scalar.indexCast v825
  let c48_376 : Index := 48#32
  ![v849.toNat, 48]
def k0_off217 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v851 : Index := Scalar.indexCast v827
  let c48_377 : Index := 48#32
  ![v851.toNat, 48]
def k0_off218 (v825 : BitVec 32) : Fin 2 → Nat :=
  let v856 : Index := Scalar.indexCast v825
  let c64_379 : Index := 64#32
  ![v856.toNat, 64]
def k0_off219 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v858 : Index := Scalar.indexCast v827
  let c64_380 : Index := 64#32
  ![v858.toNat, 64]
def k0_off220 (v825 : BitVec 32) : Fin 2 → Nat :=
  let v863 : Index := Scalar.indexCast v825
  let c80_382 : Index := 80#32
  ![v863.toNat, 80]
def k0_off221 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v865 : Index := Scalar.indexCast v827
  let c80_383 : Index := 80#32
  ![v865.toNat, 80]
def k0_off222 (v825 : BitVec 32) : Fin 2 → Nat :=
  let v870 : Index := Scalar.indexCast v825
  let c96_385 : Index := 96#32
  ![v870.toNat, 96]
def k0_off223 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v872 : Index := Scalar.indexCast v827
  let c96_386 : Index := 96#32
  ![v872.toNat, 96]
def k0_off224 (v825 : BitVec 32) : Fin 2 → Nat :=
  let v877 : Index := Scalar.indexCast v825
  let c112_388 : Index := 112#32
  ![v877.toNat, 112]

def k0_chk16 (v19 : BitVec 32) (k0_t6 : Fin (k0_t6_loop v19).trips) (v825 : BitVec 32) : Prop :=
  (∀ (k0_h4 : k0_cond4 v19 k0_t6 = 1#1), ∀ a, (k0_off210 v825) a + S1x16.size a ≤ S321x128.size a) ∧
  (∀ (k0_h4 : k0_cond4 v19 k0_t6 = 1#1), ∀ a, (k0_off212 v825) a + S1x16.size a ≤ S321x128.size a) ∧
  (∀ (k0_h4 : k0_cond4 v19 k0_t6 = 1#1), ∀ a, (k0_off214 v825) a + S1x16.size a ≤ S321x128.size a) ∧
  (∀ (k0_h4 : k0_cond4 v19 k0_t6 = 1#1), ∀ a, (k0_off216 v825) a + S1x16.size a ≤ S321x128.size a) ∧
  (∀ (k0_h4 : k0_cond4 v19 k0_t6 = 1#1), ∀ a, (k0_off218 v825) a + S1x16.size a ≤ S321x128.size a) ∧
  (∀ (k0_h4 : k0_cond4 v19 k0_t6 = 1#1), ∀ a, (k0_off220 v825) a + S1x16.size a ≤ S321x128.size a) ∧
  (∀ (k0_h4 : k0_cond4 v19 k0_t6 = 1#1), ∀ a, (k0_off222 v825) a + S1x16.size a ≤ S321x128.size a) ∧
  (∀ (k0_h4 : k0_cond4 v19 k0_t6 = 1#1), ∀ a, (k0_off224 v825) a + S1x16.size a ≤ S321x128.size a)
theorem k0_off210_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off210 v825) a + S1x16.size a ≤ S321x128.size a := fun v19 k0_t6 v825 k0_hw16 k0_h4 => k0_hw16.1 k0_h4
theorem k0_off212_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off212 v825) a + S1x16.size a ≤ S321x128.size a := fun v19 k0_t6 v825 k0_hw16 k0_h4 => k0_hw16.2.1 k0_h4
theorem k0_off214_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off214 v825) a + S1x16.size a ≤ S321x128.size a := fun v19 k0_t6 v825 k0_hw16 k0_h4 => k0_hw16.2.2.1 k0_h4
theorem k0_off216_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off216 v825) a + S1x16.size a ≤ S321x128.size a := fun v19 k0_t6 v825 k0_hw16 k0_h4 => k0_hw16.2.2.2.1 k0_h4
theorem k0_off218_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off218 v825) a + S1x16.size a ≤ S321x128.size a := fun v19 k0_t6 v825 k0_hw16 k0_h4 => k0_hw16.2.2.2.2.1 k0_h4
theorem k0_off220_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off220 v825) a + S1x16.size a ≤ S321x128.size a := fun v19 k0_t6 v825 k0_hw16 k0_h4 => k0_hw16.2.2.2.2.2.1 k0_h4
theorem k0_off222_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off222 v825) a + S1x16.size a ≤ S321x128.size a := fun v19 k0_t6 v825 k0_hw16 k0_h4 => k0_hw16.2.2.2.2.2.2.1 k0_h4
theorem k0_off224_inb : ∀ (v19 : BitVec 32) (k0_t6 : Fin (k0_t6_loop v19).trips) (v825 : BitVec 32) (k0_hw16 : k0_chk16 v19 k0_t6 v825), ∀ (k0_h4 : k0_cond4 v19 k0_t6 = 1#1), ∀ a, (k0_off224 v825) a + S1x16.size a ≤ S321x128.size a := fun v19 k0_t6 v825 k0_hw16 k0_h4 => k0_hw16.2.2.2.2.2.2.2 k0_h4

def k0_off225 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_366 : BitVec 32 := 16#32
  let v826 : BitVec 32 := Scalar.muli arg25 c16_i32_366
  let c12_i32 : BitVec 32 := 12#32
  let v827 : BitVec 32 := Scalar.addi v826 c12_i32
  let v879 : Index := Scalar.indexCast v827
  let c112_389 : Index := 112#32
  ![v879.toNat, 112]
def k0_off226 (v885 : BitVec 32) : Fin 2 → Nat :=
  let v888 : Index := Scalar.indexCast v885
  let c0_392 : Index := 0#32
  ![v888.toNat, 0]

def k0_off227 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v890 : Index := Scalar.indexCast v887
  let c0_393 : Index := 0#32
  ![v890.toNat, 0]
def k0_off228 (v885 : BitVec 32) : Fin 2 → Nat :=
  let v895 : Index := Scalar.indexCast v885
  let c16_395 : Index := 16#32
  ![v895.toNat, 16]
def k0_off229 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v897 : Index := Scalar.indexCast v887
  let c16_396 : Index := 16#32
  ![v897.toNat, 16]
def k0_off230 (v885 : BitVec 32) : Fin 2 → Nat :=
  let v902 : Index := Scalar.indexCast v885
  let c32_398 : Index := 32#32
  ![v902.toNat, 32]
def k0_off231 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v904 : Index := Scalar.indexCast v887
  let c32_399 : Index := 32#32
  ![v904.toNat, 32]
def k0_off232 (v885 : BitVec 32) : Fin 2 → Nat :=
  let v909 : Index := Scalar.indexCast v885
  let c48_401 : Index := 48#32
  ![v909.toNat, 48]
def k0_off233 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v911 : Index := Scalar.indexCast v887
  let c48_402 : Index := 48#32
  ![v911.toNat, 48]
def k0_off234 (v885 : BitVec 32) : Fin 2 → Nat :=
  let v916 : Index := Scalar.indexCast v885
  let c64_404 : Index := 64#32
  ![v916.toNat, 64]
def k0_off235 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v918 : Index := Scalar.indexCast v887
  let c64_405 : Index := 64#32
  ![v918.toNat, 64]
def k0_off236 (v885 : BitVec 32) : Fin 2 → Nat :=
  let v923 : Index := Scalar.indexCast v885
  let c80_407 : Index := 80#32
  ![v923.toNat, 80]
def k0_off237 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v925 : Index := Scalar.indexCast v887
  let c80_408 : Index := 80#32
  ![v925.toNat, 80]
def k0_off238 (v885 : BitVec 32) : Fin 2 → Nat :=
  let v930 : Index := Scalar.indexCast v885
  let c96_410 : Index := 96#32
  ![v930.toNat, 96]
def k0_off239 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v932 : Index := Scalar.indexCast v887
  let c96_411 : Index := 96#32
  ![v932.toNat, 96]
def k0_off240 (v885 : BitVec 32) : Fin 2 → Nat :=
  let v937 : Index := Scalar.indexCast v885
  let c112_413 : Index := 112#32
  ![v937.toNat, 112]

def k0_chk17 (v19 : BitVec 32) (k0_t6 : Fin (k0_t6_loop v19).trips) (v885 : BitVec 32) : Prop :=
  (∀ (k0_h4 : k0_cond4 v19 k0_t6 = 1#1), ∀ a, (k0_off226 v885) a + S1x16.size a ≤ S321x128.size a) ∧
  (∀ (k0_h4 : k0_cond4 v19 k0_t6 = 1#1), ∀ a, (k0_off228 v885) a + S1x16.size a ≤ S321x128.size a) ∧
  (∀ (k0_h4 : k0_cond4 v19 k0_t6 = 1#1), ∀ a, (k0_off230 v885) a + S1x16.size a ≤ S321x128.size a) ∧
  (∀ (k0_h4 : k0_cond4 v19 k0_t6 = 1#1), ∀ a, (k0_off232 v885) a + S1x16.size a ≤ S321x128.size a) ∧
  (∀ (k0_h4 : k0_cond4 v19 k0_t6 = 1#1), ∀ a, (k0_off234 v885) a + S1x16.size a ≤ S321x128.size a) ∧
  (∀ (k0_h4 : k0_cond4 v19 k0_t6 = 1#1), ∀ a, (k0_off236 v885) a + S1x16.size a ≤ S321x128.size a) ∧
  (∀ (k0_h4 : k0_cond4 v19 k0_t6 = 1#1), ∀ a, (k0_off238 v885) a + S1x16.size a ≤ S321x128.size a) ∧
  (∀ (k0_h4 : k0_cond4 v19 k0_t6 = 1#1), ∀ a, (k0_off240 v885) a + S1x16.size a ≤ S321x128.size a)
theorem k0_off226_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off226 v885) a + S1x16.size a ≤ S321x128.size a := fun v19 k0_t6 v885 k0_hw17 k0_h4 => k0_hw17.1 k0_h4
theorem k0_off228_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off228 v885) a + S1x16.size a ≤ S321x128.size a := fun v19 k0_t6 v885 k0_hw17 k0_h4 => k0_hw17.2.1 k0_h4
theorem k0_off230_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off230 v885) a + S1x16.size a ≤ S321x128.size a := fun v19 k0_t6 v885 k0_hw17 k0_h4 => k0_hw17.2.2.1 k0_h4
theorem k0_off232_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off232 v885) a + S1x16.size a ≤ S321x128.size a := fun v19 k0_t6 v885 k0_hw17 k0_h4 => k0_hw17.2.2.2.1 k0_h4
theorem k0_off234_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off234 v885) a + S1x16.size a ≤ S321x128.size a := fun v19 k0_t6 v885 k0_hw17 k0_h4 => k0_hw17.2.2.2.2.1 k0_h4
theorem k0_off236_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off236 v885) a + S1x16.size a ≤ S321x128.size a := fun v19 k0_t6 v885 k0_hw17 k0_h4 => k0_hw17.2.2.2.2.2.1 k0_h4
theorem k0_off238_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off238 v885) a + S1x16.size a ≤ S321x128.size a := fun v19 k0_t6 v885 k0_hw17 k0_h4 => k0_hw17.2.2.2.2.2.2.1 k0_h4
theorem k0_off240_inb : ∀ (v19 : BitVec 32) (k0_t6 : Fin (k0_t6_loop v19).trips) (v885 : BitVec 32) (k0_hw17 : k0_chk17 v19 k0_t6 v885), ∀ (k0_h4 : k0_cond4 v19 k0_t6 = 1#1), ∀ a, (k0_off240 v885) a + S1x16.size a ≤ S321x128.size a := fun v19 k0_t6 v885 k0_hw17 k0_h4 => k0_hw17.2.2.2.2.2.2.2 k0_h4

def k0_off241 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_391 : BitVec 32 := 16#32
  let v886 : BitVec 32 := Scalar.muli arg25 c16_i32_391
  let c13_i32 : BitVec 32 := 13#32
  let v887 : BitVec 32 := Scalar.addi v886 c13_i32
  let v939 : Index := Scalar.indexCast v887
  let c112_414 : Index := 112#32
  ![v939.toNat, 112]
def k0_off242 (v945 : BitVec 32) : Fin 2 → Nat :=
  let v948 : Index := Scalar.indexCast v945
  let c0_417 : Index := 0#32
  ![v948.toNat, 0]

def k0_off243 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v950 : Index := Scalar.indexCast v947
  let c0_418 : Index := 0#32
  ![v950.toNat, 0]
def k0_off244 (v945 : BitVec 32) : Fin 2 → Nat :=
  let v955 : Index := Scalar.indexCast v945
  let c16_420 : Index := 16#32
  ![v955.toNat, 16]
def k0_off245 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v957 : Index := Scalar.indexCast v947
  let c16_421 : Index := 16#32
  ![v957.toNat, 16]
def k0_off246 (v945 : BitVec 32) : Fin 2 → Nat :=
  let v962 : Index := Scalar.indexCast v945
  let c32_423 : Index := 32#32
  ![v962.toNat, 32]
def k0_off247 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v964 : Index := Scalar.indexCast v947
  let c32_424 : Index := 32#32
  ![v964.toNat, 32]
def k0_off248 (v945 : BitVec 32) : Fin 2 → Nat :=
  let v969 : Index := Scalar.indexCast v945
  let c48_426 : Index := 48#32
  ![v969.toNat, 48]
def k0_off249 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v971 : Index := Scalar.indexCast v947
  let c48_427 : Index := 48#32
  ![v971.toNat, 48]
def k0_off250 (v945 : BitVec 32) : Fin 2 → Nat :=
  let v976 : Index := Scalar.indexCast v945
  let c64_429 : Index := 64#32
  ![v976.toNat, 64]
def k0_off251 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v978 : Index := Scalar.indexCast v947
  let c64_430 : Index := 64#32
  ![v978.toNat, 64]
def k0_off252 (v945 : BitVec 32) : Fin 2 → Nat :=
  let v983 : Index := Scalar.indexCast v945
  let c80_432 : Index := 80#32
  ![v983.toNat, 80]
def k0_off253 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v985 : Index := Scalar.indexCast v947
  let c80_433 : Index := 80#32
  ![v985.toNat, 80]
def k0_off254 (v945 : BitVec 32) : Fin 2 → Nat :=
  let v990 : Index := Scalar.indexCast v945
  let c96_435 : Index := 96#32
  ![v990.toNat, 96]
def k0_off255 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v992 : Index := Scalar.indexCast v947
  let c96_436 : Index := 96#32
  ![v992.toNat, 96]
def k0_off256 (v945 : BitVec 32) : Fin 2 → Nat :=
  let v997 : Index := Scalar.indexCast v945
  let c112_438 : Index := 112#32
  ![v997.toNat, 112]

def k0_chk18 (v19 : BitVec 32) (k0_t6 : Fin (k0_t6_loop v19).trips) (v945 : BitVec 32) : Prop :=
  (∀ (k0_h4 : k0_cond4 v19 k0_t6 = 1#1), ∀ a, (k0_off242 v945) a + S1x16.size a ≤ S321x128.size a) ∧
  (∀ (k0_h4 : k0_cond4 v19 k0_t6 = 1#1), ∀ a, (k0_off244 v945) a + S1x16.size a ≤ S321x128.size a) ∧
  (∀ (k0_h4 : k0_cond4 v19 k0_t6 = 1#1), ∀ a, (k0_off246 v945) a + S1x16.size a ≤ S321x128.size a) ∧
  (∀ (k0_h4 : k0_cond4 v19 k0_t6 = 1#1), ∀ a, (k0_off248 v945) a + S1x16.size a ≤ S321x128.size a) ∧
  (∀ (k0_h4 : k0_cond4 v19 k0_t6 = 1#1), ∀ a, (k0_off250 v945) a + S1x16.size a ≤ S321x128.size a) ∧
  (∀ (k0_h4 : k0_cond4 v19 k0_t6 = 1#1), ∀ a, (k0_off252 v945) a + S1x16.size a ≤ S321x128.size a) ∧
  (∀ (k0_h4 : k0_cond4 v19 k0_t6 = 1#1), ∀ a, (k0_off254 v945) a + S1x16.size a ≤ S321x128.size a) ∧
  (∀ (k0_h4 : k0_cond4 v19 k0_t6 = 1#1), ∀ a, (k0_off256 v945) a + S1x16.size a ≤ S321x128.size a)
theorem k0_off242_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off242 v945) a + S1x16.size a ≤ S321x128.size a := fun v19 k0_t6 v945 k0_hw18 k0_h4 => k0_hw18.1 k0_h4
theorem k0_off244_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off244 v945) a + S1x16.size a ≤ S321x128.size a := fun v19 k0_t6 v945 k0_hw18 k0_h4 => k0_hw18.2.1 k0_h4
theorem k0_off246_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off246 v945) a + S1x16.size a ≤ S321x128.size a := fun v19 k0_t6 v945 k0_hw18 k0_h4 => k0_hw18.2.2.1 k0_h4
theorem k0_off248_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off248 v945) a + S1x16.size a ≤ S321x128.size a := fun v19 k0_t6 v945 k0_hw18 k0_h4 => k0_hw18.2.2.2.1 k0_h4
theorem k0_off250_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off250 v945) a + S1x16.size a ≤ S321x128.size a := fun v19 k0_t6 v945 k0_hw18 k0_h4 => k0_hw18.2.2.2.2.1 k0_h4
theorem k0_off252_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off252 v945) a + S1x16.size a ≤ S321x128.size a := fun v19 k0_t6 v945 k0_hw18 k0_h4 => k0_hw18.2.2.2.2.2.1 k0_h4
theorem k0_off254_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off254 v945) a + S1x16.size a ≤ S321x128.size a := fun v19 k0_t6 v945 k0_hw18 k0_h4 => k0_hw18.2.2.2.2.2.2.1 k0_h4
theorem k0_off256_inb : ∀ (v19 : BitVec 32) (k0_t6 : Fin (k0_t6_loop v19).trips) (v945 : BitVec 32) (k0_hw18 : k0_chk18 v19 k0_t6 v945), ∀ (k0_h4 : k0_cond4 v19 k0_t6 = 1#1), ∀ a, (k0_off256 v945) a + S1x16.size a ≤ S321x128.size a := fun v19 k0_t6 v945 k0_hw18 k0_h4 => k0_hw18.2.2.2.2.2.2.2 k0_h4

def k0_off257 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_416 : BitVec 32 := 16#32
  let v946 : BitVec 32 := Scalar.muli arg25 c16_i32_416
  let c14_i32 : BitVec 32 := 14#32
  let v947 : BitVec 32 := Scalar.addi v946 c14_i32
  let v999 : Index := Scalar.indexCast v947
  let c112_439 : Index := 112#32
  ![v999.toNat, 112]
def k0_off258 (v1005 : BitVec 32) : Fin 2 → Nat :=
  let v1008 : Index := Scalar.indexCast v1005
  let c0_442 : Index := 0#32
  ![v1008.toNat, 0]

def k0_off259 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1010 : Index := Scalar.indexCast v1007
  let c0_443 : Index := 0#32
  ![v1010.toNat, 0]
def k0_off260 (v1005 : BitVec 32) : Fin 2 → Nat :=
  let v1015 : Index := Scalar.indexCast v1005
  let c16_445 : Index := 16#32
  ![v1015.toNat, 16]
def k0_off261 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1017 : Index := Scalar.indexCast v1007
  let c16_446 : Index := 16#32
  ![v1017.toNat, 16]
def k0_off262 (v1005 : BitVec 32) : Fin 2 → Nat :=
  let v1022 : Index := Scalar.indexCast v1005
  let c32_448 : Index := 32#32
  ![v1022.toNat, 32]
def k0_off263 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1024 : Index := Scalar.indexCast v1007
  let c32_449 : Index := 32#32
  ![v1024.toNat, 32]
def k0_off264 (v1005 : BitVec 32) : Fin 2 → Nat :=
  let v1029 : Index := Scalar.indexCast v1005
  let c48_451 : Index := 48#32
  ![v1029.toNat, 48]
def k0_off265 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1031 : Index := Scalar.indexCast v1007
  let c48_452 : Index := 48#32
  ![v1031.toNat, 48]
def k0_off266 (v1005 : BitVec 32) : Fin 2 → Nat :=
  let v1036 : Index := Scalar.indexCast v1005
  let c64_454 : Index := 64#32
  ![v1036.toNat, 64]
def k0_off267 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1038 : Index := Scalar.indexCast v1007
  let c64_455 : Index := 64#32
  ![v1038.toNat, 64]
def k0_off268 (v1005 : BitVec 32) : Fin 2 → Nat :=
  let v1043 : Index := Scalar.indexCast v1005
  let c80_457 : Index := 80#32
  ![v1043.toNat, 80]
def k0_off269 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1045 : Index := Scalar.indexCast v1007
  let c80_458 : Index := 80#32
  ![v1045.toNat, 80]
def k0_off270 (v1005 : BitVec 32) : Fin 2 → Nat :=
  let v1050 : Index := Scalar.indexCast v1005
  let c96_460 : Index := 96#32
  ![v1050.toNat, 96]
def k0_off271 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1052 : Index := Scalar.indexCast v1007
  let c96_461 : Index := 96#32
  ![v1052.toNat, 96]
def k0_off272 (v1005 : BitVec 32) : Fin 2 → Nat :=
  let v1057 : Index := Scalar.indexCast v1005
  let c112_463 : Index := 112#32
  ![v1057.toNat, 112]

def k0_chk19 (v19 : BitVec 32) (k0_t6 : Fin (k0_t6_loop v19).trips) (v1005 : BitVec 32) : Prop :=
  (∀ (k0_h4 : k0_cond4 v19 k0_t6 = 1#1), ∀ a, (k0_off258 v1005) a + S1x16.size a ≤ S321x128.size a) ∧
  (∀ (k0_h4 : k0_cond4 v19 k0_t6 = 1#1), ∀ a, (k0_off260 v1005) a + S1x16.size a ≤ S321x128.size a) ∧
  (∀ (k0_h4 : k0_cond4 v19 k0_t6 = 1#1), ∀ a, (k0_off262 v1005) a + S1x16.size a ≤ S321x128.size a) ∧
  (∀ (k0_h4 : k0_cond4 v19 k0_t6 = 1#1), ∀ a, (k0_off264 v1005) a + S1x16.size a ≤ S321x128.size a) ∧
  (∀ (k0_h4 : k0_cond4 v19 k0_t6 = 1#1), ∀ a, (k0_off266 v1005) a + S1x16.size a ≤ S321x128.size a) ∧
  (∀ (k0_h4 : k0_cond4 v19 k0_t6 = 1#1), ∀ a, (k0_off268 v1005) a + S1x16.size a ≤ S321x128.size a) ∧
  (∀ (k0_h4 : k0_cond4 v19 k0_t6 = 1#1), ∀ a, (k0_off270 v1005) a + S1x16.size a ≤ S321x128.size a) ∧
  (∀ (k0_h4 : k0_cond4 v19 k0_t6 = 1#1), ∀ a, (k0_off272 v1005) a + S1x16.size a ≤ S321x128.size a)
theorem k0_off258_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off258 v1005) a + S1x16.size a ≤ S321x128.size a := fun v19 k0_t6 v1005 k0_hw19 k0_h4 => k0_hw19.1 k0_h4
theorem k0_off260_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off260 v1005) a + S1x16.size a ≤ S321x128.size a := fun v19 k0_t6 v1005 k0_hw19 k0_h4 => k0_hw19.2.1 k0_h4
theorem k0_off262_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off262 v1005) a + S1x16.size a ≤ S321x128.size a := fun v19 k0_t6 v1005 k0_hw19 k0_h4 => k0_hw19.2.2.1 k0_h4
theorem k0_off264_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off264 v1005) a + S1x16.size a ≤ S321x128.size a := fun v19 k0_t6 v1005 k0_hw19 k0_h4 => k0_hw19.2.2.2.1 k0_h4
theorem k0_off266_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off266 v1005) a + S1x16.size a ≤ S321x128.size a := fun v19 k0_t6 v1005 k0_hw19 k0_h4 => k0_hw19.2.2.2.2.1 k0_h4
theorem k0_off268_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off268 v1005) a + S1x16.size a ≤ S321x128.size a := fun v19 k0_t6 v1005 k0_hw19 k0_h4 => k0_hw19.2.2.2.2.2.1 k0_h4
theorem k0_off270_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off270 v1005) a + S1x16.size a ≤ S321x128.size a := fun v19 k0_t6 v1005 k0_hw19 k0_h4 => k0_hw19.2.2.2.2.2.2.1 k0_h4
theorem k0_off272_inb : ∀ (v19 : BitVec 32) (k0_t6 : Fin (k0_t6_loop v19).trips) (v1005 : BitVec 32) (k0_hw19 : k0_chk19 v19 k0_t6 v1005), ∀ (k0_h4 : k0_cond4 v19 k0_t6 = 1#1), ∀ a, (k0_off272 v1005) a + S1x16.size a ≤ S321x128.size a := fun v19 k0_t6 v1005 k0_hw19 k0_h4 => k0_hw19.2.2.2.2.2.2.2 k0_h4

def k0_off273 (k0_t7 : Fin k0_t7_loop.trips) : Fin 2 → Nat :=
  let c0_i32_65 : BitVec 32 := 0#32
  let c1_i32_66 : BitVec 32 := 1#32
  let arg25 : BitVec 32 := Scf.iv c0_i32_65 c1_i32_66 k0_t7
  let c16_i32_441 : BitVec 32 := 16#32
  let v1006 : BitVec 32 := Scalar.muli arg25 c16_i32_441
  let c15_i32 : BitVec 32 := 15#32
  let v1007 : BitVec 32 := Scalar.addi v1006 c15_i32
  let v1059 : Index := Scalar.indexCast v1007
  let c112_464 : Index := 112#32
  ![v1059.toNat, 112]
def k0_off274 (v19 : BitVec 32) (k0_t6 : Fin (k0_t6_loop v19).trips) : Fin 1 → Nat :=
  let c2_i32_54 : BitVec 32 := 2#32
  let c0_i32_38 : BitVec 32 := 0#32
  let c1_i32_41 : BitVec 32 := 1#32
  let arg23 : BitVec 32 := Scf.iv c0_i32_38 c1_i32_41 k0_t6
  let v86 : BitVec 32 := Scalar.muli c2_i32_54 arg23
  let c1_i32_55 : BitVec 32 := 1#32
  let v87 : BitVec 32 := Scalar.addi v86 c1_i32_55
  let c1_i32_68 : BitVec 32 := 1#32
  let v100 : BitVec 32 := Scalar.addi v87 c1_i32_68
  let c128_i32_69 : BitVec 32 := 128#32
  let v101 : BitVec 32 := Scalar.muli v100 c128_i32_69
  ![v101.toNat]
def k0_cond6 (v19 : BitVec 32) (k0_t6 : Fin (k0_t6_loop v19).trips) : BitVec 1 :=
  let c2_i32_54 : BitVec 32 := 2#32
  let c0_i32_38 : BitVec 32 := 0#32
  let c1_i32_41 : BitVec 32 := 1#32
  let arg23 : BitVec 32 := Scf.iv c0_i32_38 c1_i32_41 k0_t6
  let v86 : BitVec 32 := Scalar.muli c2_i32_54 arg23
  let c1_i32_55 : BitVec 32 := 1#32
  let v87 : BitVec 32 := Scalar.addi v86 c1_i32_55
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let v88 : BitVec 1 := Scalar.cmpi .slt v87 v44
  let v89 : BitVec 32 := Scalar.extui v88
  let c0_i32_56 : BitVec 32 := 0#32
  let v90 : BitVec 1 := Scalar.cmpi .ne v89 c0_i32_56
  v90

def k0_cond7 (v19 : BitVec 32) (k0_t6 : Fin (k0_t6_loop v19).trips) : BitVec 1 :=
  let c2_i32_54 : BitVec 32 := 2#32
  let c0_i32_38 : BitVec 32 := 0#32
  let c1_i32_41 : BitVec 32 := 1#32
  let arg23 : BitVec 32 := Scf.iv c0_i32_38 c1_i32_41 k0_t6
  let v86 : BitVec 32 := Scalar.muli c2_i32_54 arg23
  let c1_i32_55 : BitVec 32 := 1#32
  let v87 : BitVec 32 := Scalar.addi v86 c1_i32_55
  let c1_i32_61 : BitVec 32 := 1#32
  let v93 : BitVec 32 := Scalar.addi v87 c1_i32_61
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let v94 : BitVec 1 := Scalar.cmpi .slt v93 v44
  let v95 : BitVec 32 := Scalar.extui v94
  let c0_i32_62 : BitVec 32 := 0#32
  let v96 : BitVec 1 := Scalar.cmpi .ne v95 c0_i32_62
  v96

@[reducible] def k0_t8_loop : Scf.Loop 32 :=
  let c0_i32_65 : BitVec 32 := 0#32
  let c8_i32 : BitVec 32 := 8#32
  let v98 : BitVec 32 := Scalar.addi c0_i32_65 c8_i32
  let c1_i32_66 : BitVec 32 := 1#32
  ⟨c0_i32_65, v98, c1_i32_66⟩
def k0_off275 (v19 : BitVec 32) (k0_t6 : Fin (k0_t6_loop v19).trips) (k0_t8 : Fin k0_t8_loop.trips) : Fin 1 → Nat :=
  let c2_i32_54 : BitVec 32 := 2#32
  let c0_i32_38 : BitVec 32 := 0#32
  let c1_i32_41 : BitVec 32 := 1#32
  let arg23 : BitVec 32 := Scf.iv c0_i32_38 c1_i32_41 k0_t6
  let v86 : BitVec 32 := Scalar.muli c2_i32_54 arg23
  let c1_i32_55 : BitVec 32 := 1#32
  let v87 : BitVec 32 := Scalar.addi v86 c1_i32_55
  let c128_i32_63 : BitVec 32 := 128#32
  let v97 : BitVec 32 := Scalar.muli v87 c128_i32_63
  let c0_i32_65 : BitVec 32 := 0#32
  let c1_i32_66 : BitVec 32 := 1#32
  let arg25 : BitVec 32 := Scf.iv c0_i32_65 c1_i32_66 k0_t8
  let c16_i32_68 : BitVec 32 := 16#32
  let v100 : BitVec 32 := Scalar.muli arg25 c16_i32_68
  let v101 : BitVec 32 := Scalar.addi v97 v100
  let v102 : Index := Scalar.indexCast v101
  ![v102.toNat]
def k0_off276 (v105 : BitVec 32) : Fin 2 → Nat :=
  let v108 : Index := Scalar.indexCast v105
  let c0_71 : Index := 0#32
  ![v108.toNat, 0]

def k0_off277 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v110 : Index := Scalar.indexCast v107
  let c0_72 : Index := 0#32
  ![v110.toNat, 0]
def k0_off278 (v105 : BitVec 32) : Fin 2 → Nat :=
  let v115 : Index := Scalar.indexCast v105
  let c16 : Index := 16#32
  ![v115.toNat, 16]
def k0_off279 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v117 : Index := Scalar.indexCast v107
  let c16_74 : Index := 16#32
  ![v117.toNat, 16]
def k0_off280 (v105 : BitVec 32) : Fin 2 → Nat :=
  let v122 : Index := Scalar.indexCast v105
  let c32 : Index := 32#32
  ![v122.toNat, 32]
def k0_off281 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v124 : Index := Scalar.indexCast v107
  let c32_76 : Index := 32#32
  ![v124.toNat, 32]
def k0_off282 (v105 : BitVec 32) : Fin 2 → Nat :=
  let v129 : Index := Scalar.indexCast v105
  let c48 : Index := 48#32
  ![v129.toNat, 48]
def k0_off283 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v131 : Index := Scalar.indexCast v107
  let c48_78 : Index := 48#32
  ![v131.toNat, 48]
def k0_off284 (v105 : BitVec 32) : Fin 2 → Nat :=
  let v136 : Index := Scalar.indexCast v105
  let c64 : Index := 64#32
  ![v136.toNat, 64]
def k0_off285 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v138 : Index := Scalar.indexCast v107
  let c64_80 : Index := 64#32
  ![v138.toNat, 64]
def k0_off286 (v105 : BitVec 32) : Fin 2 → Nat :=
  let v143 : Index := Scalar.indexCast v105
  let c80 : Index := 80#32
  ![v143.toNat, 80]
def k0_off287 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v145 : Index := Scalar.indexCast v107
  let c80_82 : Index := 80#32
  ![v145.toNat, 80]
def k0_off288 (v105 : BitVec 32) : Fin 2 → Nat :=
  let v150 : Index := Scalar.indexCast v105
  let c96 : Index := 96#32
  ![v150.toNat, 96]
def k0_off289 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v152 : Index := Scalar.indexCast v107
  let c96_84 : Index := 96#32
  ![v152.toNat, 96]
def k0_off290 (v105 : BitVec 32) : Fin 2 → Nat :=
  let v157 : Index := Scalar.indexCast v105
  let c112 : Index := 112#32
  ![v157.toNat, 112]

def k0_chk20 (v19 : BitVec 32) (k0_t6 : Fin (k0_t6_loop v19).trips) (v105 : BitVec 32) : Prop :=
  (∀ (k0_h6 : k0_cond6 v19 k0_t6 = 1#1), ∀ a, (k0_off276 v105) a + S1x16.size a ≤ S321x128.size a) ∧
  (∀ (k0_h6 : k0_cond6 v19 k0_t6 = 1#1), ∀ a, (k0_off278 v105) a + S1x16.size a ≤ S321x128.size a) ∧
  (∀ (k0_h6 : k0_cond6 v19 k0_t6 = 1#1), ∀ a, (k0_off280 v105) a + S1x16.size a ≤ S321x128.size a) ∧
  (∀ (k0_h6 : k0_cond6 v19 k0_t6 = 1#1), ∀ a, (k0_off282 v105) a + S1x16.size a ≤ S321x128.size a) ∧
  (∀ (k0_h6 : k0_cond6 v19 k0_t6 = 1#1), ∀ a, (k0_off284 v105) a + S1x16.size a ≤ S321x128.size a) ∧
  (∀ (k0_h6 : k0_cond6 v19 k0_t6 = 1#1), ∀ a, (k0_off286 v105) a + S1x16.size a ≤ S321x128.size a) ∧
  (∀ (k0_h6 : k0_cond6 v19 k0_t6 = 1#1), ∀ a, (k0_off288 v105) a + S1x16.size a ≤ S321x128.size a) ∧
  (∀ (k0_h6 : k0_cond6 v19 k0_t6 = 1#1), ∀ a, (k0_off290 v105) a + S1x16.size a ≤ S321x128.size a)
theorem k0_off276_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off276 v105) a + S1x16.size a ≤ S321x128.size a := fun v19 k0_t6 v105 k0_hw20 k0_h6 => k0_hw20.1 k0_h6
theorem k0_off278_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off278 v105) a + S1x16.size a ≤ S321x128.size a := fun v19 k0_t6 v105 k0_hw20 k0_h6 => k0_hw20.2.1 k0_h6
theorem k0_off280_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off280 v105) a + S1x16.size a ≤ S321x128.size a := fun v19 k0_t6 v105 k0_hw20 k0_h6 => k0_hw20.2.2.1 k0_h6
theorem k0_off282_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off282 v105) a + S1x16.size a ≤ S321x128.size a := fun v19 k0_t6 v105 k0_hw20 k0_h6 => k0_hw20.2.2.2.1 k0_h6
theorem k0_off284_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off284 v105) a + S1x16.size a ≤ S321x128.size a := fun v19 k0_t6 v105 k0_hw20 k0_h6 => k0_hw20.2.2.2.2.1 k0_h6
theorem k0_off286_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off286 v105) a + S1x16.size a ≤ S321x128.size a := fun v19 k0_t6 v105 k0_hw20 k0_h6 => k0_hw20.2.2.2.2.2.1 k0_h6
theorem k0_off288_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off288 v105) a + S1x16.size a ≤ S321x128.size a := fun v19 k0_t6 v105 k0_hw20 k0_h6 => k0_hw20.2.2.2.2.2.2.1 k0_h6
theorem k0_off290_inb : ∀ (v19 : BitVec 32) (k0_t6 : Fin (k0_t6_loop v19).trips) (v105 : BitVec 32) (k0_hw20 : k0_chk20 v19 k0_t6 v105), ∀ (k0_h6 : k0_cond6 v19 k0_t6 = 1#1), ∀ a, (k0_off290 v105) a + S1x16.size a ≤ S321x128.size a := fun v19 k0_t6 v105 k0_hw20 k0_h6 => k0_hw20.2.2.2.2.2.2.2 k0_h6

def k0_off291 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_69 : BitVec 32 := 16#32
  let v106 : BitVec 32 := Scalar.muli arg25 c16_i32_69
  let c0_i32_70 : BitVec 32 := 0#32
  let v107 : BitVec 32 := Scalar.addi v106 c0_i32_70
  let v159 : Index := Scalar.indexCast v107
  let c112_86 : Index := 112#32
  ![v159.toNat, 112]
def k0_off292 (v165 : BitVec 32) : Fin 2 → Nat :=
  let v168 : Index := Scalar.indexCast v165
  let c0_90 : Index := 0#32
  ![v168.toNat, 0]

def k0_off293 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v170 : Index := Scalar.indexCast v167
  let c0_91 : Index := 0#32
  ![v170.toNat, 0]
def k0_off294 (v165 : BitVec 32) : Fin 2 → Nat :=
  let v175 : Index := Scalar.indexCast v165
  let c16_93 : Index := 16#32
  ![v175.toNat, 16]
def k0_off295 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v177 : Index := Scalar.indexCast v167
  let c16_94 : Index := 16#32
  ![v177.toNat, 16]
def k0_off296 (v165 : BitVec 32) : Fin 2 → Nat :=
  let v182 : Index := Scalar.indexCast v165
  let c32_96 : Index := 32#32
  ![v182.toNat, 32]
def k0_off297 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v184 : Index := Scalar.indexCast v167
  let c32_97 : Index := 32#32
  ![v184.toNat, 32]
def k0_off298 (v165 : BitVec 32) : Fin 2 → Nat :=
  let v189 : Index := Scalar.indexCast v165
  let c48_99 : Index := 48#32
  ![v189.toNat, 48]
def k0_off299 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v191 : Index := Scalar.indexCast v167
  let c48_100 : Index := 48#32
  ![v191.toNat, 48]
def k0_off300 (v165 : BitVec 32) : Fin 2 → Nat :=
  let v196 : Index := Scalar.indexCast v165
  let c64_102 : Index := 64#32
  ![v196.toNat, 64]
def k0_off301 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v198 : Index := Scalar.indexCast v167
  let c64_103 : Index := 64#32
  ![v198.toNat, 64]
def k0_off302 (v165 : BitVec 32) : Fin 2 → Nat :=
  let v203 : Index := Scalar.indexCast v165
  let c80_105 : Index := 80#32
  ![v203.toNat, 80]
def k0_off303 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v205 : Index := Scalar.indexCast v167
  let c80_106 : Index := 80#32
  ![v205.toNat, 80]
def k0_off304 (v165 : BitVec 32) : Fin 2 → Nat :=
  let v210 : Index := Scalar.indexCast v165
  let c96_108 : Index := 96#32
  ![v210.toNat, 96]
def k0_off305 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v212 : Index := Scalar.indexCast v167
  let c96_109 : Index := 96#32
  ![v212.toNat, 96]
def k0_off306 (v165 : BitVec 32) : Fin 2 → Nat :=
  let v217 : Index := Scalar.indexCast v165
  let c112_111 : Index := 112#32
  ![v217.toNat, 112]

def k0_chk21 (v19 : BitVec 32) (k0_t6 : Fin (k0_t6_loop v19).trips) (v165 : BitVec 32) : Prop :=
  (∀ (k0_h6 : k0_cond6 v19 k0_t6 = 1#1), ∀ a, (k0_off292 v165) a + S1x16.size a ≤ S321x128.size a) ∧
  (∀ (k0_h6 : k0_cond6 v19 k0_t6 = 1#1), ∀ a, (k0_off294 v165) a + S1x16.size a ≤ S321x128.size a) ∧
  (∀ (k0_h6 : k0_cond6 v19 k0_t6 = 1#1), ∀ a, (k0_off296 v165) a + S1x16.size a ≤ S321x128.size a) ∧
  (∀ (k0_h6 : k0_cond6 v19 k0_t6 = 1#1), ∀ a, (k0_off298 v165) a + S1x16.size a ≤ S321x128.size a) ∧
  (∀ (k0_h6 : k0_cond6 v19 k0_t6 = 1#1), ∀ a, (k0_off300 v165) a + S1x16.size a ≤ S321x128.size a) ∧
  (∀ (k0_h6 : k0_cond6 v19 k0_t6 = 1#1), ∀ a, (k0_off302 v165) a + S1x16.size a ≤ S321x128.size a) ∧
  (∀ (k0_h6 : k0_cond6 v19 k0_t6 = 1#1), ∀ a, (k0_off304 v165) a + S1x16.size a ≤ S321x128.size a) ∧
  (∀ (k0_h6 : k0_cond6 v19 k0_t6 = 1#1), ∀ a, (k0_off306 v165) a + S1x16.size a ≤ S321x128.size a)
theorem k0_off292_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off292 v165) a + S1x16.size a ≤ S321x128.size a := fun v19 k0_t6 v165 k0_hw21 k0_h6 => k0_hw21.1 k0_h6
theorem k0_off294_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off294 v165) a + S1x16.size a ≤ S321x128.size a := fun v19 k0_t6 v165 k0_hw21 k0_h6 => k0_hw21.2.1 k0_h6
theorem k0_off296_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off296 v165) a + S1x16.size a ≤ S321x128.size a := fun v19 k0_t6 v165 k0_hw21 k0_h6 => k0_hw21.2.2.1 k0_h6
theorem k0_off298_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off298 v165) a + S1x16.size a ≤ S321x128.size a := fun v19 k0_t6 v165 k0_hw21 k0_h6 => k0_hw21.2.2.2.1 k0_h6
theorem k0_off300_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off300 v165) a + S1x16.size a ≤ S321x128.size a := fun v19 k0_t6 v165 k0_hw21 k0_h6 => k0_hw21.2.2.2.2.1 k0_h6
theorem k0_off302_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off302 v165) a + S1x16.size a ≤ S321x128.size a := fun v19 k0_t6 v165 k0_hw21 k0_h6 => k0_hw21.2.2.2.2.2.1 k0_h6
theorem k0_off304_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off304 v165) a + S1x16.size a ≤ S321x128.size a := fun v19 k0_t6 v165 k0_hw21 k0_h6 => k0_hw21.2.2.2.2.2.2.1 k0_h6
theorem k0_off306_inb : ∀ (v19 : BitVec 32) (k0_t6 : Fin (k0_t6_loop v19).trips) (v165 : BitVec 32) (k0_hw21 : k0_chk21 v19 k0_t6 v165), ∀ (k0_h6 : k0_cond6 v19 k0_t6 = 1#1), ∀ a, (k0_off306 v165) a + S1x16.size a ≤ S321x128.size a := fun v19 k0_t6 v165 k0_hw21 k0_h6 => k0_hw21.2.2.2.2.2.2.2 k0_h6

def k0_off307 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_88 : BitVec 32 := 16#32
  let v166 : BitVec 32 := Scalar.muli arg25 c16_i32_88
  let c1_i32_89 : BitVec 32 := 1#32
  let v167 : BitVec 32 := Scalar.addi v166 c1_i32_89
  let v219 : Index := Scalar.indexCast v167
  let c112_112 : Index := 112#32
  ![v219.toNat, 112]
def k0_off308 (v225 : BitVec 32) : Fin 2 → Nat :=
  let v228 : Index := Scalar.indexCast v225
  let c0_116 : Index := 0#32
  ![v228.toNat, 0]

def k0_off309 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v230 : Index := Scalar.indexCast v227
  let c0_117 : Index := 0#32
  ![v230.toNat, 0]
def k0_off310 (v225 : BitVec 32) : Fin 2 → Nat :=
  let v235 : Index := Scalar.indexCast v225
  let c16_119 : Index := 16#32
  ![v235.toNat, 16]
def k0_off311 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v237 : Index := Scalar.indexCast v227
  let c16_120 : Index := 16#32
  ![v237.toNat, 16]
def k0_off312 (v225 : BitVec 32) : Fin 2 → Nat :=
  let v242 : Index := Scalar.indexCast v225
  let c32_122 : Index := 32#32
  ![v242.toNat, 32]
def k0_off313 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v244 : Index := Scalar.indexCast v227
  let c32_123 : Index := 32#32
  ![v244.toNat, 32]
def k0_off314 (v225 : BitVec 32) : Fin 2 → Nat :=
  let v249 : Index := Scalar.indexCast v225
  let c48_125 : Index := 48#32
  ![v249.toNat, 48]
def k0_off315 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v251 : Index := Scalar.indexCast v227
  let c48_126 : Index := 48#32
  ![v251.toNat, 48]
def k0_off316 (v225 : BitVec 32) : Fin 2 → Nat :=
  let v256 : Index := Scalar.indexCast v225
  let c64_128 : Index := 64#32
  ![v256.toNat, 64]
def k0_off317 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v258 : Index := Scalar.indexCast v227
  let c64_129 : Index := 64#32
  ![v258.toNat, 64]
def k0_off318 (v225 : BitVec 32) : Fin 2 → Nat :=
  let v263 : Index := Scalar.indexCast v225
  let c80_131 : Index := 80#32
  ![v263.toNat, 80]
def k0_off319 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v265 : Index := Scalar.indexCast v227
  let c80_132 : Index := 80#32
  ![v265.toNat, 80]
def k0_off320 (v225 : BitVec 32) : Fin 2 → Nat :=
  let v270 : Index := Scalar.indexCast v225
  let c96_134 : Index := 96#32
  ![v270.toNat, 96]
def k0_off321 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v272 : Index := Scalar.indexCast v227
  let c96_135 : Index := 96#32
  ![v272.toNat, 96]
def k0_off322 (v225 : BitVec 32) : Fin 2 → Nat :=
  let v277 : Index := Scalar.indexCast v225
  let c112_137 : Index := 112#32
  ![v277.toNat, 112]

def k0_chk22 (v19 : BitVec 32) (k0_t6 : Fin (k0_t6_loop v19).trips) (v225 : BitVec 32) : Prop :=
  (∀ (k0_h6 : k0_cond6 v19 k0_t6 = 1#1), ∀ a, (k0_off308 v225) a + S1x16.size a ≤ S321x128.size a) ∧
  (∀ (k0_h6 : k0_cond6 v19 k0_t6 = 1#1), ∀ a, (k0_off310 v225) a + S1x16.size a ≤ S321x128.size a) ∧
  (∀ (k0_h6 : k0_cond6 v19 k0_t6 = 1#1), ∀ a, (k0_off312 v225) a + S1x16.size a ≤ S321x128.size a) ∧
  (∀ (k0_h6 : k0_cond6 v19 k0_t6 = 1#1), ∀ a, (k0_off314 v225) a + S1x16.size a ≤ S321x128.size a) ∧
  (∀ (k0_h6 : k0_cond6 v19 k0_t6 = 1#1), ∀ a, (k0_off316 v225) a + S1x16.size a ≤ S321x128.size a) ∧
  (∀ (k0_h6 : k0_cond6 v19 k0_t6 = 1#1), ∀ a, (k0_off318 v225) a + S1x16.size a ≤ S321x128.size a) ∧
  (∀ (k0_h6 : k0_cond6 v19 k0_t6 = 1#1), ∀ a, (k0_off320 v225) a + S1x16.size a ≤ S321x128.size a) ∧
  (∀ (k0_h6 : k0_cond6 v19 k0_t6 = 1#1), ∀ a, (k0_off322 v225) a + S1x16.size a ≤ S321x128.size a)
theorem k0_off308_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off308 v225) a + S1x16.size a ≤ S321x128.size a := fun v19 k0_t6 v225 k0_hw22 k0_h6 => k0_hw22.1 k0_h6
theorem k0_off310_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off310 v225) a + S1x16.size a ≤ S321x128.size a := fun v19 k0_t6 v225 k0_hw22 k0_h6 => k0_hw22.2.1 k0_h6
theorem k0_off312_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off312 v225) a + S1x16.size a ≤ S321x128.size a := fun v19 k0_t6 v225 k0_hw22 k0_h6 => k0_hw22.2.2.1 k0_h6
theorem k0_off314_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off314 v225) a + S1x16.size a ≤ S321x128.size a := fun v19 k0_t6 v225 k0_hw22 k0_h6 => k0_hw22.2.2.2.1 k0_h6
theorem k0_off316_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off316 v225) a + S1x16.size a ≤ S321x128.size a := fun v19 k0_t6 v225 k0_hw22 k0_h6 => k0_hw22.2.2.2.2.1 k0_h6
theorem k0_off318_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off318 v225) a + S1x16.size a ≤ S321x128.size a := fun v19 k0_t6 v225 k0_hw22 k0_h6 => k0_hw22.2.2.2.2.2.1 k0_h6
theorem k0_off320_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off320 v225) a + S1x16.size a ≤ S321x128.size a := fun v19 k0_t6 v225 k0_hw22 k0_h6 => k0_hw22.2.2.2.2.2.2.1 k0_h6
theorem k0_off322_inb : ∀ (v19 : BitVec 32) (k0_t6 : Fin (k0_t6_loop v19).trips) (v225 : BitVec 32) (k0_hw22 : k0_chk22 v19 k0_t6 v225), ∀ (k0_h6 : k0_cond6 v19 k0_t6 = 1#1), ∀ a, (k0_off322 v225) a + S1x16.size a ≤ S321x128.size a := fun v19 k0_t6 v225 k0_hw22 k0_h6 => k0_hw22.2.2.2.2.2.2.2 k0_h6

def k0_off323 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_114 : BitVec 32 := 16#32
  let v226 : BitVec 32 := Scalar.muli arg25 c16_i32_114
  let c2_i32_115 : BitVec 32 := 2#32
  let v227 : BitVec 32 := Scalar.addi v226 c2_i32_115
  let v279 : Index := Scalar.indexCast v227
  let c112_138 : Index := 112#32
  ![v279.toNat, 112]
def k0_off324 (v285 : BitVec 32) : Fin 2 → Nat :=
  let v288 : Index := Scalar.indexCast v285
  let c0_141 : Index := 0#32
  ![v288.toNat, 0]

def k0_off325 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v290 : Index := Scalar.indexCast v287
  let c0_142 : Index := 0#32
  ![v290.toNat, 0]
def k0_off326 (v285 : BitVec 32) : Fin 2 → Nat :=
  let v295 : Index := Scalar.indexCast v285
  let c16_144 : Index := 16#32
  ![v295.toNat, 16]
def k0_off327 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v297 : Index := Scalar.indexCast v287
  let c16_145 : Index := 16#32
  ![v297.toNat, 16]
def k0_off328 (v285 : BitVec 32) : Fin 2 → Nat :=
  let v302 : Index := Scalar.indexCast v285
  let c32_147 : Index := 32#32
  ![v302.toNat, 32]
def k0_off329 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v304 : Index := Scalar.indexCast v287
  let c32_148 : Index := 32#32
  ![v304.toNat, 32]
def k0_off330 (v285 : BitVec 32) : Fin 2 → Nat :=
  let v309 : Index := Scalar.indexCast v285
  let c48_150 : Index := 48#32
  ![v309.toNat, 48]
def k0_off331 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v311 : Index := Scalar.indexCast v287
  let c48_151 : Index := 48#32
  ![v311.toNat, 48]
def k0_off332 (v285 : BitVec 32) : Fin 2 → Nat :=
  let v316 : Index := Scalar.indexCast v285
  let c64_153 : Index := 64#32
  ![v316.toNat, 64]
def k0_off333 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v318 : Index := Scalar.indexCast v287
  let c64_154 : Index := 64#32
  ![v318.toNat, 64]
def k0_off334 (v285 : BitVec 32) : Fin 2 → Nat :=
  let v323 : Index := Scalar.indexCast v285
  let c80_156 : Index := 80#32
  ![v323.toNat, 80]
def k0_off335 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v325 : Index := Scalar.indexCast v287
  let c80_157 : Index := 80#32
  ![v325.toNat, 80]
def k0_off336 (v285 : BitVec 32) : Fin 2 → Nat :=
  let v330 : Index := Scalar.indexCast v285
  let c96_159 : Index := 96#32
  ![v330.toNat, 96]
def k0_off337 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v332 : Index := Scalar.indexCast v287
  let c96_160 : Index := 96#32
  ![v332.toNat, 96]
def k0_off338 (v285 : BitVec 32) : Fin 2 → Nat :=
  let v337 : Index := Scalar.indexCast v285
  let c112_162 : Index := 112#32
  ![v337.toNat, 112]

def k0_chk23 (v19 : BitVec 32) (k0_t6 : Fin (k0_t6_loop v19).trips) (v285 : BitVec 32) : Prop :=
  (∀ (k0_h6 : k0_cond6 v19 k0_t6 = 1#1), ∀ a, (k0_off324 v285) a + S1x16.size a ≤ S321x128.size a) ∧
  (∀ (k0_h6 : k0_cond6 v19 k0_t6 = 1#1), ∀ a, (k0_off326 v285) a + S1x16.size a ≤ S321x128.size a) ∧
  (∀ (k0_h6 : k0_cond6 v19 k0_t6 = 1#1), ∀ a, (k0_off328 v285) a + S1x16.size a ≤ S321x128.size a) ∧
  (∀ (k0_h6 : k0_cond6 v19 k0_t6 = 1#1), ∀ a, (k0_off330 v285) a + S1x16.size a ≤ S321x128.size a) ∧
  (∀ (k0_h6 : k0_cond6 v19 k0_t6 = 1#1), ∀ a, (k0_off332 v285) a + S1x16.size a ≤ S321x128.size a) ∧
  (∀ (k0_h6 : k0_cond6 v19 k0_t6 = 1#1), ∀ a, (k0_off334 v285) a + S1x16.size a ≤ S321x128.size a) ∧
  (∀ (k0_h6 : k0_cond6 v19 k0_t6 = 1#1), ∀ a, (k0_off336 v285) a + S1x16.size a ≤ S321x128.size a) ∧
  (∀ (k0_h6 : k0_cond6 v19 k0_t6 = 1#1), ∀ a, (k0_off338 v285) a + S1x16.size a ≤ S321x128.size a)
theorem k0_off324_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off324 v285) a + S1x16.size a ≤ S321x128.size a := fun v19 k0_t6 v285 k0_hw23 k0_h6 => k0_hw23.1 k0_h6
theorem k0_off326_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off326 v285) a + S1x16.size a ≤ S321x128.size a := fun v19 k0_t6 v285 k0_hw23 k0_h6 => k0_hw23.2.1 k0_h6
theorem k0_off328_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off328 v285) a + S1x16.size a ≤ S321x128.size a := fun v19 k0_t6 v285 k0_hw23 k0_h6 => k0_hw23.2.2.1 k0_h6
theorem k0_off330_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off330 v285) a + S1x16.size a ≤ S321x128.size a := fun v19 k0_t6 v285 k0_hw23 k0_h6 => k0_hw23.2.2.2.1 k0_h6
theorem k0_off332_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off332 v285) a + S1x16.size a ≤ S321x128.size a := fun v19 k0_t6 v285 k0_hw23 k0_h6 => k0_hw23.2.2.2.2.1 k0_h6
theorem k0_off334_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off334 v285) a + S1x16.size a ≤ S321x128.size a := fun v19 k0_t6 v285 k0_hw23 k0_h6 => k0_hw23.2.2.2.2.2.1 k0_h6
theorem k0_off336_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off336 v285) a + S1x16.size a ≤ S321x128.size a := fun v19 k0_t6 v285 k0_hw23 k0_h6 => k0_hw23.2.2.2.2.2.2.1 k0_h6
theorem k0_off338_inb : ∀ (v19 : BitVec 32) (k0_t6 : Fin (k0_t6_loop v19).trips) (v285 : BitVec 32) (k0_hw23 : k0_chk23 v19 k0_t6 v285), ∀ (k0_h6 : k0_cond6 v19 k0_t6 = 1#1), ∀ a, (k0_off338 v285) a + S1x16.size a ≤ S321x128.size a := fun v19 k0_t6 v285 k0_hw23 k0_h6 => k0_hw23.2.2.2.2.2.2.2 k0_h6

def k0_off339 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_140 : BitVec 32 := 16#32
  let v286 : BitVec 32 := Scalar.muli arg25 c16_i32_140
  let c3_i32 : BitVec 32 := 3#32
  let v287 : BitVec 32 := Scalar.addi v286 c3_i32
  let v339 : Index := Scalar.indexCast v287
  let c112_163 : Index := 112#32
  ![v339.toNat, 112]
def k0_off340 (v345 : BitVec 32) : Fin 2 → Nat :=
  let v348 : Index := Scalar.indexCast v345
  let c0_166 : Index := 0#32
  ![v348.toNat, 0]

def k0_off341 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v350 : Index := Scalar.indexCast v347
  let c0_167 : Index := 0#32
  ![v350.toNat, 0]
def k0_off342 (v345 : BitVec 32) : Fin 2 → Nat :=
  let v355 : Index := Scalar.indexCast v345
  let c16_169 : Index := 16#32
  ![v355.toNat, 16]
def k0_off343 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v357 : Index := Scalar.indexCast v347
  let c16_170 : Index := 16#32
  ![v357.toNat, 16]
def k0_off344 (v345 : BitVec 32) : Fin 2 → Nat :=
  let v362 : Index := Scalar.indexCast v345
  let c32_172 : Index := 32#32
  ![v362.toNat, 32]
def k0_off345 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v364 : Index := Scalar.indexCast v347
  let c32_173 : Index := 32#32
  ![v364.toNat, 32]
def k0_off346 (v345 : BitVec 32) : Fin 2 → Nat :=
  let v369 : Index := Scalar.indexCast v345
  let c48_175 : Index := 48#32
  ![v369.toNat, 48]
def k0_off347 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v371 : Index := Scalar.indexCast v347
  let c48_176 : Index := 48#32
  ![v371.toNat, 48]
def k0_off348 (v345 : BitVec 32) : Fin 2 → Nat :=
  let v376 : Index := Scalar.indexCast v345
  let c64_178 : Index := 64#32
  ![v376.toNat, 64]
def k0_off349 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v378 : Index := Scalar.indexCast v347
  let c64_179 : Index := 64#32
  ![v378.toNat, 64]
def k0_off350 (v345 : BitVec 32) : Fin 2 → Nat :=
  let v383 : Index := Scalar.indexCast v345
  let c80_181 : Index := 80#32
  ![v383.toNat, 80]
def k0_off351 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v385 : Index := Scalar.indexCast v347
  let c80_182 : Index := 80#32
  ![v385.toNat, 80]
def k0_off352 (v345 : BitVec 32) : Fin 2 → Nat :=
  let v390 : Index := Scalar.indexCast v345
  let c96_184 : Index := 96#32
  ![v390.toNat, 96]
def k0_off353 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v392 : Index := Scalar.indexCast v347
  let c96_185 : Index := 96#32
  ![v392.toNat, 96]
def k0_off354 (v345 : BitVec 32) : Fin 2 → Nat :=
  let v397 : Index := Scalar.indexCast v345
  let c112_187 : Index := 112#32
  ![v397.toNat, 112]

def k0_chk24 (v19 : BitVec 32) (k0_t6 : Fin (k0_t6_loop v19).trips) (v345 : BitVec 32) : Prop :=
  (∀ (k0_h6 : k0_cond6 v19 k0_t6 = 1#1), ∀ a, (k0_off340 v345) a + S1x16.size a ≤ S321x128.size a) ∧
  (∀ (k0_h6 : k0_cond6 v19 k0_t6 = 1#1), ∀ a, (k0_off342 v345) a + S1x16.size a ≤ S321x128.size a) ∧
  (∀ (k0_h6 : k0_cond6 v19 k0_t6 = 1#1), ∀ a, (k0_off344 v345) a + S1x16.size a ≤ S321x128.size a) ∧
  (∀ (k0_h6 : k0_cond6 v19 k0_t6 = 1#1), ∀ a, (k0_off346 v345) a + S1x16.size a ≤ S321x128.size a) ∧
  (∀ (k0_h6 : k0_cond6 v19 k0_t6 = 1#1), ∀ a, (k0_off348 v345) a + S1x16.size a ≤ S321x128.size a) ∧
  (∀ (k0_h6 : k0_cond6 v19 k0_t6 = 1#1), ∀ a, (k0_off350 v345) a + S1x16.size a ≤ S321x128.size a) ∧
  (∀ (k0_h6 : k0_cond6 v19 k0_t6 = 1#1), ∀ a, (k0_off352 v345) a + S1x16.size a ≤ S321x128.size a) ∧
  (∀ (k0_h6 : k0_cond6 v19 k0_t6 = 1#1), ∀ a, (k0_off354 v345) a + S1x16.size a ≤ S321x128.size a)
theorem k0_off340_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off340 v345) a + S1x16.size a ≤ S321x128.size a := fun v19 k0_t6 v345 k0_hw24 k0_h6 => k0_hw24.1 k0_h6
theorem k0_off342_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off342 v345) a + S1x16.size a ≤ S321x128.size a := fun v19 k0_t6 v345 k0_hw24 k0_h6 => k0_hw24.2.1 k0_h6
theorem k0_off344_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off344 v345) a + S1x16.size a ≤ S321x128.size a := fun v19 k0_t6 v345 k0_hw24 k0_h6 => k0_hw24.2.2.1 k0_h6
theorem k0_off346_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off346 v345) a + S1x16.size a ≤ S321x128.size a := fun v19 k0_t6 v345 k0_hw24 k0_h6 => k0_hw24.2.2.2.1 k0_h6
theorem k0_off348_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off348 v345) a + S1x16.size a ≤ S321x128.size a := fun v19 k0_t6 v345 k0_hw24 k0_h6 => k0_hw24.2.2.2.2.1 k0_h6
theorem k0_off350_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off350 v345) a + S1x16.size a ≤ S321x128.size a := fun v19 k0_t6 v345 k0_hw24 k0_h6 => k0_hw24.2.2.2.2.2.1 k0_h6
theorem k0_off352_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off352 v345) a + S1x16.size a ≤ S321x128.size a := fun v19 k0_t6 v345 k0_hw24 k0_h6 => k0_hw24.2.2.2.2.2.2.1 k0_h6
theorem k0_off354_inb : ∀ (v19 : BitVec 32) (k0_t6 : Fin (k0_t6_loop v19).trips) (v345 : BitVec 32) (k0_hw24 : k0_chk24 v19 k0_t6 v345), ∀ (k0_h6 : k0_cond6 v19 k0_t6 = 1#1), ∀ a, (k0_off354 v345) a + S1x16.size a ≤ S321x128.size a := fun v19 k0_t6 v345 k0_hw24 k0_h6 => k0_hw24.2.2.2.2.2.2.2 k0_h6

def k0_off355 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_165 : BitVec 32 := 16#32
  let v346 : BitVec 32 := Scalar.muli arg25 c16_i32_165
  let c4_i32 : BitVec 32 := 4#32
  let v347 : BitVec 32 := Scalar.addi v346 c4_i32
  let v399 : Index := Scalar.indexCast v347
  let c112_188 : Index := 112#32
  ![v399.toNat, 112]
def k0_off356 (v405 : BitVec 32) : Fin 2 → Nat :=
  let v408 : Index := Scalar.indexCast v405
  let c0_191 : Index := 0#32
  ![v408.toNat, 0]

def k0_off357 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v410 : Index := Scalar.indexCast v407
  let c0_192 : Index := 0#32
  ![v410.toNat, 0]
def k0_off358 (v405 : BitVec 32) : Fin 2 → Nat :=
  let v415 : Index := Scalar.indexCast v405
  let c16_194 : Index := 16#32
  ![v415.toNat, 16]
def k0_off359 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v417 : Index := Scalar.indexCast v407
  let c16_195 : Index := 16#32
  ![v417.toNat, 16]
def k0_off360 (v405 : BitVec 32) : Fin 2 → Nat :=
  let v422 : Index := Scalar.indexCast v405
  let c32_197 : Index := 32#32
  ![v422.toNat, 32]
def k0_off361 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v424 : Index := Scalar.indexCast v407
  let c32_198 : Index := 32#32
  ![v424.toNat, 32]
def k0_off362 (v405 : BitVec 32) : Fin 2 → Nat :=
  let v429 : Index := Scalar.indexCast v405
  let c48_200 : Index := 48#32
  ![v429.toNat, 48]
def k0_off363 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v431 : Index := Scalar.indexCast v407
  let c48_201 : Index := 48#32
  ![v431.toNat, 48]
def k0_off364 (v405 : BitVec 32) : Fin 2 → Nat :=
  let v436 : Index := Scalar.indexCast v405
  let c64_203 : Index := 64#32
  ![v436.toNat, 64]
def k0_off365 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v438 : Index := Scalar.indexCast v407
  let c64_204 : Index := 64#32
  ![v438.toNat, 64]
def k0_off366 (v405 : BitVec 32) : Fin 2 → Nat :=
  let v443 : Index := Scalar.indexCast v405
  let c80_206 : Index := 80#32
  ![v443.toNat, 80]
def k0_off367 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v445 : Index := Scalar.indexCast v407
  let c80_207 : Index := 80#32
  ![v445.toNat, 80]
def k0_off368 (v405 : BitVec 32) : Fin 2 → Nat :=
  let v450 : Index := Scalar.indexCast v405
  let c96_209 : Index := 96#32
  ![v450.toNat, 96]
def k0_off369 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v452 : Index := Scalar.indexCast v407
  let c96_210 : Index := 96#32
  ![v452.toNat, 96]
def k0_off370 (v405 : BitVec 32) : Fin 2 → Nat :=
  let v457 : Index := Scalar.indexCast v405
  let c112_212 : Index := 112#32
  ![v457.toNat, 112]

def k0_chk25 (v19 : BitVec 32) (k0_t6 : Fin (k0_t6_loop v19).trips) (v405 : BitVec 32) : Prop :=
  (∀ (k0_h6 : k0_cond6 v19 k0_t6 = 1#1), ∀ a, (k0_off356 v405) a + S1x16.size a ≤ S321x128.size a) ∧
  (∀ (k0_h6 : k0_cond6 v19 k0_t6 = 1#1), ∀ a, (k0_off358 v405) a + S1x16.size a ≤ S321x128.size a) ∧
  (∀ (k0_h6 : k0_cond6 v19 k0_t6 = 1#1), ∀ a, (k0_off360 v405) a + S1x16.size a ≤ S321x128.size a) ∧
  (∀ (k0_h6 : k0_cond6 v19 k0_t6 = 1#1), ∀ a, (k0_off362 v405) a + S1x16.size a ≤ S321x128.size a) ∧
  (∀ (k0_h6 : k0_cond6 v19 k0_t6 = 1#1), ∀ a, (k0_off364 v405) a + S1x16.size a ≤ S321x128.size a) ∧
  (∀ (k0_h6 : k0_cond6 v19 k0_t6 = 1#1), ∀ a, (k0_off366 v405) a + S1x16.size a ≤ S321x128.size a) ∧
  (∀ (k0_h6 : k0_cond6 v19 k0_t6 = 1#1), ∀ a, (k0_off368 v405) a + S1x16.size a ≤ S321x128.size a) ∧
  (∀ (k0_h6 : k0_cond6 v19 k0_t6 = 1#1), ∀ a, (k0_off370 v405) a + S1x16.size a ≤ S321x128.size a)
theorem k0_off356_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off356 v405) a + S1x16.size a ≤ S321x128.size a := fun v19 k0_t6 v405 k0_hw25 k0_h6 => k0_hw25.1 k0_h6
theorem k0_off358_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off358 v405) a + S1x16.size a ≤ S321x128.size a := fun v19 k0_t6 v405 k0_hw25 k0_h6 => k0_hw25.2.1 k0_h6
theorem k0_off360_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off360 v405) a + S1x16.size a ≤ S321x128.size a := fun v19 k0_t6 v405 k0_hw25 k0_h6 => k0_hw25.2.2.1 k0_h6
theorem k0_off362_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off362 v405) a + S1x16.size a ≤ S321x128.size a := fun v19 k0_t6 v405 k0_hw25 k0_h6 => k0_hw25.2.2.2.1 k0_h6
theorem k0_off364_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off364 v405) a + S1x16.size a ≤ S321x128.size a := fun v19 k0_t6 v405 k0_hw25 k0_h6 => k0_hw25.2.2.2.2.1 k0_h6
theorem k0_off366_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off366 v405) a + S1x16.size a ≤ S321x128.size a := fun v19 k0_t6 v405 k0_hw25 k0_h6 => k0_hw25.2.2.2.2.2.1 k0_h6
theorem k0_off368_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off368 v405) a + S1x16.size a ≤ S321x128.size a := fun v19 k0_t6 v405 k0_hw25 k0_h6 => k0_hw25.2.2.2.2.2.2.1 k0_h6
theorem k0_off370_inb : ∀ (v19 : BitVec 32) (k0_t6 : Fin (k0_t6_loop v19).trips) (v405 : BitVec 32) (k0_hw25 : k0_chk25 v19 k0_t6 v405), ∀ (k0_h6 : k0_cond6 v19 k0_t6 = 1#1), ∀ a, (k0_off370 v405) a + S1x16.size a ≤ S321x128.size a := fun v19 k0_t6 v405 k0_hw25 k0_h6 => k0_hw25.2.2.2.2.2.2.2 k0_h6

def k0_off371 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_190 : BitVec 32 := 16#32
  let v406 : BitVec 32 := Scalar.muli arg25 c16_i32_190
  let c5_i32 : BitVec 32 := 5#32
  let v407 : BitVec 32 := Scalar.addi v406 c5_i32
  let v459 : Index := Scalar.indexCast v407
  let c112_213 : Index := 112#32
  ![v459.toNat, 112]
def k0_off372 (v465 : BitVec 32) : Fin 2 → Nat :=
  let v468 : Index := Scalar.indexCast v465
  let c0_216 : Index := 0#32
  ![v468.toNat, 0]

def k0_off373 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v470 : Index := Scalar.indexCast v467
  let c0_217 : Index := 0#32
  ![v470.toNat, 0]
def k0_off374 (v465 : BitVec 32) : Fin 2 → Nat :=
  let v475 : Index := Scalar.indexCast v465
  let c16_219 : Index := 16#32
  ![v475.toNat, 16]
def k0_off375 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v477 : Index := Scalar.indexCast v467
  let c16_220 : Index := 16#32
  ![v477.toNat, 16]
def k0_off376 (v465 : BitVec 32) : Fin 2 → Nat :=
  let v482 : Index := Scalar.indexCast v465
  let c32_222 : Index := 32#32
  ![v482.toNat, 32]
def k0_off377 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v484 : Index := Scalar.indexCast v467
  let c32_223 : Index := 32#32
  ![v484.toNat, 32]
def k0_off378 (v465 : BitVec 32) : Fin 2 → Nat :=
  let v489 : Index := Scalar.indexCast v465
  let c48_225 : Index := 48#32
  ![v489.toNat, 48]
def k0_off379 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v491 : Index := Scalar.indexCast v467
  let c48_226 : Index := 48#32
  ![v491.toNat, 48]
def k0_off380 (v465 : BitVec 32) : Fin 2 → Nat :=
  let v496 : Index := Scalar.indexCast v465
  let c64_228 : Index := 64#32
  ![v496.toNat, 64]
def k0_off381 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v498 : Index := Scalar.indexCast v467
  let c64_229 : Index := 64#32
  ![v498.toNat, 64]
def k0_off382 (v465 : BitVec 32) : Fin 2 → Nat :=
  let v503 : Index := Scalar.indexCast v465
  let c80_231 : Index := 80#32
  ![v503.toNat, 80]
def k0_off383 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v505 : Index := Scalar.indexCast v467
  let c80_232 : Index := 80#32
  ![v505.toNat, 80]
def k0_off384 (v465 : BitVec 32) : Fin 2 → Nat :=
  let v510 : Index := Scalar.indexCast v465
  let c96_234 : Index := 96#32
  ![v510.toNat, 96]
def k0_off385 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v512 : Index := Scalar.indexCast v467
  let c96_235 : Index := 96#32
  ![v512.toNat, 96]
def k0_off386 (v465 : BitVec 32) : Fin 2 → Nat :=
  let v517 : Index := Scalar.indexCast v465
  let c112_237 : Index := 112#32
  ![v517.toNat, 112]

def k0_chk26 (v19 : BitVec 32) (k0_t6 : Fin (k0_t6_loop v19).trips) (v465 : BitVec 32) : Prop :=
  (∀ (k0_h6 : k0_cond6 v19 k0_t6 = 1#1), ∀ a, (k0_off372 v465) a + S1x16.size a ≤ S321x128.size a) ∧
  (∀ (k0_h6 : k0_cond6 v19 k0_t6 = 1#1), ∀ a, (k0_off374 v465) a + S1x16.size a ≤ S321x128.size a) ∧
  (∀ (k0_h6 : k0_cond6 v19 k0_t6 = 1#1), ∀ a, (k0_off376 v465) a + S1x16.size a ≤ S321x128.size a) ∧
  (∀ (k0_h6 : k0_cond6 v19 k0_t6 = 1#1), ∀ a, (k0_off378 v465) a + S1x16.size a ≤ S321x128.size a) ∧
  (∀ (k0_h6 : k0_cond6 v19 k0_t6 = 1#1), ∀ a, (k0_off380 v465) a + S1x16.size a ≤ S321x128.size a) ∧
  (∀ (k0_h6 : k0_cond6 v19 k0_t6 = 1#1), ∀ a, (k0_off382 v465) a + S1x16.size a ≤ S321x128.size a) ∧
  (∀ (k0_h6 : k0_cond6 v19 k0_t6 = 1#1), ∀ a, (k0_off384 v465) a + S1x16.size a ≤ S321x128.size a) ∧
  (∀ (k0_h6 : k0_cond6 v19 k0_t6 = 1#1), ∀ a, (k0_off386 v465) a + S1x16.size a ≤ S321x128.size a)
theorem k0_off372_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off372 v465) a + S1x16.size a ≤ S321x128.size a := fun v19 k0_t6 v465 k0_hw26 k0_h6 => k0_hw26.1 k0_h6
theorem k0_off374_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off374 v465) a + S1x16.size a ≤ S321x128.size a := fun v19 k0_t6 v465 k0_hw26 k0_h6 => k0_hw26.2.1 k0_h6
theorem k0_off376_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off376 v465) a + S1x16.size a ≤ S321x128.size a := fun v19 k0_t6 v465 k0_hw26 k0_h6 => k0_hw26.2.2.1 k0_h6
theorem k0_off378_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off378 v465) a + S1x16.size a ≤ S321x128.size a := fun v19 k0_t6 v465 k0_hw26 k0_h6 => k0_hw26.2.2.2.1 k0_h6
theorem k0_off380_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off380 v465) a + S1x16.size a ≤ S321x128.size a := fun v19 k0_t6 v465 k0_hw26 k0_h6 => k0_hw26.2.2.2.2.1 k0_h6
theorem k0_off382_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off382 v465) a + S1x16.size a ≤ S321x128.size a := fun v19 k0_t6 v465 k0_hw26 k0_h6 => k0_hw26.2.2.2.2.2.1 k0_h6
theorem k0_off384_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off384 v465) a + S1x16.size a ≤ S321x128.size a := fun v19 k0_t6 v465 k0_hw26 k0_h6 => k0_hw26.2.2.2.2.2.2.1 k0_h6
theorem k0_off386_inb : ∀ (v19 : BitVec 32) (k0_t6 : Fin (k0_t6_loop v19).trips) (v465 : BitVec 32) (k0_hw26 : k0_chk26 v19 k0_t6 v465), ∀ (k0_h6 : k0_cond6 v19 k0_t6 = 1#1), ∀ a, (k0_off386 v465) a + S1x16.size a ≤ S321x128.size a := fun v19 k0_t6 v465 k0_hw26 k0_h6 => k0_hw26.2.2.2.2.2.2.2 k0_h6

def k0_off387 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_215 : BitVec 32 := 16#32
  let v466 : BitVec 32 := Scalar.muli arg25 c16_i32_215
  let c6_i32 : BitVec 32 := 6#32
  let v467 : BitVec 32 := Scalar.addi v466 c6_i32
  let v519 : Index := Scalar.indexCast v467
  let c112_238 : Index := 112#32
  ![v519.toNat, 112]
def k0_off388 (v525 : BitVec 32) : Fin 2 → Nat :=
  let v528 : Index := Scalar.indexCast v525
  let c0_241 : Index := 0#32
  ![v528.toNat, 0]

def k0_off389 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v530 : Index := Scalar.indexCast v527
  let c0_242 : Index := 0#32
  ![v530.toNat, 0]
def k0_off390 (v525 : BitVec 32) : Fin 2 → Nat :=
  let v535 : Index := Scalar.indexCast v525
  let c16_244 : Index := 16#32
  ![v535.toNat, 16]
def k0_off391 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v537 : Index := Scalar.indexCast v527
  let c16_245 : Index := 16#32
  ![v537.toNat, 16]
def k0_off392 (v525 : BitVec 32) : Fin 2 → Nat :=
  let v542 : Index := Scalar.indexCast v525
  let c32_247 : Index := 32#32
  ![v542.toNat, 32]
def k0_off393 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v544 : Index := Scalar.indexCast v527
  let c32_248 : Index := 32#32
  ![v544.toNat, 32]
def k0_off394 (v525 : BitVec 32) : Fin 2 → Nat :=
  let v549 : Index := Scalar.indexCast v525
  let c48_250 : Index := 48#32
  ![v549.toNat, 48]
def k0_off395 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v551 : Index := Scalar.indexCast v527
  let c48_251 : Index := 48#32
  ![v551.toNat, 48]
def k0_off396 (v525 : BitVec 32) : Fin 2 → Nat :=
  let v556 : Index := Scalar.indexCast v525
  let c64_253 : Index := 64#32
  ![v556.toNat, 64]
def k0_off397 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v558 : Index := Scalar.indexCast v527
  let c64_254 : Index := 64#32
  ![v558.toNat, 64]
def k0_off398 (v525 : BitVec 32) : Fin 2 → Nat :=
  let v563 : Index := Scalar.indexCast v525
  let c80_256 : Index := 80#32
  ![v563.toNat, 80]
def k0_off399 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v565 : Index := Scalar.indexCast v527
  let c80_257 : Index := 80#32
  ![v565.toNat, 80]
def k0_off400 (v525 : BitVec 32) : Fin 2 → Nat :=
  let v570 : Index := Scalar.indexCast v525
  let c96_259 : Index := 96#32
  ![v570.toNat, 96]
def k0_off401 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v572 : Index := Scalar.indexCast v527
  let c96_260 : Index := 96#32
  ![v572.toNat, 96]
def k0_off402 (v525 : BitVec 32) : Fin 2 → Nat :=
  let v577 : Index := Scalar.indexCast v525
  let c112_262 : Index := 112#32
  ![v577.toNat, 112]

def k0_chk27 (v19 : BitVec 32) (k0_t6 : Fin (k0_t6_loop v19).trips) (v525 : BitVec 32) : Prop :=
  (∀ (k0_h6 : k0_cond6 v19 k0_t6 = 1#1), ∀ a, (k0_off388 v525) a + S1x16.size a ≤ S321x128.size a) ∧
  (∀ (k0_h6 : k0_cond6 v19 k0_t6 = 1#1), ∀ a, (k0_off390 v525) a + S1x16.size a ≤ S321x128.size a) ∧
  (∀ (k0_h6 : k0_cond6 v19 k0_t6 = 1#1), ∀ a, (k0_off392 v525) a + S1x16.size a ≤ S321x128.size a) ∧
  (∀ (k0_h6 : k0_cond6 v19 k0_t6 = 1#1), ∀ a, (k0_off394 v525) a + S1x16.size a ≤ S321x128.size a) ∧
  (∀ (k0_h6 : k0_cond6 v19 k0_t6 = 1#1), ∀ a, (k0_off396 v525) a + S1x16.size a ≤ S321x128.size a) ∧
  (∀ (k0_h6 : k0_cond6 v19 k0_t6 = 1#1), ∀ a, (k0_off398 v525) a + S1x16.size a ≤ S321x128.size a) ∧
  (∀ (k0_h6 : k0_cond6 v19 k0_t6 = 1#1), ∀ a, (k0_off400 v525) a + S1x16.size a ≤ S321x128.size a) ∧
  (∀ (k0_h6 : k0_cond6 v19 k0_t6 = 1#1), ∀ a, (k0_off402 v525) a + S1x16.size a ≤ S321x128.size a)
theorem k0_off388_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off388 v525) a + S1x16.size a ≤ S321x128.size a := fun v19 k0_t6 v525 k0_hw27 k0_h6 => k0_hw27.1 k0_h6
theorem k0_off390_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off390 v525) a + S1x16.size a ≤ S321x128.size a := fun v19 k0_t6 v525 k0_hw27 k0_h6 => k0_hw27.2.1 k0_h6
theorem k0_off392_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off392 v525) a + S1x16.size a ≤ S321x128.size a := fun v19 k0_t6 v525 k0_hw27 k0_h6 => k0_hw27.2.2.1 k0_h6
theorem k0_off394_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off394 v525) a + S1x16.size a ≤ S321x128.size a := fun v19 k0_t6 v525 k0_hw27 k0_h6 => k0_hw27.2.2.2.1 k0_h6
theorem k0_off396_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off396 v525) a + S1x16.size a ≤ S321x128.size a := fun v19 k0_t6 v525 k0_hw27 k0_h6 => k0_hw27.2.2.2.2.1 k0_h6
theorem k0_off398_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off398 v525) a + S1x16.size a ≤ S321x128.size a := fun v19 k0_t6 v525 k0_hw27 k0_h6 => k0_hw27.2.2.2.2.2.1 k0_h6
theorem k0_off400_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off400 v525) a + S1x16.size a ≤ S321x128.size a := fun v19 k0_t6 v525 k0_hw27 k0_h6 => k0_hw27.2.2.2.2.2.2.1 k0_h6
theorem k0_off402_inb : ∀ (v19 : BitVec 32) (k0_t6 : Fin (k0_t6_loop v19).trips) (v525 : BitVec 32) (k0_hw27 : k0_chk27 v19 k0_t6 v525), ∀ (k0_h6 : k0_cond6 v19 k0_t6 = 1#1), ∀ a, (k0_off402 v525) a + S1x16.size a ≤ S321x128.size a := fun v19 k0_t6 v525 k0_hw27 k0_h6 => k0_hw27.2.2.2.2.2.2.2 k0_h6

def k0_off403 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_240 : BitVec 32 := 16#32
  let v526 : BitVec 32 := Scalar.muli arg25 c16_i32_240
  let c7_i32 : BitVec 32 := 7#32
  let v527 : BitVec 32 := Scalar.addi v526 c7_i32
  let v579 : Index := Scalar.indexCast v527
  let c112_263 : Index := 112#32
  ![v579.toNat, 112]
def k0_off404 (v585 : BitVec 32) : Fin 2 → Nat :=
  let v588 : Index := Scalar.indexCast v585
  let c0_267 : Index := 0#32
  ![v588.toNat, 0]

def k0_off405 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v590 : Index := Scalar.indexCast v587
  let c0_268 : Index := 0#32
  ![v590.toNat, 0]
def k0_off406 (v585 : BitVec 32) : Fin 2 → Nat :=
  let v595 : Index := Scalar.indexCast v585
  let c16_270 : Index := 16#32
  ![v595.toNat, 16]
def k0_off407 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v597 : Index := Scalar.indexCast v587
  let c16_271 : Index := 16#32
  ![v597.toNat, 16]
def k0_off408 (v585 : BitVec 32) : Fin 2 → Nat :=
  let v602 : Index := Scalar.indexCast v585
  let c32_273 : Index := 32#32
  ![v602.toNat, 32]
def k0_off409 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v604 : Index := Scalar.indexCast v587
  let c32_274 : Index := 32#32
  ![v604.toNat, 32]
def k0_off410 (v585 : BitVec 32) : Fin 2 → Nat :=
  let v609 : Index := Scalar.indexCast v585
  let c48_276 : Index := 48#32
  ![v609.toNat, 48]
def k0_off411 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v611 : Index := Scalar.indexCast v587
  let c48_277 : Index := 48#32
  ![v611.toNat, 48]
def k0_off412 (v585 : BitVec 32) : Fin 2 → Nat :=
  let v616 : Index := Scalar.indexCast v585
  let c64_279 : Index := 64#32
  ![v616.toNat, 64]
def k0_off413 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v618 : Index := Scalar.indexCast v587
  let c64_280 : Index := 64#32
  ![v618.toNat, 64]
def k0_off414 (v585 : BitVec 32) : Fin 2 → Nat :=
  let v623 : Index := Scalar.indexCast v585
  let c80_282 : Index := 80#32
  ![v623.toNat, 80]
def k0_off415 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v625 : Index := Scalar.indexCast v587
  let c80_283 : Index := 80#32
  ![v625.toNat, 80]
def k0_off416 (v585 : BitVec 32) : Fin 2 → Nat :=
  let v630 : Index := Scalar.indexCast v585
  let c96_285 : Index := 96#32
  ![v630.toNat, 96]
def k0_off417 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v632 : Index := Scalar.indexCast v587
  let c96_286 : Index := 96#32
  ![v632.toNat, 96]
def k0_off418 (v585 : BitVec 32) : Fin 2 → Nat :=
  let v637 : Index := Scalar.indexCast v585
  let c112_288 : Index := 112#32
  ![v637.toNat, 112]

def k0_chk28 (v19 : BitVec 32) (k0_t6 : Fin (k0_t6_loop v19).trips) (v585 : BitVec 32) : Prop :=
  (∀ (k0_h6 : k0_cond6 v19 k0_t6 = 1#1), ∀ a, (k0_off404 v585) a + S1x16.size a ≤ S321x128.size a) ∧
  (∀ (k0_h6 : k0_cond6 v19 k0_t6 = 1#1), ∀ a, (k0_off406 v585) a + S1x16.size a ≤ S321x128.size a) ∧
  (∀ (k0_h6 : k0_cond6 v19 k0_t6 = 1#1), ∀ a, (k0_off408 v585) a + S1x16.size a ≤ S321x128.size a) ∧
  (∀ (k0_h6 : k0_cond6 v19 k0_t6 = 1#1), ∀ a, (k0_off410 v585) a + S1x16.size a ≤ S321x128.size a) ∧
  (∀ (k0_h6 : k0_cond6 v19 k0_t6 = 1#1), ∀ a, (k0_off412 v585) a + S1x16.size a ≤ S321x128.size a) ∧
  (∀ (k0_h6 : k0_cond6 v19 k0_t6 = 1#1), ∀ a, (k0_off414 v585) a + S1x16.size a ≤ S321x128.size a) ∧
  (∀ (k0_h6 : k0_cond6 v19 k0_t6 = 1#1), ∀ a, (k0_off416 v585) a + S1x16.size a ≤ S321x128.size a) ∧
  (∀ (k0_h6 : k0_cond6 v19 k0_t6 = 1#1), ∀ a, (k0_off418 v585) a + S1x16.size a ≤ S321x128.size a)
theorem k0_off404_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off404 v585) a + S1x16.size a ≤ S321x128.size a := fun v19 k0_t6 v585 k0_hw28 k0_h6 => k0_hw28.1 k0_h6
theorem k0_off406_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off406 v585) a + S1x16.size a ≤ S321x128.size a := fun v19 k0_t6 v585 k0_hw28 k0_h6 => k0_hw28.2.1 k0_h6
theorem k0_off408_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off408 v585) a + S1x16.size a ≤ S321x128.size a := fun v19 k0_t6 v585 k0_hw28 k0_h6 => k0_hw28.2.2.1 k0_h6
theorem k0_off410_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off410 v585) a + S1x16.size a ≤ S321x128.size a := fun v19 k0_t6 v585 k0_hw28 k0_h6 => k0_hw28.2.2.2.1 k0_h6
theorem k0_off412_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off412 v585) a + S1x16.size a ≤ S321x128.size a := fun v19 k0_t6 v585 k0_hw28 k0_h6 => k0_hw28.2.2.2.2.1 k0_h6
theorem k0_off414_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off414 v585) a + S1x16.size a ≤ S321x128.size a := fun v19 k0_t6 v585 k0_hw28 k0_h6 => k0_hw28.2.2.2.2.2.1 k0_h6
theorem k0_off416_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off416 v585) a + S1x16.size a ≤ S321x128.size a := fun v19 k0_t6 v585 k0_hw28 k0_h6 => k0_hw28.2.2.2.2.2.2.1 k0_h6
theorem k0_off418_inb : ∀ (v19 : BitVec 32) (k0_t6 : Fin (k0_t6_loop v19).trips) (v585 : BitVec 32) (k0_hw28 : k0_chk28 v19 k0_t6 v585), ∀ (k0_h6 : k0_cond6 v19 k0_t6 = 1#1), ∀ a, (k0_off418 v585) a + S1x16.size a ≤ S321x128.size a := fun v19 k0_t6 v585 k0_hw28 k0_h6 => k0_hw28.2.2.2.2.2.2.2 k0_h6

def k0_off419 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_265 : BitVec 32 := 16#32
  let v586 : BitVec 32 := Scalar.muli arg25 c16_i32_265
  let c8_i32_266 : BitVec 32 := 8#32
  let v587 : BitVec 32 := Scalar.addi v586 c8_i32_266
  let v639 : Index := Scalar.indexCast v587
  let c112_289 : Index := 112#32
  ![v639.toNat, 112]
def k0_off420 (v645 : BitVec 32) : Fin 2 → Nat :=
  let v648 : Index := Scalar.indexCast v645
  let c0_292 : Index := 0#32
  ![v648.toNat, 0]

def k0_off421 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v650 : Index := Scalar.indexCast v647
  let c0_293 : Index := 0#32
  ![v650.toNat, 0]
def k0_off422 (v645 : BitVec 32) : Fin 2 → Nat :=
  let v655 : Index := Scalar.indexCast v645
  let c16_295 : Index := 16#32
  ![v655.toNat, 16]
def k0_off423 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v657 : Index := Scalar.indexCast v647
  let c16_296 : Index := 16#32
  ![v657.toNat, 16]
def k0_off424 (v645 : BitVec 32) : Fin 2 → Nat :=
  let v662 : Index := Scalar.indexCast v645
  let c32_298 : Index := 32#32
  ![v662.toNat, 32]
def k0_off425 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v664 : Index := Scalar.indexCast v647
  let c32_299 : Index := 32#32
  ![v664.toNat, 32]
def k0_off426 (v645 : BitVec 32) : Fin 2 → Nat :=
  let v669 : Index := Scalar.indexCast v645
  let c48_301 : Index := 48#32
  ![v669.toNat, 48]
def k0_off427 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v671 : Index := Scalar.indexCast v647
  let c48_302 : Index := 48#32
  ![v671.toNat, 48]
def k0_off428 (v645 : BitVec 32) : Fin 2 → Nat :=
  let v676 : Index := Scalar.indexCast v645
  let c64_304 : Index := 64#32
  ![v676.toNat, 64]
def k0_off429 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v678 : Index := Scalar.indexCast v647
  let c64_305 : Index := 64#32
  ![v678.toNat, 64]
def k0_off430 (v645 : BitVec 32) : Fin 2 → Nat :=
  let v683 : Index := Scalar.indexCast v645
  let c80_307 : Index := 80#32
  ![v683.toNat, 80]
def k0_off431 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v685 : Index := Scalar.indexCast v647
  let c80_308 : Index := 80#32
  ![v685.toNat, 80]
def k0_off432 (v645 : BitVec 32) : Fin 2 → Nat :=
  let v690 : Index := Scalar.indexCast v645
  let c96_310 : Index := 96#32
  ![v690.toNat, 96]
def k0_off433 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v692 : Index := Scalar.indexCast v647
  let c96_311 : Index := 96#32
  ![v692.toNat, 96]
def k0_off434 (v645 : BitVec 32) : Fin 2 → Nat :=
  let v697 : Index := Scalar.indexCast v645
  let c112_313 : Index := 112#32
  ![v697.toNat, 112]

def k0_chk29 (v19 : BitVec 32) (k0_t6 : Fin (k0_t6_loop v19).trips) (v645 : BitVec 32) : Prop :=
  (∀ (k0_h6 : k0_cond6 v19 k0_t6 = 1#1), ∀ a, (k0_off420 v645) a + S1x16.size a ≤ S321x128.size a) ∧
  (∀ (k0_h6 : k0_cond6 v19 k0_t6 = 1#1), ∀ a, (k0_off422 v645) a + S1x16.size a ≤ S321x128.size a) ∧
  (∀ (k0_h6 : k0_cond6 v19 k0_t6 = 1#1), ∀ a, (k0_off424 v645) a + S1x16.size a ≤ S321x128.size a) ∧
  (∀ (k0_h6 : k0_cond6 v19 k0_t6 = 1#1), ∀ a, (k0_off426 v645) a + S1x16.size a ≤ S321x128.size a) ∧
  (∀ (k0_h6 : k0_cond6 v19 k0_t6 = 1#1), ∀ a, (k0_off428 v645) a + S1x16.size a ≤ S321x128.size a) ∧
  (∀ (k0_h6 : k0_cond6 v19 k0_t6 = 1#1), ∀ a, (k0_off430 v645) a + S1x16.size a ≤ S321x128.size a) ∧
  (∀ (k0_h6 : k0_cond6 v19 k0_t6 = 1#1), ∀ a, (k0_off432 v645) a + S1x16.size a ≤ S321x128.size a) ∧
  (∀ (k0_h6 : k0_cond6 v19 k0_t6 = 1#1), ∀ a, (k0_off434 v645) a + S1x16.size a ≤ S321x128.size a)
theorem k0_off420_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off420 v645) a + S1x16.size a ≤ S321x128.size a := fun v19 k0_t6 v645 k0_hw29 k0_h6 => k0_hw29.1 k0_h6
theorem k0_off422_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off422 v645) a + S1x16.size a ≤ S321x128.size a := fun v19 k0_t6 v645 k0_hw29 k0_h6 => k0_hw29.2.1 k0_h6
theorem k0_off424_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off424 v645) a + S1x16.size a ≤ S321x128.size a := fun v19 k0_t6 v645 k0_hw29 k0_h6 => k0_hw29.2.2.1 k0_h6
theorem k0_off426_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off426 v645) a + S1x16.size a ≤ S321x128.size a := fun v19 k0_t6 v645 k0_hw29 k0_h6 => k0_hw29.2.2.2.1 k0_h6
theorem k0_off428_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off428 v645) a + S1x16.size a ≤ S321x128.size a := fun v19 k0_t6 v645 k0_hw29 k0_h6 => k0_hw29.2.2.2.2.1 k0_h6
theorem k0_off430_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off430 v645) a + S1x16.size a ≤ S321x128.size a := fun v19 k0_t6 v645 k0_hw29 k0_h6 => k0_hw29.2.2.2.2.2.1 k0_h6
theorem k0_off432_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off432 v645) a + S1x16.size a ≤ S321x128.size a := fun v19 k0_t6 v645 k0_hw29 k0_h6 => k0_hw29.2.2.2.2.2.2.1 k0_h6
theorem k0_off434_inb : ∀ (v19 : BitVec 32) (k0_t6 : Fin (k0_t6_loop v19).trips) (v645 : BitVec 32) (k0_hw29 : k0_chk29 v19 k0_t6 v645), ∀ (k0_h6 : k0_cond6 v19 k0_t6 = 1#1), ∀ a, (k0_off434 v645) a + S1x16.size a ≤ S321x128.size a := fun v19 k0_t6 v645 k0_hw29 k0_h6 => k0_hw29.2.2.2.2.2.2.2 k0_h6

def k0_off435 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_291 : BitVec 32 := 16#32
  let v646 : BitVec 32 := Scalar.muli arg25 c16_i32_291
  let c9_i32 : BitVec 32 := 9#32
  let v647 : BitVec 32 := Scalar.addi v646 c9_i32
  let v699 : Index := Scalar.indexCast v647
  let c112_314 : Index := 112#32
  ![v699.toNat, 112]
def k0_off436 (v705 : BitVec 32) : Fin 2 → Nat :=
  let v708 : Index := Scalar.indexCast v705
  let c0_317 : Index := 0#32
  ![v708.toNat, 0]

def k0_off437 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v710 : Index := Scalar.indexCast v707
  let c0_318 : Index := 0#32
  ![v710.toNat, 0]
def k0_off438 (v705 : BitVec 32) : Fin 2 → Nat :=
  let v715 : Index := Scalar.indexCast v705
  let c16_320 : Index := 16#32
  ![v715.toNat, 16]
def k0_off439 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v717 : Index := Scalar.indexCast v707
  let c16_321 : Index := 16#32
  ![v717.toNat, 16]
def k0_off440 (v705 : BitVec 32) : Fin 2 → Nat :=
  let v722 : Index := Scalar.indexCast v705
  let c32_323 : Index := 32#32
  ![v722.toNat, 32]
def k0_off441 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v724 : Index := Scalar.indexCast v707
  let c32_324 : Index := 32#32
  ![v724.toNat, 32]
def k0_off442 (v705 : BitVec 32) : Fin 2 → Nat :=
  let v729 : Index := Scalar.indexCast v705
  let c48_326 : Index := 48#32
  ![v729.toNat, 48]
def k0_off443 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v731 : Index := Scalar.indexCast v707
  let c48_327 : Index := 48#32
  ![v731.toNat, 48]
def k0_off444 (v705 : BitVec 32) : Fin 2 → Nat :=
  let v736 : Index := Scalar.indexCast v705
  let c64_329 : Index := 64#32
  ![v736.toNat, 64]
def k0_off445 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v738 : Index := Scalar.indexCast v707
  let c64_330 : Index := 64#32
  ![v738.toNat, 64]
def k0_off446 (v705 : BitVec 32) : Fin 2 → Nat :=
  let v743 : Index := Scalar.indexCast v705
  let c80_332 : Index := 80#32
  ![v743.toNat, 80]
def k0_off447 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v745 : Index := Scalar.indexCast v707
  let c80_333 : Index := 80#32
  ![v745.toNat, 80]
def k0_off448 (v705 : BitVec 32) : Fin 2 → Nat :=
  let v750 : Index := Scalar.indexCast v705
  let c96_335 : Index := 96#32
  ![v750.toNat, 96]
def k0_off449 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v752 : Index := Scalar.indexCast v707
  let c96_336 : Index := 96#32
  ![v752.toNat, 96]
def k0_off450 (v705 : BitVec 32) : Fin 2 → Nat :=
  let v757 : Index := Scalar.indexCast v705
  let c112_338 : Index := 112#32
  ![v757.toNat, 112]

def k0_chk30 (v19 : BitVec 32) (k0_t6 : Fin (k0_t6_loop v19).trips) (v705 : BitVec 32) : Prop :=
  (∀ (k0_h6 : k0_cond6 v19 k0_t6 = 1#1), ∀ a, (k0_off436 v705) a + S1x16.size a ≤ S321x128.size a) ∧
  (∀ (k0_h6 : k0_cond6 v19 k0_t6 = 1#1), ∀ a, (k0_off438 v705) a + S1x16.size a ≤ S321x128.size a) ∧
  (∀ (k0_h6 : k0_cond6 v19 k0_t6 = 1#1), ∀ a, (k0_off440 v705) a + S1x16.size a ≤ S321x128.size a) ∧
  (∀ (k0_h6 : k0_cond6 v19 k0_t6 = 1#1), ∀ a, (k0_off442 v705) a + S1x16.size a ≤ S321x128.size a) ∧
  (∀ (k0_h6 : k0_cond6 v19 k0_t6 = 1#1), ∀ a, (k0_off444 v705) a + S1x16.size a ≤ S321x128.size a) ∧
  (∀ (k0_h6 : k0_cond6 v19 k0_t6 = 1#1), ∀ a, (k0_off446 v705) a + S1x16.size a ≤ S321x128.size a) ∧
  (∀ (k0_h6 : k0_cond6 v19 k0_t6 = 1#1), ∀ a, (k0_off448 v705) a + S1x16.size a ≤ S321x128.size a) ∧
  (∀ (k0_h6 : k0_cond6 v19 k0_t6 = 1#1), ∀ a, (k0_off450 v705) a + S1x16.size a ≤ S321x128.size a)
theorem k0_off436_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off436 v705) a + S1x16.size a ≤ S321x128.size a := fun v19 k0_t6 v705 k0_hw30 k0_h6 => k0_hw30.1 k0_h6
theorem k0_off438_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off438 v705) a + S1x16.size a ≤ S321x128.size a := fun v19 k0_t6 v705 k0_hw30 k0_h6 => k0_hw30.2.1 k0_h6
theorem k0_off440_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off440 v705) a + S1x16.size a ≤ S321x128.size a := fun v19 k0_t6 v705 k0_hw30 k0_h6 => k0_hw30.2.2.1 k0_h6
theorem k0_off442_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off442 v705) a + S1x16.size a ≤ S321x128.size a := fun v19 k0_t6 v705 k0_hw30 k0_h6 => k0_hw30.2.2.2.1 k0_h6
theorem k0_off444_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off444 v705) a + S1x16.size a ≤ S321x128.size a := fun v19 k0_t6 v705 k0_hw30 k0_h6 => k0_hw30.2.2.2.2.1 k0_h6
theorem k0_off446_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off446 v705) a + S1x16.size a ≤ S321x128.size a := fun v19 k0_t6 v705 k0_hw30 k0_h6 => k0_hw30.2.2.2.2.2.1 k0_h6
theorem k0_off448_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off448 v705) a + S1x16.size a ≤ S321x128.size a := fun v19 k0_t6 v705 k0_hw30 k0_h6 => k0_hw30.2.2.2.2.2.2.1 k0_h6
theorem k0_off450_inb : ∀ (v19 : BitVec 32) (k0_t6 : Fin (k0_t6_loop v19).trips) (v705 : BitVec 32) (k0_hw30 : k0_chk30 v19 k0_t6 v705), ∀ (k0_h6 : k0_cond6 v19 k0_t6 = 1#1), ∀ a, (k0_off450 v705) a + S1x16.size a ≤ S321x128.size a := fun v19 k0_t6 v705 k0_hw30 k0_h6 => k0_hw30.2.2.2.2.2.2.2 k0_h6

def k0_off451 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_316 : BitVec 32 := 16#32
  let v706 : BitVec 32 := Scalar.muli arg25 c16_i32_316
  let c10_i32 : BitVec 32 := 10#32
  let v707 : BitVec 32 := Scalar.addi v706 c10_i32
  let v759 : Index := Scalar.indexCast v707
  let c112_339 : Index := 112#32
  ![v759.toNat, 112]
def k0_off452 (v765 : BitVec 32) : Fin 2 → Nat :=
  let v768 : Index := Scalar.indexCast v765
  let c0_342 : Index := 0#32
  ![v768.toNat, 0]

def k0_off453 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v770 : Index := Scalar.indexCast v767
  let c0_343 : Index := 0#32
  ![v770.toNat, 0]
def k0_off454 (v765 : BitVec 32) : Fin 2 → Nat :=
  let v775 : Index := Scalar.indexCast v765
  let c16_345 : Index := 16#32
  ![v775.toNat, 16]
def k0_off455 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v777 : Index := Scalar.indexCast v767
  let c16_346 : Index := 16#32
  ![v777.toNat, 16]
def k0_off456 (v765 : BitVec 32) : Fin 2 → Nat :=
  let v782 : Index := Scalar.indexCast v765
  let c32_348 : Index := 32#32
  ![v782.toNat, 32]
def k0_off457 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v784 : Index := Scalar.indexCast v767
  let c32_349 : Index := 32#32
  ![v784.toNat, 32]
def k0_off458 (v765 : BitVec 32) : Fin 2 → Nat :=
  let v789 : Index := Scalar.indexCast v765
  let c48_351 : Index := 48#32
  ![v789.toNat, 48]
def k0_off459 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v791 : Index := Scalar.indexCast v767
  let c48_352 : Index := 48#32
  ![v791.toNat, 48]
def k0_off460 (v765 : BitVec 32) : Fin 2 → Nat :=
  let v796 : Index := Scalar.indexCast v765
  let c64_354 : Index := 64#32
  ![v796.toNat, 64]
def k0_off461 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v798 : Index := Scalar.indexCast v767
  let c64_355 : Index := 64#32
  ![v798.toNat, 64]
def k0_off462 (v765 : BitVec 32) : Fin 2 → Nat :=
  let v803 : Index := Scalar.indexCast v765
  let c80_357 : Index := 80#32
  ![v803.toNat, 80]
def k0_off463 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v805 : Index := Scalar.indexCast v767
  let c80_358 : Index := 80#32
  ![v805.toNat, 80]
def k0_off464 (v765 : BitVec 32) : Fin 2 → Nat :=
  let v810 : Index := Scalar.indexCast v765
  let c96_360 : Index := 96#32
  ![v810.toNat, 96]
def k0_off465 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v812 : Index := Scalar.indexCast v767
  let c96_361 : Index := 96#32
  ![v812.toNat, 96]
def k0_off466 (v765 : BitVec 32) : Fin 2 → Nat :=
  let v817 : Index := Scalar.indexCast v765
  let c112_363 : Index := 112#32
  ![v817.toNat, 112]

def k0_chk31 (v19 : BitVec 32) (k0_t6 : Fin (k0_t6_loop v19).trips) (v765 : BitVec 32) : Prop :=
  (∀ (k0_h6 : k0_cond6 v19 k0_t6 = 1#1), ∀ a, (k0_off452 v765) a + S1x16.size a ≤ S321x128.size a) ∧
  (∀ (k0_h6 : k0_cond6 v19 k0_t6 = 1#1), ∀ a, (k0_off454 v765) a + S1x16.size a ≤ S321x128.size a) ∧
  (∀ (k0_h6 : k0_cond6 v19 k0_t6 = 1#1), ∀ a, (k0_off456 v765) a + S1x16.size a ≤ S321x128.size a) ∧
  (∀ (k0_h6 : k0_cond6 v19 k0_t6 = 1#1), ∀ a, (k0_off458 v765) a + S1x16.size a ≤ S321x128.size a) ∧
  (∀ (k0_h6 : k0_cond6 v19 k0_t6 = 1#1), ∀ a, (k0_off460 v765) a + S1x16.size a ≤ S321x128.size a) ∧
  (∀ (k0_h6 : k0_cond6 v19 k0_t6 = 1#1), ∀ a, (k0_off462 v765) a + S1x16.size a ≤ S321x128.size a) ∧
  (∀ (k0_h6 : k0_cond6 v19 k0_t6 = 1#1), ∀ a, (k0_off464 v765) a + S1x16.size a ≤ S321x128.size a) ∧
  (∀ (k0_h6 : k0_cond6 v19 k0_t6 = 1#1), ∀ a, (k0_off466 v765) a + S1x16.size a ≤ S321x128.size a)
theorem k0_off452_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off452 v765) a + S1x16.size a ≤ S321x128.size a := fun v19 k0_t6 v765 k0_hw31 k0_h6 => k0_hw31.1 k0_h6
theorem k0_off454_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off454 v765) a + S1x16.size a ≤ S321x128.size a := fun v19 k0_t6 v765 k0_hw31 k0_h6 => k0_hw31.2.1 k0_h6
theorem k0_off456_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off456 v765) a + S1x16.size a ≤ S321x128.size a := fun v19 k0_t6 v765 k0_hw31 k0_h6 => k0_hw31.2.2.1 k0_h6
theorem k0_off458_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off458 v765) a + S1x16.size a ≤ S321x128.size a := fun v19 k0_t6 v765 k0_hw31 k0_h6 => k0_hw31.2.2.2.1 k0_h6
theorem k0_off460_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off460 v765) a + S1x16.size a ≤ S321x128.size a := fun v19 k0_t6 v765 k0_hw31 k0_h6 => k0_hw31.2.2.2.2.1 k0_h6
theorem k0_off462_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off462 v765) a + S1x16.size a ≤ S321x128.size a := fun v19 k0_t6 v765 k0_hw31 k0_h6 => k0_hw31.2.2.2.2.2.1 k0_h6
theorem k0_off464_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off464 v765) a + S1x16.size a ≤ S321x128.size a := fun v19 k0_t6 v765 k0_hw31 k0_h6 => k0_hw31.2.2.2.2.2.2.1 k0_h6
theorem k0_off466_inb : ∀ (v19 : BitVec 32) (k0_t6 : Fin (k0_t6_loop v19).trips) (v765 : BitVec 32) (k0_hw31 : k0_chk31 v19 k0_t6 v765), ∀ (k0_h6 : k0_cond6 v19 k0_t6 = 1#1), ∀ a, (k0_off466 v765) a + S1x16.size a ≤ S321x128.size a := fun v19 k0_t6 v765 k0_hw31 k0_h6 => k0_hw31.2.2.2.2.2.2.2 k0_h6

def k0_off467 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_341 : BitVec 32 := 16#32
  let v766 : BitVec 32 := Scalar.muli arg25 c16_i32_341
  let c11_i32 : BitVec 32 := 11#32
  let v767 : BitVec 32 := Scalar.addi v766 c11_i32
  let v819 : Index := Scalar.indexCast v767
  let c112_364 : Index := 112#32
  ![v819.toNat, 112]
def k0_off468 (v825 : BitVec 32) : Fin 2 → Nat :=
  let v828 : Index := Scalar.indexCast v825
  let c0_367 : Index := 0#32
  ![v828.toNat, 0]

def k0_off469 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v830 : Index := Scalar.indexCast v827
  let c0_368 : Index := 0#32
  ![v830.toNat, 0]
def k0_off470 (v825 : BitVec 32) : Fin 2 → Nat :=
  let v835 : Index := Scalar.indexCast v825
  let c16_370 : Index := 16#32
  ![v835.toNat, 16]
def k0_off471 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v837 : Index := Scalar.indexCast v827
  let c16_371 : Index := 16#32
  ![v837.toNat, 16]
def k0_off472 (v825 : BitVec 32) : Fin 2 → Nat :=
  let v842 : Index := Scalar.indexCast v825
  let c32_373 : Index := 32#32
  ![v842.toNat, 32]
def k0_off473 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v844 : Index := Scalar.indexCast v827
  let c32_374 : Index := 32#32
  ![v844.toNat, 32]
def k0_off474 (v825 : BitVec 32) : Fin 2 → Nat :=
  let v849 : Index := Scalar.indexCast v825
  let c48_376 : Index := 48#32
  ![v849.toNat, 48]
def k0_off475 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v851 : Index := Scalar.indexCast v827
  let c48_377 : Index := 48#32
  ![v851.toNat, 48]
def k0_off476 (v825 : BitVec 32) : Fin 2 → Nat :=
  let v856 : Index := Scalar.indexCast v825
  let c64_379 : Index := 64#32
  ![v856.toNat, 64]
def k0_off477 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v858 : Index := Scalar.indexCast v827
  let c64_380 : Index := 64#32
  ![v858.toNat, 64]
def k0_off478 (v825 : BitVec 32) : Fin 2 → Nat :=
  let v863 : Index := Scalar.indexCast v825
  let c80_382 : Index := 80#32
  ![v863.toNat, 80]
def k0_off479 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v865 : Index := Scalar.indexCast v827
  let c80_383 : Index := 80#32
  ![v865.toNat, 80]
def k0_off480 (v825 : BitVec 32) : Fin 2 → Nat :=
  let v870 : Index := Scalar.indexCast v825
  let c96_385 : Index := 96#32
  ![v870.toNat, 96]
def k0_off481 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v872 : Index := Scalar.indexCast v827
  let c96_386 : Index := 96#32
  ![v872.toNat, 96]
def k0_off482 (v825 : BitVec 32) : Fin 2 → Nat :=
  let v877 : Index := Scalar.indexCast v825
  let c112_388 : Index := 112#32
  ![v877.toNat, 112]

def k0_chk32 (v19 : BitVec 32) (k0_t6 : Fin (k0_t6_loop v19).trips) (v825 : BitVec 32) : Prop :=
  (∀ (k0_h6 : k0_cond6 v19 k0_t6 = 1#1), ∀ a, (k0_off468 v825) a + S1x16.size a ≤ S321x128.size a) ∧
  (∀ (k0_h6 : k0_cond6 v19 k0_t6 = 1#1), ∀ a, (k0_off470 v825) a + S1x16.size a ≤ S321x128.size a) ∧
  (∀ (k0_h6 : k0_cond6 v19 k0_t6 = 1#1), ∀ a, (k0_off472 v825) a + S1x16.size a ≤ S321x128.size a) ∧
  (∀ (k0_h6 : k0_cond6 v19 k0_t6 = 1#1), ∀ a, (k0_off474 v825) a + S1x16.size a ≤ S321x128.size a) ∧
  (∀ (k0_h6 : k0_cond6 v19 k0_t6 = 1#1), ∀ a, (k0_off476 v825) a + S1x16.size a ≤ S321x128.size a) ∧
  (∀ (k0_h6 : k0_cond6 v19 k0_t6 = 1#1), ∀ a, (k0_off478 v825) a + S1x16.size a ≤ S321x128.size a) ∧
  (∀ (k0_h6 : k0_cond6 v19 k0_t6 = 1#1), ∀ a, (k0_off480 v825) a + S1x16.size a ≤ S321x128.size a) ∧
  (∀ (k0_h6 : k0_cond6 v19 k0_t6 = 1#1), ∀ a, (k0_off482 v825) a + S1x16.size a ≤ S321x128.size a)
theorem k0_off468_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off468 v825) a + S1x16.size a ≤ S321x128.size a := fun v19 k0_t6 v825 k0_hw32 k0_h6 => k0_hw32.1 k0_h6
theorem k0_off470_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off470 v825) a + S1x16.size a ≤ S321x128.size a := fun v19 k0_t6 v825 k0_hw32 k0_h6 => k0_hw32.2.1 k0_h6
theorem k0_off472_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off472 v825) a + S1x16.size a ≤ S321x128.size a := fun v19 k0_t6 v825 k0_hw32 k0_h6 => k0_hw32.2.2.1 k0_h6
theorem k0_off474_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off474 v825) a + S1x16.size a ≤ S321x128.size a := fun v19 k0_t6 v825 k0_hw32 k0_h6 => k0_hw32.2.2.2.1 k0_h6
theorem k0_off476_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off476 v825) a + S1x16.size a ≤ S321x128.size a := fun v19 k0_t6 v825 k0_hw32 k0_h6 => k0_hw32.2.2.2.2.1 k0_h6
theorem k0_off478_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off478 v825) a + S1x16.size a ≤ S321x128.size a := fun v19 k0_t6 v825 k0_hw32 k0_h6 => k0_hw32.2.2.2.2.2.1 k0_h6
theorem k0_off480_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off480 v825) a + S1x16.size a ≤ S321x128.size a := fun v19 k0_t6 v825 k0_hw32 k0_h6 => k0_hw32.2.2.2.2.2.2.1 k0_h6
theorem k0_off482_inb : ∀ (v19 : BitVec 32) (k0_t6 : Fin (k0_t6_loop v19).trips) (v825 : BitVec 32) (k0_hw32 : k0_chk32 v19 k0_t6 v825), ∀ (k0_h6 : k0_cond6 v19 k0_t6 = 1#1), ∀ a, (k0_off482 v825) a + S1x16.size a ≤ S321x128.size a := fun v19 k0_t6 v825 k0_hw32 k0_h6 => k0_hw32.2.2.2.2.2.2.2 k0_h6

def k0_off483 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_366 : BitVec 32 := 16#32
  let v826 : BitVec 32 := Scalar.muli arg25 c16_i32_366
  let c12_i32 : BitVec 32 := 12#32
  let v827 : BitVec 32 := Scalar.addi v826 c12_i32
  let v879 : Index := Scalar.indexCast v827
  let c112_389 : Index := 112#32
  ![v879.toNat, 112]
def k0_off484 (v885 : BitVec 32) : Fin 2 → Nat :=
  let v888 : Index := Scalar.indexCast v885
  let c0_392 : Index := 0#32
  ![v888.toNat, 0]

def k0_off485 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v890 : Index := Scalar.indexCast v887
  let c0_393 : Index := 0#32
  ![v890.toNat, 0]
def k0_off486 (v885 : BitVec 32) : Fin 2 → Nat :=
  let v895 : Index := Scalar.indexCast v885
  let c16_395 : Index := 16#32
  ![v895.toNat, 16]
def k0_off487 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v897 : Index := Scalar.indexCast v887
  let c16_396 : Index := 16#32
  ![v897.toNat, 16]
def k0_off488 (v885 : BitVec 32) : Fin 2 → Nat :=
  let v902 : Index := Scalar.indexCast v885
  let c32_398 : Index := 32#32
  ![v902.toNat, 32]
def k0_off489 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v904 : Index := Scalar.indexCast v887
  let c32_399 : Index := 32#32
  ![v904.toNat, 32]
def k0_off490 (v885 : BitVec 32) : Fin 2 → Nat :=
  let v909 : Index := Scalar.indexCast v885
  let c48_401 : Index := 48#32
  ![v909.toNat, 48]
def k0_off491 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v911 : Index := Scalar.indexCast v887
  let c48_402 : Index := 48#32
  ![v911.toNat, 48]
def k0_off492 (v885 : BitVec 32) : Fin 2 → Nat :=
  let v916 : Index := Scalar.indexCast v885
  let c64_404 : Index := 64#32
  ![v916.toNat, 64]
def k0_off493 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v918 : Index := Scalar.indexCast v887
  let c64_405 : Index := 64#32
  ![v918.toNat, 64]
def k0_off494 (v885 : BitVec 32) : Fin 2 → Nat :=
  let v923 : Index := Scalar.indexCast v885
  let c80_407 : Index := 80#32
  ![v923.toNat, 80]
def k0_off495 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v925 : Index := Scalar.indexCast v887
  let c80_408 : Index := 80#32
  ![v925.toNat, 80]
def k0_off496 (v885 : BitVec 32) : Fin 2 → Nat :=
  let v930 : Index := Scalar.indexCast v885
  let c96_410 : Index := 96#32
  ![v930.toNat, 96]
def k0_off497 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v932 : Index := Scalar.indexCast v887
  let c96_411 : Index := 96#32
  ![v932.toNat, 96]
def k0_off498 (v885 : BitVec 32) : Fin 2 → Nat :=
  let v937 : Index := Scalar.indexCast v885
  let c112_413 : Index := 112#32
  ![v937.toNat, 112]

def k0_chk33 (v19 : BitVec 32) (k0_t6 : Fin (k0_t6_loop v19).trips) (v885 : BitVec 32) : Prop :=
  (∀ (k0_h6 : k0_cond6 v19 k0_t6 = 1#1), ∀ a, (k0_off484 v885) a + S1x16.size a ≤ S321x128.size a) ∧
  (∀ (k0_h6 : k0_cond6 v19 k0_t6 = 1#1), ∀ a, (k0_off486 v885) a + S1x16.size a ≤ S321x128.size a) ∧
  (∀ (k0_h6 : k0_cond6 v19 k0_t6 = 1#1), ∀ a, (k0_off488 v885) a + S1x16.size a ≤ S321x128.size a) ∧
  (∀ (k0_h6 : k0_cond6 v19 k0_t6 = 1#1), ∀ a, (k0_off490 v885) a + S1x16.size a ≤ S321x128.size a) ∧
  (∀ (k0_h6 : k0_cond6 v19 k0_t6 = 1#1), ∀ a, (k0_off492 v885) a + S1x16.size a ≤ S321x128.size a) ∧
  (∀ (k0_h6 : k0_cond6 v19 k0_t6 = 1#1), ∀ a, (k0_off494 v885) a + S1x16.size a ≤ S321x128.size a) ∧
  (∀ (k0_h6 : k0_cond6 v19 k0_t6 = 1#1), ∀ a, (k0_off496 v885) a + S1x16.size a ≤ S321x128.size a) ∧
  (∀ (k0_h6 : k0_cond6 v19 k0_t6 = 1#1), ∀ a, (k0_off498 v885) a + S1x16.size a ≤ S321x128.size a)
theorem k0_off484_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off484 v885) a + S1x16.size a ≤ S321x128.size a := fun v19 k0_t6 v885 k0_hw33 k0_h6 => k0_hw33.1 k0_h6
theorem k0_off486_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off486 v885) a + S1x16.size a ≤ S321x128.size a := fun v19 k0_t6 v885 k0_hw33 k0_h6 => k0_hw33.2.1 k0_h6
theorem k0_off488_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off488 v885) a + S1x16.size a ≤ S321x128.size a := fun v19 k0_t6 v885 k0_hw33 k0_h6 => k0_hw33.2.2.1 k0_h6
theorem k0_off490_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off490 v885) a + S1x16.size a ≤ S321x128.size a := fun v19 k0_t6 v885 k0_hw33 k0_h6 => k0_hw33.2.2.2.1 k0_h6
theorem k0_off492_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off492 v885) a + S1x16.size a ≤ S321x128.size a := fun v19 k0_t6 v885 k0_hw33 k0_h6 => k0_hw33.2.2.2.2.1 k0_h6
theorem k0_off494_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off494 v885) a + S1x16.size a ≤ S321x128.size a := fun v19 k0_t6 v885 k0_hw33 k0_h6 => k0_hw33.2.2.2.2.2.1 k0_h6
theorem k0_off496_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off496 v885) a + S1x16.size a ≤ S321x128.size a := fun v19 k0_t6 v885 k0_hw33 k0_h6 => k0_hw33.2.2.2.2.2.2.1 k0_h6
theorem k0_off498_inb : ∀ (v19 : BitVec 32) (k0_t6 : Fin (k0_t6_loop v19).trips) (v885 : BitVec 32) (k0_hw33 : k0_chk33 v19 k0_t6 v885), ∀ (k0_h6 : k0_cond6 v19 k0_t6 = 1#1), ∀ a, (k0_off498 v885) a + S1x16.size a ≤ S321x128.size a := fun v19 k0_t6 v885 k0_hw33 k0_h6 => k0_hw33.2.2.2.2.2.2.2 k0_h6

def k0_off499 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_391 : BitVec 32 := 16#32
  let v886 : BitVec 32 := Scalar.muli arg25 c16_i32_391
  let c13_i32 : BitVec 32 := 13#32
  let v887 : BitVec 32 := Scalar.addi v886 c13_i32
  let v939 : Index := Scalar.indexCast v887
  let c112_414 : Index := 112#32
  ![v939.toNat, 112]
def k0_off500 (v945 : BitVec 32) : Fin 2 → Nat :=
  let v948 : Index := Scalar.indexCast v945
  let c0_417 : Index := 0#32
  ![v948.toNat, 0]

def k0_off501 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v950 : Index := Scalar.indexCast v947
  let c0_418 : Index := 0#32
  ![v950.toNat, 0]
def k0_off502 (v945 : BitVec 32) : Fin 2 → Nat :=
  let v955 : Index := Scalar.indexCast v945
  let c16_420 : Index := 16#32
  ![v955.toNat, 16]
def k0_off503 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v957 : Index := Scalar.indexCast v947
  let c16_421 : Index := 16#32
  ![v957.toNat, 16]
def k0_off504 (v945 : BitVec 32) : Fin 2 → Nat :=
  let v962 : Index := Scalar.indexCast v945
  let c32_423 : Index := 32#32
  ![v962.toNat, 32]
def k0_off505 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v964 : Index := Scalar.indexCast v947
  let c32_424 : Index := 32#32
  ![v964.toNat, 32]
def k0_off506 (v945 : BitVec 32) : Fin 2 → Nat :=
  let v969 : Index := Scalar.indexCast v945
  let c48_426 : Index := 48#32
  ![v969.toNat, 48]
def k0_off507 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v971 : Index := Scalar.indexCast v947
  let c48_427 : Index := 48#32
  ![v971.toNat, 48]
def k0_off508 (v945 : BitVec 32) : Fin 2 → Nat :=
  let v976 : Index := Scalar.indexCast v945
  let c64_429 : Index := 64#32
  ![v976.toNat, 64]
def k0_off509 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v978 : Index := Scalar.indexCast v947
  let c64_430 : Index := 64#32
  ![v978.toNat, 64]
def k0_off510 (v945 : BitVec 32) : Fin 2 → Nat :=
  let v983 : Index := Scalar.indexCast v945
  let c80_432 : Index := 80#32
  ![v983.toNat, 80]
def k0_off511 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v985 : Index := Scalar.indexCast v947
  let c80_433 : Index := 80#32
  ![v985.toNat, 80]
def k0_off512 (v945 : BitVec 32) : Fin 2 → Nat :=
  let v990 : Index := Scalar.indexCast v945
  let c96_435 : Index := 96#32
  ![v990.toNat, 96]
def k0_off513 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v992 : Index := Scalar.indexCast v947
  let c96_436 : Index := 96#32
  ![v992.toNat, 96]
def k0_off514 (v945 : BitVec 32) : Fin 2 → Nat :=
  let v997 : Index := Scalar.indexCast v945
  let c112_438 : Index := 112#32
  ![v997.toNat, 112]

def k0_chk34 (v19 : BitVec 32) (k0_t6 : Fin (k0_t6_loop v19).trips) (v945 : BitVec 32) : Prop :=
  (∀ (k0_h6 : k0_cond6 v19 k0_t6 = 1#1), ∀ a, (k0_off500 v945) a + S1x16.size a ≤ S321x128.size a) ∧
  (∀ (k0_h6 : k0_cond6 v19 k0_t6 = 1#1), ∀ a, (k0_off502 v945) a + S1x16.size a ≤ S321x128.size a) ∧
  (∀ (k0_h6 : k0_cond6 v19 k0_t6 = 1#1), ∀ a, (k0_off504 v945) a + S1x16.size a ≤ S321x128.size a) ∧
  (∀ (k0_h6 : k0_cond6 v19 k0_t6 = 1#1), ∀ a, (k0_off506 v945) a + S1x16.size a ≤ S321x128.size a) ∧
  (∀ (k0_h6 : k0_cond6 v19 k0_t6 = 1#1), ∀ a, (k0_off508 v945) a + S1x16.size a ≤ S321x128.size a) ∧
  (∀ (k0_h6 : k0_cond6 v19 k0_t6 = 1#1), ∀ a, (k0_off510 v945) a + S1x16.size a ≤ S321x128.size a) ∧
  (∀ (k0_h6 : k0_cond6 v19 k0_t6 = 1#1), ∀ a, (k0_off512 v945) a + S1x16.size a ≤ S321x128.size a) ∧
  (∀ (k0_h6 : k0_cond6 v19 k0_t6 = 1#1), ∀ a, (k0_off514 v945) a + S1x16.size a ≤ S321x128.size a)
theorem k0_off500_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off500 v945) a + S1x16.size a ≤ S321x128.size a := fun v19 k0_t6 v945 k0_hw34 k0_h6 => k0_hw34.1 k0_h6
theorem k0_off502_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off502 v945) a + S1x16.size a ≤ S321x128.size a := fun v19 k0_t6 v945 k0_hw34 k0_h6 => k0_hw34.2.1 k0_h6
theorem k0_off504_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off504 v945) a + S1x16.size a ≤ S321x128.size a := fun v19 k0_t6 v945 k0_hw34 k0_h6 => k0_hw34.2.2.1 k0_h6
theorem k0_off506_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off506 v945) a + S1x16.size a ≤ S321x128.size a := fun v19 k0_t6 v945 k0_hw34 k0_h6 => k0_hw34.2.2.2.1 k0_h6
theorem k0_off508_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off508 v945) a + S1x16.size a ≤ S321x128.size a := fun v19 k0_t6 v945 k0_hw34 k0_h6 => k0_hw34.2.2.2.2.1 k0_h6
theorem k0_off510_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off510 v945) a + S1x16.size a ≤ S321x128.size a := fun v19 k0_t6 v945 k0_hw34 k0_h6 => k0_hw34.2.2.2.2.2.1 k0_h6
theorem k0_off512_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off512 v945) a + S1x16.size a ≤ S321x128.size a := fun v19 k0_t6 v945 k0_hw34 k0_h6 => k0_hw34.2.2.2.2.2.2.1 k0_h6
theorem k0_off514_inb : ∀ (v19 : BitVec 32) (k0_t6 : Fin (k0_t6_loop v19).trips) (v945 : BitVec 32) (k0_hw34 : k0_chk34 v19 k0_t6 v945), ∀ (k0_h6 : k0_cond6 v19 k0_t6 = 1#1), ∀ a, (k0_off514 v945) a + S1x16.size a ≤ S321x128.size a := fun v19 k0_t6 v945 k0_hw34 k0_h6 => k0_hw34.2.2.2.2.2.2.2 k0_h6

def k0_off515 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_416 : BitVec 32 := 16#32
  let v946 : BitVec 32 := Scalar.muli arg25 c16_i32_416
  let c14_i32 : BitVec 32 := 14#32
  let v947 : BitVec 32 := Scalar.addi v946 c14_i32
  let v999 : Index := Scalar.indexCast v947
  let c112_439 : Index := 112#32
  ![v999.toNat, 112]
def k0_off516 (v1005 : BitVec 32) : Fin 2 → Nat :=
  let v1008 : Index := Scalar.indexCast v1005
  let c0_442 : Index := 0#32
  ![v1008.toNat, 0]

def k0_off517 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1010 : Index := Scalar.indexCast v1007
  let c0_443 : Index := 0#32
  ![v1010.toNat, 0]
def k0_off518 (v1005 : BitVec 32) : Fin 2 → Nat :=
  let v1015 : Index := Scalar.indexCast v1005
  let c16_445 : Index := 16#32
  ![v1015.toNat, 16]
def k0_off519 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1017 : Index := Scalar.indexCast v1007
  let c16_446 : Index := 16#32
  ![v1017.toNat, 16]
def k0_off520 (v1005 : BitVec 32) : Fin 2 → Nat :=
  let v1022 : Index := Scalar.indexCast v1005
  let c32_448 : Index := 32#32
  ![v1022.toNat, 32]
def k0_off521 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1024 : Index := Scalar.indexCast v1007
  let c32_449 : Index := 32#32
  ![v1024.toNat, 32]
def k0_off522 (v1005 : BitVec 32) : Fin 2 → Nat :=
  let v1029 : Index := Scalar.indexCast v1005
  let c48_451 : Index := 48#32
  ![v1029.toNat, 48]
def k0_off523 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1031 : Index := Scalar.indexCast v1007
  let c48_452 : Index := 48#32
  ![v1031.toNat, 48]
def k0_off524 (v1005 : BitVec 32) : Fin 2 → Nat :=
  let v1036 : Index := Scalar.indexCast v1005
  let c64_454 : Index := 64#32
  ![v1036.toNat, 64]
def k0_off525 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1038 : Index := Scalar.indexCast v1007
  let c64_455 : Index := 64#32
  ![v1038.toNat, 64]
def k0_off526 (v1005 : BitVec 32) : Fin 2 → Nat :=
  let v1043 : Index := Scalar.indexCast v1005
  let c80_457 : Index := 80#32
  ![v1043.toNat, 80]
def k0_off527 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1045 : Index := Scalar.indexCast v1007
  let c80_458 : Index := 80#32
  ![v1045.toNat, 80]
def k0_off528 (v1005 : BitVec 32) : Fin 2 → Nat :=
  let v1050 : Index := Scalar.indexCast v1005
  let c96_460 : Index := 96#32
  ![v1050.toNat, 96]
def k0_off529 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1052 : Index := Scalar.indexCast v1007
  let c96_461 : Index := 96#32
  ![v1052.toNat, 96]
def k0_off530 (v1005 : BitVec 32) : Fin 2 → Nat :=
  let v1057 : Index := Scalar.indexCast v1005
  let c112_463 : Index := 112#32
  ![v1057.toNat, 112]

def k0_chk35 (v19 : BitVec 32) (k0_t6 : Fin (k0_t6_loop v19).trips) (v1005 : BitVec 32) : Prop :=
  (∀ (k0_h6 : k0_cond6 v19 k0_t6 = 1#1), ∀ a, (k0_off516 v1005) a + S1x16.size a ≤ S321x128.size a) ∧
  (∀ (k0_h6 : k0_cond6 v19 k0_t6 = 1#1), ∀ a, (k0_off518 v1005) a + S1x16.size a ≤ S321x128.size a) ∧
  (∀ (k0_h6 : k0_cond6 v19 k0_t6 = 1#1), ∀ a, (k0_off520 v1005) a + S1x16.size a ≤ S321x128.size a) ∧
  (∀ (k0_h6 : k0_cond6 v19 k0_t6 = 1#1), ∀ a, (k0_off522 v1005) a + S1x16.size a ≤ S321x128.size a) ∧
  (∀ (k0_h6 : k0_cond6 v19 k0_t6 = 1#1), ∀ a, (k0_off524 v1005) a + S1x16.size a ≤ S321x128.size a) ∧
  (∀ (k0_h6 : k0_cond6 v19 k0_t6 = 1#1), ∀ a, (k0_off526 v1005) a + S1x16.size a ≤ S321x128.size a) ∧
  (∀ (k0_h6 : k0_cond6 v19 k0_t6 = 1#1), ∀ a, (k0_off528 v1005) a + S1x16.size a ≤ S321x128.size a) ∧
  (∀ (k0_h6 : k0_cond6 v19 k0_t6 = 1#1), ∀ a, (k0_off530 v1005) a + S1x16.size a ≤ S321x128.size a)
theorem k0_off516_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off516 v1005) a + S1x16.size a ≤ S321x128.size a := fun v19 k0_t6 v1005 k0_hw35 k0_h6 => k0_hw35.1 k0_h6
theorem k0_off518_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off518 v1005) a + S1x16.size a ≤ S321x128.size a := fun v19 k0_t6 v1005 k0_hw35 k0_h6 => k0_hw35.2.1 k0_h6
theorem k0_off520_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off520 v1005) a + S1x16.size a ≤ S321x128.size a := fun v19 k0_t6 v1005 k0_hw35 k0_h6 => k0_hw35.2.2.1 k0_h6
theorem k0_off522_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off522 v1005) a + S1x16.size a ≤ S321x128.size a := fun v19 k0_t6 v1005 k0_hw35 k0_h6 => k0_hw35.2.2.2.1 k0_h6
theorem k0_off524_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off524 v1005) a + S1x16.size a ≤ S321x128.size a := fun v19 k0_t6 v1005 k0_hw35 k0_h6 => k0_hw35.2.2.2.2.1 k0_h6
theorem k0_off526_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off526 v1005) a + S1x16.size a ≤ S321x128.size a := fun v19 k0_t6 v1005 k0_hw35 k0_h6 => k0_hw35.2.2.2.2.2.1 k0_h6
theorem k0_off528_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off528 v1005) a + S1x16.size a ≤ S321x128.size a := fun v19 k0_t6 v1005 k0_hw35 k0_h6 => k0_hw35.2.2.2.2.2.2.1 k0_h6
theorem k0_off530_inb : ∀ (v19 : BitVec 32) (k0_t6 : Fin (k0_t6_loop v19).trips) (v1005 : BitVec 32) (k0_hw35 : k0_chk35 v19 k0_t6 v1005), ∀ (k0_h6 : k0_cond6 v19 k0_t6 = 1#1), ∀ a, (k0_off530 v1005) a + S1x16.size a ≤ S321x128.size a := fun v19 k0_t6 v1005 k0_hw35 k0_h6 => k0_hw35.2.2.2.2.2.2.2 k0_h6

def k0_off531 (k0_t8 : Fin k0_t8_loop.trips) : Fin 2 → Nat :=
  let c0_i32_65 : BitVec 32 := 0#32
  let c1_i32_66 : BitVec 32 := 1#32
  let arg25 : BitVec 32 := Scf.iv c0_i32_65 c1_i32_66 k0_t8
  let c16_i32_441 : BitVec 32 := 16#32
  let v1006 : BitVec 32 := Scalar.muli arg25 c16_i32_441
  let c15_i32 : BitVec 32 := 15#32
  let v1007 : BitVec 32 := Scalar.addi v1006 c15_i32
  let v1059 : Index := Scalar.indexCast v1007
  let c112_464 : Index := 112#32
  ![v1059.toNat, 112]
@[reducible] def k0_t9_loop (v19 : BitVec 32) : Scf.Loop 32 :=
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let v67 : BitVec 32 := Scalar.addi c0_i32_38 v66
  let c1_i32_42 : BitVec 32 := 1#32
  ⟨v70, v67, c1_i32_42⟩
def k0_off532 (v19 : BitVec 32) (k0_t9 : Fin (k0_t9_loop v19).trips) : Fin 1 → Nat :=
  let c2_i32_51 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v81 : BitVec 32 := Scalar.muli c2_i32_51 arg23
  let c0_i32_52 : BitVec 32 := 0#32
  let v82 : BitVec 32 := Scalar.addi v81 c0_i32_52
  let c1_i32_68 : BitVec 32 := 1#32
  let v100 : BitVec 32 := Scalar.addi v82 c1_i32_68
  let c128_i32_69 : BitVec 32 := 128#32
  let v101 : BitVec 32 := Scalar.muli v100 c128_i32_69
  ![v101.toNat]
def k0_cond8 (v19 : BitVec 32) (k0_t9 : Fin (k0_t9_loop v19).trips) : BitVec 1 :=
  let c2_i32_51 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v81 : BitVec 32 := Scalar.muli c2_i32_51 arg23
  let c0_i32_52 : BitVec 32 := 0#32
  let v82 : BitVec 32 := Scalar.addi v81 c0_i32_52
  let v83 : BitVec 1 := Scalar.cmpi .slt v82 v44
  let v84 : BitVec 32 := Scalar.extui v83
  let c0_i32_53 : BitVec 32 := 0#32
  let v85 : BitVec 1 := Scalar.cmpi .ne v84 c0_i32_53
  v85

def k0_cond9 (v19 : BitVec 32) (k0_t9 : Fin (k0_t9_loop v19).trips) : BitVec 1 :=
  let c2_i32_51 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v81 : BitVec 32 := Scalar.muli c2_i32_51 arg23
  let c0_i32_52 : BitVec 32 := 0#32
  let v82 : BitVec 32 := Scalar.addi v81 c0_i32_52
  let c1_i32_61 : BitVec 32 := 1#32
  let v93 : BitVec 32 := Scalar.addi v82 c1_i32_61
  let v94 : BitVec 1 := Scalar.cmpi .slt v93 v44
  let v95 : BitVec 32 := Scalar.extui v94
  let c0_i32_62 : BitVec 32 := 0#32
  let v96 : BitVec 1 := Scalar.cmpi .ne v95 c0_i32_62
  v96

@[reducible] def k0_t10_loop : Scf.Loop 32 :=
  let c0_i32_65 : BitVec 32 := 0#32
  let c8_i32 : BitVec 32 := 8#32
  let v98 : BitVec 32 := Scalar.addi c0_i32_65 c8_i32
  let c1_i32_66 : BitVec 32 := 1#32
  ⟨c0_i32_65, v98, c1_i32_66⟩
def k0_off533 (v19 : BitVec 32) (k0_t9 : Fin (k0_t9_loop v19).trips) (k0_t10 : Fin k0_t10_loop.trips) : Fin 1 → Nat :=
  let c2_i32_51 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v81 : BitVec 32 := Scalar.muli c2_i32_51 arg23
  let c0_i32_52 : BitVec 32 := 0#32
  let v82 : BitVec 32 := Scalar.addi v81 c0_i32_52
  let c128_i32_63 : BitVec 32 := 128#32
  let v97 : BitVec 32 := Scalar.muli v82 c128_i32_63
  let c0_i32_65 : BitVec 32 := 0#32
  let c1_i32_66 : BitVec 32 := 1#32
  let arg25 : BitVec 32 := Scf.iv c0_i32_65 c1_i32_66 k0_t10
  let c16_i32_68 : BitVec 32 := 16#32
  let v100 : BitVec 32 := Scalar.muli arg25 c16_i32_68
  let v101 : BitVec 32 := Scalar.addi v97 v100
  let v102 : Index := Scalar.indexCast v101
  ![v102.toNat]
def k0_off534 (v105 : BitVec 32) : Fin 2 → Nat :=
  let v108 : Index := Scalar.indexCast v105
  let c0_71 : Index := 0#32
  ![v108.toNat, 0]

def k0_off535 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v110 : Index := Scalar.indexCast v107
  let c0_72 : Index := 0#32
  ![v110.toNat, 0]
def k0_off536 (v105 : BitVec 32) : Fin 2 → Nat :=
  let v115 : Index := Scalar.indexCast v105
  let c16 : Index := 16#32
  ![v115.toNat, 16]
def k0_off537 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v117 : Index := Scalar.indexCast v107
  let c16_74 : Index := 16#32
  ![v117.toNat, 16]
def k0_off538 (v105 : BitVec 32) : Fin 2 → Nat :=
  let v122 : Index := Scalar.indexCast v105
  let c32 : Index := 32#32
  ![v122.toNat, 32]
def k0_off539 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v124 : Index := Scalar.indexCast v107
  let c32_76 : Index := 32#32
  ![v124.toNat, 32]
def k0_off540 (v105 : BitVec 32) : Fin 2 → Nat :=
  let v129 : Index := Scalar.indexCast v105
  let c48 : Index := 48#32
  ![v129.toNat, 48]
def k0_off541 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v131 : Index := Scalar.indexCast v107
  let c48_78 : Index := 48#32
  ![v131.toNat, 48]
def k0_off542 (v105 : BitVec 32) : Fin 2 → Nat :=
  let v136 : Index := Scalar.indexCast v105
  let c64 : Index := 64#32
  ![v136.toNat, 64]
def k0_off543 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v138 : Index := Scalar.indexCast v107
  let c64_80 : Index := 64#32
  ![v138.toNat, 64]
def k0_off544 (v105 : BitVec 32) : Fin 2 → Nat :=
  let v143 : Index := Scalar.indexCast v105
  let c80 : Index := 80#32
  ![v143.toNat, 80]
def k0_off545 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v145 : Index := Scalar.indexCast v107
  let c80_82 : Index := 80#32
  ![v145.toNat, 80]
def k0_off546 (v105 : BitVec 32) : Fin 2 → Nat :=
  let v150 : Index := Scalar.indexCast v105
  let c96 : Index := 96#32
  ![v150.toNat, 96]
def k0_off547 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v152 : Index := Scalar.indexCast v107
  let c96_84 : Index := 96#32
  ![v152.toNat, 96]
def k0_off548 (v105 : BitVec 32) : Fin 2 → Nat :=
  let v157 : Index := Scalar.indexCast v105
  let c112 : Index := 112#32
  ![v157.toNat, 112]

def k0_chk36 (v19 : BitVec 32) (k0_t9 : Fin (k0_t9_loop v19).trips) (v105 : BitVec 32) : Prop :=
  (∀ (k0_h8 : k0_cond8 v19 k0_t9 = 1#1), ∀ a, (k0_off534 v105) a + S1x16.size a ≤ S321x128.size a) ∧
  (∀ (k0_h8 : k0_cond8 v19 k0_t9 = 1#1), ∀ a, (k0_off536 v105) a + S1x16.size a ≤ S321x128.size a) ∧
  (∀ (k0_h8 : k0_cond8 v19 k0_t9 = 1#1), ∀ a, (k0_off538 v105) a + S1x16.size a ≤ S321x128.size a) ∧
  (∀ (k0_h8 : k0_cond8 v19 k0_t9 = 1#1), ∀ a, (k0_off540 v105) a + S1x16.size a ≤ S321x128.size a) ∧
  (∀ (k0_h8 : k0_cond8 v19 k0_t9 = 1#1), ∀ a, (k0_off542 v105) a + S1x16.size a ≤ S321x128.size a) ∧
  (∀ (k0_h8 : k0_cond8 v19 k0_t9 = 1#1), ∀ a, (k0_off544 v105) a + S1x16.size a ≤ S321x128.size a) ∧
  (∀ (k0_h8 : k0_cond8 v19 k0_t9 = 1#1), ∀ a, (k0_off546 v105) a + S1x16.size a ≤ S321x128.size a) ∧
  (∀ (k0_h8 : k0_cond8 v19 k0_t9 = 1#1), ∀ a, (k0_off548 v105) a + S1x16.size a ≤ S321x128.size a)
theorem k0_off534_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off534 v105) a + S1x16.size a ≤ S321x128.size a := fun v19 k0_t9 v105 k0_hw36 k0_h8 => k0_hw36.1 k0_h8
theorem k0_off536_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off536 v105) a + S1x16.size a ≤ S321x128.size a := fun v19 k0_t9 v105 k0_hw36 k0_h8 => k0_hw36.2.1 k0_h8
theorem k0_off538_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off538 v105) a + S1x16.size a ≤ S321x128.size a := fun v19 k0_t9 v105 k0_hw36 k0_h8 => k0_hw36.2.2.1 k0_h8
theorem k0_off540_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off540 v105) a + S1x16.size a ≤ S321x128.size a := fun v19 k0_t9 v105 k0_hw36 k0_h8 => k0_hw36.2.2.2.1 k0_h8
theorem k0_off542_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off542 v105) a + S1x16.size a ≤ S321x128.size a := fun v19 k0_t9 v105 k0_hw36 k0_h8 => k0_hw36.2.2.2.2.1 k0_h8
theorem k0_off544_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off544 v105) a + S1x16.size a ≤ S321x128.size a := fun v19 k0_t9 v105 k0_hw36 k0_h8 => k0_hw36.2.2.2.2.2.1 k0_h8
theorem k0_off546_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off546 v105) a + S1x16.size a ≤ S321x128.size a := fun v19 k0_t9 v105 k0_hw36 k0_h8 => k0_hw36.2.2.2.2.2.2.1 k0_h8
theorem k0_off548_inb : ∀ (v19 : BitVec 32) (k0_t9 : Fin (k0_t9_loop v19).trips) (v105 : BitVec 32) (k0_hw36 : k0_chk36 v19 k0_t9 v105), ∀ (k0_h8 : k0_cond8 v19 k0_t9 = 1#1), ∀ a, (k0_off548 v105) a + S1x16.size a ≤ S321x128.size a := fun v19 k0_t9 v105 k0_hw36 k0_h8 => k0_hw36.2.2.2.2.2.2.2 k0_h8

def k0_off549 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_69 : BitVec 32 := 16#32
  let v106 : BitVec 32 := Scalar.muli arg25 c16_i32_69
  let c0_i32_70 : BitVec 32 := 0#32
  let v107 : BitVec 32 := Scalar.addi v106 c0_i32_70
  let v159 : Index := Scalar.indexCast v107
  let c112_86 : Index := 112#32
  ![v159.toNat, 112]
def k0_off550 (v165 : BitVec 32) : Fin 2 → Nat :=
  let v168 : Index := Scalar.indexCast v165
  let c0_90 : Index := 0#32
  ![v168.toNat, 0]

def k0_off551 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v170 : Index := Scalar.indexCast v167
  let c0_91 : Index := 0#32
  ![v170.toNat, 0]
def k0_off552 (v165 : BitVec 32) : Fin 2 → Nat :=
  let v175 : Index := Scalar.indexCast v165
  let c16_93 : Index := 16#32
  ![v175.toNat, 16]
def k0_off553 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v177 : Index := Scalar.indexCast v167
  let c16_94 : Index := 16#32
  ![v177.toNat, 16]
def k0_off554 (v165 : BitVec 32) : Fin 2 → Nat :=
  let v182 : Index := Scalar.indexCast v165
  let c32_96 : Index := 32#32
  ![v182.toNat, 32]
def k0_off555 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v184 : Index := Scalar.indexCast v167
  let c32_97 : Index := 32#32
  ![v184.toNat, 32]
def k0_off556 (v165 : BitVec 32) : Fin 2 → Nat :=
  let v189 : Index := Scalar.indexCast v165
  let c48_99 : Index := 48#32
  ![v189.toNat, 48]
def k0_off557 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v191 : Index := Scalar.indexCast v167
  let c48_100 : Index := 48#32
  ![v191.toNat, 48]
def k0_off558 (v165 : BitVec 32) : Fin 2 → Nat :=
  let v196 : Index := Scalar.indexCast v165
  let c64_102 : Index := 64#32
  ![v196.toNat, 64]
def k0_off559 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v198 : Index := Scalar.indexCast v167
  let c64_103 : Index := 64#32
  ![v198.toNat, 64]
def k0_off560 (v165 : BitVec 32) : Fin 2 → Nat :=
  let v203 : Index := Scalar.indexCast v165
  let c80_105 : Index := 80#32
  ![v203.toNat, 80]
def k0_off561 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v205 : Index := Scalar.indexCast v167
  let c80_106 : Index := 80#32
  ![v205.toNat, 80]
def k0_off562 (v165 : BitVec 32) : Fin 2 → Nat :=
  let v210 : Index := Scalar.indexCast v165
  let c96_108 : Index := 96#32
  ![v210.toNat, 96]
def k0_off563 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v212 : Index := Scalar.indexCast v167
  let c96_109 : Index := 96#32
  ![v212.toNat, 96]
def k0_off564 (v165 : BitVec 32) : Fin 2 → Nat :=
  let v217 : Index := Scalar.indexCast v165
  let c112_111 : Index := 112#32
  ![v217.toNat, 112]

def k0_chk37 (v19 : BitVec 32) (k0_t9 : Fin (k0_t9_loop v19).trips) (v165 : BitVec 32) : Prop :=
  (∀ (k0_h8 : k0_cond8 v19 k0_t9 = 1#1), ∀ a, (k0_off550 v165) a + S1x16.size a ≤ S321x128.size a) ∧
  (∀ (k0_h8 : k0_cond8 v19 k0_t9 = 1#1), ∀ a, (k0_off552 v165) a + S1x16.size a ≤ S321x128.size a) ∧
  (∀ (k0_h8 : k0_cond8 v19 k0_t9 = 1#1), ∀ a, (k0_off554 v165) a + S1x16.size a ≤ S321x128.size a) ∧
  (∀ (k0_h8 : k0_cond8 v19 k0_t9 = 1#1), ∀ a, (k0_off556 v165) a + S1x16.size a ≤ S321x128.size a) ∧
  (∀ (k0_h8 : k0_cond8 v19 k0_t9 = 1#1), ∀ a, (k0_off558 v165) a + S1x16.size a ≤ S321x128.size a) ∧
  (∀ (k0_h8 : k0_cond8 v19 k0_t9 = 1#1), ∀ a, (k0_off560 v165) a + S1x16.size a ≤ S321x128.size a) ∧
  (∀ (k0_h8 : k0_cond8 v19 k0_t9 = 1#1), ∀ a, (k0_off562 v165) a + S1x16.size a ≤ S321x128.size a) ∧
  (∀ (k0_h8 : k0_cond8 v19 k0_t9 = 1#1), ∀ a, (k0_off564 v165) a + S1x16.size a ≤ S321x128.size a)
theorem k0_off550_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off550 v165) a + S1x16.size a ≤ S321x128.size a := fun v19 k0_t9 v165 k0_hw37 k0_h8 => k0_hw37.1 k0_h8
theorem k0_off552_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off552 v165) a + S1x16.size a ≤ S321x128.size a := fun v19 k0_t9 v165 k0_hw37 k0_h8 => k0_hw37.2.1 k0_h8
theorem k0_off554_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off554 v165) a + S1x16.size a ≤ S321x128.size a := fun v19 k0_t9 v165 k0_hw37 k0_h8 => k0_hw37.2.2.1 k0_h8
theorem k0_off556_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off556 v165) a + S1x16.size a ≤ S321x128.size a := fun v19 k0_t9 v165 k0_hw37 k0_h8 => k0_hw37.2.2.2.1 k0_h8
theorem k0_off558_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off558 v165) a + S1x16.size a ≤ S321x128.size a := fun v19 k0_t9 v165 k0_hw37 k0_h8 => k0_hw37.2.2.2.2.1 k0_h8
theorem k0_off560_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off560 v165) a + S1x16.size a ≤ S321x128.size a := fun v19 k0_t9 v165 k0_hw37 k0_h8 => k0_hw37.2.2.2.2.2.1 k0_h8
theorem k0_off562_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off562 v165) a + S1x16.size a ≤ S321x128.size a := fun v19 k0_t9 v165 k0_hw37 k0_h8 => k0_hw37.2.2.2.2.2.2.1 k0_h8
theorem k0_off564_inb : ∀ (v19 : BitVec 32) (k0_t9 : Fin (k0_t9_loop v19).trips) (v165 : BitVec 32) (k0_hw37 : k0_chk37 v19 k0_t9 v165), ∀ (k0_h8 : k0_cond8 v19 k0_t9 = 1#1), ∀ a, (k0_off564 v165) a + S1x16.size a ≤ S321x128.size a := fun v19 k0_t9 v165 k0_hw37 k0_h8 => k0_hw37.2.2.2.2.2.2.2 k0_h8

def k0_off565 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_88 : BitVec 32 := 16#32
  let v166 : BitVec 32 := Scalar.muli arg25 c16_i32_88
  let c1_i32_89 : BitVec 32 := 1#32
  let v167 : BitVec 32 := Scalar.addi v166 c1_i32_89
  let v219 : Index := Scalar.indexCast v167
  let c112_112 : Index := 112#32
  ![v219.toNat, 112]
def k0_off566 (v225 : BitVec 32) : Fin 2 → Nat :=
  let v228 : Index := Scalar.indexCast v225
  let c0_116 : Index := 0#32
  ![v228.toNat, 0]

def k0_off567 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v230 : Index := Scalar.indexCast v227
  let c0_117 : Index := 0#32
  ![v230.toNat, 0]
def k0_off568 (v225 : BitVec 32) : Fin 2 → Nat :=
  let v235 : Index := Scalar.indexCast v225
  let c16_119 : Index := 16#32
  ![v235.toNat, 16]
def k0_off569 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v237 : Index := Scalar.indexCast v227
  let c16_120 : Index := 16#32
  ![v237.toNat, 16]
def k0_off570 (v225 : BitVec 32) : Fin 2 → Nat :=
  let v242 : Index := Scalar.indexCast v225
  let c32_122 : Index := 32#32
  ![v242.toNat, 32]
def k0_off571 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v244 : Index := Scalar.indexCast v227
  let c32_123 : Index := 32#32
  ![v244.toNat, 32]
def k0_off572 (v225 : BitVec 32) : Fin 2 → Nat :=
  let v249 : Index := Scalar.indexCast v225
  let c48_125 : Index := 48#32
  ![v249.toNat, 48]
def k0_off573 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v251 : Index := Scalar.indexCast v227
  let c48_126 : Index := 48#32
  ![v251.toNat, 48]
def k0_off574 (v225 : BitVec 32) : Fin 2 → Nat :=
  let v256 : Index := Scalar.indexCast v225
  let c64_128 : Index := 64#32
  ![v256.toNat, 64]
def k0_off575 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v258 : Index := Scalar.indexCast v227
  let c64_129 : Index := 64#32
  ![v258.toNat, 64]
def k0_off576 (v225 : BitVec 32) : Fin 2 → Nat :=
  let v263 : Index := Scalar.indexCast v225
  let c80_131 : Index := 80#32
  ![v263.toNat, 80]
def k0_off577 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v265 : Index := Scalar.indexCast v227
  let c80_132 : Index := 80#32
  ![v265.toNat, 80]
def k0_off578 (v225 : BitVec 32) : Fin 2 → Nat :=
  let v270 : Index := Scalar.indexCast v225
  let c96_134 : Index := 96#32
  ![v270.toNat, 96]
def k0_off579 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v272 : Index := Scalar.indexCast v227
  let c96_135 : Index := 96#32
  ![v272.toNat, 96]
def k0_off580 (v225 : BitVec 32) : Fin 2 → Nat :=
  let v277 : Index := Scalar.indexCast v225
  let c112_137 : Index := 112#32
  ![v277.toNat, 112]

def k0_chk38 (v19 : BitVec 32) (k0_t9 : Fin (k0_t9_loop v19).trips) (v225 : BitVec 32) : Prop :=
  (∀ (k0_h8 : k0_cond8 v19 k0_t9 = 1#1), ∀ a, (k0_off566 v225) a + S1x16.size a ≤ S321x128.size a) ∧
  (∀ (k0_h8 : k0_cond8 v19 k0_t9 = 1#1), ∀ a, (k0_off568 v225) a + S1x16.size a ≤ S321x128.size a) ∧
  (∀ (k0_h8 : k0_cond8 v19 k0_t9 = 1#1), ∀ a, (k0_off570 v225) a + S1x16.size a ≤ S321x128.size a) ∧
  (∀ (k0_h8 : k0_cond8 v19 k0_t9 = 1#1), ∀ a, (k0_off572 v225) a + S1x16.size a ≤ S321x128.size a) ∧
  (∀ (k0_h8 : k0_cond8 v19 k0_t9 = 1#1), ∀ a, (k0_off574 v225) a + S1x16.size a ≤ S321x128.size a) ∧
  (∀ (k0_h8 : k0_cond8 v19 k0_t9 = 1#1), ∀ a, (k0_off576 v225) a + S1x16.size a ≤ S321x128.size a) ∧
  (∀ (k0_h8 : k0_cond8 v19 k0_t9 = 1#1), ∀ a, (k0_off578 v225) a + S1x16.size a ≤ S321x128.size a) ∧
  (∀ (k0_h8 : k0_cond8 v19 k0_t9 = 1#1), ∀ a, (k0_off580 v225) a + S1x16.size a ≤ S321x128.size a)
theorem k0_off566_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off566 v225) a + S1x16.size a ≤ S321x128.size a := fun v19 k0_t9 v225 k0_hw38 k0_h8 => k0_hw38.1 k0_h8
theorem k0_off568_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off568 v225) a + S1x16.size a ≤ S321x128.size a := fun v19 k0_t9 v225 k0_hw38 k0_h8 => k0_hw38.2.1 k0_h8
theorem k0_off570_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off570 v225) a + S1x16.size a ≤ S321x128.size a := fun v19 k0_t9 v225 k0_hw38 k0_h8 => k0_hw38.2.2.1 k0_h8
theorem k0_off572_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off572 v225) a + S1x16.size a ≤ S321x128.size a := fun v19 k0_t9 v225 k0_hw38 k0_h8 => k0_hw38.2.2.2.1 k0_h8
theorem k0_off574_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off574 v225) a + S1x16.size a ≤ S321x128.size a := fun v19 k0_t9 v225 k0_hw38 k0_h8 => k0_hw38.2.2.2.2.1 k0_h8
theorem k0_off576_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off576 v225) a + S1x16.size a ≤ S321x128.size a := fun v19 k0_t9 v225 k0_hw38 k0_h8 => k0_hw38.2.2.2.2.2.1 k0_h8
theorem k0_off578_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off578 v225) a + S1x16.size a ≤ S321x128.size a := fun v19 k0_t9 v225 k0_hw38 k0_h8 => k0_hw38.2.2.2.2.2.2.1 k0_h8
theorem k0_off580_inb : ∀ (v19 : BitVec 32) (k0_t9 : Fin (k0_t9_loop v19).trips) (v225 : BitVec 32) (k0_hw38 : k0_chk38 v19 k0_t9 v225), ∀ (k0_h8 : k0_cond8 v19 k0_t9 = 1#1), ∀ a, (k0_off580 v225) a + S1x16.size a ≤ S321x128.size a := fun v19 k0_t9 v225 k0_hw38 k0_h8 => k0_hw38.2.2.2.2.2.2.2 k0_h8

def k0_off581 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_114 : BitVec 32 := 16#32
  let v226 : BitVec 32 := Scalar.muli arg25 c16_i32_114
  let c2_i32_115 : BitVec 32 := 2#32
  let v227 : BitVec 32 := Scalar.addi v226 c2_i32_115
  let v279 : Index := Scalar.indexCast v227
  let c112_138 : Index := 112#32
  ![v279.toNat, 112]
def k0_off582 (v285 : BitVec 32) : Fin 2 → Nat :=
  let v288 : Index := Scalar.indexCast v285
  let c0_141 : Index := 0#32
  ![v288.toNat, 0]

def k0_off583 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v290 : Index := Scalar.indexCast v287
  let c0_142 : Index := 0#32
  ![v290.toNat, 0]
def k0_off584 (v285 : BitVec 32) : Fin 2 → Nat :=
  let v295 : Index := Scalar.indexCast v285
  let c16_144 : Index := 16#32
  ![v295.toNat, 16]
def k0_off585 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v297 : Index := Scalar.indexCast v287
  let c16_145 : Index := 16#32
  ![v297.toNat, 16]
def k0_off586 (v285 : BitVec 32) : Fin 2 → Nat :=
  let v302 : Index := Scalar.indexCast v285
  let c32_147 : Index := 32#32
  ![v302.toNat, 32]
def k0_off587 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v304 : Index := Scalar.indexCast v287
  let c32_148 : Index := 32#32
  ![v304.toNat, 32]
def k0_off588 (v285 : BitVec 32) : Fin 2 → Nat :=
  let v309 : Index := Scalar.indexCast v285
  let c48_150 : Index := 48#32
  ![v309.toNat, 48]
def k0_off589 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v311 : Index := Scalar.indexCast v287
  let c48_151 : Index := 48#32
  ![v311.toNat, 48]
def k0_off590 (v285 : BitVec 32) : Fin 2 → Nat :=
  let v316 : Index := Scalar.indexCast v285
  let c64_153 : Index := 64#32
  ![v316.toNat, 64]
def k0_off591 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v318 : Index := Scalar.indexCast v287
  let c64_154 : Index := 64#32
  ![v318.toNat, 64]
def k0_off592 (v285 : BitVec 32) : Fin 2 → Nat :=
  let v323 : Index := Scalar.indexCast v285
  let c80_156 : Index := 80#32
  ![v323.toNat, 80]
def k0_off593 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v325 : Index := Scalar.indexCast v287
  let c80_157 : Index := 80#32
  ![v325.toNat, 80]
def k0_off594 (v285 : BitVec 32) : Fin 2 → Nat :=
  let v330 : Index := Scalar.indexCast v285
  let c96_159 : Index := 96#32
  ![v330.toNat, 96]
def k0_off595 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v332 : Index := Scalar.indexCast v287
  let c96_160 : Index := 96#32
  ![v332.toNat, 96]
def k0_off596 (v285 : BitVec 32) : Fin 2 → Nat :=
  let v337 : Index := Scalar.indexCast v285
  let c112_162 : Index := 112#32
  ![v337.toNat, 112]

def k0_chk39 (v19 : BitVec 32) (k0_t9 : Fin (k0_t9_loop v19).trips) (v285 : BitVec 32) : Prop :=
  (∀ (k0_h8 : k0_cond8 v19 k0_t9 = 1#1), ∀ a, (k0_off582 v285) a + S1x16.size a ≤ S321x128.size a) ∧
  (∀ (k0_h8 : k0_cond8 v19 k0_t9 = 1#1), ∀ a, (k0_off584 v285) a + S1x16.size a ≤ S321x128.size a) ∧
  (∀ (k0_h8 : k0_cond8 v19 k0_t9 = 1#1), ∀ a, (k0_off586 v285) a + S1x16.size a ≤ S321x128.size a) ∧
  (∀ (k0_h8 : k0_cond8 v19 k0_t9 = 1#1), ∀ a, (k0_off588 v285) a + S1x16.size a ≤ S321x128.size a) ∧
  (∀ (k0_h8 : k0_cond8 v19 k0_t9 = 1#1), ∀ a, (k0_off590 v285) a + S1x16.size a ≤ S321x128.size a) ∧
  (∀ (k0_h8 : k0_cond8 v19 k0_t9 = 1#1), ∀ a, (k0_off592 v285) a + S1x16.size a ≤ S321x128.size a) ∧
  (∀ (k0_h8 : k0_cond8 v19 k0_t9 = 1#1), ∀ a, (k0_off594 v285) a + S1x16.size a ≤ S321x128.size a) ∧
  (∀ (k0_h8 : k0_cond8 v19 k0_t9 = 1#1), ∀ a, (k0_off596 v285) a + S1x16.size a ≤ S321x128.size a)
theorem k0_off582_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off582 v285) a + S1x16.size a ≤ S321x128.size a := fun v19 k0_t9 v285 k0_hw39 k0_h8 => k0_hw39.1 k0_h8
theorem k0_off584_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off584 v285) a + S1x16.size a ≤ S321x128.size a := fun v19 k0_t9 v285 k0_hw39 k0_h8 => k0_hw39.2.1 k0_h8
theorem k0_off586_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off586 v285) a + S1x16.size a ≤ S321x128.size a := fun v19 k0_t9 v285 k0_hw39 k0_h8 => k0_hw39.2.2.1 k0_h8
theorem k0_off588_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off588 v285) a + S1x16.size a ≤ S321x128.size a := fun v19 k0_t9 v285 k0_hw39 k0_h8 => k0_hw39.2.2.2.1 k0_h8
theorem k0_off590_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off590 v285) a + S1x16.size a ≤ S321x128.size a := fun v19 k0_t9 v285 k0_hw39 k0_h8 => k0_hw39.2.2.2.2.1 k0_h8
theorem k0_off592_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off592 v285) a + S1x16.size a ≤ S321x128.size a := fun v19 k0_t9 v285 k0_hw39 k0_h8 => k0_hw39.2.2.2.2.2.1 k0_h8
theorem k0_off594_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off594 v285) a + S1x16.size a ≤ S321x128.size a := fun v19 k0_t9 v285 k0_hw39 k0_h8 => k0_hw39.2.2.2.2.2.2.1 k0_h8
theorem k0_off596_inb : ∀ (v19 : BitVec 32) (k0_t9 : Fin (k0_t9_loop v19).trips) (v285 : BitVec 32) (k0_hw39 : k0_chk39 v19 k0_t9 v285), ∀ (k0_h8 : k0_cond8 v19 k0_t9 = 1#1), ∀ a, (k0_off596 v285) a + S1x16.size a ≤ S321x128.size a := fun v19 k0_t9 v285 k0_hw39 k0_h8 => k0_hw39.2.2.2.2.2.2.2 k0_h8

def k0_off597 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_140 : BitVec 32 := 16#32
  let v286 : BitVec 32 := Scalar.muli arg25 c16_i32_140
  let c3_i32 : BitVec 32 := 3#32
  let v287 : BitVec 32 := Scalar.addi v286 c3_i32
  let v339 : Index := Scalar.indexCast v287
  let c112_163 : Index := 112#32
  ![v339.toNat, 112]
def k0_off598 (v345 : BitVec 32) : Fin 2 → Nat :=
  let v348 : Index := Scalar.indexCast v345
  let c0_166 : Index := 0#32
  ![v348.toNat, 0]

def k0_off599 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v350 : Index := Scalar.indexCast v347
  let c0_167 : Index := 0#32
  ![v350.toNat, 0]
def k0_off600 (v345 : BitVec 32) : Fin 2 → Nat :=
  let v355 : Index := Scalar.indexCast v345
  let c16_169 : Index := 16#32
  ![v355.toNat, 16]
def k0_off601 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v357 : Index := Scalar.indexCast v347
  let c16_170 : Index := 16#32
  ![v357.toNat, 16]
def k0_off602 (v345 : BitVec 32) : Fin 2 → Nat :=
  let v362 : Index := Scalar.indexCast v345
  let c32_172 : Index := 32#32
  ![v362.toNat, 32]
def k0_off603 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v364 : Index := Scalar.indexCast v347
  let c32_173 : Index := 32#32
  ![v364.toNat, 32]
def k0_off604 (v345 : BitVec 32) : Fin 2 → Nat :=
  let v369 : Index := Scalar.indexCast v345
  let c48_175 : Index := 48#32
  ![v369.toNat, 48]
def k0_off605 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v371 : Index := Scalar.indexCast v347
  let c48_176 : Index := 48#32
  ![v371.toNat, 48]
def k0_off606 (v345 : BitVec 32) : Fin 2 → Nat :=
  let v376 : Index := Scalar.indexCast v345
  let c64_178 : Index := 64#32
  ![v376.toNat, 64]
def k0_off607 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v378 : Index := Scalar.indexCast v347
  let c64_179 : Index := 64#32
  ![v378.toNat, 64]
def k0_off608 (v345 : BitVec 32) : Fin 2 → Nat :=
  let v383 : Index := Scalar.indexCast v345
  let c80_181 : Index := 80#32
  ![v383.toNat, 80]
def k0_off609 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v385 : Index := Scalar.indexCast v347
  let c80_182 : Index := 80#32
  ![v385.toNat, 80]
def k0_off610 (v345 : BitVec 32) : Fin 2 → Nat :=
  let v390 : Index := Scalar.indexCast v345
  let c96_184 : Index := 96#32
  ![v390.toNat, 96]
def k0_off611 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v392 : Index := Scalar.indexCast v347
  let c96_185 : Index := 96#32
  ![v392.toNat, 96]
def k0_off612 (v345 : BitVec 32) : Fin 2 → Nat :=
  let v397 : Index := Scalar.indexCast v345
  let c112_187 : Index := 112#32
  ![v397.toNat, 112]

def k0_chk40 (v19 : BitVec 32) (k0_t9 : Fin (k0_t9_loop v19).trips) (v345 : BitVec 32) : Prop :=
  (∀ (k0_h8 : k0_cond8 v19 k0_t9 = 1#1), ∀ a, (k0_off598 v345) a + S1x16.size a ≤ S321x128.size a) ∧
  (∀ (k0_h8 : k0_cond8 v19 k0_t9 = 1#1), ∀ a, (k0_off600 v345) a + S1x16.size a ≤ S321x128.size a) ∧
  (∀ (k0_h8 : k0_cond8 v19 k0_t9 = 1#1), ∀ a, (k0_off602 v345) a + S1x16.size a ≤ S321x128.size a) ∧
  (∀ (k0_h8 : k0_cond8 v19 k0_t9 = 1#1), ∀ a, (k0_off604 v345) a + S1x16.size a ≤ S321x128.size a) ∧
  (∀ (k0_h8 : k0_cond8 v19 k0_t9 = 1#1), ∀ a, (k0_off606 v345) a + S1x16.size a ≤ S321x128.size a) ∧
  (∀ (k0_h8 : k0_cond8 v19 k0_t9 = 1#1), ∀ a, (k0_off608 v345) a + S1x16.size a ≤ S321x128.size a) ∧
  (∀ (k0_h8 : k0_cond8 v19 k0_t9 = 1#1), ∀ a, (k0_off610 v345) a + S1x16.size a ≤ S321x128.size a) ∧
  (∀ (k0_h8 : k0_cond8 v19 k0_t9 = 1#1), ∀ a, (k0_off612 v345) a + S1x16.size a ≤ S321x128.size a)
theorem k0_off598_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off598 v345) a + S1x16.size a ≤ S321x128.size a := fun v19 k0_t9 v345 k0_hw40 k0_h8 => k0_hw40.1 k0_h8
theorem k0_off600_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off600 v345) a + S1x16.size a ≤ S321x128.size a := fun v19 k0_t9 v345 k0_hw40 k0_h8 => k0_hw40.2.1 k0_h8
theorem k0_off602_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off602 v345) a + S1x16.size a ≤ S321x128.size a := fun v19 k0_t9 v345 k0_hw40 k0_h8 => k0_hw40.2.2.1 k0_h8
theorem k0_off604_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off604 v345) a + S1x16.size a ≤ S321x128.size a := fun v19 k0_t9 v345 k0_hw40 k0_h8 => k0_hw40.2.2.2.1 k0_h8
theorem k0_off606_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off606 v345) a + S1x16.size a ≤ S321x128.size a := fun v19 k0_t9 v345 k0_hw40 k0_h8 => k0_hw40.2.2.2.2.1 k0_h8
theorem k0_off608_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off608 v345) a + S1x16.size a ≤ S321x128.size a := fun v19 k0_t9 v345 k0_hw40 k0_h8 => k0_hw40.2.2.2.2.2.1 k0_h8
theorem k0_off610_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off610 v345) a + S1x16.size a ≤ S321x128.size a := fun v19 k0_t9 v345 k0_hw40 k0_h8 => k0_hw40.2.2.2.2.2.2.1 k0_h8
theorem k0_off612_inb : ∀ (v19 : BitVec 32) (k0_t9 : Fin (k0_t9_loop v19).trips) (v345 : BitVec 32) (k0_hw40 : k0_chk40 v19 k0_t9 v345), ∀ (k0_h8 : k0_cond8 v19 k0_t9 = 1#1), ∀ a, (k0_off612 v345) a + S1x16.size a ≤ S321x128.size a := fun v19 k0_t9 v345 k0_hw40 k0_h8 => k0_hw40.2.2.2.2.2.2.2 k0_h8

def k0_off613 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_165 : BitVec 32 := 16#32
  let v346 : BitVec 32 := Scalar.muli arg25 c16_i32_165
  let c4_i32 : BitVec 32 := 4#32
  let v347 : BitVec 32 := Scalar.addi v346 c4_i32
  let v399 : Index := Scalar.indexCast v347
  let c112_188 : Index := 112#32
  ![v399.toNat, 112]
def k0_off614 (v405 : BitVec 32) : Fin 2 → Nat :=
  let v408 : Index := Scalar.indexCast v405
  let c0_191 : Index := 0#32
  ![v408.toNat, 0]

def k0_off615 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v410 : Index := Scalar.indexCast v407
  let c0_192 : Index := 0#32
  ![v410.toNat, 0]
def k0_off616 (v405 : BitVec 32) : Fin 2 → Nat :=
  let v415 : Index := Scalar.indexCast v405
  let c16_194 : Index := 16#32
  ![v415.toNat, 16]
def k0_off617 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v417 : Index := Scalar.indexCast v407
  let c16_195 : Index := 16#32
  ![v417.toNat, 16]
def k0_off618 (v405 : BitVec 32) : Fin 2 → Nat :=
  let v422 : Index := Scalar.indexCast v405
  let c32_197 : Index := 32#32
  ![v422.toNat, 32]
def k0_off619 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v424 : Index := Scalar.indexCast v407
  let c32_198 : Index := 32#32
  ![v424.toNat, 32]
def k0_off620 (v405 : BitVec 32) : Fin 2 → Nat :=
  let v429 : Index := Scalar.indexCast v405
  let c48_200 : Index := 48#32
  ![v429.toNat, 48]
def k0_off621 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v431 : Index := Scalar.indexCast v407
  let c48_201 : Index := 48#32
  ![v431.toNat, 48]
def k0_off622 (v405 : BitVec 32) : Fin 2 → Nat :=
  let v436 : Index := Scalar.indexCast v405
  let c64_203 : Index := 64#32
  ![v436.toNat, 64]
def k0_off623 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v438 : Index := Scalar.indexCast v407
  let c64_204 : Index := 64#32
  ![v438.toNat, 64]
def k0_off624 (v405 : BitVec 32) : Fin 2 → Nat :=
  let v443 : Index := Scalar.indexCast v405
  let c80_206 : Index := 80#32
  ![v443.toNat, 80]
def k0_off625 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v445 : Index := Scalar.indexCast v407
  let c80_207 : Index := 80#32
  ![v445.toNat, 80]
def k0_off626 (v405 : BitVec 32) : Fin 2 → Nat :=
  let v450 : Index := Scalar.indexCast v405
  let c96_209 : Index := 96#32
  ![v450.toNat, 96]
def k0_off627 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v452 : Index := Scalar.indexCast v407
  let c96_210 : Index := 96#32
  ![v452.toNat, 96]
def k0_off628 (v405 : BitVec 32) : Fin 2 → Nat :=
  let v457 : Index := Scalar.indexCast v405
  let c112_212 : Index := 112#32
  ![v457.toNat, 112]

def k0_chk41 (v19 : BitVec 32) (k0_t9 : Fin (k0_t9_loop v19).trips) (v405 : BitVec 32) : Prop :=
  (∀ (k0_h8 : k0_cond8 v19 k0_t9 = 1#1), ∀ a, (k0_off614 v405) a + S1x16.size a ≤ S321x128.size a) ∧
  (∀ (k0_h8 : k0_cond8 v19 k0_t9 = 1#1), ∀ a, (k0_off616 v405) a + S1x16.size a ≤ S321x128.size a) ∧
  (∀ (k0_h8 : k0_cond8 v19 k0_t9 = 1#1), ∀ a, (k0_off618 v405) a + S1x16.size a ≤ S321x128.size a) ∧
  (∀ (k0_h8 : k0_cond8 v19 k0_t9 = 1#1), ∀ a, (k0_off620 v405) a + S1x16.size a ≤ S321x128.size a) ∧
  (∀ (k0_h8 : k0_cond8 v19 k0_t9 = 1#1), ∀ a, (k0_off622 v405) a + S1x16.size a ≤ S321x128.size a) ∧
  (∀ (k0_h8 : k0_cond8 v19 k0_t9 = 1#1), ∀ a, (k0_off624 v405) a + S1x16.size a ≤ S321x128.size a) ∧
  (∀ (k0_h8 : k0_cond8 v19 k0_t9 = 1#1), ∀ a, (k0_off626 v405) a + S1x16.size a ≤ S321x128.size a) ∧
  (∀ (k0_h8 : k0_cond8 v19 k0_t9 = 1#1), ∀ a, (k0_off628 v405) a + S1x16.size a ≤ S321x128.size a)
theorem k0_off614_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off614 v405) a + S1x16.size a ≤ S321x128.size a := fun v19 k0_t9 v405 k0_hw41 k0_h8 => k0_hw41.1 k0_h8
theorem k0_off616_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off616 v405) a + S1x16.size a ≤ S321x128.size a := fun v19 k0_t9 v405 k0_hw41 k0_h8 => k0_hw41.2.1 k0_h8
theorem k0_off618_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off618 v405) a + S1x16.size a ≤ S321x128.size a := fun v19 k0_t9 v405 k0_hw41 k0_h8 => k0_hw41.2.2.1 k0_h8
theorem k0_off620_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off620 v405) a + S1x16.size a ≤ S321x128.size a := fun v19 k0_t9 v405 k0_hw41 k0_h8 => k0_hw41.2.2.2.1 k0_h8
theorem k0_off622_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off622 v405) a + S1x16.size a ≤ S321x128.size a := fun v19 k0_t9 v405 k0_hw41 k0_h8 => k0_hw41.2.2.2.2.1 k0_h8
theorem k0_off624_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off624 v405) a + S1x16.size a ≤ S321x128.size a := fun v19 k0_t9 v405 k0_hw41 k0_h8 => k0_hw41.2.2.2.2.2.1 k0_h8
theorem k0_off626_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off626 v405) a + S1x16.size a ≤ S321x128.size a := fun v19 k0_t9 v405 k0_hw41 k0_h8 => k0_hw41.2.2.2.2.2.2.1 k0_h8
theorem k0_off628_inb : ∀ (v19 : BitVec 32) (k0_t9 : Fin (k0_t9_loop v19).trips) (v405 : BitVec 32) (k0_hw41 : k0_chk41 v19 k0_t9 v405), ∀ (k0_h8 : k0_cond8 v19 k0_t9 = 1#1), ∀ a, (k0_off628 v405) a + S1x16.size a ≤ S321x128.size a := fun v19 k0_t9 v405 k0_hw41 k0_h8 => k0_hw41.2.2.2.2.2.2.2 k0_h8

def k0_off629 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_190 : BitVec 32 := 16#32
  let v406 : BitVec 32 := Scalar.muli arg25 c16_i32_190
  let c5_i32 : BitVec 32 := 5#32
  let v407 : BitVec 32 := Scalar.addi v406 c5_i32
  let v459 : Index := Scalar.indexCast v407
  let c112_213 : Index := 112#32
  ![v459.toNat, 112]
def k0_off630 (v465 : BitVec 32) : Fin 2 → Nat :=
  let v468 : Index := Scalar.indexCast v465
  let c0_216 : Index := 0#32
  ![v468.toNat, 0]

def k0_off631 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v470 : Index := Scalar.indexCast v467
  let c0_217 : Index := 0#32
  ![v470.toNat, 0]
def k0_off632 (v465 : BitVec 32) : Fin 2 → Nat :=
  let v475 : Index := Scalar.indexCast v465
  let c16_219 : Index := 16#32
  ![v475.toNat, 16]
def k0_off633 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v477 : Index := Scalar.indexCast v467
  let c16_220 : Index := 16#32
  ![v477.toNat, 16]
def k0_off634 (v465 : BitVec 32) : Fin 2 → Nat :=
  let v482 : Index := Scalar.indexCast v465
  let c32_222 : Index := 32#32
  ![v482.toNat, 32]
def k0_off635 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v484 : Index := Scalar.indexCast v467
  let c32_223 : Index := 32#32
  ![v484.toNat, 32]
def k0_off636 (v465 : BitVec 32) : Fin 2 → Nat :=
  let v489 : Index := Scalar.indexCast v465
  let c48_225 : Index := 48#32
  ![v489.toNat, 48]
def k0_off637 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v491 : Index := Scalar.indexCast v467
  let c48_226 : Index := 48#32
  ![v491.toNat, 48]
def k0_off638 (v465 : BitVec 32) : Fin 2 → Nat :=
  let v496 : Index := Scalar.indexCast v465
  let c64_228 : Index := 64#32
  ![v496.toNat, 64]
def k0_off639 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v498 : Index := Scalar.indexCast v467
  let c64_229 : Index := 64#32
  ![v498.toNat, 64]
def k0_off640 (v465 : BitVec 32) : Fin 2 → Nat :=
  let v503 : Index := Scalar.indexCast v465
  let c80_231 : Index := 80#32
  ![v503.toNat, 80]
def k0_off641 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v505 : Index := Scalar.indexCast v467
  let c80_232 : Index := 80#32
  ![v505.toNat, 80]
def k0_off642 (v465 : BitVec 32) : Fin 2 → Nat :=
  let v510 : Index := Scalar.indexCast v465
  let c96_234 : Index := 96#32
  ![v510.toNat, 96]
def k0_off643 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v512 : Index := Scalar.indexCast v467
  let c96_235 : Index := 96#32
  ![v512.toNat, 96]
def k0_off644 (v465 : BitVec 32) : Fin 2 → Nat :=
  let v517 : Index := Scalar.indexCast v465
  let c112_237 : Index := 112#32
  ![v517.toNat, 112]

def k0_chk42 (v19 : BitVec 32) (k0_t9 : Fin (k0_t9_loop v19).trips) (v465 : BitVec 32) : Prop :=
  (∀ (k0_h8 : k0_cond8 v19 k0_t9 = 1#1), ∀ a, (k0_off630 v465) a + S1x16.size a ≤ S321x128.size a) ∧
  (∀ (k0_h8 : k0_cond8 v19 k0_t9 = 1#1), ∀ a, (k0_off632 v465) a + S1x16.size a ≤ S321x128.size a) ∧
  (∀ (k0_h8 : k0_cond8 v19 k0_t9 = 1#1), ∀ a, (k0_off634 v465) a + S1x16.size a ≤ S321x128.size a) ∧
  (∀ (k0_h8 : k0_cond8 v19 k0_t9 = 1#1), ∀ a, (k0_off636 v465) a + S1x16.size a ≤ S321x128.size a) ∧
  (∀ (k0_h8 : k0_cond8 v19 k0_t9 = 1#1), ∀ a, (k0_off638 v465) a + S1x16.size a ≤ S321x128.size a) ∧
  (∀ (k0_h8 : k0_cond8 v19 k0_t9 = 1#1), ∀ a, (k0_off640 v465) a + S1x16.size a ≤ S321x128.size a) ∧
  (∀ (k0_h8 : k0_cond8 v19 k0_t9 = 1#1), ∀ a, (k0_off642 v465) a + S1x16.size a ≤ S321x128.size a) ∧
  (∀ (k0_h8 : k0_cond8 v19 k0_t9 = 1#1), ∀ a, (k0_off644 v465) a + S1x16.size a ≤ S321x128.size a)
theorem k0_off630_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off630 v465) a + S1x16.size a ≤ S321x128.size a := fun v19 k0_t9 v465 k0_hw42 k0_h8 => k0_hw42.1 k0_h8
theorem k0_off632_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off632 v465) a + S1x16.size a ≤ S321x128.size a := fun v19 k0_t9 v465 k0_hw42 k0_h8 => k0_hw42.2.1 k0_h8
theorem k0_off634_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off634 v465) a + S1x16.size a ≤ S321x128.size a := fun v19 k0_t9 v465 k0_hw42 k0_h8 => k0_hw42.2.2.1 k0_h8
theorem k0_off636_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off636 v465) a + S1x16.size a ≤ S321x128.size a := fun v19 k0_t9 v465 k0_hw42 k0_h8 => k0_hw42.2.2.2.1 k0_h8
theorem k0_off638_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off638 v465) a + S1x16.size a ≤ S321x128.size a := fun v19 k0_t9 v465 k0_hw42 k0_h8 => k0_hw42.2.2.2.2.1 k0_h8
theorem k0_off640_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off640 v465) a + S1x16.size a ≤ S321x128.size a := fun v19 k0_t9 v465 k0_hw42 k0_h8 => k0_hw42.2.2.2.2.2.1 k0_h8
theorem k0_off642_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off642 v465) a + S1x16.size a ≤ S321x128.size a := fun v19 k0_t9 v465 k0_hw42 k0_h8 => k0_hw42.2.2.2.2.2.2.1 k0_h8
theorem k0_off644_inb : ∀ (v19 : BitVec 32) (k0_t9 : Fin (k0_t9_loop v19).trips) (v465 : BitVec 32) (k0_hw42 : k0_chk42 v19 k0_t9 v465), ∀ (k0_h8 : k0_cond8 v19 k0_t9 = 1#1), ∀ a, (k0_off644 v465) a + S1x16.size a ≤ S321x128.size a := fun v19 k0_t9 v465 k0_hw42 k0_h8 => k0_hw42.2.2.2.2.2.2.2 k0_h8

def k0_off645 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_215 : BitVec 32 := 16#32
  let v466 : BitVec 32 := Scalar.muli arg25 c16_i32_215
  let c6_i32 : BitVec 32 := 6#32
  let v467 : BitVec 32 := Scalar.addi v466 c6_i32
  let v519 : Index := Scalar.indexCast v467
  let c112_238 : Index := 112#32
  ![v519.toNat, 112]
def k0_off646 (v525 : BitVec 32) : Fin 2 → Nat :=
  let v528 : Index := Scalar.indexCast v525
  let c0_241 : Index := 0#32
  ![v528.toNat, 0]

def k0_off647 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v530 : Index := Scalar.indexCast v527
  let c0_242 : Index := 0#32
  ![v530.toNat, 0]
def k0_off648 (v525 : BitVec 32) : Fin 2 → Nat :=
  let v535 : Index := Scalar.indexCast v525
  let c16_244 : Index := 16#32
  ![v535.toNat, 16]
def k0_off649 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v537 : Index := Scalar.indexCast v527
  let c16_245 : Index := 16#32
  ![v537.toNat, 16]
def k0_off650 (v525 : BitVec 32) : Fin 2 → Nat :=
  let v542 : Index := Scalar.indexCast v525
  let c32_247 : Index := 32#32
  ![v542.toNat, 32]
def k0_off651 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v544 : Index := Scalar.indexCast v527
  let c32_248 : Index := 32#32
  ![v544.toNat, 32]
def k0_off652 (v525 : BitVec 32) : Fin 2 → Nat :=
  let v549 : Index := Scalar.indexCast v525
  let c48_250 : Index := 48#32
  ![v549.toNat, 48]
def k0_off653 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v551 : Index := Scalar.indexCast v527
  let c48_251 : Index := 48#32
  ![v551.toNat, 48]
def k0_off654 (v525 : BitVec 32) : Fin 2 → Nat :=
  let v556 : Index := Scalar.indexCast v525
  let c64_253 : Index := 64#32
  ![v556.toNat, 64]
def k0_off655 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v558 : Index := Scalar.indexCast v527
  let c64_254 : Index := 64#32
  ![v558.toNat, 64]
def k0_off656 (v525 : BitVec 32) : Fin 2 → Nat :=
  let v563 : Index := Scalar.indexCast v525
  let c80_256 : Index := 80#32
  ![v563.toNat, 80]
def k0_off657 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v565 : Index := Scalar.indexCast v527
  let c80_257 : Index := 80#32
  ![v565.toNat, 80]
def k0_off658 (v525 : BitVec 32) : Fin 2 → Nat :=
  let v570 : Index := Scalar.indexCast v525
  let c96_259 : Index := 96#32
  ![v570.toNat, 96]
def k0_off659 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v572 : Index := Scalar.indexCast v527
  let c96_260 : Index := 96#32
  ![v572.toNat, 96]
def k0_off660 (v525 : BitVec 32) : Fin 2 → Nat :=
  let v577 : Index := Scalar.indexCast v525
  let c112_262 : Index := 112#32
  ![v577.toNat, 112]

def k0_chk43 (v19 : BitVec 32) (k0_t9 : Fin (k0_t9_loop v19).trips) (v525 : BitVec 32) : Prop :=
  (∀ (k0_h8 : k0_cond8 v19 k0_t9 = 1#1), ∀ a, (k0_off646 v525) a + S1x16.size a ≤ S321x128.size a) ∧
  (∀ (k0_h8 : k0_cond8 v19 k0_t9 = 1#1), ∀ a, (k0_off648 v525) a + S1x16.size a ≤ S321x128.size a) ∧
  (∀ (k0_h8 : k0_cond8 v19 k0_t9 = 1#1), ∀ a, (k0_off650 v525) a + S1x16.size a ≤ S321x128.size a) ∧
  (∀ (k0_h8 : k0_cond8 v19 k0_t9 = 1#1), ∀ a, (k0_off652 v525) a + S1x16.size a ≤ S321x128.size a) ∧
  (∀ (k0_h8 : k0_cond8 v19 k0_t9 = 1#1), ∀ a, (k0_off654 v525) a + S1x16.size a ≤ S321x128.size a) ∧
  (∀ (k0_h8 : k0_cond8 v19 k0_t9 = 1#1), ∀ a, (k0_off656 v525) a + S1x16.size a ≤ S321x128.size a) ∧
  (∀ (k0_h8 : k0_cond8 v19 k0_t9 = 1#1), ∀ a, (k0_off658 v525) a + S1x16.size a ≤ S321x128.size a) ∧
  (∀ (k0_h8 : k0_cond8 v19 k0_t9 = 1#1), ∀ a, (k0_off660 v525) a + S1x16.size a ≤ S321x128.size a)
theorem k0_off646_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off646 v525) a + S1x16.size a ≤ S321x128.size a := fun v19 k0_t9 v525 k0_hw43 k0_h8 => k0_hw43.1 k0_h8
theorem k0_off648_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off648 v525) a + S1x16.size a ≤ S321x128.size a := fun v19 k0_t9 v525 k0_hw43 k0_h8 => k0_hw43.2.1 k0_h8
theorem k0_off650_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off650 v525) a + S1x16.size a ≤ S321x128.size a := fun v19 k0_t9 v525 k0_hw43 k0_h8 => k0_hw43.2.2.1 k0_h8
theorem k0_off652_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off652 v525) a + S1x16.size a ≤ S321x128.size a := fun v19 k0_t9 v525 k0_hw43 k0_h8 => k0_hw43.2.2.2.1 k0_h8
theorem k0_off654_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off654 v525) a + S1x16.size a ≤ S321x128.size a := fun v19 k0_t9 v525 k0_hw43 k0_h8 => k0_hw43.2.2.2.2.1 k0_h8
theorem k0_off656_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off656 v525) a + S1x16.size a ≤ S321x128.size a := fun v19 k0_t9 v525 k0_hw43 k0_h8 => k0_hw43.2.2.2.2.2.1 k0_h8
theorem k0_off658_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off658 v525) a + S1x16.size a ≤ S321x128.size a := fun v19 k0_t9 v525 k0_hw43 k0_h8 => k0_hw43.2.2.2.2.2.2.1 k0_h8
theorem k0_off660_inb : ∀ (v19 : BitVec 32) (k0_t9 : Fin (k0_t9_loop v19).trips) (v525 : BitVec 32) (k0_hw43 : k0_chk43 v19 k0_t9 v525), ∀ (k0_h8 : k0_cond8 v19 k0_t9 = 1#1), ∀ a, (k0_off660 v525) a + S1x16.size a ≤ S321x128.size a := fun v19 k0_t9 v525 k0_hw43 k0_h8 => k0_hw43.2.2.2.2.2.2.2 k0_h8

def k0_off661 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_240 : BitVec 32 := 16#32
  let v526 : BitVec 32 := Scalar.muli arg25 c16_i32_240
  let c7_i32 : BitVec 32 := 7#32
  let v527 : BitVec 32 := Scalar.addi v526 c7_i32
  let v579 : Index := Scalar.indexCast v527
  let c112_263 : Index := 112#32
  ![v579.toNat, 112]
def k0_off662 (v585 : BitVec 32) : Fin 2 → Nat :=
  let v588 : Index := Scalar.indexCast v585
  let c0_267 : Index := 0#32
  ![v588.toNat, 0]

def k0_off663 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v590 : Index := Scalar.indexCast v587
  let c0_268 : Index := 0#32
  ![v590.toNat, 0]
def k0_off664 (v585 : BitVec 32) : Fin 2 → Nat :=
  let v595 : Index := Scalar.indexCast v585
  let c16_270 : Index := 16#32
  ![v595.toNat, 16]
def k0_off665 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v597 : Index := Scalar.indexCast v587
  let c16_271 : Index := 16#32
  ![v597.toNat, 16]
def k0_off666 (v585 : BitVec 32) : Fin 2 → Nat :=
  let v602 : Index := Scalar.indexCast v585
  let c32_273 : Index := 32#32
  ![v602.toNat, 32]
def k0_off667 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v604 : Index := Scalar.indexCast v587
  let c32_274 : Index := 32#32
  ![v604.toNat, 32]
def k0_off668 (v585 : BitVec 32) : Fin 2 → Nat :=
  let v609 : Index := Scalar.indexCast v585
  let c48_276 : Index := 48#32
  ![v609.toNat, 48]
def k0_off669 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v611 : Index := Scalar.indexCast v587
  let c48_277 : Index := 48#32
  ![v611.toNat, 48]
def k0_off670 (v585 : BitVec 32) : Fin 2 → Nat :=
  let v616 : Index := Scalar.indexCast v585
  let c64_279 : Index := 64#32
  ![v616.toNat, 64]
def k0_off671 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v618 : Index := Scalar.indexCast v587
  let c64_280 : Index := 64#32
  ![v618.toNat, 64]
def k0_off672 (v585 : BitVec 32) : Fin 2 → Nat :=
  let v623 : Index := Scalar.indexCast v585
  let c80_282 : Index := 80#32
  ![v623.toNat, 80]
def k0_off673 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v625 : Index := Scalar.indexCast v587
  let c80_283 : Index := 80#32
  ![v625.toNat, 80]
def k0_off674 (v585 : BitVec 32) : Fin 2 → Nat :=
  let v630 : Index := Scalar.indexCast v585
  let c96_285 : Index := 96#32
  ![v630.toNat, 96]
def k0_off675 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v632 : Index := Scalar.indexCast v587
  let c96_286 : Index := 96#32
  ![v632.toNat, 96]
def k0_off676 (v585 : BitVec 32) : Fin 2 → Nat :=
  let v637 : Index := Scalar.indexCast v585
  let c112_288 : Index := 112#32
  ![v637.toNat, 112]

def k0_chk44 (v19 : BitVec 32) (k0_t9 : Fin (k0_t9_loop v19).trips) (v585 : BitVec 32) : Prop :=
  (∀ (k0_h8 : k0_cond8 v19 k0_t9 = 1#1), ∀ a, (k0_off662 v585) a + S1x16.size a ≤ S321x128.size a) ∧
  (∀ (k0_h8 : k0_cond8 v19 k0_t9 = 1#1), ∀ a, (k0_off664 v585) a + S1x16.size a ≤ S321x128.size a) ∧
  (∀ (k0_h8 : k0_cond8 v19 k0_t9 = 1#1), ∀ a, (k0_off666 v585) a + S1x16.size a ≤ S321x128.size a) ∧
  (∀ (k0_h8 : k0_cond8 v19 k0_t9 = 1#1), ∀ a, (k0_off668 v585) a + S1x16.size a ≤ S321x128.size a) ∧
  (∀ (k0_h8 : k0_cond8 v19 k0_t9 = 1#1), ∀ a, (k0_off670 v585) a + S1x16.size a ≤ S321x128.size a) ∧
  (∀ (k0_h8 : k0_cond8 v19 k0_t9 = 1#1), ∀ a, (k0_off672 v585) a + S1x16.size a ≤ S321x128.size a) ∧
  (∀ (k0_h8 : k0_cond8 v19 k0_t9 = 1#1), ∀ a, (k0_off674 v585) a + S1x16.size a ≤ S321x128.size a) ∧
  (∀ (k0_h8 : k0_cond8 v19 k0_t9 = 1#1), ∀ a, (k0_off676 v585) a + S1x16.size a ≤ S321x128.size a)
theorem k0_off662_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off662 v585) a + S1x16.size a ≤ S321x128.size a := fun v19 k0_t9 v585 k0_hw44 k0_h8 => k0_hw44.1 k0_h8
theorem k0_off664_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off664 v585) a + S1x16.size a ≤ S321x128.size a := fun v19 k0_t9 v585 k0_hw44 k0_h8 => k0_hw44.2.1 k0_h8
theorem k0_off666_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off666 v585) a + S1x16.size a ≤ S321x128.size a := fun v19 k0_t9 v585 k0_hw44 k0_h8 => k0_hw44.2.2.1 k0_h8
theorem k0_off668_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off668 v585) a + S1x16.size a ≤ S321x128.size a := fun v19 k0_t9 v585 k0_hw44 k0_h8 => k0_hw44.2.2.2.1 k0_h8
theorem k0_off670_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off670 v585) a + S1x16.size a ≤ S321x128.size a := fun v19 k0_t9 v585 k0_hw44 k0_h8 => k0_hw44.2.2.2.2.1 k0_h8
theorem k0_off672_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off672 v585) a + S1x16.size a ≤ S321x128.size a := fun v19 k0_t9 v585 k0_hw44 k0_h8 => k0_hw44.2.2.2.2.2.1 k0_h8
theorem k0_off674_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off674 v585) a + S1x16.size a ≤ S321x128.size a := fun v19 k0_t9 v585 k0_hw44 k0_h8 => k0_hw44.2.2.2.2.2.2.1 k0_h8
theorem k0_off676_inb : ∀ (v19 : BitVec 32) (k0_t9 : Fin (k0_t9_loop v19).trips) (v585 : BitVec 32) (k0_hw44 : k0_chk44 v19 k0_t9 v585), ∀ (k0_h8 : k0_cond8 v19 k0_t9 = 1#1), ∀ a, (k0_off676 v585) a + S1x16.size a ≤ S321x128.size a := fun v19 k0_t9 v585 k0_hw44 k0_h8 => k0_hw44.2.2.2.2.2.2.2 k0_h8

def k0_off677 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_265 : BitVec 32 := 16#32
  let v586 : BitVec 32 := Scalar.muli arg25 c16_i32_265
  let c8_i32_266 : BitVec 32 := 8#32
  let v587 : BitVec 32 := Scalar.addi v586 c8_i32_266
  let v639 : Index := Scalar.indexCast v587
  let c112_289 : Index := 112#32
  ![v639.toNat, 112]
def k0_off678 (v645 : BitVec 32) : Fin 2 → Nat :=
  let v648 : Index := Scalar.indexCast v645
  let c0_292 : Index := 0#32
  ![v648.toNat, 0]

def k0_off679 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v650 : Index := Scalar.indexCast v647
  let c0_293 : Index := 0#32
  ![v650.toNat, 0]
def k0_off680 (v645 : BitVec 32) : Fin 2 → Nat :=
  let v655 : Index := Scalar.indexCast v645
  let c16_295 : Index := 16#32
  ![v655.toNat, 16]
def k0_off681 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v657 : Index := Scalar.indexCast v647
  let c16_296 : Index := 16#32
  ![v657.toNat, 16]
def k0_off682 (v645 : BitVec 32) : Fin 2 → Nat :=
  let v662 : Index := Scalar.indexCast v645
  let c32_298 : Index := 32#32
  ![v662.toNat, 32]
def k0_off683 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v664 : Index := Scalar.indexCast v647
  let c32_299 : Index := 32#32
  ![v664.toNat, 32]
def k0_off684 (v645 : BitVec 32) : Fin 2 → Nat :=
  let v669 : Index := Scalar.indexCast v645
  let c48_301 : Index := 48#32
  ![v669.toNat, 48]
def k0_off685 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v671 : Index := Scalar.indexCast v647
  let c48_302 : Index := 48#32
  ![v671.toNat, 48]
def k0_off686 (v645 : BitVec 32) : Fin 2 → Nat :=
  let v676 : Index := Scalar.indexCast v645
  let c64_304 : Index := 64#32
  ![v676.toNat, 64]
def k0_off687 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v678 : Index := Scalar.indexCast v647
  let c64_305 : Index := 64#32
  ![v678.toNat, 64]
def k0_off688 (v645 : BitVec 32) : Fin 2 → Nat :=
  let v683 : Index := Scalar.indexCast v645
  let c80_307 : Index := 80#32
  ![v683.toNat, 80]
def k0_off689 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v685 : Index := Scalar.indexCast v647
  let c80_308 : Index := 80#32
  ![v685.toNat, 80]
def k0_off690 (v645 : BitVec 32) : Fin 2 → Nat :=
  let v690 : Index := Scalar.indexCast v645
  let c96_310 : Index := 96#32
  ![v690.toNat, 96]
def k0_off691 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v692 : Index := Scalar.indexCast v647
  let c96_311 : Index := 96#32
  ![v692.toNat, 96]
def k0_off692 (v645 : BitVec 32) : Fin 2 → Nat :=
  let v697 : Index := Scalar.indexCast v645
  let c112_313 : Index := 112#32
  ![v697.toNat, 112]

def k0_chk45 (v19 : BitVec 32) (k0_t9 : Fin (k0_t9_loop v19).trips) (v645 : BitVec 32) : Prop :=
  (∀ (k0_h8 : k0_cond8 v19 k0_t9 = 1#1), ∀ a, (k0_off678 v645) a + S1x16.size a ≤ S321x128.size a) ∧
  (∀ (k0_h8 : k0_cond8 v19 k0_t9 = 1#1), ∀ a, (k0_off680 v645) a + S1x16.size a ≤ S321x128.size a) ∧
  (∀ (k0_h8 : k0_cond8 v19 k0_t9 = 1#1), ∀ a, (k0_off682 v645) a + S1x16.size a ≤ S321x128.size a) ∧
  (∀ (k0_h8 : k0_cond8 v19 k0_t9 = 1#1), ∀ a, (k0_off684 v645) a + S1x16.size a ≤ S321x128.size a) ∧
  (∀ (k0_h8 : k0_cond8 v19 k0_t9 = 1#1), ∀ a, (k0_off686 v645) a + S1x16.size a ≤ S321x128.size a) ∧
  (∀ (k0_h8 : k0_cond8 v19 k0_t9 = 1#1), ∀ a, (k0_off688 v645) a + S1x16.size a ≤ S321x128.size a) ∧
  (∀ (k0_h8 : k0_cond8 v19 k0_t9 = 1#1), ∀ a, (k0_off690 v645) a + S1x16.size a ≤ S321x128.size a) ∧
  (∀ (k0_h8 : k0_cond8 v19 k0_t9 = 1#1), ∀ a, (k0_off692 v645) a + S1x16.size a ≤ S321x128.size a)
theorem k0_off678_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off678 v645) a + S1x16.size a ≤ S321x128.size a := fun v19 k0_t9 v645 k0_hw45 k0_h8 => k0_hw45.1 k0_h8
theorem k0_off680_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off680 v645) a + S1x16.size a ≤ S321x128.size a := fun v19 k0_t9 v645 k0_hw45 k0_h8 => k0_hw45.2.1 k0_h8
theorem k0_off682_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off682 v645) a + S1x16.size a ≤ S321x128.size a := fun v19 k0_t9 v645 k0_hw45 k0_h8 => k0_hw45.2.2.1 k0_h8
theorem k0_off684_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off684 v645) a + S1x16.size a ≤ S321x128.size a := fun v19 k0_t9 v645 k0_hw45 k0_h8 => k0_hw45.2.2.2.1 k0_h8
theorem k0_off686_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off686 v645) a + S1x16.size a ≤ S321x128.size a := fun v19 k0_t9 v645 k0_hw45 k0_h8 => k0_hw45.2.2.2.2.1 k0_h8
theorem k0_off688_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off688 v645) a + S1x16.size a ≤ S321x128.size a := fun v19 k0_t9 v645 k0_hw45 k0_h8 => k0_hw45.2.2.2.2.2.1 k0_h8
theorem k0_off690_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off690 v645) a + S1x16.size a ≤ S321x128.size a := fun v19 k0_t9 v645 k0_hw45 k0_h8 => k0_hw45.2.2.2.2.2.2.1 k0_h8
theorem k0_off692_inb : ∀ (v19 : BitVec 32) (k0_t9 : Fin (k0_t9_loop v19).trips) (v645 : BitVec 32) (k0_hw45 : k0_chk45 v19 k0_t9 v645), ∀ (k0_h8 : k0_cond8 v19 k0_t9 = 1#1), ∀ a, (k0_off692 v645) a + S1x16.size a ≤ S321x128.size a := fun v19 k0_t9 v645 k0_hw45 k0_h8 => k0_hw45.2.2.2.2.2.2.2 k0_h8

def k0_off693 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_291 : BitVec 32 := 16#32
  let v646 : BitVec 32 := Scalar.muli arg25 c16_i32_291
  let c9_i32 : BitVec 32 := 9#32
  let v647 : BitVec 32 := Scalar.addi v646 c9_i32
  let v699 : Index := Scalar.indexCast v647
  let c112_314 : Index := 112#32
  ![v699.toNat, 112]
def k0_off694 (v705 : BitVec 32) : Fin 2 → Nat :=
  let v708 : Index := Scalar.indexCast v705
  let c0_317 : Index := 0#32
  ![v708.toNat, 0]

def k0_off695 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v710 : Index := Scalar.indexCast v707
  let c0_318 : Index := 0#32
  ![v710.toNat, 0]
def k0_off696 (v705 : BitVec 32) : Fin 2 → Nat :=
  let v715 : Index := Scalar.indexCast v705
  let c16_320 : Index := 16#32
  ![v715.toNat, 16]
def k0_off697 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v717 : Index := Scalar.indexCast v707
  let c16_321 : Index := 16#32
  ![v717.toNat, 16]
def k0_off698 (v705 : BitVec 32) : Fin 2 → Nat :=
  let v722 : Index := Scalar.indexCast v705
  let c32_323 : Index := 32#32
  ![v722.toNat, 32]
def k0_off699 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v724 : Index := Scalar.indexCast v707
  let c32_324 : Index := 32#32
  ![v724.toNat, 32]
def k0_off700 (v705 : BitVec 32) : Fin 2 → Nat :=
  let v729 : Index := Scalar.indexCast v705
  let c48_326 : Index := 48#32
  ![v729.toNat, 48]
def k0_off701 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v731 : Index := Scalar.indexCast v707
  let c48_327 : Index := 48#32
  ![v731.toNat, 48]
def k0_off702 (v705 : BitVec 32) : Fin 2 → Nat :=
  let v736 : Index := Scalar.indexCast v705
  let c64_329 : Index := 64#32
  ![v736.toNat, 64]
def k0_off703 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v738 : Index := Scalar.indexCast v707
  let c64_330 : Index := 64#32
  ![v738.toNat, 64]
def k0_off704 (v705 : BitVec 32) : Fin 2 → Nat :=
  let v743 : Index := Scalar.indexCast v705
  let c80_332 : Index := 80#32
  ![v743.toNat, 80]
def k0_off705 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v745 : Index := Scalar.indexCast v707
  let c80_333 : Index := 80#32
  ![v745.toNat, 80]
def k0_off706 (v705 : BitVec 32) : Fin 2 → Nat :=
  let v750 : Index := Scalar.indexCast v705
  let c96_335 : Index := 96#32
  ![v750.toNat, 96]
def k0_off707 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v752 : Index := Scalar.indexCast v707
  let c96_336 : Index := 96#32
  ![v752.toNat, 96]
def k0_off708 (v705 : BitVec 32) : Fin 2 → Nat :=
  let v757 : Index := Scalar.indexCast v705
  let c112_338 : Index := 112#32
  ![v757.toNat, 112]

def k0_chk46 (v19 : BitVec 32) (k0_t9 : Fin (k0_t9_loop v19).trips) (v705 : BitVec 32) : Prop :=
  (∀ (k0_h8 : k0_cond8 v19 k0_t9 = 1#1), ∀ a, (k0_off694 v705) a + S1x16.size a ≤ S321x128.size a) ∧
  (∀ (k0_h8 : k0_cond8 v19 k0_t9 = 1#1), ∀ a, (k0_off696 v705) a + S1x16.size a ≤ S321x128.size a) ∧
  (∀ (k0_h8 : k0_cond8 v19 k0_t9 = 1#1), ∀ a, (k0_off698 v705) a + S1x16.size a ≤ S321x128.size a) ∧
  (∀ (k0_h8 : k0_cond8 v19 k0_t9 = 1#1), ∀ a, (k0_off700 v705) a + S1x16.size a ≤ S321x128.size a) ∧
  (∀ (k0_h8 : k0_cond8 v19 k0_t9 = 1#1), ∀ a, (k0_off702 v705) a + S1x16.size a ≤ S321x128.size a) ∧
  (∀ (k0_h8 : k0_cond8 v19 k0_t9 = 1#1), ∀ a, (k0_off704 v705) a + S1x16.size a ≤ S321x128.size a) ∧
  (∀ (k0_h8 : k0_cond8 v19 k0_t9 = 1#1), ∀ a, (k0_off706 v705) a + S1x16.size a ≤ S321x128.size a) ∧
  (∀ (k0_h8 : k0_cond8 v19 k0_t9 = 1#1), ∀ a, (k0_off708 v705) a + S1x16.size a ≤ S321x128.size a)
theorem k0_off694_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off694 v705) a + S1x16.size a ≤ S321x128.size a := fun v19 k0_t9 v705 k0_hw46 k0_h8 => k0_hw46.1 k0_h8
theorem k0_off696_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off696 v705) a + S1x16.size a ≤ S321x128.size a := fun v19 k0_t9 v705 k0_hw46 k0_h8 => k0_hw46.2.1 k0_h8
theorem k0_off698_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off698 v705) a + S1x16.size a ≤ S321x128.size a := fun v19 k0_t9 v705 k0_hw46 k0_h8 => k0_hw46.2.2.1 k0_h8
theorem k0_off700_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off700 v705) a + S1x16.size a ≤ S321x128.size a := fun v19 k0_t9 v705 k0_hw46 k0_h8 => k0_hw46.2.2.2.1 k0_h8
theorem k0_off702_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off702 v705) a + S1x16.size a ≤ S321x128.size a := fun v19 k0_t9 v705 k0_hw46 k0_h8 => k0_hw46.2.2.2.2.1 k0_h8
theorem k0_off704_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off704 v705) a + S1x16.size a ≤ S321x128.size a := fun v19 k0_t9 v705 k0_hw46 k0_h8 => k0_hw46.2.2.2.2.2.1 k0_h8
theorem k0_off706_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off706 v705) a + S1x16.size a ≤ S321x128.size a := fun v19 k0_t9 v705 k0_hw46 k0_h8 => k0_hw46.2.2.2.2.2.2.1 k0_h8
theorem k0_off708_inb : ∀ (v19 : BitVec 32) (k0_t9 : Fin (k0_t9_loop v19).trips) (v705 : BitVec 32) (k0_hw46 : k0_chk46 v19 k0_t9 v705), ∀ (k0_h8 : k0_cond8 v19 k0_t9 = 1#1), ∀ a, (k0_off708 v705) a + S1x16.size a ≤ S321x128.size a := fun v19 k0_t9 v705 k0_hw46 k0_h8 => k0_hw46.2.2.2.2.2.2.2 k0_h8

def k0_off709 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_316 : BitVec 32 := 16#32
  let v706 : BitVec 32 := Scalar.muli arg25 c16_i32_316
  let c10_i32 : BitVec 32 := 10#32
  let v707 : BitVec 32 := Scalar.addi v706 c10_i32
  let v759 : Index := Scalar.indexCast v707
  let c112_339 : Index := 112#32
  ![v759.toNat, 112]
def k0_off710 (v765 : BitVec 32) : Fin 2 → Nat :=
  let v768 : Index := Scalar.indexCast v765
  let c0_342 : Index := 0#32
  ![v768.toNat, 0]

def k0_off711 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v770 : Index := Scalar.indexCast v767
  let c0_343 : Index := 0#32
  ![v770.toNat, 0]
def k0_off712 (v765 : BitVec 32) : Fin 2 → Nat :=
  let v775 : Index := Scalar.indexCast v765
  let c16_345 : Index := 16#32
  ![v775.toNat, 16]
def k0_off713 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v777 : Index := Scalar.indexCast v767
  let c16_346 : Index := 16#32
  ![v777.toNat, 16]
def k0_off714 (v765 : BitVec 32) : Fin 2 → Nat :=
  let v782 : Index := Scalar.indexCast v765
  let c32_348 : Index := 32#32
  ![v782.toNat, 32]
def k0_off715 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v784 : Index := Scalar.indexCast v767
  let c32_349 : Index := 32#32
  ![v784.toNat, 32]
def k0_off716 (v765 : BitVec 32) : Fin 2 → Nat :=
  let v789 : Index := Scalar.indexCast v765
  let c48_351 : Index := 48#32
  ![v789.toNat, 48]
def k0_off717 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v791 : Index := Scalar.indexCast v767
  let c48_352 : Index := 48#32
  ![v791.toNat, 48]
def k0_off718 (v765 : BitVec 32) : Fin 2 → Nat :=
  let v796 : Index := Scalar.indexCast v765
  let c64_354 : Index := 64#32
  ![v796.toNat, 64]
def k0_off719 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v798 : Index := Scalar.indexCast v767
  let c64_355 : Index := 64#32
  ![v798.toNat, 64]
def k0_off720 (v765 : BitVec 32) : Fin 2 → Nat :=
  let v803 : Index := Scalar.indexCast v765
  let c80_357 : Index := 80#32
  ![v803.toNat, 80]
def k0_off721 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v805 : Index := Scalar.indexCast v767
  let c80_358 : Index := 80#32
  ![v805.toNat, 80]
def k0_off722 (v765 : BitVec 32) : Fin 2 → Nat :=
  let v810 : Index := Scalar.indexCast v765
  let c96_360 : Index := 96#32
  ![v810.toNat, 96]
def k0_off723 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v812 : Index := Scalar.indexCast v767
  let c96_361 : Index := 96#32
  ![v812.toNat, 96]
def k0_off724 (v765 : BitVec 32) : Fin 2 → Nat :=
  let v817 : Index := Scalar.indexCast v765
  let c112_363 : Index := 112#32
  ![v817.toNat, 112]

def k0_chk47 (v19 : BitVec 32) (k0_t9 : Fin (k0_t9_loop v19).trips) (v765 : BitVec 32) : Prop :=
  (∀ (k0_h8 : k0_cond8 v19 k0_t9 = 1#1), ∀ a, (k0_off710 v765) a + S1x16.size a ≤ S321x128.size a) ∧
  (∀ (k0_h8 : k0_cond8 v19 k0_t9 = 1#1), ∀ a, (k0_off712 v765) a + S1x16.size a ≤ S321x128.size a) ∧
  (∀ (k0_h8 : k0_cond8 v19 k0_t9 = 1#1), ∀ a, (k0_off714 v765) a + S1x16.size a ≤ S321x128.size a) ∧
  (∀ (k0_h8 : k0_cond8 v19 k0_t9 = 1#1), ∀ a, (k0_off716 v765) a + S1x16.size a ≤ S321x128.size a) ∧
  (∀ (k0_h8 : k0_cond8 v19 k0_t9 = 1#1), ∀ a, (k0_off718 v765) a + S1x16.size a ≤ S321x128.size a) ∧
  (∀ (k0_h8 : k0_cond8 v19 k0_t9 = 1#1), ∀ a, (k0_off720 v765) a + S1x16.size a ≤ S321x128.size a) ∧
  (∀ (k0_h8 : k0_cond8 v19 k0_t9 = 1#1), ∀ a, (k0_off722 v765) a + S1x16.size a ≤ S321x128.size a) ∧
  (∀ (k0_h8 : k0_cond8 v19 k0_t9 = 1#1), ∀ a, (k0_off724 v765) a + S1x16.size a ≤ S321x128.size a)
theorem k0_off710_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off710 v765) a + S1x16.size a ≤ S321x128.size a := fun v19 k0_t9 v765 k0_hw47 k0_h8 => k0_hw47.1 k0_h8
theorem k0_off712_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off712 v765) a + S1x16.size a ≤ S321x128.size a := fun v19 k0_t9 v765 k0_hw47 k0_h8 => k0_hw47.2.1 k0_h8
theorem k0_off714_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off714 v765) a + S1x16.size a ≤ S321x128.size a := fun v19 k0_t9 v765 k0_hw47 k0_h8 => k0_hw47.2.2.1 k0_h8
theorem k0_off716_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off716 v765) a + S1x16.size a ≤ S321x128.size a := fun v19 k0_t9 v765 k0_hw47 k0_h8 => k0_hw47.2.2.2.1 k0_h8
theorem k0_off718_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off718 v765) a + S1x16.size a ≤ S321x128.size a := fun v19 k0_t9 v765 k0_hw47 k0_h8 => k0_hw47.2.2.2.2.1 k0_h8
theorem k0_off720_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off720 v765) a + S1x16.size a ≤ S321x128.size a := fun v19 k0_t9 v765 k0_hw47 k0_h8 => k0_hw47.2.2.2.2.2.1 k0_h8
theorem k0_off722_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off722 v765) a + S1x16.size a ≤ S321x128.size a := fun v19 k0_t9 v765 k0_hw47 k0_h8 => k0_hw47.2.2.2.2.2.2.1 k0_h8
theorem k0_off724_inb : ∀ (v19 : BitVec 32) (k0_t9 : Fin (k0_t9_loop v19).trips) (v765 : BitVec 32) (k0_hw47 : k0_chk47 v19 k0_t9 v765), ∀ (k0_h8 : k0_cond8 v19 k0_t9 = 1#1), ∀ a, (k0_off724 v765) a + S1x16.size a ≤ S321x128.size a := fun v19 k0_t9 v765 k0_hw47 k0_h8 => k0_hw47.2.2.2.2.2.2.2 k0_h8

def k0_off725 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_341 : BitVec 32 := 16#32
  let v766 : BitVec 32 := Scalar.muli arg25 c16_i32_341
  let c11_i32 : BitVec 32 := 11#32
  let v767 : BitVec 32 := Scalar.addi v766 c11_i32
  let v819 : Index := Scalar.indexCast v767
  let c112_364 : Index := 112#32
  ![v819.toNat, 112]
def k0_off726 (v825 : BitVec 32) : Fin 2 → Nat :=
  let v828 : Index := Scalar.indexCast v825
  let c0_367 : Index := 0#32
  ![v828.toNat, 0]

def k0_off727 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v830 : Index := Scalar.indexCast v827
  let c0_368 : Index := 0#32
  ![v830.toNat, 0]
def k0_off728 (v825 : BitVec 32) : Fin 2 → Nat :=
  let v835 : Index := Scalar.indexCast v825
  let c16_370 : Index := 16#32
  ![v835.toNat, 16]
def k0_off729 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v837 : Index := Scalar.indexCast v827
  let c16_371 : Index := 16#32
  ![v837.toNat, 16]
def k0_off730 (v825 : BitVec 32) : Fin 2 → Nat :=
  let v842 : Index := Scalar.indexCast v825
  let c32_373 : Index := 32#32
  ![v842.toNat, 32]
def k0_off731 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v844 : Index := Scalar.indexCast v827
  let c32_374 : Index := 32#32
  ![v844.toNat, 32]
def k0_off732 (v825 : BitVec 32) : Fin 2 → Nat :=
  let v849 : Index := Scalar.indexCast v825
  let c48_376 : Index := 48#32
  ![v849.toNat, 48]
def k0_off733 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v851 : Index := Scalar.indexCast v827
  let c48_377 : Index := 48#32
  ![v851.toNat, 48]
def k0_off734 (v825 : BitVec 32) : Fin 2 → Nat :=
  let v856 : Index := Scalar.indexCast v825
  let c64_379 : Index := 64#32
  ![v856.toNat, 64]
def k0_off735 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v858 : Index := Scalar.indexCast v827
  let c64_380 : Index := 64#32
  ![v858.toNat, 64]
def k0_off736 (v825 : BitVec 32) : Fin 2 → Nat :=
  let v863 : Index := Scalar.indexCast v825
  let c80_382 : Index := 80#32
  ![v863.toNat, 80]
def k0_off737 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v865 : Index := Scalar.indexCast v827
  let c80_383 : Index := 80#32
  ![v865.toNat, 80]
def k0_off738 (v825 : BitVec 32) : Fin 2 → Nat :=
  let v870 : Index := Scalar.indexCast v825
  let c96_385 : Index := 96#32
  ![v870.toNat, 96]
def k0_off739 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v872 : Index := Scalar.indexCast v827
  let c96_386 : Index := 96#32
  ![v872.toNat, 96]
def k0_off740 (v825 : BitVec 32) : Fin 2 → Nat :=
  let v877 : Index := Scalar.indexCast v825
  let c112_388 : Index := 112#32
  ![v877.toNat, 112]

def k0_chk48 (v19 : BitVec 32) (k0_t9 : Fin (k0_t9_loop v19).trips) (v825 : BitVec 32) : Prop :=
  (∀ (k0_h8 : k0_cond8 v19 k0_t9 = 1#1), ∀ a, (k0_off726 v825) a + S1x16.size a ≤ S321x128.size a) ∧
  (∀ (k0_h8 : k0_cond8 v19 k0_t9 = 1#1), ∀ a, (k0_off728 v825) a + S1x16.size a ≤ S321x128.size a) ∧
  (∀ (k0_h8 : k0_cond8 v19 k0_t9 = 1#1), ∀ a, (k0_off730 v825) a + S1x16.size a ≤ S321x128.size a) ∧
  (∀ (k0_h8 : k0_cond8 v19 k0_t9 = 1#1), ∀ a, (k0_off732 v825) a + S1x16.size a ≤ S321x128.size a) ∧
  (∀ (k0_h8 : k0_cond8 v19 k0_t9 = 1#1), ∀ a, (k0_off734 v825) a + S1x16.size a ≤ S321x128.size a) ∧
  (∀ (k0_h8 : k0_cond8 v19 k0_t9 = 1#1), ∀ a, (k0_off736 v825) a + S1x16.size a ≤ S321x128.size a) ∧
  (∀ (k0_h8 : k0_cond8 v19 k0_t9 = 1#1), ∀ a, (k0_off738 v825) a + S1x16.size a ≤ S321x128.size a) ∧
  (∀ (k0_h8 : k0_cond8 v19 k0_t9 = 1#1), ∀ a, (k0_off740 v825) a + S1x16.size a ≤ S321x128.size a)
theorem k0_off726_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off726 v825) a + S1x16.size a ≤ S321x128.size a := fun v19 k0_t9 v825 k0_hw48 k0_h8 => k0_hw48.1 k0_h8
theorem k0_off728_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off728 v825) a + S1x16.size a ≤ S321x128.size a := fun v19 k0_t9 v825 k0_hw48 k0_h8 => k0_hw48.2.1 k0_h8
theorem k0_off730_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off730 v825) a + S1x16.size a ≤ S321x128.size a := fun v19 k0_t9 v825 k0_hw48 k0_h8 => k0_hw48.2.2.1 k0_h8
theorem k0_off732_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off732 v825) a + S1x16.size a ≤ S321x128.size a := fun v19 k0_t9 v825 k0_hw48 k0_h8 => k0_hw48.2.2.2.1 k0_h8
theorem k0_off734_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off734 v825) a + S1x16.size a ≤ S321x128.size a := fun v19 k0_t9 v825 k0_hw48 k0_h8 => k0_hw48.2.2.2.2.1 k0_h8
theorem k0_off736_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off736 v825) a + S1x16.size a ≤ S321x128.size a := fun v19 k0_t9 v825 k0_hw48 k0_h8 => k0_hw48.2.2.2.2.2.1 k0_h8
theorem k0_off738_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off738 v825) a + S1x16.size a ≤ S321x128.size a := fun v19 k0_t9 v825 k0_hw48 k0_h8 => k0_hw48.2.2.2.2.2.2.1 k0_h8
theorem k0_off740_inb : ∀ (v19 : BitVec 32) (k0_t9 : Fin (k0_t9_loop v19).trips) (v825 : BitVec 32) (k0_hw48 : k0_chk48 v19 k0_t9 v825), ∀ (k0_h8 : k0_cond8 v19 k0_t9 = 1#1), ∀ a, (k0_off740 v825) a + S1x16.size a ≤ S321x128.size a := fun v19 k0_t9 v825 k0_hw48 k0_h8 => k0_hw48.2.2.2.2.2.2.2 k0_h8

def k0_off741 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_366 : BitVec 32 := 16#32
  let v826 : BitVec 32 := Scalar.muli arg25 c16_i32_366
  let c12_i32 : BitVec 32 := 12#32
  let v827 : BitVec 32 := Scalar.addi v826 c12_i32
  let v879 : Index := Scalar.indexCast v827
  let c112_389 : Index := 112#32
  ![v879.toNat, 112]
def k0_off742 (v885 : BitVec 32) : Fin 2 → Nat :=
  let v888 : Index := Scalar.indexCast v885
  let c0_392 : Index := 0#32
  ![v888.toNat, 0]

def k0_off743 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v890 : Index := Scalar.indexCast v887
  let c0_393 : Index := 0#32
  ![v890.toNat, 0]
def k0_off744 (v885 : BitVec 32) : Fin 2 → Nat :=
  let v895 : Index := Scalar.indexCast v885
  let c16_395 : Index := 16#32
  ![v895.toNat, 16]
def k0_off745 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v897 : Index := Scalar.indexCast v887
  let c16_396 : Index := 16#32
  ![v897.toNat, 16]
def k0_off746 (v885 : BitVec 32) : Fin 2 → Nat :=
  let v902 : Index := Scalar.indexCast v885
  let c32_398 : Index := 32#32
  ![v902.toNat, 32]
def k0_off747 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v904 : Index := Scalar.indexCast v887
  let c32_399 : Index := 32#32
  ![v904.toNat, 32]
def k0_off748 (v885 : BitVec 32) : Fin 2 → Nat :=
  let v909 : Index := Scalar.indexCast v885
  let c48_401 : Index := 48#32
  ![v909.toNat, 48]
def k0_off749 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v911 : Index := Scalar.indexCast v887
  let c48_402 : Index := 48#32
  ![v911.toNat, 48]
def k0_off750 (v885 : BitVec 32) : Fin 2 → Nat :=
  let v916 : Index := Scalar.indexCast v885
  let c64_404 : Index := 64#32
  ![v916.toNat, 64]
def k0_off751 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v918 : Index := Scalar.indexCast v887
  let c64_405 : Index := 64#32
  ![v918.toNat, 64]
def k0_off752 (v885 : BitVec 32) : Fin 2 → Nat :=
  let v923 : Index := Scalar.indexCast v885
  let c80_407 : Index := 80#32
  ![v923.toNat, 80]
def k0_off753 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v925 : Index := Scalar.indexCast v887
  let c80_408 : Index := 80#32
  ![v925.toNat, 80]
def k0_off754 (v885 : BitVec 32) : Fin 2 → Nat :=
  let v930 : Index := Scalar.indexCast v885
  let c96_410 : Index := 96#32
  ![v930.toNat, 96]
def k0_off755 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v932 : Index := Scalar.indexCast v887
  let c96_411 : Index := 96#32
  ![v932.toNat, 96]
def k0_off756 (v885 : BitVec 32) : Fin 2 → Nat :=
  let v937 : Index := Scalar.indexCast v885
  let c112_413 : Index := 112#32
  ![v937.toNat, 112]

def k0_chk49 (v19 : BitVec 32) (k0_t9 : Fin (k0_t9_loop v19).trips) (v885 : BitVec 32) : Prop :=
  (∀ (k0_h8 : k0_cond8 v19 k0_t9 = 1#1), ∀ a, (k0_off742 v885) a + S1x16.size a ≤ S321x128.size a) ∧
  (∀ (k0_h8 : k0_cond8 v19 k0_t9 = 1#1), ∀ a, (k0_off744 v885) a + S1x16.size a ≤ S321x128.size a) ∧
  (∀ (k0_h8 : k0_cond8 v19 k0_t9 = 1#1), ∀ a, (k0_off746 v885) a + S1x16.size a ≤ S321x128.size a) ∧
  (∀ (k0_h8 : k0_cond8 v19 k0_t9 = 1#1), ∀ a, (k0_off748 v885) a + S1x16.size a ≤ S321x128.size a) ∧
  (∀ (k0_h8 : k0_cond8 v19 k0_t9 = 1#1), ∀ a, (k0_off750 v885) a + S1x16.size a ≤ S321x128.size a) ∧
  (∀ (k0_h8 : k0_cond8 v19 k0_t9 = 1#1), ∀ a, (k0_off752 v885) a + S1x16.size a ≤ S321x128.size a) ∧
  (∀ (k0_h8 : k0_cond8 v19 k0_t9 = 1#1), ∀ a, (k0_off754 v885) a + S1x16.size a ≤ S321x128.size a) ∧
  (∀ (k0_h8 : k0_cond8 v19 k0_t9 = 1#1), ∀ a, (k0_off756 v885) a + S1x16.size a ≤ S321x128.size a)
theorem k0_off742_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off742 v885) a + S1x16.size a ≤ S321x128.size a := fun v19 k0_t9 v885 k0_hw49 k0_h8 => k0_hw49.1 k0_h8
theorem k0_off744_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off744 v885) a + S1x16.size a ≤ S321x128.size a := fun v19 k0_t9 v885 k0_hw49 k0_h8 => k0_hw49.2.1 k0_h8
theorem k0_off746_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off746 v885) a + S1x16.size a ≤ S321x128.size a := fun v19 k0_t9 v885 k0_hw49 k0_h8 => k0_hw49.2.2.1 k0_h8
theorem k0_off748_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off748 v885) a + S1x16.size a ≤ S321x128.size a := fun v19 k0_t9 v885 k0_hw49 k0_h8 => k0_hw49.2.2.2.1 k0_h8
theorem k0_off750_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off750 v885) a + S1x16.size a ≤ S321x128.size a := fun v19 k0_t9 v885 k0_hw49 k0_h8 => k0_hw49.2.2.2.2.1 k0_h8
theorem k0_off752_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off752 v885) a + S1x16.size a ≤ S321x128.size a := fun v19 k0_t9 v885 k0_hw49 k0_h8 => k0_hw49.2.2.2.2.2.1 k0_h8
theorem k0_off754_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off754 v885) a + S1x16.size a ≤ S321x128.size a := fun v19 k0_t9 v885 k0_hw49 k0_h8 => k0_hw49.2.2.2.2.2.2.1 k0_h8
theorem k0_off756_inb : ∀ (v19 : BitVec 32) (k0_t9 : Fin (k0_t9_loop v19).trips) (v885 : BitVec 32) (k0_hw49 : k0_chk49 v19 k0_t9 v885), ∀ (k0_h8 : k0_cond8 v19 k0_t9 = 1#1), ∀ a, (k0_off756 v885) a + S1x16.size a ≤ S321x128.size a := fun v19 k0_t9 v885 k0_hw49 k0_h8 => k0_hw49.2.2.2.2.2.2.2 k0_h8

def k0_off757 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_391 : BitVec 32 := 16#32
  let v886 : BitVec 32 := Scalar.muli arg25 c16_i32_391
  let c13_i32 : BitVec 32 := 13#32
  let v887 : BitVec 32 := Scalar.addi v886 c13_i32
  let v939 : Index := Scalar.indexCast v887
  let c112_414 : Index := 112#32
  ![v939.toNat, 112]
def k0_off758 (v945 : BitVec 32) : Fin 2 → Nat :=
  let v948 : Index := Scalar.indexCast v945
  let c0_417 : Index := 0#32
  ![v948.toNat, 0]

def k0_off759 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v950 : Index := Scalar.indexCast v947
  let c0_418 : Index := 0#32
  ![v950.toNat, 0]
def k0_off760 (v945 : BitVec 32) : Fin 2 → Nat :=
  let v955 : Index := Scalar.indexCast v945
  let c16_420 : Index := 16#32
  ![v955.toNat, 16]
def k0_off761 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v957 : Index := Scalar.indexCast v947
  let c16_421 : Index := 16#32
  ![v957.toNat, 16]
def k0_off762 (v945 : BitVec 32) : Fin 2 → Nat :=
  let v962 : Index := Scalar.indexCast v945
  let c32_423 : Index := 32#32
  ![v962.toNat, 32]
def k0_off763 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v964 : Index := Scalar.indexCast v947
  let c32_424 : Index := 32#32
  ![v964.toNat, 32]
def k0_off764 (v945 : BitVec 32) : Fin 2 → Nat :=
  let v969 : Index := Scalar.indexCast v945
  let c48_426 : Index := 48#32
  ![v969.toNat, 48]
def k0_off765 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v971 : Index := Scalar.indexCast v947
  let c48_427 : Index := 48#32
  ![v971.toNat, 48]
def k0_off766 (v945 : BitVec 32) : Fin 2 → Nat :=
  let v976 : Index := Scalar.indexCast v945
  let c64_429 : Index := 64#32
  ![v976.toNat, 64]
def k0_off767 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v978 : Index := Scalar.indexCast v947
  let c64_430 : Index := 64#32
  ![v978.toNat, 64]
def k0_off768 (v945 : BitVec 32) : Fin 2 → Nat :=
  let v983 : Index := Scalar.indexCast v945
  let c80_432 : Index := 80#32
  ![v983.toNat, 80]
def k0_off769 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v985 : Index := Scalar.indexCast v947
  let c80_433 : Index := 80#32
  ![v985.toNat, 80]
def k0_off770 (v945 : BitVec 32) : Fin 2 → Nat :=
  let v990 : Index := Scalar.indexCast v945
  let c96_435 : Index := 96#32
  ![v990.toNat, 96]
def k0_off771 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v992 : Index := Scalar.indexCast v947
  let c96_436 : Index := 96#32
  ![v992.toNat, 96]
def k0_off772 (v945 : BitVec 32) : Fin 2 → Nat :=
  let v997 : Index := Scalar.indexCast v945
  let c112_438 : Index := 112#32
  ![v997.toNat, 112]

def k0_chk50 (v19 : BitVec 32) (k0_t9 : Fin (k0_t9_loop v19).trips) (v945 : BitVec 32) : Prop :=
  (∀ (k0_h8 : k0_cond8 v19 k0_t9 = 1#1), ∀ a, (k0_off758 v945) a + S1x16.size a ≤ S321x128.size a) ∧
  (∀ (k0_h8 : k0_cond8 v19 k0_t9 = 1#1), ∀ a, (k0_off760 v945) a + S1x16.size a ≤ S321x128.size a) ∧
  (∀ (k0_h8 : k0_cond8 v19 k0_t9 = 1#1), ∀ a, (k0_off762 v945) a + S1x16.size a ≤ S321x128.size a) ∧
  (∀ (k0_h8 : k0_cond8 v19 k0_t9 = 1#1), ∀ a, (k0_off764 v945) a + S1x16.size a ≤ S321x128.size a) ∧
  (∀ (k0_h8 : k0_cond8 v19 k0_t9 = 1#1), ∀ a, (k0_off766 v945) a + S1x16.size a ≤ S321x128.size a) ∧
  (∀ (k0_h8 : k0_cond8 v19 k0_t9 = 1#1), ∀ a, (k0_off768 v945) a + S1x16.size a ≤ S321x128.size a) ∧
  (∀ (k0_h8 : k0_cond8 v19 k0_t9 = 1#1), ∀ a, (k0_off770 v945) a + S1x16.size a ≤ S321x128.size a) ∧
  (∀ (k0_h8 : k0_cond8 v19 k0_t9 = 1#1), ∀ a, (k0_off772 v945) a + S1x16.size a ≤ S321x128.size a)
theorem k0_off758_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off758 v945) a + S1x16.size a ≤ S321x128.size a := fun v19 k0_t9 v945 k0_hw50 k0_h8 => k0_hw50.1 k0_h8
theorem k0_off760_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off760 v945) a + S1x16.size a ≤ S321x128.size a := fun v19 k0_t9 v945 k0_hw50 k0_h8 => k0_hw50.2.1 k0_h8
theorem k0_off762_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off762 v945) a + S1x16.size a ≤ S321x128.size a := fun v19 k0_t9 v945 k0_hw50 k0_h8 => k0_hw50.2.2.1 k0_h8
theorem k0_off764_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off764 v945) a + S1x16.size a ≤ S321x128.size a := fun v19 k0_t9 v945 k0_hw50 k0_h8 => k0_hw50.2.2.2.1 k0_h8
theorem k0_off766_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off766 v945) a + S1x16.size a ≤ S321x128.size a := fun v19 k0_t9 v945 k0_hw50 k0_h8 => k0_hw50.2.2.2.2.1 k0_h8
theorem k0_off768_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off768 v945) a + S1x16.size a ≤ S321x128.size a := fun v19 k0_t9 v945 k0_hw50 k0_h8 => k0_hw50.2.2.2.2.2.1 k0_h8
theorem k0_off770_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off770 v945) a + S1x16.size a ≤ S321x128.size a := fun v19 k0_t9 v945 k0_hw50 k0_h8 => k0_hw50.2.2.2.2.2.2.1 k0_h8
theorem k0_off772_inb : ∀ (v19 : BitVec 32) (k0_t9 : Fin (k0_t9_loop v19).trips) (v945 : BitVec 32) (k0_hw50 : k0_chk50 v19 k0_t9 v945), ∀ (k0_h8 : k0_cond8 v19 k0_t9 = 1#1), ∀ a, (k0_off772 v945) a + S1x16.size a ≤ S321x128.size a := fun v19 k0_t9 v945 k0_hw50 k0_h8 => k0_hw50.2.2.2.2.2.2.2 k0_h8

def k0_off773 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_416 : BitVec 32 := 16#32
  let v946 : BitVec 32 := Scalar.muli arg25 c16_i32_416
  let c14_i32 : BitVec 32 := 14#32
  let v947 : BitVec 32 := Scalar.addi v946 c14_i32
  let v999 : Index := Scalar.indexCast v947
  let c112_439 : Index := 112#32
  ![v999.toNat, 112]
def k0_off774 (v1005 : BitVec 32) : Fin 2 → Nat :=
  let v1008 : Index := Scalar.indexCast v1005
  let c0_442 : Index := 0#32
  ![v1008.toNat, 0]

def k0_off775 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1010 : Index := Scalar.indexCast v1007
  let c0_443 : Index := 0#32
  ![v1010.toNat, 0]
def k0_off776 (v1005 : BitVec 32) : Fin 2 → Nat :=
  let v1015 : Index := Scalar.indexCast v1005
  let c16_445 : Index := 16#32
  ![v1015.toNat, 16]
def k0_off777 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1017 : Index := Scalar.indexCast v1007
  let c16_446 : Index := 16#32
  ![v1017.toNat, 16]
def k0_off778 (v1005 : BitVec 32) : Fin 2 → Nat :=
  let v1022 : Index := Scalar.indexCast v1005
  let c32_448 : Index := 32#32
  ![v1022.toNat, 32]
def k0_off779 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1024 : Index := Scalar.indexCast v1007
  let c32_449 : Index := 32#32
  ![v1024.toNat, 32]
def k0_off780 (v1005 : BitVec 32) : Fin 2 → Nat :=
  let v1029 : Index := Scalar.indexCast v1005
  let c48_451 : Index := 48#32
  ![v1029.toNat, 48]
def k0_off781 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1031 : Index := Scalar.indexCast v1007
  let c48_452 : Index := 48#32
  ![v1031.toNat, 48]
def k0_off782 (v1005 : BitVec 32) : Fin 2 → Nat :=
  let v1036 : Index := Scalar.indexCast v1005
  let c64_454 : Index := 64#32
  ![v1036.toNat, 64]
def k0_off783 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1038 : Index := Scalar.indexCast v1007
  let c64_455 : Index := 64#32
  ![v1038.toNat, 64]
def k0_off784 (v1005 : BitVec 32) : Fin 2 → Nat :=
  let v1043 : Index := Scalar.indexCast v1005
  let c80_457 : Index := 80#32
  ![v1043.toNat, 80]
def k0_off785 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1045 : Index := Scalar.indexCast v1007
  let c80_458 : Index := 80#32
  ![v1045.toNat, 80]
def k0_off786 (v1005 : BitVec 32) : Fin 2 → Nat :=
  let v1050 : Index := Scalar.indexCast v1005
  let c96_460 : Index := 96#32
  ![v1050.toNat, 96]
def k0_off787 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1052 : Index := Scalar.indexCast v1007
  let c96_461 : Index := 96#32
  ![v1052.toNat, 96]
def k0_off788 (v1005 : BitVec 32) : Fin 2 → Nat :=
  let v1057 : Index := Scalar.indexCast v1005
  let c112_463 : Index := 112#32
  ![v1057.toNat, 112]

def k0_chk51 (v19 : BitVec 32) (k0_t9 : Fin (k0_t9_loop v19).trips) (v1005 : BitVec 32) : Prop :=
  (∀ (k0_h8 : k0_cond8 v19 k0_t9 = 1#1), ∀ a, (k0_off774 v1005) a + S1x16.size a ≤ S321x128.size a) ∧
  (∀ (k0_h8 : k0_cond8 v19 k0_t9 = 1#1), ∀ a, (k0_off776 v1005) a + S1x16.size a ≤ S321x128.size a) ∧
  (∀ (k0_h8 : k0_cond8 v19 k0_t9 = 1#1), ∀ a, (k0_off778 v1005) a + S1x16.size a ≤ S321x128.size a) ∧
  (∀ (k0_h8 : k0_cond8 v19 k0_t9 = 1#1), ∀ a, (k0_off780 v1005) a + S1x16.size a ≤ S321x128.size a) ∧
  (∀ (k0_h8 : k0_cond8 v19 k0_t9 = 1#1), ∀ a, (k0_off782 v1005) a + S1x16.size a ≤ S321x128.size a) ∧
  (∀ (k0_h8 : k0_cond8 v19 k0_t9 = 1#1), ∀ a, (k0_off784 v1005) a + S1x16.size a ≤ S321x128.size a) ∧
  (∀ (k0_h8 : k0_cond8 v19 k0_t9 = 1#1), ∀ a, (k0_off786 v1005) a + S1x16.size a ≤ S321x128.size a) ∧
  (∀ (k0_h8 : k0_cond8 v19 k0_t9 = 1#1), ∀ a, (k0_off788 v1005) a + S1x16.size a ≤ S321x128.size a)
theorem k0_off774_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off774 v1005) a + S1x16.size a ≤ S321x128.size a := fun v19 k0_t9 v1005 k0_hw51 k0_h8 => k0_hw51.1 k0_h8
theorem k0_off776_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off776 v1005) a + S1x16.size a ≤ S321x128.size a := fun v19 k0_t9 v1005 k0_hw51 k0_h8 => k0_hw51.2.1 k0_h8
theorem k0_off778_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off778 v1005) a + S1x16.size a ≤ S321x128.size a := fun v19 k0_t9 v1005 k0_hw51 k0_h8 => k0_hw51.2.2.1 k0_h8
theorem k0_off780_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off780 v1005) a + S1x16.size a ≤ S321x128.size a := fun v19 k0_t9 v1005 k0_hw51 k0_h8 => k0_hw51.2.2.2.1 k0_h8
theorem k0_off782_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off782 v1005) a + S1x16.size a ≤ S321x128.size a := fun v19 k0_t9 v1005 k0_hw51 k0_h8 => k0_hw51.2.2.2.2.1 k0_h8
theorem k0_off784_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off784 v1005) a + S1x16.size a ≤ S321x128.size a := fun v19 k0_t9 v1005 k0_hw51 k0_h8 => k0_hw51.2.2.2.2.2.1 k0_h8
theorem k0_off786_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off786 v1005) a + S1x16.size a ≤ S321x128.size a := fun v19 k0_t9 v1005 k0_hw51 k0_h8 => k0_hw51.2.2.2.2.2.2.1 k0_h8
theorem k0_off788_inb : ∀ (v19 : BitVec 32) (k0_t9 : Fin (k0_t9_loop v19).trips) (v1005 : BitVec 32) (k0_hw51 : k0_chk51 v19 k0_t9 v1005), ∀ (k0_h8 : k0_cond8 v19 k0_t9 = 1#1), ∀ a, (k0_off788 v1005) a + S1x16.size a ≤ S321x128.size a := fun v19 k0_t9 v1005 k0_hw51 k0_h8 => k0_hw51.2.2.2.2.2.2.2 k0_h8

def k0_off789 (k0_t10 : Fin k0_t10_loop.trips) : Fin 2 → Nat :=
  let c0_i32_65 : BitVec 32 := 0#32
  let c1_i32_66 : BitVec 32 := 1#32
  let arg25 : BitVec 32 := Scf.iv c0_i32_65 c1_i32_66 k0_t10
  let c16_i32_441 : BitVec 32 := 16#32
  let v1006 : BitVec 32 := Scalar.muli arg25 c16_i32_441
  let c15_i32 : BitVec 32 := 15#32
  let v1007 : BitVec 32 := Scalar.addi v1006 c15_i32
  let v1059 : Index := Scalar.indexCast v1007
  let c112_464 : Index := 112#32
  ![v1059.toNat, 112]
def k0_off790 (v19 : BitVec 32) (k0_t9 : Fin (k0_t9_loop v19).trips) : Fin 1 → Nat :=
  let c2_i32_54 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v86 : BitVec 32 := Scalar.muli c2_i32_54 arg23
  let c1_i32_55 : BitVec 32 := 1#32
  let v87 : BitVec 32 := Scalar.addi v86 c1_i32_55
  let c1_i32_68 : BitVec 32 := 1#32
  let v100 : BitVec 32 := Scalar.addi v87 c1_i32_68
  let c128_i32_69 : BitVec 32 := 128#32
  let v101 : BitVec 32 := Scalar.muli v100 c128_i32_69
  ![v101.toNat]
def k0_cond10 (v19 : BitVec 32) (k0_t9 : Fin (k0_t9_loop v19).trips) : BitVec 1 :=
  let c2_i32_54 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v86 : BitVec 32 := Scalar.muli c2_i32_54 arg23
  let c1_i32_55 : BitVec 32 := 1#32
  let v87 : BitVec 32 := Scalar.addi v86 c1_i32_55
  let v88 : BitVec 1 := Scalar.cmpi .slt v87 v44
  let v89 : BitVec 32 := Scalar.extui v88
  let c0_i32_56 : BitVec 32 := 0#32
  let v90 : BitVec 1 := Scalar.cmpi .ne v89 c0_i32_56
  v90

def k0_cond11 (v19 : BitVec 32) (k0_t9 : Fin (k0_t9_loop v19).trips) : BitVec 1 :=
  let c2_i32_54 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v86 : BitVec 32 := Scalar.muli c2_i32_54 arg23
  let c1_i32_55 : BitVec 32 := 1#32
  let v87 : BitVec 32 := Scalar.addi v86 c1_i32_55
  let c1_i32_61 : BitVec 32 := 1#32
  let v93 : BitVec 32 := Scalar.addi v87 c1_i32_61
  let v94 : BitVec 1 := Scalar.cmpi .slt v93 v44
  let v95 : BitVec 32 := Scalar.extui v94
  let c0_i32_62 : BitVec 32 := 0#32
  let v96 : BitVec 1 := Scalar.cmpi .ne v95 c0_i32_62
  v96

@[reducible] def k0_t11_loop : Scf.Loop 32 :=
  let c0_i32_65 : BitVec 32 := 0#32
  let c8_i32 : BitVec 32 := 8#32
  let v98 : BitVec 32 := Scalar.addi c0_i32_65 c8_i32
  let c1_i32_66 : BitVec 32 := 1#32
  ⟨c0_i32_65, v98, c1_i32_66⟩
def k0_off791 (v19 : BitVec 32) (k0_t9 : Fin (k0_t9_loop v19).trips) (k0_t11 : Fin k0_t11_loop.trips) : Fin 1 → Nat :=
  let c2_i32_54 : BitVec 32 := 2#32
  let c0_i32_38 : BitVec 32 := 0#32
  let c128_i32 : BitVec 32 := 128#32
  let v26 : BitVec 32 := Scalar.addi v19 c128_i32
  let c1_i32_20 : BitVec 32 := 1#32
  let v27 : BitVec 32 := Scalar.subi v26 c1_i32_20
  let c0_i32_22 : BitVec 32 := 0#32
  let v29 : BitVec 1 := Scalar.cmpi .sgt v27 c0_i32_22
  let v30 : BitVec 32 := Scalar.extui v29
  let c0_i32_23 : BitVec 32 := 0#32
  let v31 : BitVec 1 := Scalar.cmpi .slt v27 c0_i32_23
  let v32 : BitVec 32 := Scalar.extui v31
  let v33 : BitVec 32 := Scalar.subi v30 v32
  let c128_i32_21 : BitVec 32 := 128#32
  let c0_i32_24 : BitVec 32 := 0#32
  let v34 : BitVec 1 := Scalar.cmpi .sgt c128_i32_21 c0_i32_24
  let v35 : BitVec 32 := Scalar.extui v34
  let c0_i32_25 : BitVec 32 := 0#32
  let v36 : BitVec 1 := Scalar.cmpi .slt c128_i32_21 c0_i32_25
  let v37 : BitVec 32 := Scalar.extui v36
  let v38 : BitVec 32 := Scalar.subi v35 v37
  let v39 : BitVec 1 := Scalar.cmpi .ne v33 v38
  let v40 : BitVec 32 := Scalar.remsi v27 c128_i32_21
  let c0_i32_26 : BitVec 32 := 0#32
  let v41 : BitVec 1 := Scalar.cmpi .ne v40 c0_i32_26
  let v42 : BitVec 1 := Scalar.andi v39 v41
  let v28 : BitVec 32 := Scalar.divsi v27 c128_i32_21
  let c1_i32_27 : BitVec 32 := 1#32
  let v43 : BitVec 32 := Scalar.subi v28 c1_i32_27
  let v44 : BitVec 32 := Scalar.select v42 v43 v28
  let c1_i32_30 : BitVec 32 := 1#32
  let v48 : BitVec 32 := Scalar.addi v44 c1_i32_30
  let c0_i32_32 : BitVec 32 := 0#32
  let v50 : BitVec 1 := Scalar.cmpi .sgt v48 c0_i32_32
  let v51 : BitVec 32 := Scalar.extui v50
  let c0_i32_33 : BitVec 32 := 0#32
  let v52 : BitVec 1 := Scalar.cmpi .slt v48 c0_i32_33
  let v53 : BitVec 32 := Scalar.extui v52
  let v54 : BitVec 32 := Scalar.subi v51 v53
  let c2_i32_31 : BitVec 32 := 2#32
  let c0_i32_34 : BitVec 32 := 0#32
  let v55 : BitVec 1 := Scalar.cmpi .sgt c2_i32_31 c0_i32_34
  let v56 : BitVec 32 := Scalar.extui v55
  let c0_i32_35 : BitVec 32 := 0#32
  let v57 : BitVec 1 := Scalar.cmpi .slt c2_i32_31 c0_i32_35
  let v58 : BitVec 32 := Scalar.extui v57
  let v59 : BitVec 32 := Scalar.subi v56 v58
  let v60 : BitVec 1 := Scalar.cmpi .ne v54 v59
  let v61 : BitVec 32 := Scalar.remsi v48 c2_i32_31
  let c0_i32_36 : BitVec 32 := 0#32
  let v62 : BitVec 1 := Scalar.cmpi .ne v61 c0_i32_36
  let v63 : BitVec 1 := Scalar.andi v60 v62
  let v49 : BitVec 32 := Scalar.divsi v48 c2_i32_31
  let c1_i32_37 : BitVec 32 := 1#32
  let v64 : BitVec 32 := Scalar.subi v49 c1_i32_37
  let v65 : BitVec 32 := Scalar.select v63 v64 v49
  let v66 : BitVec 32 := Scalar.subi v65 c0_i32_38
  let c1_i32_40 : BitVec 32 := 1#32
  let v68 : BitVec 32 := Scalar.divsi v66 c1_i32_40
  let v69 : BitVec 32 := Scalar.muli v68 c1_i32_40
  let v70 : BitVec 32 := Scalar.addi c0_i32_38 v69
  let c1_i32_42 : BitVec 32 := 1#32
  let arg23 : BitVec 32 := Scf.iv v70 c1_i32_42 k0_t9
  let v86 : BitVec 32 := Scalar.muli c2_i32_54 arg23
  let c1_i32_55 : BitVec 32 := 1#32
  let v87 : BitVec 32 := Scalar.addi v86 c1_i32_55
  let c128_i32_63 : BitVec 32 := 128#32
  let v97 : BitVec 32 := Scalar.muli v87 c128_i32_63
  let c0_i32_65 : BitVec 32 := 0#32
  let c1_i32_66 : BitVec 32 := 1#32
  let arg25 : BitVec 32 := Scf.iv c0_i32_65 c1_i32_66 k0_t11
  let c16_i32_68 : BitVec 32 := 16#32
  let v100 : BitVec 32 := Scalar.muli arg25 c16_i32_68
  let v101 : BitVec 32 := Scalar.addi v97 v100
  let v102 : Index := Scalar.indexCast v101
  ![v102.toNat]

def k0_chk3 (v19 : BitVec 32) : Prop :=
  ((k0_t6_loop v19).OK) ∧
  (∀ k0_t6 : Fin (k0_t6_loop v19).trips, ∀ (k0_h4 : k0_cond4 v19 k0_t6 = 1#1), ∀ (k0_h5 : k0_cond5 v19 k0_t6 = 1#1), ∀ a, (k0_off16 v19 k0_t6) a + S128.size a ≤ S16384.size a) ∧
  (∀ (k0_t6 : Fin (k0_t6_loop v19).trips) (k0_t7 : Fin k0_t7_loop.trips), ∀ (k0_h4 : k0_cond4 v19 k0_t6 = 1#1), ∀ a, (k0_off17 v19 k0_t6 k0_t7) a + S16.size a ≤ S16384.size a) ∧
  (∀ k0_t6 : Fin (k0_t6_loop v19).trips, ∀ (k0_h6 : k0_cond6 v19 k0_t6 = 1#1), ∀ (k0_h7 : k0_cond7 v19 k0_t6 = 1#1), ∀ a, (k0_off274 v19 k0_t6) a + S128.size a ≤ S16384.size a) ∧
  (∀ (k0_t6 : Fin (k0_t6_loop v19).trips) (k0_t8 : Fin k0_t8_loop.trips), ∀ (k0_h6 : k0_cond6 v19 k0_t6 = 1#1), ∀ a, (k0_off275 v19 k0_t6 k0_t8) a + S16.size a ≤ S16384.size a) ∧
  ((k0_t9_loop v19).OK) ∧
  (∀ k0_t9 : Fin (k0_t9_loop v19).trips, ∀ (k0_h8 : k0_cond8 v19 k0_t9 = 1#1), ∀ (k0_h9 : k0_cond9 v19 k0_t9 = 1#1), ∀ a, (k0_off532 v19 k0_t9) a + S128.size a ≤ S16384.size a) ∧
  (∀ (k0_t9 : Fin (k0_t9_loop v19).trips) (k0_t10 : Fin k0_t10_loop.trips), ∀ (k0_h8 : k0_cond8 v19 k0_t9 = 1#1), ∀ a, (k0_off533 v19 k0_t9 k0_t10) a + S16.size a ≤ S16384.size a) ∧
  (∀ k0_t9 : Fin (k0_t9_loop v19).trips, ∀ (k0_h10 : k0_cond10 v19 k0_t9 = 1#1), ∀ (k0_h11 : k0_cond11 v19 k0_t9 = 1#1), ∀ a, (k0_off790 v19 k0_t9) a + S128.size a ≤ S16384.size a) ∧
  (∀ (k0_t9 : Fin (k0_t9_loop v19).trips) (k0_t11 : Fin k0_t11_loop.trips), ∀ (k0_h10 : k0_cond10 v19 k0_t9 = 1#1), ∀ a, (k0_off791 v19 k0_t9 k0_t11) a + S16.size a ≤ S16384.size a)
theorem k0_t6_ok : ∀ (v19 : BitVec 32) (k0_hw3 : k0_chk3 v19), (k0_t6_loop v19).OK := fun v19 k0_hw3 => k0_hw3.1
theorem k0_off16_inb : ∀ (v19 : BitVec 32) (k0_hw3 : k0_chk3 v19) (k0_t6 : Fin (k0_t6_loop v19).trips), ∀ (k0_h4 : k0_cond4 v19 k0_t6 = 1#1), ∀ (k0_h5 : k0_cond5 v19 k0_t6 = 1#1), ∀ a, (k0_off16 v19 k0_t6) a + S128.size a ≤ S16384.size a := fun v19 k0_hw3 k0_t6 k0_h4 k0_h5 => k0_hw3.2.1 k0_t6 k0_h4 k0_h5
theorem k0_off17_inb : ∀ (v19 : BitVec 32) (k0_hw3 : k0_chk3 v19) (k0_t6 : Fin (k0_t6_loop v19).trips) (k0_t7 : Fin k0_t7_loop.trips), ∀ (k0_h4 : k0_cond4 v19 k0_t6 = 1#1), ∀ a, (k0_off17 v19 k0_t6 k0_t7) a + S16.size a ≤ S16384.size a := fun v19 k0_hw3 k0_t6 k0_t7 k0_h4 => k0_hw3.2.2.1 k0_t6 k0_t7 k0_h4
theorem k0_off274_inb : ∀ (v19 : BitVec 32) (k0_hw3 : k0_chk3 v19) (k0_t6 : Fin (k0_t6_loop v19).trips), ∀ (k0_h6 : k0_cond6 v19 k0_t6 = 1#1), ∀ (k0_h7 : k0_cond7 v19 k0_t6 = 1#1), ∀ a, (k0_off274 v19 k0_t6) a + S128.size a ≤ S16384.size a := fun v19 k0_hw3 k0_t6 k0_h6 k0_h7 => k0_hw3.2.2.2.1 k0_t6 k0_h6 k0_h7
theorem k0_off275_inb : ∀ (v19 : BitVec 32) (k0_hw3 : k0_chk3 v19) (k0_t6 : Fin (k0_t6_loop v19).trips) (k0_t8 : Fin k0_t8_loop.trips), ∀ (k0_h6 : k0_cond6 v19 k0_t6 = 1#1), ∀ a, (k0_off275 v19 k0_t6 k0_t8) a + S16.size a ≤ S16384.size a := fun v19 k0_hw3 k0_t6 k0_t8 k0_h6 => k0_hw3.2.2.2.2.1 k0_t6 k0_t8 k0_h6
theorem k0_t9_ok : ∀ (v19 : BitVec 32) (k0_hw3 : k0_chk3 v19), (k0_t9_loop v19).OK := fun v19 k0_hw3 => k0_hw3.2.2.2.2.2.1
theorem k0_off532_inb : ∀ (v19 : BitVec 32) (k0_hw3 : k0_chk3 v19) (k0_t9 : Fin (k0_t9_loop v19).trips), ∀ (k0_h8 : k0_cond8 v19 k0_t9 = 1#1), ∀ (k0_h9 : k0_cond9 v19 k0_t9 = 1#1), ∀ a, (k0_off532 v19 k0_t9) a + S128.size a ≤ S16384.size a := fun v19 k0_hw3 k0_t9 k0_h8 k0_h9 => k0_hw3.2.2.2.2.2.2.1 k0_t9 k0_h8 k0_h9
theorem k0_off533_inb : ∀ (v19 : BitVec 32) (k0_hw3 : k0_chk3 v19) (k0_t9 : Fin (k0_t9_loop v19).trips) (k0_t10 : Fin k0_t10_loop.trips), ∀ (k0_h8 : k0_cond8 v19 k0_t9 = 1#1), ∀ a, (k0_off533 v19 k0_t9 k0_t10) a + S16.size a ≤ S16384.size a := fun v19 k0_hw3 k0_t9 k0_t10 k0_h8 => k0_hw3.2.2.2.2.2.2.2.1 k0_t9 k0_t10 k0_h8
theorem k0_off790_inb : ∀ (v19 : BitVec 32) (k0_hw3 : k0_chk3 v19) (k0_t9 : Fin (k0_t9_loop v19).trips), ∀ (k0_h10 : k0_cond10 v19 k0_t9 = 1#1), ∀ (k0_h11 : k0_cond11 v19 k0_t9 = 1#1), ∀ a, (k0_off790 v19 k0_t9) a + S128.size a ≤ S16384.size a := fun v19 k0_hw3 k0_t9 k0_h10 k0_h11 => k0_hw3.2.2.2.2.2.2.2.2.1 k0_t9 k0_h10 k0_h11
theorem k0_off791_inb : ∀ (v19 : BitVec 32) (k0_hw3 : k0_chk3 v19) (k0_t9 : Fin (k0_t9_loop v19).trips) (k0_t11 : Fin k0_t11_loop.trips), ∀ (k0_h10 : k0_cond10 v19 k0_t9 = 1#1), ∀ a, (k0_off791 v19 k0_t9 k0_t11) a + S16.size a ≤ S16384.size a := fun v19 k0_hw3 k0_t9 k0_t11 k0_h10 => k0_hw3.2.2.2.2.2.2.2.2.2 k0_t9 k0_t11 k0_h10

def k0_off792 (v105 : BitVec 32) : Fin 2 → Nat :=
  let v108 : Index := Scalar.indexCast v105
  let c0_71 : Index := 0#32
  ![v108.toNat, 0]

def k0_off793 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v110 : Index := Scalar.indexCast v107
  let c0_72 : Index := 0#32
  ![v110.toNat, 0]
def k0_off794 (v105 : BitVec 32) : Fin 2 → Nat :=
  let v115 : Index := Scalar.indexCast v105
  let c16 : Index := 16#32
  ![v115.toNat, 16]
def k0_off795 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v117 : Index := Scalar.indexCast v107
  let c16_74 : Index := 16#32
  ![v117.toNat, 16]
def k0_off796 (v105 : BitVec 32) : Fin 2 → Nat :=
  let v122 : Index := Scalar.indexCast v105
  let c32 : Index := 32#32
  ![v122.toNat, 32]
def k0_off797 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v124 : Index := Scalar.indexCast v107
  let c32_76 : Index := 32#32
  ![v124.toNat, 32]
def k0_off798 (v105 : BitVec 32) : Fin 2 → Nat :=
  let v129 : Index := Scalar.indexCast v105
  let c48 : Index := 48#32
  ![v129.toNat, 48]
def k0_off799 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v131 : Index := Scalar.indexCast v107
  let c48_78 : Index := 48#32
  ![v131.toNat, 48]
def k0_off800 (v105 : BitVec 32) : Fin 2 → Nat :=
  let v136 : Index := Scalar.indexCast v105
  let c64 : Index := 64#32
  ![v136.toNat, 64]
def k0_off801 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v138 : Index := Scalar.indexCast v107
  let c64_80 : Index := 64#32
  ![v138.toNat, 64]
def k0_off802 (v105 : BitVec 32) : Fin 2 → Nat :=
  let v143 : Index := Scalar.indexCast v105
  let c80 : Index := 80#32
  ![v143.toNat, 80]
def k0_off803 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v145 : Index := Scalar.indexCast v107
  let c80_82 : Index := 80#32
  ![v145.toNat, 80]
def k0_off804 (v105 : BitVec 32) : Fin 2 → Nat :=
  let v150 : Index := Scalar.indexCast v105
  let c96 : Index := 96#32
  ![v150.toNat, 96]
def k0_off805 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v152 : Index := Scalar.indexCast v107
  let c96_84 : Index := 96#32
  ![v152.toNat, 96]
def k0_off806 (v105 : BitVec 32) : Fin 2 → Nat :=
  let v157 : Index := Scalar.indexCast v105
  let c112 : Index := 112#32
  ![v157.toNat, 112]

def k0_chk52 (v19 : BitVec 32) (k0_t9 : Fin (k0_t9_loop v19).trips) (v105 : BitVec 32) : Prop :=
  (∀ (k0_h10 : k0_cond10 v19 k0_t9 = 1#1), ∀ a, (k0_off792 v105) a + S1x16.size a ≤ S321x128.size a) ∧
  (∀ (k0_h10 : k0_cond10 v19 k0_t9 = 1#1), ∀ a, (k0_off794 v105) a + S1x16.size a ≤ S321x128.size a) ∧
  (∀ (k0_h10 : k0_cond10 v19 k0_t9 = 1#1), ∀ a, (k0_off796 v105) a + S1x16.size a ≤ S321x128.size a) ∧
  (∀ (k0_h10 : k0_cond10 v19 k0_t9 = 1#1), ∀ a, (k0_off798 v105) a + S1x16.size a ≤ S321x128.size a) ∧
  (∀ (k0_h10 : k0_cond10 v19 k0_t9 = 1#1), ∀ a, (k0_off800 v105) a + S1x16.size a ≤ S321x128.size a) ∧
  (∀ (k0_h10 : k0_cond10 v19 k0_t9 = 1#1), ∀ a, (k0_off802 v105) a + S1x16.size a ≤ S321x128.size a) ∧
  (∀ (k0_h10 : k0_cond10 v19 k0_t9 = 1#1), ∀ a, (k0_off804 v105) a + S1x16.size a ≤ S321x128.size a) ∧
  (∀ (k0_h10 : k0_cond10 v19 k0_t9 = 1#1), ∀ a, (k0_off806 v105) a + S1x16.size a ≤ S321x128.size a)
theorem k0_off792_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off792 v105) a + S1x16.size a ≤ S321x128.size a := fun v19 k0_t9 v105 k0_hw52 k0_h10 => k0_hw52.1 k0_h10
theorem k0_off794_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off794 v105) a + S1x16.size a ≤ S321x128.size a := fun v19 k0_t9 v105 k0_hw52 k0_h10 => k0_hw52.2.1 k0_h10
theorem k0_off796_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off796 v105) a + S1x16.size a ≤ S321x128.size a := fun v19 k0_t9 v105 k0_hw52 k0_h10 => k0_hw52.2.2.1 k0_h10
theorem k0_off798_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off798 v105) a + S1x16.size a ≤ S321x128.size a := fun v19 k0_t9 v105 k0_hw52 k0_h10 => k0_hw52.2.2.2.1 k0_h10
theorem k0_off800_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off800 v105) a + S1x16.size a ≤ S321x128.size a := fun v19 k0_t9 v105 k0_hw52 k0_h10 => k0_hw52.2.2.2.2.1 k0_h10
theorem k0_off802_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off802 v105) a + S1x16.size a ≤ S321x128.size a := fun v19 k0_t9 v105 k0_hw52 k0_h10 => k0_hw52.2.2.2.2.2.1 k0_h10
theorem k0_off804_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off804 v105) a + S1x16.size a ≤ S321x128.size a := fun v19 k0_t9 v105 k0_hw52 k0_h10 => k0_hw52.2.2.2.2.2.2.1 k0_h10
theorem k0_off806_inb : ∀ (v19 : BitVec 32) (k0_t9 : Fin (k0_t9_loop v19).trips) (v105 : BitVec 32) (k0_hw52 : k0_chk52 v19 k0_t9 v105), ∀ (k0_h10 : k0_cond10 v19 k0_t9 = 1#1), ∀ a, (k0_off806 v105) a + S1x16.size a ≤ S321x128.size a := fun v19 k0_t9 v105 k0_hw52 k0_h10 => k0_hw52.2.2.2.2.2.2.2 k0_h10

def k0_off807 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_69 : BitVec 32 := 16#32
  let v106 : BitVec 32 := Scalar.muli arg25 c16_i32_69
  let c0_i32_70 : BitVec 32 := 0#32
  let v107 : BitVec 32 := Scalar.addi v106 c0_i32_70
  let v159 : Index := Scalar.indexCast v107
  let c112_86 : Index := 112#32
  ![v159.toNat, 112]
def k0_off808 (v165 : BitVec 32) : Fin 2 → Nat :=
  let v168 : Index := Scalar.indexCast v165
  let c0_90 : Index := 0#32
  ![v168.toNat, 0]

def k0_off809 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v170 : Index := Scalar.indexCast v167
  let c0_91 : Index := 0#32
  ![v170.toNat, 0]
def k0_off810 (v165 : BitVec 32) : Fin 2 → Nat :=
  let v175 : Index := Scalar.indexCast v165
  let c16_93 : Index := 16#32
  ![v175.toNat, 16]
def k0_off811 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v177 : Index := Scalar.indexCast v167
  let c16_94 : Index := 16#32
  ![v177.toNat, 16]
def k0_off812 (v165 : BitVec 32) : Fin 2 → Nat :=
  let v182 : Index := Scalar.indexCast v165
  let c32_96 : Index := 32#32
  ![v182.toNat, 32]
def k0_off813 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v184 : Index := Scalar.indexCast v167
  let c32_97 : Index := 32#32
  ![v184.toNat, 32]
def k0_off814 (v165 : BitVec 32) : Fin 2 → Nat :=
  let v189 : Index := Scalar.indexCast v165
  let c48_99 : Index := 48#32
  ![v189.toNat, 48]
def k0_off815 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v191 : Index := Scalar.indexCast v167
  let c48_100 : Index := 48#32
  ![v191.toNat, 48]
def k0_off816 (v165 : BitVec 32) : Fin 2 → Nat :=
  let v196 : Index := Scalar.indexCast v165
  let c64_102 : Index := 64#32
  ![v196.toNat, 64]
def k0_off817 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v198 : Index := Scalar.indexCast v167
  let c64_103 : Index := 64#32
  ![v198.toNat, 64]
def k0_off818 (v165 : BitVec 32) : Fin 2 → Nat :=
  let v203 : Index := Scalar.indexCast v165
  let c80_105 : Index := 80#32
  ![v203.toNat, 80]
def k0_off819 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v205 : Index := Scalar.indexCast v167
  let c80_106 : Index := 80#32
  ![v205.toNat, 80]
def k0_off820 (v165 : BitVec 32) : Fin 2 → Nat :=
  let v210 : Index := Scalar.indexCast v165
  let c96_108 : Index := 96#32
  ![v210.toNat, 96]
def k0_off821 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v212 : Index := Scalar.indexCast v167
  let c96_109 : Index := 96#32
  ![v212.toNat, 96]
def k0_off822 (v165 : BitVec 32) : Fin 2 → Nat :=
  let v217 : Index := Scalar.indexCast v165
  let c112_111 : Index := 112#32
  ![v217.toNat, 112]

def k0_chk53 (v19 : BitVec 32) (k0_t9 : Fin (k0_t9_loop v19).trips) (v165 : BitVec 32) : Prop :=
  (∀ (k0_h10 : k0_cond10 v19 k0_t9 = 1#1), ∀ a, (k0_off808 v165) a + S1x16.size a ≤ S321x128.size a) ∧
  (∀ (k0_h10 : k0_cond10 v19 k0_t9 = 1#1), ∀ a, (k0_off810 v165) a + S1x16.size a ≤ S321x128.size a) ∧
  (∀ (k0_h10 : k0_cond10 v19 k0_t9 = 1#1), ∀ a, (k0_off812 v165) a + S1x16.size a ≤ S321x128.size a) ∧
  (∀ (k0_h10 : k0_cond10 v19 k0_t9 = 1#1), ∀ a, (k0_off814 v165) a + S1x16.size a ≤ S321x128.size a) ∧
  (∀ (k0_h10 : k0_cond10 v19 k0_t9 = 1#1), ∀ a, (k0_off816 v165) a + S1x16.size a ≤ S321x128.size a) ∧
  (∀ (k0_h10 : k0_cond10 v19 k0_t9 = 1#1), ∀ a, (k0_off818 v165) a + S1x16.size a ≤ S321x128.size a) ∧
  (∀ (k0_h10 : k0_cond10 v19 k0_t9 = 1#1), ∀ a, (k0_off820 v165) a + S1x16.size a ≤ S321x128.size a) ∧
  (∀ (k0_h10 : k0_cond10 v19 k0_t9 = 1#1), ∀ a, (k0_off822 v165) a + S1x16.size a ≤ S321x128.size a)
theorem k0_off808_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off808 v165) a + S1x16.size a ≤ S321x128.size a := fun v19 k0_t9 v165 k0_hw53 k0_h10 => k0_hw53.1 k0_h10
theorem k0_off810_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off810 v165) a + S1x16.size a ≤ S321x128.size a := fun v19 k0_t9 v165 k0_hw53 k0_h10 => k0_hw53.2.1 k0_h10
theorem k0_off812_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off812 v165) a + S1x16.size a ≤ S321x128.size a := fun v19 k0_t9 v165 k0_hw53 k0_h10 => k0_hw53.2.2.1 k0_h10
theorem k0_off814_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off814 v165) a + S1x16.size a ≤ S321x128.size a := fun v19 k0_t9 v165 k0_hw53 k0_h10 => k0_hw53.2.2.2.1 k0_h10
theorem k0_off816_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off816 v165) a + S1x16.size a ≤ S321x128.size a := fun v19 k0_t9 v165 k0_hw53 k0_h10 => k0_hw53.2.2.2.2.1 k0_h10
theorem k0_off818_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off818 v165) a + S1x16.size a ≤ S321x128.size a := fun v19 k0_t9 v165 k0_hw53 k0_h10 => k0_hw53.2.2.2.2.2.1 k0_h10
theorem k0_off820_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off820 v165) a + S1x16.size a ≤ S321x128.size a := fun v19 k0_t9 v165 k0_hw53 k0_h10 => k0_hw53.2.2.2.2.2.2.1 k0_h10
theorem k0_off822_inb : ∀ (v19 : BitVec 32) (k0_t9 : Fin (k0_t9_loop v19).trips) (v165 : BitVec 32) (k0_hw53 : k0_chk53 v19 k0_t9 v165), ∀ (k0_h10 : k0_cond10 v19 k0_t9 = 1#1), ∀ a, (k0_off822 v165) a + S1x16.size a ≤ S321x128.size a := fun v19 k0_t9 v165 k0_hw53 k0_h10 => k0_hw53.2.2.2.2.2.2.2 k0_h10

def k0_off823 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_88 : BitVec 32 := 16#32
  let v166 : BitVec 32 := Scalar.muli arg25 c16_i32_88
  let c1_i32_89 : BitVec 32 := 1#32
  let v167 : BitVec 32 := Scalar.addi v166 c1_i32_89
  let v219 : Index := Scalar.indexCast v167
  let c112_112 : Index := 112#32
  ![v219.toNat, 112]
def k0_off824 (v225 : BitVec 32) : Fin 2 → Nat :=
  let v228 : Index := Scalar.indexCast v225
  let c0_116 : Index := 0#32
  ![v228.toNat, 0]

def k0_off825 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v230 : Index := Scalar.indexCast v227
  let c0_117 : Index := 0#32
  ![v230.toNat, 0]
def k0_off826 (v225 : BitVec 32) : Fin 2 → Nat :=
  let v235 : Index := Scalar.indexCast v225
  let c16_119 : Index := 16#32
  ![v235.toNat, 16]
def k0_off827 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v237 : Index := Scalar.indexCast v227
  let c16_120 : Index := 16#32
  ![v237.toNat, 16]
def k0_off828 (v225 : BitVec 32) : Fin 2 → Nat :=
  let v242 : Index := Scalar.indexCast v225
  let c32_122 : Index := 32#32
  ![v242.toNat, 32]
def k0_off829 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v244 : Index := Scalar.indexCast v227
  let c32_123 : Index := 32#32
  ![v244.toNat, 32]
def k0_off830 (v225 : BitVec 32) : Fin 2 → Nat :=
  let v249 : Index := Scalar.indexCast v225
  let c48_125 : Index := 48#32
  ![v249.toNat, 48]
def k0_off831 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v251 : Index := Scalar.indexCast v227
  let c48_126 : Index := 48#32
  ![v251.toNat, 48]
def k0_off832 (v225 : BitVec 32) : Fin 2 → Nat :=
  let v256 : Index := Scalar.indexCast v225
  let c64_128 : Index := 64#32
  ![v256.toNat, 64]
def k0_off833 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v258 : Index := Scalar.indexCast v227
  let c64_129 : Index := 64#32
  ![v258.toNat, 64]
def k0_off834 (v225 : BitVec 32) : Fin 2 → Nat :=
  let v263 : Index := Scalar.indexCast v225
  let c80_131 : Index := 80#32
  ![v263.toNat, 80]
def k0_off835 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v265 : Index := Scalar.indexCast v227
  let c80_132 : Index := 80#32
  ![v265.toNat, 80]
def k0_off836 (v225 : BitVec 32) : Fin 2 → Nat :=
  let v270 : Index := Scalar.indexCast v225
  let c96_134 : Index := 96#32
  ![v270.toNat, 96]
def k0_off837 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v272 : Index := Scalar.indexCast v227
  let c96_135 : Index := 96#32
  ![v272.toNat, 96]
def k0_off838 (v225 : BitVec 32) : Fin 2 → Nat :=
  let v277 : Index := Scalar.indexCast v225
  let c112_137 : Index := 112#32
  ![v277.toNat, 112]

def k0_chk54 (v19 : BitVec 32) (k0_t9 : Fin (k0_t9_loop v19).trips) (v225 : BitVec 32) : Prop :=
  (∀ (k0_h10 : k0_cond10 v19 k0_t9 = 1#1), ∀ a, (k0_off824 v225) a + S1x16.size a ≤ S321x128.size a) ∧
  (∀ (k0_h10 : k0_cond10 v19 k0_t9 = 1#1), ∀ a, (k0_off826 v225) a + S1x16.size a ≤ S321x128.size a) ∧
  (∀ (k0_h10 : k0_cond10 v19 k0_t9 = 1#1), ∀ a, (k0_off828 v225) a + S1x16.size a ≤ S321x128.size a) ∧
  (∀ (k0_h10 : k0_cond10 v19 k0_t9 = 1#1), ∀ a, (k0_off830 v225) a + S1x16.size a ≤ S321x128.size a) ∧
  (∀ (k0_h10 : k0_cond10 v19 k0_t9 = 1#1), ∀ a, (k0_off832 v225) a + S1x16.size a ≤ S321x128.size a) ∧
  (∀ (k0_h10 : k0_cond10 v19 k0_t9 = 1#1), ∀ a, (k0_off834 v225) a + S1x16.size a ≤ S321x128.size a) ∧
  (∀ (k0_h10 : k0_cond10 v19 k0_t9 = 1#1), ∀ a, (k0_off836 v225) a + S1x16.size a ≤ S321x128.size a) ∧
  (∀ (k0_h10 : k0_cond10 v19 k0_t9 = 1#1), ∀ a, (k0_off838 v225) a + S1x16.size a ≤ S321x128.size a)
theorem k0_off824_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off824 v225) a + S1x16.size a ≤ S321x128.size a := fun v19 k0_t9 v225 k0_hw54 k0_h10 => k0_hw54.1 k0_h10
theorem k0_off826_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off826 v225) a + S1x16.size a ≤ S321x128.size a := fun v19 k0_t9 v225 k0_hw54 k0_h10 => k0_hw54.2.1 k0_h10
theorem k0_off828_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off828 v225) a + S1x16.size a ≤ S321x128.size a := fun v19 k0_t9 v225 k0_hw54 k0_h10 => k0_hw54.2.2.1 k0_h10
theorem k0_off830_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off830 v225) a + S1x16.size a ≤ S321x128.size a := fun v19 k0_t9 v225 k0_hw54 k0_h10 => k0_hw54.2.2.2.1 k0_h10
theorem k0_off832_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off832 v225) a + S1x16.size a ≤ S321x128.size a := fun v19 k0_t9 v225 k0_hw54 k0_h10 => k0_hw54.2.2.2.2.1 k0_h10
theorem k0_off834_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off834 v225) a + S1x16.size a ≤ S321x128.size a := fun v19 k0_t9 v225 k0_hw54 k0_h10 => k0_hw54.2.2.2.2.2.1 k0_h10
theorem k0_off836_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off836 v225) a + S1x16.size a ≤ S321x128.size a := fun v19 k0_t9 v225 k0_hw54 k0_h10 => k0_hw54.2.2.2.2.2.2.1 k0_h10
theorem k0_off838_inb : ∀ (v19 : BitVec 32) (k0_t9 : Fin (k0_t9_loop v19).trips) (v225 : BitVec 32) (k0_hw54 : k0_chk54 v19 k0_t9 v225), ∀ (k0_h10 : k0_cond10 v19 k0_t9 = 1#1), ∀ a, (k0_off838 v225) a + S1x16.size a ≤ S321x128.size a := fun v19 k0_t9 v225 k0_hw54 k0_h10 => k0_hw54.2.2.2.2.2.2.2 k0_h10

def k0_off839 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_114 : BitVec 32 := 16#32
  let v226 : BitVec 32 := Scalar.muli arg25 c16_i32_114
  let c2_i32_115 : BitVec 32 := 2#32
  let v227 : BitVec 32 := Scalar.addi v226 c2_i32_115
  let v279 : Index := Scalar.indexCast v227
  let c112_138 : Index := 112#32
  ![v279.toNat, 112]
def k0_off840 (v285 : BitVec 32) : Fin 2 → Nat :=
  let v288 : Index := Scalar.indexCast v285
  let c0_141 : Index := 0#32
  ![v288.toNat, 0]

def k0_off841 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v290 : Index := Scalar.indexCast v287
  let c0_142 : Index := 0#32
  ![v290.toNat, 0]
def k0_off842 (v285 : BitVec 32) : Fin 2 → Nat :=
  let v295 : Index := Scalar.indexCast v285
  let c16_144 : Index := 16#32
  ![v295.toNat, 16]
def k0_off843 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v297 : Index := Scalar.indexCast v287
  let c16_145 : Index := 16#32
  ![v297.toNat, 16]
def k0_off844 (v285 : BitVec 32) : Fin 2 → Nat :=
  let v302 : Index := Scalar.indexCast v285
  let c32_147 : Index := 32#32
  ![v302.toNat, 32]
def k0_off845 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v304 : Index := Scalar.indexCast v287
  let c32_148 : Index := 32#32
  ![v304.toNat, 32]
def k0_off846 (v285 : BitVec 32) : Fin 2 → Nat :=
  let v309 : Index := Scalar.indexCast v285
  let c48_150 : Index := 48#32
  ![v309.toNat, 48]
def k0_off847 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v311 : Index := Scalar.indexCast v287
  let c48_151 : Index := 48#32
  ![v311.toNat, 48]
def k0_off848 (v285 : BitVec 32) : Fin 2 → Nat :=
  let v316 : Index := Scalar.indexCast v285
  let c64_153 : Index := 64#32
  ![v316.toNat, 64]
def k0_off849 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v318 : Index := Scalar.indexCast v287
  let c64_154 : Index := 64#32
  ![v318.toNat, 64]
def k0_off850 (v285 : BitVec 32) : Fin 2 → Nat :=
  let v323 : Index := Scalar.indexCast v285
  let c80_156 : Index := 80#32
  ![v323.toNat, 80]
def k0_off851 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v325 : Index := Scalar.indexCast v287
  let c80_157 : Index := 80#32
  ![v325.toNat, 80]
def k0_off852 (v285 : BitVec 32) : Fin 2 → Nat :=
  let v330 : Index := Scalar.indexCast v285
  let c96_159 : Index := 96#32
  ![v330.toNat, 96]
def k0_off853 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v332 : Index := Scalar.indexCast v287
  let c96_160 : Index := 96#32
  ![v332.toNat, 96]
def k0_off854 (v285 : BitVec 32) : Fin 2 → Nat :=
  let v337 : Index := Scalar.indexCast v285
  let c112_162 : Index := 112#32
  ![v337.toNat, 112]

def k0_chk55 (v19 : BitVec 32) (k0_t9 : Fin (k0_t9_loop v19).trips) (v285 : BitVec 32) : Prop :=
  (∀ (k0_h10 : k0_cond10 v19 k0_t9 = 1#1), ∀ a, (k0_off840 v285) a + S1x16.size a ≤ S321x128.size a) ∧
  (∀ (k0_h10 : k0_cond10 v19 k0_t9 = 1#1), ∀ a, (k0_off842 v285) a + S1x16.size a ≤ S321x128.size a) ∧
  (∀ (k0_h10 : k0_cond10 v19 k0_t9 = 1#1), ∀ a, (k0_off844 v285) a + S1x16.size a ≤ S321x128.size a) ∧
  (∀ (k0_h10 : k0_cond10 v19 k0_t9 = 1#1), ∀ a, (k0_off846 v285) a + S1x16.size a ≤ S321x128.size a) ∧
  (∀ (k0_h10 : k0_cond10 v19 k0_t9 = 1#1), ∀ a, (k0_off848 v285) a + S1x16.size a ≤ S321x128.size a) ∧
  (∀ (k0_h10 : k0_cond10 v19 k0_t9 = 1#1), ∀ a, (k0_off850 v285) a + S1x16.size a ≤ S321x128.size a) ∧
  (∀ (k0_h10 : k0_cond10 v19 k0_t9 = 1#1), ∀ a, (k0_off852 v285) a + S1x16.size a ≤ S321x128.size a) ∧
  (∀ (k0_h10 : k0_cond10 v19 k0_t9 = 1#1), ∀ a, (k0_off854 v285) a + S1x16.size a ≤ S321x128.size a)
theorem k0_off840_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off840 v285) a + S1x16.size a ≤ S321x128.size a := fun v19 k0_t9 v285 k0_hw55 k0_h10 => k0_hw55.1 k0_h10
theorem k0_off842_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off842 v285) a + S1x16.size a ≤ S321x128.size a := fun v19 k0_t9 v285 k0_hw55 k0_h10 => k0_hw55.2.1 k0_h10
theorem k0_off844_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off844 v285) a + S1x16.size a ≤ S321x128.size a := fun v19 k0_t9 v285 k0_hw55 k0_h10 => k0_hw55.2.2.1 k0_h10
theorem k0_off846_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off846 v285) a + S1x16.size a ≤ S321x128.size a := fun v19 k0_t9 v285 k0_hw55 k0_h10 => k0_hw55.2.2.2.1 k0_h10
theorem k0_off848_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off848 v285) a + S1x16.size a ≤ S321x128.size a := fun v19 k0_t9 v285 k0_hw55 k0_h10 => k0_hw55.2.2.2.2.1 k0_h10
theorem k0_off850_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off850 v285) a + S1x16.size a ≤ S321x128.size a := fun v19 k0_t9 v285 k0_hw55 k0_h10 => k0_hw55.2.2.2.2.2.1 k0_h10
theorem k0_off852_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off852 v285) a + S1x16.size a ≤ S321x128.size a := fun v19 k0_t9 v285 k0_hw55 k0_h10 => k0_hw55.2.2.2.2.2.2.1 k0_h10
theorem k0_off854_inb : ∀ (v19 : BitVec 32) (k0_t9 : Fin (k0_t9_loop v19).trips) (v285 : BitVec 32) (k0_hw55 : k0_chk55 v19 k0_t9 v285), ∀ (k0_h10 : k0_cond10 v19 k0_t9 = 1#1), ∀ a, (k0_off854 v285) a + S1x16.size a ≤ S321x128.size a := fun v19 k0_t9 v285 k0_hw55 k0_h10 => k0_hw55.2.2.2.2.2.2.2 k0_h10

def k0_off855 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_140 : BitVec 32 := 16#32
  let v286 : BitVec 32 := Scalar.muli arg25 c16_i32_140
  let c3_i32 : BitVec 32 := 3#32
  let v287 : BitVec 32 := Scalar.addi v286 c3_i32
  let v339 : Index := Scalar.indexCast v287
  let c112_163 : Index := 112#32
  ![v339.toNat, 112]
def k0_off856 (v345 : BitVec 32) : Fin 2 → Nat :=
  let v348 : Index := Scalar.indexCast v345
  let c0_166 : Index := 0#32
  ![v348.toNat, 0]

def k0_off857 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v350 : Index := Scalar.indexCast v347
  let c0_167 : Index := 0#32
  ![v350.toNat, 0]
def k0_off858 (v345 : BitVec 32) : Fin 2 → Nat :=
  let v355 : Index := Scalar.indexCast v345
  let c16_169 : Index := 16#32
  ![v355.toNat, 16]
def k0_off859 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v357 : Index := Scalar.indexCast v347
  let c16_170 : Index := 16#32
  ![v357.toNat, 16]
def k0_off860 (v345 : BitVec 32) : Fin 2 → Nat :=
  let v362 : Index := Scalar.indexCast v345
  let c32_172 : Index := 32#32
  ![v362.toNat, 32]
def k0_off861 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v364 : Index := Scalar.indexCast v347
  let c32_173 : Index := 32#32
  ![v364.toNat, 32]
def k0_off862 (v345 : BitVec 32) : Fin 2 → Nat :=
  let v369 : Index := Scalar.indexCast v345
  let c48_175 : Index := 48#32
  ![v369.toNat, 48]
def k0_off863 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v371 : Index := Scalar.indexCast v347
  let c48_176 : Index := 48#32
  ![v371.toNat, 48]
def k0_off864 (v345 : BitVec 32) : Fin 2 → Nat :=
  let v376 : Index := Scalar.indexCast v345
  let c64_178 : Index := 64#32
  ![v376.toNat, 64]
def k0_off865 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v378 : Index := Scalar.indexCast v347
  let c64_179 : Index := 64#32
  ![v378.toNat, 64]
def k0_off866 (v345 : BitVec 32) : Fin 2 → Nat :=
  let v383 : Index := Scalar.indexCast v345
  let c80_181 : Index := 80#32
  ![v383.toNat, 80]
def k0_off867 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v385 : Index := Scalar.indexCast v347
  let c80_182 : Index := 80#32
  ![v385.toNat, 80]
def k0_off868 (v345 : BitVec 32) : Fin 2 → Nat :=
  let v390 : Index := Scalar.indexCast v345
  let c96_184 : Index := 96#32
  ![v390.toNat, 96]
def k0_off869 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v392 : Index := Scalar.indexCast v347
  let c96_185 : Index := 96#32
  ![v392.toNat, 96]
def k0_off870 (v345 : BitVec 32) : Fin 2 → Nat :=
  let v397 : Index := Scalar.indexCast v345
  let c112_187 : Index := 112#32
  ![v397.toNat, 112]

def k0_chk56 (v19 : BitVec 32) (k0_t9 : Fin (k0_t9_loop v19).trips) (v345 : BitVec 32) : Prop :=
  (∀ (k0_h10 : k0_cond10 v19 k0_t9 = 1#1), ∀ a, (k0_off856 v345) a + S1x16.size a ≤ S321x128.size a) ∧
  (∀ (k0_h10 : k0_cond10 v19 k0_t9 = 1#1), ∀ a, (k0_off858 v345) a + S1x16.size a ≤ S321x128.size a) ∧
  (∀ (k0_h10 : k0_cond10 v19 k0_t9 = 1#1), ∀ a, (k0_off860 v345) a + S1x16.size a ≤ S321x128.size a) ∧
  (∀ (k0_h10 : k0_cond10 v19 k0_t9 = 1#1), ∀ a, (k0_off862 v345) a + S1x16.size a ≤ S321x128.size a) ∧
  (∀ (k0_h10 : k0_cond10 v19 k0_t9 = 1#1), ∀ a, (k0_off864 v345) a + S1x16.size a ≤ S321x128.size a) ∧
  (∀ (k0_h10 : k0_cond10 v19 k0_t9 = 1#1), ∀ a, (k0_off866 v345) a + S1x16.size a ≤ S321x128.size a) ∧
  (∀ (k0_h10 : k0_cond10 v19 k0_t9 = 1#1), ∀ a, (k0_off868 v345) a + S1x16.size a ≤ S321x128.size a) ∧
  (∀ (k0_h10 : k0_cond10 v19 k0_t9 = 1#1), ∀ a, (k0_off870 v345) a + S1x16.size a ≤ S321x128.size a)
theorem k0_off856_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off856 v345) a + S1x16.size a ≤ S321x128.size a := fun v19 k0_t9 v345 k0_hw56 k0_h10 => k0_hw56.1 k0_h10
theorem k0_off858_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off858 v345) a + S1x16.size a ≤ S321x128.size a := fun v19 k0_t9 v345 k0_hw56 k0_h10 => k0_hw56.2.1 k0_h10
theorem k0_off860_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off860 v345) a + S1x16.size a ≤ S321x128.size a := fun v19 k0_t9 v345 k0_hw56 k0_h10 => k0_hw56.2.2.1 k0_h10
theorem k0_off862_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off862 v345) a + S1x16.size a ≤ S321x128.size a := fun v19 k0_t9 v345 k0_hw56 k0_h10 => k0_hw56.2.2.2.1 k0_h10
theorem k0_off864_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off864 v345) a + S1x16.size a ≤ S321x128.size a := fun v19 k0_t9 v345 k0_hw56 k0_h10 => k0_hw56.2.2.2.2.1 k0_h10
theorem k0_off866_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off866 v345) a + S1x16.size a ≤ S321x128.size a := fun v19 k0_t9 v345 k0_hw56 k0_h10 => k0_hw56.2.2.2.2.2.1 k0_h10
theorem k0_off868_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off868 v345) a + S1x16.size a ≤ S321x128.size a := fun v19 k0_t9 v345 k0_hw56 k0_h10 => k0_hw56.2.2.2.2.2.2.1 k0_h10
theorem k0_off870_inb : ∀ (v19 : BitVec 32) (k0_t9 : Fin (k0_t9_loop v19).trips) (v345 : BitVec 32) (k0_hw56 : k0_chk56 v19 k0_t9 v345), ∀ (k0_h10 : k0_cond10 v19 k0_t9 = 1#1), ∀ a, (k0_off870 v345) a + S1x16.size a ≤ S321x128.size a := fun v19 k0_t9 v345 k0_hw56 k0_h10 => k0_hw56.2.2.2.2.2.2.2 k0_h10

def k0_off871 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_165 : BitVec 32 := 16#32
  let v346 : BitVec 32 := Scalar.muli arg25 c16_i32_165
  let c4_i32 : BitVec 32 := 4#32
  let v347 : BitVec 32 := Scalar.addi v346 c4_i32
  let v399 : Index := Scalar.indexCast v347
  let c112_188 : Index := 112#32
  ![v399.toNat, 112]
def k0_off872 (v405 : BitVec 32) : Fin 2 → Nat :=
  let v408 : Index := Scalar.indexCast v405
  let c0_191 : Index := 0#32
  ![v408.toNat, 0]

def k0_off873 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v410 : Index := Scalar.indexCast v407
  let c0_192 : Index := 0#32
  ![v410.toNat, 0]
def k0_off874 (v405 : BitVec 32) : Fin 2 → Nat :=
  let v415 : Index := Scalar.indexCast v405
  let c16_194 : Index := 16#32
  ![v415.toNat, 16]
def k0_off875 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v417 : Index := Scalar.indexCast v407
  let c16_195 : Index := 16#32
  ![v417.toNat, 16]
def k0_off876 (v405 : BitVec 32) : Fin 2 → Nat :=
  let v422 : Index := Scalar.indexCast v405
  let c32_197 : Index := 32#32
  ![v422.toNat, 32]
def k0_off877 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v424 : Index := Scalar.indexCast v407
  let c32_198 : Index := 32#32
  ![v424.toNat, 32]
def k0_off878 (v405 : BitVec 32) : Fin 2 → Nat :=
  let v429 : Index := Scalar.indexCast v405
  let c48_200 : Index := 48#32
  ![v429.toNat, 48]
def k0_off879 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v431 : Index := Scalar.indexCast v407
  let c48_201 : Index := 48#32
  ![v431.toNat, 48]
def k0_off880 (v405 : BitVec 32) : Fin 2 → Nat :=
  let v436 : Index := Scalar.indexCast v405
  let c64_203 : Index := 64#32
  ![v436.toNat, 64]
def k0_off881 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v438 : Index := Scalar.indexCast v407
  let c64_204 : Index := 64#32
  ![v438.toNat, 64]
def k0_off882 (v405 : BitVec 32) : Fin 2 → Nat :=
  let v443 : Index := Scalar.indexCast v405
  let c80_206 : Index := 80#32
  ![v443.toNat, 80]
def k0_off883 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v445 : Index := Scalar.indexCast v407
  let c80_207 : Index := 80#32
  ![v445.toNat, 80]
def k0_off884 (v405 : BitVec 32) : Fin 2 → Nat :=
  let v450 : Index := Scalar.indexCast v405
  let c96_209 : Index := 96#32
  ![v450.toNat, 96]
def k0_off885 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v452 : Index := Scalar.indexCast v407
  let c96_210 : Index := 96#32
  ![v452.toNat, 96]
def k0_off886 (v405 : BitVec 32) : Fin 2 → Nat :=
  let v457 : Index := Scalar.indexCast v405
  let c112_212 : Index := 112#32
  ![v457.toNat, 112]

def k0_chk57 (v19 : BitVec 32) (k0_t9 : Fin (k0_t9_loop v19).trips) (v405 : BitVec 32) : Prop :=
  (∀ (k0_h10 : k0_cond10 v19 k0_t9 = 1#1), ∀ a, (k0_off872 v405) a + S1x16.size a ≤ S321x128.size a) ∧
  (∀ (k0_h10 : k0_cond10 v19 k0_t9 = 1#1), ∀ a, (k0_off874 v405) a + S1x16.size a ≤ S321x128.size a) ∧
  (∀ (k0_h10 : k0_cond10 v19 k0_t9 = 1#1), ∀ a, (k0_off876 v405) a + S1x16.size a ≤ S321x128.size a) ∧
  (∀ (k0_h10 : k0_cond10 v19 k0_t9 = 1#1), ∀ a, (k0_off878 v405) a + S1x16.size a ≤ S321x128.size a) ∧
  (∀ (k0_h10 : k0_cond10 v19 k0_t9 = 1#1), ∀ a, (k0_off880 v405) a + S1x16.size a ≤ S321x128.size a) ∧
  (∀ (k0_h10 : k0_cond10 v19 k0_t9 = 1#1), ∀ a, (k0_off882 v405) a + S1x16.size a ≤ S321x128.size a) ∧
  (∀ (k0_h10 : k0_cond10 v19 k0_t9 = 1#1), ∀ a, (k0_off884 v405) a + S1x16.size a ≤ S321x128.size a) ∧
  (∀ (k0_h10 : k0_cond10 v19 k0_t9 = 1#1), ∀ a, (k0_off886 v405) a + S1x16.size a ≤ S321x128.size a)
theorem k0_off872_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off872 v405) a + S1x16.size a ≤ S321x128.size a := fun v19 k0_t9 v405 k0_hw57 k0_h10 => k0_hw57.1 k0_h10
theorem k0_off874_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off874 v405) a + S1x16.size a ≤ S321x128.size a := fun v19 k0_t9 v405 k0_hw57 k0_h10 => k0_hw57.2.1 k0_h10
theorem k0_off876_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off876 v405) a + S1x16.size a ≤ S321x128.size a := fun v19 k0_t9 v405 k0_hw57 k0_h10 => k0_hw57.2.2.1 k0_h10
theorem k0_off878_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off878 v405) a + S1x16.size a ≤ S321x128.size a := fun v19 k0_t9 v405 k0_hw57 k0_h10 => k0_hw57.2.2.2.1 k0_h10
theorem k0_off880_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off880 v405) a + S1x16.size a ≤ S321x128.size a := fun v19 k0_t9 v405 k0_hw57 k0_h10 => k0_hw57.2.2.2.2.1 k0_h10
theorem k0_off882_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off882 v405) a + S1x16.size a ≤ S321x128.size a := fun v19 k0_t9 v405 k0_hw57 k0_h10 => k0_hw57.2.2.2.2.2.1 k0_h10
theorem k0_off884_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off884 v405) a + S1x16.size a ≤ S321x128.size a := fun v19 k0_t9 v405 k0_hw57 k0_h10 => k0_hw57.2.2.2.2.2.2.1 k0_h10
theorem k0_off886_inb : ∀ (v19 : BitVec 32) (k0_t9 : Fin (k0_t9_loop v19).trips) (v405 : BitVec 32) (k0_hw57 : k0_chk57 v19 k0_t9 v405), ∀ (k0_h10 : k0_cond10 v19 k0_t9 = 1#1), ∀ a, (k0_off886 v405) a + S1x16.size a ≤ S321x128.size a := fun v19 k0_t9 v405 k0_hw57 k0_h10 => k0_hw57.2.2.2.2.2.2.2 k0_h10

def k0_off887 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_190 : BitVec 32 := 16#32
  let v406 : BitVec 32 := Scalar.muli arg25 c16_i32_190
  let c5_i32 : BitVec 32 := 5#32
  let v407 : BitVec 32 := Scalar.addi v406 c5_i32
  let v459 : Index := Scalar.indexCast v407
  let c112_213 : Index := 112#32
  ![v459.toNat, 112]
def k0_off888 (v465 : BitVec 32) : Fin 2 → Nat :=
  let v468 : Index := Scalar.indexCast v465
  let c0_216 : Index := 0#32
  ![v468.toNat, 0]

def k0_off889 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v470 : Index := Scalar.indexCast v467
  let c0_217 : Index := 0#32
  ![v470.toNat, 0]
def k0_off890 (v465 : BitVec 32) : Fin 2 → Nat :=
  let v475 : Index := Scalar.indexCast v465
  let c16_219 : Index := 16#32
  ![v475.toNat, 16]
def k0_off891 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v477 : Index := Scalar.indexCast v467
  let c16_220 : Index := 16#32
  ![v477.toNat, 16]
def k0_off892 (v465 : BitVec 32) : Fin 2 → Nat :=
  let v482 : Index := Scalar.indexCast v465
  let c32_222 : Index := 32#32
  ![v482.toNat, 32]
def k0_off893 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v484 : Index := Scalar.indexCast v467
  let c32_223 : Index := 32#32
  ![v484.toNat, 32]
def k0_off894 (v465 : BitVec 32) : Fin 2 → Nat :=
  let v489 : Index := Scalar.indexCast v465
  let c48_225 : Index := 48#32
  ![v489.toNat, 48]
def k0_off895 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v491 : Index := Scalar.indexCast v467
  let c48_226 : Index := 48#32
  ![v491.toNat, 48]
def k0_off896 (v465 : BitVec 32) : Fin 2 → Nat :=
  let v496 : Index := Scalar.indexCast v465
  let c64_228 : Index := 64#32
  ![v496.toNat, 64]
def k0_off897 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v498 : Index := Scalar.indexCast v467
  let c64_229 : Index := 64#32
  ![v498.toNat, 64]
def k0_off898 (v465 : BitVec 32) : Fin 2 → Nat :=
  let v503 : Index := Scalar.indexCast v465
  let c80_231 : Index := 80#32
  ![v503.toNat, 80]
def k0_off899 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v505 : Index := Scalar.indexCast v467
  let c80_232 : Index := 80#32
  ![v505.toNat, 80]
def k0_off900 (v465 : BitVec 32) : Fin 2 → Nat :=
  let v510 : Index := Scalar.indexCast v465
  let c96_234 : Index := 96#32
  ![v510.toNat, 96]
def k0_off901 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v512 : Index := Scalar.indexCast v467
  let c96_235 : Index := 96#32
  ![v512.toNat, 96]
def k0_off902 (v465 : BitVec 32) : Fin 2 → Nat :=
  let v517 : Index := Scalar.indexCast v465
  let c112_237 : Index := 112#32
  ![v517.toNat, 112]

def k0_chk58 (v19 : BitVec 32) (k0_t9 : Fin (k0_t9_loop v19).trips) (v465 : BitVec 32) : Prop :=
  (∀ (k0_h10 : k0_cond10 v19 k0_t9 = 1#1), ∀ a, (k0_off888 v465) a + S1x16.size a ≤ S321x128.size a) ∧
  (∀ (k0_h10 : k0_cond10 v19 k0_t9 = 1#1), ∀ a, (k0_off890 v465) a + S1x16.size a ≤ S321x128.size a) ∧
  (∀ (k0_h10 : k0_cond10 v19 k0_t9 = 1#1), ∀ a, (k0_off892 v465) a + S1x16.size a ≤ S321x128.size a) ∧
  (∀ (k0_h10 : k0_cond10 v19 k0_t9 = 1#1), ∀ a, (k0_off894 v465) a + S1x16.size a ≤ S321x128.size a) ∧
  (∀ (k0_h10 : k0_cond10 v19 k0_t9 = 1#1), ∀ a, (k0_off896 v465) a + S1x16.size a ≤ S321x128.size a) ∧
  (∀ (k0_h10 : k0_cond10 v19 k0_t9 = 1#1), ∀ a, (k0_off898 v465) a + S1x16.size a ≤ S321x128.size a) ∧
  (∀ (k0_h10 : k0_cond10 v19 k0_t9 = 1#1), ∀ a, (k0_off900 v465) a + S1x16.size a ≤ S321x128.size a) ∧
  (∀ (k0_h10 : k0_cond10 v19 k0_t9 = 1#1), ∀ a, (k0_off902 v465) a + S1x16.size a ≤ S321x128.size a)
theorem k0_off888_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off888 v465) a + S1x16.size a ≤ S321x128.size a := fun v19 k0_t9 v465 k0_hw58 k0_h10 => k0_hw58.1 k0_h10
theorem k0_off890_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off890 v465) a + S1x16.size a ≤ S321x128.size a := fun v19 k0_t9 v465 k0_hw58 k0_h10 => k0_hw58.2.1 k0_h10
theorem k0_off892_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off892 v465) a + S1x16.size a ≤ S321x128.size a := fun v19 k0_t9 v465 k0_hw58 k0_h10 => k0_hw58.2.2.1 k0_h10
theorem k0_off894_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off894 v465) a + S1x16.size a ≤ S321x128.size a := fun v19 k0_t9 v465 k0_hw58 k0_h10 => k0_hw58.2.2.2.1 k0_h10
theorem k0_off896_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off896 v465) a + S1x16.size a ≤ S321x128.size a := fun v19 k0_t9 v465 k0_hw58 k0_h10 => k0_hw58.2.2.2.2.1 k0_h10
theorem k0_off898_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off898 v465) a + S1x16.size a ≤ S321x128.size a := fun v19 k0_t9 v465 k0_hw58 k0_h10 => k0_hw58.2.2.2.2.2.1 k0_h10
theorem k0_off900_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off900 v465) a + S1x16.size a ≤ S321x128.size a := fun v19 k0_t9 v465 k0_hw58 k0_h10 => k0_hw58.2.2.2.2.2.2.1 k0_h10
theorem k0_off902_inb : ∀ (v19 : BitVec 32) (k0_t9 : Fin (k0_t9_loop v19).trips) (v465 : BitVec 32) (k0_hw58 : k0_chk58 v19 k0_t9 v465), ∀ (k0_h10 : k0_cond10 v19 k0_t9 = 1#1), ∀ a, (k0_off902 v465) a + S1x16.size a ≤ S321x128.size a := fun v19 k0_t9 v465 k0_hw58 k0_h10 => k0_hw58.2.2.2.2.2.2.2 k0_h10

def k0_off903 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_215 : BitVec 32 := 16#32
  let v466 : BitVec 32 := Scalar.muli arg25 c16_i32_215
  let c6_i32 : BitVec 32 := 6#32
  let v467 : BitVec 32 := Scalar.addi v466 c6_i32
  let v519 : Index := Scalar.indexCast v467
  let c112_238 : Index := 112#32
  ![v519.toNat, 112]
def k0_off904 (v525 : BitVec 32) : Fin 2 → Nat :=
  let v528 : Index := Scalar.indexCast v525
  let c0_241 : Index := 0#32
  ![v528.toNat, 0]

def k0_off905 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v530 : Index := Scalar.indexCast v527
  let c0_242 : Index := 0#32
  ![v530.toNat, 0]
def k0_off906 (v525 : BitVec 32) : Fin 2 → Nat :=
  let v535 : Index := Scalar.indexCast v525
  let c16_244 : Index := 16#32
  ![v535.toNat, 16]
def k0_off907 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v537 : Index := Scalar.indexCast v527
  let c16_245 : Index := 16#32
  ![v537.toNat, 16]
def k0_off908 (v525 : BitVec 32) : Fin 2 → Nat :=
  let v542 : Index := Scalar.indexCast v525
  let c32_247 : Index := 32#32
  ![v542.toNat, 32]
def k0_off909 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v544 : Index := Scalar.indexCast v527
  let c32_248 : Index := 32#32
  ![v544.toNat, 32]
def k0_off910 (v525 : BitVec 32) : Fin 2 → Nat :=
  let v549 : Index := Scalar.indexCast v525
  let c48_250 : Index := 48#32
  ![v549.toNat, 48]
def k0_off911 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v551 : Index := Scalar.indexCast v527
  let c48_251 : Index := 48#32
  ![v551.toNat, 48]
def k0_off912 (v525 : BitVec 32) : Fin 2 → Nat :=
  let v556 : Index := Scalar.indexCast v525
  let c64_253 : Index := 64#32
  ![v556.toNat, 64]
def k0_off913 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v558 : Index := Scalar.indexCast v527
  let c64_254 : Index := 64#32
  ![v558.toNat, 64]
def k0_off914 (v525 : BitVec 32) : Fin 2 → Nat :=
  let v563 : Index := Scalar.indexCast v525
  let c80_256 : Index := 80#32
  ![v563.toNat, 80]
def k0_off915 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v565 : Index := Scalar.indexCast v527
  let c80_257 : Index := 80#32
  ![v565.toNat, 80]
def k0_off916 (v525 : BitVec 32) : Fin 2 → Nat :=
  let v570 : Index := Scalar.indexCast v525
  let c96_259 : Index := 96#32
  ![v570.toNat, 96]
def k0_off917 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v572 : Index := Scalar.indexCast v527
  let c96_260 : Index := 96#32
  ![v572.toNat, 96]
def k0_off918 (v525 : BitVec 32) : Fin 2 → Nat :=
  let v577 : Index := Scalar.indexCast v525
  let c112_262 : Index := 112#32
  ![v577.toNat, 112]

def k0_chk59 (v19 : BitVec 32) (k0_t9 : Fin (k0_t9_loop v19).trips) (v525 : BitVec 32) : Prop :=
  (∀ (k0_h10 : k0_cond10 v19 k0_t9 = 1#1), ∀ a, (k0_off904 v525) a + S1x16.size a ≤ S321x128.size a) ∧
  (∀ (k0_h10 : k0_cond10 v19 k0_t9 = 1#1), ∀ a, (k0_off906 v525) a + S1x16.size a ≤ S321x128.size a) ∧
  (∀ (k0_h10 : k0_cond10 v19 k0_t9 = 1#1), ∀ a, (k0_off908 v525) a + S1x16.size a ≤ S321x128.size a) ∧
  (∀ (k0_h10 : k0_cond10 v19 k0_t9 = 1#1), ∀ a, (k0_off910 v525) a + S1x16.size a ≤ S321x128.size a) ∧
  (∀ (k0_h10 : k0_cond10 v19 k0_t9 = 1#1), ∀ a, (k0_off912 v525) a + S1x16.size a ≤ S321x128.size a) ∧
  (∀ (k0_h10 : k0_cond10 v19 k0_t9 = 1#1), ∀ a, (k0_off914 v525) a + S1x16.size a ≤ S321x128.size a) ∧
  (∀ (k0_h10 : k0_cond10 v19 k0_t9 = 1#1), ∀ a, (k0_off916 v525) a + S1x16.size a ≤ S321x128.size a) ∧
  (∀ (k0_h10 : k0_cond10 v19 k0_t9 = 1#1), ∀ a, (k0_off918 v525) a + S1x16.size a ≤ S321x128.size a)
theorem k0_off904_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off904 v525) a + S1x16.size a ≤ S321x128.size a := fun v19 k0_t9 v525 k0_hw59 k0_h10 => k0_hw59.1 k0_h10
theorem k0_off906_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off906 v525) a + S1x16.size a ≤ S321x128.size a := fun v19 k0_t9 v525 k0_hw59 k0_h10 => k0_hw59.2.1 k0_h10
theorem k0_off908_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off908 v525) a + S1x16.size a ≤ S321x128.size a := fun v19 k0_t9 v525 k0_hw59 k0_h10 => k0_hw59.2.2.1 k0_h10
theorem k0_off910_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off910 v525) a + S1x16.size a ≤ S321x128.size a := fun v19 k0_t9 v525 k0_hw59 k0_h10 => k0_hw59.2.2.2.1 k0_h10
theorem k0_off912_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off912 v525) a + S1x16.size a ≤ S321x128.size a := fun v19 k0_t9 v525 k0_hw59 k0_h10 => k0_hw59.2.2.2.2.1 k0_h10
theorem k0_off914_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off914 v525) a + S1x16.size a ≤ S321x128.size a := fun v19 k0_t9 v525 k0_hw59 k0_h10 => k0_hw59.2.2.2.2.2.1 k0_h10
theorem k0_off916_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off916 v525) a + S1x16.size a ≤ S321x128.size a := fun v19 k0_t9 v525 k0_hw59 k0_h10 => k0_hw59.2.2.2.2.2.2.1 k0_h10
theorem k0_off918_inb : ∀ (v19 : BitVec 32) (k0_t9 : Fin (k0_t9_loop v19).trips) (v525 : BitVec 32) (k0_hw59 : k0_chk59 v19 k0_t9 v525), ∀ (k0_h10 : k0_cond10 v19 k0_t9 = 1#1), ∀ a, (k0_off918 v525) a + S1x16.size a ≤ S321x128.size a := fun v19 k0_t9 v525 k0_hw59 k0_h10 => k0_hw59.2.2.2.2.2.2.2 k0_h10

def k0_off919 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_240 : BitVec 32 := 16#32
  let v526 : BitVec 32 := Scalar.muli arg25 c16_i32_240
  let c7_i32 : BitVec 32 := 7#32
  let v527 : BitVec 32 := Scalar.addi v526 c7_i32
  let v579 : Index := Scalar.indexCast v527
  let c112_263 : Index := 112#32
  ![v579.toNat, 112]
def k0_off920 (v585 : BitVec 32) : Fin 2 → Nat :=
  let v588 : Index := Scalar.indexCast v585
  let c0_267 : Index := 0#32
  ![v588.toNat, 0]

def k0_off921 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v590 : Index := Scalar.indexCast v587
  let c0_268 : Index := 0#32
  ![v590.toNat, 0]
def k0_off922 (v585 : BitVec 32) : Fin 2 → Nat :=
  let v595 : Index := Scalar.indexCast v585
  let c16_270 : Index := 16#32
  ![v595.toNat, 16]
def k0_off923 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v597 : Index := Scalar.indexCast v587
  let c16_271 : Index := 16#32
  ![v597.toNat, 16]
def k0_off924 (v585 : BitVec 32) : Fin 2 → Nat :=
  let v602 : Index := Scalar.indexCast v585
  let c32_273 : Index := 32#32
  ![v602.toNat, 32]
def k0_off925 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v604 : Index := Scalar.indexCast v587
  let c32_274 : Index := 32#32
  ![v604.toNat, 32]
def k0_off926 (v585 : BitVec 32) : Fin 2 → Nat :=
  let v609 : Index := Scalar.indexCast v585
  let c48_276 : Index := 48#32
  ![v609.toNat, 48]
def k0_off927 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v611 : Index := Scalar.indexCast v587
  let c48_277 : Index := 48#32
  ![v611.toNat, 48]
def k0_off928 (v585 : BitVec 32) : Fin 2 → Nat :=
  let v616 : Index := Scalar.indexCast v585
  let c64_279 : Index := 64#32
  ![v616.toNat, 64]
def k0_off929 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v618 : Index := Scalar.indexCast v587
  let c64_280 : Index := 64#32
  ![v618.toNat, 64]
def k0_off930 (v585 : BitVec 32) : Fin 2 → Nat :=
  let v623 : Index := Scalar.indexCast v585
  let c80_282 : Index := 80#32
  ![v623.toNat, 80]
def k0_off931 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v625 : Index := Scalar.indexCast v587
  let c80_283 : Index := 80#32
  ![v625.toNat, 80]
def k0_off932 (v585 : BitVec 32) : Fin 2 → Nat :=
  let v630 : Index := Scalar.indexCast v585
  let c96_285 : Index := 96#32
  ![v630.toNat, 96]
def k0_off933 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v632 : Index := Scalar.indexCast v587
  let c96_286 : Index := 96#32
  ![v632.toNat, 96]
def k0_off934 (v585 : BitVec 32) : Fin 2 → Nat :=
  let v637 : Index := Scalar.indexCast v585
  let c112_288 : Index := 112#32
  ![v637.toNat, 112]

def k0_chk60 (v19 : BitVec 32) (k0_t9 : Fin (k0_t9_loop v19).trips) (v585 : BitVec 32) : Prop :=
  (∀ (k0_h10 : k0_cond10 v19 k0_t9 = 1#1), ∀ a, (k0_off920 v585) a + S1x16.size a ≤ S321x128.size a) ∧
  (∀ (k0_h10 : k0_cond10 v19 k0_t9 = 1#1), ∀ a, (k0_off922 v585) a + S1x16.size a ≤ S321x128.size a) ∧
  (∀ (k0_h10 : k0_cond10 v19 k0_t9 = 1#1), ∀ a, (k0_off924 v585) a + S1x16.size a ≤ S321x128.size a) ∧
  (∀ (k0_h10 : k0_cond10 v19 k0_t9 = 1#1), ∀ a, (k0_off926 v585) a + S1x16.size a ≤ S321x128.size a) ∧
  (∀ (k0_h10 : k0_cond10 v19 k0_t9 = 1#1), ∀ a, (k0_off928 v585) a + S1x16.size a ≤ S321x128.size a) ∧
  (∀ (k0_h10 : k0_cond10 v19 k0_t9 = 1#1), ∀ a, (k0_off930 v585) a + S1x16.size a ≤ S321x128.size a) ∧
  (∀ (k0_h10 : k0_cond10 v19 k0_t9 = 1#1), ∀ a, (k0_off932 v585) a + S1x16.size a ≤ S321x128.size a) ∧
  (∀ (k0_h10 : k0_cond10 v19 k0_t9 = 1#1), ∀ a, (k0_off934 v585) a + S1x16.size a ≤ S321x128.size a)
theorem k0_off920_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off920 v585) a + S1x16.size a ≤ S321x128.size a := fun v19 k0_t9 v585 k0_hw60 k0_h10 => k0_hw60.1 k0_h10
theorem k0_off922_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off922 v585) a + S1x16.size a ≤ S321x128.size a := fun v19 k0_t9 v585 k0_hw60 k0_h10 => k0_hw60.2.1 k0_h10
theorem k0_off924_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off924 v585) a + S1x16.size a ≤ S321x128.size a := fun v19 k0_t9 v585 k0_hw60 k0_h10 => k0_hw60.2.2.1 k0_h10
theorem k0_off926_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off926 v585) a + S1x16.size a ≤ S321x128.size a := fun v19 k0_t9 v585 k0_hw60 k0_h10 => k0_hw60.2.2.2.1 k0_h10
theorem k0_off928_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off928 v585) a + S1x16.size a ≤ S321x128.size a := fun v19 k0_t9 v585 k0_hw60 k0_h10 => k0_hw60.2.2.2.2.1 k0_h10
theorem k0_off930_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off930 v585) a + S1x16.size a ≤ S321x128.size a := fun v19 k0_t9 v585 k0_hw60 k0_h10 => k0_hw60.2.2.2.2.2.1 k0_h10
theorem k0_off932_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off932 v585) a + S1x16.size a ≤ S321x128.size a := fun v19 k0_t9 v585 k0_hw60 k0_h10 => k0_hw60.2.2.2.2.2.2.1 k0_h10
theorem k0_off934_inb : ∀ (v19 : BitVec 32) (k0_t9 : Fin (k0_t9_loop v19).trips) (v585 : BitVec 32) (k0_hw60 : k0_chk60 v19 k0_t9 v585), ∀ (k0_h10 : k0_cond10 v19 k0_t9 = 1#1), ∀ a, (k0_off934 v585) a + S1x16.size a ≤ S321x128.size a := fun v19 k0_t9 v585 k0_hw60 k0_h10 => k0_hw60.2.2.2.2.2.2.2 k0_h10

def k0_off935 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_265 : BitVec 32 := 16#32
  let v586 : BitVec 32 := Scalar.muli arg25 c16_i32_265
  let c8_i32_266 : BitVec 32 := 8#32
  let v587 : BitVec 32 := Scalar.addi v586 c8_i32_266
  let v639 : Index := Scalar.indexCast v587
  let c112_289 : Index := 112#32
  ![v639.toNat, 112]
def k0_off936 (v645 : BitVec 32) : Fin 2 → Nat :=
  let v648 : Index := Scalar.indexCast v645
  let c0_292 : Index := 0#32
  ![v648.toNat, 0]

def k0_off937 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v650 : Index := Scalar.indexCast v647
  let c0_293 : Index := 0#32
  ![v650.toNat, 0]
def k0_off938 (v645 : BitVec 32) : Fin 2 → Nat :=
  let v655 : Index := Scalar.indexCast v645
  let c16_295 : Index := 16#32
  ![v655.toNat, 16]
def k0_off939 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v657 : Index := Scalar.indexCast v647
  let c16_296 : Index := 16#32
  ![v657.toNat, 16]
def k0_off940 (v645 : BitVec 32) : Fin 2 → Nat :=
  let v662 : Index := Scalar.indexCast v645
  let c32_298 : Index := 32#32
  ![v662.toNat, 32]
def k0_off941 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v664 : Index := Scalar.indexCast v647
  let c32_299 : Index := 32#32
  ![v664.toNat, 32]
def k0_off942 (v645 : BitVec 32) : Fin 2 → Nat :=
  let v669 : Index := Scalar.indexCast v645
  let c48_301 : Index := 48#32
  ![v669.toNat, 48]
def k0_off943 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v671 : Index := Scalar.indexCast v647
  let c48_302 : Index := 48#32
  ![v671.toNat, 48]
def k0_off944 (v645 : BitVec 32) : Fin 2 → Nat :=
  let v676 : Index := Scalar.indexCast v645
  let c64_304 : Index := 64#32
  ![v676.toNat, 64]
def k0_off945 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v678 : Index := Scalar.indexCast v647
  let c64_305 : Index := 64#32
  ![v678.toNat, 64]
def k0_off946 (v645 : BitVec 32) : Fin 2 → Nat :=
  let v683 : Index := Scalar.indexCast v645
  let c80_307 : Index := 80#32
  ![v683.toNat, 80]
def k0_off947 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v685 : Index := Scalar.indexCast v647
  let c80_308 : Index := 80#32
  ![v685.toNat, 80]
def k0_off948 (v645 : BitVec 32) : Fin 2 → Nat :=
  let v690 : Index := Scalar.indexCast v645
  let c96_310 : Index := 96#32
  ![v690.toNat, 96]
def k0_off949 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v692 : Index := Scalar.indexCast v647
  let c96_311 : Index := 96#32
  ![v692.toNat, 96]
def k0_off950 (v645 : BitVec 32) : Fin 2 → Nat :=
  let v697 : Index := Scalar.indexCast v645
  let c112_313 : Index := 112#32
  ![v697.toNat, 112]

def k0_chk61 (v19 : BitVec 32) (k0_t9 : Fin (k0_t9_loop v19).trips) (v645 : BitVec 32) : Prop :=
  (∀ (k0_h10 : k0_cond10 v19 k0_t9 = 1#1), ∀ a, (k0_off936 v645) a + S1x16.size a ≤ S321x128.size a) ∧
  (∀ (k0_h10 : k0_cond10 v19 k0_t9 = 1#1), ∀ a, (k0_off938 v645) a + S1x16.size a ≤ S321x128.size a) ∧
  (∀ (k0_h10 : k0_cond10 v19 k0_t9 = 1#1), ∀ a, (k0_off940 v645) a + S1x16.size a ≤ S321x128.size a) ∧
  (∀ (k0_h10 : k0_cond10 v19 k0_t9 = 1#1), ∀ a, (k0_off942 v645) a + S1x16.size a ≤ S321x128.size a) ∧
  (∀ (k0_h10 : k0_cond10 v19 k0_t9 = 1#1), ∀ a, (k0_off944 v645) a + S1x16.size a ≤ S321x128.size a) ∧
  (∀ (k0_h10 : k0_cond10 v19 k0_t9 = 1#1), ∀ a, (k0_off946 v645) a + S1x16.size a ≤ S321x128.size a) ∧
  (∀ (k0_h10 : k0_cond10 v19 k0_t9 = 1#1), ∀ a, (k0_off948 v645) a + S1x16.size a ≤ S321x128.size a) ∧
  (∀ (k0_h10 : k0_cond10 v19 k0_t9 = 1#1), ∀ a, (k0_off950 v645) a + S1x16.size a ≤ S321x128.size a)
theorem k0_off936_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off936 v645) a + S1x16.size a ≤ S321x128.size a := fun v19 k0_t9 v645 k0_hw61 k0_h10 => k0_hw61.1 k0_h10
theorem k0_off938_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off938 v645) a + S1x16.size a ≤ S321x128.size a := fun v19 k0_t9 v645 k0_hw61 k0_h10 => k0_hw61.2.1 k0_h10
theorem k0_off940_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off940 v645) a + S1x16.size a ≤ S321x128.size a := fun v19 k0_t9 v645 k0_hw61 k0_h10 => k0_hw61.2.2.1 k0_h10
theorem k0_off942_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off942 v645) a + S1x16.size a ≤ S321x128.size a := fun v19 k0_t9 v645 k0_hw61 k0_h10 => k0_hw61.2.2.2.1 k0_h10
theorem k0_off944_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off944 v645) a + S1x16.size a ≤ S321x128.size a := fun v19 k0_t9 v645 k0_hw61 k0_h10 => k0_hw61.2.2.2.2.1 k0_h10
theorem k0_off946_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off946 v645) a + S1x16.size a ≤ S321x128.size a := fun v19 k0_t9 v645 k0_hw61 k0_h10 => k0_hw61.2.2.2.2.2.1 k0_h10
theorem k0_off948_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off948 v645) a + S1x16.size a ≤ S321x128.size a := fun v19 k0_t9 v645 k0_hw61 k0_h10 => k0_hw61.2.2.2.2.2.2.1 k0_h10
theorem k0_off950_inb : ∀ (v19 : BitVec 32) (k0_t9 : Fin (k0_t9_loop v19).trips) (v645 : BitVec 32) (k0_hw61 : k0_chk61 v19 k0_t9 v645), ∀ (k0_h10 : k0_cond10 v19 k0_t9 = 1#1), ∀ a, (k0_off950 v645) a + S1x16.size a ≤ S321x128.size a := fun v19 k0_t9 v645 k0_hw61 k0_h10 => k0_hw61.2.2.2.2.2.2.2 k0_h10

def k0_off951 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_291 : BitVec 32 := 16#32
  let v646 : BitVec 32 := Scalar.muli arg25 c16_i32_291
  let c9_i32 : BitVec 32 := 9#32
  let v647 : BitVec 32 := Scalar.addi v646 c9_i32
  let v699 : Index := Scalar.indexCast v647
  let c112_314 : Index := 112#32
  ![v699.toNat, 112]
def k0_off952 (v705 : BitVec 32) : Fin 2 → Nat :=
  let v708 : Index := Scalar.indexCast v705
  let c0_317 : Index := 0#32
  ![v708.toNat, 0]

def k0_off953 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v710 : Index := Scalar.indexCast v707
  let c0_318 : Index := 0#32
  ![v710.toNat, 0]
def k0_off954 (v705 : BitVec 32) : Fin 2 → Nat :=
  let v715 : Index := Scalar.indexCast v705
  let c16_320 : Index := 16#32
  ![v715.toNat, 16]
def k0_off955 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v717 : Index := Scalar.indexCast v707
  let c16_321 : Index := 16#32
  ![v717.toNat, 16]
def k0_off956 (v705 : BitVec 32) : Fin 2 → Nat :=
  let v722 : Index := Scalar.indexCast v705
  let c32_323 : Index := 32#32
  ![v722.toNat, 32]
def k0_off957 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v724 : Index := Scalar.indexCast v707
  let c32_324 : Index := 32#32
  ![v724.toNat, 32]
def k0_off958 (v705 : BitVec 32) : Fin 2 → Nat :=
  let v729 : Index := Scalar.indexCast v705
  let c48_326 : Index := 48#32
  ![v729.toNat, 48]
def k0_off959 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v731 : Index := Scalar.indexCast v707
  let c48_327 : Index := 48#32
  ![v731.toNat, 48]
def k0_off960 (v705 : BitVec 32) : Fin 2 → Nat :=
  let v736 : Index := Scalar.indexCast v705
  let c64_329 : Index := 64#32
  ![v736.toNat, 64]
def k0_off961 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v738 : Index := Scalar.indexCast v707
  let c64_330 : Index := 64#32
  ![v738.toNat, 64]
def k0_off962 (v705 : BitVec 32) : Fin 2 → Nat :=
  let v743 : Index := Scalar.indexCast v705
  let c80_332 : Index := 80#32
  ![v743.toNat, 80]
def k0_off963 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v745 : Index := Scalar.indexCast v707
  let c80_333 : Index := 80#32
  ![v745.toNat, 80]
def k0_off964 (v705 : BitVec 32) : Fin 2 → Nat :=
  let v750 : Index := Scalar.indexCast v705
  let c96_335 : Index := 96#32
  ![v750.toNat, 96]
def k0_off965 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v752 : Index := Scalar.indexCast v707
  let c96_336 : Index := 96#32
  ![v752.toNat, 96]
def k0_off966 (v705 : BitVec 32) : Fin 2 → Nat :=
  let v757 : Index := Scalar.indexCast v705
  let c112_338 : Index := 112#32
  ![v757.toNat, 112]

def k0_chk62 (v19 : BitVec 32) (k0_t9 : Fin (k0_t9_loop v19).trips) (v705 : BitVec 32) : Prop :=
  (∀ (k0_h10 : k0_cond10 v19 k0_t9 = 1#1), ∀ a, (k0_off952 v705) a + S1x16.size a ≤ S321x128.size a) ∧
  (∀ (k0_h10 : k0_cond10 v19 k0_t9 = 1#1), ∀ a, (k0_off954 v705) a + S1x16.size a ≤ S321x128.size a) ∧
  (∀ (k0_h10 : k0_cond10 v19 k0_t9 = 1#1), ∀ a, (k0_off956 v705) a + S1x16.size a ≤ S321x128.size a) ∧
  (∀ (k0_h10 : k0_cond10 v19 k0_t9 = 1#1), ∀ a, (k0_off958 v705) a + S1x16.size a ≤ S321x128.size a) ∧
  (∀ (k0_h10 : k0_cond10 v19 k0_t9 = 1#1), ∀ a, (k0_off960 v705) a + S1x16.size a ≤ S321x128.size a) ∧
  (∀ (k0_h10 : k0_cond10 v19 k0_t9 = 1#1), ∀ a, (k0_off962 v705) a + S1x16.size a ≤ S321x128.size a) ∧
  (∀ (k0_h10 : k0_cond10 v19 k0_t9 = 1#1), ∀ a, (k0_off964 v705) a + S1x16.size a ≤ S321x128.size a) ∧
  (∀ (k0_h10 : k0_cond10 v19 k0_t9 = 1#1), ∀ a, (k0_off966 v705) a + S1x16.size a ≤ S321x128.size a)
theorem k0_off952_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off952 v705) a + S1x16.size a ≤ S321x128.size a := fun v19 k0_t9 v705 k0_hw62 k0_h10 => k0_hw62.1 k0_h10
theorem k0_off954_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off954 v705) a + S1x16.size a ≤ S321x128.size a := fun v19 k0_t9 v705 k0_hw62 k0_h10 => k0_hw62.2.1 k0_h10
theorem k0_off956_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off956 v705) a + S1x16.size a ≤ S321x128.size a := fun v19 k0_t9 v705 k0_hw62 k0_h10 => k0_hw62.2.2.1 k0_h10
theorem k0_off958_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off958 v705) a + S1x16.size a ≤ S321x128.size a := fun v19 k0_t9 v705 k0_hw62 k0_h10 => k0_hw62.2.2.2.1 k0_h10
theorem k0_off960_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off960 v705) a + S1x16.size a ≤ S321x128.size a := fun v19 k0_t9 v705 k0_hw62 k0_h10 => k0_hw62.2.2.2.2.1 k0_h10
theorem k0_off962_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off962 v705) a + S1x16.size a ≤ S321x128.size a := fun v19 k0_t9 v705 k0_hw62 k0_h10 => k0_hw62.2.2.2.2.2.1 k0_h10
theorem k0_off964_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off964 v705) a + S1x16.size a ≤ S321x128.size a := fun v19 k0_t9 v705 k0_hw62 k0_h10 => k0_hw62.2.2.2.2.2.2.1 k0_h10
theorem k0_off966_inb : ∀ (v19 : BitVec 32) (k0_t9 : Fin (k0_t9_loop v19).trips) (v705 : BitVec 32) (k0_hw62 : k0_chk62 v19 k0_t9 v705), ∀ (k0_h10 : k0_cond10 v19 k0_t9 = 1#1), ∀ a, (k0_off966 v705) a + S1x16.size a ≤ S321x128.size a := fun v19 k0_t9 v705 k0_hw62 k0_h10 => k0_hw62.2.2.2.2.2.2.2 k0_h10

def k0_off967 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_316 : BitVec 32 := 16#32
  let v706 : BitVec 32 := Scalar.muli arg25 c16_i32_316
  let c10_i32 : BitVec 32 := 10#32
  let v707 : BitVec 32 := Scalar.addi v706 c10_i32
  let v759 : Index := Scalar.indexCast v707
  let c112_339 : Index := 112#32
  ![v759.toNat, 112]
def k0_off968 (v765 : BitVec 32) : Fin 2 → Nat :=
  let v768 : Index := Scalar.indexCast v765
  let c0_342 : Index := 0#32
  ![v768.toNat, 0]

def k0_off969 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v770 : Index := Scalar.indexCast v767
  let c0_343 : Index := 0#32
  ![v770.toNat, 0]
def k0_off970 (v765 : BitVec 32) : Fin 2 → Nat :=
  let v775 : Index := Scalar.indexCast v765
  let c16_345 : Index := 16#32
  ![v775.toNat, 16]
def k0_off971 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v777 : Index := Scalar.indexCast v767
  let c16_346 : Index := 16#32
  ![v777.toNat, 16]
def k0_off972 (v765 : BitVec 32) : Fin 2 → Nat :=
  let v782 : Index := Scalar.indexCast v765
  let c32_348 : Index := 32#32
  ![v782.toNat, 32]
def k0_off973 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v784 : Index := Scalar.indexCast v767
  let c32_349 : Index := 32#32
  ![v784.toNat, 32]
def k0_off974 (v765 : BitVec 32) : Fin 2 → Nat :=
  let v789 : Index := Scalar.indexCast v765
  let c48_351 : Index := 48#32
  ![v789.toNat, 48]
def k0_off975 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v791 : Index := Scalar.indexCast v767
  let c48_352 : Index := 48#32
  ![v791.toNat, 48]
def k0_off976 (v765 : BitVec 32) : Fin 2 → Nat :=
  let v796 : Index := Scalar.indexCast v765
  let c64_354 : Index := 64#32
  ![v796.toNat, 64]
def k0_off977 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v798 : Index := Scalar.indexCast v767
  let c64_355 : Index := 64#32
  ![v798.toNat, 64]
def k0_off978 (v765 : BitVec 32) : Fin 2 → Nat :=
  let v803 : Index := Scalar.indexCast v765
  let c80_357 : Index := 80#32
  ![v803.toNat, 80]
def k0_off979 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v805 : Index := Scalar.indexCast v767
  let c80_358 : Index := 80#32
  ![v805.toNat, 80]
def k0_off980 (v765 : BitVec 32) : Fin 2 → Nat :=
  let v810 : Index := Scalar.indexCast v765
  let c96_360 : Index := 96#32
  ![v810.toNat, 96]
def k0_off981 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v812 : Index := Scalar.indexCast v767
  let c96_361 : Index := 96#32
  ![v812.toNat, 96]
def k0_off982 (v765 : BitVec 32) : Fin 2 → Nat :=
  let v817 : Index := Scalar.indexCast v765
  let c112_363 : Index := 112#32
  ![v817.toNat, 112]

def k0_chk63 (v19 : BitVec 32) (k0_t9 : Fin (k0_t9_loop v19).trips) (v765 : BitVec 32) : Prop :=
  (∀ (k0_h10 : k0_cond10 v19 k0_t9 = 1#1), ∀ a, (k0_off968 v765) a + S1x16.size a ≤ S321x128.size a) ∧
  (∀ (k0_h10 : k0_cond10 v19 k0_t9 = 1#1), ∀ a, (k0_off970 v765) a + S1x16.size a ≤ S321x128.size a) ∧
  (∀ (k0_h10 : k0_cond10 v19 k0_t9 = 1#1), ∀ a, (k0_off972 v765) a + S1x16.size a ≤ S321x128.size a) ∧
  (∀ (k0_h10 : k0_cond10 v19 k0_t9 = 1#1), ∀ a, (k0_off974 v765) a + S1x16.size a ≤ S321x128.size a) ∧
  (∀ (k0_h10 : k0_cond10 v19 k0_t9 = 1#1), ∀ a, (k0_off976 v765) a + S1x16.size a ≤ S321x128.size a) ∧
  (∀ (k0_h10 : k0_cond10 v19 k0_t9 = 1#1), ∀ a, (k0_off978 v765) a + S1x16.size a ≤ S321x128.size a) ∧
  (∀ (k0_h10 : k0_cond10 v19 k0_t9 = 1#1), ∀ a, (k0_off980 v765) a + S1x16.size a ≤ S321x128.size a) ∧
  (∀ (k0_h10 : k0_cond10 v19 k0_t9 = 1#1), ∀ a, (k0_off982 v765) a + S1x16.size a ≤ S321x128.size a)
theorem k0_off968_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off968 v765) a + S1x16.size a ≤ S321x128.size a := fun v19 k0_t9 v765 k0_hw63 k0_h10 => k0_hw63.1 k0_h10
theorem k0_off970_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off970 v765) a + S1x16.size a ≤ S321x128.size a := fun v19 k0_t9 v765 k0_hw63 k0_h10 => k0_hw63.2.1 k0_h10
theorem k0_off972_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off972 v765) a + S1x16.size a ≤ S321x128.size a := fun v19 k0_t9 v765 k0_hw63 k0_h10 => k0_hw63.2.2.1 k0_h10
theorem k0_off974_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off974 v765) a + S1x16.size a ≤ S321x128.size a := fun v19 k0_t9 v765 k0_hw63 k0_h10 => k0_hw63.2.2.2.1 k0_h10
theorem k0_off976_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off976 v765) a + S1x16.size a ≤ S321x128.size a := fun v19 k0_t9 v765 k0_hw63 k0_h10 => k0_hw63.2.2.2.2.1 k0_h10
theorem k0_off978_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off978 v765) a + S1x16.size a ≤ S321x128.size a := fun v19 k0_t9 v765 k0_hw63 k0_h10 => k0_hw63.2.2.2.2.2.1 k0_h10
theorem k0_off980_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off980 v765) a + S1x16.size a ≤ S321x128.size a := fun v19 k0_t9 v765 k0_hw63 k0_h10 => k0_hw63.2.2.2.2.2.2.1 k0_h10
theorem k0_off982_inb : ∀ (v19 : BitVec 32) (k0_t9 : Fin (k0_t9_loop v19).trips) (v765 : BitVec 32) (k0_hw63 : k0_chk63 v19 k0_t9 v765), ∀ (k0_h10 : k0_cond10 v19 k0_t9 = 1#1), ∀ a, (k0_off982 v765) a + S1x16.size a ≤ S321x128.size a := fun v19 k0_t9 v765 k0_hw63 k0_h10 => k0_hw63.2.2.2.2.2.2.2 k0_h10

def k0_off983 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_341 : BitVec 32 := 16#32
  let v766 : BitVec 32 := Scalar.muli arg25 c16_i32_341
  let c11_i32 : BitVec 32 := 11#32
  let v767 : BitVec 32 := Scalar.addi v766 c11_i32
  let v819 : Index := Scalar.indexCast v767
  let c112_364 : Index := 112#32
  ![v819.toNat, 112]
def k0_off984 (v825 : BitVec 32) : Fin 2 → Nat :=
  let v828 : Index := Scalar.indexCast v825
  let c0_367 : Index := 0#32
  ![v828.toNat, 0]

def k0_off985 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v830 : Index := Scalar.indexCast v827
  let c0_368 : Index := 0#32
  ![v830.toNat, 0]
def k0_off986 (v825 : BitVec 32) : Fin 2 → Nat :=
  let v835 : Index := Scalar.indexCast v825
  let c16_370 : Index := 16#32
  ![v835.toNat, 16]
def k0_off987 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v837 : Index := Scalar.indexCast v827
  let c16_371 : Index := 16#32
  ![v837.toNat, 16]
def k0_off988 (v825 : BitVec 32) : Fin 2 → Nat :=
  let v842 : Index := Scalar.indexCast v825
  let c32_373 : Index := 32#32
  ![v842.toNat, 32]
def k0_off989 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v844 : Index := Scalar.indexCast v827
  let c32_374 : Index := 32#32
  ![v844.toNat, 32]
def k0_off990 (v825 : BitVec 32) : Fin 2 → Nat :=
  let v849 : Index := Scalar.indexCast v825
  let c48_376 : Index := 48#32
  ![v849.toNat, 48]
def k0_off991 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v851 : Index := Scalar.indexCast v827
  let c48_377 : Index := 48#32
  ![v851.toNat, 48]
def k0_off992 (v825 : BitVec 32) : Fin 2 → Nat :=
  let v856 : Index := Scalar.indexCast v825
  let c64_379 : Index := 64#32
  ![v856.toNat, 64]
def k0_off993 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v858 : Index := Scalar.indexCast v827
  let c64_380 : Index := 64#32
  ![v858.toNat, 64]
def k0_off994 (v825 : BitVec 32) : Fin 2 → Nat :=
  let v863 : Index := Scalar.indexCast v825
  let c80_382 : Index := 80#32
  ![v863.toNat, 80]
def k0_off995 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v865 : Index := Scalar.indexCast v827
  let c80_383 : Index := 80#32
  ![v865.toNat, 80]
def k0_off996 (v825 : BitVec 32) : Fin 2 → Nat :=
  let v870 : Index := Scalar.indexCast v825
  let c96_385 : Index := 96#32
  ![v870.toNat, 96]
def k0_off997 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v872 : Index := Scalar.indexCast v827
  let c96_386 : Index := 96#32
  ![v872.toNat, 96]
def k0_off998 (v825 : BitVec 32) : Fin 2 → Nat :=
  let v877 : Index := Scalar.indexCast v825
  let c112_388 : Index := 112#32
  ![v877.toNat, 112]

def k0_chk64 (v19 : BitVec 32) (k0_t9 : Fin (k0_t9_loop v19).trips) (v825 : BitVec 32) : Prop :=
  (∀ (k0_h10 : k0_cond10 v19 k0_t9 = 1#1), ∀ a, (k0_off984 v825) a + S1x16.size a ≤ S321x128.size a) ∧
  (∀ (k0_h10 : k0_cond10 v19 k0_t9 = 1#1), ∀ a, (k0_off986 v825) a + S1x16.size a ≤ S321x128.size a) ∧
  (∀ (k0_h10 : k0_cond10 v19 k0_t9 = 1#1), ∀ a, (k0_off988 v825) a + S1x16.size a ≤ S321x128.size a) ∧
  (∀ (k0_h10 : k0_cond10 v19 k0_t9 = 1#1), ∀ a, (k0_off990 v825) a + S1x16.size a ≤ S321x128.size a) ∧
  (∀ (k0_h10 : k0_cond10 v19 k0_t9 = 1#1), ∀ a, (k0_off992 v825) a + S1x16.size a ≤ S321x128.size a) ∧
  (∀ (k0_h10 : k0_cond10 v19 k0_t9 = 1#1), ∀ a, (k0_off994 v825) a + S1x16.size a ≤ S321x128.size a) ∧
  (∀ (k0_h10 : k0_cond10 v19 k0_t9 = 1#1), ∀ a, (k0_off996 v825) a + S1x16.size a ≤ S321x128.size a) ∧
  (∀ (k0_h10 : k0_cond10 v19 k0_t9 = 1#1), ∀ a, (k0_off998 v825) a + S1x16.size a ≤ S321x128.size a)
theorem k0_off984_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off984 v825) a + S1x16.size a ≤ S321x128.size a := fun v19 k0_t9 v825 k0_hw64 k0_h10 => k0_hw64.1 k0_h10
theorem k0_off986_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off986 v825) a + S1x16.size a ≤ S321x128.size a := fun v19 k0_t9 v825 k0_hw64 k0_h10 => k0_hw64.2.1 k0_h10
theorem k0_off988_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off988 v825) a + S1x16.size a ≤ S321x128.size a := fun v19 k0_t9 v825 k0_hw64 k0_h10 => k0_hw64.2.2.1 k0_h10
theorem k0_off990_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off990 v825) a + S1x16.size a ≤ S321x128.size a := fun v19 k0_t9 v825 k0_hw64 k0_h10 => k0_hw64.2.2.2.1 k0_h10
theorem k0_off992_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off992 v825) a + S1x16.size a ≤ S321x128.size a := fun v19 k0_t9 v825 k0_hw64 k0_h10 => k0_hw64.2.2.2.2.1 k0_h10
theorem k0_off994_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off994 v825) a + S1x16.size a ≤ S321x128.size a := fun v19 k0_t9 v825 k0_hw64 k0_h10 => k0_hw64.2.2.2.2.2.1 k0_h10
theorem k0_off996_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off996 v825) a + S1x16.size a ≤ S321x128.size a := fun v19 k0_t9 v825 k0_hw64 k0_h10 => k0_hw64.2.2.2.2.2.2.1 k0_h10
theorem k0_off998_inb : ∀ (v19 : BitVec 32) (k0_t9 : Fin (k0_t9_loop v19).trips) (v825 : BitVec 32) (k0_hw64 : k0_chk64 v19 k0_t9 v825), ∀ (k0_h10 : k0_cond10 v19 k0_t9 = 1#1), ∀ a, (k0_off998 v825) a + S1x16.size a ≤ S321x128.size a := fun v19 k0_t9 v825 k0_hw64 k0_h10 => k0_hw64.2.2.2.2.2.2.2 k0_h10

def k0_off999 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_366 : BitVec 32 := 16#32
  let v826 : BitVec 32 := Scalar.muli arg25 c16_i32_366
  let c12_i32 : BitVec 32 := 12#32
  let v827 : BitVec 32 := Scalar.addi v826 c12_i32
  let v879 : Index := Scalar.indexCast v827
  let c112_389 : Index := 112#32
  ![v879.toNat, 112]
def k0_off1000 (v885 : BitVec 32) : Fin 2 → Nat :=
  let v888 : Index := Scalar.indexCast v885
  let c0_392 : Index := 0#32
  ![v888.toNat, 0]

def k0_off1001 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v890 : Index := Scalar.indexCast v887
  let c0_393 : Index := 0#32
  ![v890.toNat, 0]
def k0_off1002 (v885 : BitVec 32) : Fin 2 → Nat :=
  let v895 : Index := Scalar.indexCast v885
  let c16_395 : Index := 16#32
  ![v895.toNat, 16]
def k0_off1003 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v897 : Index := Scalar.indexCast v887
  let c16_396 : Index := 16#32
  ![v897.toNat, 16]
def k0_off1004 (v885 : BitVec 32) : Fin 2 → Nat :=
  let v902 : Index := Scalar.indexCast v885
  let c32_398 : Index := 32#32
  ![v902.toNat, 32]
def k0_off1005 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v904 : Index := Scalar.indexCast v887
  let c32_399 : Index := 32#32
  ![v904.toNat, 32]
def k0_off1006 (v885 : BitVec 32) : Fin 2 → Nat :=
  let v909 : Index := Scalar.indexCast v885
  let c48_401 : Index := 48#32
  ![v909.toNat, 48]
def k0_off1007 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v911 : Index := Scalar.indexCast v887
  let c48_402 : Index := 48#32
  ![v911.toNat, 48]
def k0_off1008 (v885 : BitVec 32) : Fin 2 → Nat :=
  let v916 : Index := Scalar.indexCast v885
  let c64_404 : Index := 64#32
  ![v916.toNat, 64]
def k0_off1009 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v918 : Index := Scalar.indexCast v887
  let c64_405 : Index := 64#32
  ![v918.toNat, 64]
def k0_off1010 (v885 : BitVec 32) : Fin 2 → Nat :=
  let v923 : Index := Scalar.indexCast v885
  let c80_407 : Index := 80#32
  ![v923.toNat, 80]
def k0_off1011 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v925 : Index := Scalar.indexCast v887
  let c80_408 : Index := 80#32
  ![v925.toNat, 80]
def k0_off1012 (v885 : BitVec 32) : Fin 2 → Nat :=
  let v930 : Index := Scalar.indexCast v885
  let c96_410 : Index := 96#32
  ![v930.toNat, 96]
def k0_off1013 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v932 : Index := Scalar.indexCast v887
  let c96_411 : Index := 96#32
  ![v932.toNat, 96]
def k0_off1014 (v885 : BitVec 32) : Fin 2 → Nat :=
  let v937 : Index := Scalar.indexCast v885
  let c112_413 : Index := 112#32
  ![v937.toNat, 112]

def k0_chk65 (v19 : BitVec 32) (k0_t9 : Fin (k0_t9_loop v19).trips) (v885 : BitVec 32) : Prop :=
  (∀ (k0_h10 : k0_cond10 v19 k0_t9 = 1#1), ∀ a, (k0_off1000 v885) a + S1x16.size a ≤ S321x128.size a) ∧
  (∀ (k0_h10 : k0_cond10 v19 k0_t9 = 1#1), ∀ a, (k0_off1002 v885) a + S1x16.size a ≤ S321x128.size a) ∧
  (∀ (k0_h10 : k0_cond10 v19 k0_t9 = 1#1), ∀ a, (k0_off1004 v885) a + S1x16.size a ≤ S321x128.size a) ∧
  (∀ (k0_h10 : k0_cond10 v19 k0_t9 = 1#1), ∀ a, (k0_off1006 v885) a + S1x16.size a ≤ S321x128.size a) ∧
  (∀ (k0_h10 : k0_cond10 v19 k0_t9 = 1#1), ∀ a, (k0_off1008 v885) a + S1x16.size a ≤ S321x128.size a) ∧
  (∀ (k0_h10 : k0_cond10 v19 k0_t9 = 1#1), ∀ a, (k0_off1010 v885) a + S1x16.size a ≤ S321x128.size a) ∧
  (∀ (k0_h10 : k0_cond10 v19 k0_t9 = 1#1), ∀ a, (k0_off1012 v885) a + S1x16.size a ≤ S321x128.size a) ∧
  (∀ (k0_h10 : k0_cond10 v19 k0_t9 = 1#1), ∀ a, (k0_off1014 v885) a + S1x16.size a ≤ S321x128.size a)
theorem k0_off1000_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1000 v885) a + S1x16.size a ≤ S321x128.size a := fun v19 k0_t9 v885 k0_hw65 k0_h10 => k0_hw65.1 k0_h10
theorem k0_off1002_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1002 v885) a + S1x16.size a ≤ S321x128.size a := fun v19 k0_t9 v885 k0_hw65 k0_h10 => k0_hw65.2.1 k0_h10
theorem k0_off1004_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1004 v885) a + S1x16.size a ≤ S321x128.size a := fun v19 k0_t9 v885 k0_hw65 k0_h10 => k0_hw65.2.2.1 k0_h10
theorem k0_off1006_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1006 v885) a + S1x16.size a ≤ S321x128.size a := fun v19 k0_t9 v885 k0_hw65 k0_h10 => k0_hw65.2.2.2.1 k0_h10
theorem k0_off1008_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1008 v885) a + S1x16.size a ≤ S321x128.size a := fun v19 k0_t9 v885 k0_hw65 k0_h10 => k0_hw65.2.2.2.2.1 k0_h10
theorem k0_off1010_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1010 v885) a + S1x16.size a ≤ S321x128.size a := fun v19 k0_t9 v885 k0_hw65 k0_h10 => k0_hw65.2.2.2.2.2.1 k0_h10
theorem k0_off1012_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1012 v885) a + S1x16.size a ≤ S321x128.size a := fun v19 k0_t9 v885 k0_hw65 k0_h10 => k0_hw65.2.2.2.2.2.2.1 k0_h10
theorem k0_off1014_inb : ∀ (v19 : BitVec 32) (k0_t9 : Fin (k0_t9_loop v19).trips) (v885 : BitVec 32) (k0_hw65 : k0_chk65 v19 k0_t9 v885), ∀ (k0_h10 : k0_cond10 v19 k0_t9 = 1#1), ∀ a, (k0_off1014 v885) a + S1x16.size a ≤ S321x128.size a := fun v19 k0_t9 v885 k0_hw65 k0_h10 => k0_hw65.2.2.2.2.2.2.2 k0_h10

def k0_off1015 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_391 : BitVec 32 := 16#32
  let v886 : BitVec 32 := Scalar.muli arg25 c16_i32_391
  let c13_i32 : BitVec 32 := 13#32
  let v887 : BitVec 32 := Scalar.addi v886 c13_i32
  let v939 : Index := Scalar.indexCast v887
  let c112_414 : Index := 112#32
  ![v939.toNat, 112]
def k0_off1016 (v945 : BitVec 32) : Fin 2 → Nat :=
  let v948 : Index := Scalar.indexCast v945
  let c0_417 : Index := 0#32
  ![v948.toNat, 0]

def k0_off1017 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v950 : Index := Scalar.indexCast v947
  let c0_418 : Index := 0#32
  ![v950.toNat, 0]
def k0_off1018 (v945 : BitVec 32) : Fin 2 → Nat :=
  let v955 : Index := Scalar.indexCast v945
  let c16_420 : Index := 16#32
  ![v955.toNat, 16]
def k0_off1019 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v957 : Index := Scalar.indexCast v947
  let c16_421 : Index := 16#32
  ![v957.toNat, 16]
def k0_off1020 (v945 : BitVec 32) : Fin 2 → Nat :=
  let v962 : Index := Scalar.indexCast v945
  let c32_423 : Index := 32#32
  ![v962.toNat, 32]
def k0_off1021 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v964 : Index := Scalar.indexCast v947
  let c32_424 : Index := 32#32
  ![v964.toNat, 32]
def k0_off1022 (v945 : BitVec 32) : Fin 2 → Nat :=
  let v969 : Index := Scalar.indexCast v945
  let c48_426 : Index := 48#32
  ![v969.toNat, 48]
def k0_off1023 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v971 : Index := Scalar.indexCast v947
  let c48_427 : Index := 48#32
  ![v971.toNat, 48]
def k0_off1024 (v945 : BitVec 32) : Fin 2 → Nat :=
  let v976 : Index := Scalar.indexCast v945
  let c64_429 : Index := 64#32
  ![v976.toNat, 64]
def k0_off1025 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v978 : Index := Scalar.indexCast v947
  let c64_430 : Index := 64#32
  ![v978.toNat, 64]
def k0_off1026 (v945 : BitVec 32) : Fin 2 → Nat :=
  let v983 : Index := Scalar.indexCast v945
  let c80_432 : Index := 80#32
  ![v983.toNat, 80]
def k0_off1027 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v985 : Index := Scalar.indexCast v947
  let c80_433 : Index := 80#32
  ![v985.toNat, 80]
def k0_off1028 (v945 : BitVec 32) : Fin 2 → Nat :=
  let v990 : Index := Scalar.indexCast v945
  let c96_435 : Index := 96#32
  ![v990.toNat, 96]
def k0_off1029 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v992 : Index := Scalar.indexCast v947
  let c96_436 : Index := 96#32
  ![v992.toNat, 96]
def k0_off1030 (v945 : BitVec 32) : Fin 2 → Nat :=
  let v997 : Index := Scalar.indexCast v945
  let c112_438 : Index := 112#32
  ![v997.toNat, 112]

def k0_chk66 (v19 : BitVec 32) (k0_t9 : Fin (k0_t9_loop v19).trips) (v945 : BitVec 32) : Prop :=
  (∀ (k0_h10 : k0_cond10 v19 k0_t9 = 1#1), ∀ a, (k0_off1016 v945) a + S1x16.size a ≤ S321x128.size a) ∧
  (∀ (k0_h10 : k0_cond10 v19 k0_t9 = 1#1), ∀ a, (k0_off1018 v945) a + S1x16.size a ≤ S321x128.size a) ∧
  (∀ (k0_h10 : k0_cond10 v19 k0_t9 = 1#1), ∀ a, (k0_off1020 v945) a + S1x16.size a ≤ S321x128.size a) ∧
  (∀ (k0_h10 : k0_cond10 v19 k0_t9 = 1#1), ∀ a, (k0_off1022 v945) a + S1x16.size a ≤ S321x128.size a) ∧
  (∀ (k0_h10 : k0_cond10 v19 k0_t9 = 1#1), ∀ a, (k0_off1024 v945) a + S1x16.size a ≤ S321x128.size a) ∧
  (∀ (k0_h10 : k0_cond10 v19 k0_t9 = 1#1), ∀ a, (k0_off1026 v945) a + S1x16.size a ≤ S321x128.size a) ∧
  (∀ (k0_h10 : k0_cond10 v19 k0_t9 = 1#1), ∀ a, (k0_off1028 v945) a + S1x16.size a ≤ S321x128.size a) ∧
  (∀ (k0_h10 : k0_cond10 v19 k0_t9 = 1#1), ∀ a, (k0_off1030 v945) a + S1x16.size a ≤ S321x128.size a)
theorem k0_off1016_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1016 v945) a + S1x16.size a ≤ S321x128.size a := fun v19 k0_t9 v945 k0_hw66 k0_h10 => k0_hw66.1 k0_h10
theorem k0_off1018_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1018 v945) a + S1x16.size a ≤ S321x128.size a := fun v19 k0_t9 v945 k0_hw66 k0_h10 => k0_hw66.2.1 k0_h10
theorem k0_off1020_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1020 v945) a + S1x16.size a ≤ S321x128.size a := fun v19 k0_t9 v945 k0_hw66 k0_h10 => k0_hw66.2.2.1 k0_h10
theorem k0_off1022_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1022 v945) a + S1x16.size a ≤ S321x128.size a := fun v19 k0_t9 v945 k0_hw66 k0_h10 => k0_hw66.2.2.2.1 k0_h10
theorem k0_off1024_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1024 v945) a + S1x16.size a ≤ S321x128.size a := fun v19 k0_t9 v945 k0_hw66 k0_h10 => k0_hw66.2.2.2.2.1 k0_h10
theorem k0_off1026_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1026 v945) a + S1x16.size a ≤ S321x128.size a := fun v19 k0_t9 v945 k0_hw66 k0_h10 => k0_hw66.2.2.2.2.2.1 k0_h10
theorem k0_off1028_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1028 v945) a + S1x16.size a ≤ S321x128.size a := fun v19 k0_t9 v945 k0_hw66 k0_h10 => k0_hw66.2.2.2.2.2.2.1 k0_h10
theorem k0_off1030_inb : ∀ (v19 : BitVec 32) (k0_t9 : Fin (k0_t9_loop v19).trips) (v945 : BitVec 32) (k0_hw66 : k0_chk66 v19 k0_t9 v945), ∀ (k0_h10 : k0_cond10 v19 k0_t9 = 1#1), ∀ a, (k0_off1030 v945) a + S1x16.size a ≤ S321x128.size a := fun v19 k0_t9 v945 k0_hw66 k0_h10 => k0_hw66.2.2.2.2.2.2.2 k0_h10

def k0_off1031 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_416 : BitVec 32 := 16#32
  let v946 : BitVec 32 := Scalar.muli arg25 c16_i32_416
  let c14_i32 : BitVec 32 := 14#32
  let v947 : BitVec 32 := Scalar.addi v946 c14_i32
  let v999 : Index := Scalar.indexCast v947
  let c112_439 : Index := 112#32
  ![v999.toNat, 112]
def k0_off1032 (v1005 : BitVec 32) : Fin 2 → Nat :=
  let v1008 : Index := Scalar.indexCast v1005
  let c0_442 : Index := 0#32
  ![v1008.toNat, 0]

def k0_off1033 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1010 : Index := Scalar.indexCast v1007
  let c0_443 : Index := 0#32
  ![v1010.toNat, 0]
def k0_off1034 (v1005 : BitVec 32) : Fin 2 → Nat :=
  let v1015 : Index := Scalar.indexCast v1005
  let c16_445 : Index := 16#32
  ![v1015.toNat, 16]
def k0_off1035 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1017 : Index := Scalar.indexCast v1007
  let c16_446 : Index := 16#32
  ![v1017.toNat, 16]
def k0_off1036 (v1005 : BitVec 32) : Fin 2 → Nat :=
  let v1022 : Index := Scalar.indexCast v1005
  let c32_448 : Index := 32#32
  ![v1022.toNat, 32]
def k0_off1037 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1024 : Index := Scalar.indexCast v1007
  let c32_449 : Index := 32#32
  ![v1024.toNat, 32]
def k0_off1038 (v1005 : BitVec 32) : Fin 2 → Nat :=
  let v1029 : Index := Scalar.indexCast v1005
  let c48_451 : Index := 48#32
  ![v1029.toNat, 48]
def k0_off1039 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1031 : Index := Scalar.indexCast v1007
  let c48_452 : Index := 48#32
  ![v1031.toNat, 48]
def k0_off1040 (v1005 : BitVec 32) : Fin 2 → Nat :=
  let v1036 : Index := Scalar.indexCast v1005
  let c64_454 : Index := 64#32
  ![v1036.toNat, 64]
def k0_off1041 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1038 : Index := Scalar.indexCast v1007
  let c64_455 : Index := 64#32
  ![v1038.toNat, 64]
def k0_off1042 (v1005 : BitVec 32) : Fin 2 → Nat :=
  let v1043 : Index := Scalar.indexCast v1005
  let c80_457 : Index := 80#32
  ![v1043.toNat, 80]
def k0_off1043 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1045 : Index := Scalar.indexCast v1007
  let c80_458 : Index := 80#32
  ![v1045.toNat, 80]
def k0_off1044 (v1005 : BitVec 32) : Fin 2 → Nat :=
  let v1050 : Index := Scalar.indexCast v1005
  let c96_460 : Index := 96#32
  ![v1050.toNat, 96]
def k0_off1045 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1052 : Index := Scalar.indexCast v1007
  let c96_461 : Index := 96#32
  ![v1052.toNat, 96]
def k0_off1046 (v1005 : BitVec 32) : Fin 2 → Nat :=
  let v1057 : Index := Scalar.indexCast v1005
  let c112_463 : Index := 112#32
  ![v1057.toNat, 112]

def k0_chk67 (v19 : BitVec 32) (k0_t9 : Fin (k0_t9_loop v19).trips) (v1005 : BitVec 32) : Prop :=
  (∀ (k0_h10 : k0_cond10 v19 k0_t9 = 1#1), ∀ a, (k0_off1032 v1005) a + S1x16.size a ≤ S321x128.size a) ∧
  (∀ (k0_h10 : k0_cond10 v19 k0_t9 = 1#1), ∀ a, (k0_off1034 v1005) a + S1x16.size a ≤ S321x128.size a) ∧
  (∀ (k0_h10 : k0_cond10 v19 k0_t9 = 1#1), ∀ a, (k0_off1036 v1005) a + S1x16.size a ≤ S321x128.size a) ∧
  (∀ (k0_h10 : k0_cond10 v19 k0_t9 = 1#1), ∀ a, (k0_off1038 v1005) a + S1x16.size a ≤ S321x128.size a) ∧
  (∀ (k0_h10 : k0_cond10 v19 k0_t9 = 1#1), ∀ a, (k0_off1040 v1005) a + S1x16.size a ≤ S321x128.size a) ∧
  (∀ (k0_h10 : k0_cond10 v19 k0_t9 = 1#1), ∀ a, (k0_off1042 v1005) a + S1x16.size a ≤ S321x128.size a) ∧
  (∀ (k0_h10 : k0_cond10 v19 k0_t9 = 1#1), ∀ a, (k0_off1044 v1005) a + S1x16.size a ≤ S321x128.size a) ∧
  (∀ (k0_h10 : k0_cond10 v19 k0_t9 = 1#1), ∀ a, (k0_off1046 v1005) a + S1x16.size a ≤ S321x128.size a)
theorem k0_off1032_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1032 v1005) a + S1x16.size a ≤ S321x128.size a := fun v19 k0_t9 v1005 k0_hw67 k0_h10 => k0_hw67.1 k0_h10
theorem k0_off1034_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1034 v1005) a + S1x16.size a ≤ S321x128.size a := fun v19 k0_t9 v1005 k0_hw67 k0_h10 => k0_hw67.2.1 k0_h10
theorem k0_off1036_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1036 v1005) a + S1x16.size a ≤ S321x128.size a := fun v19 k0_t9 v1005 k0_hw67 k0_h10 => k0_hw67.2.2.1 k0_h10
theorem k0_off1038_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1038 v1005) a + S1x16.size a ≤ S321x128.size a := fun v19 k0_t9 v1005 k0_hw67 k0_h10 => k0_hw67.2.2.2.1 k0_h10
theorem k0_off1040_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1040 v1005) a + S1x16.size a ≤ S321x128.size a := fun v19 k0_t9 v1005 k0_hw67 k0_h10 => k0_hw67.2.2.2.2.1 k0_h10
theorem k0_off1042_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1042 v1005) a + S1x16.size a ≤ S321x128.size a := fun v19 k0_t9 v1005 k0_hw67 k0_h10 => k0_hw67.2.2.2.2.2.1 k0_h10
theorem k0_off1044_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1044 v1005) a + S1x16.size a ≤ S321x128.size a := fun v19 k0_t9 v1005 k0_hw67 k0_h10 => k0_hw67.2.2.2.2.2.2.1 k0_h10
theorem k0_off1046_inb : ∀ (v19 : BitVec 32) (k0_t9 : Fin (k0_t9_loop v19).trips) (v1005 : BitVec 32) (k0_hw67 : k0_chk67 v19 k0_t9 v1005), ∀ (k0_h10 : k0_cond10 v19 k0_t9 = 1#1), ∀ a, (k0_off1046 v1005) a + S1x16.size a ≤ S321x128.size a := fun v19 k0_t9 v1005 k0_hw67 k0_h10 => k0_hw67.2.2.2.2.2.2.2 k0_h10

def k0_off1047 (k0_t11 : Fin k0_t11_loop.trips) : Fin 2 → Nat :=
  let c0_i32_65 : BitVec 32 := 0#32
  let c1_i32_66 : BitVec 32 := 1#32
  let arg25 : BitVec 32 := Scf.iv c0_i32_65 c1_i32_66 k0_t11
  let c16_i32_441 : BitVec 32 := 16#32
  let v1006 : BitVec 32 := Scalar.muli arg25 c16_i32_441
  let c15_i32 : BitVec 32 := 15#32
  let v1007 : BitVec 32 := Scalar.addi v1006 c15_i32
  let v1059 : Index := Scalar.indexCast v1007
  let c112_464 : Index := 112#32
  ![v1059.toNat, 112]
@[reducible] def k0_t12_loop : Scf.Loop 32 :=
  let c0_i32_44 : BitVec 32 := 0#32
  let c320_i32_45 : BitVec 32 := 320#32
  let v73 : BitVec 32 := Scalar.addi c0_i32_44 c320_i32_45
  let c1_i32_46 : BitVec 32 := 1#32
  ⟨c0_i32_44, v73, c1_i32_46⟩
def k0_off1048 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v81 : Index := Scalar.indexCast arg23
  let c0_51 : Index := 0#32
  ![v81.toNat, 0]
def k0_off1049 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v89 : Index := Scalar.indexCast arg23
  let c16 : Index := 16#32
  ![v89.toNat, 16]
def k0_off1050 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v97 : Index := Scalar.indexCast arg23
  let c32 : Index := 32#32
  ![v97.toNat, 32]
def k0_off1051 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v105 : Index := Scalar.indexCast arg23
  let c48 : Index := 48#32
  ![v105.toNat, 48]
def k0_off1052 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v113 : Index := Scalar.indexCast arg23
  let c64 : Index := 64#32
  ![v113.toNat, 64]
def k0_off1053 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v121 : Index := Scalar.indexCast arg23
  let c80 : Index := 80#32
  ![v121.toNat, 80]
def k0_off1054 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v129 : Index := Scalar.indexCast arg23
  let c96 : Index := 96#32
  ![v129.toNat, 96]
def k0_off1055 (k0_t12 : Fin k0_t12_loop.trips) : Fin 2 → Nat :=
  let c0_i32_44 : BitVec 32 := 0#32
  let c1_i32_46 : BitVec 32 := 1#32
  let arg23 : BitVec 32 := Scf.iv c0_i32_44 c1_i32_46 k0_t12
  let v137 : Index := Scalar.indexCast arg23
  let c112 : Index := 112#32
  ![v137.toNat, 112]
def k0_cond12 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v75 : BitVec 1 := Scalar.cmpi .slt v1 c31_i32
  let v76 : BitVec 32 := Scalar.extui v75
  let c0_i32_48 : BitVec 32 := 0#32
  let v77 : BitVec 1 := Scalar.cmpi .ne v76 c0_i32_48
  v77

def k0_off1056 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_53_r3 : BitVec 32 := 0#32
  ![v2.toNat, 0]
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_49 : BitVec 32 := 31#32
  let v78 : BitVec 1 := Scalar.cmpi .eq v1 c31_i32_49
  let v79 : BitVec 32 := Scalar.extui v78
  let c0_i32_50 : BitVec 32 := 0#32
  let v80 : BitVec 1 := Scalar.cmpi .ne v79 c0_i32_50
  v80

def k0_off1057 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_53_r4 : BitVec 32 := 0#32
  ![v2.toNat, 0]
abbrev grid1 : Pipeline.Grid := ⟨2, ![2, 16], ![false, false]⟩

@[reducible] def k1_t1_loop : Scf.Loop 32 :=
  let c0_i32_0 : BitVec 32 := 0#32
  let c321_i32 : BitVec 32 := 321#32
  let v4 : BitVec 32 := Scalar.addi c0_i32_0 c321_i32
  let c1_i32 : BitVec 32 := 1#32
  ⟨c0_i32_0, v4, c1_i32⟩
def k1_off1 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v67 : Index := Scalar.indexCast arg15
  let c0_34 : Index := 0#32
  ![v67.toNat, 0]
def k1_off2 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v69 : Index := Scalar.indexCast arg15
  let c16 : Index := 16#32
  ![v69.toNat, 16]
def k1_off3 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v71 : Index := Scalar.indexCast arg15
  let c32 : Index := 32#32
  ![v71.toNat, 32]
def k1_off4 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v73 : Index := Scalar.indexCast arg15
  let c48 : Index := 48#32
  ![v73.toNat, 48]
def k1_off5 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v75 : Index := Scalar.indexCast arg15
  let c64 : Index := 64#32
  ![v75.toNat, 64]
def k1_off6 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v77 : Index := Scalar.indexCast arg15
  let c80 : Index := 80#32
  ![v77.toNat, 80]
def k1_off7 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v79 : Index := Scalar.indexCast arg15
  let c96 : Index := 96#32
  ![v79.toNat, 96]
def k1_off8 (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let v81 : Index := Scalar.indexCast arg15
  let c112 : Index := 112#32
  ![v81.toNat, 112]
def k1_off9 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v6 : BitVec 32 := Scalar.muli v1 c16384_i32
  ![v6.toNat]
def k1_off10 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 32 := Scalar.muli v1 c16_i32
  ![v8.toNat]
@[reducible] def k1_t2_loop (v11 : BitVec 32) : Scf.Loop 32 :=
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_24 : BitVec 32 := 1#32
  ⟨c0_i32_21, v56, c1_i32_24⟩

def k1_off11 (v11 : BitVec 32) (k1_t2 : Fin (k1_t2_loop v11).trips) : Fin 1 → Nat :=
  let c2_i32_34 : BitVec 32 := 2#32
  let c0_i32_21 : BitVec 32 := 0#32
  let c1_i32_24 : BitVec 32 := 1#32
  let arg15 : BitVec 32 := Scf.iv c0_i32_21 c1_i32_24 k1_t2
  let v67 : BitVec 32 := Scalar.muli c2_i32_34 arg15
  let c0_i32_35 : BitVec 32 := 0#32
  let v68 : BitVec 32 := Scalar.addi v67 c0_i32_35
  let c1_i32_51 : BitVec 32 := 1#32
  let v86 : BitVec 32 := Scalar.addi v68 c1_i32_51
  let c128_i32_52 : BitVec 32 := 128#32
  let v87 : BitVec 32 := Scalar.muli v86 c128_i32_52
  ![v87.toNat]
def k1_cond2 (v11 : BitVec 32) (k1_t2 : Fin (k1_t2_loop v11).trips) : BitVec 1 :=
  let c2_i32_34 : BitVec 32 := 2#32
  let c0_i32_21 : BitVec 32 := 0#32
  let c1_i32_24 : BitVec 32 := 1#32
  let arg15 : BitVec 32 := Scf.iv c0_i32_21 c1_i32_24 k1_t2
  let v67 : BitVec 32 := Scalar.muli c2_i32_34 arg15
  let c0_i32_35 : BitVec 32 := 0#32
  let v68 : BitVec 32 := Scalar.addi v67 c0_i32_35
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let v69 : BitVec 1 := Scalar.cmpi .slt v68 v30
  let v70 : BitVec 32 := Scalar.extui v69
  let c0_i32_36 : BitVec 32 := 0#32
  let v71 : BitVec 1 := Scalar.cmpi .ne v70 c0_i32_36
  v71

def k1_cond3 (v11 : BitVec 32) (k1_t2 : Fin (k1_t2_loop v11).trips) : BitVec 1 :=
  let c2_i32_34 : BitVec 32 := 2#32
  let c0_i32_21 : BitVec 32 := 0#32
  let c1_i32_24 : BitVec 32 := 1#32
  let arg15 : BitVec 32 := Scf.iv c0_i32_21 c1_i32_24 k1_t2
  let v67 : BitVec 32 := Scalar.muli c2_i32_34 arg15
  let c0_i32_35 : BitVec 32 := 0#32
  let v68 : BitVec 32 := Scalar.addi v67 c0_i32_35
  let c1_i32_44 : BitVec 32 := 1#32
  let v79 : BitVec 32 := Scalar.addi v68 c1_i32_44
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let v80 : BitVec 1 := Scalar.cmpi .slt v79 v30
  let v81 : BitVec 32 := Scalar.extui v80
  let c0_i32_45 : BitVec 32 := 0#32
  let v82 : BitVec 1 := Scalar.cmpi .ne v81 c0_i32_45
  v82

@[reducible] def k1_t3_loop : Scf.Loop 32 :=
  let c0_i32_48 : BitVec 32 := 0#32
  let c8_i32 : BitVec 32 := 8#32
  let v84 : BitVec 32 := Scalar.addi c0_i32_48 c8_i32
  let c1_i32_49 : BitVec 32 := 1#32
  ⟨c0_i32_48, v84, c1_i32_49⟩
def k1_off12 (v11 : BitVec 32) (k1_t2 : Fin (k1_t2_loop v11).trips) (k1_t3 : Fin k1_t3_loop.trips) : Fin 1 → Nat :=
  let c2_i32_34 : BitVec 32 := 2#32
  let c0_i32_21 : BitVec 32 := 0#32
  let c1_i32_24 : BitVec 32 := 1#32
  let arg15 : BitVec 32 := Scf.iv c0_i32_21 c1_i32_24 k1_t2
  let v67 : BitVec 32 := Scalar.muli c2_i32_34 arg15
  let c0_i32_35 : BitVec 32 := 0#32
  let v68 : BitVec 32 := Scalar.addi v67 c0_i32_35
  let c128_i32_46 : BitVec 32 := 128#32
  let v83 : BitVec 32 := Scalar.muli v68 c128_i32_46
  let c0_i32_48 : BitVec 32 := 0#32
  let c1_i32_49 : BitVec 32 := 1#32
  let arg17 : BitVec 32 := Scf.iv c0_i32_48 c1_i32_49 k1_t3
  let c16_i32_51 : BitVec 32 := 16#32
  let v86 : BitVec 32 := Scalar.muli arg17 c16_i32_51
  let v87 : BitVec 32 := Scalar.addi v83 v86
  let v88 : Index := Scalar.indexCast v87
  ![v88.toNat]
def k1_off13 (v91 : BitVec 32) : Fin 2 → Nat :=
  let v94 : Index := Scalar.indexCast v91
  let c0_54 : Index := 0#32
  ![v94.toNat, 0]

def k1_off14 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v96 : Index := Scalar.indexCast v93
  let c0_55 : Index := 0#32
  ![v96.toNat, 0]
def k1_off15 (v91 : BitVec 32) : Fin 2 → Nat :=
  let v101 : Index := Scalar.indexCast v91
  let c16 : Index := 16#32
  ![v101.toNat, 16]
def k1_off16 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v103 : Index := Scalar.indexCast v93
  let c16_57 : Index := 16#32
  ![v103.toNat, 16]
def k1_off17 (v91 : BitVec 32) : Fin 2 → Nat :=
  let v108 : Index := Scalar.indexCast v91
  let c32 : Index := 32#32
  ![v108.toNat, 32]
def k1_off18 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v110 : Index := Scalar.indexCast v93
  let c32_59 : Index := 32#32
  ![v110.toNat, 32]
def k1_off19 (v91 : BitVec 32) : Fin 2 → Nat :=
  let v115 : Index := Scalar.indexCast v91
  let c48 : Index := 48#32
  ![v115.toNat, 48]
def k1_off20 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v117 : Index := Scalar.indexCast v93
  let c48_61 : Index := 48#32
  ![v117.toNat, 48]
def k1_off21 (v91 : BitVec 32) : Fin 2 → Nat :=
  let v122 : Index := Scalar.indexCast v91
  let c64 : Index := 64#32
  ![v122.toNat, 64]
def k1_off22 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v124 : Index := Scalar.indexCast v93
  let c64_63 : Index := 64#32
  ![v124.toNat, 64]
def k1_off23 (v91 : BitVec 32) : Fin 2 → Nat :=
  let v129 : Index := Scalar.indexCast v91
  let c80 : Index := 80#32
  ![v129.toNat, 80]
def k1_off24 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v131 : Index := Scalar.indexCast v93
  let c80_65 : Index := 80#32
  ![v131.toNat, 80]
def k1_off25 (v91 : BitVec 32) : Fin 2 → Nat :=
  let v136 : Index := Scalar.indexCast v91
  let c96 : Index := 96#32
  ![v136.toNat, 96]
def k1_off26 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v138 : Index := Scalar.indexCast v93
  let c96_67 : Index := 96#32
  ![v138.toNat, 96]
def k1_off27 (v91 : BitVec 32) : Fin 2 → Nat :=
  let v143 : Index := Scalar.indexCast v91
  let c112 : Index := 112#32
  ![v143.toNat, 112]

def k1_chk2 (v11 : BitVec 32) (k1_t2 : Fin (k1_t2_loop v11).trips) (v91 : BitVec 32) : Prop :=
  (∀ (k1_h2 : k1_cond2 v11 k1_t2 = 1#1), ∀ a, (k1_off13 v91) a + S1x16.size a ≤ S321x128.size a) ∧
  (∀ (k1_h2 : k1_cond2 v11 k1_t2 = 1#1), ∀ a, (k1_off15 v91) a + S1x16.size a ≤ S321x128.size a) ∧
  (∀ (k1_h2 : k1_cond2 v11 k1_t2 = 1#1), ∀ a, (k1_off17 v91) a + S1x16.size a ≤ S321x128.size a) ∧
  (∀ (k1_h2 : k1_cond2 v11 k1_t2 = 1#1), ∀ a, (k1_off19 v91) a + S1x16.size a ≤ S321x128.size a) ∧
  (∀ (k1_h2 : k1_cond2 v11 k1_t2 = 1#1), ∀ a, (k1_off21 v91) a + S1x16.size a ≤ S321x128.size a) ∧
  (∀ (k1_h2 : k1_cond2 v11 k1_t2 = 1#1), ∀ a, (k1_off23 v91) a + S1x16.size a ≤ S321x128.size a) ∧
  (∀ (k1_h2 : k1_cond2 v11 k1_t2 = 1#1), ∀ a, (k1_off25 v91) a + S1x16.size a ≤ S321x128.size a) ∧
  (∀ (k1_h2 : k1_cond2 v11 k1_t2 = 1#1), ∀ a, (k1_off27 v91) a + S1x16.size a ≤ S321x128.size a)
theorem k1_off13_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off13 v91) a + S1x16.size a ≤ S321x128.size a := fun v11 k1_t2 v91 k1_hw2 k1_h2 => k1_hw2.1 k1_h2
theorem k1_off15_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off15 v91) a + S1x16.size a ≤ S321x128.size a := fun v11 k1_t2 v91 k1_hw2 k1_h2 => k1_hw2.2.1 k1_h2
theorem k1_off17_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off17 v91) a + S1x16.size a ≤ S321x128.size a := fun v11 k1_t2 v91 k1_hw2 k1_h2 => k1_hw2.2.2.1 k1_h2
theorem k1_off19_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off19 v91) a + S1x16.size a ≤ S321x128.size a := fun v11 k1_t2 v91 k1_hw2 k1_h2 => k1_hw2.2.2.2.1 k1_h2
theorem k1_off21_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off21 v91) a + S1x16.size a ≤ S321x128.size a := fun v11 k1_t2 v91 k1_hw2 k1_h2 => k1_hw2.2.2.2.2.1 k1_h2
theorem k1_off23_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off23 v91) a + S1x16.size a ≤ S321x128.size a := fun v11 k1_t2 v91 k1_hw2 k1_h2 => k1_hw2.2.2.2.2.2.1 k1_h2
theorem k1_off25_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off25 v91) a + S1x16.size a ≤ S321x128.size a := fun v11 k1_t2 v91 k1_hw2 k1_h2 => k1_hw2.2.2.2.2.2.2.1 k1_h2
theorem k1_off27_inb : ∀ (v11 : BitVec 32) (k1_t2 : Fin (k1_t2_loop v11).trips) (v91 : BitVec 32) (k1_hw2 : k1_chk2 v11 k1_t2 v91), ∀ (k1_h2 : k1_cond2 v11 k1_t2 = 1#1), ∀ a, (k1_off27 v91) a + S1x16.size a ≤ S321x128.size a := fun v11 k1_t2 v91 k1_hw2 k1_h2 => k1_hw2.2.2.2.2.2.2.2 k1_h2

def k1_off28 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_52 : BitVec 32 := 16#32
  let v92 : BitVec 32 := Scalar.muli arg17 c16_i32_52
  let c0_i32_53 : BitVec 32 := 0#32
  let v93 : BitVec 32 := Scalar.addi v92 c0_i32_53
  let v145 : Index := Scalar.indexCast v93
  let c112_69 : Index := 112#32
  ![v145.toNat, 112]
def k1_off29 (v151 : BitVec 32) : Fin 2 → Nat :=
  let v154 : Index := Scalar.indexCast v151
  let c0_73 : Index := 0#32
  ![v154.toNat, 0]

def k1_off30 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v156 : Index := Scalar.indexCast v153
  let c0_74 : Index := 0#32
  ![v156.toNat, 0]
def k1_off31 (v151 : BitVec 32) : Fin 2 → Nat :=
  let v161 : Index := Scalar.indexCast v151
  let c16_76 : Index := 16#32
  ![v161.toNat, 16]
def k1_off32 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v163 : Index := Scalar.indexCast v153
  let c16_77 : Index := 16#32
  ![v163.toNat, 16]
def k1_off33 (v151 : BitVec 32) : Fin 2 → Nat :=
  let v168 : Index := Scalar.indexCast v151
  let c32_79 : Index := 32#32
  ![v168.toNat, 32]
def k1_off34 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v170 : Index := Scalar.indexCast v153
  let c32_80 : Index := 32#32
  ![v170.toNat, 32]
def k1_off35 (v151 : BitVec 32) : Fin 2 → Nat :=
  let v175 : Index := Scalar.indexCast v151
  let c48_82 : Index := 48#32
  ![v175.toNat, 48]
def k1_off36 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v177 : Index := Scalar.indexCast v153
  let c48_83 : Index := 48#32
  ![v177.toNat, 48]
def k1_off37 (v151 : BitVec 32) : Fin 2 → Nat :=
  let v182 : Index := Scalar.indexCast v151
  let c64_85 : Index := 64#32
  ![v182.toNat, 64]
def k1_off38 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v184 : Index := Scalar.indexCast v153
  let c64_86 : Index := 64#32
  ![v184.toNat, 64]
def k1_off39 (v151 : BitVec 32) : Fin 2 → Nat :=
  let v189 : Index := Scalar.indexCast v151
  let c80_88 : Index := 80#32
  ![v189.toNat, 80]
def k1_off40 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v191 : Index := Scalar.indexCast v153
  let c80_89 : Index := 80#32
  ![v191.toNat, 80]
def k1_off41 (v151 : BitVec 32) : Fin 2 → Nat :=
  let v196 : Index := Scalar.indexCast v151
  let c96_91 : Index := 96#32
  ![v196.toNat, 96]
def k1_off42 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v198 : Index := Scalar.indexCast v153
  let c96_92 : Index := 96#32
  ![v198.toNat, 96]
def k1_off43 (v151 : BitVec 32) : Fin 2 → Nat :=
  let v203 : Index := Scalar.indexCast v151
  let c112_94 : Index := 112#32
  ![v203.toNat, 112]

def k1_chk3 (v11 : BitVec 32) (k1_t2 : Fin (k1_t2_loop v11).trips) (v151 : BitVec 32) : Prop :=
  (∀ (k1_h2 : k1_cond2 v11 k1_t2 = 1#1), ∀ a, (k1_off29 v151) a + S1x16.size a ≤ S321x128.size a) ∧
  (∀ (k1_h2 : k1_cond2 v11 k1_t2 = 1#1), ∀ a, (k1_off31 v151) a + S1x16.size a ≤ S321x128.size a) ∧
  (∀ (k1_h2 : k1_cond2 v11 k1_t2 = 1#1), ∀ a, (k1_off33 v151) a + S1x16.size a ≤ S321x128.size a) ∧
  (∀ (k1_h2 : k1_cond2 v11 k1_t2 = 1#1), ∀ a, (k1_off35 v151) a + S1x16.size a ≤ S321x128.size a) ∧
  (∀ (k1_h2 : k1_cond2 v11 k1_t2 = 1#1), ∀ a, (k1_off37 v151) a + S1x16.size a ≤ S321x128.size a) ∧
  (∀ (k1_h2 : k1_cond2 v11 k1_t2 = 1#1), ∀ a, (k1_off39 v151) a + S1x16.size a ≤ S321x128.size a) ∧
  (∀ (k1_h2 : k1_cond2 v11 k1_t2 = 1#1), ∀ a, (k1_off41 v151) a + S1x16.size a ≤ S321x128.size a) ∧
  (∀ (k1_h2 : k1_cond2 v11 k1_t2 = 1#1), ∀ a, (k1_off43 v151) a + S1x16.size a ≤ S321x128.size a)
theorem k1_off29_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off29 v151) a + S1x16.size a ≤ S321x128.size a := fun v11 k1_t2 v151 k1_hw3 k1_h2 => k1_hw3.1 k1_h2
theorem k1_off31_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off31 v151) a + S1x16.size a ≤ S321x128.size a := fun v11 k1_t2 v151 k1_hw3 k1_h2 => k1_hw3.2.1 k1_h2
theorem k1_off33_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off33 v151) a + S1x16.size a ≤ S321x128.size a := fun v11 k1_t2 v151 k1_hw3 k1_h2 => k1_hw3.2.2.1 k1_h2
theorem k1_off35_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off35 v151) a + S1x16.size a ≤ S321x128.size a := fun v11 k1_t2 v151 k1_hw3 k1_h2 => k1_hw3.2.2.2.1 k1_h2
theorem k1_off37_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off37 v151) a + S1x16.size a ≤ S321x128.size a := fun v11 k1_t2 v151 k1_hw3 k1_h2 => k1_hw3.2.2.2.2.1 k1_h2
theorem k1_off39_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off39 v151) a + S1x16.size a ≤ S321x128.size a := fun v11 k1_t2 v151 k1_hw3 k1_h2 => k1_hw3.2.2.2.2.2.1 k1_h2
theorem k1_off41_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off41 v151) a + S1x16.size a ≤ S321x128.size a := fun v11 k1_t2 v151 k1_hw3 k1_h2 => k1_hw3.2.2.2.2.2.2.1 k1_h2
theorem k1_off43_inb : ∀ (v11 : BitVec 32) (k1_t2 : Fin (k1_t2_loop v11).trips) (v151 : BitVec 32) (k1_hw3 : k1_chk3 v11 k1_t2 v151), ∀ (k1_h2 : k1_cond2 v11 k1_t2 = 1#1), ∀ a, (k1_off43 v151) a + S1x16.size a ≤ S321x128.size a := fun v11 k1_t2 v151 k1_hw3 k1_h2 => k1_hw3.2.2.2.2.2.2.2 k1_h2

def k1_off44 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_71 : BitVec 32 := 16#32
  let v152 : BitVec 32 := Scalar.muli arg17 c16_i32_71
  let c1_i32_72 : BitVec 32 := 1#32
  let v153 : BitVec 32 := Scalar.addi v152 c1_i32_72
  let v205 : Index := Scalar.indexCast v153
  let c112_95 : Index := 112#32
  ![v205.toNat, 112]
def k1_off45 (v211 : BitVec 32) : Fin 2 → Nat :=
  let v214 : Index := Scalar.indexCast v211
  let c0_99 : Index := 0#32
  ![v214.toNat, 0]

def k1_off46 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v216 : Index := Scalar.indexCast v213
  let c0_100 : Index := 0#32
  ![v216.toNat, 0]
def k1_off47 (v211 : BitVec 32) : Fin 2 → Nat :=
  let v221 : Index := Scalar.indexCast v211
  let c16_102 : Index := 16#32
  ![v221.toNat, 16]
def k1_off48 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v223 : Index := Scalar.indexCast v213
  let c16_103 : Index := 16#32
  ![v223.toNat, 16]
def k1_off49 (v211 : BitVec 32) : Fin 2 → Nat :=
  let v228 : Index := Scalar.indexCast v211
  let c32_105 : Index := 32#32
  ![v228.toNat, 32]
def k1_off50 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v230 : Index := Scalar.indexCast v213
  let c32_106 : Index := 32#32
  ![v230.toNat, 32]
def k1_off51 (v211 : BitVec 32) : Fin 2 → Nat :=
  let v235 : Index := Scalar.indexCast v211
  let c48_108 : Index := 48#32
  ![v235.toNat, 48]
def k1_off52 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v237 : Index := Scalar.indexCast v213
  let c48_109 : Index := 48#32
  ![v237.toNat, 48]
def k1_off53 (v211 : BitVec 32) : Fin 2 → Nat :=
  let v242 : Index := Scalar.indexCast v211
  let c64_111 : Index := 64#32
  ![v242.toNat, 64]
def k1_off54 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v244 : Index := Scalar.indexCast v213
  let c64_112 : Index := 64#32
  ![v244.toNat, 64]
def k1_off55 (v211 : BitVec 32) : Fin 2 → Nat :=
  let v249 : Index := Scalar.indexCast v211
  let c80_114 : Index := 80#32
  ![v249.toNat, 80]
def k1_off56 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v251 : Index := Scalar.indexCast v213
  let c80_115 : Index := 80#32
  ![v251.toNat, 80]
def k1_off57 (v211 : BitVec 32) : Fin 2 → Nat :=
  let v256 : Index := Scalar.indexCast v211
  let c96_117 : Index := 96#32
  ![v256.toNat, 96]
def k1_off58 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v258 : Index := Scalar.indexCast v213
  let c96_118 : Index := 96#32
  ![v258.toNat, 96]
def k1_off59 (v211 : BitVec 32) : Fin 2 → Nat :=
  let v263 : Index := Scalar.indexCast v211
  let c112_120 : Index := 112#32
  ![v263.toNat, 112]

def k1_chk4 (v11 : BitVec 32) (k1_t2 : Fin (k1_t2_loop v11).trips) (v211 : BitVec 32) : Prop :=
  (∀ (k1_h2 : k1_cond2 v11 k1_t2 = 1#1), ∀ a, (k1_off45 v211) a + S1x16.size a ≤ S321x128.size a) ∧
  (∀ (k1_h2 : k1_cond2 v11 k1_t2 = 1#1), ∀ a, (k1_off47 v211) a + S1x16.size a ≤ S321x128.size a) ∧
  (∀ (k1_h2 : k1_cond2 v11 k1_t2 = 1#1), ∀ a, (k1_off49 v211) a + S1x16.size a ≤ S321x128.size a) ∧
  (∀ (k1_h2 : k1_cond2 v11 k1_t2 = 1#1), ∀ a, (k1_off51 v211) a + S1x16.size a ≤ S321x128.size a) ∧
  (∀ (k1_h2 : k1_cond2 v11 k1_t2 = 1#1), ∀ a, (k1_off53 v211) a + S1x16.size a ≤ S321x128.size a) ∧
  (∀ (k1_h2 : k1_cond2 v11 k1_t2 = 1#1), ∀ a, (k1_off55 v211) a + S1x16.size a ≤ S321x128.size a) ∧
  (∀ (k1_h2 : k1_cond2 v11 k1_t2 = 1#1), ∀ a, (k1_off57 v211) a + S1x16.size a ≤ S321x128.size a) ∧
  (∀ (k1_h2 : k1_cond2 v11 k1_t2 = 1#1), ∀ a, (k1_off59 v211) a + S1x16.size a ≤ S321x128.size a)
theorem k1_off45_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off45 v211) a + S1x16.size a ≤ S321x128.size a := fun v11 k1_t2 v211 k1_hw4 k1_h2 => k1_hw4.1 k1_h2
theorem k1_off47_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off47 v211) a + S1x16.size a ≤ S321x128.size a := fun v11 k1_t2 v211 k1_hw4 k1_h2 => k1_hw4.2.1 k1_h2
theorem k1_off49_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off49 v211) a + S1x16.size a ≤ S321x128.size a := fun v11 k1_t2 v211 k1_hw4 k1_h2 => k1_hw4.2.2.1 k1_h2
theorem k1_off51_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off51 v211) a + S1x16.size a ≤ S321x128.size a := fun v11 k1_t2 v211 k1_hw4 k1_h2 => k1_hw4.2.2.2.1 k1_h2
theorem k1_off53_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off53 v211) a + S1x16.size a ≤ S321x128.size a := fun v11 k1_t2 v211 k1_hw4 k1_h2 => k1_hw4.2.2.2.2.1 k1_h2
theorem k1_off55_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off55 v211) a + S1x16.size a ≤ S321x128.size a := fun v11 k1_t2 v211 k1_hw4 k1_h2 => k1_hw4.2.2.2.2.2.1 k1_h2
theorem k1_off57_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off57 v211) a + S1x16.size a ≤ S321x128.size a := fun v11 k1_t2 v211 k1_hw4 k1_h2 => k1_hw4.2.2.2.2.2.2.1 k1_h2
theorem k1_off59_inb : ∀ (v11 : BitVec 32) (k1_t2 : Fin (k1_t2_loop v11).trips) (v211 : BitVec 32) (k1_hw4 : k1_chk4 v11 k1_t2 v211), ∀ (k1_h2 : k1_cond2 v11 k1_t2 = 1#1), ∀ a, (k1_off59 v211) a + S1x16.size a ≤ S321x128.size a := fun v11 k1_t2 v211 k1_hw4 k1_h2 => k1_hw4.2.2.2.2.2.2.2 k1_h2

def k1_off60 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_97 : BitVec 32 := 16#32
  let v212 : BitVec 32 := Scalar.muli arg17 c16_i32_97
  let c2_i32_98 : BitVec 32 := 2#32
  let v213 : BitVec 32 := Scalar.addi v212 c2_i32_98
  let v265 : Index := Scalar.indexCast v213
  let c112_121 : Index := 112#32
  ![v265.toNat, 112]
def k1_off61 (v271 : BitVec 32) : Fin 2 → Nat :=
  let v274 : Index := Scalar.indexCast v271
  let c0_124 : Index := 0#32
  ![v274.toNat, 0]

def k1_off62 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v276 : Index := Scalar.indexCast v273
  let c0_125 : Index := 0#32
  ![v276.toNat, 0]
def k1_off63 (v271 : BitVec 32) : Fin 2 → Nat :=
  let v281 : Index := Scalar.indexCast v271
  let c16_127 : Index := 16#32
  ![v281.toNat, 16]
def k1_off64 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v283 : Index := Scalar.indexCast v273
  let c16_128 : Index := 16#32
  ![v283.toNat, 16]
def k1_off65 (v271 : BitVec 32) : Fin 2 → Nat :=
  let v288 : Index := Scalar.indexCast v271
  let c32_130 : Index := 32#32
  ![v288.toNat, 32]
def k1_off66 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v290 : Index := Scalar.indexCast v273
  let c32_131 : Index := 32#32
  ![v290.toNat, 32]
def k1_off67 (v271 : BitVec 32) : Fin 2 → Nat :=
  let v295 : Index := Scalar.indexCast v271
  let c48_133 : Index := 48#32
  ![v295.toNat, 48]
def k1_off68 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v297 : Index := Scalar.indexCast v273
  let c48_134 : Index := 48#32
  ![v297.toNat, 48]
def k1_off69 (v271 : BitVec 32) : Fin 2 → Nat :=
  let v302 : Index := Scalar.indexCast v271
  let c64_136 : Index := 64#32
  ![v302.toNat, 64]
def k1_off70 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v304 : Index := Scalar.indexCast v273
  let c64_137 : Index := 64#32
  ![v304.toNat, 64]
def k1_off71 (v271 : BitVec 32) : Fin 2 → Nat :=
  let v309 : Index := Scalar.indexCast v271
  let c80_139 : Index := 80#32
  ![v309.toNat, 80]
def k1_off72 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v311 : Index := Scalar.indexCast v273
  let c80_140 : Index := 80#32
  ![v311.toNat, 80]
def k1_off73 (v271 : BitVec 32) : Fin 2 → Nat :=
  let v316 : Index := Scalar.indexCast v271
  let c96_142 : Index := 96#32
  ![v316.toNat, 96]
def k1_off74 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v318 : Index := Scalar.indexCast v273
  let c96_143 : Index := 96#32
  ![v318.toNat, 96]
def k1_off75 (v271 : BitVec 32) : Fin 2 → Nat :=
  let v323 : Index := Scalar.indexCast v271
  let c112_145 : Index := 112#32
  ![v323.toNat, 112]

def k1_chk5 (v11 : BitVec 32) (k1_t2 : Fin (k1_t2_loop v11).trips) (v271 : BitVec 32) : Prop :=
  (∀ (k1_h2 : k1_cond2 v11 k1_t2 = 1#1), ∀ a, (k1_off61 v271) a + S1x16.size a ≤ S321x128.size a) ∧
  (∀ (k1_h2 : k1_cond2 v11 k1_t2 = 1#1), ∀ a, (k1_off63 v271) a + S1x16.size a ≤ S321x128.size a) ∧
  (∀ (k1_h2 : k1_cond2 v11 k1_t2 = 1#1), ∀ a, (k1_off65 v271) a + S1x16.size a ≤ S321x128.size a) ∧
  (∀ (k1_h2 : k1_cond2 v11 k1_t2 = 1#1), ∀ a, (k1_off67 v271) a + S1x16.size a ≤ S321x128.size a) ∧
  (∀ (k1_h2 : k1_cond2 v11 k1_t2 = 1#1), ∀ a, (k1_off69 v271) a + S1x16.size a ≤ S321x128.size a) ∧
  (∀ (k1_h2 : k1_cond2 v11 k1_t2 = 1#1), ∀ a, (k1_off71 v271) a + S1x16.size a ≤ S321x128.size a) ∧
  (∀ (k1_h2 : k1_cond2 v11 k1_t2 = 1#1), ∀ a, (k1_off73 v271) a + S1x16.size a ≤ S321x128.size a) ∧
  (∀ (k1_h2 : k1_cond2 v11 k1_t2 = 1#1), ∀ a, (k1_off75 v271) a + S1x16.size a ≤ S321x128.size a)
theorem k1_off61_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off61 v271) a + S1x16.size a ≤ S321x128.size a := fun v11 k1_t2 v271 k1_hw5 k1_h2 => k1_hw5.1 k1_h2
theorem k1_off63_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off63 v271) a + S1x16.size a ≤ S321x128.size a := fun v11 k1_t2 v271 k1_hw5 k1_h2 => k1_hw5.2.1 k1_h2
theorem k1_off65_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off65 v271) a + S1x16.size a ≤ S321x128.size a := fun v11 k1_t2 v271 k1_hw5 k1_h2 => k1_hw5.2.2.1 k1_h2
theorem k1_off67_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off67 v271) a + S1x16.size a ≤ S321x128.size a := fun v11 k1_t2 v271 k1_hw5 k1_h2 => k1_hw5.2.2.2.1 k1_h2
theorem k1_off69_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off69 v271) a + S1x16.size a ≤ S321x128.size a := fun v11 k1_t2 v271 k1_hw5 k1_h2 => k1_hw5.2.2.2.2.1 k1_h2
theorem k1_off71_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off71 v271) a + S1x16.size a ≤ S321x128.size a := fun v11 k1_t2 v271 k1_hw5 k1_h2 => k1_hw5.2.2.2.2.2.1 k1_h2
theorem k1_off73_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off73 v271) a + S1x16.size a ≤ S321x128.size a := fun v11 k1_t2 v271 k1_hw5 k1_h2 => k1_hw5.2.2.2.2.2.2.1 k1_h2
theorem k1_off75_inb : ∀ (v11 : BitVec 32) (k1_t2 : Fin (k1_t2_loop v11).trips) (v271 : BitVec 32) (k1_hw5 : k1_chk5 v11 k1_t2 v271), ∀ (k1_h2 : k1_cond2 v11 k1_t2 = 1#1), ∀ a, (k1_off75 v271) a + S1x16.size a ≤ S321x128.size a := fun v11 k1_t2 v271 k1_hw5 k1_h2 => k1_hw5.2.2.2.2.2.2.2 k1_h2

def k1_off76 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_123 : BitVec 32 := 16#32
  let v272 : BitVec 32 := Scalar.muli arg17 c16_i32_123
  let c3_i32 : BitVec 32 := 3#32
  let v273 : BitVec 32 := Scalar.addi v272 c3_i32
  let v325 : Index := Scalar.indexCast v273
  let c112_146 : Index := 112#32
  ![v325.toNat, 112]
def k1_off77 (v331 : BitVec 32) : Fin 2 → Nat :=
  let v334 : Index := Scalar.indexCast v331
  let c0_149 : Index := 0#32
  ![v334.toNat, 0]

def k1_off78 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v336 : Index := Scalar.indexCast v333
  let c0_150 : Index := 0#32
  ![v336.toNat, 0]
def k1_off79 (v331 : BitVec 32) : Fin 2 → Nat :=
  let v341 : Index := Scalar.indexCast v331
  let c16_152 : Index := 16#32
  ![v341.toNat, 16]
def k1_off80 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v343 : Index := Scalar.indexCast v333
  let c16_153 : Index := 16#32
  ![v343.toNat, 16]
def k1_off81 (v331 : BitVec 32) : Fin 2 → Nat :=
  let v348 : Index := Scalar.indexCast v331
  let c32_155 : Index := 32#32
  ![v348.toNat, 32]
def k1_off82 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v350 : Index := Scalar.indexCast v333
  let c32_156 : Index := 32#32
  ![v350.toNat, 32]
def k1_off83 (v331 : BitVec 32) : Fin 2 → Nat :=
  let v355 : Index := Scalar.indexCast v331
  let c48_158 : Index := 48#32
  ![v355.toNat, 48]
def k1_off84 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v357 : Index := Scalar.indexCast v333
  let c48_159 : Index := 48#32
  ![v357.toNat, 48]
def k1_off85 (v331 : BitVec 32) : Fin 2 → Nat :=
  let v362 : Index := Scalar.indexCast v331
  let c64_161 : Index := 64#32
  ![v362.toNat, 64]
def k1_off86 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v364 : Index := Scalar.indexCast v333
  let c64_162 : Index := 64#32
  ![v364.toNat, 64]
def k1_off87 (v331 : BitVec 32) : Fin 2 → Nat :=
  let v369 : Index := Scalar.indexCast v331
  let c80_164 : Index := 80#32
  ![v369.toNat, 80]
def k1_off88 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v371 : Index := Scalar.indexCast v333
  let c80_165 : Index := 80#32
  ![v371.toNat, 80]
def k1_off89 (v331 : BitVec 32) : Fin 2 → Nat :=
  let v376 : Index := Scalar.indexCast v331
  let c96_167 : Index := 96#32
  ![v376.toNat, 96]
def k1_off90 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v378 : Index := Scalar.indexCast v333
  let c96_168 : Index := 96#32
  ![v378.toNat, 96]
def k1_off91 (v331 : BitVec 32) : Fin 2 → Nat :=
  let v383 : Index := Scalar.indexCast v331
  let c112_170 : Index := 112#32
  ![v383.toNat, 112]

def k1_chk6 (v11 : BitVec 32) (k1_t2 : Fin (k1_t2_loop v11).trips) (v331 : BitVec 32) : Prop :=
  (∀ (k1_h2 : k1_cond2 v11 k1_t2 = 1#1), ∀ a, (k1_off77 v331) a + S1x16.size a ≤ S321x128.size a) ∧
  (∀ (k1_h2 : k1_cond2 v11 k1_t2 = 1#1), ∀ a, (k1_off79 v331) a + S1x16.size a ≤ S321x128.size a) ∧
  (∀ (k1_h2 : k1_cond2 v11 k1_t2 = 1#1), ∀ a, (k1_off81 v331) a + S1x16.size a ≤ S321x128.size a) ∧
  (∀ (k1_h2 : k1_cond2 v11 k1_t2 = 1#1), ∀ a, (k1_off83 v331) a + S1x16.size a ≤ S321x128.size a) ∧
  (∀ (k1_h2 : k1_cond2 v11 k1_t2 = 1#1), ∀ a, (k1_off85 v331) a + S1x16.size a ≤ S321x128.size a) ∧
  (∀ (k1_h2 : k1_cond2 v11 k1_t2 = 1#1), ∀ a, (k1_off87 v331) a + S1x16.size a ≤ S321x128.size a) ∧
  (∀ (k1_h2 : k1_cond2 v11 k1_t2 = 1#1), ∀ a, (k1_off89 v331) a + S1x16.size a ≤ S321x128.size a) ∧
  (∀ (k1_h2 : k1_cond2 v11 k1_t2 = 1#1), ∀ a, (k1_off91 v331) a + S1x16.size a ≤ S321x128.size a)
theorem k1_off77_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off77 v331) a + S1x16.size a ≤ S321x128.size a := fun v11 k1_t2 v331 k1_hw6 k1_h2 => k1_hw6.1 k1_h2
theorem k1_off79_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off79 v331) a + S1x16.size a ≤ S321x128.size a := fun v11 k1_t2 v331 k1_hw6 k1_h2 => k1_hw6.2.1 k1_h2
theorem k1_off81_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off81 v331) a + S1x16.size a ≤ S321x128.size a := fun v11 k1_t2 v331 k1_hw6 k1_h2 => k1_hw6.2.2.1 k1_h2
theorem k1_off83_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off83 v331) a + S1x16.size a ≤ S321x128.size a := fun v11 k1_t2 v331 k1_hw6 k1_h2 => k1_hw6.2.2.2.1 k1_h2
theorem k1_off85_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off85 v331) a + S1x16.size a ≤ S321x128.size a := fun v11 k1_t2 v331 k1_hw6 k1_h2 => k1_hw6.2.2.2.2.1 k1_h2
theorem k1_off87_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off87 v331) a + S1x16.size a ≤ S321x128.size a := fun v11 k1_t2 v331 k1_hw6 k1_h2 => k1_hw6.2.2.2.2.2.1 k1_h2
theorem k1_off89_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off89 v331) a + S1x16.size a ≤ S321x128.size a := fun v11 k1_t2 v331 k1_hw6 k1_h2 => k1_hw6.2.2.2.2.2.2.1 k1_h2
theorem k1_off91_inb : ∀ (v11 : BitVec 32) (k1_t2 : Fin (k1_t2_loop v11).trips) (v331 : BitVec 32) (k1_hw6 : k1_chk6 v11 k1_t2 v331), ∀ (k1_h2 : k1_cond2 v11 k1_t2 = 1#1), ∀ a, (k1_off91 v331) a + S1x16.size a ≤ S321x128.size a := fun v11 k1_t2 v331 k1_hw6 k1_h2 => k1_hw6.2.2.2.2.2.2.2 k1_h2

def k1_off92 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_148 : BitVec 32 := 16#32
  let v332 : BitVec 32 := Scalar.muli arg17 c16_i32_148
  let c4_i32 : BitVec 32 := 4#32
  let v333 : BitVec 32 := Scalar.addi v332 c4_i32
  let v385 : Index := Scalar.indexCast v333
  let c112_171 : Index := 112#32
  ![v385.toNat, 112]
def k1_off93 (v391 : BitVec 32) : Fin 2 → Nat :=
  let v394 : Index := Scalar.indexCast v391
  let c0_174 : Index := 0#32
  ![v394.toNat, 0]

def k1_off94 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v396 : Index := Scalar.indexCast v393
  let c0_175 : Index := 0#32
  ![v396.toNat, 0]
def k1_off95 (v391 : BitVec 32) : Fin 2 → Nat :=
  let v401 : Index := Scalar.indexCast v391
  let c16_177 : Index := 16#32
  ![v401.toNat, 16]
def k1_off96 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v403 : Index := Scalar.indexCast v393
  let c16_178 : Index := 16#32
  ![v403.toNat, 16]
def k1_off97 (v391 : BitVec 32) : Fin 2 → Nat :=
  let v408 : Index := Scalar.indexCast v391
  let c32_180 : Index := 32#32
  ![v408.toNat, 32]
def k1_off98 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v410 : Index := Scalar.indexCast v393
  let c32_181 : Index := 32#32
  ![v410.toNat, 32]
def k1_off99 (v391 : BitVec 32) : Fin 2 → Nat :=
  let v415 : Index := Scalar.indexCast v391
  let c48_183 : Index := 48#32
  ![v415.toNat, 48]
def k1_off100 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v417 : Index := Scalar.indexCast v393
  let c48_184 : Index := 48#32
  ![v417.toNat, 48]
def k1_off101 (v391 : BitVec 32) : Fin 2 → Nat :=
  let v422 : Index := Scalar.indexCast v391
  let c64_186 : Index := 64#32
  ![v422.toNat, 64]
def k1_off102 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v424 : Index := Scalar.indexCast v393
  let c64_187 : Index := 64#32
  ![v424.toNat, 64]
def k1_off103 (v391 : BitVec 32) : Fin 2 → Nat :=
  let v429 : Index := Scalar.indexCast v391
  let c80_189 : Index := 80#32
  ![v429.toNat, 80]
def k1_off104 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v431 : Index := Scalar.indexCast v393
  let c80_190 : Index := 80#32
  ![v431.toNat, 80]
def k1_off105 (v391 : BitVec 32) : Fin 2 → Nat :=
  let v436 : Index := Scalar.indexCast v391
  let c96_192 : Index := 96#32
  ![v436.toNat, 96]
def k1_off106 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v438 : Index := Scalar.indexCast v393
  let c96_193 : Index := 96#32
  ![v438.toNat, 96]
def k1_off107 (v391 : BitVec 32) : Fin 2 → Nat :=
  let v443 : Index := Scalar.indexCast v391
  let c112_195 : Index := 112#32
  ![v443.toNat, 112]

def k1_chk7 (v11 : BitVec 32) (k1_t2 : Fin (k1_t2_loop v11).trips) (v391 : BitVec 32) : Prop :=
  (∀ (k1_h2 : k1_cond2 v11 k1_t2 = 1#1), ∀ a, (k1_off93 v391) a + S1x16.size a ≤ S321x128.size a) ∧
  (∀ (k1_h2 : k1_cond2 v11 k1_t2 = 1#1), ∀ a, (k1_off95 v391) a + S1x16.size a ≤ S321x128.size a) ∧
  (∀ (k1_h2 : k1_cond2 v11 k1_t2 = 1#1), ∀ a, (k1_off97 v391) a + S1x16.size a ≤ S321x128.size a) ∧
  (∀ (k1_h2 : k1_cond2 v11 k1_t2 = 1#1), ∀ a, (k1_off99 v391) a + S1x16.size a ≤ S321x128.size a) ∧
  (∀ (k1_h2 : k1_cond2 v11 k1_t2 = 1#1), ∀ a, (k1_off101 v391) a + S1x16.size a ≤ S321x128.size a) ∧
  (∀ (k1_h2 : k1_cond2 v11 k1_t2 = 1#1), ∀ a, (k1_off103 v391) a + S1x16.size a ≤ S321x128.size a) ∧
  (∀ (k1_h2 : k1_cond2 v11 k1_t2 = 1#1), ∀ a, (k1_off105 v391) a + S1x16.size a ≤ S321x128.size a) ∧
  (∀ (k1_h2 : k1_cond2 v11 k1_t2 = 1#1), ∀ a, (k1_off107 v391) a + S1x16.size a ≤ S321x128.size a)
theorem k1_off93_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off93 v391) a + S1x16.size a ≤ S321x128.size a := fun v11 k1_t2 v391 k1_hw7 k1_h2 => k1_hw7.1 k1_h2
theorem k1_off95_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off95 v391) a + S1x16.size a ≤ S321x128.size a := fun v11 k1_t2 v391 k1_hw7 k1_h2 => k1_hw7.2.1 k1_h2
theorem k1_off97_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off97 v391) a + S1x16.size a ≤ S321x128.size a := fun v11 k1_t2 v391 k1_hw7 k1_h2 => k1_hw7.2.2.1 k1_h2
theorem k1_off99_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off99 v391) a + S1x16.size a ≤ S321x128.size a := fun v11 k1_t2 v391 k1_hw7 k1_h2 => k1_hw7.2.2.2.1 k1_h2
theorem k1_off101_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off101 v391) a + S1x16.size a ≤ S321x128.size a := fun v11 k1_t2 v391 k1_hw7 k1_h2 => k1_hw7.2.2.2.2.1 k1_h2
theorem k1_off103_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off103 v391) a + S1x16.size a ≤ S321x128.size a := fun v11 k1_t2 v391 k1_hw7 k1_h2 => k1_hw7.2.2.2.2.2.1 k1_h2
theorem k1_off105_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off105 v391) a + S1x16.size a ≤ S321x128.size a := fun v11 k1_t2 v391 k1_hw7 k1_h2 => k1_hw7.2.2.2.2.2.2.1 k1_h2
theorem k1_off107_inb : ∀ (v11 : BitVec 32) (k1_t2 : Fin (k1_t2_loop v11).trips) (v391 : BitVec 32) (k1_hw7 : k1_chk7 v11 k1_t2 v391), ∀ (k1_h2 : k1_cond2 v11 k1_t2 = 1#1), ∀ a, (k1_off107 v391) a + S1x16.size a ≤ S321x128.size a := fun v11 k1_t2 v391 k1_hw7 k1_h2 => k1_hw7.2.2.2.2.2.2.2 k1_h2

def k1_off108 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_173 : BitVec 32 := 16#32
  let v392 : BitVec 32 := Scalar.muli arg17 c16_i32_173
  let c5_i32 : BitVec 32 := 5#32
  let v393 : BitVec 32 := Scalar.addi v392 c5_i32
  let v445 : Index := Scalar.indexCast v393
  let c112_196 : Index := 112#32
  ![v445.toNat, 112]
def k1_off109 (v451 : BitVec 32) : Fin 2 → Nat :=
  let v454 : Index := Scalar.indexCast v451
  let c0_199 : Index := 0#32
  ![v454.toNat, 0]

def k1_off110 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v456 : Index := Scalar.indexCast v453
  let c0_200 : Index := 0#32
  ![v456.toNat, 0]
def k1_off111 (v451 : BitVec 32) : Fin 2 → Nat :=
  let v461 : Index := Scalar.indexCast v451
  let c16_202 : Index := 16#32
  ![v461.toNat, 16]
def k1_off112 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v463 : Index := Scalar.indexCast v453
  let c16_203 : Index := 16#32
  ![v463.toNat, 16]
def k1_off113 (v451 : BitVec 32) : Fin 2 → Nat :=
  let v468 : Index := Scalar.indexCast v451
  let c32_205 : Index := 32#32
  ![v468.toNat, 32]
def k1_off114 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v470 : Index := Scalar.indexCast v453
  let c32_206 : Index := 32#32
  ![v470.toNat, 32]
def k1_off115 (v451 : BitVec 32) : Fin 2 → Nat :=
  let v475 : Index := Scalar.indexCast v451
  let c48_208 : Index := 48#32
  ![v475.toNat, 48]
def k1_off116 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v477 : Index := Scalar.indexCast v453
  let c48_209 : Index := 48#32
  ![v477.toNat, 48]
def k1_off117 (v451 : BitVec 32) : Fin 2 → Nat :=
  let v482 : Index := Scalar.indexCast v451
  let c64_211 : Index := 64#32
  ![v482.toNat, 64]
def k1_off118 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v484 : Index := Scalar.indexCast v453
  let c64_212 : Index := 64#32
  ![v484.toNat, 64]
def k1_off119 (v451 : BitVec 32) : Fin 2 → Nat :=
  let v489 : Index := Scalar.indexCast v451
  let c80_214 : Index := 80#32
  ![v489.toNat, 80]
def k1_off120 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v491 : Index := Scalar.indexCast v453
  let c80_215 : Index := 80#32
  ![v491.toNat, 80]
def k1_off121 (v451 : BitVec 32) : Fin 2 → Nat :=
  let v496 : Index := Scalar.indexCast v451
  let c96_217 : Index := 96#32
  ![v496.toNat, 96]
def k1_off122 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v498 : Index := Scalar.indexCast v453
  let c96_218 : Index := 96#32
  ![v498.toNat, 96]
def k1_off123 (v451 : BitVec 32) : Fin 2 → Nat :=
  let v503 : Index := Scalar.indexCast v451
  let c112_220 : Index := 112#32
  ![v503.toNat, 112]

def k1_chk8 (v11 : BitVec 32) (k1_t2 : Fin (k1_t2_loop v11).trips) (v451 : BitVec 32) : Prop :=
  (∀ (k1_h2 : k1_cond2 v11 k1_t2 = 1#1), ∀ a, (k1_off109 v451) a + S1x16.size a ≤ S321x128.size a) ∧
  (∀ (k1_h2 : k1_cond2 v11 k1_t2 = 1#1), ∀ a, (k1_off111 v451) a + S1x16.size a ≤ S321x128.size a) ∧
  (∀ (k1_h2 : k1_cond2 v11 k1_t2 = 1#1), ∀ a, (k1_off113 v451) a + S1x16.size a ≤ S321x128.size a) ∧
  (∀ (k1_h2 : k1_cond2 v11 k1_t2 = 1#1), ∀ a, (k1_off115 v451) a + S1x16.size a ≤ S321x128.size a) ∧
  (∀ (k1_h2 : k1_cond2 v11 k1_t2 = 1#1), ∀ a, (k1_off117 v451) a + S1x16.size a ≤ S321x128.size a) ∧
  (∀ (k1_h2 : k1_cond2 v11 k1_t2 = 1#1), ∀ a, (k1_off119 v451) a + S1x16.size a ≤ S321x128.size a) ∧
  (∀ (k1_h2 : k1_cond2 v11 k1_t2 = 1#1), ∀ a, (k1_off121 v451) a + S1x16.size a ≤ S321x128.size a) ∧
  (∀ (k1_h2 : k1_cond2 v11 k1_t2 = 1#1), ∀ a, (k1_off123 v451) a + S1x16.size a ≤ S321x128.size a)
theorem k1_off109_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off109 v451) a + S1x16.size a ≤ S321x128.size a := fun v11 k1_t2 v451 k1_hw8 k1_h2 => k1_hw8.1 k1_h2
theorem k1_off111_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off111 v451) a + S1x16.size a ≤ S321x128.size a := fun v11 k1_t2 v451 k1_hw8 k1_h2 => k1_hw8.2.1 k1_h2
theorem k1_off113_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off113 v451) a + S1x16.size a ≤ S321x128.size a := fun v11 k1_t2 v451 k1_hw8 k1_h2 => k1_hw8.2.2.1 k1_h2
theorem k1_off115_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off115 v451) a + S1x16.size a ≤ S321x128.size a := fun v11 k1_t2 v451 k1_hw8 k1_h2 => k1_hw8.2.2.2.1 k1_h2
theorem k1_off117_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off117 v451) a + S1x16.size a ≤ S321x128.size a := fun v11 k1_t2 v451 k1_hw8 k1_h2 => k1_hw8.2.2.2.2.1 k1_h2
theorem k1_off119_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off119 v451) a + S1x16.size a ≤ S321x128.size a := fun v11 k1_t2 v451 k1_hw8 k1_h2 => k1_hw8.2.2.2.2.2.1 k1_h2
theorem k1_off121_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off121 v451) a + S1x16.size a ≤ S321x128.size a := fun v11 k1_t2 v451 k1_hw8 k1_h2 => k1_hw8.2.2.2.2.2.2.1 k1_h2
theorem k1_off123_inb : ∀ (v11 : BitVec 32) (k1_t2 : Fin (k1_t2_loop v11).trips) (v451 : BitVec 32) (k1_hw8 : k1_chk8 v11 k1_t2 v451), ∀ (k1_h2 : k1_cond2 v11 k1_t2 = 1#1), ∀ a, (k1_off123 v451) a + S1x16.size a ≤ S321x128.size a := fun v11 k1_t2 v451 k1_hw8 k1_h2 => k1_hw8.2.2.2.2.2.2.2 k1_h2

def k1_off124 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_198 : BitVec 32 := 16#32
  let v452 : BitVec 32 := Scalar.muli arg17 c16_i32_198
  let c6_i32 : BitVec 32 := 6#32
  let v453 : BitVec 32 := Scalar.addi v452 c6_i32
  let v505 : Index := Scalar.indexCast v453
  let c112_221 : Index := 112#32
  ![v505.toNat, 112]
def k1_off125 (v511 : BitVec 32) : Fin 2 → Nat :=
  let v514 : Index := Scalar.indexCast v511
  let c0_224 : Index := 0#32
  ![v514.toNat, 0]

def k1_off126 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v516 : Index := Scalar.indexCast v513
  let c0_225 : Index := 0#32
  ![v516.toNat, 0]
def k1_off127 (v511 : BitVec 32) : Fin 2 → Nat :=
  let v521 : Index := Scalar.indexCast v511
  let c16_227 : Index := 16#32
  ![v521.toNat, 16]
def k1_off128 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v523 : Index := Scalar.indexCast v513
  let c16_228 : Index := 16#32
  ![v523.toNat, 16]
def k1_off129 (v511 : BitVec 32) : Fin 2 → Nat :=
  let v528 : Index := Scalar.indexCast v511
  let c32_230 : Index := 32#32
  ![v528.toNat, 32]
def k1_off130 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v530 : Index := Scalar.indexCast v513
  let c32_231 : Index := 32#32
  ![v530.toNat, 32]
def k1_off131 (v511 : BitVec 32) : Fin 2 → Nat :=
  let v535 : Index := Scalar.indexCast v511
  let c48_233 : Index := 48#32
  ![v535.toNat, 48]
def k1_off132 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v537 : Index := Scalar.indexCast v513
  let c48_234 : Index := 48#32
  ![v537.toNat, 48]
def k1_off133 (v511 : BitVec 32) : Fin 2 → Nat :=
  let v542 : Index := Scalar.indexCast v511
  let c64_236 : Index := 64#32
  ![v542.toNat, 64]
def k1_off134 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v544 : Index := Scalar.indexCast v513
  let c64_237 : Index := 64#32
  ![v544.toNat, 64]
def k1_off135 (v511 : BitVec 32) : Fin 2 → Nat :=
  let v549 : Index := Scalar.indexCast v511
  let c80_239 : Index := 80#32
  ![v549.toNat, 80]
def k1_off136 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v551 : Index := Scalar.indexCast v513
  let c80_240 : Index := 80#32
  ![v551.toNat, 80]
def k1_off137 (v511 : BitVec 32) : Fin 2 → Nat :=
  let v556 : Index := Scalar.indexCast v511
  let c96_242 : Index := 96#32
  ![v556.toNat, 96]
def k1_off138 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v558 : Index := Scalar.indexCast v513
  let c96_243 : Index := 96#32
  ![v558.toNat, 96]
def k1_off139 (v511 : BitVec 32) : Fin 2 → Nat :=
  let v563 : Index := Scalar.indexCast v511
  let c112_245 : Index := 112#32
  ![v563.toNat, 112]

def k1_chk9 (v11 : BitVec 32) (k1_t2 : Fin (k1_t2_loop v11).trips) (v511 : BitVec 32) : Prop :=
  (∀ (k1_h2 : k1_cond2 v11 k1_t2 = 1#1), ∀ a, (k1_off125 v511) a + S1x16.size a ≤ S321x128.size a) ∧
  (∀ (k1_h2 : k1_cond2 v11 k1_t2 = 1#1), ∀ a, (k1_off127 v511) a + S1x16.size a ≤ S321x128.size a) ∧
  (∀ (k1_h2 : k1_cond2 v11 k1_t2 = 1#1), ∀ a, (k1_off129 v511) a + S1x16.size a ≤ S321x128.size a) ∧
  (∀ (k1_h2 : k1_cond2 v11 k1_t2 = 1#1), ∀ a, (k1_off131 v511) a + S1x16.size a ≤ S321x128.size a) ∧
  (∀ (k1_h2 : k1_cond2 v11 k1_t2 = 1#1), ∀ a, (k1_off133 v511) a + S1x16.size a ≤ S321x128.size a) ∧
  (∀ (k1_h2 : k1_cond2 v11 k1_t2 = 1#1), ∀ a, (k1_off135 v511) a + S1x16.size a ≤ S321x128.size a) ∧
  (∀ (k1_h2 : k1_cond2 v11 k1_t2 = 1#1), ∀ a, (k1_off137 v511) a + S1x16.size a ≤ S321x128.size a) ∧
  (∀ (k1_h2 : k1_cond2 v11 k1_t2 = 1#1), ∀ a, (k1_off139 v511) a + S1x16.size a ≤ S321x128.size a)
theorem k1_off125_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off125 v511) a + S1x16.size a ≤ S321x128.size a := fun v11 k1_t2 v511 k1_hw9 k1_h2 => k1_hw9.1 k1_h2
theorem k1_off127_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off127 v511) a + S1x16.size a ≤ S321x128.size a := fun v11 k1_t2 v511 k1_hw9 k1_h2 => k1_hw9.2.1 k1_h2
theorem k1_off129_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off129 v511) a + S1x16.size a ≤ S321x128.size a := fun v11 k1_t2 v511 k1_hw9 k1_h2 => k1_hw9.2.2.1 k1_h2
theorem k1_off131_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off131 v511) a + S1x16.size a ≤ S321x128.size a := fun v11 k1_t2 v511 k1_hw9 k1_h2 => k1_hw9.2.2.2.1 k1_h2
theorem k1_off133_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off133 v511) a + S1x16.size a ≤ S321x128.size a := fun v11 k1_t2 v511 k1_hw9 k1_h2 => k1_hw9.2.2.2.2.1 k1_h2
theorem k1_off135_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off135 v511) a + S1x16.size a ≤ S321x128.size a := fun v11 k1_t2 v511 k1_hw9 k1_h2 => k1_hw9.2.2.2.2.2.1 k1_h2
theorem k1_off137_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off137 v511) a + S1x16.size a ≤ S321x128.size a := fun v11 k1_t2 v511 k1_hw9 k1_h2 => k1_hw9.2.2.2.2.2.2.1 k1_h2
theorem k1_off139_inb : ∀ (v11 : BitVec 32) (k1_t2 : Fin (k1_t2_loop v11).trips) (v511 : BitVec 32) (k1_hw9 : k1_chk9 v11 k1_t2 v511), ∀ (k1_h2 : k1_cond2 v11 k1_t2 = 1#1), ∀ a, (k1_off139 v511) a + S1x16.size a ≤ S321x128.size a := fun v11 k1_t2 v511 k1_hw9 k1_h2 => k1_hw9.2.2.2.2.2.2.2 k1_h2

def k1_off140 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_223 : BitVec 32 := 16#32
  let v512 : BitVec 32 := Scalar.muli arg17 c16_i32_223
  let c7_i32 : BitVec 32 := 7#32
  let v513 : BitVec 32 := Scalar.addi v512 c7_i32
  let v565 : Index := Scalar.indexCast v513
  let c112_246 : Index := 112#32
  ![v565.toNat, 112]
def k1_off141 (v571 : BitVec 32) : Fin 2 → Nat :=
  let v574 : Index := Scalar.indexCast v571
  let c0_250 : Index := 0#32
  ![v574.toNat, 0]

def k1_off142 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v576 : Index := Scalar.indexCast v573
  let c0_251 : Index := 0#32
  ![v576.toNat, 0]
def k1_off143 (v571 : BitVec 32) : Fin 2 → Nat :=
  let v581 : Index := Scalar.indexCast v571
  let c16_253 : Index := 16#32
  ![v581.toNat, 16]
def k1_off144 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v583 : Index := Scalar.indexCast v573
  let c16_254 : Index := 16#32
  ![v583.toNat, 16]
def k1_off145 (v571 : BitVec 32) : Fin 2 → Nat :=
  let v588 : Index := Scalar.indexCast v571
  let c32_256 : Index := 32#32
  ![v588.toNat, 32]
def k1_off146 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v590 : Index := Scalar.indexCast v573
  let c32_257 : Index := 32#32
  ![v590.toNat, 32]
def k1_off147 (v571 : BitVec 32) : Fin 2 → Nat :=
  let v595 : Index := Scalar.indexCast v571
  let c48_259 : Index := 48#32
  ![v595.toNat, 48]
def k1_off148 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v597 : Index := Scalar.indexCast v573
  let c48_260 : Index := 48#32
  ![v597.toNat, 48]
def k1_off149 (v571 : BitVec 32) : Fin 2 → Nat :=
  let v602 : Index := Scalar.indexCast v571
  let c64_262 : Index := 64#32
  ![v602.toNat, 64]
def k1_off150 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v604 : Index := Scalar.indexCast v573
  let c64_263 : Index := 64#32
  ![v604.toNat, 64]
def k1_off151 (v571 : BitVec 32) : Fin 2 → Nat :=
  let v609 : Index := Scalar.indexCast v571
  let c80_265 : Index := 80#32
  ![v609.toNat, 80]
def k1_off152 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v611 : Index := Scalar.indexCast v573
  let c80_266 : Index := 80#32
  ![v611.toNat, 80]
def k1_off153 (v571 : BitVec 32) : Fin 2 → Nat :=
  let v616 : Index := Scalar.indexCast v571
  let c96_268 : Index := 96#32
  ![v616.toNat, 96]
def k1_off154 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v618 : Index := Scalar.indexCast v573
  let c96_269 : Index := 96#32
  ![v618.toNat, 96]
def k1_off155 (v571 : BitVec 32) : Fin 2 → Nat :=
  let v623 : Index := Scalar.indexCast v571
  let c112_271 : Index := 112#32
  ![v623.toNat, 112]

def k1_chk10 (v11 : BitVec 32) (k1_t2 : Fin (k1_t2_loop v11).trips) (v571 : BitVec 32) : Prop :=
  (∀ (k1_h2 : k1_cond2 v11 k1_t2 = 1#1), ∀ a, (k1_off141 v571) a + S1x16.size a ≤ S321x128.size a) ∧
  (∀ (k1_h2 : k1_cond2 v11 k1_t2 = 1#1), ∀ a, (k1_off143 v571) a + S1x16.size a ≤ S321x128.size a) ∧
  (∀ (k1_h2 : k1_cond2 v11 k1_t2 = 1#1), ∀ a, (k1_off145 v571) a + S1x16.size a ≤ S321x128.size a) ∧
  (∀ (k1_h2 : k1_cond2 v11 k1_t2 = 1#1), ∀ a, (k1_off147 v571) a + S1x16.size a ≤ S321x128.size a) ∧
  (∀ (k1_h2 : k1_cond2 v11 k1_t2 = 1#1), ∀ a, (k1_off149 v571) a + S1x16.size a ≤ S321x128.size a) ∧
  (∀ (k1_h2 : k1_cond2 v11 k1_t2 = 1#1), ∀ a, (k1_off151 v571) a + S1x16.size a ≤ S321x128.size a) ∧
  (∀ (k1_h2 : k1_cond2 v11 k1_t2 = 1#1), ∀ a, (k1_off153 v571) a + S1x16.size a ≤ S321x128.size a) ∧
  (∀ (k1_h2 : k1_cond2 v11 k1_t2 = 1#1), ∀ a, (k1_off155 v571) a + S1x16.size a ≤ S321x128.size a)
theorem k1_off141_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off141 v571) a + S1x16.size a ≤ S321x128.size a := fun v11 k1_t2 v571 k1_hw10 k1_h2 => k1_hw10.1 k1_h2
theorem k1_off143_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off143 v571) a + S1x16.size a ≤ S321x128.size a := fun v11 k1_t2 v571 k1_hw10 k1_h2 => k1_hw10.2.1 k1_h2
theorem k1_off145_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off145 v571) a + S1x16.size a ≤ S321x128.size a := fun v11 k1_t2 v571 k1_hw10 k1_h2 => k1_hw10.2.2.1 k1_h2
theorem k1_off147_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off147 v571) a + S1x16.size a ≤ S321x128.size a := fun v11 k1_t2 v571 k1_hw10 k1_h2 => k1_hw10.2.2.2.1 k1_h2
theorem k1_off149_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off149 v571) a + S1x16.size a ≤ S321x128.size a := fun v11 k1_t2 v571 k1_hw10 k1_h2 => k1_hw10.2.2.2.2.1 k1_h2
theorem k1_off151_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off151 v571) a + S1x16.size a ≤ S321x128.size a := fun v11 k1_t2 v571 k1_hw10 k1_h2 => k1_hw10.2.2.2.2.2.1 k1_h2
theorem k1_off153_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off153 v571) a + S1x16.size a ≤ S321x128.size a := fun v11 k1_t2 v571 k1_hw10 k1_h2 => k1_hw10.2.2.2.2.2.2.1 k1_h2
theorem k1_off155_inb : ∀ (v11 : BitVec 32) (k1_t2 : Fin (k1_t2_loop v11).trips) (v571 : BitVec 32) (k1_hw10 : k1_chk10 v11 k1_t2 v571), ∀ (k1_h2 : k1_cond2 v11 k1_t2 = 1#1), ∀ a, (k1_off155 v571) a + S1x16.size a ≤ S321x128.size a := fun v11 k1_t2 v571 k1_hw10 k1_h2 => k1_hw10.2.2.2.2.2.2.2 k1_h2

def k1_off156 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_248 : BitVec 32 := 16#32
  let v572 : BitVec 32 := Scalar.muli arg17 c16_i32_248
  let c8_i32_249 : BitVec 32 := 8#32
  let v573 : BitVec 32 := Scalar.addi v572 c8_i32_249
  let v625 : Index := Scalar.indexCast v573
  let c112_272 : Index := 112#32
  ![v625.toNat, 112]
def k1_off157 (v631 : BitVec 32) : Fin 2 → Nat :=
  let v634 : Index := Scalar.indexCast v631
  let c0_275 : Index := 0#32
  ![v634.toNat, 0]

def k1_off158 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v636 : Index := Scalar.indexCast v633
  let c0_276 : Index := 0#32
  ![v636.toNat, 0]
def k1_off159 (v631 : BitVec 32) : Fin 2 → Nat :=
  let v641 : Index := Scalar.indexCast v631
  let c16_278 : Index := 16#32
  ![v641.toNat, 16]
def k1_off160 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v643 : Index := Scalar.indexCast v633
  let c16_279 : Index := 16#32
  ![v643.toNat, 16]
def k1_off161 (v631 : BitVec 32) : Fin 2 → Nat :=
  let v648 : Index := Scalar.indexCast v631
  let c32_281 : Index := 32#32
  ![v648.toNat, 32]
def k1_off162 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v650 : Index := Scalar.indexCast v633
  let c32_282 : Index := 32#32
  ![v650.toNat, 32]
def k1_off163 (v631 : BitVec 32) : Fin 2 → Nat :=
  let v655 : Index := Scalar.indexCast v631
  let c48_284 : Index := 48#32
  ![v655.toNat, 48]
def k1_off164 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v657 : Index := Scalar.indexCast v633
  let c48_285 : Index := 48#32
  ![v657.toNat, 48]
def k1_off165 (v631 : BitVec 32) : Fin 2 → Nat :=
  let v662 : Index := Scalar.indexCast v631
  let c64_287 : Index := 64#32
  ![v662.toNat, 64]
def k1_off166 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v664 : Index := Scalar.indexCast v633
  let c64_288 : Index := 64#32
  ![v664.toNat, 64]
def k1_off167 (v631 : BitVec 32) : Fin 2 → Nat :=
  let v669 : Index := Scalar.indexCast v631
  let c80_290 : Index := 80#32
  ![v669.toNat, 80]
def k1_off168 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v671 : Index := Scalar.indexCast v633
  let c80_291 : Index := 80#32
  ![v671.toNat, 80]
def k1_off169 (v631 : BitVec 32) : Fin 2 → Nat :=
  let v676 : Index := Scalar.indexCast v631
  let c96_293 : Index := 96#32
  ![v676.toNat, 96]
def k1_off170 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v678 : Index := Scalar.indexCast v633
  let c96_294 : Index := 96#32
  ![v678.toNat, 96]
def k1_off171 (v631 : BitVec 32) : Fin 2 → Nat :=
  let v683 : Index := Scalar.indexCast v631
  let c112_296 : Index := 112#32
  ![v683.toNat, 112]

def k1_chk11 (v11 : BitVec 32) (k1_t2 : Fin (k1_t2_loop v11).trips) (v631 : BitVec 32) : Prop :=
  (∀ (k1_h2 : k1_cond2 v11 k1_t2 = 1#1), ∀ a, (k1_off157 v631) a + S1x16.size a ≤ S321x128.size a) ∧
  (∀ (k1_h2 : k1_cond2 v11 k1_t2 = 1#1), ∀ a, (k1_off159 v631) a + S1x16.size a ≤ S321x128.size a) ∧
  (∀ (k1_h2 : k1_cond2 v11 k1_t2 = 1#1), ∀ a, (k1_off161 v631) a + S1x16.size a ≤ S321x128.size a) ∧
  (∀ (k1_h2 : k1_cond2 v11 k1_t2 = 1#1), ∀ a, (k1_off163 v631) a + S1x16.size a ≤ S321x128.size a) ∧
  (∀ (k1_h2 : k1_cond2 v11 k1_t2 = 1#1), ∀ a, (k1_off165 v631) a + S1x16.size a ≤ S321x128.size a) ∧
  (∀ (k1_h2 : k1_cond2 v11 k1_t2 = 1#1), ∀ a, (k1_off167 v631) a + S1x16.size a ≤ S321x128.size a) ∧
  (∀ (k1_h2 : k1_cond2 v11 k1_t2 = 1#1), ∀ a, (k1_off169 v631) a + S1x16.size a ≤ S321x128.size a) ∧
  (∀ (k1_h2 : k1_cond2 v11 k1_t2 = 1#1), ∀ a, (k1_off171 v631) a + S1x16.size a ≤ S321x128.size a)
theorem k1_off157_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off157 v631) a + S1x16.size a ≤ S321x128.size a := fun v11 k1_t2 v631 k1_hw11 k1_h2 => k1_hw11.1 k1_h2
theorem k1_off159_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off159 v631) a + S1x16.size a ≤ S321x128.size a := fun v11 k1_t2 v631 k1_hw11 k1_h2 => k1_hw11.2.1 k1_h2
theorem k1_off161_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off161 v631) a + S1x16.size a ≤ S321x128.size a := fun v11 k1_t2 v631 k1_hw11 k1_h2 => k1_hw11.2.2.1 k1_h2
theorem k1_off163_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off163 v631) a + S1x16.size a ≤ S321x128.size a := fun v11 k1_t2 v631 k1_hw11 k1_h2 => k1_hw11.2.2.2.1 k1_h2
theorem k1_off165_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off165 v631) a + S1x16.size a ≤ S321x128.size a := fun v11 k1_t2 v631 k1_hw11 k1_h2 => k1_hw11.2.2.2.2.1 k1_h2
theorem k1_off167_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off167 v631) a + S1x16.size a ≤ S321x128.size a := fun v11 k1_t2 v631 k1_hw11 k1_h2 => k1_hw11.2.2.2.2.2.1 k1_h2
theorem k1_off169_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off169 v631) a + S1x16.size a ≤ S321x128.size a := fun v11 k1_t2 v631 k1_hw11 k1_h2 => k1_hw11.2.2.2.2.2.2.1 k1_h2
theorem k1_off171_inb : ∀ (v11 : BitVec 32) (k1_t2 : Fin (k1_t2_loop v11).trips) (v631 : BitVec 32) (k1_hw11 : k1_chk11 v11 k1_t2 v631), ∀ (k1_h2 : k1_cond2 v11 k1_t2 = 1#1), ∀ a, (k1_off171 v631) a + S1x16.size a ≤ S321x128.size a := fun v11 k1_t2 v631 k1_hw11 k1_h2 => k1_hw11.2.2.2.2.2.2.2 k1_h2

def k1_off172 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_274 : BitVec 32 := 16#32
  let v632 : BitVec 32 := Scalar.muli arg17 c16_i32_274
  let c9_i32 : BitVec 32 := 9#32
  let v633 : BitVec 32 := Scalar.addi v632 c9_i32
  let v685 : Index := Scalar.indexCast v633
  let c112_297 : Index := 112#32
  ![v685.toNat, 112]
def k1_off173 (v691 : BitVec 32) : Fin 2 → Nat :=
  let v694 : Index := Scalar.indexCast v691
  let c0_300 : Index := 0#32
  ![v694.toNat, 0]

def k1_off174 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v696 : Index := Scalar.indexCast v693
  let c0_301 : Index := 0#32
  ![v696.toNat, 0]
def k1_off175 (v691 : BitVec 32) : Fin 2 → Nat :=
  let v701 : Index := Scalar.indexCast v691
  let c16_303 : Index := 16#32
  ![v701.toNat, 16]
def k1_off176 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v703 : Index := Scalar.indexCast v693
  let c16_304 : Index := 16#32
  ![v703.toNat, 16]
def k1_off177 (v691 : BitVec 32) : Fin 2 → Nat :=
  let v708 : Index := Scalar.indexCast v691
  let c32_306 : Index := 32#32
  ![v708.toNat, 32]
def k1_off178 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v710 : Index := Scalar.indexCast v693
  let c32_307 : Index := 32#32
  ![v710.toNat, 32]
def k1_off179 (v691 : BitVec 32) : Fin 2 → Nat :=
  let v715 : Index := Scalar.indexCast v691
  let c48_309 : Index := 48#32
  ![v715.toNat, 48]
def k1_off180 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v717 : Index := Scalar.indexCast v693
  let c48_310 : Index := 48#32
  ![v717.toNat, 48]
def k1_off181 (v691 : BitVec 32) : Fin 2 → Nat :=
  let v722 : Index := Scalar.indexCast v691
  let c64_312 : Index := 64#32
  ![v722.toNat, 64]
def k1_off182 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v724 : Index := Scalar.indexCast v693
  let c64_313 : Index := 64#32
  ![v724.toNat, 64]
def k1_off183 (v691 : BitVec 32) : Fin 2 → Nat :=
  let v729 : Index := Scalar.indexCast v691
  let c80_315 : Index := 80#32
  ![v729.toNat, 80]
def k1_off184 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v731 : Index := Scalar.indexCast v693
  let c80_316 : Index := 80#32
  ![v731.toNat, 80]
def k1_off185 (v691 : BitVec 32) : Fin 2 → Nat :=
  let v736 : Index := Scalar.indexCast v691
  let c96_318 : Index := 96#32
  ![v736.toNat, 96]
def k1_off186 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v738 : Index := Scalar.indexCast v693
  let c96_319 : Index := 96#32
  ![v738.toNat, 96]
def k1_off187 (v691 : BitVec 32) : Fin 2 → Nat :=
  let v743 : Index := Scalar.indexCast v691
  let c112_321 : Index := 112#32
  ![v743.toNat, 112]

def k1_chk12 (v11 : BitVec 32) (k1_t2 : Fin (k1_t2_loop v11).trips) (v691 : BitVec 32) : Prop :=
  (∀ (k1_h2 : k1_cond2 v11 k1_t2 = 1#1), ∀ a, (k1_off173 v691) a + S1x16.size a ≤ S321x128.size a) ∧
  (∀ (k1_h2 : k1_cond2 v11 k1_t2 = 1#1), ∀ a, (k1_off175 v691) a + S1x16.size a ≤ S321x128.size a) ∧
  (∀ (k1_h2 : k1_cond2 v11 k1_t2 = 1#1), ∀ a, (k1_off177 v691) a + S1x16.size a ≤ S321x128.size a) ∧
  (∀ (k1_h2 : k1_cond2 v11 k1_t2 = 1#1), ∀ a, (k1_off179 v691) a + S1x16.size a ≤ S321x128.size a) ∧
  (∀ (k1_h2 : k1_cond2 v11 k1_t2 = 1#1), ∀ a, (k1_off181 v691) a + S1x16.size a ≤ S321x128.size a) ∧
  (∀ (k1_h2 : k1_cond2 v11 k1_t2 = 1#1), ∀ a, (k1_off183 v691) a + S1x16.size a ≤ S321x128.size a) ∧
  (∀ (k1_h2 : k1_cond2 v11 k1_t2 = 1#1), ∀ a, (k1_off185 v691) a + S1x16.size a ≤ S321x128.size a) ∧
  (∀ (k1_h2 : k1_cond2 v11 k1_t2 = 1#1), ∀ a, (k1_off187 v691) a + S1x16.size a ≤ S321x128.size a)
theorem k1_off173_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off173 v691) a + S1x16.size a ≤ S321x128.size a := fun v11 k1_t2 v691 k1_hw12 k1_h2 => k1_hw12.1 k1_h2
theorem k1_off175_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off175 v691) a + S1x16.size a ≤ S321x128.size a := fun v11 k1_t2 v691 k1_hw12 k1_h2 => k1_hw12.2.1 k1_h2
theorem k1_off177_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off177 v691) a + S1x16.size a ≤ S321x128.size a := fun v11 k1_t2 v691 k1_hw12 k1_h2 => k1_hw12.2.2.1 k1_h2
theorem k1_off179_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off179 v691) a + S1x16.size a ≤ S321x128.size a := fun v11 k1_t2 v691 k1_hw12 k1_h2 => k1_hw12.2.2.2.1 k1_h2
theorem k1_off181_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off181 v691) a + S1x16.size a ≤ S321x128.size a := fun v11 k1_t2 v691 k1_hw12 k1_h2 => k1_hw12.2.2.2.2.1 k1_h2
theorem k1_off183_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off183 v691) a + S1x16.size a ≤ S321x128.size a := fun v11 k1_t2 v691 k1_hw12 k1_h2 => k1_hw12.2.2.2.2.2.1 k1_h2
theorem k1_off185_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off185 v691) a + S1x16.size a ≤ S321x128.size a := fun v11 k1_t2 v691 k1_hw12 k1_h2 => k1_hw12.2.2.2.2.2.2.1 k1_h2
theorem k1_off187_inb : ∀ (v11 : BitVec 32) (k1_t2 : Fin (k1_t2_loop v11).trips) (v691 : BitVec 32) (k1_hw12 : k1_chk12 v11 k1_t2 v691), ∀ (k1_h2 : k1_cond2 v11 k1_t2 = 1#1), ∀ a, (k1_off187 v691) a + S1x16.size a ≤ S321x128.size a := fun v11 k1_t2 v691 k1_hw12 k1_h2 => k1_hw12.2.2.2.2.2.2.2 k1_h2

def k1_off188 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_299 : BitVec 32 := 16#32
  let v692 : BitVec 32 := Scalar.muli arg17 c16_i32_299
  let c10_i32 : BitVec 32 := 10#32
  let v693 : BitVec 32 := Scalar.addi v692 c10_i32
  let v745 : Index := Scalar.indexCast v693
  let c112_322 : Index := 112#32
  ![v745.toNat, 112]
def k1_off189 (v751 : BitVec 32) : Fin 2 → Nat :=
  let v754 : Index := Scalar.indexCast v751
  let c0_325 : Index := 0#32
  ![v754.toNat, 0]

def k1_off190 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v756 : Index := Scalar.indexCast v753
  let c0_326 : Index := 0#32
  ![v756.toNat, 0]
def k1_off191 (v751 : BitVec 32) : Fin 2 → Nat :=
  let v761 : Index := Scalar.indexCast v751
  let c16_328 : Index := 16#32
  ![v761.toNat, 16]
def k1_off192 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v763 : Index := Scalar.indexCast v753
  let c16_329 : Index := 16#32
  ![v763.toNat, 16]
def k1_off193 (v751 : BitVec 32) : Fin 2 → Nat :=
  let v768 : Index := Scalar.indexCast v751
  let c32_331 : Index := 32#32
  ![v768.toNat, 32]
def k1_off194 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v770 : Index := Scalar.indexCast v753
  let c32_332 : Index := 32#32
  ![v770.toNat, 32]
def k1_off195 (v751 : BitVec 32) : Fin 2 → Nat :=
  let v775 : Index := Scalar.indexCast v751
  let c48_334 : Index := 48#32
  ![v775.toNat, 48]
def k1_off196 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v777 : Index := Scalar.indexCast v753
  let c48_335 : Index := 48#32
  ![v777.toNat, 48]
def k1_off197 (v751 : BitVec 32) : Fin 2 → Nat :=
  let v782 : Index := Scalar.indexCast v751
  let c64_337 : Index := 64#32
  ![v782.toNat, 64]
def k1_off198 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v784 : Index := Scalar.indexCast v753
  let c64_338 : Index := 64#32
  ![v784.toNat, 64]
def k1_off199 (v751 : BitVec 32) : Fin 2 → Nat :=
  let v789 : Index := Scalar.indexCast v751
  let c80_340 : Index := 80#32
  ![v789.toNat, 80]
def k1_off200 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v791 : Index := Scalar.indexCast v753
  let c80_341 : Index := 80#32
  ![v791.toNat, 80]
def k1_off201 (v751 : BitVec 32) : Fin 2 → Nat :=
  let v796 : Index := Scalar.indexCast v751
  let c96_343 : Index := 96#32
  ![v796.toNat, 96]
def k1_off202 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v798 : Index := Scalar.indexCast v753
  let c96_344 : Index := 96#32
  ![v798.toNat, 96]
def k1_off203 (v751 : BitVec 32) : Fin 2 → Nat :=
  let v803 : Index := Scalar.indexCast v751
  let c112_346 : Index := 112#32
  ![v803.toNat, 112]

def k1_chk13 (v11 : BitVec 32) (k1_t2 : Fin (k1_t2_loop v11).trips) (v751 : BitVec 32) : Prop :=
  (∀ (k1_h2 : k1_cond2 v11 k1_t2 = 1#1), ∀ a, (k1_off189 v751) a + S1x16.size a ≤ S321x128.size a) ∧
  (∀ (k1_h2 : k1_cond2 v11 k1_t2 = 1#1), ∀ a, (k1_off191 v751) a + S1x16.size a ≤ S321x128.size a) ∧
  (∀ (k1_h2 : k1_cond2 v11 k1_t2 = 1#1), ∀ a, (k1_off193 v751) a + S1x16.size a ≤ S321x128.size a) ∧
  (∀ (k1_h2 : k1_cond2 v11 k1_t2 = 1#1), ∀ a, (k1_off195 v751) a + S1x16.size a ≤ S321x128.size a) ∧
  (∀ (k1_h2 : k1_cond2 v11 k1_t2 = 1#1), ∀ a, (k1_off197 v751) a + S1x16.size a ≤ S321x128.size a) ∧
  (∀ (k1_h2 : k1_cond2 v11 k1_t2 = 1#1), ∀ a, (k1_off199 v751) a + S1x16.size a ≤ S321x128.size a) ∧
  (∀ (k1_h2 : k1_cond2 v11 k1_t2 = 1#1), ∀ a, (k1_off201 v751) a + S1x16.size a ≤ S321x128.size a) ∧
  (∀ (k1_h2 : k1_cond2 v11 k1_t2 = 1#1), ∀ a, (k1_off203 v751) a + S1x16.size a ≤ S321x128.size a)
theorem k1_off189_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off189 v751) a + S1x16.size a ≤ S321x128.size a := fun v11 k1_t2 v751 k1_hw13 k1_h2 => k1_hw13.1 k1_h2
theorem k1_off191_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off191 v751) a + S1x16.size a ≤ S321x128.size a := fun v11 k1_t2 v751 k1_hw13 k1_h2 => k1_hw13.2.1 k1_h2
theorem k1_off193_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off193 v751) a + S1x16.size a ≤ S321x128.size a := fun v11 k1_t2 v751 k1_hw13 k1_h2 => k1_hw13.2.2.1 k1_h2
theorem k1_off195_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off195 v751) a + S1x16.size a ≤ S321x128.size a := fun v11 k1_t2 v751 k1_hw13 k1_h2 => k1_hw13.2.2.2.1 k1_h2
theorem k1_off197_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off197 v751) a + S1x16.size a ≤ S321x128.size a := fun v11 k1_t2 v751 k1_hw13 k1_h2 => k1_hw13.2.2.2.2.1 k1_h2
theorem k1_off199_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off199 v751) a + S1x16.size a ≤ S321x128.size a := fun v11 k1_t2 v751 k1_hw13 k1_h2 => k1_hw13.2.2.2.2.2.1 k1_h2
theorem k1_off201_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off201 v751) a + S1x16.size a ≤ S321x128.size a := fun v11 k1_t2 v751 k1_hw13 k1_h2 => k1_hw13.2.2.2.2.2.2.1 k1_h2
theorem k1_off203_inb : ∀ (v11 : BitVec 32) (k1_t2 : Fin (k1_t2_loop v11).trips) (v751 : BitVec 32) (k1_hw13 : k1_chk13 v11 k1_t2 v751), ∀ (k1_h2 : k1_cond2 v11 k1_t2 = 1#1), ∀ a, (k1_off203 v751) a + S1x16.size a ≤ S321x128.size a := fun v11 k1_t2 v751 k1_hw13 k1_h2 => k1_hw13.2.2.2.2.2.2.2 k1_h2

def k1_off204 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_324 : BitVec 32 := 16#32
  let v752 : BitVec 32 := Scalar.muli arg17 c16_i32_324
  let c11_i32 : BitVec 32 := 11#32
  let v753 : BitVec 32 := Scalar.addi v752 c11_i32
  let v805 : Index := Scalar.indexCast v753
  let c112_347 : Index := 112#32
  ![v805.toNat, 112]
def k1_off205 (v811 : BitVec 32) : Fin 2 → Nat :=
  let v814 : Index := Scalar.indexCast v811
  let c0_350 : Index := 0#32
  ![v814.toNat, 0]

def k1_off206 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v816 : Index := Scalar.indexCast v813
  let c0_351 : Index := 0#32
  ![v816.toNat, 0]
def k1_off207 (v811 : BitVec 32) : Fin 2 → Nat :=
  let v821 : Index := Scalar.indexCast v811
  let c16_353 : Index := 16#32
  ![v821.toNat, 16]
def k1_off208 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v823 : Index := Scalar.indexCast v813
  let c16_354 : Index := 16#32
  ![v823.toNat, 16]
def k1_off209 (v811 : BitVec 32) : Fin 2 → Nat :=
  let v828 : Index := Scalar.indexCast v811
  let c32_356 : Index := 32#32
  ![v828.toNat, 32]
def k1_off210 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v830 : Index := Scalar.indexCast v813
  let c32_357 : Index := 32#32
  ![v830.toNat, 32]
def k1_off211 (v811 : BitVec 32) : Fin 2 → Nat :=
  let v835 : Index := Scalar.indexCast v811
  let c48_359 : Index := 48#32
  ![v835.toNat, 48]
def k1_off212 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v837 : Index := Scalar.indexCast v813
  let c48_360 : Index := 48#32
  ![v837.toNat, 48]
def k1_off213 (v811 : BitVec 32) : Fin 2 → Nat :=
  let v842 : Index := Scalar.indexCast v811
  let c64_362 : Index := 64#32
  ![v842.toNat, 64]
def k1_off214 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v844 : Index := Scalar.indexCast v813
  let c64_363 : Index := 64#32
  ![v844.toNat, 64]
def k1_off215 (v811 : BitVec 32) : Fin 2 → Nat :=
  let v849 : Index := Scalar.indexCast v811
  let c80_365 : Index := 80#32
  ![v849.toNat, 80]
def k1_off216 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v851 : Index := Scalar.indexCast v813
  let c80_366 : Index := 80#32
  ![v851.toNat, 80]
def k1_off217 (v811 : BitVec 32) : Fin 2 → Nat :=
  let v856 : Index := Scalar.indexCast v811
  let c96_368 : Index := 96#32
  ![v856.toNat, 96]
def k1_off218 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v858 : Index := Scalar.indexCast v813
  let c96_369 : Index := 96#32
  ![v858.toNat, 96]
def k1_off219 (v811 : BitVec 32) : Fin 2 → Nat :=
  let v863 : Index := Scalar.indexCast v811
  let c112_371 : Index := 112#32
  ![v863.toNat, 112]

def k1_chk14 (v11 : BitVec 32) (k1_t2 : Fin (k1_t2_loop v11).trips) (v811 : BitVec 32) : Prop :=
  (∀ (k1_h2 : k1_cond2 v11 k1_t2 = 1#1), ∀ a, (k1_off205 v811) a + S1x16.size a ≤ S321x128.size a) ∧
  (∀ (k1_h2 : k1_cond2 v11 k1_t2 = 1#1), ∀ a, (k1_off207 v811) a + S1x16.size a ≤ S321x128.size a) ∧
  (∀ (k1_h2 : k1_cond2 v11 k1_t2 = 1#1), ∀ a, (k1_off209 v811) a + S1x16.size a ≤ S321x128.size a) ∧
  (∀ (k1_h2 : k1_cond2 v11 k1_t2 = 1#1), ∀ a, (k1_off211 v811) a + S1x16.size a ≤ S321x128.size a) ∧
  (∀ (k1_h2 : k1_cond2 v11 k1_t2 = 1#1), ∀ a, (k1_off213 v811) a + S1x16.size a ≤ S321x128.size a) ∧
  (∀ (k1_h2 : k1_cond2 v11 k1_t2 = 1#1), ∀ a, (k1_off215 v811) a + S1x16.size a ≤ S321x128.size a) ∧
  (∀ (k1_h2 : k1_cond2 v11 k1_t2 = 1#1), ∀ a, (k1_off217 v811) a + S1x16.size a ≤ S321x128.size a) ∧
  (∀ (k1_h2 : k1_cond2 v11 k1_t2 = 1#1), ∀ a, (k1_off219 v811) a + S1x16.size a ≤ S321x128.size a)
theorem k1_off205_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off205 v811) a + S1x16.size a ≤ S321x128.size a := fun v11 k1_t2 v811 k1_hw14 k1_h2 => k1_hw14.1 k1_h2
theorem k1_off207_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off207 v811) a + S1x16.size a ≤ S321x128.size a := fun v11 k1_t2 v811 k1_hw14 k1_h2 => k1_hw14.2.1 k1_h2
theorem k1_off209_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off209 v811) a + S1x16.size a ≤ S321x128.size a := fun v11 k1_t2 v811 k1_hw14 k1_h2 => k1_hw14.2.2.1 k1_h2
theorem k1_off211_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off211 v811) a + S1x16.size a ≤ S321x128.size a := fun v11 k1_t2 v811 k1_hw14 k1_h2 => k1_hw14.2.2.2.1 k1_h2
theorem k1_off213_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off213 v811) a + S1x16.size a ≤ S321x128.size a := fun v11 k1_t2 v811 k1_hw14 k1_h2 => k1_hw14.2.2.2.2.1 k1_h2
theorem k1_off215_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off215 v811) a + S1x16.size a ≤ S321x128.size a := fun v11 k1_t2 v811 k1_hw14 k1_h2 => k1_hw14.2.2.2.2.2.1 k1_h2
theorem k1_off217_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off217 v811) a + S1x16.size a ≤ S321x128.size a := fun v11 k1_t2 v811 k1_hw14 k1_h2 => k1_hw14.2.2.2.2.2.2.1 k1_h2
theorem k1_off219_inb : ∀ (v11 : BitVec 32) (k1_t2 : Fin (k1_t2_loop v11).trips) (v811 : BitVec 32) (k1_hw14 : k1_chk14 v11 k1_t2 v811), ∀ (k1_h2 : k1_cond2 v11 k1_t2 = 1#1), ∀ a, (k1_off219 v811) a + S1x16.size a ≤ S321x128.size a := fun v11 k1_t2 v811 k1_hw14 k1_h2 => k1_hw14.2.2.2.2.2.2.2 k1_h2

def k1_off220 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_349 : BitVec 32 := 16#32
  let v812 : BitVec 32 := Scalar.muli arg17 c16_i32_349
  let c12_i32 : BitVec 32 := 12#32
  let v813 : BitVec 32 := Scalar.addi v812 c12_i32
  let v865 : Index := Scalar.indexCast v813
  let c112_372 : Index := 112#32
  ![v865.toNat, 112]
def k1_off221 (v871 : BitVec 32) : Fin 2 → Nat :=
  let v874 : Index := Scalar.indexCast v871
  let c0_375 : Index := 0#32
  ![v874.toNat, 0]

def k1_off222 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v876 : Index := Scalar.indexCast v873
  let c0_376 : Index := 0#32
  ![v876.toNat, 0]
def k1_off223 (v871 : BitVec 32) : Fin 2 → Nat :=
  let v881 : Index := Scalar.indexCast v871
  let c16_378 : Index := 16#32
  ![v881.toNat, 16]
def k1_off224 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v883 : Index := Scalar.indexCast v873
  let c16_379 : Index := 16#32
  ![v883.toNat, 16]
def k1_off225 (v871 : BitVec 32) : Fin 2 → Nat :=
  let v888 : Index := Scalar.indexCast v871
  let c32_381 : Index := 32#32
  ![v888.toNat, 32]
def k1_off226 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v890 : Index := Scalar.indexCast v873
  let c32_382 : Index := 32#32
  ![v890.toNat, 32]
def k1_off227 (v871 : BitVec 32) : Fin 2 → Nat :=
  let v895 : Index := Scalar.indexCast v871
  let c48_384 : Index := 48#32
  ![v895.toNat, 48]
def k1_off228 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v897 : Index := Scalar.indexCast v873
  let c48_385 : Index := 48#32
  ![v897.toNat, 48]
def k1_off229 (v871 : BitVec 32) : Fin 2 → Nat :=
  let v902 : Index := Scalar.indexCast v871
  let c64_387 : Index := 64#32
  ![v902.toNat, 64]
def k1_off230 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v904 : Index := Scalar.indexCast v873
  let c64_388 : Index := 64#32
  ![v904.toNat, 64]
def k1_off231 (v871 : BitVec 32) : Fin 2 → Nat :=
  let v909 : Index := Scalar.indexCast v871
  let c80_390 : Index := 80#32
  ![v909.toNat, 80]
def k1_off232 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v911 : Index := Scalar.indexCast v873
  let c80_391 : Index := 80#32
  ![v911.toNat, 80]
def k1_off233 (v871 : BitVec 32) : Fin 2 → Nat :=
  let v916 : Index := Scalar.indexCast v871
  let c96_393 : Index := 96#32
  ![v916.toNat, 96]
def k1_off234 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v918 : Index := Scalar.indexCast v873
  let c96_394 : Index := 96#32
  ![v918.toNat, 96]
def k1_off235 (v871 : BitVec 32) : Fin 2 → Nat :=
  let v923 : Index := Scalar.indexCast v871
  let c112_396 : Index := 112#32
  ![v923.toNat, 112]

def k1_chk15 (v11 : BitVec 32) (k1_t2 : Fin (k1_t2_loop v11).trips) (v871 : BitVec 32) : Prop :=
  (∀ (k1_h2 : k1_cond2 v11 k1_t2 = 1#1), ∀ a, (k1_off221 v871) a + S1x16.size a ≤ S321x128.size a) ∧
  (∀ (k1_h2 : k1_cond2 v11 k1_t2 = 1#1), ∀ a, (k1_off223 v871) a + S1x16.size a ≤ S321x128.size a) ∧
  (∀ (k1_h2 : k1_cond2 v11 k1_t2 = 1#1), ∀ a, (k1_off225 v871) a + S1x16.size a ≤ S321x128.size a) ∧
  (∀ (k1_h2 : k1_cond2 v11 k1_t2 = 1#1), ∀ a, (k1_off227 v871) a + S1x16.size a ≤ S321x128.size a) ∧
  (∀ (k1_h2 : k1_cond2 v11 k1_t2 = 1#1), ∀ a, (k1_off229 v871) a + S1x16.size a ≤ S321x128.size a) ∧
  (∀ (k1_h2 : k1_cond2 v11 k1_t2 = 1#1), ∀ a, (k1_off231 v871) a + S1x16.size a ≤ S321x128.size a) ∧
  (∀ (k1_h2 : k1_cond2 v11 k1_t2 = 1#1), ∀ a, (k1_off233 v871) a + S1x16.size a ≤ S321x128.size a) ∧
  (∀ (k1_h2 : k1_cond2 v11 k1_t2 = 1#1), ∀ a, (k1_off235 v871) a + S1x16.size a ≤ S321x128.size a)
theorem k1_off221_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off221 v871) a + S1x16.size a ≤ S321x128.size a := fun v11 k1_t2 v871 k1_hw15 k1_h2 => k1_hw15.1 k1_h2
theorem k1_off223_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off223 v871) a + S1x16.size a ≤ S321x128.size a := fun v11 k1_t2 v871 k1_hw15 k1_h2 => k1_hw15.2.1 k1_h2
theorem k1_off225_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off225 v871) a + S1x16.size a ≤ S321x128.size a := fun v11 k1_t2 v871 k1_hw15 k1_h2 => k1_hw15.2.2.1 k1_h2
theorem k1_off227_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off227 v871) a + S1x16.size a ≤ S321x128.size a := fun v11 k1_t2 v871 k1_hw15 k1_h2 => k1_hw15.2.2.2.1 k1_h2
theorem k1_off229_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off229 v871) a + S1x16.size a ≤ S321x128.size a := fun v11 k1_t2 v871 k1_hw15 k1_h2 => k1_hw15.2.2.2.2.1 k1_h2
theorem k1_off231_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off231 v871) a + S1x16.size a ≤ S321x128.size a := fun v11 k1_t2 v871 k1_hw15 k1_h2 => k1_hw15.2.2.2.2.2.1 k1_h2
theorem k1_off233_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off233 v871) a + S1x16.size a ≤ S321x128.size a := fun v11 k1_t2 v871 k1_hw15 k1_h2 => k1_hw15.2.2.2.2.2.2.1 k1_h2
theorem k1_off235_inb : ∀ (v11 : BitVec 32) (k1_t2 : Fin (k1_t2_loop v11).trips) (v871 : BitVec 32) (k1_hw15 : k1_chk15 v11 k1_t2 v871), ∀ (k1_h2 : k1_cond2 v11 k1_t2 = 1#1), ∀ a, (k1_off235 v871) a + S1x16.size a ≤ S321x128.size a := fun v11 k1_t2 v871 k1_hw15 k1_h2 => k1_hw15.2.2.2.2.2.2.2 k1_h2

def k1_off236 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_374 : BitVec 32 := 16#32
  let v872 : BitVec 32 := Scalar.muli arg17 c16_i32_374
  let c13_i32 : BitVec 32 := 13#32
  let v873 : BitVec 32 := Scalar.addi v872 c13_i32
  let v925 : Index := Scalar.indexCast v873
  let c112_397 : Index := 112#32
  ![v925.toNat, 112]
def k1_off237 (v931 : BitVec 32) : Fin 2 → Nat :=
  let v934 : Index := Scalar.indexCast v931
  let c0_400 : Index := 0#32
  ![v934.toNat, 0]

def k1_off238 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v936 : Index := Scalar.indexCast v933
  let c0_401 : Index := 0#32
  ![v936.toNat, 0]
def k1_off239 (v931 : BitVec 32) : Fin 2 → Nat :=
  let v941 : Index := Scalar.indexCast v931
  let c16_403 : Index := 16#32
  ![v941.toNat, 16]
def k1_off240 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v943 : Index := Scalar.indexCast v933
  let c16_404 : Index := 16#32
  ![v943.toNat, 16]
def k1_off241 (v931 : BitVec 32) : Fin 2 → Nat :=
  let v948 : Index := Scalar.indexCast v931
  let c32_406 : Index := 32#32
  ![v948.toNat, 32]
def k1_off242 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v950 : Index := Scalar.indexCast v933
  let c32_407 : Index := 32#32
  ![v950.toNat, 32]
def k1_off243 (v931 : BitVec 32) : Fin 2 → Nat :=
  let v955 : Index := Scalar.indexCast v931
  let c48_409 : Index := 48#32
  ![v955.toNat, 48]
def k1_off244 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v957 : Index := Scalar.indexCast v933
  let c48_410 : Index := 48#32
  ![v957.toNat, 48]
def k1_off245 (v931 : BitVec 32) : Fin 2 → Nat :=
  let v962 : Index := Scalar.indexCast v931
  let c64_412 : Index := 64#32
  ![v962.toNat, 64]
def k1_off246 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v964 : Index := Scalar.indexCast v933
  let c64_413 : Index := 64#32
  ![v964.toNat, 64]
def k1_off247 (v931 : BitVec 32) : Fin 2 → Nat :=
  let v969 : Index := Scalar.indexCast v931
  let c80_415 : Index := 80#32
  ![v969.toNat, 80]
def k1_off248 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v971 : Index := Scalar.indexCast v933
  let c80_416 : Index := 80#32
  ![v971.toNat, 80]
def k1_off249 (v931 : BitVec 32) : Fin 2 → Nat :=
  let v976 : Index := Scalar.indexCast v931
  let c96_418 : Index := 96#32
  ![v976.toNat, 96]
def k1_off250 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v978 : Index := Scalar.indexCast v933
  let c96_419 : Index := 96#32
  ![v978.toNat, 96]
def k1_off251 (v931 : BitVec 32) : Fin 2 → Nat :=
  let v983 : Index := Scalar.indexCast v931
  let c112_421 : Index := 112#32
  ![v983.toNat, 112]

def k1_chk16 (v11 : BitVec 32) (k1_t2 : Fin (k1_t2_loop v11).trips) (v931 : BitVec 32) : Prop :=
  (∀ (k1_h2 : k1_cond2 v11 k1_t2 = 1#1), ∀ a, (k1_off237 v931) a + S1x16.size a ≤ S321x128.size a) ∧
  (∀ (k1_h2 : k1_cond2 v11 k1_t2 = 1#1), ∀ a, (k1_off239 v931) a + S1x16.size a ≤ S321x128.size a) ∧
  (∀ (k1_h2 : k1_cond2 v11 k1_t2 = 1#1), ∀ a, (k1_off241 v931) a + S1x16.size a ≤ S321x128.size a) ∧
  (∀ (k1_h2 : k1_cond2 v11 k1_t2 = 1#1), ∀ a, (k1_off243 v931) a + S1x16.size a ≤ S321x128.size a) ∧
  (∀ (k1_h2 : k1_cond2 v11 k1_t2 = 1#1), ∀ a, (k1_off245 v931) a + S1x16.size a ≤ S321x128.size a) ∧
  (∀ (k1_h2 : k1_cond2 v11 k1_t2 = 1#1), ∀ a, (k1_off247 v931) a + S1x16.size a ≤ S321x128.size a) ∧
  (∀ (k1_h2 : k1_cond2 v11 k1_t2 = 1#1), ∀ a, (k1_off249 v931) a + S1x16.size a ≤ S321x128.size a) ∧
  (∀ (k1_h2 : k1_cond2 v11 k1_t2 = 1#1), ∀ a, (k1_off251 v931) a + S1x16.size a ≤ S321x128.size a)
theorem k1_off237_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off237 v931) a + S1x16.size a ≤ S321x128.size a := fun v11 k1_t2 v931 k1_hw16 k1_h2 => k1_hw16.1 k1_h2
theorem k1_off239_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off239 v931) a + S1x16.size a ≤ S321x128.size a := fun v11 k1_t2 v931 k1_hw16 k1_h2 => k1_hw16.2.1 k1_h2
theorem k1_off241_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off241 v931) a + S1x16.size a ≤ S321x128.size a := fun v11 k1_t2 v931 k1_hw16 k1_h2 => k1_hw16.2.2.1 k1_h2
theorem k1_off243_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off243 v931) a + S1x16.size a ≤ S321x128.size a := fun v11 k1_t2 v931 k1_hw16 k1_h2 => k1_hw16.2.2.2.1 k1_h2
theorem k1_off245_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off245 v931) a + S1x16.size a ≤ S321x128.size a := fun v11 k1_t2 v931 k1_hw16 k1_h2 => k1_hw16.2.2.2.2.1 k1_h2
theorem k1_off247_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off247 v931) a + S1x16.size a ≤ S321x128.size a := fun v11 k1_t2 v931 k1_hw16 k1_h2 => k1_hw16.2.2.2.2.2.1 k1_h2
theorem k1_off249_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off249 v931) a + S1x16.size a ≤ S321x128.size a := fun v11 k1_t2 v931 k1_hw16 k1_h2 => k1_hw16.2.2.2.2.2.2.1 k1_h2
theorem k1_off251_inb : ∀ (v11 : BitVec 32) (k1_t2 : Fin (k1_t2_loop v11).trips) (v931 : BitVec 32) (k1_hw16 : k1_chk16 v11 k1_t2 v931), ∀ (k1_h2 : k1_cond2 v11 k1_t2 = 1#1), ∀ a, (k1_off251 v931) a + S1x16.size a ≤ S321x128.size a := fun v11 k1_t2 v931 k1_hw16 k1_h2 => k1_hw16.2.2.2.2.2.2.2 k1_h2

def k1_off252 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_399 : BitVec 32 := 16#32
  let v932 : BitVec 32 := Scalar.muli arg17 c16_i32_399
  let c14_i32 : BitVec 32 := 14#32
  let v933 : BitVec 32 := Scalar.addi v932 c14_i32
  let v985 : Index := Scalar.indexCast v933
  let c112_422 : Index := 112#32
  ![v985.toNat, 112]
def k1_off253 (v991 : BitVec 32) : Fin 2 → Nat :=
  let v994 : Index := Scalar.indexCast v991
  let c0_425 : Index := 0#32
  ![v994.toNat, 0]

def k1_off254 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v996 : Index := Scalar.indexCast v993
  let c0_426 : Index := 0#32
  ![v996.toNat, 0]
def k1_off255 (v991 : BitVec 32) : Fin 2 → Nat :=
  let v1001 : Index := Scalar.indexCast v991
  let c16_428 : Index := 16#32
  ![v1001.toNat, 16]
def k1_off256 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v1003 : Index := Scalar.indexCast v993
  let c16_429 : Index := 16#32
  ![v1003.toNat, 16]
def k1_off257 (v991 : BitVec 32) : Fin 2 → Nat :=
  let v1008 : Index := Scalar.indexCast v991
  let c32_431 : Index := 32#32
  ![v1008.toNat, 32]
def k1_off258 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v1010 : Index := Scalar.indexCast v993
  let c32_432 : Index := 32#32
  ![v1010.toNat, 32]
def k1_off259 (v991 : BitVec 32) : Fin 2 → Nat :=
  let v1015 : Index := Scalar.indexCast v991
  let c48_434 : Index := 48#32
  ![v1015.toNat, 48]
def k1_off260 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v1017 : Index := Scalar.indexCast v993
  let c48_435 : Index := 48#32
  ![v1017.toNat, 48]
def k1_off261 (v991 : BitVec 32) : Fin 2 → Nat :=
  let v1022 : Index := Scalar.indexCast v991
  let c64_437 : Index := 64#32
  ![v1022.toNat, 64]
def k1_off262 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v1024 : Index := Scalar.indexCast v993
  let c64_438 : Index := 64#32
  ![v1024.toNat, 64]
def k1_off263 (v991 : BitVec 32) : Fin 2 → Nat :=
  let v1029 : Index := Scalar.indexCast v991
  let c80_440 : Index := 80#32
  ![v1029.toNat, 80]
def k1_off264 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v1031 : Index := Scalar.indexCast v993
  let c80_441 : Index := 80#32
  ![v1031.toNat, 80]
def k1_off265 (v991 : BitVec 32) : Fin 2 → Nat :=
  let v1036 : Index := Scalar.indexCast v991
  let c96_443 : Index := 96#32
  ![v1036.toNat, 96]
def k1_off266 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v1038 : Index := Scalar.indexCast v993
  let c96_444 : Index := 96#32
  ![v1038.toNat, 96]
def k1_off267 (v991 : BitVec 32) : Fin 2 → Nat :=
  let v1043 : Index := Scalar.indexCast v991
  let c112_446 : Index := 112#32
  ![v1043.toNat, 112]

def k1_chk17 (v11 : BitVec 32) (k1_t2 : Fin (k1_t2_loop v11).trips) (v991 : BitVec 32) : Prop :=
  (∀ (k1_h2 : k1_cond2 v11 k1_t2 = 1#1), ∀ a, (k1_off253 v991) a + S1x16.size a ≤ S321x128.size a) ∧
  (∀ (k1_h2 : k1_cond2 v11 k1_t2 = 1#1), ∀ a, (k1_off255 v991) a + S1x16.size a ≤ S321x128.size a) ∧
  (∀ (k1_h2 : k1_cond2 v11 k1_t2 = 1#1), ∀ a, (k1_off257 v991) a + S1x16.size a ≤ S321x128.size a) ∧
  (∀ (k1_h2 : k1_cond2 v11 k1_t2 = 1#1), ∀ a, (k1_off259 v991) a + S1x16.size a ≤ S321x128.size a) ∧
  (∀ (k1_h2 : k1_cond2 v11 k1_t2 = 1#1), ∀ a, (k1_off261 v991) a + S1x16.size a ≤ S321x128.size a) ∧
  (∀ (k1_h2 : k1_cond2 v11 k1_t2 = 1#1), ∀ a, (k1_off263 v991) a + S1x16.size a ≤ S321x128.size a) ∧
  (∀ (k1_h2 : k1_cond2 v11 k1_t2 = 1#1), ∀ a, (k1_off265 v991) a + S1x16.size a ≤ S321x128.size a) ∧
  (∀ (k1_h2 : k1_cond2 v11 k1_t2 = 1#1), ∀ a, (k1_off267 v991) a + S1x16.size a ≤ S321x128.size a)
theorem k1_off253_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off253 v991) a + S1x16.size a ≤ S321x128.size a := fun v11 k1_t2 v991 k1_hw17 k1_h2 => k1_hw17.1 k1_h2
theorem k1_off255_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off255 v991) a + S1x16.size a ≤ S321x128.size a := fun v11 k1_t2 v991 k1_hw17 k1_h2 => k1_hw17.2.1 k1_h2
theorem k1_off257_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off257 v991) a + S1x16.size a ≤ S321x128.size a := fun v11 k1_t2 v991 k1_hw17 k1_h2 => k1_hw17.2.2.1 k1_h2
theorem k1_off259_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off259 v991) a + S1x16.size a ≤ S321x128.size a := fun v11 k1_t2 v991 k1_hw17 k1_h2 => k1_hw17.2.2.2.1 k1_h2
theorem k1_off261_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off261 v991) a + S1x16.size a ≤ S321x128.size a := fun v11 k1_t2 v991 k1_hw17 k1_h2 => k1_hw17.2.2.2.2.1 k1_h2
theorem k1_off263_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off263 v991) a + S1x16.size a ≤ S321x128.size a := fun v11 k1_t2 v991 k1_hw17 k1_h2 => k1_hw17.2.2.2.2.2.1 k1_h2
theorem k1_off265_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off265 v991) a + S1x16.size a ≤ S321x128.size a := fun v11 k1_t2 v991 k1_hw17 k1_h2 => k1_hw17.2.2.2.2.2.2.1 k1_h2
theorem k1_off267_inb : ∀ (v11 : BitVec 32) (k1_t2 : Fin (k1_t2_loop v11).trips) (v991 : BitVec 32) (k1_hw17 : k1_chk17 v11 k1_t2 v991), ∀ (k1_h2 : k1_cond2 v11 k1_t2 = 1#1), ∀ a, (k1_off267 v991) a + S1x16.size a ≤ S321x128.size a := fun v11 k1_t2 v991 k1_hw17 k1_h2 => k1_hw17.2.2.2.2.2.2.2 k1_h2

def k1_off268 (k1_t3 : Fin k1_t3_loop.trips) : Fin 2 → Nat :=
  let c0_i32_48 : BitVec 32 := 0#32
  let c1_i32_49 : BitVec 32 := 1#32
  let arg17 : BitVec 32 := Scf.iv c0_i32_48 c1_i32_49 k1_t3
  let c16_i32_424 : BitVec 32 := 16#32
  let v992 : BitVec 32 := Scalar.muli arg17 c16_i32_424
  let c15_i32 : BitVec 32 := 15#32
  let v993 : BitVec 32 := Scalar.addi v992 c15_i32
  let v1045 : Index := Scalar.indexCast v993
  let c112_447 : Index := 112#32
  ![v1045.toNat, 112]
def k1_off269 (v11 : BitVec 32) (k1_t2 : Fin (k1_t2_loop v11).trips) : Fin 1 → Nat :=
  let c2_i32_37 : BitVec 32 := 2#32
  let c0_i32_21 : BitVec 32 := 0#32
  let c1_i32_24 : BitVec 32 := 1#32
  let arg15 : BitVec 32 := Scf.iv c0_i32_21 c1_i32_24 k1_t2
  let v72 : BitVec 32 := Scalar.muli c2_i32_37 arg15
  let c1_i32_38 : BitVec 32 := 1#32
  let v73 : BitVec 32 := Scalar.addi v72 c1_i32_38
  let c1_i32_51 : BitVec 32 := 1#32
  let v86 : BitVec 32 := Scalar.addi v73 c1_i32_51
  let c128_i32_52 : BitVec 32 := 128#32
  let v87 : BitVec 32 := Scalar.muli v86 c128_i32_52
  ![v87.toNat]
def k1_cond4 (v11 : BitVec 32) (k1_t2 : Fin (k1_t2_loop v11).trips) : BitVec 1 :=
  let c2_i32_37 : BitVec 32 := 2#32
  let c0_i32_21 : BitVec 32 := 0#32
  let c1_i32_24 : BitVec 32 := 1#32
  let arg15 : BitVec 32 := Scf.iv c0_i32_21 c1_i32_24 k1_t2
  let v72 : BitVec 32 := Scalar.muli c2_i32_37 arg15
  let c1_i32_38 : BitVec 32 := 1#32
  let v73 : BitVec 32 := Scalar.addi v72 c1_i32_38
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let v74 : BitVec 1 := Scalar.cmpi .slt v73 v30
  let v75 : BitVec 32 := Scalar.extui v74
  let c0_i32_39 : BitVec 32 := 0#32
  let v76 : BitVec 1 := Scalar.cmpi .ne v75 c0_i32_39
  v76

def k1_cond5 (v11 : BitVec 32) (k1_t2 : Fin (k1_t2_loop v11).trips) : BitVec 1 :=
  let c2_i32_37 : BitVec 32 := 2#32
  let c0_i32_21 : BitVec 32 := 0#32
  let c1_i32_24 : BitVec 32 := 1#32
  let arg15 : BitVec 32 := Scf.iv c0_i32_21 c1_i32_24 k1_t2
  let v72 : BitVec 32 := Scalar.muli c2_i32_37 arg15
  let c1_i32_38 : BitVec 32 := 1#32
  let v73 : BitVec 32 := Scalar.addi v72 c1_i32_38
  let c1_i32_44 : BitVec 32 := 1#32
  let v79 : BitVec 32 := Scalar.addi v73 c1_i32_44
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let v80 : BitVec 1 := Scalar.cmpi .slt v79 v30
  let v81 : BitVec 32 := Scalar.extui v80
  let c0_i32_45 : BitVec 32 := 0#32
  let v82 : BitVec 1 := Scalar.cmpi .ne v81 c0_i32_45
  v82

@[reducible] def k1_t4_loop : Scf.Loop 32 :=
  let c0_i32_48 : BitVec 32 := 0#32
  let c8_i32 : BitVec 32 := 8#32
  let v84 : BitVec 32 := Scalar.addi c0_i32_48 c8_i32
  let c1_i32_49 : BitVec 32 := 1#32
  ⟨c0_i32_48, v84, c1_i32_49⟩
def k1_off270 (v11 : BitVec 32) (k1_t2 : Fin (k1_t2_loop v11).trips) (k1_t4 : Fin k1_t4_loop.trips) : Fin 1 → Nat :=
  let c2_i32_37 : BitVec 32 := 2#32
  let c0_i32_21 : BitVec 32 := 0#32
  let c1_i32_24 : BitVec 32 := 1#32
  let arg15 : BitVec 32 := Scf.iv c0_i32_21 c1_i32_24 k1_t2
  let v72 : BitVec 32 := Scalar.muli c2_i32_37 arg15
  let c1_i32_38 : BitVec 32 := 1#32
  let v73 : BitVec 32 := Scalar.addi v72 c1_i32_38
  let c128_i32_46 : BitVec 32 := 128#32
  let v83 : BitVec 32 := Scalar.muli v73 c128_i32_46
  let c0_i32_48 : BitVec 32 := 0#32
  let c1_i32_49 : BitVec 32 := 1#32
  let arg17 : BitVec 32 := Scf.iv c0_i32_48 c1_i32_49 k1_t4
  let c16_i32_51 : BitVec 32 := 16#32
  let v86 : BitVec 32 := Scalar.muli arg17 c16_i32_51
  let v87 : BitVec 32 := Scalar.addi v83 v86
  let v88 : Index := Scalar.indexCast v87
  ![v88.toNat]
def k1_off271 (v91 : BitVec 32) : Fin 2 → Nat :=
  let v94 : Index := Scalar.indexCast v91
  let c0_54 : Index := 0#32
  ![v94.toNat, 0]

def k1_off272 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v96 : Index := Scalar.indexCast v93
  let c0_55 : Index := 0#32
  ![v96.toNat, 0]
def k1_off273 (v91 : BitVec 32) : Fin 2 → Nat :=
  let v101 : Index := Scalar.indexCast v91
  let c16 : Index := 16#32
  ![v101.toNat, 16]
def k1_off274 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v103 : Index := Scalar.indexCast v93
  let c16_57 : Index := 16#32
  ![v103.toNat, 16]
def k1_off275 (v91 : BitVec 32) : Fin 2 → Nat :=
  let v108 : Index := Scalar.indexCast v91
  let c32 : Index := 32#32
  ![v108.toNat, 32]
def k1_off276 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v110 : Index := Scalar.indexCast v93
  let c32_59 : Index := 32#32
  ![v110.toNat, 32]
def k1_off277 (v91 : BitVec 32) : Fin 2 → Nat :=
  let v115 : Index := Scalar.indexCast v91
  let c48 : Index := 48#32
  ![v115.toNat, 48]
def k1_off278 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v117 : Index := Scalar.indexCast v93
  let c48_61 : Index := 48#32
  ![v117.toNat, 48]
def k1_off279 (v91 : BitVec 32) : Fin 2 → Nat :=
  let v122 : Index := Scalar.indexCast v91
  let c64 : Index := 64#32
  ![v122.toNat, 64]
def k1_off280 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v124 : Index := Scalar.indexCast v93
  let c64_63 : Index := 64#32
  ![v124.toNat, 64]
def k1_off281 (v91 : BitVec 32) : Fin 2 → Nat :=
  let v129 : Index := Scalar.indexCast v91
  let c80 : Index := 80#32
  ![v129.toNat, 80]
def k1_off282 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v131 : Index := Scalar.indexCast v93
  let c80_65 : Index := 80#32
  ![v131.toNat, 80]
def k1_off283 (v91 : BitVec 32) : Fin 2 → Nat :=
  let v136 : Index := Scalar.indexCast v91
  let c96 : Index := 96#32
  ![v136.toNat, 96]
def k1_off284 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v138 : Index := Scalar.indexCast v93
  let c96_67 : Index := 96#32
  ![v138.toNat, 96]
def k1_off285 (v91 : BitVec 32) : Fin 2 → Nat :=
  let v143 : Index := Scalar.indexCast v91
  let c112 : Index := 112#32
  ![v143.toNat, 112]

def k1_chk18 (v11 : BitVec 32) (k1_t2 : Fin (k1_t2_loop v11).trips) (v91 : BitVec 32) : Prop :=
  (∀ (k1_h4 : k1_cond4 v11 k1_t2 = 1#1), ∀ a, (k1_off271 v91) a + S1x16.size a ≤ S321x128.size a) ∧
  (∀ (k1_h4 : k1_cond4 v11 k1_t2 = 1#1), ∀ a, (k1_off273 v91) a + S1x16.size a ≤ S321x128.size a) ∧
  (∀ (k1_h4 : k1_cond4 v11 k1_t2 = 1#1), ∀ a, (k1_off275 v91) a + S1x16.size a ≤ S321x128.size a) ∧
  (∀ (k1_h4 : k1_cond4 v11 k1_t2 = 1#1), ∀ a, (k1_off277 v91) a + S1x16.size a ≤ S321x128.size a) ∧
  (∀ (k1_h4 : k1_cond4 v11 k1_t2 = 1#1), ∀ a, (k1_off279 v91) a + S1x16.size a ≤ S321x128.size a) ∧
  (∀ (k1_h4 : k1_cond4 v11 k1_t2 = 1#1), ∀ a, (k1_off281 v91) a + S1x16.size a ≤ S321x128.size a) ∧
  (∀ (k1_h4 : k1_cond4 v11 k1_t2 = 1#1), ∀ a, (k1_off283 v91) a + S1x16.size a ≤ S321x128.size a) ∧
  (∀ (k1_h4 : k1_cond4 v11 k1_t2 = 1#1), ∀ a, (k1_off285 v91) a + S1x16.size a ≤ S321x128.size a)
theorem k1_off271_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off271 v91) a + S1x16.size a ≤ S321x128.size a := fun v11 k1_t2 v91 k1_hw18 k1_h4 => k1_hw18.1 k1_h4
theorem k1_off273_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off273 v91) a + S1x16.size a ≤ S321x128.size a := fun v11 k1_t2 v91 k1_hw18 k1_h4 => k1_hw18.2.1 k1_h4
theorem k1_off275_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off275 v91) a + S1x16.size a ≤ S321x128.size a := fun v11 k1_t2 v91 k1_hw18 k1_h4 => k1_hw18.2.2.1 k1_h4
theorem k1_off277_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off277 v91) a + S1x16.size a ≤ S321x128.size a := fun v11 k1_t2 v91 k1_hw18 k1_h4 => k1_hw18.2.2.2.1 k1_h4
theorem k1_off279_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off279 v91) a + S1x16.size a ≤ S321x128.size a := fun v11 k1_t2 v91 k1_hw18 k1_h4 => k1_hw18.2.2.2.2.1 k1_h4
theorem k1_off281_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off281 v91) a + S1x16.size a ≤ S321x128.size a := fun v11 k1_t2 v91 k1_hw18 k1_h4 => k1_hw18.2.2.2.2.2.1 k1_h4
theorem k1_off283_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off283 v91) a + S1x16.size a ≤ S321x128.size a := fun v11 k1_t2 v91 k1_hw18 k1_h4 => k1_hw18.2.2.2.2.2.2.1 k1_h4
theorem k1_off285_inb : ∀ (v11 : BitVec 32) (k1_t2 : Fin (k1_t2_loop v11).trips) (v91 : BitVec 32) (k1_hw18 : k1_chk18 v11 k1_t2 v91), ∀ (k1_h4 : k1_cond4 v11 k1_t2 = 1#1), ∀ a, (k1_off285 v91) a + S1x16.size a ≤ S321x128.size a := fun v11 k1_t2 v91 k1_hw18 k1_h4 => k1_hw18.2.2.2.2.2.2.2 k1_h4

def k1_off286 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_52 : BitVec 32 := 16#32
  let v92 : BitVec 32 := Scalar.muli arg17 c16_i32_52
  let c0_i32_53 : BitVec 32 := 0#32
  let v93 : BitVec 32 := Scalar.addi v92 c0_i32_53
  let v145 : Index := Scalar.indexCast v93
  let c112_69 : Index := 112#32
  ![v145.toNat, 112]
def k1_off287 (v151 : BitVec 32) : Fin 2 → Nat :=
  let v154 : Index := Scalar.indexCast v151
  let c0_73 : Index := 0#32
  ![v154.toNat, 0]

def k1_off288 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v156 : Index := Scalar.indexCast v153
  let c0_74 : Index := 0#32
  ![v156.toNat, 0]
def k1_off289 (v151 : BitVec 32) : Fin 2 → Nat :=
  let v161 : Index := Scalar.indexCast v151
  let c16_76 : Index := 16#32
  ![v161.toNat, 16]
def k1_off290 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v163 : Index := Scalar.indexCast v153
  let c16_77 : Index := 16#32
  ![v163.toNat, 16]
def k1_off291 (v151 : BitVec 32) : Fin 2 → Nat :=
  let v168 : Index := Scalar.indexCast v151
  let c32_79 : Index := 32#32
  ![v168.toNat, 32]
def k1_off292 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v170 : Index := Scalar.indexCast v153
  let c32_80 : Index := 32#32
  ![v170.toNat, 32]
def k1_off293 (v151 : BitVec 32) : Fin 2 → Nat :=
  let v175 : Index := Scalar.indexCast v151
  let c48_82 : Index := 48#32
  ![v175.toNat, 48]
def k1_off294 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v177 : Index := Scalar.indexCast v153
  let c48_83 : Index := 48#32
  ![v177.toNat, 48]
def k1_off295 (v151 : BitVec 32) : Fin 2 → Nat :=
  let v182 : Index := Scalar.indexCast v151
  let c64_85 : Index := 64#32
  ![v182.toNat, 64]
def k1_off296 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v184 : Index := Scalar.indexCast v153
  let c64_86 : Index := 64#32
  ![v184.toNat, 64]
def k1_off297 (v151 : BitVec 32) : Fin 2 → Nat :=
  let v189 : Index := Scalar.indexCast v151
  let c80_88 : Index := 80#32
  ![v189.toNat, 80]
def k1_off298 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v191 : Index := Scalar.indexCast v153
  let c80_89 : Index := 80#32
  ![v191.toNat, 80]
def k1_off299 (v151 : BitVec 32) : Fin 2 → Nat :=
  let v196 : Index := Scalar.indexCast v151
  let c96_91 : Index := 96#32
  ![v196.toNat, 96]
def k1_off300 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v198 : Index := Scalar.indexCast v153
  let c96_92 : Index := 96#32
  ![v198.toNat, 96]
def k1_off301 (v151 : BitVec 32) : Fin 2 → Nat :=
  let v203 : Index := Scalar.indexCast v151
  let c112_94 : Index := 112#32
  ![v203.toNat, 112]

def k1_chk19 (v11 : BitVec 32) (k1_t2 : Fin (k1_t2_loop v11).trips) (v151 : BitVec 32) : Prop :=
  (∀ (k1_h4 : k1_cond4 v11 k1_t2 = 1#1), ∀ a, (k1_off287 v151) a + S1x16.size a ≤ S321x128.size a) ∧
  (∀ (k1_h4 : k1_cond4 v11 k1_t2 = 1#1), ∀ a, (k1_off289 v151) a + S1x16.size a ≤ S321x128.size a) ∧
  (∀ (k1_h4 : k1_cond4 v11 k1_t2 = 1#1), ∀ a, (k1_off291 v151) a + S1x16.size a ≤ S321x128.size a) ∧
  (∀ (k1_h4 : k1_cond4 v11 k1_t2 = 1#1), ∀ a, (k1_off293 v151) a + S1x16.size a ≤ S321x128.size a) ∧
  (∀ (k1_h4 : k1_cond4 v11 k1_t2 = 1#1), ∀ a, (k1_off295 v151) a + S1x16.size a ≤ S321x128.size a) ∧
  (∀ (k1_h4 : k1_cond4 v11 k1_t2 = 1#1), ∀ a, (k1_off297 v151) a + S1x16.size a ≤ S321x128.size a) ∧
  (∀ (k1_h4 : k1_cond4 v11 k1_t2 = 1#1), ∀ a, (k1_off299 v151) a + S1x16.size a ≤ S321x128.size a) ∧
  (∀ (k1_h4 : k1_cond4 v11 k1_t2 = 1#1), ∀ a, (k1_off301 v151) a + S1x16.size a ≤ S321x128.size a)
theorem k1_off287_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off287 v151) a + S1x16.size a ≤ S321x128.size a := fun v11 k1_t2 v151 k1_hw19 k1_h4 => k1_hw19.1 k1_h4
theorem k1_off289_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off289 v151) a + S1x16.size a ≤ S321x128.size a := fun v11 k1_t2 v151 k1_hw19 k1_h4 => k1_hw19.2.1 k1_h4
theorem k1_off291_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off291 v151) a + S1x16.size a ≤ S321x128.size a := fun v11 k1_t2 v151 k1_hw19 k1_h4 => k1_hw19.2.2.1 k1_h4
theorem k1_off293_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off293 v151) a + S1x16.size a ≤ S321x128.size a := fun v11 k1_t2 v151 k1_hw19 k1_h4 => k1_hw19.2.2.2.1 k1_h4
theorem k1_off295_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off295 v151) a + S1x16.size a ≤ S321x128.size a := fun v11 k1_t2 v151 k1_hw19 k1_h4 => k1_hw19.2.2.2.2.1 k1_h4
theorem k1_off297_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off297 v151) a + S1x16.size a ≤ S321x128.size a := fun v11 k1_t2 v151 k1_hw19 k1_h4 => k1_hw19.2.2.2.2.2.1 k1_h4
theorem k1_off299_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off299 v151) a + S1x16.size a ≤ S321x128.size a := fun v11 k1_t2 v151 k1_hw19 k1_h4 => k1_hw19.2.2.2.2.2.2.1 k1_h4
theorem k1_off301_inb : ∀ (v11 : BitVec 32) (k1_t2 : Fin (k1_t2_loop v11).trips) (v151 : BitVec 32) (k1_hw19 : k1_chk19 v11 k1_t2 v151), ∀ (k1_h4 : k1_cond4 v11 k1_t2 = 1#1), ∀ a, (k1_off301 v151) a + S1x16.size a ≤ S321x128.size a := fun v11 k1_t2 v151 k1_hw19 k1_h4 => k1_hw19.2.2.2.2.2.2.2 k1_h4

def k1_off302 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_71 : BitVec 32 := 16#32
  let v152 : BitVec 32 := Scalar.muli arg17 c16_i32_71
  let c1_i32_72 : BitVec 32 := 1#32
  let v153 : BitVec 32 := Scalar.addi v152 c1_i32_72
  let v205 : Index := Scalar.indexCast v153
  let c112_95 : Index := 112#32
  ![v205.toNat, 112]
def k1_off303 (v211 : BitVec 32) : Fin 2 → Nat :=
  let v214 : Index := Scalar.indexCast v211
  let c0_99 : Index := 0#32
  ![v214.toNat, 0]

def k1_off304 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v216 : Index := Scalar.indexCast v213
  let c0_100 : Index := 0#32
  ![v216.toNat, 0]
def k1_off305 (v211 : BitVec 32) : Fin 2 → Nat :=
  let v221 : Index := Scalar.indexCast v211
  let c16_102 : Index := 16#32
  ![v221.toNat, 16]
def k1_off306 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v223 : Index := Scalar.indexCast v213
  let c16_103 : Index := 16#32
  ![v223.toNat, 16]
def k1_off307 (v211 : BitVec 32) : Fin 2 → Nat :=
  let v228 : Index := Scalar.indexCast v211
  let c32_105 : Index := 32#32
  ![v228.toNat, 32]
def k1_off308 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v230 : Index := Scalar.indexCast v213
  let c32_106 : Index := 32#32
  ![v230.toNat, 32]
def k1_off309 (v211 : BitVec 32) : Fin 2 → Nat :=
  let v235 : Index := Scalar.indexCast v211
  let c48_108 : Index := 48#32
  ![v235.toNat, 48]
def k1_off310 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v237 : Index := Scalar.indexCast v213
  let c48_109 : Index := 48#32
  ![v237.toNat, 48]
def k1_off311 (v211 : BitVec 32) : Fin 2 → Nat :=
  let v242 : Index := Scalar.indexCast v211
  let c64_111 : Index := 64#32
  ![v242.toNat, 64]
def k1_off312 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v244 : Index := Scalar.indexCast v213
  let c64_112 : Index := 64#32
  ![v244.toNat, 64]
def k1_off313 (v211 : BitVec 32) : Fin 2 → Nat :=
  let v249 : Index := Scalar.indexCast v211
  let c80_114 : Index := 80#32
  ![v249.toNat, 80]
def k1_off314 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v251 : Index := Scalar.indexCast v213
  let c80_115 : Index := 80#32
  ![v251.toNat, 80]
def k1_off315 (v211 : BitVec 32) : Fin 2 → Nat :=
  let v256 : Index := Scalar.indexCast v211
  let c96_117 : Index := 96#32
  ![v256.toNat, 96]
def k1_off316 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v258 : Index := Scalar.indexCast v213
  let c96_118 : Index := 96#32
  ![v258.toNat, 96]
def k1_off317 (v211 : BitVec 32) : Fin 2 → Nat :=
  let v263 : Index := Scalar.indexCast v211
  let c112_120 : Index := 112#32
  ![v263.toNat, 112]

def k1_chk20 (v11 : BitVec 32) (k1_t2 : Fin (k1_t2_loop v11).trips) (v211 : BitVec 32) : Prop :=
  (∀ (k1_h4 : k1_cond4 v11 k1_t2 = 1#1), ∀ a, (k1_off303 v211) a + S1x16.size a ≤ S321x128.size a) ∧
  (∀ (k1_h4 : k1_cond4 v11 k1_t2 = 1#1), ∀ a, (k1_off305 v211) a + S1x16.size a ≤ S321x128.size a) ∧
  (∀ (k1_h4 : k1_cond4 v11 k1_t2 = 1#1), ∀ a, (k1_off307 v211) a + S1x16.size a ≤ S321x128.size a) ∧
  (∀ (k1_h4 : k1_cond4 v11 k1_t2 = 1#1), ∀ a, (k1_off309 v211) a + S1x16.size a ≤ S321x128.size a) ∧
  (∀ (k1_h4 : k1_cond4 v11 k1_t2 = 1#1), ∀ a, (k1_off311 v211) a + S1x16.size a ≤ S321x128.size a) ∧
  (∀ (k1_h4 : k1_cond4 v11 k1_t2 = 1#1), ∀ a, (k1_off313 v211) a + S1x16.size a ≤ S321x128.size a) ∧
  (∀ (k1_h4 : k1_cond4 v11 k1_t2 = 1#1), ∀ a, (k1_off315 v211) a + S1x16.size a ≤ S321x128.size a) ∧
  (∀ (k1_h4 : k1_cond4 v11 k1_t2 = 1#1), ∀ a, (k1_off317 v211) a + S1x16.size a ≤ S321x128.size a)
theorem k1_off303_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off303 v211) a + S1x16.size a ≤ S321x128.size a := fun v11 k1_t2 v211 k1_hw20 k1_h4 => k1_hw20.1 k1_h4
theorem k1_off305_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off305 v211) a + S1x16.size a ≤ S321x128.size a := fun v11 k1_t2 v211 k1_hw20 k1_h4 => k1_hw20.2.1 k1_h4
theorem k1_off307_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off307 v211) a + S1x16.size a ≤ S321x128.size a := fun v11 k1_t2 v211 k1_hw20 k1_h4 => k1_hw20.2.2.1 k1_h4
theorem k1_off309_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off309 v211) a + S1x16.size a ≤ S321x128.size a := fun v11 k1_t2 v211 k1_hw20 k1_h4 => k1_hw20.2.2.2.1 k1_h4
theorem k1_off311_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off311 v211) a + S1x16.size a ≤ S321x128.size a := fun v11 k1_t2 v211 k1_hw20 k1_h4 => k1_hw20.2.2.2.2.1 k1_h4
theorem k1_off313_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off313 v211) a + S1x16.size a ≤ S321x128.size a := fun v11 k1_t2 v211 k1_hw20 k1_h4 => k1_hw20.2.2.2.2.2.1 k1_h4
theorem k1_off315_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off315 v211) a + S1x16.size a ≤ S321x128.size a := fun v11 k1_t2 v211 k1_hw20 k1_h4 => k1_hw20.2.2.2.2.2.2.1 k1_h4
theorem k1_off317_inb : ∀ (v11 : BitVec 32) (k1_t2 : Fin (k1_t2_loop v11).trips) (v211 : BitVec 32) (k1_hw20 : k1_chk20 v11 k1_t2 v211), ∀ (k1_h4 : k1_cond4 v11 k1_t2 = 1#1), ∀ a, (k1_off317 v211) a + S1x16.size a ≤ S321x128.size a := fun v11 k1_t2 v211 k1_hw20 k1_h4 => k1_hw20.2.2.2.2.2.2.2 k1_h4

def k1_off318 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_97 : BitVec 32 := 16#32
  let v212 : BitVec 32 := Scalar.muli arg17 c16_i32_97
  let c2_i32_98 : BitVec 32 := 2#32
  let v213 : BitVec 32 := Scalar.addi v212 c2_i32_98
  let v265 : Index := Scalar.indexCast v213
  let c112_121 : Index := 112#32
  ![v265.toNat, 112]
def k1_off319 (v271 : BitVec 32) : Fin 2 → Nat :=
  let v274 : Index := Scalar.indexCast v271
  let c0_124 : Index := 0#32
  ![v274.toNat, 0]

def k1_off320 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v276 : Index := Scalar.indexCast v273
  let c0_125 : Index := 0#32
  ![v276.toNat, 0]
def k1_off321 (v271 : BitVec 32) : Fin 2 → Nat :=
  let v281 : Index := Scalar.indexCast v271
  let c16_127 : Index := 16#32
  ![v281.toNat, 16]
def k1_off322 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v283 : Index := Scalar.indexCast v273
  let c16_128 : Index := 16#32
  ![v283.toNat, 16]
def k1_off323 (v271 : BitVec 32) : Fin 2 → Nat :=
  let v288 : Index := Scalar.indexCast v271
  let c32_130 : Index := 32#32
  ![v288.toNat, 32]
def k1_off324 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v290 : Index := Scalar.indexCast v273
  let c32_131 : Index := 32#32
  ![v290.toNat, 32]
def k1_off325 (v271 : BitVec 32) : Fin 2 → Nat :=
  let v295 : Index := Scalar.indexCast v271
  let c48_133 : Index := 48#32
  ![v295.toNat, 48]
def k1_off326 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v297 : Index := Scalar.indexCast v273
  let c48_134 : Index := 48#32
  ![v297.toNat, 48]
def k1_off327 (v271 : BitVec 32) : Fin 2 → Nat :=
  let v302 : Index := Scalar.indexCast v271
  let c64_136 : Index := 64#32
  ![v302.toNat, 64]
def k1_off328 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v304 : Index := Scalar.indexCast v273
  let c64_137 : Index := 64#32
  ![v304.toNat, 64]
def k1_off329 (v271 : BitVec 32) : Fin 2 → Nat :=
  let v309 : Index := Scalar.indexCast v271
  let c80_139 : Index := 80#32
  ![v309.toNat, 80]
def k1_off330 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v311 : Index := Scalar.indexCast v273
  let c80_140 : Index := 80#32
  ![v311.toNat, 80]
def k1_off331 (v271 : BitVec 32) : Fin 2 → Nat :=
  let v316 : Index := Scalar.indexCast v271
  let c96_142 : Index := 96#32
  ![v316.toNat, 96]
def k1_off332 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v318 : Index := Scalar.indexCast v273
  let c96_143 : Index := 96#32
  ![v318.toNat, 96]
def k1_off333 (v271 : BitVec 32) : Fin 2 → Nat :=
  let v323 : Index := Scalar.indexCast v271
  let c112_145 : Index := 112#32
  ![v323.toNat, 112]

def k1_chk21 (v11 : BitVec 32) (k1_t2 : Fin (k1_t2_loop v11).trips) (v271 : BitVec 32) : Prop :=
  (∀ (k1_h4 : k1_cond4 v11 k1_t2 = 1#1), ∀ a, (k1_off319 v271) a + S1x16.size a ≤ S321x128.size a) ∧
  (∀ (k1_h4 : k1_cond4 v11 k1_t2 = 1#1), ∀ a, (k1_off321 v271) a + S1x16.size a ≤ S321x128.size a) ∧
  (∀ (k1_h4 : k1_cond4 v11 k1_t2 = 1#1), ∀ a, (k1_off323 v271) a + S1x16.size a ≤ S321x128.size a) ∧
  (∀ (k1_h4 : k1_cond4 v11 k1_t2 = 1#1), ∀ a, (k1_off325 v271) a + S1x16.size a ≤ S321x128.size a) ∧
  (∀ (k1_h4 : k1_cond4 v11 k1_t2 = 1#1), ∀ a, (k1_off327 v271) a + S1x16.size a ≤ S321x128.size a) ∧
  (∀ (k1_h4 : k1_cond4 v11 k1_t2 = 1#1), ∀ a, (k1_off329 v271) a + S1x16.size a ≤ S321x128.size a) ∧
  (∀ (k1_h4 : k1_cond4 v11 k1_t2 = 1#1), ∀ a, (k1_off331 v271) a + S1x16.size a ≤ S321x128.size a) ∧
  (∀ (k1_h4 : k1_cond4 v11 k1_t2 = 1#1), ∀ a, (k1_off333 v271) a + S1x16.size a ≤ S321x128.size a)
theorem k1_off319_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off319 v271) a + S1x16.size a ≤ S321x128.size a := fun v11 k1_t2 v271 k1_hw21 k1_h4 => k1_hw21.1 k1_h4
theorem k1_off321_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off321 v271) a + S1x16.size a ≤ S321x128.size a := fun v11 k1_t2 v271 k1_hw21 k1_h4 => k1_hw21.2.1 k1_h4
theorem k1_off323_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off323 v271) a + S1x16.size a ≤ S321x128.size a := fun v11 k1_t2 v271 k1_hw21 k1_h4 => k1_hw21.2.2.1 k1_h4
theorem k1_off325_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off325 v271) a + S1x16.size a ≤ S321x128.size a := fun v11 k1_t2 v271 k1_hw21 k1_h4 => k1_hw21.2.2.2.1 k1_h4
theorem k1_off327_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off327 v271) a + S1x16.size a ≤ S321x128.size a := fun v11 k1_t2 v271 k1_hw21 k1_h4 => k1_hw21.2.2.2.2.1 k1_h4
theorem k1_off329_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off329 v271) a + S1x16.size a ≤ S321x128.size a := fun v11 k1_t2 v271 k1_hw21 k1_h4 => k1_hw21.2.2.2.2.2.1 k1_h4
theorem k1_off331_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off331 v271) a + S1x16.size a ≤ S321x128.size a := fun v11 k1_t2 v271 k1_hw21 k1_h4 => k1_hw21.2.2.2.2.2.2.1 k1_h4
theorem k1_off333_inb : ∀ (v11 : BitVec 32) (k1_t2 : Fin (k1_t2_loop v11).trips) (v271 : BitVec 32) (k1_hw21 : k1_chk21 v11 k1_t2 v271), ∀ (k1_h4 : k1_cond4 v11 k1_t2 = 1#1), ∀ a, (k1_off333 v271) a + S1x16.size a ≤ S321x128.size a := fun v11 k1_t2 v271 k1_hw21 k1_h4 => k1_hw21.2.2.2.2.2.2.2 k1_h4

def k1_off334 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_123 : BitVec 32 := 16#32
  let v272 : BitVec 32 := Scalar.muli arg17 c16_i32_123
  let c3_i32 : BitVec 32 := 3#32
  let v273 : BitVec 32 := Scalar.addi v272 c3_i32
  let v325 : Index := Scalar.indexCast v273
  let c112_146 : Index := 112#32
  ![v325.toNat, 112]
def k1_off335 (v331 : BitVec 32) : Fin 2 → Nat :=
  let v334 : Index := Scalar.indexCast v331
  let c0_149 : Index := 0#32
  ![v334.toNat, 0]

def k1_off336 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v336 : Index := Scalar.indexCast v333
  let c0_150 : Index := 0#32
  ![v336.toNat, 0]
def k1_off337 (v331 : BitVec 32) : Fin 2 → Nat :=
  let v341 : Index := Scalar.indexCast v331
  let c16_152 : Index := 16#32
  ![v341.toNat, 16]
def k1_off338 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v343 : Index := Scalar.indexCast v333
  let c16_153 : Index := 16#32
  ![v343.toNat, 16]
def k1_off339 (v331 : BitVec 32) : Fin 2 → Nat :=
  let v348 : Index := Scalar.indexCast v331
  let c32_155 : Index := 32#32
  ![v348.toNat, 32]
def k1_off340 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v350 : Index := Scalar.indexCast v333
  let c32_156 : Index := 32#32
  ![v350.toNat, 32]
def k1_off341 (v331 : BitVec 32) : Fin 2 → Nat :=
  let v355 : Index := Scalar.indexCast v331
  let c48_158 : Index := 48#32
  ![v355.toNat, 48]
def k1_off342 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v357 : Index := Scalar.indexCast v333
  let c48_159 : Index := 48#32
  ![v357.toNat, 48]
def k1_off343 (v331 : BitVec 32) : Fin 2 → Nat :=
  let v362 : Index := Scalar.indexCast v331
  let c64_161 : Index := 64#32
  ![v362.toNat, 64]
def k1_off344 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v364 : Index := Scalar.indexCast v333
  let c64_162 : Index := 64#32
  ![v364.toNat, 64]
def k1_off345 (v331 : BitVec 32) : Fin 2 → Nat :=
  let v369 : Index := Scalar.indexCast v331
  let c80_164 : Index := 80#32
  ![v369.toNat, 80]
def k1_off346 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v371 : Index := Scalar.indexCast v333
  let c80_165 : Index := 80#32
  ![v371.toNat, 80]
def k1_off347 (v331 : BitVec 32) : Fin 2 → Nat :=
  let v376 : Index := Scalar.indexCast v331
  let c96_167 : Index := 96#32
  ![v376.toNat, 96]
def k1_off348 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v378 : Index := Scalar.indexCast v333
  let c96_168 : Index := 96#32
  ![v378.toNat, 96]
def k1_off349 (v331 : BitVec 32) : Fin 2 → Nat :=
  let v383 : Index := Scalar.indexCast v331
  let c112_170 : Index := 112#32
  ![v383.toNat, 112]

def k1_chk22 (v11 : BitVec 32) (k1_t2 : Fin (k1_t2_loop v11).trips) (v331 : BitVec 32) : Prop :=
  (∀ (k1_h4 : k1_cond4 v11 k1_t2 = 1#1), ∀ a, (k1_off335 v331) a + S1x16.size a ≤ S321x128.size a) ∧
  (∀ (k1_h4 : k1_cond4 v11 k1_t2 = 1#1), ∀ a, (k1_off337 v331) a + S1x16.size a ≤ S321x128.size a) ∧
  (∀ (k1_h4 : k1_cond4 v11 k1_t2 = 1#1), ∀ a, (k1_off339 v331) a + S1x16.size a ≤ S321x128.size a) ∧
  (∀ (k1_h4 : k1_cond4 v11 k1_t2 = 1#1), ∀ a, (k1_off341 v331) a + S1x16.size a ≤ S321x128.size a) ∧
  (∀ (k1_h4 : k1_cond4 v11 k1_t2 = 1#1), ∀ a, (k1_off343 v331) a + S1x16.size a ≤ S321x128.size a) ∧
  (∀ (k1_h4 : k1_cond4 v11 k1_t2 = 1#1), ∀ a, (k1_off345 v331) a + S1x16.size a ≤ S321x128.size a) ∧
  (∀ (k1_h4 : k1_cond4 v11 k1_t2 = 1#1), ∀ a, (k1_off347 v331) a + S1x16.size a ≤ S321x128.size a) ∧
  (∀ (k1_h4 : k1_cond4 v11 k1_t2 = 1#1), ∀ a, (k1_off349 v331) a + S1x16.size a ≤ S321x128.size a)
theorem k1_off335_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off335 v331) a + S1x16.size a ≤ S321x128.size a := fun v11 k1_t2 v331 k1_hw22 k1_h4 => k1_hw22.1 k1_h4
theorem k1_off337_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off337 v331) a + S1x16.size a ≤ S321x128.size a := fun v11 k1_t2 v331 k1_hw22 k1_h4 => k1_hw22.2.1 k1_h4
theorem k1_off339_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off339 v331) a + S1x16.size a ≤ S321x128.size a := fun v11 k1_t2 v331 k1_hw22 k1_h4 => k1_hw22.2.2.1 k1_h4
theorem k1_off341_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off341 v331) a + S1x16.size a ≤ S321x128.size a := fun v11 k1_t2 v331 k1_hw22 k1_h4 => k1_hw22.2.2.2.1 k1_h4
theorem k1_off343_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off343 v331) a + S1x16.size a ≤ S321x128.size a := fun v11 k1_t2 v331 k1_hw22 k1_h4 => k1_hw22.2.2.2.2.1 k1_h4
theorem k1_off345_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off345 v331) a + S1x16.size a ≤ S321x128.size a := fun v11 k1_t2 v331 k1_hw22 k1_h4 => k1_hw22.2.2.2.2.2.1 k1_h4
theorem k1_off347_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off347 v331) a + S1x16.size a ≤ S321x128.size a := fun v11 k1_t2 v331 k1_hw22 k1_h4 => k1_hw22.2.2.2.2.2.2.1 k1_h4
theorem k1_off349_inb : ∀ (v11 : BitVec 32) (k1_t2 : Fin (k1_t2_loop v11).trips) (v331 : BitVec 32) (k1_hw22 : k1_chk22 v11 k1_t2 v331), ∀ (k1_h4 : k1_cond4 v11 k1_t2 = 1#1), ∀ a, (k1_off349 v331) a + S1x16.size a ≤ S321x128.size a := fun v11 k1_t2 v331 k1_hw22 k1_h4 => k1_hw22.2.2.2.2.2.2.2 k1_h4

def k1_off350 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_148 : BitVec 32 := 16#32
  let v332 : BitVec 32 := Scalar.muli arg17 c16_i32_148
  let c4_i32 : BitVec 32 := 4#32
  let v333 : BitVec 32 := Scalar.addi v332 c4_i32
  let v385 : Index := Scalar.indexCast v333
  let c112_171 : Index := 112#32
  ![v385.toNat, 112]
def k1_off351 (v391 : BitVec 32) : Fin 2 → Nat :=
  let v394 : Index := Scalar.indexCast v391
  let c0_174 : Index := 0#32
  ![v394.toNat, 0]

def k1_off352 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v396 : Index := Scalar.indexCast v393
  let c0_175 : Index := 0#32
  ![v396.toNat, 0]
def k1_off353 (v391 : BitVec 32) : Fin 2 → Nat :=
  let v401 : Index := Scalar.indexCast v391
  let c16_177 : Index := 16#32
  ![v401.toNat, 16]
def k1_off354 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v403 : Index := Scalar.indexCast v393
  let c16_178 : Index := 16#32
  ![v403.toNat, 16]
def k1_off355 (v391 : BitVec 32) : Fin 2 → Nat :=
  let v408 : Index := Scalar.indexCast v391
  let c32_180 : Index := 32#32
  ![v408.toNat, 32]
def k1_off356 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v410 : Index := Scalar.indexCast v393
  let c32_181 : Index := 32#32
  ![v410.toNat, 32]
def k1_off357 (v391 : BitVec 32) : Fin 2 → Nat :=
  let v415 : Index := Scalar.indexCast v391
  let c48_183 : Index := 48#32
  ![v415.toNat, 48]
def k1_off358 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v417 : Index := Scalar.indexCast v393
  let c48_184 : Index := 48#32
  ![v417.toNat, 48]
def k1_off359 (v391 : BitVec 32) : Fin 2 → Nat :=
  let v422 : Index := Scalar.indexCast v391
  let c64_186 : Index := 64#32
  ![v422.toNat, 64]
def k1_off360 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v424 : Index := Scalar.indexCast v393
  let c64_187 : Index := 64#32
  ![v424.toNat, 64]
def k1_off361 (v391 : BitVec 32) : Fin 2 → Nat :=
  let v429 : Index := Scalar.indexCast v391
  let c80_189 : Index := 80#32
  ![v429.toNat, 80]
def k1_off362 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v431 : Index := Scalar.indexCast v393
  let c80_190 : Index := 80#32
  ![v431.toNat, 80]
def k1_off363 (v391 : BitVec 32) : Fin 2 → Nat :=
  let v436 : Index := Scalar.indexCast v391
  let c96_192 : Index := 96#32
  ![v436.toNat, 96]
def k1_off364 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v438 : Index := Scalar.indexCast v393
  let c96_193 : Index := 96#32
  ![v438.toNat, 96]
def k1_off365 (v391 : BitVec 32) : Fin 2 → Nat :=
  let v443 : Index := Scalar.indexCast v391
  let c112_195 : Index := 112#32
  ![v443.toNat, 112]

def k1_chk23 (v11 : BitVec 32) (k1_t2 : Fin (k1_t2_loop v11).trips) (v391 : BitVec 32) : Prop :=
  (∀ (k1_h4 : k1_cond4 v11 k1_t2 = 1#1), ∀ a, (k1_off351 v391) a + S1x16.size a ≤ S321x128.size a) ∧
  (∀ (k1_h4 : k1_cond4 v11 k1_t2 = 1#1), ∀ a, (k1_off353 v391) a + S1x16.size a ≤ S321x128.size a) ∧
  (∀ (k1_h4 : k1_cond4 v11 k1_t2 = 1#1), ∀ a, (k1_off355 v391) a + S1x16.size a ≤ S321x128.size a) ∧
  (∀ (k1_h4 : k1_cond4 v11 k1_t2 = 1#1), ∀ a, (k1_off357 v391) a + S1x16.size a ≤ S321x128.size a) ∧
  (∀ (k1_h4 : k1_cond4 v11 k1_t2 = 1#1), ∀ a, (k1_off359 v391) a + S1x16.size a ≤ S321x128.size a) ∧
  (∀ (k1_h4 : k1_cond4 v11 k1_t2 = 1#1), ∀ a, (k1_off361 v391) a + S1x16.size a ≤ S321x128.size a) ∧
  (∀ (k1_h4 : k1_cond4 v11 k1_t2 = 1#1), ∀ a, (k1_off363 v391) a + S1x16.size a ≤ S321x128.size a) ∧
  (∀ (k1_h4 : k1_cond4 v11 k1_t2 = 1#1), ∀ a, (k1_off365 v391) a + S1x16.size a ≤ S321x128.size a)
theorem k1_off351_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off351 v391) a + S1x16.size a ≤ S321x128.size a := fun v11 k1_t2 v391 k1_hw23 k1_h4 => k1_hw23.1 k1_h4
theorem k1_off353_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off353 v391) a + S1x16.size a ≤ S321x128.size a := fun v11 k1_t2 v391 k1_hw23 k1_h4 => k1_hw23.2.1 k1_h4
theorem k1_off355_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off355 v391) a + S1x16.size a ≤ S321x128.size a := fun v11 k1_t2 v391 k1_hw23 k1_h4 => k1_hw23.2.2.1 k1_h4
theorem k1_off357_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off357 v391) a + S1x16.size a ≤ S321x128.size a := fun v11 k1_t2 v391 k1_hw23 k1_h4 => k1_hw23.2.2.2.1 k1_h4
theorem k1_off359_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off359 v391) a + S1x16.size a ≤ S321x128.size a := fun v11 k1_t2 v391 k1_hw23 k1_h4 => k1_hw23.2.2.2.2.1 k1_h4
theorem k1_off361_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off361 v391) a + S1x16.size a ≤ S321x128.size a := fun v11 k1_t2 v391 k1_hw23 k1_h4 => k1_hw23.2.2.2.2.2.1 k1_h4
theorem k1_off363_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off363 v391) a + S1x16.size a ≤ S321x128.size a := fun v11 k1_t2 v391 k1_hw23 k1_h4 => k1_hw23.2.2.2.2.2.2.1 k1_h4
theorem k1_off365_inb : ∀ (v11 : BitVec 32) (k1_t2 : Fin (k1_t2_loop v11).trips) (v391 : BitVec 32) (k1_hw23 : k1_chk23 v11 k1_t2 v391), ∀ (k1_h4 : k1_cond4 v11 k1_t2 = 1#1), ∀ a, (k1_off365 v391) a + S1x16.size a ≤ S321x128.size a := fun v11 k1_t2 v391 k1_hw23 k1_h4 => k1_hw23.2.2.2.2.2.2.2 k1_h4

def k1_off366 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_173 : BitVec 32 := 16#32
  let v392 : BitVec 32 := Scalar.muli arg17 c16_i32_173
  let c5_i32 : BitVec 32 := 5#32
  let v393 : BitVec 32 := Scalar.addi v392 c5_i32
  let v445 : Index := Scalar.indexCast v393
  let c112_196 : Index := 112#32
  ![v445.toNat, 112]
def k1_off367 (v451 : BitVec 32) : Fin 2 → Nat :=
  let v454 : Index := Scalar.indexCast v451
  let c0_199 : Index := 0#32
  ![v454.toNat, 0]

def k1_off368 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v456 : Index := Scalar.indexCast v453
  let c0_200 : Index := 0#32
  ![v456.toNat, 0]
def k1_off369 (v451 : BitVec 32) : Fin 2 → Nat :=
  let v461 : Index := Scalar.indexCast v451
  let c16_202 : Index := 16#32
  ![v461.toNat, 16]
def k1_off370 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v463 : Index := Scalar.indexCast v453
  let c16_203 : Index := 16#32
  ![v463.toNat, 16]
def k1_off371 (v451 : BitVec 32) : Fin 2 → Nat :=
  let v468 : Index := Scalar.indexCast v451
  let c32_205 : Index := 32#32
  ![v468.toNat, 32]
def k1_off372 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v470 : Index := Scalar.indexCast v453
  let c32_206 : Index := 32#32
  ![v470.toNat, 32]
def k1_off373 (v451 : BitVec 32) : Fin 2 → Nat :=
  let v475 : Index := Scalar.indexCast v451
  let c48_208 : Index := 48#32
  ![v475.toNat, 48]
def k1_off374 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v477 : Index := Scalar.indexCast v453
  let c48_209 : Index := 48#32
  ![v477.toNat, 48]
def k1_off375 (v451 : BitVec 32) : Fin 2 → Nat :=
  let v482 : Index := Scalar.indexCast v451
  let c64_211 : Index := 64#32
  ![v482.toNat, 64]
def k1_off376 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v484 : Index := Scalar.indexCast v453
  let c64_212 : Index := 64#32
  ![v484.toNat, 64]
def k1_off377 (v451 : BitVec 32) : Fin 2 → Nat :=
  let v489 : Index := Scalar.indexCast v451
  let c80_214 : Index := 80#32
  ![v489.toNat, 80]
def k1_off378 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v491 : Index := Scalar.indexCast v453
  let c80_215 : Index := 80#32
  ![v491.toNat, 80]
def k1_off379 (v451 : BitVec 32) : Fin 2 → Nat :=
  let v496 : Index := Scalar.indexCast v451
  let c96_217 : Index := 96#32
  ![v496.toNat, 96]
def k1_off380 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v498 : Index := Scalar.indexCast v453
  let c96_218 : Index := 96#32
  ![v498.toNat, 96]
def k1_off381 (v451 : BitVec 32) : Fin 2 → Nat :=
  let v503 : Index := Scalar.indexCast v451
  let c112_220 : Index := 112#32
  ![v503.toNat, 112]

def k1_chk24 (v11 : BitVec 32) (k1_t2 : Fin (k1_t2_loop v11).trips) (v451 : BitVec 32) : Prop :=
  (∀ (k1_h4 : k1_cond4 v11 k1_t2 = 1#1), ∀ a, (k1_off367 v451) a + S1x16.size a ≤ S321x128.size a) ∧
  (∀ (k1_h4 : k1_cond4 v11 k1_t2 = 1#1), ∀ a, (k1_off369 v451) a + S1x16.size a ≤ S321x128.size a) ∧
  (∀ (k1_h4 : k1_cond4 v11 k1_t2 = 1#1), ∀ a, (k1_off371 v451) a + S1x16.size a ≤ S321x128.size a) ∧
  (∀ (k1_h4 : k1_cond4 v11 k1_t2 = 1#1), ∀ a, (k1_off373 v451) a + S1x16.size a ≤ S321x128.size a) ∧
  (∀ (k1_h4 : k1_cond4 v11 k1_t2 = 1#1), ∀ a, (k1_off375 v451) a + S1x16.size a ≤ S321x128.size a) ∧
  (∀ (k1_h4 : k1_cond4 v11 k1_t2 = 1#1), ∀ a, (k1_off377 v451) a + S1x16.size a ≤ S321x128.size a) ∧
  (∀ (k1_h4 : k1_cond4 v11 k1_t2 = 1#1), ∀ a, (k1_off379 v451) a + S1x16.size a ≤ S321x128.size a) ∧
  (∀ (k1_h4 : k1_cond4 v11 k1_t2 = 1#1), ∀ a, (k1_off381 v451) a + S1x16.size a ≤ S321x128.size a)
theorem k1_off367_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off367 v451) a + S1x16.size a ≤ S321x128.size a := fun v11 k1_t2 v451 k1_hw24 k1_h4 => k1_hw24.1 k1_h4
theorem k1_off369_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off369 v451) a + S1x16.size a ≤ S321x128.size a := fun v11 k1_t2 v451 k1_hw24 k1_h4 => k1_hw24.2.1 k1_h4
theorem k1_off371_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off371 v451) a + S1x16.size a ≤ S321x128.size a := fun v11 k1_t2 v451 k1_hw24 k1_h4 => k1_hw24.2.2.1 k1_h4
theorem k1_off373_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off373 v451) a + S1x16.size a ≤ S321x128.size a := fun v11 k1_t2 v451 k1_hw24 k1_h4 => k1_hw24.2.2.2.1 k1_h4
theorem k1_off375_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off375 v451) a + S1x16.size a ≤ S321x128.size a := fun v11 k1_t2 v451 k1_hw24 k1_h4 => k1_hw24.2.2.2.2.1 k1_h4
theorem k1_off377_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off377 v451) a + S1x16.size a ≤ S321x128.size a := fun v11 k1_t2 v451 k1_hw24 k1_h4 => k1_hw24.2.2.2.2.2.1 k1_h4
theorem k1_off379_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off379 v451) a + S1x16.size a ≤ S321x128.size a := fun v11 k1_t2 v451 k1_hw24 k1_h4 => k1_hw24.2.2.2.2.2.2.1 k1_h4
theorem k1_off381_inb : ∀ (v11 : BitVec 32) (k1_t2 : Fin (k1_t2_loop v11).trips) (v451 : BitVec 32) (k1_hw24 : k1_chk24 v11 k1_t2 v451), ∀ (k1_h4 : k1_cond4 v11 k1_t2 = 1#1), ∀ a, (k1_off381 v451) a + S1x16.size a ≤ S321x128.size a := fun v11 k1_t2 v451 k1_hw24 k1_h4 => k1_hw24.2.2.2.2.2.2.2 k1_h4

def k1_off382 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_198 : BitVec 32 := 16#32
  let v452 : BitVec 32 := Scalar.muli arg17 c16_i32_198
  let c6_i32 : BitVec 32 := 6#32
  let v453 : BitVec 32 := Scalar.addi v452 c6_i32
  let v505 : Index := Scalar.indexCast v453
  let c112_221 : Index := 112#32
  ![v505.toNat, 112]
def k1_off383 (v511 : BitVec 32) : Fin 2 → Nat :=
  let v514 : Index := Scalar.indexCast v511
  let c0_224 : Index := 0#32
  ![v514.toNat, 0]

def k1_off384 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v516 : Index := Scalar.indexCast v513
  let c0_225 : Index := 0#32
  ![v516.toNat, 0]
def k1_off385 (v511 : BitVec 32) : Fin 2 → Nat :=
  let v521 : Index := Scalar.indexCast v511
  let c16_227 : Index := 16#32
  ![v521.toNat, 16]
def k1_off386 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v523 : Index := Scalar.indexCast v513
  let c16_228 : Index := 16#32
  ![v523.toNat, 16]
def k1_off387 (v511 : BitVec 32) : Fin 2 → Nat :=
  let v528 : Index := Scalar.indexCast v511
  let c32_230 : Index := 32#32
  ![v528.toNat, 32]
def k1_off388 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v530 : Index := Scalar.indexCast v513
  let c32_231 : Index := 32#32
  ![v530.toNat, 32]
def k1_off389 (v511 : BitVec 32) : Fin 2 → Nat :=
  let v535 : Index := Scalar.indexCast v511
  let c48_233 : Index := 48#32
  ![v535.toNat, 48]
def k1_off390 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v537 : Index := Scalar.indexCast v513
  let c48_234 : Index := 48#32
  ![v537.toNat, 48]
def k1_off391 (v511 : BitVec 32) : Fin 2 → Nat :=
  let v542 : Index := Scalar.indexCast v511
  let c64_236 : Index := 64#32
  ![v542.toNat, 64]
def k1_off392 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v544 : Index := Scalar.indexCast v513
  let c64_237 : Index := 64#32
  ![v544.toNat, 64]
def k1_off393 (v511 : BitVec 32) : Fin 2 → Nat :=
  let v549 : Index := Scalar.indexCast v511
  let c80_239 : Index := 80#32
  ![v549.toNat, 80]
def k1_off394 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v551 : Index := Scalar.indexCast v513
  let c80_240 : Index := 80#32
  ![v551.toNat, 80]
def k1_off395 (v511 : BitVec 32) : Fin 2 → Nat :=
  let v556 : Index := Scalar.indexCast v511
  let c96_242 : Index := 96#32
  ![v556.toNat, 96]
def k1_off396 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v558 : Index := Scalar.indexCast v513
  let c96_243 : Index := 96#32
  ![v558.toNat, 96]
def k1_off397 (v511 : BitVec 32) : Fin 2 → Nat :=
  let v563 : Index := Scalar.indexCast v511
  let c112_245 : Index := 112#32
  ![v563.toNat, 112]

def k1_chk25 (v11 : BitVec 32) (k1_t2 : Fin (k1_t2_loop v11).trips) (v511 : BitVec 32) : Prop :=
  (∀ (k1_h4 : k1_cond4 v11 k1_t2 = 1#1), ∀ a, (k1_off383 v511) a + S1x16.size a ≤ S321x128.size a) ∧
  (∀ (k1_h4 : k1_cond4 v11 k1_t2 = 1#1), ∀ a, (k1_off385 v511) a + S1x16.size a ≤ S321x128.size a) ∧
  (∀ (k1_h4 : k1_cond4 v11 k1_t2 = 1#1), ∀ a, (k1_off387 v511) a + S1x16.size a ≤ S321x128.size a) ∧
  (∀ (k1_h4 : k1_cond4 v11 k1_t2 = 1#1), ∀ a, (k1_off389 v511) a + S1x16.size a ≤ S321x128.size a) ∧
  (∀ (k1_h4 : k1_cond4 v11 k1_t2 = 1#1), ∀ a, (k1_off391 v511) a + S1x16.size a ≤ S321x128.size a) ∧
  (∀ (k1_h4 : k1_cond4 v11 k1_t2 = 1#1), ∀ a, (k1_off393 v511) a + S1x16.size a ≤ S321x128.size a) ∧
  (∀ (k1_h4 : k1_cond4 v11 k1_t2 = 1#1), ∀ a, (k1_off395 v511) a + S1x16.size a ≤ S321x128.size a) ∧
  (∀ (k1_h4 : k1_cond4 v11 k1_t2 = 1#1), ∀ a, (k1_off397 v511) a + S1x16.size a ≤ S321x128.size a)
theorem k1_off383_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off383 v511) a + S1x16.size a ≤ S321x128.size a := fun v11 k1_t2 v511 k1_hw25 k1_h4 => k1_hw25.1 k1_h4
theorem k1_off385_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off385 v511) a + S1x16.size a ≤ S321x128.size a := fun v11 k1_t2 v511 k1_hw25 k1_h4 => k1_hw25.2.1 k1_h4
theorem k1_off387_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off387 v511) a + S1x16.size a ≤ S321x128.size a := fun v11 k1_t2 v511 k1_hw25 k1_h4 => k1_hw25.2.2.1 k1_h4
theorem k1_off389_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off389 v511) a + S1x16.size a ≤ S321x128.size a := fun v11 k1_t2 v511 k1_hw25 k1_h4 => k1_hw25.2.2.2.1 k1_h4
theorem k1_off391_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off391 v511) a + S1x16.size a ≤ S321x128.size a := fun v11 k1_t2 v511 k1_hw25 k1_h4 => k1_hw25.2.2.2.2.1 k1_h4
theorem k1_off393_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off393 v511) a + S1x16.size a ≤ S321x128.size a := fun v11 k1_t2 v511 k1_hw25 k1_h4 => k1_hw25.2.2.2.2.2.1 k1_h4
theorem k1_off395_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off395 v511) a + S1x16.size a ≤ S321x128.size a := fun v11 k1_t2 v511 k1_hw25 k1_h4 => k1_hw25.2.2.2.2.2.2.1 k1_h4
theorem k1_off397_inb : ∀ (v11 : BitVec 32) (k1_t2 : Fin (k1_t2_loop v11).trips) (v511 : BitVec 32) (k1_hw25 : k1_chk25 v11 k1_t2 v511), ∀ (k1_h4 : k1_cond4 v11 k1_t2 = 1#1), ∀ a, (k1_off397 v511) a + S1x16.size a ≤ S321x128.size a := fun v11 k1_t2 v511 k1_hw25 k1_h4 => k1_hw25.2.2.2.2.2.2.2 k1_h4

def k1_off398 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_223 : BitVec 32 := 16#32
  let v512 : BitVec 32 := Scalar.muli arg17 c16_i32_223
  let c7_i32 : BitVec 32 := 7#32
  let v513 : BitVec 32 := Scalar.addi v512 c7_i32
  let v565 : Index := Scalar.indexCast v513
  let c112_246 : Index := 112#32
  ![v565.toNat, 112]
def k1_off399 (v571 : BitVec 32) : Fin 2 → Nat :=
  let v574 : Index := Scalar.indexCast v571
  let c0_250 : Index := 0#32
  ![v574.toNat, 0]

def k1_off400 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v576 : Index := Scalar.indexCast v573
  let c0_251 : Index := 0#32
  ![v576.toNat, 0]
def k1_off401 (v571 : BitVec 32) : Fin 2 → Nat :=
  let v581 : Index := Scalar.indexCast v571
  let c16_253 : Index := 16#32
  ![v581.toNat, 16]
def k1_off402 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v583 : Index := Scalar.indexCast v573
  let c16_254 : Index := 16#32
  ![v583.toNat, 16]
def k1_off403 (v571 : BitVec 32) : Fin 2 → Nat :=
  let v588 : Index := Scalar.indexCast v571
  let c32_256 : Index := 32#32
  ![v588.toNat, 32]
def k1_off404 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v590 : Index := Scalar.indexCast v573
  let c32_257 : Index := 32#32
  ![v590.toNat, 32]
def k1_off405 (v571 : BitVec 32) : Fin 2 → Nat :=
  let v595 : Index := Scalar.indexCast v571
  let c48_259 : Index := 48#32
  ![v595.toNat, 48]
def k1_off406 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v597 : Index := Scalar.indexCast v573
  let c48_260 : Index := 48#32
  ![v597.toNat, 48]
def k1_off407 (v571 : BitVec 32) : Fin 2 → Nat :=
  let v602 : Index := Scalar.indexCast v571
  let c64_262 : Index := 64#32
  ![v602.toNat, 64]
def k1_off408 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v604 : Index := Scalar.indexCast v573
  let c64_263 : Index := 64#32
  ![v604.toNat, 64]
def k1_off409 (v571 : BitVec 32) : Fin 2 → Nat :=
  let v609 : Index := Scalar.indexCast v571
  let c80_265 : Index := 80#32
  ![v609.toNat, 80]
def k1_off410 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v611 : Index := Scalar.indexCast v573
  let c80_266 : Index := 80#32
  ![v611.toNat, 80]
def k1_off411 (v571 : BitVec 32) : Fin 2 → Nat :=
  let v616 : Index := Scalar.indexCast v571
  let c96_268 : Index := 96#32
  ![v616.toNat, 96]
def k1_off412 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v618 : Index := Scalar.indexCast v573
  let c96_269 : Index := 96#32
  ![v618.toNat, 96]
def k1_off413 (v571 : BitVec 32) : Fin 2 → Nat :=
  let v623 : Index := Scalar.indexCast v571
  let c112_271 : Index := 112#32
  ![v623.toNat, 112]

def k1_chk26 (v11 : BitVec 32) (k1_t2 : Fin (k1_t2_loop v11).trips) (v571 : BitVec 32) : Prop :=
  (∀ (k1_h4 : k1_cond4 v11 k1_t2 = 1#1), ∀ a, (k1_off399 v571) a + S1x16.size a ≤ S321x128.size a) ∧
  (∀ (k1_h4 : k1_cond4 v11 k1_t2 = 1#1), ∀ a, (k1_off401 v571) a + S1x16.size a ≤ S321x128.size a) ∧
  (∀ (k1_h4 : k1_cond4 v11 k1_t2 = 1#1), ∀ a, (k1_off403 v571) a + S1x16.size a ≤ S321x128.size a) ∧
  (∀ (k1_h4 : k1_cond4 v11 k1_t2 = 1#1), ∀ a, (k1_off405 v571) a + S1x16.size a ≤ S321x128.size a) ∧
  (∀ (k1_h4 : k1_cond4 v11 k1_t2 = 1#1), ∀ a, (k1_off407 v571) a + S1x16.size a ≤ S321x128.size a) ∧
  (∀ (k1_h4 : k1_cond4 v11 k1_t2 = 1#1), ∀ a, (k1_off409 v571) a + S1x16.size a ≤ S321x128.size a) ∧
  (∀ (k1_h4 : k1_cond4 v11 k1_t2 = 1#1), ∀ a, (k1_off411 v571) a + S1x16.size a ≤ S321x128.size a) ∧
  (∀ (k1_h4 : k1_cond4 v11 k1_t2 = 1#1), ∀ a, (k1_off413 v571) a + S1x16.size a ≤ S321x128.size a)
theorem k1_off399_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off399 v571) a + S1x16.size a ≤ S321x128.size a := fun v11 k1_t2 v571 k1_hw26 k1_h4 => k1_hw26.1 k1_h4
theorem k1_off401_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off401 v571) a + S1x16.size a ≤ S321x128.size a := fun v11 k1_t2 v571 k1_hw26 k1_h4 => k1_hw26.2.1 k1_h4
theorem k1_off403_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off403 v571) a + S1x16.size a ≤ S321x128.size a := fun v11 k1_t2 v571 k1_hw26 k1_h4 => k1_hw26.2.2.1 k1_h4
theorem k1_off405_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off405 v571) a + S1x16.size a ≤ S321x128.size a := fun v11 k1_t2 v571 k1_hw26 k1_h4 => k1_hw26.2.2.2.1 k1_h4
theorem k1_off407_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off407 v571) a + S1x16.size a ≤ S321x128.size a := fun v11 k1_t2 v571 k1_hw26 k1_h4 => k1_hw26.2.2.2.2.1 k1_h4
theorem k1_off409_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off409 v571) a + S1x16.size a ≤ S321x128.size a := fun v11 k1_t2 v571 k1_hw26 k1_h4 => k1_hw26.2.2.2.2.2.1 k1_h4
theorem k1_off411_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off411 v571) a + S1x16.size a ≤ S321x128.size a := fun v11 k1_t2 v571 k1_hw26 k1_h4 => k1_hw26.2.2.2.2.2.2.1 k1_h4
theorem k1_off413_inb : ∀ (v11 : BitVec 32) (k1_t2 : Fin (k1_t2_loop v11).trips) (v571 : BitVec 32) (k1_hw26 : k1_chk26 v11 k1_t2 v571), ∀ (k1_h4 : k1_cond4 v11 k1_t2 = 1#1), ∀ a, (k1_off413 v571) a + S1x16.size a ≤ S321x128.size a := fun v11 k1_t2 v571 k1_hw26 k1_h4 => k1_hw26.2.2.2.2.2.2.2 k1_h4

def k1_off414 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_248 : BitVec 32 := 16#32
  let v572 : BitVec 32 := Scalar.muli arg17 c16_i32_248
  let c8_i32_249 : BitVec 32 := 8#32
  let v573 : BitVec 32 := Scalar.addi v572 c8_i32_249
  let v625 : Index := Scalar.indexCast v573
  let c112_272 : Index := 112#32
  ![v625.toNat, 112]
def k1_off415 (v631 : BitVec 32) : Fin 2 → Nat :=
  let v634 : Index := Scalar.indexCast v631
  let c0_275 : Index := 0#32
  ![v634.toNat, 0]

def k1_off416 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v636 : Index := Scalar.indexCast v633
  let c0_276 : Index := 0#32
  ![v636.toNat, 0]
def k1_off417 (v631 : BitVec 32) : Fin 2 → Nat :=
  let v641 : Index := Scalar.indexCast v631
  let c16_278 : Index := 16#32
  ![v641.toNat, 16]
def k1_off418 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v643 : Index := Scalar.indexCast v633
  let c16_279 : Index := 16#32
  ![v643.toNat, 16]
def k1_off419 (v631 : BitVec 32) : Fin 2 → Nat :=
  let v648 : Index := Scalar.indexCast v631
  let c32_281 : Index := 32#32
  ![v648.toNat, 32]
def k1_off420 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v650 : Index := Scalar.indexCast v633
  let c32_282 : Index := 32#32
  ![v650.toNat, 32]
def k1_off421 (v631 : BitVec 32) : Fin 2 → Nat :=
  let v655 : Index := Scalar.indexCast v631
  let c48_284 : Index := 48#32
  ![v655.toNat, 48]
def k1_off422 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v657 : Index := Scalar.indexCast v633
  let c48_285 : Index := 48#32
  ![v657.toNat, 48]
def k1_off423 (v631 : BitVec 32) : Fin 2 → Nat :=
  let v662 : Index := Scalar.indexCast v631
  let c64_287 : Index := 64#32
  ![v662.toNat, 64]
def k1_off424 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v664 : Index := Scalar.indexCast v633
  let c64_288 : Index := 64#32
  ![v664.toNat, 64]
def k1_off425 (v631 : BitVec 32) : Fin 2 → Nat :=
  let v669 : Index := Scalar.indexCast v631
  let c80_290 : Index := 80#32
  ![v669.toNat, 80]
def k1_off426 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v671 : Index := Scalar.indexCast v633
  let c80_291 : Index := 80#32
  ![v671.toNat, 80]
def k1_off427 (v631 : BitVec 32) : Fin 2 → Nat :=
  let v676 : Index := Scalar.indexCast v631
  let c96_293 : Index := 96#32
  ![v676.toNat, 96]
def k1_off428 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v678 : Index := Scalar.indexCast v633
  let c96_294 : Index := 96#32
  ![v678.toNat, 96]
def k1_off429 (v631 : BitVec 32) : Fin 2 → Nat :=
  let v683 : Index := Scalar.indexCast v631
  let c112_296 : Index := 112#32
  ![v683.toNat, 112]

def k1_chk27 (v11 : BitVec 32) (k1_t2 : Fin (k1_t2_loop v11).trips) (v631 : BitVec 32) : Prop :=
  (∀ (k1_h4 : k1_cond4 v11 k1_t2 = 1#1), ∀ a, (k1_off415 v631) a + S1x16.size a ≤ S321x128.size a) ∧
  (∀ (k1_h4 : k1_cond4 v11 k1_t2 = 1#1), ∀ a, (k1_off417 v631) a + S1x16.size a ≤ S321x128.size a) ∧
  (∀ (k1_h4 : k1_cond4 v11 k1_t2 = 1#1), ∀ a, (k1_off419 v631) a + S1x16.size a ≤ S321x128.size a) ∧
  (∀ (k1_h4 : k1_cond4 v11 k1_t2 = 1#1), ∀ a, (k1_off421 v631) a + S1x16.size a ≤ S321x128.size a) ∧
  (∀ (k1_h4 : k1_cond4 v11 k1_t2 = 1#1), ∀ a, (k1_off423 v631) a + S1x16.size a ≤ S321x128.size a) ∧
  (∀ (k1_h4 : k1_cond4 v11 k1_t2 = 1#1), ∀ a, (k1_off425 v631) a + S1x16.size a ≤ S321x128.size a) ∧
  (∀ (k1_h4 : k1_cond4 v11 k1_t2 = 1#1), ∀ a, (k1_off427 v631) a + S1x16.size a ≤ S321x128.size a) ∧
  (∀ (k1_h4 : k1_cond4 v11 k1_t2 = 1#1), ∀ a, (k1_off429 v631) a + S1x16.size a ≤ S321x128.size a)
theorem k1_off415_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off415 v631) a + S1x16.size a ≤ S321x128.size a := fun v11 k1_t2 v631 k1_hw27 k1_h4 => k1_hw27.1 k1_h4
theorem k1_off417_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off417 v631) a + S1x16.size a ≤ S321x128.size a := fun v11 k1_t2 v631 k1_hw27 k1_h4 => k1_hw27.2.1 k1_h4
theorem k1_off419_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off419 v631) a + S1x16.size a ≤ S321x128.size a := fun v11 k1_t2 v631 k1_hw27 k1_h4 => k1_hw27.2.2.1 k1_h4
theorem k1_off421_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off421 v631) a + S1x16.size a ≤ S321x128.size a := fun v11 k1_t2 v631 k1_hw27 k1_h4 => k1_hw27.2.2.2.1 k1_h4
theorem k1_off423_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off423 v631) a + S1x16.size a ≤ S321x128.size a := fun v11 k1_t2 v631 k1_hw27 k1_h4 => k1_hw27.2.2.2.2.1 k1_h4
theorem k1_off425_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off425 v631) a + S1x16.size a ≤ S321x128.size a := fun v11 k1_t2 v631 k1_hw27 k1_h4 => k1_hw27.2.2.2.2.2.1 k1_h4
theorem k1_off427_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off427 v631) a + S1x16.size a ≤ S321x128.size a := fun v11 k1_t2 v631 k1_hw27 k1_h4 => k1_hw27.2.2.2.2.2.2.1 k1_h4
theorem k1_off429_inb : ∀ (v11 : BitVec 32) (k1_t2 : Fin (k1_t2_loop v11).trips) (v631 : BitVec 32) (k1_hw27 : k1_chk27 v11 k1_t2 v631), ∀ (k1_h4 : k1_cond4 v11 k1_t2 = 1#1), ∀ a, (k1_off429 v631) a + S1x16.size a ≤ S321x128.size a := fun v11 k1_t2 v631 k1_hw27 k1_h4 => k1_hw27.2.2.2.2.2.2.2 k1_h4

def k1_off430 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_274 : BitVec 32 := 16#32
  let v632 : BitVec 32 := Scalar.muli arg17 c16_i32_274
  let c9_i32 : BitVec 32 := 9#32
  let v633 : BitVec 32 := Scalar.addi v632 c9_i32
  let v685 : Index := Scalar.indexCast v633
  let c112_297 : Index := 112#32
  ![v685.toNat, 112]
def k1_off431 (v691 : BitVec 32) : Fin 2 → Nat :=
  let v694 : Index := Scalar.indexCast v691
  let c0_300 : Index := 0#32
  ![v694.toNat, 0]

def k1_off432 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v696 : Index := Scalar.indexCast v693
  let c0_301 : Index := 0#32
  ![v696.toNat, 0]
def k1_off433 (v691 : BitVec 32) : Fin 2 → Nat :=
  let v701 : Index := Scalar.indexCast v691
  let c16_303 : Index := 16#32
  ![v701.toNat, 16]
def k1_off434 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v703 : Index := Scalar.indexCast v693
  let c16_304 : Index := 16#32
  ![v703.toNat, 16]
def k1_off435 (v691 : BitVec 32) : Fin 2 → Nat :=
  let v708 : Index := Scalar.indexCast v691
  let c32_306 : Index := 32#32
  ![v708.toNat, 32]
def k1_off436 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v710 : Index := Scalar.indexCast v693
  let c32_307 : Index := 32#32
  ![v710.toNat, 32]
def k1_off437 (v691 : BitVec 32) : Fin 2 → Nat :=
  let v715 : Index := Scalar.indexCast v691
  let c48_309 : Index := 48#32
  ![v715.toNat, 48]
def k1_off438 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v717 : Index := Scalar.indexCast v693
  let c48_310 : Index := 48#32
  ![v717.toNat, 48]
def k1_off439 (v691 : BitVec 32) : Fin 2 → Nat :=
  let v722 : Index := Scalar.indexCast v691
  let c64_312 : Index := 64#32
  ![v722.toNat, 64]
def k1_off440 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v724 : Index := Scalar.indexCast v693
  let c64_313 : Index := 64#32
  ![v724.toNat, 64]
def k1_off441 (v691 : BitVec 32) : Fin 2 → Nat :=
  let v729 : Index := Scalar.indexCast v691
  let c80_315 : Index := 80#32
  ![v729.toNat, 80]
def k1_off442 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v731 : Index := Scalar.indexCast v693
  let c80_316 : Index := 80#32
  ![v731.toNat, 80]
def k1_off443 (v691 : BitVec 32) : Fin 2 → Nat :=
  let v736 : Index := Scalar.indexCast v691
  let c96_318 : Index := 96#32
  ![v736.toNat, 96]
def k1_off444 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v738 : Index := Scalar.indexCast v693
  let c96_319 : Index := 96#32
  ![v738.toNat, 96]
def k1_off445 (v691 : BitVec 32) : Fin 2 → Nat :=
  let v743 : Index := Scalar.indexCast v691
  let c112_321 : Index := 112#32
  ![v743.toNat, 112]

def k1_chk28 (v11 : BitVec 32) (k1_t2 : Fin (k1_t2_loop v11).trips) (v691 : BitVec 32) : Prop :=
  (∀ (k1_h4 : k1_cond4 v11 k1_t2 = 1#1), ∀ a, (k1_off431 v691) a + S1x16.size a ≤ S321x128.size a) ∧
  (∀ (k1_h4 : k1_cond4 v11 k1_t2 = 1#1), ∀ a, (k1_off433 v691) a + S1x16.size a ≤ S321x128.size a) ∧
  (∀ (k1_h4 : k1_cond4 v11 k1_t2 = 1#1), ∀ a, (k1_off435 v691) a + S1x16.size a ≤ S321x128.size a) ∧
  (∀ (k1_h4 : k1_cond4 v11 k1_t2 = 1#1), ∀ a, (k1_off437 v691) a + S1x16.size a ≤ S321x128.size a) ∧
  (∀ (k1_h4 : k1_cond4 v11 k1_t2 = 1#1), ∀ a, (k1_off439 v691) a + S1x16.size a ≤ S321x128.size a) ∧
  (∀ (k1_h4 : k1_cond4 v11 k1_t2 = 1#1), ∀ a, (k1_off441 v691) a + S1x16.size a ≤ S321x128.size a) ∧
  (∀ (k1_h4 : k1_cond4 v11 k1_t2 = 1#1), ∀ a, (k1_off443 v691) a + S1x16.size a ≤ S321x128.size a) ∧
  (∀ (k1_h4 : k1_cond4 v11 k1_t2 = 1#1), ∀ a, (k1_off445 v691) a + S1x16.size a ≤ S321x128.size a)
theorem k1_off431_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off431 v691) a + S1x16.size a ≤ S321x128.size a := fun v11 k1_t2 v691 k1_hw28 k1_h4 => k1_hw28.1 k1_h4
theorem k1_off433_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off433 v691) a + S1x16.size a ≤ S321x128.size a := fun v11 k1_t2 v691 k1_hw28 k1_h4 => k1_hw28.2.1 k1_h4
theorem k1_off435_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off435 v691) a + S1x16.size a ≤ S321x128.size a := fun v11 k1_t2 v691 k1_hw28 k1_h4 => k1_hw28.2.2.1 k1_h4
theorem k1_off437_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off437 v691) a + S1x16.size a ≤ S321x128.size a := fun v11 k1_t2 v691 k1_hw28 k1_h4 => k1_hw28.2.2.2.1 k1_h4
theorem k1_off439_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off439 v691) a + S1x16.size a ≤ S321x128.size a := fun v11 k1_t2 v691 k1_hw28 k1_h4 => k1_hw28.2.2.2.2.1 k1_h4
theorem k1_off441_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off441 v691) a + S1x16.size a ≤ S321x128.size a := fun v11 k1_t2 v691 k1_hw28 k1_h4 => k1_hw28.2.2.2.2.2.1 k1_h4
theorem k1_off443_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off443 v691) a + S1x16.size a ≤ S321x128.size a := fun v11 k1_t2 v691 k1_hw28 k1_h4 => k1_hw28.2.2.2.2.2.2.1 k1_h4
theorem k1_off445_inb : ∀ (v11 : BitVec 32) (k1_t2 : Fin (k1_t2_loop v11).trips) (v691 : BitVec 32) (k1_hw28 : k1_chk28 v11 k1_t2 v691), ∀ (k1_h4 : k1_cond4 v11 k1_t2 = 1#1), ∀ a, (k1_off445 v691) a + S1x16.size a ≤ S321x128.size a := fun v11 k1_t2 v691 k1_hw28 k1_h4 => k1_hw28.2.2.2.2.2.2.2 k1_h4

def k1_off446 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_299 : BitVec 32 := 16#32
  let v692 : BitVec 32 := Scalar.muli arg17 c16_i32_299
  let c10_i32 : BitVec 32 := 10#32
  let v693 : BitVec 32 := Scalar.addi v692 c10_i32
  let v745 : Index := Scalar.indexCast v693
  let c112_322 : Index := 112#32
  ![v745.toNat, 112]
def k1_off447 (v751 : BitVec 32) : Fin 2 → Nat :=
  let v754 : Index := Scalar.indexCast v751
  let c0_325 : Index := 0#32
  ![v754.toNat, 0]

def k1_off448 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v756 : Index := Scalar.indexCast v753
  let c0_326 : Index := 0#32
  ![v756.toNat, 0]
def k1_off449 (v751 : BitVec 32) : Fin 2 → Nat :=
  let v761 : Index := Scalar.indexCast v751
  let c16_328 : Index := 16#32
  ![v761.toNat, 16]
def k1_off450 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v763 : Index := Scalar.indexCast v753
  let c16_329 : Index := 16#32
  ![v763.toNat, 16]
def k1_off451 (v751 : BitVec 32) : Fin 2 → Nat :=
  let v768 : Index := Scalar.indexCast v751
  let c32_331 : Index := 32#32
  ![v768.toNat, 32]
def k1_off452 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v770 : Index := Scalar.indexCast v753
  let c32_332 : Index := 32#32
  ![v770.toNat, 32]
def k1_off453 (v751 : BitVec 32) : Fin 2 → Nat :=
  let v775 : Index := Scalar.indexCast v751
  let c48_334 : Index := 48#32
  ![v775.toNat, 48]
def k1_off454 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v777 : Index := Scalar.indexCast v753
  let c48_335 : Index := 48#32
  ![v777.toNat, 48]
def k1_off455 (v751 : BitVec 32) : Fin 2 → Nat :=
  let v782 : Index := Scalar.indexCast v751
  let c64_337 : Index := 64#32
  ![v782.toNat, 64]
def k1_off456 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v784 : Index := Scalar.indexCast v753
  let c64_338 : Index := 64#32
  ![v784.toNat, 64]
def k1_off457 (v751 : BitVec 32) : Fin 2 → Nat :=
  let v789 : Index := Scalar.indexCast v751
  let c80_340 : Index := 80#32
  ![v789.toNat, 80]
def k1_off458 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v791 : Index := Scalar.indexCast v753
  let c80_341 : Index := 80#32
  ![v791.toNat, 80]
def k1_off459 (v751 : BitVec 32) : Fin 2 → Nat :=
  let v796 : Index := Scalar.indexCast v751
  let c96_343 : Index := 96#32
  ![v796.toNat, 96]
def k1_off460 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v798 : Index := Scalar.indexCast v753
  let c96_344 : Index := 96#32
  ![v798.toNat, 96]
def k1_off461 (v751 : BitVec 32) : Fin 2 → Nat :=
  let v803 : Index := Scalar.indexCast v751
  let c112_346 : Index := 112#32
  ![v803.toNat, 112]

def k1_chk29 (v11 : BitVec 32) (k1_t2 : Fin (k1_t2_loop v11).trips) (v751 : BitVec 32) : Prop :=
  (∀ (k1_h4 : k1_cond4 v11 k1_t2 = 1#1), ∀ a, (k1_off447 v751) a + S1x16.size a ≤ S321x128.size a) ∧
  (∀ (k1_h4 : k1_cond4 v11 k1_t2 = 1#1), ∀ a, (k1_off449 v751) a + S1x16.size a ≤ S321x128.size a) ∧
  (∀ (k1_h4 : k1_cond4 v11 k1_t2 = 1#1), ∀ a, (k1_off451 v751) a + S1x16.size a ≤ S321x128.size a) ∧
  (∀ (k1_h4 : k1_cond4 v11 k1_t2 = 1#1), ∀ a, (k1_off453 v751) a + S1x16.size a ≤ S321x128.size a) ∧
  (∀ (k1_h4 : k1_cond4 v11 k1_t2 = 1#1), ∀ a, (k1_off455 v751) a + S1x16.size a ≤ S321x128.size a) ∧
  (∀ (k1_h4 : k1_cond4 v11 k1_t2 = 1#1), ∀ a, (k1_off457 v751) a + S1x16.size a ≤ S321x128.size a) ∧
  (∀ (k1_h4 : k1_cond4 v11 k1_t2 = 1#1), ∀ a, (k1_off459 v751) a + S1x16.size a ≤ S321x128.size a) ∧
  (∀ (k1_h4 : k1_cond4 v11 k1_t2 = 1#1), ∀ a, (k1_off461 v751) a + S1x16.size a ≤ S321x128.size a)
theorem k1_off447_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off447 v751) a + S1x16.size a ≤ S321x128.size a := fun v11 k1_t2 v751 k1_hw29 k1_h4 => k1_hw29.1 k1_h4
theorem k1_off449_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off449 v751) a + S1x16.size a ≤ S321x128.size a := fun v11 k1_t2 v751 k1_hw29 k1_h4 => k1_hw29.2.1 k1_h4
theorem k1_off451_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off451 v751) a + S1x16.size a ≤ S321x128.size a := fun v11 k1_t2 v751 k1_hw29 k1_h4 => k1_hw29.2.2.1 k1_h4
theorem k1_off453_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off453 v751) a + S1x16.size a ≤ S321x128.size a := fun v11 k1_t2 v751 k1_hw29 k1_h4 => k1_hw29.2.2.2.1 k1_h4
theorem k1_off455_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off455 v751) a + S1x16.size a ≤ S321x128.size a := fun v11 k1_t2 v751 k1_hw29 k1_h4 => k1_hw29.2.2.2.2.1 k1_h4
theorem k1_off457_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off457 v751) a + S1x16.size a ≤ S321x128.size a := fun v11 k1_t2 v751 k1_hw29 k1_h4 => k1_hw29.2.2.2.2.2.1 k1_h4
theorem k1_off459_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off459 v751) a + S1x16.size a ≤ S321x128.size a := fun v11 k1_t2 v751 k1_hw29 k1_h4 => k1_hw29.2.2.2.2.2.2.1 k1_h4
theorem k1_off461_inb : ∀ (v11 : BitVec 32) (k1_t2 : Fin (k1_t2_loop v11).trips) (v751 : BitVec 32) (k1_hw29 : k1_chk29 v11 k1_t2 v751), ∀ (k1_h4 : k1_cond4 v11 k1_t2 = 1#1), ∀ a, (k1_off461 v751) a + S1x16.size a ≤ S321x128.size a := fun v11 k1_t2 v751 k1_hw29 k1_h4 => k1_hw29.2.2.2.2.2.2.2 k1_h4

def k1_off462 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_324 : BitVec 32 := 16#32
  let v752 : BitVec 32 := Scalar.muli arg17 c16_i32_324
  let c11_i32 : BitVec 32 := 11#32
  let v753 : BitVec 32 := Scalar.addi v752 c11_i32
  let v805 : Index := Scalar.indexCast v753
  let c112_347 : Index := 112#32
  ![v805.toNat, 112]
def k1_off463 (v811 : BitVec 32) : Fin 2 → Nat :=
  let v814 : Index := Scalar.indexCast v811
  let c0_350 : Index := 0#32
  ![v814.toNat, 0]

def k1_off464 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v816 : Index := Scalar.indexCast v813
  let c0_351 : Index := 0#32
  ![v816.toNat, 0]
def k1_off465 (v811 : BitVec 32) : Fin 2 → Nat :=
  let v821 : Index := Scalar.indexCast v811
  let c16_353 : Index := 16#32
  ![v821.toNat, 16]
def k1_off466 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v823 : Index := Scalar.indexCast v813
  let c16_354 : Index := 16#32
  ![v823.toNat, 16]
def k1_off467 (v811 : BitVec 32) : Fin 2 → Nat :=
  let v828 : Index := Scalar.indexCast v811
  let c32_356 : Index := 32#32
  ![v828.toNat, 32]
def k1_off468 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v830 : Index := Scalar.indexCast v813
  let c32_357 : Index := 32#32
  ![v830.toNat, 32]
def k1_off469 (v811 : BitVec 32) : Fin 2 → Nat :=
  let v835 : Index := Scalar.indexCast v811
  let c48_359 : Index := 48#32
  ![v835.toNat, 48]
def k1_off470 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v837 : Index := Scalar.indexCast v813
  let c48_360 : Index := 48#32
  ![v837.toNat, 48]
def k1_off471 (v811 : BitVec 32) : Fin 2 → Nat :=
  let v842 : Index := Scalar.indexCast v811
  let c64_362 : Index := 64#32
  ![v842.toNat, 64]
def k1_off472 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v844 : Index := Scalar.indexCast v813
  let c64_363 : Index := 64#32
  ![v844.toNat, 64]
def k1_off473 (v811 : BitVec 32) : Fin 2 → Nat :=
  let v849 : Index := Scalar.indexCast v811
  let c80_365 : Index := 80#32
  ![v849.toNat, 80]
def k1_off474 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v851 : Index := Scalar.indexCast v813
  let c80_366 : Index := 80#32
  ![v851.toNat, 80]
def k1_off475 (v811 : BitVec 32) : Fin 2 → Nat :=
  let v856 : Index := Scalar.indexCast v811
  let c96_368 : Index := 96#32
  ![v856.toNat, 96]
def k1_off476 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v858 : Index := Scalar.indexCast v813
  let c96_369 : Index := 96#32
  ![v858.toNat, 96]
def k1_off477 (v811 : BitVec 32) : Fin 2 → Nat :=
  let v863 : Index := Scalar.indexCast v811
  let c112_371 : Index := 112#32
  ![v863.toNat, 112]

def k1_chk30 (v11 : BitVec 32) (k1_t2 : Fin (k1_t2_loop v11).trips) (v811 : BitVec 32) : Prop :=
  (∀ (k1_h4 : k1_cond4 v11 k1_t2 = 1#1), ∀ a, (k1_off463 v811) a + S1x16.size a ≤ S321x128.size a) ∧
  (∀ (k1_h4 : k1_cond4 v11 k1_t2 = 1#1), ∀ a, (k1_off465 v811) a + S1x16.size a ≤ S321x128.size a) ∧
  (∀ (k1_h4 : k1_cond4 v11 k1_t2 = 1#1), ∀ a, (k1_off467 v811) a + S1x16.size a ≤ S321x128.size a) ∧
  (∀ (k1_h4 : k1_cond4 v11 k1_t2 = 1#1), ∀ a, (k1_off469 v811) a + S1x16.size a ≤ S321x128.size a) ∧
  (∀ (k1_h4 : k1_cond4 v11 k1_t2 = 1#1), ∀ a, (k1_off471 v811) a + S1x16.size a ≤ S321x128.size a) ∧
  (∀ (k1_h4 : k1_cond4 v11 k1_t2 = 1#1), ∀ a, (k1_off473 v811) a + S1x16.size a ≤ S321x128.size a) ∧
  (∀ (k1_h4 : k1_cond4 v11 k1_t2 = 1#1), ∀ a, (k1_off475 v811) a + S1x16.size a ≤ S321x128.size a) ∧
  (∀ (k1_h4 : k1_cond4 v11 k1_t2 = 1#1), ∀ a, (k1_off477 v811) a + S1x16.size a ≤ S321x128.size a)
theorem k1_off463_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off463 v811) a + S1x16.size a ≤ S321x128.size a := fun v11 k1_t2 v811 k1_hw30 k1_h4 => k1_hw30.1 k1_h4
theorem k1_off465_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off465 v811) a + S1x16.size a ≤ S321x128.size a := fun v11 k1_t2 v811 k1_hw30 k1_h4 => k1_hw30.2.1 k1_h4
theorem k1_off467_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off467 v811) a + S1x16.size a ≤ S321x128.size a := fun v11 k1_t2 v811 k1_hw30 k1_h4 => k1_hw30.2.2.1 k1_h4
theorem k1_off469_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off469 v811) a + S1x16.size a ≤ S321x128.size a := fun v11 k1_t2 v811 k1_hw30 k1_h4 => k1_hw30.2.2.2.1 k1_h4
theorem k1_off471_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off471 v811) a + S1x16.size a ≤ S321x128.size a := fun v11 k1_t2 v811 k1_hw30 k1_h4 => k1_hw30.2.2.2.2.1 k1_h4
theorem k1_off473_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off473 v811) a + S1x16.size a ≤ S321x128.size a := fun v11 k1_t2 v811 k1_hw30 k1_h4 => k1_hw30.2.2.2.2.2.1 k1_h4
theorem k1_off475_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off475 v811) a + S1x16.size a ≤ S321x128.size a := fun v11 k1_t2 v811 k1_hw30 k1_h4 => k1_hw30.2.2.2.2.2.2.1 k1_h4
theorem k1_off477_inb : ∀ (v11 : BitVec 32) (k1_t2 : Fin (k1_t2_loop v11).trips) (v811 : BitVec 32) (k1_hw30 : k1_chk30 v11 k1_t2 v811), ∀ (k1_h4 : k1_cond4 v11 k1_t2 = 1#1), ∀ a, (k1_off477 v811) a + S1x16.size a ≤ S321x128.size a := fun v11 k1_t2 v811 k1_hw30 k1_h4 => k1_hw30.2.2.2.2.2.2.2 k1_h4

def k1_off478 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_349 : BitVec 32 := 16#32
  let v812 : BitVec 32 := Scalar.muli arg17 c16_i32_349
  let c12_i32 : BitVec 32 := 12#32
  let v813 : BitVec 32 := Scalar.addi v812 c12_i32
  let v865 : Index := Scalar.indexCast v813
  let c112_372 : Index := 112#32
  ![v865.toNat, 112]
def k1_off479 (v871 : BitVec 32) : Fin 2 → Nat :=
  let v874 : Index := Scalar.indexCast v871
  let c0_375 : Index := 0#32
  ![v874.toNat, 0]

def k1_off480 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v876 : Index := Scalar.indexCast v873
  let c0_376 : Index := 0#32
  ![v876.toNat, 0]
def k1_off481 (v871 : BitVec 32) : Fin 2 → Nat :=
  let v881 : Index := Scalar.indexCast v871
  let c16_378 : Index := 16#32
  ![v881.toNat, 16]
def k1_off482 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v883 : Index := Scalar.indexCast v873
  let c16_379 : Index := 16#32
  ![v883.toNat, 16]
def k1_off483 (v871 : BitVec 32) : Fin 2 → Nat :=
  let v888 : Index := Scalar.indexCast v871
  let c32_381 : Index := 32#32
  ![v888.toNat, 32]
def k1_off484 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v890 : Index := Scalar.indexCast v873
  let c32_382 : Index := 32#32
  ![v890.toNat, 32]
def k1_off485 (v871 : BitVec 32) : Fin 2 → Nat :=
  let v895 : Index := Scalar.indexCast v871
  let c48_384 : Index := 48#32
  ![v895.toNat, 48]
def k1_off486 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v897 : Index := Scalar.indexCast v873
  let c48_385 : Index := 48#32
  ![v897.toNat, 48]
def k1_off487 (v871 : BitVec 32) : Fin 2 → Nat :=
  let v902 : Index := Scalar.indexCast v871
  let c64_387 : Index := 64#32
  ![v902.toNat, 64]
def k1_off488 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v904 : Index := Scalar.indexCast v873
  let c64_388 : Index := 64#32
  ![v904.toNat, 64]
def k1_off489 (v871 : BitVec 32) : Fin 2 → Nat :=
  let v909 : Index := Scalar.indexCast v871
  let c80_390 : Index := 80#32
  ![v909.toNat, 80]
def k1_off490 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v911 : Index := Scalar.indexCast v873
  let c80_391 : Index := 80#32
  ![v911.toNat, 80]
def k1_off491 (v871 : BitVec 32) : Fin 2 → Nat :=
  let v916 : Index := Scalar.indexCast v871
  let c96_393 : Index := 96#32
  ![v916.toNat, 96]
def k1_off492 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v918 : Index := Scalar.indexCast v873
  let c96_394 : Index := 96#32
  ![v918.toNat, 96]
def k1_off493 (v871 : BitVec 32) : Fin 2 → Nat :=
  let v923 : Index := Scalar.indexCast v871
  let c112_396 : Index := 112#32
  ![v923.toNat, 112]

def k1_chk31 (v11 : BitVec 32) (k1_t2 : Fin (k1_t2_loop v11).trips) (v871 : BitVec 32) : Prop :=
  (∀ (k1_h4 : k1_cond4 v11 k1_t2 = 1#1), ∀ a, (k1_off479 v871) a + S1x16.size a ≤ S321x128.size a) ∧
  (∀ (k1_h4 : k1_cond4 v11 k1_t2 = 1#1), ∀ a, (k1_off481 v871) a + S1x16.size a ≤ S321x128.size a) ∧
  (∀ (k1_h4 : k1_cond4 v11 k1_t2 = 1#1), ∀ a, (k1_off483 v871) a + S1x16.size a ≤ S321x128.size a) ∧
  (∀ (k1_h4 : k1_cond4 v11 k1_t2 = 1#1), ∀ a, (k1_off485 v871) a + S1x16.size a ≤ S321x128.size a) ∧
  (∀ (k1_h4 : k1_cond4 v11 k1_t2 = 1#1), ∀ a, (k1_off487 v871) a + S1x16.size a ≤ S321x128.size a) ∧
  (∀ (k1_h4 : k1_cond4 v11 k1_t2 = 1#1), ∀ a, (k1_off489 v871) a + S1x16.size a ≤ S321x128.size a) ∧
  (∀ (k1_h4 : k1_cond4 v11 k1_t2 = 1#1), ∀ a, (k1_off491 v871) a + S1x16.size a ≤ S321x128.size a) ∧
  (∀ (k1_h4 : k1_cond4 v11 k1_t2 = 1#1), ∀ a, (k1_off493 v871) a + S1x16.size a ≤ S321x128.size a)
theorem k1_off479_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off479 v871) a + S1x16.size a ≤ S321x128.size a := fun v11 k1_t2 v871 k1_hw31 k1_h4 => k1_hw31.1 k1_h4
theorem k1_off481_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off481 v871) a + S1x16.size a ≤ S321x128.size a := fun v11 k1_t2 v871 k1_hw31 k1_h4 => k1_hw31.2.1 k1_h4
theorem k1_off483_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off483 v871) a + S1x16.size a ≤ S321x128.size a := fun v11 k1_t2 v871 k1_hw31 k1_h4 => k1_hw31.2.2.1 k1_h4
theorem k1_off485_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off485 v871) a + S1x16.size a ≤ S321x128.size a := fun v11 k1_t2 v871 k1_hw31 k1_h4 => k1_hw31.2.2.2.1 k1_h4
theorem k1_off487_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off487 v871) a + S1x16.size a ≤ S321x128.size a := fun v11 k1_t2 v871 k1_hw31 k1_h4 => k1_hw31.2.2.2.2.1 k1_h4
theorem k1_off489_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off489 v871) a + S1x16.size a ≤ S321x128.size a := fun v11 k1_t2 v871 k1_hw31 k1_h4 => k1_hw31.2.2.2.2.2.1 k1_h4
theorem k1_off491_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off491 v871) a + S1x16.size a ≤ S321x128.size a := fun v11 k1_t2 v871 k1_hw31 k1_h4 => k1_hw31.2.2.2.2.2.2.1 k1_h4
theorem k1_off493_inb : ∀ (v11 : BitVec 32) (k1_t2 : Fin (k1_t2_loop v11).trips) (v871 : BitVec 32) (k1_hw31 : k1_chk31 v11 k1_t2 v871), ∀ (k1_h4 : k1_cond4 v11 k1_t2 = 1#1), ∀ a, (k1_off493 v871) a + S1x16.size a ≤ S321x128.size a := fun v11 k1_t2 v871 k1_hw31 k1_h4 => k1_hw31.2.2.2.2.2.2.2 k1_h4

def k1_off494 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_374 : BitVec 32 := 16#32
  let v872 : BitVec 32 := Scalar.muli arg17 c16_i32_374
  let c13_i32 : BitVec 32 := 13#32
  let v873 : BitVec 32 := Scalar.addi v872 c13_i32
  let v925 : Index := Scalar.indexCast v873
  let c112_397 : Index := 112#32
  ![v925.toNat, 112]
def k1_off495 (v931 : BitVec 32) : Fin 2 → Nat :=
  let v934 : Index := Scalar.indexCast v931
  let c0_400 : Index := 0#32
  ![v934.toNat, 0]

def k1_off496 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v936 : Index := Scalar.indexCast v933
  let c0_401 : Index := 0#32
  ![v936.toNat, 0]
def k1_off497 (v931 : BitVec 32) : Fin 2 → Nat :=
  let v941 : Index := Scalar.indexCast v931
  let c16_403 : Index := 16#32
  ![v941.toNat, 16]
def k1_off498 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v943 : Index := Scalar.indexCast v933
  let c16_404 : Index := 16#32
  ![v943.toNat, 16]
def k1_off499 (v931 : BitVec 32) : Fin 2 → Nat :=
  let v948 : Index := Scalar.indexCast v931
  let c32_406 : Index := 32#32
  ![v948.toNat, 32]
def k1_off500 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v950 : Index := Scalar.indexCast v933
  let c32_407 : Index := 32#32
  ![v950.toNat, 32]
def k1_off501 (v931 : BitVec 32) : Fin 2 → Nat :=
  let v955 : Index := Scalar.indexCast v931
  let c48_409 : Index := 48#32
  ![v955.toNat, 48]
def k1_off502 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v957 : Index := Scalar.indexCast v933
  let c48_410 : Index := 48#32
  ![v957.toNat, 48]
def k1_off503 (v931 : BitVec 32) : Fin 2 → Nat :=
  let v962 : Index := Scalar.indexCast v931
  let c64_412 : Index := 64#32
  ![v962.toNat, 64]
def k1_off504 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v964 : Index := Scalar.indexCast v933
  let c64_413 : Index := 64#32
  ![v964.toNat, 64]
def k1_off505 (v931 : BitVec 32) : Fin 2 → Nat :=
  let v969 : Index := Scalar.indexCast v931
  let c80_415 : Index := 80#32
  ![v969.toNat, 80]
def k1_off506 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v971 : Index := Scalar.indexCast v933
  let c80_416 : Index := 80#32
  ![v971.toNat, 80]
def k1_off507 (v931 : BitVec 32) : Fin 2 → Nat :=
  let v976 : Index := Scalar.indexCast v931
  let c96_418 : Index := 96#32
  ![v976.toNat, 96]
def k1_off508 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v978 : Index := Scalar.indexCast v933
  let c96_419 : Index := 96#32
  ![v978.toNat, 96]
def k1_off509 (v931 : BitVec 32) : Fin 2 → Nat :=
  let v983 : Index := Scalar.indexCast v931
  let c112_421 : Index := 112#32
  ![v983.toNat, 112]

def k1_chk32 (v11 : BitVec 32) (k1_t2 : Fin (k1_t2_loop v11).trips) (v931 : BitVec 32) : Prop :=
  (∀ (k1_h4 : k1_cond4 v11 k1_t2 = 1#1), ∀ a, (k1_off495 v931) a + S1x16.size a ≤ S321x128.size a) ∧
  (∀ (k1_h4 : k1_cond4 v11 k1_t2 = 1#1), ∀ a, (k1_off497 v931) a + S1x16.size a ≤ S321x128.size a) ∧
  (∀ (k1_h4 : k1_cond4 v11 k1_t2 = 1#1), ∀ a, (k1_off499 v931) a + S1x16.size a ≤ S321x128.size a) ∧
  (∀ (k1_h4 : k1_cond4 v11 k1_t2 = 1#1), ∀ a, (k1_off501 v931) a + S1x16.size a ≤ S321x128.size a) ∧
  (∀ (k1_h4 : k1_cond4 v11 k1_t2 = 1#1), ∀ a, (k1_off503 v931) a + S1x16.size a ≤ S321x128.size a) ∧
  (∀ (k1_h4 : k1_cond4 v11 k1_t2 = 1#1), ∀ a, (k1_off505 v931) a + S1x16.size a ≤ S321x128.size a) ∧
  (∀ (k1_h4 : k1_cond4 v11 k1_t2 = 1#1), ∀ a, (k1_off507 v931) a + S1x16.size a ≤ S321x128.size a) ∧
  (∀ (k1_h4 : k1_cond4 v11 k1_t2 = 1#1), ∀ a, (k1_off509 v931) a + S1x16.size a ≤ S321x128.size a)
theorem k1_off495_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off495 v931) a + S1x16.size a ≤ S321x128.size a := fun v11 k1_t2 v931 k1_hw32 k1_h4 => k1_hw32.1 k1_h4
theorem k1_off497_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off497 v931) a + S1x16.size a ≤ S321x128.size a := fun v11 k1_t2 v931 k1_hw32 k1_h4 => k1_hw32.2.1 k1_h4
theorem k1_off499_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off499 v931) a + S1x16.size a ≤ S321x128.size a := fun v11 k1_t2 v931 k1_hw32 k1_h4 => k1_hw32.2.2.1 k1_h4
theorem k1_off501_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off501 v931) a + S1x16.size a ≤ S321x128.size a := fun v11 k1_t2 v931 k1_hw32 k1_h4 => k1_hw32.2.2.2.1 k1_h4
theorem k1_off503_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off503 v931) a + S1x16.size a ≤ S321x128.size a := fun v11 k1_t2 v931 k1_hw32 k1_h4 => k1_hw32.2.2.2.2.1 k1_h4
theorem k1_off505_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off505 v931) a + S1x16.size a ≤ S321x128.size a := fun v11 k1_t2 v931 k1_hw32 k1_h4 => k1_hw32.2.2.2.2.2.1 k1_h4
theorem k1_off507_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off507 v931) a + S1x16.size a ≤ S321x128.size a := fun v11 k1_t2 v931 k1_hw32 k1_h4 => k1_hw32.2.2.2.2.2.2.1 k1_h4
theorem k1_off509_inb : ∀ (v11 : BitVec 32) (k1_t2 : Fin (k1_t2_loop v11).trips) (v931 : BitVec 32) (k1_hw32 : k1_chk32 v11 k1_t2 v931), ∀ (k1_h4 : k1_cond4 v11 k1_t2 = 1#1), ∀ a, (k1_off509 v931) a + S1x16.size a ≤ S321x128.size a := fun v11 k1_t2 v931 k1_hw32 k1_h4 => k1_hw32.2.2.2.2.2.2.2 k1_h4

def k1_off510 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_399 : BitVec 32 := 16#32
  let v932 : BitVec 32 := Scalar.muli arg17 c16_i32_399
  let c14_i32 : BitVec 32 := 14#32
  let v933 : BitVec 32 := Scalar.addi v932 c14_i32
  let v985 : Index := Scalar.indexCast v933
  let c112_422 : Index := 112#32
  ![v985.toNat, 112]
def k1_off511 (v991 : BitVec 32) : Fin 2 → Nat :=
  let v994 : Index := Scalar.indexCast v991
  let c0_425 : Index := 0#32
  ![v994.toNat, 0]

def k1_off512 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v996 : Index := Scalar.indexCast v993
  let c0_426 : Index := 0#32
  ![v996.toNat, 0]
def k1_off513 (v991 : BitVec 32) : Fin 2 → Nat :=
  let v1001 : Index := Scalar.indexCast v991
  let c16_428 : Index := 16#32
  ![v1001.toNat, 16]
def k1_off514 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v1003 : Index := Scalar.indexCast v993
  let c16_429 : Index := 16#32
  ![v1003.toNat, 16]
def k1_off515 (v991 : BitVec 32) : Fin 2 → Nat :=
  let v1008 : Index := Scalar.indexCast v991
  let c32_431 : Index := 32#32
  ![v1008.toNat, 32]
def k1_off516 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v1010 : Index := Scalar.indexCast v993
  let c32_432 : Index := 32#32
  ![v1010.toNat, 32]
def k1_off517 (v991 : BitVec 32) : Fin 2 → Nat :=
  let v1015 : Index := Scalar.indexCast v991
  let c48_434 : Index := 48#32
  ![v1015.toNat, 48]
def k1_off518 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v1017 : Index := Scalar.indexCast v993
  let c48_435 : Index := 48#32
  ![v1017.toNat, 48]
def k1_off519 (v991 : BitVec 32) : Fin 2 → Nat :=
  let v1022 : Index := Scalar.indexCast v991
  let c64_437 : Index := 64#32
  ![v1022.toNat, 64]
def k1_off520 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v1024 : Index := Scalar.indexCast v993
  let c64_438 : Index := 64#32
  ![v1024.toNat, 64]
def k1_off521 (v991 : BitVec 32) : Fin 2 → Nat :=
  let v1029 : Index := Scalar.indexCast v991
  let c80_440 : Index := 80#32
  ![v1029.toNat, 80]
def k1_off522 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v1031 : Index := Scalar.indexCast v993
  let c80_441 : Index := 80#32
  ![v1031.toNat, 80]
def k1_off523 (v991 : BitVec 32) : Fin 2 → Nat :=
  let v1036 : Index := Scalar.indexCast v991
  let c96_443 : Index := 96#32
  ![v1036.toNat, 96]
def k1_off524 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v1038 : Index := Scalar.indexCast v993
  let c96_444 : Index := 96#32
  ![v1038.toNat, 96]
def k1_off525 (v991 : BitVec 32) : Fin 2 → Nat :=
  let v1043 : Index := Scalar.indexCast v991
  let c112_446 : Index := 112#32
  ![v1043.toNat, 112]

def k1_chk33 (v11 : BitVec 32) (k1_t2 : Fin (k1_t2_loop v11).trips) (v991 : BitVec 32) : Prop :=
  (∀ (k1_h4 : k1_cond4 v11 k1_t2 = 1#1), ∀ a, (k1_off511 v991) a + S1x16.size a ≤ S321x128.size a) ∧
  (∀ (k1_h4 : k1_cond4 v11 k1_t2 = 1#1), ∀ a, (k1_off513 v991) a + S1x16.size a ≤ S321x128.size a) ∧
  (∀ (k1_h4 : k1_cond4 v11 k1_t2 = 1#1), ∀ a, (k1_off515 v991) a + S1x16.size a ≤ S321x128.size a) ∧
  (∀ (k1_h4 : k1_cond4 v11 k1_t2 = 1#1), ∀ a, (k1_off517 v991) a + S1x16.size a ≤ S321x128.size a) ∧
  (∀ (k1_h4 : k1_cond4 v11 k1_t2 = 1#1), ∀ a, (k1_off519 v991) a + S1x16.size a ≤ S321x128.size a) ∧
  (∀ (k1_h4 : k1_cond4 v11 k1_t2 = 1#1), ∀ a, (k1_off521 v991) a + S1x16.size a ≤ S321x128.size a) ∧
  (∀ (k1_h4 : k1_cond4 v11 k1_t2 = 1#1), ∀ a, (k1_off523 v991) a + S1x16.size a ≤ S321x128.size a) ∧
  (∀ (k1_h4 : k1_cond4 v11 k1_t2 = 1#1), ∀ a, (k1_off525 v991) a + S1x16.size a ≤ S321x128.size a)
theorem k1_off511_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off511 v991) a + S1x16.size a ≤ S321x128.size a := fun v11 k1_t2 v991 k1_hw33 k1_h4 => k1_hw33.1 k1_h4
theorem k1_off513_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off513 v991) a + S1x16.size a ≤ S321x128.size a := fun v11 k1_t2 v991 k1_hw33 k1_h4 => k1_hw33.2.1 k1_h4
theorem k1_off515_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off515 v991) a + S1x16.size a ≤ S321x128.size a := fun v11 k1_t2 v991 k1_hw33 k1_h4 => k1_hw33.2.2.1 k1_h4
theorem k1_off517_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off517 v991) a + S1x16.size a ≤ S321x128.size a := fun v11 k1_t2 v991 k1_hw33 k1_h4 => k1_hw33.2.2.2.1 k1_h4
theorem k1_off519_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off519 v991) a + S1x16.size a ≤ S321x128.size a := fun v11 k1_t2 v991 k1_hw33 k1_h4 => k1_hw33.2.2.2.2.1 k1_h4
theorem k1_off521_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off521 v991) a + S1x16.size a ≤ S321x128.size a := fun v11 k1_t2 v991 k1_hw33 k1_h4 => k1_hw33.2.2.2.2.2.1 k1_h4
theorem k1_off523_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off523 v991) a + S1x16.size a ≤ S321x128.size a := fun v11 k1_t2 v991 k1_hw33 k1_h4 => k1_hw33.2.2.2.2.2.2.1 k1_h4
theorem k1_off525_inb : ∀ (v11 : BitVec 32) (k1_t2 : Fin (k1_t2_loop v11).trips) (v991 : BitVec 32) (k1_hw33 : k1_chk33 v11 k1_t2 v991), ∀ (k1_h4 : k1_cond4 v11 k1_t2 = 1#1), ∀ a, (k1_off525 v991) a + S1x16.size a ≤ S321x128.size a := fun v11 k1_t2 v991 k1_hw33 k1_h4 => k1_hw33.2.2.2.2.2.2.2 k1_h4

def k1_off526 (k1_t4 : Fin k1_t4_loop.trips) : Fin 2 → Nat :=
  let c0_i32_48 : BitVec 32 := 0#32
  let c1_i32_49 : BitVec 32 := 1#32
  let arg17 : BitVec 32 := Scf.iv c0_i32_48 c1_i32_49 k1_t4
  let c16_i32_424 : BitVec 32 := 16#32
  let v992 : BitVec 32 := Scalar.muli arg17 c16_i32_424
  let c15_i32 : BitVec 32 := 15#32
  let v993 : BitVec 32 := Scalar.addi v992 c15_i32
  let v1045 : Index := Scalar.indexCast v993
  let c112_447 : Index := 112#32
  ![v1045.toNat, 112]
@[reducible] def k1_t5_loop (v11 : BitVec 32) : Scf.Loop 32 :=
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let v53 : BitVec 32 := Scalar.addi c0_i32_21 v52
  let c1_i32_25 : BitVec 32 := 1#32
  ⟨v56, v53, c1_i32_25⟩
def k1_off527 (v11 : BitVec 32) (k1_t5 : Fin (k1_t5_loop v11).trips) : Fin 1 → Nat :=
  let c2_i32_34 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v67 : BitVec 32 := Scalar.muli c2_i32_34 arg15
  let c0_i32_35 : BitVec 32 := 0#32
  let v68 : BitVec 32 := Scalar.addi v67 c0_i32_35
  let c1_i32_51 : BitVec 32 := 1#32
  let v86 : BitVec 32 := Scalar.addi v68 c1_i32_51
  let c128_i32_52 : BitVec 32 := 128#32
  let v87 : BitVec 32 := Scalar.muli v86 c128_i32_52
  ![v87.toNat]
def k1_cond6 (v11 : BitVec 32) (k1_t5 : Fin (k1_t5_loop v11).trips) : BitVec 1 :=
  let c2_i32_34 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v67 : BitVec 32 := Scalar.muli c2_i32_34 arg15
  let c0_i32_35 : BitVec 32 := 0#32
  let v68 : BitVec 32 := Scalar.addi v67 c0_i32_35
  let v69 : BitVec 1 := Scalar.cmpi .slt v68 v30
  let v70 : BitVec 32 := Scalar.extui v69
  let c0_i32_36 : BitVec 32 := 0#32
  let v71 : BitVec 1 := Scalar.cmpi .ne v70 c0_i32_36
  v71

def k1_cond7 (v11 : BitVec 32) (k1_t5 : Fin (k1_t5_loop v11).trips) : BitVec 1 :=
  let c2_i32_34 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v67 : BitVec 32 := Scalar.muli c2_i32_34 arg15
  let c0_i32_35 : BitVec 32 := 0#32
  let v68 : BitVec 32 := Scalar.addi v67 c0_i32_35
  let c1_i32_44 : BitVec 32 := 1#32
  let v79 : BitVec 32 := Scalar.addi v68 c1_i32_44
  let v80 : BitVec 1 := Scalar.cmpi .slt v79 v30
  let v81 : BitVec 32 := Scalar.extui v80
  let c0_i32_45 : BitVec 32 := 0#32
  let v82 : BitVec 1 := Scalar.cmpi .ne v81 c0_i32_45
  v82

@[reducible] def k1_t6_loop : Scf.Loop 32 :=
  let c0_i32_48 : BitVec 32 := 0#32
  let c8_i32 : BitVec 32 := 8#32
  let v84 : BitVec 32 := Scalar.addi c0_i32_48 c8_i32
  let c1_i32_49 : BitVec 32 := 1#32
  ⟨c0_i32_48, v84, c1_i32_49⟩
def k1_off528 (v11 : BitVec 32) (k1_t5 : Fin (k1_t5_loop v11).trips) (k1_t6 : Fin k1_t6_loop.trips) : Fin 1 → Nat :=
  let c2_i32_34 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v67 : BitVec 32 := Scalar.muli c2_i32_34 arg15
  let c0_i32_35 : BitVec 32 := 0#32
  let v68 : BitVec 32 := Scalar.addi v67 c0_i32_35
  let c128_i32_46 : BitVec 32 := 128#32
  let v83 : BitVec 32 := Scalar.muli v68 c128_i32_46
  let c0_i32_48 : BitVec 32 := 0#32
  let c1_i32_49 : BitVec 32 := 1#32
  let arg17 : BitVec 32 := Scf.iv c0_i32_48 c1_i32_49 k1_t6
  let c16_i32_51 : BitVec 32 := 16#32
  let v86 : BitVec 32 := Scalar.muli arg17 c16_i32_51
  let v87 : BitVec 32 := Scalar.addi v83 v86
  let v88 : Index := Scalar.indexCast v87
  ![v88.toNat]
def k1_off529 (v91 : BitVec 32) : Fin 2 → Nat :=
  let v94 : Index := Scalar.indexCast v91
  let c0_54 : Index := 0#32
  ![v94.toNat, 0]

def k1_off530 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v96 : Index := Scalar.indexCast v93
  let c0_55 : Index := 0#32
  ![v96.toNat, 0]
def k1_off531 (v91 : BitVec 32) : Fin 2 → Nat :=
  let v101 : Index := Scalar.indexCast v91
  let c16 : Index := 16#32
  ![v101.toNat, 16]
def k1_off532 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v103 : Index := Scalar.indexCast v93
  let c16_57 : Index := 16#32
  ![v103.toNat, 16]
def k1_off533 (v91 : BitVec 32) : Fin 2 → Nat :=
  let v108 : Index := Scalar.indexCast v91
  let c32 : Index := 32#32
  ![v108.toNat, 32]
def k1_off534 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v110 : Index := Scalar.indexCast v93
  let c32_59 : Index := 32#32
  ![v110.toNat, 32]
def k1_off535 (v91 : BitVec 32) : Fin 2 → Nat :=
  let v115 : Index := Scalar.indexCast v91
  let c48 : Index := 48#32
  ![v115.toNat, 48]
def k1_off536 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v117 : Index := Scalar.indexCast v93
  let c48_61 : Index := 48#32
  ![v117.toNat, 48]
def k1_off537 (v91 : BitVec 32) : Fin 2 → Nat :=
  let v122 : Index := Scalar.indexCast v91
  let c64 : Index := 64#32
  ![v122.toNat, 64]
def k1_off538 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v124 : Index := Scalar.indexCast v93
  let c64_63 : Index := 64#32
  ![v124.toNat, 64]
def k1_off539 (v91 : BitVec 32) : Fin 2 → Nat :=
  let v129 : Index := Scalar.indexCast v91
  let c80 : Index := 80#32
  ![v129.toNat, 80]
def k1_off540 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v131 : Index := Scalar.indexCast v93
  let c80_65 : Index := 80#32
  ![v131.toNat, 80]
def k1_off541 (v91 : BitVec 32) : Fin 2 → Nat :=
  let v136 : Index := Scalar.indexCast v91
  let c96 : Index := 96#32
  ![v136.toNat, 96]
def k1_off542 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v138 : Index := Scalar.indexCast v93
  let c96_67 : Index := 96#32
  ![v138.toNat, 96]
def k1_off543 (v91 : BitVec 32) : Fin 2 → Nat :=
  let v143 : Index := Scalar.indexCast v91
  let c112 : Index := 112#32
  ![v143.toNat, 112]

def k1_chk34 (v11 : BitVec 32) (k1_t5 : Fin (k1_t5_loop v11).trips) (v91 : BitVec 32) : Prop :=
  (∀ (k1_h6 : k1_cond6 v11 k1_t5 = 1#1), ∀ a, (k1_off529 v91) a + S1x16.size a ≤ S321x128.size a) ∧
  (∀ (k1_h6 : k1_cond6 v11 k1_t5 = 1#1), ∀ a, (k1_off531 v91) a + S1x16.size a ≤ S321x128.size a) ∧
  (∀ (k1_h6 : k1_cond6 v11 k1_t5 = 1#1), ∀ a, (k1_off533 v91) a + S1x16.size a ≤ S321x128.size a) ∧
  (∀ (k1_h6 : k1_cond6 v11 k1_t5 = 1#1), ∀ a, (k1_off535 v91) a + S1x16.size a ≤ S321x128.size a) ∧
  (∀ (k1_h6 : k1_cond6 v11 k1_t5 = 1#1), ∀ a, (k1_off537 v91) a + S1x16.size a ≤ S321x128.size a) ∧
  (∀ (k1_h6 : k1_cond6 v11 k1_t5 = 1#1), ∀ a, (k1_off539 v91) a + S1x16.size a ≤ S321x128.size a) ∧
  (∀ (k1_h6 : k1_cond6 v11 k1_t5 = 1#1), ∀ a, (k1_off541 v91) a + S1x16.size a ≤ S321x128.size a) ∧
  (∀ (k1_h6 : k1_cond6 v11 k1_t5 = 1#1), ∀ a, (k1_off543 v91) a + S1x16.size a ≤ S321x128.size a)
theorem k1_off529_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off529 v91) a + S1x16.size a ≤ S321x128.size a := fun v11 k1_t5 v91 k1_hw34 k1_h6 => k1_hw34.1 k1_h6
theorem k1_off531_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off531 v91) a + S1x16.size a ≤ S321x128.size a := fun v11 k1_t5 v91 k1_hw34 k1_h6 => k1_hw34.2.1 k1_h6
theorem k1_off533_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off533 v91) a + S1x16.size a ≤ S321x128.size a := fun v11 k1_t5 v91 k1_hw34 k1_h6 => k1_hw34.2.2.1 k1_h6
theorem k1_off535_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off535 v91) a + S1x16.size a ≤ S321x128.size a := fun v11 k1_t5 v91 k1_hw34 k1_h6 => k1_hw34.2.2.2.1 k1_h6
theorem k1_off537_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off537 v91) a + S1x16.size a ≤ S321x128.size a := fun v11 k1_t5 v91 k1_hw34 k1_h6 => k1_hw34.2.2.2.2.1 k1_h6
theorem k1_off539_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off539 v91) a + S1x16.size a ≤ S321x128.size a := fun v11 k1_t5 v91 k1_hw34 k1_h6 => k1_hw34.2.2.2.2.2.1 k1_h6
theorem k1_off541_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off541 v91) a + S1x16.size a ≤ S321x128.size a := fun v11 k1_t5 v91 k1_hw34 k1_h6 => k1_hw34.2.2.2.2.2.2.1 k1_h6
theorem k1_off543_inb : ∀ (v11 : BitVec 32) (k1_t5 : Fin (k1_t5_loop v11).trips) (v91 : BitVec 32) (k1_hw34 : k1_chk34 v11 k1_t5 v91), ∀ (k1_h6 : k1_cond6 v11 k1_t5 = 1#1), ∀ a, (k1_off543 v91) a + S1x16.size a ≤ S321x128.size a := fun v11 k1_t5 v91 k1_hw34 k1_h6 => k1_hw34.2.2.2.2.2.2.2 k1_h6

def k1_off544 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_52 : BitVec 32 := 16#32
  let v92 : BitVec 32 := Scalar.muli arg17 c16_i32_52
  let c0_i32_53 : BitVec 32 := 0#32
  let v93 : BitVec 32 := Scalar.addi v92 c0_i32_53
  let v145 : Index := Scalar.indexCast v93
  let c112_69 : Index := 112#32
  ![v145.toNat, 112]
def k1_off545 (v151 : BitVec 32) : Fin 2 → Nat :=
  let v154 : Index := Scalar.indexCast v151
  let c0_73 : Index := 0#32
  ![v154.toNat, 0]

def k1_off546 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v156 : Index := Scalar.indexCast v153
  let c0_74 : Index := 0#32
  ![v156.toNat, 0]
def k1_off547 (v151 : BitVec 32) : Fin 2 → Nat :=
  let v161 : Index := Scalar.indexCast v151
  let c16_76 : Index := 16#32
  ![v161.toNat, 16]
def k1_off548 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v163 : Index := Scalar.indexCast v153
  let c16_77 : Index := 16#32
  ![v163.toNat, 16]
def k1_off549 (v151 : BitVec 32) : Fin 2 → Nat :=
  let v168 : Index := Scalar.indexCast v151
  let c32_79 : Index := 32#32
  ![v168.toNat, 32]
def k1_off550 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v170 : Index := Scalar.indexCast v153
  let c32_80 : Index := 32#32
  ![v170.toNat, 32]
def k1_off551 (v151 : BitVec 32) : Fin 2 → Nat :=
  let v175 : Index := Scalar.indexCast v151
  let c48_82 : Index := 48#32
  ![v175.toNat, 48]
def k1_off552 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v177 : Index := Scalar.indexCast v153
  let c48_83 : Index := 48#32
  ![v177.toNat, 48]
def k1_off553 (v151 : BitVec 32) : Fin 2 → Nat :=
  let v182 : Index := Scalar.indexCast v151
  let c64_85 : Index := 64#32
  ![v182.toNat, 64]
def k1_off554 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v184 : Index := Scalar.indexCast v153
  let c64_86 : Index := 64#32
  ![v184.toNat, 64]
def k1_off555 (v151 : BitVec 32) : Fin 2 → Nat :=
  let v189 : Index := Scalar.indexCast v151
  let c80_88 : Index := 80#32
  ![v189.toNat, 80]
def k1_off556 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v191 : Index := Scalar.indexCast v153
  let c80_89 : Index := 80#32
  ![v191.toNat, 80]
def k1_off557 (v151 : BitVec 32) : Fin 2 → Nat :=
  let v196 : Index := Scalar.indexCast v151
  let c96_91 : Index := 96#32
  ![v196.toNat, 96]
def k1_off558 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v198 : Index := Scalar.indexCast v153
  let c96_92 : Index := 96#32
  ![v198.toNat, 96]
def k1_off559 (v151 : BitVec 32) : Fin 2 → Nat :=
  let v203 : Index := Scalar.indexCast v151
  let c112_94 : Index := 112#32
  ![v203.toNat, 112]

def k1_chk35 (v11 : BitVec 32) (k1_t5 : Fin (k1_t5_loop v11).trips) (v151 : BitVec 32) : Prop :=
  (∀ (k1_h6 : k1_cond6 v11 k1_t5 = 1#1), ∀ a, (k1_off545 v151) a + S1x16.size a ≤ S321x128.size a) ∧
  (∀ (k1_h6 : k1_cond6 v11 k1_t5 = 1#1), ∀ a, (k1_off547 v151) a + S1x16.size a ≤ S321x128.size a) ∧
  (∀ (k1_h6 : k1_cond6 v11 k1_t5 = 1#1), ∀ a, (k1_off549 v151) a + S1x16.size a ≤ S321x128.size a) ∧
  (∀ (k1_h6 : k1_cond6 v11 k1_t5 = 1#1), ∀ a, (k1_off551 v151) a + S1x16.size a ≤ S321x128.size a) ∧
  (∀ (k1_h6 : k1_cond6 v11 k1_t5 = 1#1), ∀ a, (k1_off553 v151) a + S1x16.size a ≤ S321x128.size a) ∧
  (∀ (k1_h6 : k1_cond6 v11 k1_t5 = 1#1), ∀ a, (k1_off555 v151) a + S1x16.size a ≤ S321x128.size a) ∧
  (∀ (k1_h6 : k1_cond6 v11 k1_t5 = 1#1), ∀ a, (k1_off557 v151) a + S1x16.size a ≤ S321x128.size a) ∧
  (∀ (k1_h6 : k1_cond6 v11 k1_t5 = 1#1), ∀ a, (k1_off559 v151) a + S1x16.size a ≤ S321x128.size a)
theorem k1_off545_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off545 v151) a + S1x16.size a ≤ S321x128.size a := fun v11 k1_t5 v151 k1_hw35 k1_h6 => k1_hw35.1 k1_h6
theorem k1_off547_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off547 v151) a + S1x16.size a ≤ S321x128.size a := fun v11 k1_t5 v151 k1_hw35 k1_h6 => k1_hw35.2.1 k1_h6
theorem k1_off549_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off549 v151) a + S1x16.size a ≤ S321x128.size a := fun v11 k1_t5 v151 k1_hw35 k1_h6 => k1_hw35.2.2.1 k1_h6
theorem k1_off551_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off551 v151) a + S1x16.size a ≤ S321x128.size a := fun v11 k1_t5 v151 k1_hw35 k1_h6 => k1_hw35.2.2.2.1 k1_h6
theorem k1_off553_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off553 v151) a + S1x16.size a ≤ S321x128.size a := fun v11 k1_t5 v151 k1_hw35 k1_h6 => k1_hw35.2.2.2.2.1 k1_h6
theorem k1_off555_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off555 v151) a + S1x16.size a ≤ S321x128.size a := fun v11 k1_t5 v151 k1_hw35 k1_h6 => k1_hw35.2.2.2.2.2.1 k1_h6
theorem k1_off557_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off557 v151) a + S1x16.size a ≤ S321x128.size a := fun v11 k1_t5 v151 k1_hw35 k1_h6 => k1_hw35.2.2.2.2.2.2.1 k1_h6
theorem k1_off559_inb : ∀ (v11 : BitVec 32) (k1_t5 : Fin (k1_t5_loop v11).trips) (v151 : BitVec 32) (k1_hw35 : k1_chk35 v11 k1_t5 v151), ∀ (k1_h6 : k1_cond6 v11 k1_t5 = 1#1), ∀ a, (k1_off559 v151) a + S1x16.size a ≤ S321x128.size a := fun v11 k1_t5 v151 k1_hw35 k1_h6 => k1_hw35.2.2.2.2.2.2.2 k1_h6

def k1_off560 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_71 : BitVec 32 := 16#32
  let v152 : BitVec 32 := Scalar.muli arg17 c16_i32_71
  let c1_i32_72 : BitVec 32 := 1#32
  let v153 : BitVec 32 := Scalar.addi v152 c1_i32_72
  let v205 : Index := Scalar.indexCast v153
  let c112_95 : Index := 112#32
  ![v205.toNat, 112]
def k1_off561 (v211 : BitVec 32) : Fin 2 → Nat :=
  let v214 : Index := Scalar.indexCast v211
  let c0_99 : Index := 0#32
  ![v214.toNat, 0]

def k1_off562 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v216 : Index := Scalar.indexCast v213
  let c0_100 : Index := 0#32
  ![v216.toNat, 0]
def k1_off563 (v211 : BitVec 32) : Fin 2 → Nat :=
  let v221 : Index := Scalar.indexCast v211
  let c16_102 : Index := 16#32
  ![v221.toNat, 16]
def k1_off564 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v223 : Index := Scalar.indexCast v213
  let c16_103 : Index := 16#32
  ![v223.toNat, 16]
def k1_off565 (v211 : BitVec 32) : Fin 2 → Nat :=
  let v228 : Index := Scalar.indexCast v211
  let c32_105 : Index := 32#32
  ![v228.toNat, 32]
def k1_off566 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v230 : Index := Scalar.indexCast v213
  let c32_106 : Index := 32#32
  ![v230.toNat, 32]
def k1_off567 (v211 : BitVec 32) : Fin 2 → Nat :=
  let v235 : Index := Scalar.indexCast v211
  let c48_108 : Index := 48#32
  ![v235.toNat, 48]
def k1_off568 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v237 : Index := Scalar.indexCast v213
  let c48_109 : Index := 48#32
  ![v237.toNat, 48]
def k1_off569 (v211 : BitVec 32) : Fin 2 → Nat :=
  let v242 : Index := Scalar.indexCast v211
  let c64_111 : Index := 64#32
  ![v242.toNat, 64]
def k1_off570 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v244 : Index := Scalar.indexCast v213
  let c64_112 : Index := 64#32
  ![v244.toNat, 64]
def k1_off571 (v211 : BitVec 32) : Fin 2 → Nat :=
  let v249 : Index := Scalar.indexCast v211
  let c80_114 : Index := 80#32
  ![v249.toNat, 80]
def k1_off572 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v251 : Index := Scalar.indexCast v213
  let c80_115 : Index := 80#32
  ![v251.toNat, 80]
def k1_off573 (v211 : BitVec 32) : Fin 2 → Nat :=
  let v256 : Index := Scalar.indexCast v211
  let c96_117 : Index := 96#32
  ![v256.toNat, 96]
def k1_off574 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v258 : Index := Scalar.indexCast v213
  let c96_118 : Index := 96#32
  ![v258.toNat, 96]
def k1_off575 (v211 : BitVec 32) : Fin 2 → Nat :=
  let v263 : Index := Scalar.indexCast v211
  let c112_120 : Index := 112#32
  ![v263.toNat, 112]

def k1_chk36 (v11 : BitVec 32) (k1_t5 : Fin (k1_t5_loop v11).trips) (v211 : BitVec 32) : Prop :=
  (∀ (k1_h6 : k1_cond6 v11 k1_t5 = 1#1), ∀ a, (k1_off561 v211) a + S1x16.size a ≤ S321x128.size a) ∧
  (∀ (k1_h6 : k1_cond6 v11 k1_t5 = 1#1), ∀ a, (k1_off563 v211) a + S1x16.size a ≤ S321x128.size a) ∧
  (∀ (k1_h6 : k1_cond6 v11 k1_t5 = 1#1), ∀ a, (k1_off565 v211) a + S1x16.size a ≤ S321x128.size a) ∧
  (∀ (k1_h6 : k1_cond6 v11 k1_t5 = 1#1), ∀ a, (k1_off567 v211) a + S1x16.size a ≤ S321x128.size a) ∧
  (∀ (k1_h6 : k1_cond6 v11 k1_t5 = 1#1), ∀ a, (k1_off569 v211) a + S1x16.size a ≤ S321x128.size a) ∧
  (∀ (k1_h6 : k1_cond6 v11 k1_t5 = 1#1), ∀ a, (k1_off571 v211) a + S1x16.size a ≤ S321x128.size a) ∧
  (∀ (k1_h6 : k1_cond6 v11 k1_t5 = 1#1), ∀ a, (k1_off573 v211) a + S1x16.size a ≤ S321x128.size a) ∧
  (∀ (k1_h6 : k1_cond6 v11 k1_t5 = 1#1), ∀ a, (k1_off575 v211) a + S1x16.size a ≤ S321x128.size a)
theorem k1_off561_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off561 v211) a + S1x16.size a ≤ S321x128.size a := fun v11 k1_t5 v211 k1_hw36 k1_h6 => k1_hw36.1 k1_h6
theorem k1_off563_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off563 v211) a + S1x16.size a ≤ S321x128.size a := fun v11 k1_t5 v211 k1_hw36 k1_h6 => k1_hw36.2.1 k1_h6
theorem k1_off565_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off565 v211) a + S1x16.size a ≤ S321x128.size a := fun v11 k1_t5 v211 k1_hw36 k1_h6 => k1_hw36.2.2.1 k1_h6
theorem k1_off567_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off567 v211) a + S1x16.size a ≤ S321x128.size a := fun v11 k1_t5 v211 k1_hw36 k1_h6 => k1_hw36.2.2.2.1 k1_h6
theorem k1_off569_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off569 v211) a + S1x16.size a ≤ S321x128.size a := fun v11 k1_t5 v211 k1_hw36 k1_h6 => k1_hw36.2.2.2.2.1 k1_h6
theorem k1_off571_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off571 v211) a + S1x16.size a ≤ S321x128.size a := fun v11 k1_t5 v211 k1_hw36 k1_h6 => k1_hw36.2.2.2.2.2.1 k1_h6
theorem k1_off573_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off573 v211) a + S1x16.size a ≤ S321x128.size a := fun v11 k1_t5 v211 k1_hw36 k1_h6 => k1_hw36.2.2.2.2.2.2.1 k1_h6
theorem k1_off575_inb : ∀ (v11 : BitVec 32) (k1_t5 : Fin (k1_t5_loop v11).trips) (v211 : BitVec 32) (k1_hw36 : k1_chk36 v11 k1_t5 v211), ∀ (k1_h6 : k1_cond6 v11 k1_t5 = 1#1), ∀ a, (k1_off575 v211) a + S1x16.size a ≤ S321x128.size a := fun v11 k1_t5 v211 k1_hw36 k1_h6 => k1_hw36.2.2.2.2.2.2.2 k1_h6

def k1_off576 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_97 : BitVec 32 := 16#32
  let v212 : BitVec 32 := Scalar.muli arg17 c16_i32_97
  let c2_i32_98 : BitVec 32 := 2#32
  let v213 : BitVec 32 := Scalar.addi v212 c2_i32_98
  let v265 : Index := Scalar.indexCast v213
  let c112_121 : Index := 112#32
  ![v265.toNat, 112]
def k1_off577 (v271 : BitVec 32) : Fin 2 → Nat :=
  let v274 : Index := Scalar.indexCast v271
  let c0_124 : Index := 0#32
  ![v274.toNat, 0]

def k1_off578 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v276 : Index := Scalar.indexCast v273
  let c0_125 : Index := 0#32
  ![v276.toNat, 0]
def k1_off579 (v271 : BitVec 32) : Fin 2 → Nat :=
  let v281 : Index := Scalar.indexCast v271
  let c16_127 : Index := 16#32
  ![v281.toNat, 16]
def k1_off580 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v283 : Index := Scalar.indexCast v273
  let c16_128 : Index := 16#32
  ![v283.toNat, 16]
def k1_off581 (v271 : BitVec 32) : Fin 2 → Nat :=
  let v288 : Index := Scalar.indexCast v271
  let c32_130 : Index := 32#32
  ![v288.toNat, 32]
def k1_off582 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v290 : Index := Scalar.indexCast v273
  let c32_131 : Index := 32#32
  ![v290.toNat, 32]
def k1_off583 (v271 : BitVec 32) : Fin 2 → Nat :=
  let v295 : Index := Scalar.indexCast v271
  let c48_133 : Index := 48#32
  ![v295.toNat, 48]
def k1_off584 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v297 : Index := Scalar.indexCast v273
  let c48_134 : Index := 48#32
  ![v297.toNat, 48]
def k1_off585 (v271 : BitVec 32) : Fin 2 → Nat :=
  let v302 : Index := Scalar.indexCast v271
  let c64_136 : Index := 64#32
  ![v302.toNat, 64]
def k1_off586 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v304 : Index := Scalar.indexCast v273
  let c64_137 : Index := 64#32
  ![v304.toNat, 64]
def k1_off587 (v271 : BitVec 32) : Fin 2 → Nat :=
  let v309 : Index := Scalar.indexCast v271
  let c80_139 : Index := 80#32
  ![v309.toNat, 80]
def k1_off588 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v311 : Index := Scalar.indexCast v273
  let c80_140 : Index := 80#32
  ![v311.toNat, 80]
def k1_off589 (v271 : BitVec 32) : Fin 2 → Nat :=
  let v316 : Index := Scalar.indexCast v271
  let c96_142 : Index := 96#32
  ![v316.toNat, 96]
def k1_off590 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v318 : Index := Scalar.indexCast v273
  let c96_143 : Index := 96#32
  ![v318.toNat, 96]
def k1_off591 (v271 : BitVec 32) : Fin 2 → Nat :=
  let v323 : Index := Scalar.indexCast v271
  let c112_145 : Index := 112#32
  ![v323.toNat, 112]

def k1_chk37 (v11 : BitVec 32) (k1_t5 : Fin (k1_t5_loop v11).trips) (v271 : BitVec 32) : Prop :=
  (∀ (k1_h6 : k1_cond6 v11 k1_t5 = 1#1), ∀ a, (k1_off577 v271) a + S1x16.size a ≤ S321x128.size a) ∧
  (∀ (k1_h6 : k1_cond6 v11 k1_t5 = 1#1), ∀ a, (k1_off579 v271) a + S1x16.size a ≤ S321x128.size a) ∧
  (∀ (k1_h6 : k1_cond6 v11 k1_t5 = 1#1), ∀ a, (k1_off581 v271) a + S1x16.size a ≤ S321x128.size a) ∧
  (∀ (k1_h6 : k1_cond6 v11 k1_t5 = 1#1), ∀ a, (k1_off583 v271) a + S1x16.size a ≤ S321x128.size a) ∧
  (∀ (k1_h6 : k1_cond6 v11 k1_t5 = 1#1), ∀ a, (k1_off585 v271) a + S1x16.size a ≤ S321x128.size a) ∧
  (∀ (k1_h6 : k1_cond6 v11 k1_t5 = 1#1), ∀ a, (k1_off587 v271) a + S1x16.size a ≤ S321x128.size a) ∧
  (∀ (k1_h6 : k1_cond6 v11 k1_t5 = 1#1), ∀ a, (k1_off589 v271) a + S1x16.size a ≤ S321x128.size a) ∧
  (∀ (k1_h6 : k1_cond6 v11 k1_t5 = 1#1), ∀ a, (k1_off591 v271) a + S1x16.size a ≤ S321x128.size a)
theorem k1_off577_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off577 v271) a + S1x16.size a ≤ S321x128.size a := fun v11 k1_t5 v271 k1_hw37 k1_h6 => k1_hw37.1 k1_h6
theorem k1_off579_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off579 v271) a + S1x16.size a ≤ S321x128.size a := fun v11 k1_t5 v271 k1_hw37 k1_h6 => k1_hw37.2.1 k1_h6
theorem k1_off581_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off581 v271) a + S1x16.size a ≤ S321x128.size a := fun v11 k1_t5 v271 k1_hw37 k1_h6 => k1_hw37.2.2.1 k1_h6
theorem k1_off583_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off583 v271) a + S1x16.size a ≤ S321x128.size a := fun v11 k1_t5 v271 k1_hw37 k1_h6 => k1_hw37.2.2.2.1 k1_h6
theorem k1_off585_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off585 v271) a + S1x16.size a ≤ S321x128.size a := fun v11 k1_t5 v271 k1_hw37 k1_h6 => k1_hw37.2.2.2.2.1 k1_h6
theorem k1_off587_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off587 v271) a + S1x16.size a ≤ S321x128.size a := fun v11 k1_t5 v271 k1_hw37 k1_h6 => k1_hw37.2.2.2.2.2.1 k1_h6
theorem k1_off589_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off589 v271) a + S1x16.size a ≤ S321x128.size a := fun v11 k1_t5 v271 k1_hw37 k1_h6 => k1_hw37.2.2.2.2.2.2.1 k1_h6
theorem k1_off591_inb : ∀ (v11 : BitVec 32) (k1_t5 : Fin (k1_t5_loop v11).trips) (v271 : BitVec 32) (k1_hw37 : k1_chk37 v11 k1_t5 v271), ∀ (k1_h6 : k1_cond6 v11 k1_t5 = 1#1), ∀ a, (k1_off591 v271) a + S1x16.size a ≤ S321x128.size a := fun v11 k1_t5 v271 k1_hw37 k1_h6 => k1_hw37.2.2.2.2.2.2.2 k1_h6

def k1_off592 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_123 : BitVec 32 := 16#32
  let v272 : BitVec 32 := Scalar.muli arg17 c16_i32_123
  let c3_i32 : BitVec 32 := 3#32
  let v273 : BitVec 32 := Scalar.addi v272 c3_i32
  let v325 : Index := Scalar.indexCast v273
  let c112_146 : Index := 112#32
  ![v325.toNat, 112]
def k1_off593 (v331 : BitVec 32) : Fin 2 → Nat :=
  let v334 : Index := Scalar.indexCast v331
  let c0_149 : Index := 0#32
  ![v334.toNat, 0]

def k1_off594 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v336 : Index := Scalar.indexCast v333
  let c0_150 : Index := 0#32
  ![v336.toNat, 0]
def k1_off595 (v331 : BitVec 32) : Fin 2 → Nat :=
  let v341 : Index := Scalar.indexCast v331
  let c16_152 : Index := 16#32
  ![v341.toNat, 16]
def k1_off596 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v343 : Index := Scalar.indexCast v333
  let c16_153 : Index := 16#32
  ![v343.toNat, 16]
def k1_off597 (v331 : BitVec 32) : Fin 2 → Nat :=
  let v348 : Index := Scalar.indexCast v331
  let c32_155 : Index := 32#32
  ![v348.toNat, 32]
def k1_off598 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v350 : Index := Scalar.indexCast v333
  let c32_156 : Index := 32#32
  ![v350.toNat, 32]
def k1_off599 (v331 : BitVec 32) : Fin 2 → Nat :=
  let v355 : Index := Scalar.indexCast v331
  let c48_158 : Index := 48#32
  ![v355.toNat, 48]
def k1_off600 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v357 : Index := Scalar.indexCast v333
  let c48_159 : Index := 48#32
  ![v357.toNat, 48]
def k1_off601 (v331 : BitVec 32) : Fin 2 → Nat :=
  let v362 : Index := Scalar.indexCast v331
  let c64_161 : Index := 64#32
  ![v362.toNat, 64]
def k1_off602 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v364 : Index := Scalar.indexCast v333
  let c64_162 : Index := 64#32
  ![v364.toNat, 64]
def k1_off603 (v331 : BitVec 32) : Fin 2 → Nat :=
  let v369 : Index := Scalar.indexCast v331
  let c80_164 : Index := 80#32
  ![v369.toNat, 80]
def k1_off604 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v371 : Index := Scalar.indexCast v333
  let c80_165 : Index := 80#32
  ![v371.toNat, 80]
def k1_off605 (v331 : BitVec 32) : Fin 2 → Nat :=
  let v376 : Index := Scalar.indexCast v331
  let c96_167 : Index := 96#32
  ![v376.toNat, 96]
def k1_off606 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v378 : Index := Scalar.indexCast v333
  let c96_168 : Index := 96#32
  ![v378.toNat, 96]
def k1_off607 (v331 : BitVec 32) : Fin 2 → Nat :=
  let v383 : Index := Scalar.indexCast v331
  let c112_170 : Index := 112#32
  ![v383.toNat, 112]

def k1_chk38 (v11 : BitVec 32) (k1_t5 : Fin (k1_t5_loop v11).trips) (v331 : BitVec 32) : Prop :=
  (∀ (k1_h6 : k1_cond6 v11 k1_t5 = 1#1), ∀ a, (k1_off593 v331) a + S1x16.size a ≤ S321x128.size a) ∧
  (∀ (k1_h6 : k1_cond6 v11 k1_t5 = 1#1), ∀ a, (k1_off595 v331) a + S1x16.size a ≤ S321x128.size a) ∧
  (∀ (k1_h6 : k1_cond6 v11 k1_t5 = 1#1), ∀ a, (k1_off597 v331) a + S1x16.size a ≤ S321x128.size a) ∧
  (∀ (k1_h6 : k1_cond6 v11 k1_t5 = 1#1), ∀ a, (k1_off599 v331) a + S1x16.size a ≤ S321x128.size a) ∧
  (∀ (k1_h6 : k1_cond6 v11 k1_t5 = 1#1), ∀ a, (k1_off601 v331) a + S1x16.size a ≤ S321x128.size a) ∧
  (∀ (k1_h6 : k1_cond6 v11 k1_t5 = 1#1), ∀ a, (k1_off603 v331) a + S1x16.size a ≤ S321x128.size a) ∧
  (∀ (k1_h6 : k1_cond6 v11 k1_t5 = 1#1), ∀ a, (k1_off605 v331) a + S1x16.size a ≤ S321x128.size a) ∧
  (∀ (k1_h6 : k1_cond6 v11 k1_t5 = 1#1), ∀ a, (k1_off607 v331) a + S1x16.size a ≤ S321x128.size a)
theorem k1_off593_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off593 v331) a + S1x16.size a ≤ S321x128.size a := fun v11 k1_t5 v331 k1_hw38 k1_h6 => k1_hw38.1 k1_h6
theorem k1_off595_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off595 v331) a + S1x16.size a ≤ S321x128.size a := fun v11 k1_t5 v331 k1_hw38 k1_h6 => k1_hw38.2.1 k1_h6
theorem k1_off597_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off597 v331) a + S1x16.size a ≤ S321x128.size a := fun v11 k1_t5 v331 k1_hw38 k1_h6 => k1_hw38.2.2.1 k1_h6
theorem k1_off599_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off599 v331) a + S1x16.size a ≤ S321x128.size a := fun v11 k1_t5 v331 k1_hw38 k1_h6 => k1_hw38.2.2.2.1 k1_h6
theorem k1_off601_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off601 v331) a + S1x16.size a ≤ S321x128.size a := fun v11 k1_t5 v331 k1_hw38 k1_h6 => k1_hw38.2.2.2.2.1 k1_h6
theorem k1_off603_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off603 v331) a + S1x16.size a ≤ S321x128.size a := fun v11 k1_t5 v331 k1_hw38 k1_h6 => k1_hw38.2.2.2.2.2.1 k1_h6
theorem k1_off605_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off605 v331) a + S1x16.size a ≤ S321x128.size a := fun v11 k1_t5 v331 k1_hw38 k1_h6 => k1_hw38.2.2.2.2.2.2.1 k1_h6
theorem k1_off607_inb : ∀ (v11 : BitVec 32) (k1_t5 : Fin (k1_t5_loop v11).trips) (v331 : BitVec 32) (k1_hw38 : k1_chk38 v11 k1_t5 v331), ∀ (k1_h6 : k1_cond6 v11 k1_t5 = 1#1), ∀ a, (k1_off607 v331) a + S1x16.size a ≤ S321x128.size a := fun v11 k1_t5 v331 k1_hw38 k1_h6 => k1_hw38.2.2.2.2.2.2.2 k1_h6

def k1_off608 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_148 : BitVec 32 := 16#32
  let v332 : BitVec 32 := Scalar.muli arg17 c16_i32_148
  let c4_i32 : BitVec 32 := 4#32
  let v333 : BitVec 32 := Scalar.addi v332 c4_i32
  let v385 : Index := Scalar.indexCast v333
  let c112_171 : Index := 112#32
  ![v385.toNat, 112]
def k1_off609 (v391 : BitVec 32) : Fin 2 → Nat :=
  let v394 : Index := Scalar.indexCast v391
  let c0_174 : Index := 0#32
  ![v394.toNat, 0]

def k1_off610 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v396 : Index := Scalar.indexCast v393
  let c0_175 : Index := 0#32
  ![v396.toNat, 0]
def k1_off611 (v391 : BitVec 32) : Fin 2 → Nat :=
  let v401 : Index := Scalar.indexCast v391
  let c16_177 : Index := 16#32
  ![v401.toNat, 16]
def k1_off612 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v403 : Index := Scalar.indexCast v393
  let c16_178 : Index := 16#32
  ![v403.toNat, 16]
def k1_off613 (v391 : BitVec 32) : Fin 2 → Nat :=
  let v408 : Index := Scalar.indexCast v391
  let c32_180 : Index := 32#32
  ![v408.toNat, 32]
def k1_off614 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v410 : Index := Scalar.indexCast v393
  let c32_181 : Index := 32#32
  ![v410.toNat, 32]
def k1_off615 (v391 : BitVec 32) : Fin 2 → Nat :=
  let v415 : Index := Scalar.indexCast v391
  let c48_183 : Index := 48#32
  ![v415.toNat, 48]
def k1_off616 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v417 : Index := Scalar.indexCast v393
  let c48_184 : Index := 48#32
  ![v417.toNat, 48]
def k1_off617 (v391 : BitVec 32) : Fin 2 → Nat :=
  let v422 : Index := Scalar.indexCast v391
  let c64_186 : Index := 64#32
  ![v422.toNat, 64]
def k1_off618 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v424 : Index := Scalar.indexCast v393
  let c64_187 : Index := 64#32
  ![v424.toNat, 64]
def k1_off619 (v391 : BitVec 32) : Fin 2 → Nat :=
  let v429 : Index := Scalar.indexCast v391
  let c80_189 : Index := 80#32
  ![v429.toNat, 80]
def k1_off620 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v431 : Index := Scalar.indexCast v393
  let c80_190 : Index := 80#32
  ![v431.toNat, 80]
def k1_off621 (v391 : BitVec 32) : Fin 2 → Nat :=
  let v436 : Index := Scalar.indexCast v391
  let c96_192 : Index := 96#32
  ![v436.toNat, 96]
def k1_off622 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v438 : Index := Scalar.indexCast v393
  let c96_193 : Index := 96#32
  ![v438.toNat, 96]
def k1_off623 (v391 : BitVec 32) : Fin 2 → Nat :=
  let v443 : Index := Scalar.indexCast v391
  let c112_195 : Index := 112#32
  ![v443.toNat, 112]

def k1_chk39 (v11 : BitVec 32) (k1_t5 : Fin (k1_t5_loop v11).trips) (v391 : BitVec 32) : Prop :=
  (∀ (k1_h6 : k1_cond6 v11 k1_t5 = 1#1), ∀ a, (k1_off609 v391) a + S1x16.size a ≤ S321x128.size a) ∧
  (∀ (k1_h6 : k1_cond6 v11 k1_t5 = 1#1), ∀ a, (k1_off611 v391) a + S1x16.size a ≤ S321x128.size a) ∧
  (∀ (k1_h6 : k1_cond6 v11 k1_t5 = 1#1), ∀ a, (k1_off613 v391) a + S1x16.size a ≤ S321x128.size a) ∧
  (∀ (k1_h6 : k1_cond6 v11 k1_t5 = 1#1), ∀ a, (k1_off615 v391) a + S1x16.size a ≤ S321x128.size a) ∧
  (∀ (k1_h6 : k1_cond6 v11 k1_t5 = 1#1), ∀ a, (k1_off617 v391) a + S1x16.size a ≤ S321x128.size a) ∧
  (∀ (k1_h6 : k1_cond6 v11 k1_t5 = 1#1), ∀ a, (k1_off619 v391) a + S1x16.size a ≤ S321x128.size a) ∧
  (∀ (k1_h6 : k1_cond6 v11 k1_t5 = 1#1), ∀ a, (k1_off621 v391) a + S1x16.size a ≤ S321x128.size a) ∧
  (∀ (k1_h6 : k1_cond6 v11 k1_t5 = 1#1), ∀ a, (k1_off623 v391) a + S1x16.size a ≤ S321x128.size a)
theorem k1_off609_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off609 v391) a + S1x16.size a ≤ S321x128.size a := fun v11 k1_t5 v391 k1_hw39 k1_h6 => k1_hw39.1 k1_h6
theorem k1_off611_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off611 v391) a + S1x16.size a ≤ S321x128.size a := fun v11 k1_t5 v391 k1_hw39 k1_h6 => k1_hw39.2.1 k1_h6
theorem k1_off613_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off613 v391) a + S1x16.size a ≤ S321x128.size a := fun v11 k1_t5 v391 k1_hw39 k1_h6 => k1_hw39.2.2.1 k1_h6
theorem k1_off615_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off615 v391) a + S1x16.size a ≤ S321x128.size a := fun v11 k1_t5 v391 k1_hw39 k1_h6 => k1_hw39.2.2.2.1 k1_h6
theorem k1_off617_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off617 v391) a + S1x16.size a ≤ S321x128.size a := fun v11 k1_t5 v391 k1_hw39 k1_h6 => k1_hw39.2.2.2.2.1 k1_h6
theorem k1_off619_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off619 v391) a + S1x16.size a ≤ S321x128.size a := fun v11 k1_t5 v391 k1_hw39 k1_h6 => k1_hw39.2.2.2.2.2.1 k1_h6
theorem k1_off621_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off621 v391) a + S1x16.size a ≤ S321x128.size a := fun v11 k1_t5 v391 k1_hw39 k1_h6 => k1_hw39.2.2.2.2.2.2.1 k1_h6
theorem k1_off623_inb : ∀ (v11 : BitVec 32) (k1_t5 : Fin (k1_t5_loop v11).trips) (v391 : BitVec 32) (k1_hw39 : k1_chk39 v11 k1_t5 v391), ∀ (k1_h6 : k1_cond6 v11 k1_t5 = 1#1), ∀ a, (k1_off623 v391) a + S1x16.size a ≤ S321x128.size a := fun v11 k1_t5 v391 k1_hw39 k1_h6 => k1_hw39.2.2.2.2.2.2.2 k1_h6

def k1_off624 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_173 : BitVec 32 := 16#32
  let v392 : BitVec 32 := Scalar.muli arg17 c16_i32_173
  let c5_i32 : BitVec 32 := 5#32
  let v393 : BitVec 32 := Scalar.addi v392 c5_i32
  let v445 : Index := Scalar.indexCast v393
  let c112_196 : Index := 112#32
  ![v445.toNat, 112]
def k1_off625 (v451 : BitVec 32) : Fin 2 → Nat :=
  let v454 : Index := Scalar.indexCast v451
  let c0_199 : Index := 0#32
  ![v454.toNat, 0]

def k1_off626 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v456 : Index := Scalar.indexCast v453
  let c0_200 : Index := 0#32
  ![v456.toNat, 0]
def k1_off627 (v451 : BitVec 32) : Fin 2 → Nat :=
  let v461 : Index := Scalar.indexCast v451
  let c16_202 : Index := 16#32
  ![v461.toNat, 16]
def k1_off628 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v463 : Index := Scalar.indexCast v453
  let c16_203 : Index := 16#32
  ![v463.toNat, 16]
def k1_off629 (v451 : BitVec 32) : Fin 2 → Nat :=
  let v468 : Index := Scalar.indexCast v451
  let c32_205 : Index := 32#32
  ![v468.toNat, 32]
def k1_off630 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v470 : Index := Scalar.indexCast v453
  let c32_206 : Index := 32#32
  ![v470.toNat, 32]
def k1_off631 (v451 : BitVec 32) : Fin 2 → Nat :=
  let v475 : Index := Scalar.indexCast v451
  let c48_208 : Index := 48#32
  ![v475.toNat, 48]
def k1_off632 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v477 : Index := Scalar.indexCast v453
  let c48_209 : Index := 48#32
  ![v477.toNat, 48]
def k1_off633 (v451 : BitVec 32) : Fin 2 → Nat :=
  let v482 : Index := Scalar.indexCast v451
  let c64_211 : Index := 64#32
  ![v482.toNat, 64]
def k1_off634 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v484 : Index := Scalar.indexCast v453
  let c64_212 : Index := 64#32
  ![v484.toNat, 64]
def k1_off635 (v451 : BitVec 32) : Fin 2 → Nat :=
  let v489 : Index := Scalar.indexCast v451
  let c80_214 : Index := 80#32
  ![v489.toNat, 80]
def k1_off636 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v491 : Index := Scalar.indexCast v453
  let c80_215 : Index := 80#32
  ![v491.toNat, 80]
def k1_off637 (v451 : BitVec 32) : Fin 2 → Nat :=
  let v496 : Index := Scalar.indexCast v451
  let c96_217 : Index := 96#32
  ![v496.toNat, 96]
def k1_off638 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v498 : Index := Scalar.indexCast v453
  let c96_218 : Index := 96#32
  ![v498.toNat, 96]
def k1_off639 (v451 : BitVec 32) : Fin 2 → Nat :=
  let v503 : Index := Scalar.indexCast v451
  let c112_220 : Index := 112#32
  ![v503.toNat, 112]

def k1_chk40 (v11 : BitVec 32) (k1_t5 : Fin (k1_t5_loop v11).trips) (v451 : BitVec 32) : Prop :=
  (∀ (k1_h6 : k1_cond6 v11 k1_t5 = 1#1), ∀ a, (k1_off625 v451) a + S1x16.size a ≤ S321x128.size a) ∧
  (∀ (k1_h6 : k1_cond6 v11 k1_t5 = 1#1), ∀ a, (k1_off627 v451) a + S1x16.size a ≤ S321x128.size a) ∧
  (∀ (k1_h6 : k1_cond6 v11 k1_t5 = 1#1), ∀ a, (k1_off629 v451) a + S1x16.size a ≤ S321x128.size a) ∧
  (∀ (k1_h6 : k1_cond6 v11 k1_t5 = 1#1), ∀ a, (k1_off631 v451) a + S1x16.size a ≤ S321x128.size a) ∧
  (∀ (k1_h6 : k1_cond6 v11 k1_t5 = 1#1), ∀ a, (k1_off633 v451) a + S1x16.size a ≤ S321x128.size a) ∧
  (∀ (k1_h6 : k1_cond6 v11 k1_t5 = 1#1), ∀ a, (k1_off635 v451) a + S1x16.size a ≤ S321x128.size a) ∧
  (∀ (k1_h6 : k1_cond6 v11 k1_t5 = 1#1), ∀ a, (k1_off637 v451) a + S1x16.size a ≤ S321x128.size a) ∧
  (∀ (k1_h6 : k1_cond6 v11 k1_t5 = 1#1), ∀ a, (k1_off639 v451) a + S1x16.size a ≤ S321x128.size a)
theorem k1_off625_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off625 v451) a + S1x16.size a ≤ S321x128.size a := fun v11 k1_t5 v451 k1_hw40 k1_h6 => k1_hw40.1 k1_h6
theorem k1_off627_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off627 v451) a + S1x16.size a ≤ S321x128.size a := fun v11 k1_t5 v451 k1_hw40 k1_h6 => k1_hw40.2.1 k1_h6
theorem k1_off629_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off629 v451) a + S1x16.size a ≤ S321x128.size a := fun v11 k1_t5 v451 k1_hw40 k1_h6 => k1_hw40.2.2.1 k1_h6
theorem k1_off631_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off631 v451) a + S1x16.size a ≤ S321x128.size a := fun v11 k1_t5 v451 k1_hw40 k1_h6 => k1_hw40.2.2.2.1 k1_h6
theorem k1_off633_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off633 v451) a + S1x16.size a ≤ S321x128.size a := fun v11 k1_t5 v451 k1_hw40 k1_h6 => k1_hw40.2.2.2.2.1 k1_h6
theorem k1_off635_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off635 v451) a + S1x16.size a ≤ S321x128.size a := fun v11 k1_t5 v451 k1_hw40 k1_h6 => k1_hw40.2.2.2.2.2.1 k1_h6
theorem k1_off637_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off637 v451) a + S1x16.size a ≤ S321x128.size a := fun v11 k1_t5 v451 k1_hw40 k1_h6 => k1_hw40.2.2.2.2.2.2.1 k1_h6
theorem k1_off639_inb : ∀ (v11 : BitVec 32) (k1_t5 : Fin (k1_t5_loop v11).trips) (v451 : BitVec 32) (k1_hw40 : k1_chk40 v11 k1_t5 v451), ∀ (k1_h6 : k1_cond6 v11 k1_t5 = 1#1), ∀ a, (k1_off639 v451) a + S1x16.size a ≤ S321x128.size a := fun v11 k1_t5 v451 k1_hw40 k1_h6 => k1_hw40.2.2.2.2.2.2.2 k1_h6

def k1_off640 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_198 : BitVec 32 := 16#32
  let v452 : BitVec 32 := Scalar.muli arg17 c16_i32_198
  let c6_i32 : BitVec 32 := 6#32
  let v453 : BitVec 32 := Scalar.addi v452 c6_i32
  let v505 : Index := Scalar.indexCast v453
  let c112_221 : Index := 112#32
  ![v505.toNat, 112]
def k1_off641 (v511 : BitVec 32) : Fin 2 → Nat :=
  let v514 : Index := Scalar.indexCast v511
  let c0_224 : Index := 0#32
  ![v514.toNat, 0]

def k1_off642 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v516 : Index := Scalar.indexCast v513
  let c0_225 : Index := 0#32
  ![v516.toNat, 0]
def k1_off643 (v511 : BitVec 32) : Fin 2 → Nat :=
  let v521 : Index := Scalar.indexCast v511
  let c16_227 : Index := 16#32
  ![v521.toNat, 16]
def k1_off644 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v523 : Index := Scalar.indexCast v513
  let c16_228 : Index := 16#32
  ![v523.toNat, 16]
def k1_off645 (v511 : BitVec 32) : Fin 2 → Nat :=
  let v528 : Index := Scalar.indexCast v511
  let c32_230 : Index := 32#32
  ![v528.toNat, 32]
def k1_off646 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v530 : Index := Scalar.indexCast v513
  let c32_231 : Index := 32#32
  ![v530.toNat, 32]
def k1_off647 (v511 : BitVec 32) : Fin 2 → Nat :=
  let v535 : Index := Scalar.indexCast v511
  let c48_233 : Index := 48#32
  ![v535.toNat, 48]
def k1_off648 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v537 : Index := Scalar.indexCast v513
  let c48_234 : Index := 48#32
  ![v537.toNat, 48]
def k1_off649 (v511 : BitVec 32) : Fin 2 → Nat :=
  let v542 : Index := Scalar.indexCast v511
  let c64_236 : Index := 64#32
  ![v542.toNat, 64]
def k1_off650 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v544 : Index := Scalar.indexCast v513
  let c64_237 : Index := 64#32
  ![v544.toNat, 64]
def k1_off651 (v511 : BitVec 32) : Fin 2 → Nat :=
  let v549 : Index := Scalar.indexCast v511
  let c80_239 : Index := 80#32
  ![v549.toNat, 80]
def k1_off652 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v551 : Index := Scalar.indexCast v513
  let c80_240 : Index := 80#32
  ![v551.toNat, 80]
def k1_off653 (v511 : BitVec 32) : Fin 2 → Nat :=
  let v556 : Index := Scalar.indexCast v511
  let c96_242 : Index := 96#32
  ![v556.toNat, 96]
def k1_off654 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v558 : Index := Scalar.indexCast v513
  let c96_243 : Index := 96#32
  ![v558.toNat, 96]
def k1_off655 (v511 : BitVec 32) : Fin 2 → Nat :=
  let v563 : Index := Scalar.indexCast v511
  let c112_245 : Index := 112#32
  ![v563.toNat, 112]

def k1_chk41 (v11 : BitVec 32) (k1_t5 : Fin (k1_t5_loop v11).trips) (v511 : BitVec 32) : Prop :=
  (∀ (k1_h6 : k1_cond6 v11 k1_t5 = 1#1), ∀ a, (k1_off641 v511) a + S1x16.size a ≤ S321x128.size a) ∧
  (∀ (k1_h6 : k1_cond6 v11 k1_t5 = 1#1), ∀ a, (k1_off643 v511) a + S1x16.size a ≤ S321x128.size a) ∧
  (∀ (k1_h6 : k1_cond6 v11 k1_t5 = 1#1), ∀ a, (k1_off645 v511) a + S1x16.size a ≤ S321x128.size a) ∧
  (∀ (k1_h6 : k1_cond6 v11 k1_t5 = 1#1), ∀ a, (k1_off647 v511) a + S1x16.size a ≤ S321x128.size a) ∧
  (∀ (k1_h6 : k1_cond6 v11 k1_t5 = 1#1), ∀ a, (k1_off649 v511) a + S1x16.size a ≤ S321x128.size a) ∧
  (∀ (k1_h6 : k1_cond6 v11 k1_t5 = 1#1), ∀ a, (k1_off651 v511) a + S1x16.size a ≤ S321x128.size a) ∧
  (∀ (k1_h6 : k1_cond6 v11 k1_t5 = 1#1), ∀ a, (k1_off653 v511) a + S1x16.size a ≤ S321x128.size a) ∧
  (∀ (k1_h6 : k1_cond6 v11 k1_t5 = 1#1), ∀ a, (k1_off655 v511) a + S1x16.size a ≤ S321x128.size a)
theorem k1_off641_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off641 v511) a + S1x16.size a ≤ S321x128.size a := fun v11 k1_t5 v511 k1_hw41 k1_h6 => k1_hw41.1 k1_h6
theorem k1_off643_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off643 v511) a + S1x16.size a ≤ S321x128.size a := fun v11 k1_t5 v511 k1_hw41 k1_h6 => k1_hw41.2.1 k1_h6
theorem k1_off645_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off645 v511) a + S1x16.size a ≤ S321x128.size a := fun v11 k1_t5 v511 k1_hw41 k1_h6 => k1_hw41.2.2.1 k1_h6
theorem k1_off647_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off647 v511) a + S1x16.size a ≤ S321x128.size a := fun v11 k1_t5 v511 k1_hw41 k1_h6 => k1_hw41.2.2.2.1 k1_h6
theorem k1_off649_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off649 v511) a + S1x16.size a ≤ S321x128.size a := fun v11 k1_t5 v511 k1_hw41 k1_h6 => k1_hw41.2.2.2.2.1 k1_h6
theorem k1_off651_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off651 v511) a + S1x16.size a ≤ S321x128.size a := fun v11 k1_t5 v511 k1_hw41 k1_h6 => k1_hw41.2.2.2.2.2.1 k1_h6
theorem k1_off653_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off653 v511) a + S1x16.size a ≤ S321x128.size a := fun v11 k1_t5 v511 k1_hw41 k1_h6 => k1_hw41.2.2.2.2.2.2.1 k1_h6
theorem k1_off655_inb : ∀ (v11 : BitVec 32) (k1_t5 : Fin (k1_t5_loop v11).trips) (v511 : BitVec 32) (k1_hw41 : k1_chk41 v11 k1_t5 v511), ∀ (k1_h6 : k1_cond6 v11 k1_t5 = 1#1), ∀ a, (k1_off655 v511) a + S1x16.size a ≤ S321x128.size a := fun v11 k1_t5 v511 k1_hw41 k1_h6 => k1_hw41.2.2.2.2.2.2.2 k1_h6

def k1_off656 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_223 : BitVec 32 := 16#32
  let v512 : BitVec 32 := Scalar.muli arg17 c16_i32_223
  let c7_i32 : BitVec 32 := 7#32
  let v513 : BitVec 32 := Scalar.addi v512 c7_i32
  let v565 : Index := Scalar.indexCast v513
  let c112_246 : Index := 112#32
  ![v565.toNat, 112]
def k1_off657 (v571 : BitVec 32) : Fin 2 → Nat :=
  let v574 : Index := Scalar.indexCast v571
  let c0_250 : Index := 0#32
  ![v574.toNat, 0]

def k1_off658 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v576 : Index := Scalar.indexCast v573
  let c0_251 : Index := 0#32
  ![v576.toNat, 0]
def k1_off659 (v571 : BitVec 32) : Fin 2 → Nat :=
  let v581 : Index := Scalar.indexCast v571
  let c16_253 : Index := 16#32
  ![v581.toNat, 16]
def k1_off660 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v583 : Index := Scalar.indexCast v573
  let c16_254 : Index := 16#32
  ![v583.toNat, 16]
def k1_off661 (v571 : BitVec 32) : Fin 2 → Nat :=
  let v588 : Index := Scalar.indexCast v571
  let c32_256 : Index := 32#32
  ![v588.toNat, 32]
def k1_off662 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v590 : Index := Scalar.indexCast v573
  let c32_257 : Index := 32#32
  ![v590.toNat, 32]
def k1_off663 (v571 : BitVec 32) : Fin 2 → Nat :=
  let v595 : Index := Scalar.indexCast v571
  let c48_259 : Index := 48#32
  ![v595.toNat, 48]
def k1_off664 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v597 : Index := Scalar.indexCast v573
  let c48_260 : Index := 48#32
  ![v597.toNat, 48]
def k1_off665 (v571 : BitVec 32) : Fin 2 → Nat :=
  let v602 : Index := Scalar.indexCast v571
  let c64_262 : Index := 64#32
  ![v602.toNat, 64]
def k1_off666 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v604 : Index := Scalar.indexCast v573
  let c64_263 : Index := 64#32
  ![v604.toNat, 64]
def k1_off667 (v571 : BitVec 32) : Fin 2 → Nat :=
  let v609 : Index := Scalar.indexCast v571
  let c80_265 : Index := 80#32
  ![v609.toNat, 80]
def k1_off668 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v611 : Index := Scalar.indexCast v573
  let c80_266 : Index := 80#32
  ![v611.toNat, 80]
def k1_off669 (v571 : BitVec 32) : Fin 2 → Nat :=
  let v616 : Index := Scalar.indexCast v571
  let c96_268 : Index := 96#32
  ![v616.toNat, 96]
def k1_off670 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v618 : Index := Scalar.indexCast v573
  let c96_269 : Index := 96#32
  ![v618.toNat, 96]
def k1_off671 (v571 : BitVec 32) : Fin 2 → Nat :=
  let v623 : Index := Scalar.indexCast v571
  let c112_271 : Index := 112#32
  ![v623.toNat, 112]

def k1_chk42 (v11 : BitVec 32) (k1_t5 : Fin (k1_t5_loop v11).trips) (v571 : BitVec 32) : Prop :=
  (∀ (k1_h6 : k1_cond6 v11 k1_t5 = 1#1), ∀ a, (k1_off657 v571) a + S1x16.size a ≤ S321x128.size a) ∧
  (∀ (k1_h6 : k1_cond6 v11 k1_t5 = 1#1), ∀ a, (k1_off659 v571) a + S1x16.size a ≤ S321x128.size a) ∧
  (∀ (k1_h6 : k1_cond6 v11 k1_t5 = 1#1), ∀ a, (k1_off661 v571) a + S1x16.size a ≤ S321x128.size a) ∧
  (∀ (k1_h6 : k1_cond6 v11 k1_t5 = 1#1), ∀ a, (k1_off663 v571) a + S1x16.size a ≤ S321x128.size a) ∧
  (∀ (k1_h6 : k1_cond6 v11 k1_t5 = 1#1), ∀ a, (k1_off665 v571) a + S1x16.size a ≤ S321x128.size a) ∧
  (∀ (k1_h6 : k1_cond6 v11 k1_t5 = 1#1), ∀ a, (k1_off667 v571) a + S1x16.size a ≤ S321x128.size a) ∧
  (∀ (k1_h6 : k1_cond6 v11 k1_t5 = 1#1), ∀ a, (k1_off669 v571) a + S1x16.size a ≤ S321x128.size a) ∧
  (∀ (k1_h6 : k1_cond6 v11 k1_t5 = 1#1), ∀ a, (k1_off671 v571) a + S1x16.size a ≤ S321x128.size a)
theorem k1_off657_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off657 v571) a + S1x16.size a ≤ S321x128.size a := fun v11 k1_t5 v571 k1_hw42 k1_h6 => k1_hw42.1 k1_h6
theorem k1_off659_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off659 v571) a + S1x16.size a ≤ S321x128.size a := fun v11 k1_t5 v571 k1_hw42 k1_h6 => k1_hw42.2.1 k1_h6
theorem k1_off661_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off661 v571) a + S1x16.size a ≤ S321x128.size a := fun v11 k1_t5 v571 k1_hw42 k1_h6 => k1_hw42.2.2.1 k1_h6
theorem k1_off663_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off663 v571) a + S1x16.size a ≤ S321x128.size a := fun v11 k1_t5 v571 k1_hw42 k1_h6 => k1_hw42.2.2.2.1 k1_h6
theorem k1_off665_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off665 v571) a + S1x16.size a ≤ S321x128.size a := fun v11 k1_t5 v571 k1_hw42 k1_h6 => k1_hw42.2.2.2.2.1 k1_h6
theorem k1_off667_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off667 v571) a + S1x16.size a ≤ S321x128.size a := fun v11 k1_t5 v571 k1_hw42 k1_h6 => k1_hw42.2.2.2.2.2.1 k1_h6
theorem k1_off669_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off669 v571) a + S1x16.size a ≤ S321x128.size a := fun v11 k1_t5 v571 k1_hw42 k1_h6 => k1_hw42.2.2.2.2.2.2.1 k1_h6
theorem k1_off671_inb : ∀ (v11 : BitVec 32) (k1_t5 : Fin (k1_t5_loop v11).trips) (v571 : BitVec 32) (k1_hw42 : k1_chk42 v11 k1_t5 v571), ∀ (k1_h6 : k1_cond6 v11 k1_t5 = 1#1), ∀ a, (k1_off671 v571) a + S1x16.size a ≤ S321x128.size a := fun v11 k1_t5 v571 k1_hw42 k1_h6 => k1_hw42.2.2.2.2.2.2.2 k1_h6

def k1_off672 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_248 : BitVec 32 := 16#32
  let v572 : BitVec 32 := Scalar.muli arg17 c16_i32_248
  let c8_i32_249 : BitVec 32 := 8#32
  let v573 : BitVec 32 := Scalar.addi v572 c8_i32_249
  let v625 : Index := Scalar.indexCast v573
  let c112_272 : Index := 112#32
  ![v625.toNat, 112]
def k1_off673 (v631 : BitVec 32) : Fin 2 → Nat :=
  let v634 : Index := Scalar.indexCast v631
  let c0_275 : Index := 0#32
  ![v634.toNat, 0]

def k1_off674 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v636 : Index := Scalar.indexCast v633
  let c0_276 : Index := 0#32
  ![v636.toNat, 0]
def k1_off675 (v631 : BitVec 32) : Fin 2 → Nat :=
  let v641 : Index := Scalar.indexCast v631
  let c16_278 : Index := 16#32
  ![v641.toNat, 16]
def k1_off676 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v643 : Index := Scalar.indexCast v633
  let c16_279 : Index := 16#32
  ![v643.toNat, 16]
def k1_off677 (v631 : BitVec 32) : Fin 2 → Nat :=
  let v648 : Index := Scalar.indexCast v631
  let c32_281 : Index := 32#32
  ![v648.toNat, 32]
def k1_off678 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v650 : Index := Scalar.indexCast v633
  let c32_282 : Index := 32#32
  ![v650.toNat, 32]
def k1_off679 (v631 : BitVec 32) : Fin 2 → Nat :=
  let v655 : Index := Scalar.indexCast v631
  let c48_284 : Index := 48#32
  ![v655.toNat, 48]
def k1_off680 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v657 : Index := Scalar.indexCast v633
  let c48_285 : Index := 48#32
  ![v657.toNat, 48]
def k1_off681 (v631 : BitVec 32) : Fin 2 → Nat :=
  let v662 : Index := Scalar.indexCast v631
  let c64_287 : Index := 64#32
  ![v662.toNat, 64]
def k1_off682 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v664 : Index := Scalar.indexCast v633
  let c64_288 : Index := 64#32
  ![v664.toNat, 64]
def k1_off683 (v631 : BitVec 32) : Fin 2 → Nat :=
  let v669 : Index := Scalar.indexCast v631
  let c80_290 : Index := 80#32
  ![v669.toNat, 80]
def k1_off684 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v671 : Index := Scalar.indexCast v633
  let c80_291 : Index := 80#32
  ![v671.toNat, 80]
def k1_off685 (v631 : BitVec 32) : Fin 2 → Nat :=
  let v676 : Index := Scalar.indexCast v631
  let c96_293 : Index := 96#32
  ![v676.toNat, 96]
def k1_off686 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v678 : Index := Scalar.indexCast v633
  let c96_294 : Index := 96#32
  ![v678.toNat, 96]
def k1_off687 (v631 : BitVec 32) : Fin 2 → Nat :=
  let v683 : Index := Scalar.indexCast v631
  let c112_296 : Index := 112#32
  ![v683.toNat, 112]

def k1_chk43 (v11 : BitVec 32) (k1_t5 : Fin (k1_t5_loop v11).trips) (v631 : BitVec 32) : Prop :=
  (∀ (k1_h6 : k1_cond6 v11 k1_t5 = 1#1), ∀ a, (k1_off673 v631) a + S1x16.size a ≤ S321x128.size a) ∧
  (∀ (k1_h6 : k1_cond6 v11 k1_t5 = 1#1), ∀ a, (k1_off675 v631) a + S1x16.size a ≤ S321x128.size a) ∧
  (∀ (k1_h6 : k1_cond6 v11 k1_t5 = 1#1), ∀ a, (k1_off677 v631) a + S1x16.size a ≤ S321x128.size a) ∧
  (∀ (k1_h6 : k1_cond6 v11 k1_t5 = 1#1), ∀ a, (k1_off679 v631) a + S1x16.size a ≤ S321x128.size a) ∧
  (∀ (k1_h6 : k1_cond6 v11 k1_t5 = 1#1), ∀ a, (k1_off681 v631) a + S1x16.size a ≤ S321x128.size a) ∧
  (∀ (k1_h6 : k1_cond6 v11 k1_t5 = 1#1), ∀ a, (k1_off683 v631) a + S1x16.size a ≤ S321x128.size a) ∧
  (∀ (k1_h6 : k1_cond6 v11 k1_t5 = 1#1), ∀ a, (k1_off685 v631) a + S1x16.size a ≤ S321x128.size a) ∧
  (∀ (k1_h6 : k1_cond6 v11 k1_t5 = 1#1), ∀ a, (k1_off687 v631) a + S1x16.size a ≤ S321x128.size a)
theorem k1_off673_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off673 v631) a + S1x16.size a ≤ S321x128.size a := fun v11 k1_t5 v631 k1_hw43 k1_h6 => k1_hw43.1 k1_h6
theorem k1_off675_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off675 v631) a + S1x16.size a ≤ S321x128.size a := fun v11 k1_t5 v631 k1_hw43 k1_h6 => k1_hw43.2.1 k1_h6
theorem k1_off677_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off677 v631) a + S1x16.size a ≤ S321x128.size a := fun v11 k1_t5 v631 k1_hw43 k1_h6 => k1_hw43.2.2.1 k1_h6
theorem k1_off679_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off679 v631) a + S1x16.size a ≤ S321x128.size a := fun v11 k1_t5 v631 k1_hw43 k1_h6 => k1_hw43.2.2.2.1 k1_h6
theorem k1_off681_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off681 v631) a + S1x16.size a ≤ S321x128.size a := fun v11 k1_t5 v631 k1_hw43 k1_h6 => k1_hw43.2.2.2.2.1 k1_h6
theorem k1_off683_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off683 v631) a + S1x16.size a ≤ S321x128.size a := fun v11 k1_t5 v631 k1_hw43 k1_h6 => k1_hw43.2.2.2.2.2.1 k1_h6
theorem k1_off685_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off685 v631) a + S1x16.size a ≤ S321x128.size a := fun v11 k1_t5 v631 k1_hw43 k1_h6 => k1_hw43.2.2.2.2.2.2.1 k1_h6
theorem k1_off687_inb : ∀ (v11 : BitVec 32) (k1_t5 : Fin (k1_t5_loop v11).trips) (v631 : BitVec 32) (k1_hw43 : k1_chk43 v11 k1_t5 v631), ∀ (k1_h6 : k1_cond6 v11 k1_t5 = 1#1), ∀ a, (k1_off687 v631) a + S1x16.size a ≤ S321x128.size a := fun v11 k1_t5 v631 k1_hw43 k1_h6 => k1_hw43.2.2.2.2.2.2.2 k1_h6

def k1_off688 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_274 : BitVec 32 := 16#32
  let v632 : BitVec 32 := Scalar.muli arg17 c16_i32_274
  let c9_i32 : BitVec 32 := 9#32
  let v633 : BitVec 32 := Scalar.addi v632 c9_i32
  let v685 : Index := Scalar.indexCast v633
  let c112_297 : Index := 112#32
  ![v685.toNat, 112]
def k1_off689 (v691 : BitVec 32) : Fin 2 → Nat :=
  let v694 : Index := Scalar.indexCast v691
  let c0_300 : Index := 0#32
  ![v694.toNat, 0]

def k1_off690 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v696 : Index := Scalar.indexCast v693
  let c0_301 : Index := 0#32
  ![v696.toNat, 0]
def k1_off691 (v691 : BitVec 32) : Fin 2 → Nat :=
  let v701 : Index := Scalar.indexCast v691
  let c16_303 : Index := 16#32
  ![v701.toNat, 16]
def k1_off692 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v703 : Index := Scalar.indexCast v693
  let c16_304 : Index := 16#32
  ![v703.toNat, 16]
def k1_off693 (v691 : BitVec 32) : Fin 2 → Nat :=
  let v708 : Index := Scalar.indexCast v691
  let c32_306 : Index := 32#32
  ![v708.toNat, 32]
def k1_off694 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v710 : Index := Scalar.indexCast v693
  let c32_307 : Index := 32#32
  ![v710.toNat, 32]
def k1_off695 (v691 : BitVec 32) : Fin 2 → Nat :=
  let v715 : Index := Scalar.indexCast v691
  let c48_309 : Index := 48#32
  ![v715.toNat, 48]
def k1_off696 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v717 : Index := Scalar.indexCast v693
  let c48_310 : Index := 48#32
  ![v717.toNat, 48]
def k1_off697 (v691 : BitVec 32) : Fin 2 → Nat :=
  let v722 : Index := Scalar.indexCast v691
  let c64_312 : Index := 64#32
  ![v722.toNat, 64]
def k1_off698 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v724 : Index := Scalar.indexCast v693
  let c64_313 : Index := 64#32
  ![v724.toNat, 64]
def k1_off699 (v691 : BitVec 32) : Fin 2 → Nat :=
  let v729 : Index := Scalar.indexCast v691
  let c80_315 : Index := 80#32
  ![v729.toNat, 80]
def k1_off700 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v731 : Index := Scalar.indexCast v693
  let c80_316 : Index := 80#32
  ![v731.toNat, 80]
def k1_off701 (v691 : BitVec 32) : Fin 2 → Nat :=
  let v736 : Index := Scalar.indexCast v691
  let c96_318 : Index := 96#32
  ![v736.toNat, 96]
def k1_off702 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v738 : Index := Scalar.indexCast v693
  let c96_319 : Index := 96#32
  ![v738.toNat, 96]
def k1_off703 (v691 : BitVec 32) : Fin 2 → Nat :=
  let v743 : Index := Scalar.indexCast v691
  let c112_321 : Index := 112#32
  ![v743.toNat, 112]

def k1_chk44 (v11 : BitVec 32) (k1_t5 : Fin (k1_t5_loop v11).trips) (v691 : BitVec 32) : Prop :=
  (∀ (k1_h6 : k1_cond6 v11 k1_t5 = 1#1), ∀ a, (k1_off689 v691) a + S1x16.size a ≤ S321x128.size a) ∧
  (∀ (k1_h6 : k1_cond6 v11 k1_t5 = 1#1), ∀ a, (k1_off691 v691) a + S1x16.size a ≤ S321x128.size a) ∧
  (∀ (k1_h6 : k1_cond6 v11 k1_t5 = 1#1), ∀ a, (k1_off693 v691) a + S1x16.size a ≤ S321x128.size a) ∧
  (∀ (k1_h6 : k1_cond6 v11 k1_t5 = 1#1), ∀ a, (k1_off695 v691) a + S1x16.size a ≤ S321x128.size a) ∧
  (∀ (k1_h6 : k1_cond6 v11 k1_t5 = 1#1), ∀ a, (k1_off697 v691) a + S1x16.size a ≤ S321x128.size a) ∧
  (∀ (k1_h6 : k1_cond6 v11 k1_t5 = 1#1), ∀ a, (k1_off699 v691) a + S1x16.size a ≤ S321x128.size a) ∧
  (∀ (k1_h6 : k1_cond6 v11 k1_t5 = 1#1), ∀ a, (k1_off701 v691) a + S1x16.size a ≤ S321x128.size a) ∧
  (∀ (k1_h6 : k1_cond6 v11 k1_t5 = 1#1), ∀ a, (k1_off703 v691) a + S1x16.size a ≤ S321x128.size a)
theorem k1_off689_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off689 v691) a + S1x16.size a ≤ S321x128.size a := fun v11 k1_t5 v691 k1_hw44 k1_h6 => k1_hw44.1 k1_h6
theorem k1_off691_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off691 v691) a + S1x16.size a ≤ S321x128.size a := fun v11 k1_t5 v691 k1_hw44 k1_h6 => k1_hw44.2.1 k1_h6
theorem k1_off693_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off693 v691) a + S1x16.size a ≤ S321x128.size a := fun v11 k1_t5 v691 k1_hw44 k1_h6 => k1_hw44.2.2.1 k1_h6
theorem k1_off695_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off695 v691) a + S1x16.size a ≤ S321x128.size a := fun v11 k1_t5 v691 k1_hw44 k1_h6 => k1_hw44.2.2.2.1 k1_h6
theorem k1_off697_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off697 v691) a + S1x16.size a ≤ S321x128.size a := fun v11 k1_t5 v691 k1_hw44 k1_h6 => k1_hw44.2.2.2.2.1 k1_h6
theorem k1_off699_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off699 v691) a + S1x16.size a ≤ S321x128.size a := fun v11 k1_t5 v691 k1_hw44 k1_h6 => k1_hw44.2.2.2.2.2.1 k1_h6
theorem k1_off701_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off701 v691) a + S1x16.size a ≤ S321x128.size a := fun v11 k1_t5 v691 k1_hw44 k1_h6 => k1_hw44.2.2.2.2.2.2.1 k1_h6
theorem k1_off703_inb : ∀ (v11 : BitVec 32) (k1_t5 : Fin (k1_t5_loop v11).trips) (v691 : BitVec 32) (k1_hw44 : k1_chk44 v11 k1_t5 v691), ∀ (k1_h6 : k1_cond6 v11 k1_t5 = 1#1), ∀ a, (k1_off703 v691) a + S1x16.size a ≤ S321x128.size a := fun v11 k1_t5 v691 k1_hw44 k1_h6 => k1_hw44.2.2.2.2.2.2.2 k1_h6

def k1_off704 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_299 : BitVec 32 := 16#32
  let v692 : BitVec 32 := Scalar.muli arg17 c16_i32_299
  let c10_i32 : BitVec 32 := 10#32
  let v693 : BitVec 32 := Scalar.addi v692 c10_i32
  let v745 : Index := Scalar.indexCast v693
  let c112_322 : Index := 112#32
  ![v745.toNat, 112]
def k1_off705 (v751 : BitVec 32) : Fin 2 → Nat :=
  let v754 : Index := Scalar.indexCast v751
  let c0_325 : Index := 0#32
  ![v754.toNat, 0]

def k1_off706 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v756 : Index := Scalar.indexCast v753
  let c0_326 : Index := 0#32
  ![v756.toNat, 0]
def k1_off707 (v751 : BitVec 32) : Fin 2 → Nat :=
  let v761 : Index := Scalar.indexCast v751
  let c16_328 : Index := 16#32
  ![v761.toNat, 16]
def k1_off708 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v763 : Index := Scalar.indexCast v753
  let c16_329 : Index := 16#32
  ![v763.toNat, 16]
def k1_off709 (v751 : BitVec 32) : Fin 2 → Nat :=
  let v768 : Index := Scalar.indexCast v751
  let c32_331 : Index := 32#32
  ![v768.toNat, 32]
def k1_off710 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v770 : Index := Scalar.indexCast v753
  let c32_332 : Index := 32#32
  ![v770.toNat, 32]
def k1_off711 (v751 : BitVec 32) : Fin 2 → Nat :=
  let v775 : Index := Scalar.indexCast v751
  let c48_334 : Index := 48#32
  ![v775.toNat, 48]
def k1_off712 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v777 : Index := Scalar.indexCast v753
  let c48_335 : Index := 48#32
  ![v777.toNat, 48]
def k1_off713 (v751 : BitVec 32) : Fin 2 → Nat :=
  let v782 : Index := Scalar.indexCast v751
  let c64_337 : Index := 64#32
  ![v782.toNat, 64]
def k1_off714 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v784 : Index := Scalar.indexCast v753
  let c64_338 : Index := 64#32
  ![v784.toNat, 64]
def k1_off715 (v751 : BitVec 32) : Fin 2 → Nat :=
  let v789 : Index := Scalar.indexCast v751
  let c80_340 : Index := 80#32
  ![v789.toNat, 80]
def k1_off716 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v791 : Index := Scalar.indexCast v753
  let c80_341 : Index := 80#32
  ![v791.toNat, 80]
def k1_off717 (v751 : BitVec 32) : Fin 2 → Nat :=
  let v796 : Index := Scalar.indexCast v751
  let c96_343 : Index := 96#32
  ![v796.toNat, 96]
def k1_off718 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v798 : Index := Scalar.indexCast v753
  let c96_344 : Index := 96#32
  ![v798.toNat, 96]
def k1_off719 (v751 : BitVec 32) : Fin 2 → Nat :=
  let v803 : Index := Scalar.indexCast v751
  let c112_346 : Index := 112#32
  ![v803.toNat, 112]

def k1_chk45 (v11 : BitVec 32) (k1_t5 : Fin (k1_t5_loop v11).trips) (v751 : BitVec 32) : Prop :=
  (∀ (k1_h6 : k1_cond6 v11 k1_t5 = 1#1), ∀ a, (k1_off705 v751) a + S1x16.size a ≤ S321x128.size a) ∧
  (∀ (k1_h6 : k1_cond6 v11 k1_t5 = 1#1), ∀ a, (k1_off707 v751) a + S1x16.size a ≤ S321x128.size a) ∧
  (∀ (k1_h6 : k1_cond6 v11 k1_t5 = 1#1), ∀ a, (k1_off709 v751) a + S1x16.size a ≤ S321x128.size a) ∧
  (∀ (k1_h6 : k1_cond6 v11 k1_t5 = 1#1), ∀ a, (k1_off711 v751) a + S1x16.size a ≤ S321x128.size a) ∧
  (∀ (k1_h6 : k1_cond6 v11 k1_t5 = 1#1), ∀ a, (k1_off713 v751) a + S1x16.size a ≤ S321x128.size a) ∧
  (∀ (k1_h6 : k1_cond6 v11 k1_t5 = 1#1), ∀ a, (k1_off715 v751) a + S1x16.size a ≤ S321x128.size a) ∧
  (∀ (k1_h6 : k1_cond6 v11 k1_t5 = 1#1), ∀ a, (k1_off717 v751) a + S1x16.size a ≤ S321x128.size a) ∧
  (∀ (k1_h6 : k1_cond6 v11 k1_t5 = 1#1), ∀ a, (k1_off719 v751) a + S1x16.size a ≤ S321x128.size a)
theorem k1_off705_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off705 v751) a + S1x16.size a ≤ S321x128.size a := fun v11 k1_t5 v751 k1_hw45 k1_h6 => k1_hw45.1 k1_h6
theorem k1_off707_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off707 v751) a + S1x16.size a ≤ S321x128.size a := fun v11 k1_t5 v751 k1_hw45 k1_h6 => k1_hw45.2.1 k1_h6
theorem k1_off709_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off709 v751) a + S1x16.size a ≤ S321x128.size a := fun v11 k1_t5 v751 k1_hw45 k1_h6 => k1_hw45.2.2.1 k1_h6
theorem k1_off711_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off711 v751) a + S1x16.size a ≤ S321x128.size a := fun v11 k1_t5 v751 k1_hw45 k1_h6 => k1_hw45.2.2.2.1 k1_h6
theorem k1_off713_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off713 v751) a + S1x16.size a ≤ S321x128.size a := fun v11 k1_t5 v751 k1_hw45 k1_h6 => k1_hw45.2.2.2.2.1 k1_h6
theorem k1_off715_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off715 v751) a + S1x16.size a ≤ S321x128.size a := fun v11 k1_t5 v751 k1_hw45 k1_h6 => k1_hw45.2.2.2.2.2.1 k1_h6
theorem k1_off717_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off717 v751) a + S1x16.size a ≤ S321x128.size a := fun v11 k1_t5 v751 k1_hw45 k1_h6 => k1_hw45.2.2.2.2.2.2.1 k1_h6
theorem k1_off719_inb : ∀ (v11 : BitVec 32) (k1_t5 : Fin (k1_t5_loop v11).trips) (v751 : BitVec 32) (k1_hw45 : k1_chk45 v11 k1_t5 v751), ∀ (k1_h6 : k1_cond6 v11 k1_t5 = 1#1), ∀ a, (k1_off719 v751) a + S1x16.size a ≤ S321x128.size a := fun v11 k1_t5 v751 k1_hw45 k1_h6 => k1_hw45.2.2.2.2.2.2.2 k1_h6

def k1_off720 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_324 : BitVec 32 := 16#32
  let v752 : BitVec 32 := Scalar.muli arg17 c16_i32_324
  let c11_i32 : BitVec 32 := 11#32
  let v753 : BitVec 32 := Scalar.addi v752 c11_i32
  let v805 : Index := Scalar.indexCast v753
  let c112_347 : Index := 112#32
  ![v805.toNat, 112]
def k1_off721 (v811 : BitVec 32) : Fin 2 → Nat :=
  let v814 : Index := Scalar.indexCast v811
  let c0_350 : Index := 0#32
  ![v814.toNat, 0]

def k1_off722 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v816 : Index := Scalar.indexCast v813
  let c0_351 : Index := 0#32
  ![v816.toNat, 0]
def k1_off723 (v811 : BitVec 32) : Fin 2 → Nat :=
  let v821 : Index := Scalar.indexCast v811
  let c16_353 : Index := 16#32
  ![v821.toNat, 16]
def k1_off724 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v823 : Index := Scalar.indexCast v813
  let c16_354 : Index := 16#32
  ![v823.toNat, 16]
def k1_off725 (v811 : BitVec 32) : Fin 2 → Nat :=
  let v828 : Index := Scalar.indexCast v811
  let c32_356 : Index := 32#32
  ![v828.toNat, 32]
def k1_off726 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v830 : Index := Scalar.indexCast v813
  let c32_357 : Index := 32#32
  ![v830.toNat, 32]
def k1_off727 (v811 : BitVec 32) : Fin 2 → Nat :=
  let v835 : Index := Scalar.indexCast v811
  let c48_359 : Index := 48#32
  ![v835.toNat, 48]
def k1_off728 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v837 : Index := Scalar.indexCast v813
  let c48_360 : Index := 48#32
  ![v837.toNat, 48]
def k1_off729 (v811 : BitVec 32) : Fin 2 → Nat :=
  let v842 : Index := Scalar.indexCast v811
  let c64_362 : Index := 64#32
  ![v842.toNat, 64]
def k1_off730 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v844 : Index := Scalar.indexCast v813
  let c64_363 : Index := 64#32
  ![v844.toNat, 64]
def k1_off731 (v811 : BitVec 32) : Fin 2 → Nat :=
  let v849 : Index := Scalar.indexCast v811
  let c80_365 : Index := 80#32
  ![v849.toNat, 80]
def k1_off732 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v851 : Index := Scalar.indexCast v813
  let c80_366 : Index := 80#32
  ![v851.toNat, 80]
def k1_off733 (v811 : BitVec 32) : Fin 2 → Nat :=
  let v856 : Index := Scalar.indexCast v811
  let c96_368 : Index := 96#32
  ![v856.toNat, 96]
def k1_off734 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v858 : Index := Scalar.indexCast v813
  let c96_369 : Index := 96#32
  ![v858.toNat, 96]
def k1_off735 (v811 : BitVec 32) : Fin 2 → Nat :=
  let v863 : Index := Scalar.indexCast v811
  let c112_371 : Index := 112#32
  ![v863.toNat, 112]

def k1_chk46 (v11 : BitVec 32) (k1_t5 : Fin (k1_t5_loop v11).trips) (v811 : BitVec 32) : Prop :=
  (∀ (k1_h6 : k1_cond6 v11 k1_t5 = 1#1), ∀ a, (k1_off721 v811) a + S1x16.size a ≤ S321x128.size a) ∧
  (∀ (k1_h6 : k1_cond6 v11 k1_t5 = 1#1), ∀ a, (k1_off723 v811) a + S1x16.size a ≤ S321x128.size a) ∧
  (∀ (k1_h6 : k1_cond6 v11 k1_t5 = 1#1), ∀ a, (k1_off725 v811) a + S1x16.size a ≤ S321x128.size a) ∧
  (∀ (k1_h6 : k1_cond6 v11 k1_t5 = 1#1), ∀ a, (k1_off727 v811) a + S1x16.size a ≤ S321x128.size a) ∧
  (∀ (k1_h6 : k1_cond6 v11 k1_t5 = 1#1), ∀ a, (k1_off729 v811) a + S1x16.size a ≤ S321x128.size a) ∧
  (∀ (k1_h6 : k1_cond6 v11 k1_t5 = 1#1), ∀ a, (k1_off731 v811) a + S1x16.size a ≤ S321x128.size a) ∧
  (∀ (k1_h6 : k1_cond6 v11 k1_t5 = 1#1), ∀ a, (k1_off733 v811) a + S1x16.size a ≤ S321x128.size a) ∧
  (∀ (k1_h6 : k1_cond6 v11 k1_t5 = 1#1), ∀ a, (k1_off735 v811) a + S1x16.size a ≤ S321x128.size a)
theorem k1_off721_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off721 v811) a + S1x16.size a ≤ S321x128.size a := fun v11 k1_t5 v811 k1_hw46 k1_h6 => k1_hw46.1 k1_h6
theorem k1_off723_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off723 v811) a + S1x16.size a ≤ S321x128.size a := fun v11 k1_t5 v811 k1_hw46 k1_h6 => k1_hw46.2.1 k1_h6
theorem k1_off725_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off725 v811) a + S1x16.size a ≤ S321x128.size a := fun v11 k1_t5 v811 k1_hw46 k1_h6 => k1_hw46.2.2.1 k1_h6
theorem k1_off727_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off727 v811) a + S1x16.size a ≤ S321x128.size a := fun v11 k1_t5 v811 k1_hw46 k1_h6 => k1_hw46.2.2.2.1 k1_h6
theorem k1_off729_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off729 v811) a + S1x16.size a ≤ S321x128.size a := fun v11 k1_t5 v811 k1_hw46 k1_h6 => k1_hw46.2.2.2.2.1 k1_h6
theorem k1_off731_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off731 v811) a + S1x16.size a ≤ S321x128.size a := fun v11 k1_t5 v811 k1_hw46 k1_h6 => k1_hw46.2.2.2.2.2.1 k1_h6
theorem k1_off733_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off733 v811) a + S1x16.size a ≤ S321x128.size a := fun v11 k1_t5 v811 k1_hw46 k1_h6 => k1_hw46.2.2.2.2.2.2.1 k1_h6
theorem k1_off735_inb : ∀ (v11 : BitVec 32) (k1_t5 : Fin (k1_t5_loop v11).trips) (v811 : BitVec 32) (k1_hw46 : k1_chk46 v11 k1_t5 v811), ∀ (k1_h6 : k1_cond6 v11 k1_t5 = 1#1), ∀ a, (k1_off735 v811) a + S1x16.size a ≤ S321x128.size a := fun v11 k1_t5 v811 k1_hw46 k1_h6 => k1_hw46.2.2.2.2.2.2.2 k1_h6

def k1_off736 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_349 : BitVec 32 := 16#32
  let v812 : BitVec 32 := Scalar.muli arg17 c16_i32_349
  let c12_i32 : BitVec 32 := 12#32
  let v813 : BitVec 32 := Scalar.addi v812 c12_i32
  let v865 : Index := Scalar.indexCast v813
  let c112_372 : Index := 112#32
  ![v865.toNat, 112]
def k1_off737 (v871 : BitVec 32) : Fin 2 → Nat :=
  let v874 : Index := Scalar.indexCast v871
  let c0_375 : Index := 0#32
  ![v874.toNat, 0]

def k1_off738 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v876 : Index := Scalar.indexCast v873
  let c0_376 : Index := 0#32
  ![v876.toNat, 0]
def k1_off739 (v871 : BitVec 32) : Fin 2 → Nat :=
  let v881 : Index := Scalar.indexCast v871
  let c16_378 : Index := 16#32
  ![v881.toNat, 16]
def k1_off740 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v883 : Index := Scalar.indexCast v873
  let c16_379 : Index := 16#32
  ![v883.toNat, 16]
def k1_off741 (v871 : BitVec 32) : Fin 2 → Nat :=
  let v888 : Index := Scalar.indexCast v871
  let c32_381 : Index := 32#32
  ![v888.toNat, 32]
def k1_off742 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v890 : Index := Scalar.indexCast v873
  let c32_382 : Index := 32#32
  ![v890.toNat, 32]
def k1_off743 (v871 : BitVec 32) : Fin 2 → Nat :=
  let v895 : Index := Scalar.indexCast v871
  let c48_384 : Index := 48#32
  ![v895.toNat, 48]
def k1_off744 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v897 : Index := Scalar.indexCast v873
  let c48_385 : Index := 48#32
  ![v897.toNat, 48]
def k1_off745 (v871 : BitVec 32) : Fin 2 → Nat :=
  let v902 : Index := Scalar.indexCast v871
  let c64_387 : Index := 64#32
  ![v902.toNat, 64]
def k1_off746 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v904 : Index := Scalar.indexCast v873
  let c64_388 : Index := 64#32
  ![v904.toNat, 64]
def k1_off747 (v871 : BitVec 32) : Fin 2 → Nat :=
  let v909 : Index := Scalar.indexCast v871
  let c80_390 : Index := 80#32
  ![v909.toNat, 80]
def k1_off748 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v911 : Index := Scalar.indexCast v873
  let c80_391 : Index := 80#32
  ![v911.toNat, 80]
def k1_off749 (v871 : BitVec 32) : Fin 2 → Nat :=
  let v916 : Index := Scalar.indexCast v871
  let c96_393 : Index := 96#32
  ![v916.toNat, 96]
def k1_off750 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v918 : Index := Scalar.indexCast v873
  let c96_394 : Index := 96#32
  ![v918.toNat, 96]
def k1_off751 (v871 : BitVec 32) : Fin 2 → Nat :=
  let v923 : Index := Scalar.indexCast v871
  let c112_396 : Index := 112#32
  ![v923.toNat, 112]

def k1_chk47 (v11 : BitVec 32) (k1_t5 : Fin (k1_t5_loop v11).trips) (v871 : BitVec 32) : Prop :=
  (∀ (k1_h6 : k1_cond6 v11 k1_t5 = 1#1), ∀ a, (k1_off737 v871) a + S1x16.size a ≤ S321x128.size a) ∧
  (∀ (k1_h6 : k1_cond6 v11 k1_t5 = 1#1), ∀ a, (k1_off739 v871) a + S1x16.size a ≤ S321x128.size a) ∧
  (∀ (k1_h6 : k1_cond6 v11 k1_t5 = 1#1), ∀ a, (k1_off741 v871) a + S1x16.size a ≤ S321x128.size a) ∧
  (∀ (k1_h6 : k1_cond6 v11 k1_t5 = 1#1), ∀ a, (k1_off743 v871) a + S1x16.size a ≤ S321x128.size a) ∧
  (∀ (k1_h6 : k1_cond6 v11 k1_t5 = 1#1), ∀ a, (k1_off745 v871) a + S1x16.size a ≤ S321x128.size a) ∧
  (∀ (k1_h6 : k1_cond6 v11 k1_t5 = 1#1), ∀ a, (k1_off747 v871) a + S1x16.size a ≤ S321x128.size a) ∧
  (∀ (k1_h6 : k1_cond6 v11 k1_t5 = 1#1), ∀ a, (k1_off749 v871) a + S1x16.size a ≤ S321x128.size a) ∧
  (∀ (k1_h6 : k1_cond6 v11 k1_t5 = 1#1), ∀ a, (k1_off751 v871) a + S1x16.size a ≤ S321x128.size a)
theorem k1_off737_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off737 v871) a + S1x16.size a ≤ S321x128.size a := fun v11 k1_t5 v871 k1_hw47 k1_h6 => k1_hw47.1 k1_h6
theorem k1_off739_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off739 v871) a + S1x16.size a ≤ S321x128.size a := fun v11 k1_t5 v871 k1_hw47 k1_h6 => k1_hw47.2.1 k1_h6
theorem k1_off741_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off741 v871) a + S1x16.size a ≤ S321x128.size a := fun v11 k1_t5 v871 k1_hw47 k1_h6 => k1_hw47.2.2.1 k1_h6
theorem k1_off743_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off743 v871) a + S1x16.size a ≤ S321x128.size a := fun v11 k1_t5 v871 k1_hw47 k1_h6 => k1_hw47.2.2.2.1 k1_h6
theorem k1_off745_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off745 v871) a + S1x16.size a ≤ S321x128.size a := fun v11 k1_t5 v871 k1_hw47 k1_h6 => k1_hw47.2.2.2.2.1 k1_h6
theorem k1_off747_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off747 v871) a + S1x16.size a ≤ S321x128.size a := fun v11 k1_t5 v871 k1_hw47 k1_h6 => k1_hw47.2.2.2.2.2.1 k1_h6
theorem k1_off749_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off749 v871) a + S1x16.size a ≤ S321x128.size a := fun v11 k1_t5 v871 k1_hw47 k1_h6 => k1_hw47.2.2.2.2.2.2.1 k1_h6
theorem k1_off751_inb : ∀ (v11 : BitVec 32) (k1_t5 : Fin (k1_t5_loop v11).trips) (v871 : BitVec 32) (k1_hw47 : k1_chk47 v11 k1_t5 v871), ∀ (k1_h6 : k1_cond6 v11 k1_t5 = 1#1), ∀ a, (k1_off751 v871) a + S1x16.size a ≤ S321x128.size a := fun v11 k1_t5 v871 k1_hw47 k1_h6 => k1_hw47.2.2.2.2.2.2.2 k1_h6

def k1_off752 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_374 : BitVec 32 := 16#32
  let v872 : BitVec 32 := Scalar.muli arg17 c16_i32_374
  let c13_i32 : BitVec 32 := 13#32
  let v873 : BitVec 32 := Scalar.addi v872 c13_i32
  let v925 : Index := Scalar.indexCast v873
  let c112_397 : Index := 112#32
  ![v925.toNat, 112]
def k1_off753 (v931 : BitVec 32) : Fin 2 → Nat :=
  let v934 : Index := Scalar.indexCast v931
  let c0_400 : Index := 0#32
  ![v934.toNat, 0]

def k1_off754 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v936 : Index := Scalar.indexCast v933
  let c0_401 : Index := 0#32
  ![v936.toNat, 0]
def k1_off755 (v931 : BitVec 32) : Fin 2 → Nat :=
  let v941 : Index := Scalar.indexCast v931
  let c16_403 : Index := 16#32
  ![v941.toNat, 16]
def k1_off756 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v943 : Index := Scalar.indexCast v933
  let c16_404 : Index := 16#32
  ![v943.toNat, 16]
def k1_off757 (v931 : BitVec 32) : Fin 2 → Nat :=
  let v948 : Index := Scalar.indexCast v931
  let c32_406 : Index := 32#32
  ![v948.toNat, 32]
def k1_off758 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v950 : Index := Scalar.indexCast v933
  let c32_407 : Index := 32#32
  ![v950.toNat, 32]
def k1_off759 (v931 : BitVec 32) : Fin 2 → Nat :=
  let v955 : Index := Scalar.indexCast v931
  let c48_409 : Index := 48#32
  ![v955.toNat, 48]
def k1_off760 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v957 : Index := Scalar.indexCast v933
  let c48_410 : Index := 48#32
  ![v957.toNat, 48]
def k1_off761 (v931 : BitVec 32) : Fin 2 → Nat :=
  let v962 : Index := Scalar.indexCast v931
  let c64_412 : Index := 64#32
  ![v962.toNat, 64]
def k1_off762 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v964 : Index := Scalar.indexCast v933
  let c64_413 : Index := 64#32
  ![v964.toNat, 64]
def k1_off763 (v931 : BitVec 32) : Fin 2 → Nat :=
  let v969 : Index := Scalar.indexCast v931
  let c80_415 : Index := 80#32
  ![v969.toNat, 80]
def k1_off764 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v971 : Index := Scalar.indexCast v933
  let c80_416 : Index := 80#32
  ![v971.toNat, 80]
def k1_off765 (v931 : BitVec 32) : Fin 2 → Nat :=
  let v976 : Index := Scalar.indexCast v931
  let c96_418 : Index := 96#32
  ![v976.toNat, 96]
def k1_off766 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v978 : Index := Scalar.indexCast v933
  let c96_419 : Index := 96#32
  ![v978.toNat, 96]
def k1_off767 (v931 : BitVec 32) : Fin 2 → Nat :=
  let v983 : Index := Scalar.indexCast v931
  let c112_421 : Index := 112#32
  ![v983.toNat, 112]

def k1_chk48 (v11 : BitVec 32) (k1_t5 : Fin (k1_t5_loop v11).trips) (v931 : BitVec 32) : Prop :=
  (∀ (k1_h6 : k1_cond6 v11 k1_t5 = 1#1), ∀ a, (k1_off753 v931) a + S1x16.size a ≤ S321x128.size a) ∧
  (∀ (k1_h6 : k1_cond6 v11 k1_t5 = 1#1), ∀ a, (k1_off755 v931) a + S1x16.size a ≤ S321x128.size a) ∧
  (∀ (k1_h6 : k1_cond6 v11 k1_t5 = 1#1), ∀ a, (k1_off757 v931) a + S1x16.size a ≤ S321x128.size a) ∧
  (∀ (k1_h6 : k1_cond6 v11 k1_t5 = 1#1), ∀ a, (k1_off759 v931) a + S1x16.size a ≤ S321x128.size a) ∧
  (∀ (k1_h6 : k1_cond6 v11 k1_t5 = 1#1), ∀ a, (k1_off761 v931) a + S1x16.size a ≤ S321x128.size a) ∧
  (∀ (k1_h6 : k1_cond6 v11 k1_t5 = 1#1), ∀ a, (k1_off763 v931) a + S1x16.size a ≤ S321x128.size a) ∧
  (∀ (k1_h6 : k1_cond6 v11 k1_t5 = 1#1), ∀ a, (k1_off765 v931) a + S1x16.size a ≤ S321x128.size a) ∧
  (∀ (k1_h6 : k1_cond6 v11 k1_t5 = 1#1), ∀ a, (k1_off767 v931) a + S1x16.size a ≤ S321x128.size a)
theorem k1_off753_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off753 v931) a + S1x16.size a ≤ S321x128.size a := fun v11 k1_t5 v931 k1_hw48 k1_h6 => k1_hw48.1 k1_h6
theorem k1_off755_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off755 v931) a + S1x16.size a ≤ S321x128.size a := fun v11 k1_t5 v931 k1_hw48 k1_h6 => k1_hw48.2.1 k1_h6
theorem k1_off757_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off757 v931) a + S1x16.size a ≤ S321x128.size a := fun v11 k1_t5 v931 k1_hw48 k1_h6 => k1_hw48.2.2.1 k1_h6
theorem k1_off759_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off759 v931) a + S1x16.size a ≤ S321x128.size a := fun v11 k1_t5 v931 k1_hw48 k1_h6 => k1_hw48.2.2.2.1 k1_h6
theorem k1_off761_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off761 v931) a + S1x16.size a ≤ S321x128.size a := fun v11 k1_t5 v931 k1_hw48 k1_h6 => k1_hw48.2.2.2.2.1 k1_h6
theorem k1_off763_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off763 v931) a + S1x16.size a ≤ S321x128.size a := fun v11 k1_t5 v931 k1_hw48 k1_h6 => k1_hw48.2.2.2.2.2.1 k1_h6
theorem k1_off765_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off765 v931) a + S1x16.size a ≤ S321x128.size a := fun v11 k1_t5 v931 k1_hw48 k1_h6 => k1_hw48.2.2.2.2.2.2.1 k1_h6
theorem k1_off767_inb : ∀ (v11 : BitVec 32) (k1_t5 : Fin (k1_t5_loop v11).trips) (v931 : BitVec 32) (k1_hw48 : k1_chk48 v11 k1_t5 v931), ∀ (k1_h6 : k1_cond6 v11 k1_t5 = 1#1), ∀ a, (k1_off767 v931) a + S1x16.size a ≤ S321x128.size a := fun v11 k1_t5 v931 k1_hw48 k1_h6 => k1_hw48.2.2.2.2.2.2.2 k1_h6

def k1_off768 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_399 : BitVec 32 := 16#32
  let v932 : BitVec 32 := Scalar.muli arg17 c16_i32_399
  let c14_i32 : BitVec 32 := 14#32
  let v933 : BitVec 32 := Scalar.addi v932 c14_i32
  let v985 : Index := Scalar.indexCast v933
  let c112_422 : Index := 112#32
  ![v985.toNat, 112]
def k1_off769 (v991 : BitVec 32) : Fin 2 → Nat :=
  let v994 : Index := Scalar.indexCast v991
  let c0_425 : Index := 0#32
  ![v994.toNat, 0]

def k1_off770 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v996 : Index := Scalar.indexCast v993
  let c0_426 : Index := 0#32
  ![v996.toNat, 0]
def k1_off771 (v991 : BitVec 32) : Fin 2 → Nat :=
  let v1001 : Index := Scalar.indexCast v991
  let c16_428 : Index := 16#32
  ![v1001.toNat, 16]
def k1_off772 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v1003 : Index := Scalar.indexCast v993
  let c16_429 : Index := 16#32
  ![v1003.toNat, 16]
def k1_off773 (v991 : BitVec 32) : Fin 2 → Nat :=
  let v1008 : Index := Scalar.indexCast v991
  let c32_431 : Index := 32#32
  ![v1008.toNat, 32]
def k1_off774 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v1010 : Index := Scalar.indexCast v993
  let c32_432 : Index := 32#32
  ![v1010.toNat, 32]
def k1_off775 (v991 : BitVec 32) : Fin 2 → Nat :=
  let v1015 : Index := Scalar.indexCast v991
  let c48_434 : Index := 48#32
  ![v1015.toNat, 48]
def k1_off776 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v1017 : Index := Scalar.indexCast v993
  let c48_435 : Index := 48#32
  ![v1017.toNat, 48]
def k1_off777 (v991 : BitVec 32) : Fin 2 → Nat :=
  let v1022 : Index := Scalar.indexCast v991
  let c64_437 : Index := 64#32
  ![v1022.toNat, 64]
def k1_off778 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v1024 : Index := Scalar.indexCast v993
  let c64_438 : Index := 64#32
  ![v1024.toNat, 64]
def k1_off779 (v991 : BitVec 32) : Fin 2 → Nat :=
  let v1029 : Index := Scalar.indexCast v991
  let c80_440 : Index := 80#32
  ![v1029.toNat, 80]
def k1_off780 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v1031 : Index := Scalar.indexCast v993
  let c80_441 : Index := 80#32
  ![v1031.toNat, 80]
def k1_off781 (v991 : BitVec 32) : Fin 2 → Nat :=
  let v1036 : Index := Scalar.indexCast v991
  let c96_443 : Index := 96#32
  ![v1036.toNat, 96]
def k1_off782 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v1038 : Index := Scalar.indexCast v993
  let c96_444 : Index := 96#32
  ![v1038.toNat, 96]
def k1_off783 (v991 : BitVec 32) : Fin 2 → Nat :=
  let v1043 : Index := Scalar.indexCast v991
  let c112_446 : Index := 112#32
  ![v1043.toNat, 112]

def k1_chk49 (v11 : BitVec 32) (k1_t5 : Fin (k1_t5_loop v11).trips) (v991 : BitVec 32) : Prop :=
  (∀ (k1_h6 : k1_cond6 v11 k1_t5 = 1#1), ∀ a, (k1_off769 v991) a + S1x16.size a ≤ S321x128.size a) ∧
  (∀ (k1_h6 : k1_cond6 v11 k1_t5 = 1#1), ∀ a, (k1_off771 v991) a + S1x16.size a ≤ S321x128.size a) ∧
  (∀ (k1_h6 : k1_cond6 v11 k1_t5 = 1#1), ∀ a, (k1_off773 v991) a + S1x16.size a ≤ S321x128.size a) ∧
  (∀ (k1_h6 : k1_cond6 v11 k1_t5 = 1#1), ∀ a, (k1_off775 v991) a + S1x16.size a ≤ S321x128.size a) ∧
  (∀ (k1_h6 : k1_cond6 v11 k1_t5 = 1#1), ∀ a, (k1_off777 v991) a + S1x16.size a ≤ S321x128.size a) ∧
  (∀ (k1_h6 : k1_cond6 v11 k1_t5 = 1#1), ∀ a, (k1_off779 v991) a + S1x16.size a ≤ S321x128.size a) ∧
  (∀ (k1_h6 : k1_cond6 v11 k1_t5 = 1#1), ∀ a, (k1_off781 v991) a + S1x16.size a ≤ S321x128.size a) ∧
  (∀ (k1_h6 : k1_cond6 v11 k1_t5 = 1#1), ∀ a, (k1_off783 v991) a + S1x16.size a ≤ S321x128.size a)
theorem k1_off769_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off769 v991) a + S1x16.size a ≤ S321x128.size a := fun v11 k1_t5 v991 k1_hw49 k1_h6 => k1_hw49.1 k1_h6
theorem k1_off771_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off771 v991) a + S1x16.size a ≤ S321x128.size a := fun v11 k1_t5 v991 k1_hw49 k1_h6 => k1_hw49.2.1 k1_h6
theorem k1_off773_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off773 v991) a + S1x16.size a ≤ S321x128.size a := fun v11 k1_t5 v991 k1_hw49 k1_h6 => k1_hw49.2.2.1 k1_h6
theorem k1_off775_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off775 v991) a + S1x16.size a ≤ S321x128.size a := fun v11 k1_t5 v991 k1_hw49 k1_h6 => k1_hw49.2.2.2.1 k1_h6
theorem k1_off777_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off777 v991) a + S1x16.size a ≤ S321x128.size a := fun v11 k1_t5 v991 k1_hw49 k1_h6 => k1_hw49.2.2.2.2.1 k1_h6
theorem k1_off779_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off779 v991) a + S1x16.size a ≤ S321x128.size a := fun v11 k1_t5 v991 k1_hw49 k1_h6 => k1_hw49.2.2.2.2.2.1 k1_h6
theorem k1_off781_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off781 v991) a + S1x16.size a ≤ S321x128.size a := fun v11 k1_t5 v991 k1_hw49 k1_h6 => k1_hw49.2.2.2.2.2.2.1 k1_h6
theorem k1_off783_inb : ∀ (v11 : BitVec 32) (k1_t5 : Fin (k1_t5_loop v11).trips) (v991 : BitVec 32) (k1_hw49 : k1_chk49 v11 k1_t5 v991), ∀ (k1_h6 : k1_cond6 v11 k1_t5 = 1#1), ∀ a, (k1_off783 v991) a + S1x16.size a ≤ S321x128.size a := fun v11 k1_t5 v991 k1_hw49 k1_h6 => k1_hw49.2.2.2.2.2.2.2 k1_h6

def k1_off784 (k1_t6 : Fin k1_t6_loop.trips) : Fin 2 → Nat :=
  let c0_i32_48 : BitVec 32 := 0#32
  let c1_i32_49 : BitVec 32 := 1#32
  let arg17 : BitVec 32 := Scf.iv c0_i32_48 c1_i32_49 k1_t6
  let c16_i32_424 : BitVec 32 := 16#32
  let v992 : BitVec 32 := Scalar.muli arg17 c16_i32_424
  let c15_i32 : BitVec 32 := 15#32
  let v993 : BitVec 32 := Scalar.addi v992 c15_i32
  let v1045 : Index := Scalar.indexCast v993
  let c112_447 : Index := 112#32
  ![v1045.toNat, 112]
def k1_off785 (v11 : BitVec 32) (k1_t5 : Fin (k1_t5_loop v11).trips) : Fin 1 → Nat :=
  let c2_i32_37 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v72 : BitVec 32 := Scalar.muli c2_i32_37 arg15
  let c1_i32_38 : BitVec 32 := 1#32
  let v73 : BitVec 32 := Scalar.addi v72 c1_i32_38
  let c1_i32_51 : BitVec 32 := 1#32
  let v86 : BitVec 32 := Scalar.addi v73 c1_i32_51
  let c128_i32_52 : BitVec 32 := 128#32
  let v87 : BitVec 32 := Scalar.muli v86 c128_i32_52
  ![v87.toNat]
def k1_cond8 (v11 : BitVec 32) (k1_t5 : Fin (k1_t5_loop v11).trips) : BitVec 1 :=
  let c2_i32_37 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v72 : BitVec 32 := Scalar.muli c2_i32_37 arg15
  let c1_i32_38 : BitVec 32 := 1#32
  let v73 : BitVec 32 := Scalar.addi v72 c1_i32_38
  let v74 : BitVec 1 := Scalar.cmpi .slt v73 v30
  let v75 : BitVec 32 := Scalar.extui v74
  let c0_i32_39 : BitVec 32 := 0#32
  let v76 : BitVec 1 := Scalar.cmpi .ne v75 c0_i32_39
  v76

def k1_cond9 (v11 : BitVec 32) (k1_t5 : Fin (k1_t5_loop v11).trips) : BitVec 1 :=
  let c2_i32_37 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v72 : BitVec 32 := Scalar.muli c2_i32_37 arg15
  let c1_i32_38 : BitVec 32 := 1#32
  let v73 : BitVec 32 := Scalar.addi v72 c1_i32_38
  let c1_i32_44 : BitVec 32 := 1#32
  let v79 : BitVec 32 := Scalar.addi v73 c1_i32_44
  let v80 : BitVec 1 := Scalar.cmpi .slt v79 v30
  let v81 : BitVec 32 := Scalar.extui v80
  let c0_i32_45 : BitVec 32 := 0#32
  let v82 : BitVec 1 := Scalar.cmpi .ne v81 c0_i32_45
  v82

@[reducible] def k1_t7_loop : Scf.Loop 32 :=
  let c0_i32_48 : BitVec 32 := 0#32
  let c8_i32 : BitVec 32 := 8#32
  let v84 : BitVec 32 := Scalar.addi c0_i32_48 c8_i32
  let c1_i32_49 : BitVec 32 := 1#32
  ⟨c0_i32_48, v84, c1_i32_49⟩
def k1_off786 (v11 : BitVec 32) (k1_t5 : Fin (k1_t5_loop v11).trips) (k1_t7 : Fin k1_t7_loop.trips) : Fin 1 → Nat :=
  let c2_i32_37 : BitVec 32 := 2#32
  let c0_i32_21 : BitVec 32 := 0#32
  let c128_i32 : BitVec 32 := 128#32
  let v12 : BitVec 32 := Scalar.addi v11 c128_i32
  let c1_i32_3 : BitVec 32 := 1#32
  let v13 : BitVec 32 := Scalar.subi v12 c1_i32_3
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c128_i32_4 : BitVec 32 := 128#32
  let c0_i32_7 : BitVec 32 := 0#32
  let v20 : BitVec 1 := Scalar.cmpi .sgt c128_i32_4 c0_i32_7
  let v21 : BitVec 32 := Scalar.extui v20
  let c0_i32_8 : BitVec 32 := 0#32
  let v22 : BitVec 1 := Scalar.cmpi .slt c128_i32_4 c0_i32_8
  let v23 : BitVec 32 := Scalar.extui v22
  let v24 : BitVec 32 := Scalar.subi v21 v23
  let v25 : BitVec 1 := Scalar.cmpi .ne v19 v24
  let v26 : BitVec 32 := Scalar.remsi v13 c128_i32_4
  let c0_i32_9 : BitVec 32 := 0#32
  let v27 : BitVec 1 := Scalar.cmpi .ne v26 c0_i32_9
  let v28 : BitVec 1 := Scalar.andi v25 v27
  let v14 : BitVec 32 := Scalar.divsi v13 c128_i32_4
  let c1_i32_10 : BitVec 32 := 1#32
  let v29 : BitVec 32 := Scalar.subi v14 c1_i32_10
  let v30 : BitVec 32 := Scalar.select v28 v29 v14
  let c1_i32_13 : BitVec 32 := 1#32
  let v34 : BitVec 32 := Scalar.addi v30 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let v52 : BitVec 32 := Scalar.subi v51 c0_i32_21
  let c1_i32_23 : BitVec 32 := 1#32
  let v54 : BitVec 32 := Scalar.divsi v52 c1_i32_23
  let v55 : BitVec 32 := Scalar.muli v54 c1_i32_23
  let v56 : BitVec 32 := Scalar.addi c0_i32_21 v55
  let c1_i32_25 : BitVec 32 := 1#32
  let arg15 : BitVec 32 := Scf.iv v56 c1_i32_25 k1_t5
  let v72 : BitVec 32 := Scalar.muli c2_i32_37 arg15
  let c1_i32_38 : BitVec 32 := 1#32
  let v73 : BitVec 32 := Scalar.addi v72 c1_i32_38
  let c128_i32_46 : BitVec 32 := 128#32
  let v83 : BitVec 32 := Scalar.muli v73 c128_i32_46
  let c0_i32_48 : BitVec 32 := 0#32
  let c1_i32_49 : BitVec 32 := 1#32
  let arg17 : BitVec 32 := Scf.iv c0_i32_48 c1_i32_49 k1_t7
  let c16_i32_51 : BitVec 32 := 16#32
  let v86 : BitVec 32 := Scalar.muli arg17 c16_i32_51
  let v87 : BitVec 32 := Scalar.addi v83 v86
  let v88 : Index := Scalar.indexCast v87
  ![v88.toNat]

def k1_chk1 (v11 : BitVec 32) : Prop :=
  ((k1_t2_loop v11).OK) ∧
  (∀ k1_t2 : Fin (k1_t2_loop v11).trips, ∀ (k1_h2 : k1_cond2 v11 k1_t2 = 1#1), ∀ (k1_h3 : k1_cond3 v11 k1_t2 = 1#1), ∀ a, (k1_off11 v11 k1_t2) a + S128.size a ≤ S16384.size a) ∧
  (∀ (k1_t2 : Fin (k1_t2_loop v11).trips) (k1_t3 : Fin k1_t3_loop.trips), ∀ (k1_h2 : k1_cond2 v11 k1_t2 = 1#1), ∀ a, (k1_off12 v11 k1_t2 k1_t3) a + S16.size a ≤ S16384.size a) ∧
  (∀ k1_t2 : Fin (k1_t2_loop v11).trips, ∀ (k1_h4 : k1_cond4 v11 k1_t2 = 1#1), ∀ (k1_h5 : k1_cond5 v11 k1_t2 = 1#1), ∀ a, (k1_off269 v11 k1_t2) a + S128.size a ≤ S16384.size a) ∧
  (∀ (k1_t2 : Fin (k1_t2_loop v11).trips) (k1_t4 : Fin k1_t4_loop.trips), ∀ (k1_h4 : k1_cond4 v11 k1_t2 = 1#1), ∀ a, (k1_off270 v11 k1_t2 k1_t4) a + S16.size a ≤ S16384.size a) ∧
  ((k1_t5_loop v11).OK) ∧
  (∀ k1_t5 : Fin (k1_t5_loop v11).trips, ∀ (k1_h6 : k1_cond6 v11 k1_t5 = 1#1), ∀ (k1_h7 : k1_cond7 v11 k1_t5 = 1#1), ∀ a, (k1_off527 v11 k1_t5) a + S128.size a ≤ S16384.size a) ∧
  (∀ (k1_t5 : Fin (k1_t5_loop v11).trips) (k1_t6 : Fin k1_t6_loop.trips), ∀ (k1_h6 : k1_cond6 v11 k1_t5 = 1#1), ∀ a, (k1_off528 v11 k1_t5 k1_t6) a + S16.size a ≤ S16384.size a) ∧
  (∀ k1_t5 : Fin (k1_t5_loop v11).trips, ∀ (k1_h8 : k1_cond8 v11 k1_t5 = 1#1), ∀ (k1_h9 : k1_cond9 v11 k1_t5 = 1#1), ∀ a, (k1_off785 v11 k1_t5) a + S128.size a ≤ S16384.size a) ∧
  (∀ (k1_t5 : Fin (k1_t5_loop v11).trips) (k1_t7 : Fin k1_t7_loop.trips), ∀ (k1_h8 : k1_cond8 v11 k1_t5 = 1#1), ∀ a, (k1_off786 v11 k1_t5 k1_t7) a + S16.size a ≤ S16384.size a)
theorem k1_t2_ok : ∀ (v11 : BitVec 32) (k1_hw1 : k1_chk1 v11), (k1_t2_loop v11).OK := fun v11 k1_hw1 => k1_hw1.1
theorem k1_off11_inb : ∀ (v11 : BitVec 32) (k1_hw1 : k1_chk1 v11) (k1_t2 : Fin (k1_t2_loop v11).trips), ∀ (k1_h2 : k1_cond2 v11 k1_t2 = 1#1), ∀ (k1_h3 : k1_cond3 v11 k1_t2 = 1#1), ∀ a, (k1_off11 v11 k1_t2) a + S128.size a ≤ S16384.size a := fun v11 k1_hw1 k1_t2 k1_h2 k1_h3 => k1_hw1.2.1 k1_t2 k1_h2 k1_h3
theorem k1_off12_inb : ∀ (v11 : BitVec 32) (k1_hw1 : k1_chk1 v11) (k1_t2 : Fin (k1_t2_loop v11).trips) (k1_t3 : Fin k1_t3_loop.trips), ∀ (k1_h2 : k1_cond2 v11 k1_t2 = 1#1), ∀ a, (k1_off12 v11 k1_t2 k1_t3) a + S16.size a ≤ S16384.size a := fun v11 k1_hw1 k1_t2 k1_t3 k1_h2 => k1_hw1.2.2.1 k1_t2 k1_t3 k1_h2
theorem k1_off269_inb : ∀ (v11 : BitVec 32) (k1_hw1 : k1_chk1 v11) (k1_t2 : Fin (k1_t2_loop v11).trips), ∀ (k1_h4 : k1_cond4 v11 k1_t2 = 1#1), ∀ (k1_h5 : k1_cond5 v11 k1_t2 = 1#1), ∀ a, (k1_off269 v11 k1_t2) a + S128.size a ≤ S16384.size a := fun v11 k1_hw1 k1_t2 k1_h4 k1_h5 => k1_hw1.2.2.2.1 k1_t2 k1_h4 k1_h5
theorem k1_off270_inb : ∀ (v11 : BitVec 32) (k1_hw1 : k1_chk1 v11) (k1_t2 : Fin (k1_t2_loop v11).trips) (k1_t4 : Fin k1_t4_loop.trips), ∀ (k1_h4 : k1_cond4 v11 k1_t2 = 1#1), ∀ a, (k1_off270 v11 k1_t2 k1_t4) a + S16.size a ≤ S16384.size a := fun v11 k1_hw1 k1_t2 k1_t4 k1_h4 => k1_hw1.2.2.2.2.1 k1_t2 k1_t4 k1_h4
theorem k1_t5_ok : ∀ (v11 : BitVec 32) (k1_hw1 : k1_chk1 v11), (k1_t5_loop v11).OK := fun v11 k1_hw1 => k1_hw1.2.2.2.2.2.1
theorem k1_off527_inb : ∀ (v11 : BitVec 32) (k1_hw1 : k1_chk1 v11) (k1_t5 : Fin (k1_t5_loop v11).trips), ∀ (k1_h6 : k1_cond6 v11 k1_t5 = 1#1), ∀ (k1_h7 : k1_cond7 v11 k1_t5 = 1#1), ∀ a, (k1_off527 v11 k1_t5) a + S128.size a ≤ S16384.size a := fun v11 k1_hw1 k1_t5 k1_h6 k1_h7 => k1_hw1.2.2.2.2.2.2.1 k1_t5 k1_h6 k1_h7
theorem k1_off528_inb : ∀ (v11 : BitVec 32) (k1_hw1 : k1_chk1 v11) (k1_t5 : Fin (k1_t5_loop v11).trips) (k1_t6 : Fin k1_t6_loop.trips), ∀ (k1_h6 : k1_cond6 v11 k1_t5 = 1#1), ∀ a, (k1_off528 v11 k1_t5 k1_t6) a + S16.size a ≤ S16384.size a := fun v11 k1_hw1 k1_t5 k1_t6 k1_h6 => k1_hw1.2.2.2.2.2.2.2.1 k1_t5 k1_t6 k1_h6
theorem k1_off785_inb : ∀ (v11 : BitVec 32) (k1_hw1 : k1_chk1 v11) (k1_t5 : Fin (k1_t5_loop v11).trips), ∀ (k1_h8 : k1_cond8 v11 k1_t5 = 1#1), ∀ (k1_h9 : k1_cond9 v11 k1_t5 = 1#1), ∀ a, (k1_off785 v11 k1_t5) a + S128.size a ≤ S16384.size a := fun v11 k1_hw1 k1_t5 k1_h8 k1_h9 => k1_hw1.2.2.2.2.2.2.2.2.1 k1_t5 k1_h8 k1_h9
theorem k1_off786_inb : ∀ (v11 : BitVec 32) (k1_hw1 : k1_chk1 v11) (k1_t5 : Fin (k1_t5_loop v11).trips) (k1_t7 : Fin k1_t7_loop.trips), ∀ (k1_h8 : k1_cond8 v11 k1_t5 = 1#1), ∀ a, (k1_off786 v11 k1_t5 k1_t7) a + S16.size a ≤ S16384.size a := fun v11 k1_hw1 k1_t5 k1_t7 k1_h8 => k1_hw1.2.2.2.2.2.2.2.2.2 k1_t5 k1_t7 k1_h8

def k1_off787 (v91 : BitVec 32) : Fin 2 → Nat :=
  let v94 : Index := Scalar.indexCast v91
  let c0_54 : Index := 0#32
  ![v94.toNat, 0]

def k1_off788 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v96 : Index := Scalar.indexCast v93
  let c0_55 : Index := 0#32
  ![v96.toNat, 0]
def k1_off789 (v91 : BitVec 32) : Fin 2 → Nat :=
  let v101 : Index := Scalar.indexCast v91
  let c16 : Index := 16#32
  ![v101.toNat, 16]
def k1_off790 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v103 : Index := Scalar.indexCast v93
  let c16_57 : Index := 16#32
  ![v103.toNat, 16]
def k1_off791 (v91 : BitVec 32) : Fin 2 → Nat :=
  let v108 : Index := Scalar.indexCast v91
  let c32 : Index := 32#32
  ![v108.toNat, 32]
def k1_off792 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v110 : Index := Scalar.indexCast v93
  let c32_59 : Index := 32#32
  ![v110.toNat, 32]
def k1_off793 (v91 : BitVec 32) : Fin 2 → Nat :=
  let v115 : Index := Scalar.indexCast v91
  let c48 : Index := 48#32
  ![v115.toNat, 48]
def k1_off794 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v117 : Index := Scalar.indexCast v93
  let c48_61 : Index := 48#32
  ![v117.toNat, 48]
def k1_off795 (v91 : BitVec 32) : Fin 2 → Nat :=
  let v122 : Index := Scalar.indexCast v91
  let c64 : Index := 64#32
  ![v122.toNat, 64]
def k1_off796 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v124 : Index := Scalar.indexCast v93
  let c64_63 : Index := 64#32
  ![v124.toNat, 64]
def k1_off797 (v91 : BitVec 32) : Fin 2 → Nat :=
  let v129 : Index := Scalar.indexCast v91
  let c80 : Index := 80#32
  ![v129.toNat, 80]
def k1_off798 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v131 : Index := Scalar.indexCast v93
  let c80_65 : Index := 80#32
  ![v131.toNat, 80]
def k1_off799 (v91 : BitVec 32) : Fin 2 → Nat :=
  let v136 : Index := Scalar.indexCast v91
  let c96 : Index := 96#32
  ![v136.toNat, 96]
def k1_off800 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v138 : Index := Scalar.indexCast v93
  let c96_67 : Index := 96#32
  ![v138.toNat, 96]
def k1_off801 (v91 : BitVec 32) : Fin 2 → Nat :=
  let v143 : Index := Scalar.indexCast v91
  let c112 : Index := 112#32
  ![v143.toNat, 112]

def k1_chk50 (v11 : BitVec 32) (k1_t5 : Fin (k1_t5_loop v11).trips) (v91 : BitVec 32) : Prop :=
  (∀ (k1_h8 : k1_cond8 v11 k1_t5 = 1#1), ∀ a, (k1_off787 v91) a + S1x16.size a ≤ S321x128.size a) ∧
  (∀ (k1_h8 : k1_cond8 v11 k1_t5 = 1#1), ∀ a, (k1_off789 v91) a + S1x16.size a ≤ S321x128.size a) ∧
  (∀ (k1_h8 : k1_cond8 v11 k1_t5 = 1#1), ∀ a, (k1_off791 v91) a + S1x16.size a ≤ S321x128.size a) ∧
  (∀ (k1_h8 : k1_cond8 v11 k1_t5 = 1#1), ∀ a, (k1_off793 v91) a + S1x16.size a ≤ S321x128.size a) ∧
  (∀ (k1_h8 : k1_cond8 v11 k1_t5 = 1#1), ∀ a, (k1_off795 v91) a + S1x16.size a ≤ S321x128.size a) ∧
  (∀ (k1_h8 : k1_cond8 v11 k1_t5 = 1#1), ∀ a, (k1_off797 v91) a + S1x16.size a ≤ S321x128.size a) ∧
  (∀ (k1_h8 : k1_cond8 v11 k1_t5 = 1#1), ∀ a, (k1_off799 v91) a + S1x16.size a ≤ S321x128.size a) ∧
  (∀ (k1_h8 : k1_cond8 v11 k1_t5 = 1#1), ∀ a, (k1_off801 v91) a + S1x16.size a ≤ S321x128.size a)
theorem k1_off787_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off787 v91) a + S1x16.size a ≤ S321x128.size a := fun v11 k1_t5 v91 k1_hw50 k1_h8 => k1_hw50.1 k1_h8
theorem k1_off789_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off789 v91) a + S1x16.size a ≤ S321x128.size a := fun v11 k1_t5 v91 k1_hw50 k1_h8 => k1_hw50.2.1 k1_h8
theorem k1_off791_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off791 v91) a + S1x16.size a ≤ S321x128.size a := fun v11 k1_t5 v91 k1_hw50 k1_h8 => k1_hw50.2.2.1 k1_h8
theorem k1_off793_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off793 v91) a + S1x16.size a ≤ S321x128.size a := fun v11 k1_t5 v91 k1_hw50 k1_h8 => k1_hw50.2.2.2.1 k1_h8
theorem k1_off795_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off795 v91) a + S1x16.size a ≤ S321x128.size a := fun v11 k1_t5 v91 k1_hw50 k1_h8 => k1_hw50.2.2.2.2.1 k1_h8
theorem k1_off797_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off797 v91) a + S1x16.size a ≤ S321x128.size a := fun v11 k1_t5 v91 k1_hw50 k1_h8 => k1_hw50.2.2.2.2.2.1 k1_h8
theorem k1_off799_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off799 v91) a + S1x16.size a ≤ S321x128.size a := fun v11 k1_t5 v91 k1_hw50 k1_h8 => k1_hw50.2.2.2.2.2.2.1 k1_h8
theorem k1_off801_inb : ∀ (v11 : BitVec 32) (k1_t5 : Fin (k1_t5_loop v11).trips) (v91 : BitVec 32) (k1_hw50 : k1_chk50 v11 k1_t5 v91), ∀ (k1_h8 : k1_cond8 v11 k1_t5 = 1#1), ∀ a, (k1_off801 v91) a + S1x16.size a ≤ S321x128.size a := fun v11 k1_t5 v91 k1_hw50 k1_h8 => k1_hw50.2.2.2.2.2.2.2 k1_h8

def k1_off802 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_52 : BitVec 32 := 16#32
  let v92 : BitVec 32 := Scalar.muli arg17 c16_i32_52
  let c0_i32_53 : BitVec 32 := 0#32
  let v93 : BitVec 32 := Scalar.addi v92 c0_i32_53
  let v145 : Index := Scalar.indexCast v93
  let c112_69 : Index := 112#32
  ![v145.toNat, 112]
def k1_off803 (v151 : BitVec 32) : Fin 2 → Nat :=
  let v154 : Index := Scalar.indexCast v151
  let c0_73 : Index := 0#32
  ![v154.toNat, 0]

def k1_off804 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v156 : Index := Scalar.indexCast v153
  let c0_74 : Index := 0#32
  ![v156.toNat, 0]
def k1_off805 (v151 : BitVec 32) : Fin 2 → Nat :=
  let v161 : Index := Scalar.indexCast v151
  let c16_76 : Index := 16#32
  ![v161.toNat, 16]
def k1_off806 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v163 : Index := Scalar.indexCast v153
  let c16_77 : Index := 16#32
  ![v163.toNat, 16]
def k1_off807 (v151 : BitVec 32) : Fin 2 → Nat :=
  let v168 : Index := Scalar.indexCast v151
  let c32_79 : Index := 32#32
  ![v168.toNat, 32]
def k1_off808 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v170 : Index := Scalar.indexCast v153
  let c32_80 : Index := 32#32
  ![v170.toNat, 32]
def k1_off809 (v151 : BitVec 32) : Fin 2 → Nat :=
  let v175 : Index := Scalar.indexCast v151
  let c48_82 : Index := 48#32
  ![v175.toNat, 48]
def k1_off810 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v177 : Index := Scalar.indexCast v153
  let c48_83 : Index := 48#32
  ![v177.toNat, 48]
def k1_off811 (v151 : BitVec 32) : Fin 2 → Nat :=
  let v182 : Index := Scalar.indexCast v151
  let c64_85 : Index := 64#32
  ![v182.toNat, 64]
def k1_off812 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v184 : Index := Scalar.indexCast v153
  let c64_86 : Index := 64#32
  ![v184.toNat, 64]
def k1_off813 (v151 : BitVec 32) : Fin 2 → Nat :=
  let v189 : Index := Scalar.indexCast v151
  let c80_88 : Index := 80#32
  ![v189.toNat, 80]
def k1_off814 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v191 : Index := Scalar.indexCast v153
  let c80_89 : Index := 80#32
  ![v191.toNat, 80]
def k1_off815 (v151 : BitVec 32) : Fin 2 → Nat :=
  let v196 : Index := Scalar.indexCast v151
  let c96_91 : Index := 96#32
  ![v196.toNat, 96]
def k1_off816 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v198 : Index := Scalar.indexCast v153
  let c96_92 : Index := 96#32
  ![v198.toNat, 96]
def k1_off817 (v151 : BitVec 32) : Fin 2 → Nat :=
  let v203 : Index := Scalar.indexCast v151
  let c112_94 : Index := 112#32
  ![v203.toNat, 112]

def k1_chk51 (v11 : BitVec 32) (k1_t5 : Fin (k1_t5_loop v11).trips) (v151 : BitVec 32) : Prop :=
  (∀ (k1_h8 : k1_cond8 v11 k1_t5 = 1#1), ∀ a, (k1_off803 v151) a + S1x16.size a ≤ S321x128.size a) ∧
  (∀ (k1_h8 : k1_cond8 v11 k1_t5 = 1#1), ∀ a, (k1_off805 v151) a + S1x16.size a ≤ S321x128.size a) ∧
  (∀ (k1_h8 : k1_cond8 v11 k1_t5 = 1#1), ∀ a, (k1_off807 v151) a + S1x16.size a ≤ S321x128.size a) ∧
  (∀ (k1_h8 : k1_cond8 v11 k1_t5 = 1#1), ∀ a, (k1_off809 v151) a + S1x16.size a ≤ S321x128.size a) ∧
  (∀ (k1_h8 : k1_cond8 v11 k1_t5 = 1#1), ∀ a, (k1_off811 v151) a + S1x16.size a ≤ S321x128.size a) ∧
  (∀ (k1_h8 : k1_cond8 v11 k1_t5 = 1#1), ∀ a, (k1_off813 v151) a + S1x16.size a ≤ S321x128.size a) ∧
  (∀ (k1_h8 : k1_cond8 v11 k1_t5 = 1#1), ∀ a, (k1_off815 v151) a + S1x16.size a ≤ S321x128.size a) ∧
  (∀ (k1_h8 : k1_cond8 v11 k1_t5 = 1#1), ∀ a, (k1_off817 v151) a + S1x16.size a ≤ S321x128.size a)
theorem k1_off803_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off803 v151) a + S1x16.size a ≤ S321x128.size a := fun v11 k1_t5 v151 k1_hw51 k1_h8 => k1_hw51.1 k1_h8
theorem k1_off805_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off805 v151) a + S1x16.size a ≤ S321x128.size a := fun v11 k1_t5 v151 k1_hw51 k1_h8 => k1_hw51.2.1 k1_h8
theorem k1_off807_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off807 v151) a + S1x16.size a ≤ S321x128.size a := fun v11 k1_t5 v151 k1_hw51 k1_h8 => k1_hw51.2.2.1 k1_h8
theorem k1_off809_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off809 v151) a + S1x16.size a ≤ S321x128.size a := fun v11 k1_t5 v151 k1_hw51 k1_h8 => k1_hw51.2.2.2.1 k1_h8
theorem k1_off811_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off811 v151) a + S1x16.size a ≤ S321x128.size a := fun v11 k1_t5 v151 k1_hw51 k1_h8 => k1_hw51.2.2.2.2.1 k1_h8
theorem k1_off813_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off813 v151) a + S1x16.size a ≤ S321x128.size a := fun v11 k1_t5 v151 k1_hw51 k1_h8 => k1_hw51.2.2.2.2.2.1 k1_h8
theorem k1_off815_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off815 v151) a + S1x16.size a ≤ S321x128.size a := fun v11 k1_t5 v151 k1_hw51 k1_h8 => k1_hw51.2.2.2.2.2.2.1 k1_h8
theorem k1_off817_inb : ∀ (v11 : BitVec 32) (k1_t5 : Fin (k1_t5_loop v11).trips) (v151 : BitVec 32) (k1_hw51 : k1_chk51 v11 k1_t5 v151), ∀ (k1_h8 : k1_cond8 v11 k1_t5 = 1#1), ∀ a, (k1_off817 v151) a + S1x16.size a ≤ S321x128.size a := fun v11 k1_t5 v151 k1_hw51 k1_h8 => k1_hw51.2.2.2.2.2.2.2 k1_h8

def k1_off818 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_71 : BitVec 32 := 16#32
  let v152 : BitVec 32 := Scalar.muli arg17 c16_i32_71
  let c1_i32_72 : BitVec 32 := 1#32
  let v153 : BitVec 32 := Scalar.addi v152 c1_i32_72
  let v205 : Index := Scalar.indexCast v153
  let c112_95 : Index := 112#32
  ![v205.toNat, 112]
def k1_off819 (v211 : BitVec 32) : Fin 2 → Nat :=
  let v214 : Index := Scalar.indexCast v211
  let c0_99 : Index := 0#32
  ![v214.toNat, 0]

def k1_off820 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v216 : Index := Scalar.indexCast v213
  let c0_100 : Index := 0#32
  ![v216.toNat, 0]
def k1_off821 (v211 : BitVec 32) : Fin 2 → Nat :=
  let v221 : Index := Scalar.indexCast v211
  let c16_102 : Index := 16#32
  ![v221.toNat, 16]
def k1_off822 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v223 : Index := Scalar.indexCast v213
  let c16_103 : Index := 16#32
  ![v223.toNat, 16]
def k1_off823 (v211 : BitVec 32) : Fin 2 → Nat :=
  let v228 : Index := Scalar.indexCast v211
  let c32_105 : Index := 32#32
  ![v228.toNat, 32]
def k1_off824 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v230 : Index := Scalar.indexCast v213
  let c32_106 : Index := 32#32
  ![v230.toNat, 32]
def k1_off825 (v211 : BitVec 32) : Fin 2 → Nat :=
  let v235 : Index := Scalar.indexCast v211
  let c48_108 : Index := 48#32
  ![v235.toNat, 48]
def k1_off826 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v237 : Index := Scalar.indexCast v213
  let c48_109 : Index := 48#32
  ![v237.toNat, 48]
def k1_off827 (v211 : BitVec 32) : Fin 2 → Nat :=
  let v242 : Index := Scalar.indexCast v211
  let c64_111 : Index := 64#32
  ![v242.toNat, 64]
def k1_off828 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v244 : Index := Scalar.indexCast v213
  let c64_112 : Index := 64#32
  ![v244.toNat, 64]
def k1_off829 (v211 : BitVec 32) : Fin 2 → Nat :=
  let v249 : Index := Scalar.indexCast v211
  let c80_114 : Index := 80#32
  ![v249.toNat, 80]
def k1_off830 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v251 : Index := Scalar.indexCast v213
  let c80_115 : Index := 80#32
  ![v251.toNat, 80]
def k1_off831 (v211 : BitVec 32) : Fin 2 → Nat :=
  let v256 : Index := Scalar.indexCast v211
  let c96_117 : Index := 96#32
  ![v256.toNat, 96]
def k1_off832 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v258 : Index := Scalar.indexCast v213
  let c96_118 : Index := 96#32
  ![v258.toNat, 96]
def k1_off833 (v211 : BitVec 32) : Fin 2 → Nat :=
  let v263 : Index := Scalar.indexCast v211
  let c112_120 : Index := 112#32
  ![v263.toNat, 112]

def k1_chk52 (v11 : BitVec 32) (k1_t5 : Fin (k1_t5_loop v11).trips) (v211 : BitVec 32) : Prop :=
  (∀ (k1_h8 : k1_cond8 v11 k1_t5 = 1#1), ∀ a, (k1_off819 v211) a + S1x16.size a ≤ S321x128.size a) ∧
  (∀ (k1_h8 : k1_cond8 v11 k1_t5 = 1#1), ∀ a, (k1_off821 v211) a + S1x16.size a ≤ S321x128.size a) ∧
  (∀ (k1_h8 : k1_cond8 v11 k1_t5 = 1#1), ∀ a, (k1_off823 v211) a + S1x16.size a ≤ S321x128.size a) ∧
  (∀ (k1_h8 : k1_cond8 v11 k1_t5 = 1#1), ∀ a, (k1_off825 v211) a + S1x16.size a ≤ S321x128.size a) ∧
  (∀ (k1_h8 : k1_cond8 v11 k1_t5 = 1#1), ∀ a, (k1_off827 v211) a + S1x16.size a ≤ S321x128.size a) ∧
  (∀ (k1_h8 : k1_cond8 v11 k1_t5 = 1#1), ∀ a, (k1_off829 v211) a + S1x16.size a ≤ S321x128.size a) ∧
  (∀ (k1_h8 : k1_cond8 v11 k1_t5 = 1#1), ∀ a, (k1_off831 v211) a + S1x16.size a ≤ S321x128.size a) ∧
  (∀ (k1_h8 : k1_cond8 v11 k1_t5 = 1#1), ∀ a, (k1_off833 v211) a + S1x16.size a ≤ S321x128.size a)
theorem k1_off819_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off819 v211) a + S1x16.size a ≤ S321x128.size a := fun v11 k1_t5 v211 k1_hw52 k1_h8 => k1_hw52.1 k1_h8
theorem k1_off821_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off821 v211) a + S1x16.size a ≤ S321x128.size a := fun v11 k1_t5 v211 k1_hw52 k1_h8 => k1_hw52.2.1 k1_h8
theorem k1_off823_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off823 v211) a + S1x16.size a ≤ S321x128.size a := fun v11 k1_t5 v211 k1_hw52 k1_h8 => k1_hw52.2.2.1 k1_h8
theorem k1_off825_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off825 v211) a + S1x16.size a ≤ S321x128.size a := fun v11 k1_t5 v211 k1_hw52 k1_h8 => k1_hw52.2.2.2.1 k1_h8
theorem k1_off827_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off827 v211) a + S1x16.size a ≤ S321x128.size a := fun v11 k1_t5 v211 k1_hw52 k1_h8 => k1_hw52.2.2.2.2.1 k1_h8
theorem k1_off829_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off829 v211) a + S1x16.size a ≤ S321x128.size a := fun v11 k1_t5 v211 k1_hw52 k1_h8 => k1_hw52.2.2.2.2.2.1 k1_h8
theorem k1_off831_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off831 v211) a + S1x16.size a ≤ S321x128.size a := fun v11 k1_t5 v211 k1_hw52 k1_h8 => k1_hw52.2.2.2.2.2.2.1 k1_h8
theorem k1_off833_inb : ∀ (v11 : BitVec 32) (k1_t5 : Fin (k1_t5_loop v11).trips) (v211 : BitVec 32) (k1_hw52 : k1_chk52 v11 k1_t5 v211), ∀ (k1_h8 : k1_cond8 v11 k1_t5 = 1#1), ∀ a, (k1_off833 v211) a + S1x16.size a ≤ S321x128.size a := fun v11 k1_t5 v211 k1_hw52 k1_h8 => k1_hw52.2.2.2.2.2.2.2 k1_h8

def k1_off834 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_97 : BitVec 32 := 16#32
  let v212 : BitVec 32 := Scalar.muli arg17 c16_i32_97
  let c2_i32_98 : BitVec 32 := 2#32
  let v213 : BitVec 32 := Scalar.addi v212 c2_i32_98
  let v265 : Index := Scalar.indexCast v213
  let c112_121 : Index := 112#32
  ![v265.toNat, 112]
def k1_off835 (v271 : BitVec 32) : Fin 2 → Nat :=
  let v274 : Index := Scalar.indexCast v271
  let c0_124 : Index := 0#32
  ![v274.toNat, 0]

def k1_off836 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v276 : Index := Scalar.indexCast v273
  let c0_125 : Index := 0#32
  ![v276.toNat, 0]
def k1_off837 (v271 : BitVec 32) : Fin 2 → Nat :=
  let v281 : Index := Scalar.indexCast v271
  let c16_127 : Index := 16#32
  ![v281.toNat, 16]
def k1_off838 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v283 : Index := Scalar.indexCast v273
  let c16_128 : Index := 16#32
  ![v283.toNat, 16]
def k1_off839 (v271 : BitVec 32) : Fin 2 → Nat :=
  let v288 : Index := Scalar.indexCast v271
  let c32_130 : Index := 32#32
  ![v288.toNat, 32]
def k1_off840 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v290 : Index := Scalar.indexCast v273
  let c32_131 : Index := 32#32
  ![v290.toNat, 32]
def k1_off841 (v271 : BitVec 32) : Fin 2 → Nat :=
  let v295 : Index := Scalar.indexCast v271
  let c48_133 : Index := 48#32
  ![v295.toNat, 48]
def k1_off842 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v297 : Index := Scalar.indexCast v273
  let c48_134 : Index := 48#32
  ![v297.toNat, 48]
def k1_off843 (v271 : BitVec 32) : Fin 2 → Nat :=
  let v302 : Index := Scalar.indexCast v271
  let c64_136 : Index := 64#32
  ![v302.toNat, 64]
def k1_off844 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v304 : Index := Scalar.indexCast v273
  let c64_137 : Index := 64#32
  ![v304.toNat, 64]
def k1_off845 (v271 : BitVec 32) : Fin 2 → Nat :=
  let v309 : Index := Scalar.indexCast v271
  let c80_139 : Index := 80#32
  ![v309.toNat, 80]
def k1_off846 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v311 : Index := Scalar.indexCast v273
  let c80_140 : Index := 80#32
  ![v311.toNat, 80]
def k1_off847 (v271 : BitVec 32) : Fin 2 → Nat :=
  let v316 : Index := Scalar.indexCast v271
  let c96_142 : Index := 96#32
  ![v316.toNat, 96]
def k1_off848 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v318 : Index := Scalar.indexCast v273
  let c96_143 : Index := 96#32
  ![v318.toNat, 96]
def k1_off849 (v271 : BitVec 32) : Fin 2 → Nat :=
  let v323 : Index := Scalar.indexCast v271
  let c112_145 : Index := 112#32
  ![v323.toNat, 112]

def k1_chk53 (v11 : BitVec 32) (k1_t5 : Fin (k1_t5_loop v11).trips) (v271 : BitVec 32) : Prop :=
  (∀ (k1_h8 : k1_cond8 v11 k1_t5 = 1#1), ∀ a, (k1_off835 v271) a + S1x16.size a ≤ S321x128.size a) ∧
  (∀ (k1_h8 : k1_cond8 v11 k1_t5 = 1#1), ∀ a, (k1_off837 v271) a + S1x16.size a ≤ S321x128.size a) ∧
  (∀ (k1_h8 : k1_cond8 v11 k1_t5 = 1#1), ∀ a, (k1_off839 v271) a + S1x16.size a ≤ S321x128.size a) ∧
  (∀ (k1_h8 : k1_cond8 v11 k1_t5 = 1#1), ∀ a, (k1_off841 v271) a + S1x16.size a ≤ S321x128.size a) ∧
  (∀ (k1_h8 : k1_cond8 v11 k1_t5 = 1#1), ∀ a, (k1_off843 v271) a + S1x16.size a ≤ S321x128.size a) ∧
  (∀ (k1_h8 : k1_cond8 v11 k1_t5 = 1#1), ∀ a, (k1_off845 v271) a + S1x16.size a ≤ S321x128.size a) ∧
  (∀ (k1_h8 : k1_cond8 v11 k1_t5 = 1#1), ∀ a, (k1_off847 v271) a + S1x16.size a ≤ S321x128.size a) ∧
  (∀ (k1_h8 : k1_cond8 v11 k1_t5 = 1#1), ∀ a, (k1_off849 v271) a + S1x16.size a ≤ S321x128.size a)
theorem k1_off835_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off835 v271) a + S1x16.size a ≤ S321x128.size a := fun v11 k1_t5 v271 k1_hw53 k1_h8 => k1_hw53.1 k1_h8
theorem k1_off837_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off837 v271) a + S1x16.size a ≤ S321x128.size a := fun v11 k1_t5 v271 k1_hw53 k1_h8 => k1_hw53.2.1 k1_h8
theorem k1_off839_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off839 v271) a + S1x16.size a ≤ S321x128.size a := fun v11 k1_t5 v271 k1_hw53 k1_h8 => k1_hw53.2.2.1 k1_h8
theorem k1_off841_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off841 v271) a + S1x16.size a ≤ S321x128.size a := fun v11 k1_t5 v271 k1_hw53 k1_h8 => k1_hw53.2.2.2.1 k1_h8
theorem k1_off843_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off843 v271) a + S1x16.size a ≤ S321x128.size a := fun v11 k1_t5 v271 k1_hw53 k1_h8 => k1_hw53.2.2.2.2.1 k1_h8
theorem k1_off845_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off845 v271) a + S1x16.size a ≤ S321x128.size a := fun v11 k1_t5 v271 k1_hw53 k1_h8 => k1_hw53.2.2.2.2.2.1 k1_h8
theorem k1_off847_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off847 v271) a + S1x16.size a ≤ S321x128.size a := fun v11 k1_t5 v271 k1_hw53 k1_h8 => k1_hw53.2.2.2.2.2.2.1 k1_h8
theorem k1_off849_inb : ∀ (v11 : BitVec 32) (k1_t5 : Fin (k1_t5_loop v11).trips) (v271 : BitVec 32) (k1_hw53 : k1_chk53 v11 k1_t5 v271), ∀ (k1_h8 : k1_cond8 v11 k1_t5 = 1#1), ∀ a, (k1_off849 v271) a + S1x16.size a ≤ S321x128.size a := fun v11 k1_t5 v271 k1_hw53 k1_h8 => k1_hw53.2.2.2.2.2.2.2 k1_h8

def k1_off850 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_123 : BitVec 32 := 16#32
  let v272 : BitVec 32 := Scalar.muli arg17 c16_i32_123
  let c3_i32 : BitVec 32 := 3#32
  let v273 : BitVec 32 := Scalar.addi v272 c3_i32
  let v325 : Index := Scalar.indexCast v273
  let c112_146 : Index := 112#32
  ![v325.toNat, 112]
def k1_off851 (v331 : BitVec 32) : Fin 2 → Nat :=
  let v334 : Index := Scalar.indexCast v331
  let c0_149 : Index := 0#32
  ![v334.toNat, 0]

def k1_off852 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v336 : Index := Scalar.indexCast v333
  let c0_150 : Index := 0#32
  ![v336.toNat, 0]
def k1_off853 (v331 : BitVec 32) : Fin 2 → Nat :=
  let v341 : Index := Scalar.indexCast v331
  let c16_152 : Index := 16#32
  ![v341.toNat, 16]
def k1_off854 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v343 : Index := Scalar.indexCast v333
  let c16_153 : Index := 16#32
  ![v343.toNat, 16]
def k1_off855 (v331 : BitVec 32) : Fin 2 → Nat :=
  let v348 : Index := Scalar.indexCast v331
  let c32_155 : Index := 32#32
  ![v348.toNat, 32]
def k1_off856 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v350 : Index := Scalar.indexCast v333
  let c32_156 : Index := 32#32
  ![v350.toNat, 32]
def k1_off857 (v331 : BitVec 32) : Fin 2 → Nat :=
  let v355 : Index := Scalar.indexCast v331
  let c48_158 : Index := 48#32
  ![v355.toNat, 48]
def k1_off858 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v357 : Index := Scalar.indexCast v333
  let c48_159 : Index := 48#32
  ![v357.toNat, 48]
def k1_off859 (v331 : BitVec 32) : Fin 2 → Nat :=
  let v362 : Index := Scalar.indexCast v331
  let c64_161 : Index := 64#32
  ![v362.toNat, 64]
def k1_off860 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v364 : Index := Scalar.indexCast v333
  let c64_162 : Index := 64#32
  ![v364.toNat, 64]
def k1_off861 (v331 : BitVec 32) : Fin 2 → Nat :=
  let v369 : Index := Scalar.indexCast v331
  let c80_164 : Index := 80#32
  ![v369.toNat, 80]
def k1_off862 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v371 : Index := Scalar.indexCast v333
  let c80_165 : Index := 80#32
  ![v371.toNat, 80]
def k1_off863 (v331 : BitVec 32) : Fin 2 → Nat :=
  let v376 : Index := Scalar.indexCast v331
  let c96_167 : Index := 96#32
  ![v376.toNat, 96]
def k1_off864 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v378 : Index := Scalar.indexCast v333
  let c96_168 : Index := 96#32
  ![v378.toNat, 96]
def k1_off865 (v331 : BitVec 32) : Fin 2 → Nat :=
  let v383 : Index := Scalar.indexCast v331
  let c112_170 : Index := 112#32
  ![v383.toNat, 112]

def k1_chk54 (v11 : BitVec 32) (k1_t5 : Fin (k1_t5_loop v11).trips) (v331 : BitVec 32) : Prop :=
  (∀ (k1_h8 : k1_cond8 v11 k1_t5 = 1#1), ∀ a, (k1_off851 v331) a + S1x16.size a ≤ S321x128.size a) ∧
  (∀ (k1_h8 : k1_cond8 v11 k1_t5 = 1#1), ∀ a, (k1_off853 v331) a + S1x16.size a ≤ S321x128.size a) ∧
  (∀ (k1_h8 : k1_cond8 v11 k1_t5 = 1#1), ∀ a, (k1_off855 v331) a + S1x16.size a ≤ S321x128.size a) ∧
  (∀ (k1_h8 : k1_cond8 v11 k1_t5 = 1#1), ∀ a, (k1_off857 v331) a + S1x16.size a ≤ S321x128.size a) ∧
  (∀ (k1_h8 : k1_cond8 v11 k1_t5 = 1#1), ∀ a, (k1_off859 v331) a + S1x16.size a ≤ S321x128.size a) ∧
  (∀ (k1_h8 : k1_cond8 v11 k1_t5 = 1#1), ∀ a, (k1_off861 v331) a + S1x16.size a ≤ S321x128.size a) ∧
  (∀ (k1_h8 : k1_cond8 v11 k1_t5 = 1#1), ∀ a, (k1_off863 v331) a + S1x16.size a ≤ S321x128.size a) ∧
  (∀ (k1_h8 : k1_cond8 v11 k1_t5 = 1#1), ∀ a, (k1_off865 v331) a + S1x16.size a ≤ S321x128.size a)
theorem k1_off851_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off851 v331) a + S1x16.size a ≤ S321x128.size a := fun v11 k1_t5 v331 k1_hw54 k1_h8 => k1_hw54.1 k1_h8
theorem k1_off853_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off853 v331) a + S1x16.size a ≤ S321x128.size a := fun v11 k1_t5 v331 k1_hw54 k1_h8 => k1_hw54.2.1 k1_h8
theorem k1_off855_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off855 v331) a + S1x16.size a ≤ S321x128.size a := fun v11 k1_t5 v331 k1_hw54 k1_h8 => k1_hw54.2.2.1 k1_h8
theorem k1_off857_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off857 v331) a + S1x16.size a ≤ S321x128.size a := fun v11 k1_t5 v331 k1_hw54 k1_h8 => k1_hw54.2.2.2.1 k1_h8
theorem k1_off859_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off859 v331) a + S1x16.size a ≤ S321x128.size a := fun v11 k1_t5 v331 k1_hw54 k1_h8 => k1_hw54.2.2.2.2.1 k1_h8
theorem k1_off861_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off861 v331) a + S1x16.size a ≤ S321x128.size a := fun v11 k1_t5 v331 k1_hw54 k1_h8 => k1_hw54.2.2.2.2.2.1 k1_h8
theorem k1_off863_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off863 v331) a + S1x16.size a ≤ S321x128.size a := fun v11 k1_t5 v331 k1_hw54 k1_h8 => k1_hw54.2.2.2.2.2.2.1 k1_h8
theorem k1_off865_inb : ∀ (v11 : BitVec 32) (k1_t5 : Fin (k1_t5_loop v11).trips) (v331 : BitVec 32) (k1_hw54 : k1_chk54 v11 k1_t5 v331), ∀ (k1_h8 : k1_cond8 v11 k1_t5 = 1#1), ∀ a, (k1_off865 v331) a + S1x16.size a ≤ S321x128.size a := fun v11 k1_t5 v331 k1_hw54 k1_h8 => k1_hw54.2.2.2.2.2.2.2 k1_h8

def k1_off866 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_148 : BitVec 32 := 16#32
  let v332 : BitVec 32 := Scalar.muli arg17 c16_i32_148
  let c4_i32 : BitVec 32 := 4#32
  let v333 : BitVec 32 := Scalar.addi v332 c4_i32
  let v385 : Index := Scalar.indexCast v333
  let c112_171 : Index := 112#32
  ![v385.toNat, 112]
def k1_off867 (v391 : BitVec 32) : Fin 2 → Nat :=
  let v394 : Index := Scalar.indexCast v391
  let c0_174 : Index := 0#32
  ![v394.toNat, 0]

def k1_off868 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v396 : Index := Scalar.indexCast v393
  let c0_175 : Index := 0#32
  ![v396.toNat, 0]
def k1_off869 (v391 : BitVec 32) : Fin 2 → Nat :=
  let v401 : Index := Scalar.indexCast v391
  let c16_177 : Index := 16#32
  ![v401.toNat, 16]
def k1_off870 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v403 : Index := Scalar.indexCast v393
  let c16_178 : Index := 16#32
  ![v403.toNat, 16]
def k1_off871 (v391 : BitVec 32) : Fin 2 → Nat :=
  let v408 : Index := Scalar.indexCast v391
  let c32_180 : Index := 32#32
  ![v408.toNat, 32]
def k1_off872 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v410 : Index := Scalar.indexCast v393
  let c32_181 : Index := 32#32
  ![v410.toNat, 32]
def k1_off873 (v391 : BitVec 32) : Fin 2 → Nat :=
  let v415 : Index := Scalar.indexCast v391
  let c48_183 : Index := 48#32
  ![v415.toNat, 48]
def k1_off874 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v417 : Index := Scalar.indexCast v393
  let c48_184 : Index := 48#32
  ![v417.toNat, 48]
def k1_off875 (v391 : BitVec 32) : Fin 2 → Nat :=
  let v422 : Index := Scalar.indexCast v391
  let c64_186 : Index := 64#32
  ![v422.toNat, 64]
def k1_off876 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v424 : Index := Scalar.indexCast v393
  let c64_187 : Index := 64#32
  ![v424.toNat, 64]
def k1_off877 (v391 : BitVec 32) : Fin 2 → Nat :=
  let v429 : Index := Scalar.indexCast v391
  let c80_189 : Index := 80#32
  ![v429.toNat, 80]
def k1_off878 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v431 : Index := Scalar.indexCast v393
  let c80_190 : Index := 80#32
  ![v431.toNat, 80]
def k1_off879 (v391 : BitVec 32) : Fin 2 → Nat :=
  let v436 : Index := Scalar.indexCast v391
  let c96_192 : Index := 96#32
  ![v436.toNat, 96]
def k1_off880 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v438 : Index := Scalar.indexCast v393
  let c96_193 : Index := 96#32
  ![v438.toNat, 96]
def k1_off881 (v391 : BitVec 32) : Fin 2 → Nat :=
  let v443 : Index := Scalar.indexCast v391
  let c112_195 : Index := 112#32
  ![v443.toNat, 112]

def k1_chk55 (v11 : BitVec 32) (k1_t5 : Fin (k1_t5_loop v11).trips) (v391 : BitVec 32) : Prop :=
  (∀ (k1_h8 : k1_cond8 v11 k1_t5 = 1#1), ∀ a, (k1_off867 v391) a + S1x16.size a ≤ S321x128.size a) ∧
  (∀ (k1_h8 : k1_cond8 v11 k1_t5 = 1#1), ∀ a, (k1_off869 v391) a + S1x16.size a ≤ S321x128.size a) ∧
  (∀ (k1_h8 : k1_cond8 v11 k1_t5 = 1#1), ∀ a, (k1_off871 v391) a + S1x16.size a ≤ S321x128.size a) ∧
  (∀ (k1_h8 : k1_cond8 v11 k1_t5 = 1#1), ∀ a, (k1_off873 v391) a + S1x16.size a ≤ S321x128.size a) ∧
  (∀ (k1_h8 : k1_cond8 v11 k1_t5 = 1#1), ∀ a, (k1_off875 v391) a + S1x16.size a ≤ S321x128.size a) ∧
  (∀ (k1_h8 : k1_cond8 v11 k1_t5 = 1#1), ∀ a, (k1_off877 v391) a + S1x16.size a ≤ S321x128.size a) ∧
  (∀ (k1_h8 : k1_cond8 v11 k1_t5 = 1#1), ∀ a, (k1_off879 v391) a + S1x16.size a ≤ S321x128.size a) ∧
  (∀ (k1_h8 : k1_cond8 v11 k1_t5 = 1#1), ∀ a, (k1_off881 v391) a + S1x16.size a ≤ S321x128.size a)
theorem k1_off867_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off867 v391) a + S1x16.size a ≤ S321x128.size a := fun v11 k1_t5 v391 k1_hw55 k1_h8 => k1_hw55.1 k1_h8
theorem k1_off869_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off869 v391) a + S1x16.size a ≤ S321x128.size a := fun v11 k1_t5 v391 k1_hw55 k1_h8 => k1_hw55.2.1 k1_h8
theorem k1_off871_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off871 v391) a + S1x16.size a ≤ S321x128.size a := fun v11 k1_t5 v391 k1_hw55 k1_h8 => k1_hw55.2.2.1 k1_h8
theorem k1_off873_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off873 v391) a + S1x16.size a ≤ S321x128.size a := fun v11 k1_t5 v391 k1_hw55 k1_h8 => k1_hw55.2.2.2.1 k1_h8
theorem k1_off875_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off875 v391) a + S1x16.size a ≤ S321x128.size a := fun v11 k1_t5 v391 k1_hw55 k1_h8 => k1_hw55.2.2.2.2.1 k1_h8
theorem k1_off877_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off877 v391) a + S1x16.size a ≤ S321x128.size a := fun v11 k1_t5 v391 k1_hw55 k1_h8 => k1_hw55.2.2.2.2.2.1 k1_h8
theorem k1_off879_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off879 v391) a + S1x16.size a ≤ S321x128.size a := fun v11 k1_t5 v391 k1_hw55 k1_h8 => k1_hw55.2.2.2.2.2.2.1 k1_h8
theorem k1_off881_inb : ∀ (v11 : BitVec 32) (k1_t5 : Fin (k1_t5_loop v11).trips) (v391 : BitVec 32) (k1_hw55 : k1_chk55 v11 k1_t5 v391), ∀ (k1_h8 : k1_cond8 v11 k1_t5 = 1#1), ∀ a, (k1_off881 v391) a + S1x16.size a ≤ S321x128.size a := fun v11 k1_t5 v391 k1_hw55 k1_h8 => k1_hw55.2.2.2.2.2.2.2 k1_h8

def k1_off882 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_173 : BitVec 32 := 16#32
  let v392 : BitVec 32 := Scalar.muli arg17 c16_i32_173
  let c5_i32 : BitVec 32 := 5#32
  let v393 : BitVec 32 := Scalar.addi v392 c5_i32
  let v445 : Index := Scalar.indexCast v393
  let c112_196 : Index := 112#32
  ![v445.toNat, 112]
def k1_off883 (v451 : BitVec 32) : Fin 2 → Nat :=
  let v454 : Index := Scalar.indexCast v451
  let c0_199 : Index := 0#32
  ![v454.toNat, 0]

def k1_off884 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v456 : Index := Scalar.indexCast v453
  let c0_200 : Index := 0#32
  ![v456.toNat, 0]
def k1_off885 (v451 : BitVec 32) : Fin 2 → Nat :=
  let v461 : Index := Scalar.indexCast v451
  let c16_202 : Index := 16#32
  ![v461.toNat, 16]
def k1_off886 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v463 : Index := Scalar.indexCast v453
  let c16_203 : Index := 16#32
  ![v463.toNat, 16]
def k1_off887 (v451 : BitVec 32) : Fin 2 → Nat :=
  let v468 : Index := Scalar.indexCast v451
  let c32_205 : Index := 32#32
  ![v468.toNat, 32]
def k1_off888 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v470 : Index := Scalar.indexCast v453
  let c32_206 : Index := 32#32
  ![v470.toNat, 32]
def k1_off889 (v451 : BitVec 32) : Fin 2 → Nat :=
  let v475 : Index := Scalar.indexCast v451
  let c48_208 : Index := 48#32
  ![v475.toNat, 48]
def k1_off890 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v477 : Index := Scalar.indexCast v453
  let c48_209 : Index := 48#32
  ![v477.toNat, 48]
def k1_off891 (v451 : BitVec 32) : Fin 2 → Nat :=
  let v482 : Index := Scalar.indexCast v451
  let c64_211 : Index := 64#32
  ![v482.toNat, 64]
def k1_off892 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v484 : Index := Scalar.indexCast v453
  let c64_212 : Index := 64#32
  ![v484.toNat, 64]
def k1_off893 (v451 : BitVec 32) : Fin 2 → Nat :=
  let v489 : Index := Scalar.indexCast v451
  let c80_214 : Index := 80#32
  ![v489.toNat, 80]
def k1_off894 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v491 : Index := Scalar.indexCast v453
  let c80_215 : Index := 80#32
  ![v491.toNat, 80]
def k1_off895 (v451 : BitVec 32) : Fin 2 → Nat :=
  let v496 : Index := Scalar.indexCast v451
  let c96_217 : Index := 96#32
  ![v496.toNat, 96]
def k1_off896 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v498 : Index := Scalar.indexCast v453
  let c96_218 : Index := 96#32
  ![v498.toNat, 96]
def k1_off897 (v451 : BitVec 32) : Fin 2 → Nat :=
  let v503 : Index := Scalar.indexCast v451
  let c112_220 : Index := 112#32
  ![v503.toNat, 112]

def k1_chk56 (v11 : BitVec 32) (k1_t5 : Fin (k1_t5_loop v11).trips) (v451 : BitVec 32) : Prop :=
  (∀ (k1_h8 : k1_cond8 v11 k1_t5 = 1#1), ∀ a, (k1_off883 v451) a + S1x16.size a ≤ S321x128.size a) ∧
  (∀ (k1_h8 : k1_cond8 v11 k1_t5 = 1#1), ∀ a, (k1_off885 v451) a + S1x16.size a ≤ S321x128.size a) ∧
  (∀ (k1_h8 : k1_cond8 v11 k1_t5 = 1#1), ∀ a, (k1_off887 v451) a + S1x16.size a ≤ S321x128.size a) ∧
  (∀ (k1_h8 : k1_cond8 v11 k1_t5 = 1#1), ∀ a, (k1_off889 v451) a + S1x16.size a ≤ S321x128.size a) ∧
  (∀ (k1_h8 : k1_cond8 v11 k1_t5 = 1#1), ∀ a, (k1_off891 v451) a + S1x16.size a ≤ S321x128.size a) ∧
  (∀ (k1_h8 : k1_cond8 v11 k1_t5 = 1#1), ∀ a, (k1_off893 v451) a + S1x16.size a ≤ S321x128.size a) ∧
  (∀ (k1_h8 : k1_cond8 v11 k1_t5 = 1#1), ∀ a, (k1_off895 v451) a + S1x16.size a ≤ S321x128.size a) ∧
  (∀ (k1_h8 : k1_cond8 v11 k1_t5 = 1#1), ∀ a, (k1_off897 v451) a + S1x16.size a ≤ S321x128.size a)
theorem k1_off883_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off883 v451) a + S1x16.size a ≤ S321x128.size a := fun v11 k1_t5 v451 k1_hw56 k1_h8 => k1_hw56.1 k1_h8
theorem k1_off885_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off885 v451) a + S1x16.size a ≤ S321x128.size a := fun v11 k1_t5 v451 k1_hw56 k1_h8 => k1_hw56.2.1 k1_h8
theorem k1_off887_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off887 v451) a + S1x16.size a ≤ S321x128.size a := fun v11 k1_t5 v451 k1_hw56 k1_h8 => k1_hw56.2.2.1 k1_h8
theorem k1_off889_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off889 v451) a + S1x16.size a ≤ S321x128.size a := fun v11 k1_t5 v451 k1_hw56 k1_h8 => k1_hw56.2.2.2.1 k1_h8
theorem k1_off891_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off891 v451) a + S1x16.size a ≤ S321x128.size a := fun v11 k1_t5 v451 k1_hw56 k1_h8 => k1_hw56.2.2.2.2.1 k1_h8
theorem k1_off893_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off893 v451) a + S1x16.size a ≤ S321x128.size a := fun v11 k1_t5 v451 k1_hw56 k1_h8 => k1_hw56.2.2.2.2.2.1 k1_h8
theorem k1_off895_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off895 v451) a + S1x16.size a ≤ S321x128.size a := fun v11 k1_t5 v451 k1_hw56 k1_h8 => k1_hw56.2.2.2.2.2.2.1 k1_h8
theorem k1_off897_inb : ∀ (v11 : BitVec 32) (k1_t5 : Fin (k1_t5_loop v11).trips) (v451 : BitVec 32) (k1_hw56 : k1_chk56 v11 k1_t5 v451), ∀ (k1_h8 : k1_cond8 v11 k1_t5 = 1#1), ∀ a, (k1_off897 v451) a + S1x16.size a ≤ S321x128.size a := fun v11 k1_t5 v451 k1_hw56 k1_h8 => k1_hw56.2.2.2.2.2.2.2 k1_h8

def k1_off898 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_198 : BitVec 32 := 16#32
  let v452 : BitVec 32 := Scalar.muli arg17 c16_i32_198
  let c6_i32 : BitVec 32 := 6#32
  let v453 : BitVec 32 := Scalar.addi v452 c6_i32
  let v505 : Index := Scalar.indexCast v453
  let c112_221 : Index := 112#32
  ![v505.toNat, 112]
def k1_off899 (v511 : BitVec 32) : Fin 2 → Nat :=
  let v514 : Index := Scalar.indexCast v511
  let c0_224 : Index := 0#32
  ![v514.toNat, 0]

def k1_off900 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v516 : Index := Scalar.indexCast v513
  let c0_225 : Index := 0#32
  ![v516.toNat, 0]
def k1_off901 (v511 : BitVec 32) : Fin 2 → Nat :=
  let v521 : Index := Scalar.indexCast v511
  let c16_227 : Index := 16#32
  ![v521.toNat, 16]
def k1_off902 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v523 : Index := Scalar.indexCast v513
  let c16_228 : Index := 16#32
  ![v523.toNat, 16]
def k1_off903 (v511 : BitVec 32) : Fin 2 → Nat :=
  let v528 : Index := Scalar.indexCast v511
  let c32_230 : Index := 32#32
  ![v528.toNat, 32]
def k1_off904 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v530 : Index := Scalar.indexCast v513
  let c32_231 : Index := 32#32
  ![v530.toNat, 32]
def k1_off905 (v511 : BitVec 32) : Fin 2 → Nat :=
  let v535 : Index := Scalar.indexCast v511
  let c48_233 : Index := 48#32
  ![v535.toNat, 48]
def k1_off906 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v537 : Index := Scalar.indexCast v513
  let c48_234 : Index := 48#32
  ![v537.toNat, 48]
def k1_off907 (v511 : BitVec 32) : Fin 2 → Nat :=
  let v542 : Index := Scalar.indexCast v511
  let c64_236 : Index := 64#32
  ![v542.toNat, 64]
def k1_off908 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v544 : Index := Scalar.indexCast v513
  let c64_237 : Index := 64#32
  ![v544.toNat, 64]
def k1_off909 (v511 : BitVec 32) : Fin 2 → Nat :=
  let v549 : Index := Scalar.indexCast v511
  let c80_239 : Index := 80#32
  ![v549.toNat, 80]
def k1_off910 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v551 : Index := Scalar.indexCast v513
  let c80_240 : Index := 80#32
  ![v551.toNat, 80]
def k1_off911 (v511 : BitVec 32) : Fin 2 → Nat :=
  let v556 : Index := Scalar.indexCast v511
  let c96_242 : Index := 96#32
  ![v556.toNat, 96]
def k1_off912 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v558 : Index := Scalar.indexCast v513
  let c96_243 : Index := 96#32
  ![v558.toNat, 96]
def k1_off913 (v511 : BitVec 32) : Fin 2 → Nat :=
  let v563 : Index := Scalar.indexCast v511
  let c112_245 : Index := 112#32
  ![v563.toNat, 112]

def k1_chk57 (v11 : BitVec 32) (k1_t5 : Fin (k1_t5_loop v11).trips) (v511 : BitVec 32) : Prop :=
  (∀ (k1_h8 : k1_cond8 v11 k1_t5 = 1#1), ∀ a, (k1_off899 v511) a + S1x16.size a ≤ S321x128.size a) ∧
  (∀ (k1_h8 : k1_cond8 v11 k1_t5 = 1#1), ∀ a, (k1_off901 v511) a + S1x16.size a ≤ S321x128.size a) ∧
  (∀ (k1_h8 : k1_cond8 v11 k1_t5 = 1#1), ∀ a, (k1_off903 v511) a + S1x16.size a ≤ S321x128.size a) ∧
  (∀ (k1_h8 : k1_cond8 v11 k1_t5 = 1#1), ∀ a, (k1_off905 v511) a + S1x16.size a ≤ S321x128.size a) ∧
  (∀ (k1_h8 : k1_cond8 v11 k1_t5 = 1#1), ∀ a, (k1_off907 v511) a + S1x16.size a ≤ S321x128.size a) ∧
  (∀ (k1_h8 : k1_cond8 v11 k1_t5 = 1#1), ∀ a, (k1_off909 v511) a + S1x16.size a ≤ S321x128.size a) ∧
  (∀ (k1_h8 : k1_cond8 v11 k1_t5 = 1#1), ∀ a, (k1_off911 v511) a + S1x16.size a ≤ S321x128.size a) ∧
  (∀ (k1_h8 : k1_cond8 v11 k1_t5 = 1#1), ∀ a, (k1_off913 v511) a + S1x16.size a ≤ S321x128.size a)
theorem k1_off899_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off899 v511) a + S1x16.size a ≤ S321x128.size a := fun v11 k1_t5 v511 k1_hw57 k1_h8 => k1_hw57.1 k1_h8
theorem k1_off901_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off901 v511) a + S1x16.size a ≤ S321x128.size a := fun v11 k1_t5 v511 k1_hw57 k1_h8 => k1_hw57.2.1 k1_h8
theorem k1_off903_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off903 v511) a + S1x16.size a ≤ S321x128.size a := fun v11 k1_t5 v511 k1_hw57 k1_h8 => k1_hw57.2.2.1 k1_h8
theorem k1_off905_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off905 v511) a + S1x16.size a ≤ S321x128.size a := fun v11 k1_t5 v511 k1_hw57 k1_h8 => k1_hw57.2.2.2.1 k1_h8
theorem k1_off907_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off907 v511) a + S1x16.size a ≤ S321x128.size a := fun v11 k1_t5 v511 k1_hw57 k1_h8 => k1_hw57.2.2.2.2.1 k1_h8
theorem k1_off909_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off909 v511) a + S1x16.size a ≤ S321x128.size a := fun v11 k1_t5 v511 k1_hw57 k1_h8 => k1_hw57.2.2.2.2.2.1 k1_h8
theorem k1_off911_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off911 v511) a + S1x16.size a ≤ S321x128.size a := fun v11 k1_t5 v511 k1_hw57 k1_h8 => k1_hw57.2.2.2.2.2.2.1 k1_h8
theorem k1_off913_inb : ∀ (v11 : BitVec 32) (k1_t5 : Fin (k1_t5_loop v11).trips) (v511 : BitVec 32) (k1_hw57 : k1_chk57 v11 k1_t5 v511), ∀ (k1_h8 : k1_cond8 v11 k1_t5 = 1#1), ∀ a, (k1_off913 v511) a + S1x16.size a ≤ S321x128.size a := fun v11 k1_t5 v511 k1_hw57 k1_h8 => k1_hw57.2.2.2.2.2.2.2 k1_h8

def k1_off914 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_223 : BitVec 32 := 16#32
  let v512 : BitVec 32 := Scalar.muli arg17 c16_i32_223
  let c7_i32 : BitVec 32 := 7#32
  let v513 : BitVec 32 := Scalar.addi v512 c7_i32
  let v565 : Index := Scalar.indexCast v513
  let c112_246 : Index := 112#32
  ![v565.toNat, 112]
def k1_off915 (v571 : BitVec 32) : Fin 2 → Nat :=
  let v574 : Index := Scalar.indexCast v571
  let c0_250 : Index := 0#32
  ![v574.toNat, 0]

def k1_off916 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v576 : Index := Scalar.indexCast v573
  let c0_251 : Index := 0#32
  ![v576.toNat, 0]
def k1_off917 (v571 : BitVec 32) : Fin 2 → Nat :=
  let v581 : Index := Scalar.indexCast v571
  let c16_253 : Index := 16#32
  ![v581.toNat, 16]
def k1_off918 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v583 : Index := Scalar.indexCast v573
  let c16_254 : Index := 16#32
  ![v583.toNat, 16]
def k1_off919 (v571 : BitVec 32) : Fin 2 → Nat :=
  let v588 : Index := Scalar.indexCast v571
  let c32_256 : Index := 32#32
  ![v588.toNat, 32]
def k1_off920 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v590 : Index := Scalar.indexCast v573
  let c32_257 : Index := 32#32
  ![v590.toNat, 32]
def k1_off921 (v571 : BitVec 32) : Fin 2 → Nat :=
  let v595 : Index := Scalar.indexCast v571
  let c48_259 : Index := 48#32
  ![v595.toNat, 48]
def k1_off922 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v597 : Index := Scalar.indexCast v573
  let c48_260 : Index := 48#32
  ![v597.toNat, 48]
def k1_off923 (v571 : BitVec 32) : Fin 2 → Nat :=
  let v602 : Index := Scalar.indexCast v571
  let c64_262 : Index := 64#32
  ![v602.toNat, 64]
def k1_off924 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v604 : Index := Scalar.indexCast v573
  let c64_263 : Index := 64#32
  ![v604.toNat, 64]
def k1_off925 (v571 : BitVec 32) : Fin 2 → Nat :=
  let v609 : Index := Scalar.indexCast v571
  let c80_265 : Index := 80#32
  ![v609.toNat, 80]
def k1_off926 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v611 : Index := Scalar.indexCast v573
  let c80_266 : Index := 80#32
  ![v611.toNat, 80]
def k1_off927 (v571 : BitVec 32) : Fin 2 → Nat :=
  let v616 : Index := Scalar.indexCast v571
  let c96_268 : Index := 96#32
  ![v616.toNat, 96]
def k1_off928 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v618 : Index := Scalar.indexCast v573
  let c96_269 : Index := 96#32
  ![v618.toNat, 96]
def k1_off929 (v571 : BitVec 32) : Fin 2 → Nat :=
  let v623 : Index := Scalar.indexCast v571
  let c112_271 : Index := 112#32
  ![v623.toNat, 112]

def k1_chk58 (v11 : BitVec 32) (k1_t5 : Fin (k1_t5_loop v11).trips) (v571 : BitVec 32) : Prop :=
  (∀ (k1_h8 : k1_cond8 v11 k1_t5 = 1#1), ∀ a, (k1_off915 v571) a + S1x16.size a ≤ S321x128.size a) ∧
  (∀ (k1_h8 : k1_cond8 v11 k1_t5 = 1#1), ∀ a, (k1_off917 v571) a + S1x16.size a ≤ S321x128.size a) ∧
  (∀ (k1_h8 : k1_cond8 v11 k1_t5 = 1#1), ∀ a, (k1_off919 v571) a + S1x16.size a ≤ S321x128.size a) ∧
  (∀ (k1_h8 : k1_cond8 v11 k1_t5 = 1#1), ∀ a, (k1_off921 v571) a + S1x16.size a ≤ S321x128.size a) ∧
  (∀ (k1_h8 : k1_cond8 v11 k1_t5 = 1#1), ∀ a, (k1_off923 v571) a + S1x16.size a ≤ S321x128.size a) ∧
  (∀ (k1_h8 : k1_cond8 v11 k1_t5 = 1#1), ∀ a, (k1_off925 v571) a + S1x16.size a ≤ S321x128.size a) ∧
  (∀ (k1_h8 : k1_cond8 v11 k1_t5 = 1#1), ∀ a, (k1_off927 v571) a + S1x16.size a ≤ S321x128.size a) ∧
  (∀ (k1_h8 : k1_cond8 v11 k1_t5 = 1#1), ∀ a, (k1_off929 v571) a + S1x16.size a ≤ S321x128.size a)
theorem k1_off915_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off915 v571) a + S1x16.size a ≤ S321x128.size a := fun v11 k1_t5 v571 k1_hw58 k1_h8 => k1_hw58.1 k1_h8
theorem k1_off917_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off917 v571) a + S1x16.size a ≤ S321x128.size a := fun v11 k1_t5 v571 k1_hw58 k1_h8 => k1_hw58.2.1 k1_h8
theorem k1_off919_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off919 v571) a + S1x16.size a ≤ S321x128.size a := fun v11 k1_t5 v571 k1_hw58 k1_h8 => k1_hw58.2.2.1 k1_h8
theorem k1_off921_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off921 v571) a + S1x16.size a ≤ S321x128.size a := fun v11 k1_t5 v571 k1_hw58 k1_h8 => k1_hw58.2.2.2.1 k1_h8
theorem k1_off923_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off923 v571) a + S1x16.size a ≤ S321x128.size a := fun v11 k1_t5 v571 k1_hw58 k1_h8 => k1_hw58.2.2.2.2.1 k1_h8
theorem k1_off925_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off925 v571) a + S1x16.size a ≤ S321x128.size a := fun v11 k1_t5 v571 k1_hw58 k1_h8 => k1_hw58.2.2.2.2.2.1 k1_h8
theorem k1_off927_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off927 v571) a + S1x16.size a ≤ S321x128.size a := fun v11 k1_t5 v571 k1_hw58 k1_h8 => k1_hw58.2.2.2.2.2.2.1 k1_h8
theorem k1_off929_inb : ∀ (v11 : BitVec 32) (k1_t5 : Fin (k1_t5_loop v11).trips) (v571 : BitVec 32) (k1_hw58 : k1_chk58 v11 k1_t5 v571), ∀ (k1_h8 : k1_cond8 v11 k1_t5 = 1#1), ∀ a, (k1_off929 v571) a + S1x16.size a ≤ S321x128.size a := fun v11 k1_t5 v571 k1_hw58 k1_h8 => k1_hw58.2.2.2.2.2.2.2 k1_h8

def k1_off930 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_248 : BitVec 32 := 16#32
  let v572 : BitVec 32 := Scalar.muli arg17 c16_i32_248
  let c8_i32_249 : BitVec 32 := 8#32
  let v573 : BitVec 32 := Scalar.addi v572 c8_i32_249
  let v625 : Index := Scalar.indexCast v573
  let c112_272 : Index := 112#32
  ![v625.toNat, 112]
def k1_off931 (v631 : BitVec 32) : Fin 2 → Nat :=
  let v634 : Index := Scalar.indexCast v631
  let c0_275 : Index := 0#32
  ![v634.toNat, 0]

def k1_off932 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v636 : Index := Scalar.indexCast v633
  let c0_276 : Index := 0#32
  ![v636.toNat, 0]
def k1_off933 (v631 : BitVec 32) : Fin 2 → Nat :=
  let v641 : Index := Scalar.indexCast v631
  let c16_278 : Index := 16#32
  ![v641.toNat, 16]
def k1_off934 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v643 : Index := Scalar.indexCast v633
  let c16_279 : Index := 16#32
  ![v643.toNat, 16]
def k1_off935 (v631 : BitVec 32) : Fin 2 → Nat :=
  let v648 : Index := Scalar.indexCast v631
  let c32_281 : Index := 32#32
  ![v648.toNat, 32]
def k1_off936 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v650 : Index := Scalar.indexCast v633
  let c32_282 : Index := 32#32
  ![v650.toNat, 32]
def k1_off937 (v631 : BitVec 32) : Fin 2 → Nat :=
  let v655 : Index := Scalar.indexCast v631
  let c48_284 : Index := 48#32
  ![v655.toNat, 48]
def k1_off938 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v657 : Index := Scalar.indexCast v633
  let c48_285 : Index := 48#32
  ![v657.toNat, 48]
def k1_off939 (v631 : BitVec 32) : Fin 2 → Nat :=
  let v662 : Index := Scalar.indexCast v631
  let c64_287 : Index := 64#32
  ![v662.toNat, 64]
def k1_off940 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v664 : Index := Scalar.indexCast v633
  let c64_288 : Index := 64#32
  ![v664.toNat, 64]
def k1_off941 (v631 : BitVec 32) : Fin 2 → Nat :=
  let v669 : Index := Scalar.indexCast v631
  let c80_290 : Index := 80#32
  ![v669.toNat, 80]
def k1_off942 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v671 : Index := Scalar.indexCast v633
  let c80_291 : Index := 80#32
  ![v671.toNat, 80]
def k1_off943 (v631 : BitVec 32) : Fin 2 → Nat :=
  let v676 : Index := Scalar.indexCast v631
  let c96_293 : Index := 96#32
  ![v676.toNat, 96]
def k1_off944 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v678 : Index := Scalar.indexCast v633
  let c96_294 : Index := 96#32
  ![v678.toNat, 96]
def k1_off945 (v631 : BitVec 32) : Fin 2 → Nat :=
  let v683 : Index := Scalar.indexCast v631
  let c112_296 : Index := 112#32
  ![v683.toNat, 112]

def k1_chk59 (v11 : BitVec 32) (k1_t5 : Fin (k1_t5_loop v11).trips) (v631 : BitVec 32) : Prop :=
  (∀ (k1_h8 : k1_cond8 v11 k1_t5 = 1#1), ∀ a, (k1_off931 v631) a + S1x16.size a ≤ S321x128.size a) ∧
  (∀ (k1_h8 : k1_cond8 v11 k1_t5 = 1#1), ∀ a, (k1_off933 v631) a + S1x16.size a ≤ S321x128.size a) ∧
  (∀ (k1_h8 : k1_cond8 v11 k1_t5 = 1#1), ∀ a, (k1_off935 v631) a + S1x16.size a ≤ S321x128.size a) ∧
  (∀ (k1_h8 : k1_cond8 v11 k1_t5 = 1#1), ∀ a, (k1_off937 v631) a + S1x16.size a ≤ S321x128.size a) ∧
  (∀ (k1_h8 : k1_cond8 v11 k1_t5 = 1#1), ∀ a, (k1_off939 v631) a + S1x16.size a ≤ S321x128.size a) ∧
  (∀ (k1_h8 : k1_cond8 v11 k1_t5 = 1#1), ∀ a, (k1_off941 v631) a + S1x16.size a ≤ S321x128.size a) ∧
  (∀ (k1_h8 : k1_cond8 v11 k1_t5 = 1#1), ∀ a, (k1_off943 v631) a + S1x16.size a ≤ S321x128.size a) ∧
  (∀ (k1_h8 : k1_cond8 v11 k1_t5 = 1#1), ∀ a, (k1_off945 v631) a + S1x16.size a ≤ S321x128.size a)
theorem k1_off931_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off931 v631) a + S1x16.size a ≤ S321x128.size a := fun v11 k1_t5 v631 k1_hw59 k1_h8 => k1_hw59.1 k1_h8
theorem k1_off933_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off933 v631) a + S1x16.size a ≤ S321x128.size a := fun v11 k1_t5 v631 k1_hw59 k1_h8 => k1_hw59.2.1 k1_h8
theorem k1_off935_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off935 v631) a + S1x16.size a ≤ S321x128.size a := fun v11 k1_t5 v631 k1_hw59 k1_h8 => k1_hw59.2.2.1 k1_h8
theorem k1_off937_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off937 v631) a + S1x16.size a ≤ S321x128.size a := fun v11 k1_t5 v631 k1_hw59 k1_h8 => k1_hw59.2.2.2.1 k1_h8
theorem k1_off939_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off939 v631) a + S1x16.size a ≤ S321x128.size a := fun v11 k1_t5 v631 k1_hw59 k1_h8 => k1_hw59.2.2.2.2.1 k1_h8
theorem k1_off941_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off941 v631) a + S1x16.size a ≤ S321x128.size a := fun v11 k1_t5 v631 k1_hw59 k1_h8 => k1_hw59.2.2.2.2.2.1 k1_h8
theorem k1_off943_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off943 v631) a + S1x16.size a ≤ S321x128.size a := fun v11 k1_t5 v631 k1_hw59 k1_h8 => k1_hw59.2.2.2.2.2.2.1 k1_h8
theorem k1_off945_inb : ∀ (v11 : BitVec 32) (k1_t5 : Fin (k1_t5_loop v11).trips) (v631 : BitVec 32) (k1_hw59 : k1_chk59 v11 k1_t5 v631), ∀ (k1_h8 : k1_cond8 v11 k1_t5 = 1#1), ∀ a, (k1_off945 v631) a + S1x16.size a ≤ S321x128.size a := fun v11 k1_t5 v631 k1_hw59 k1_h8 => k1_hw59.2.2.2.2.2.2.2 k1_h8

def k1_off946 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_274 : BitVec 32 := 16#32
  let v632 : BitVec 32 := Scalar.muli arg17 c16_i32_274
  let c9_i32 : BitVec 32 := 9#32
  let v633 : BitVec 32 := Scalar.addi v632 c9_i32
  let v685 : Index := Scalar.indexCast v633
  let c112_297 : Index := 112#32
  ![v685.toNat, 112]
def k1_off947 (v691 : BitVec 32) : Fin 2 → Nat :=
  let v694 : Index := Scalar.indexCast v691
  let c0_300 : Index := 0#32
  ![v694.toNat, 0]

def k1_off948 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v696 : Index := Scalar.indexCast v693
  let c0_301 : Index := 0#32
  ![v696.toNat, 0]
def k1_off949 (v691 : BitVec 32) : Fin 2 → Nat :=
  let v701 : Index := Scalar.indexCast v691
  let c16_303 : Index := 16#32
  ![v701.toNat, 16]
def k1_off950 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v703 : Index := Scalar.indexCast v693
  let c16_304 : Index := 16#32
  ![v703.toNat, 16]
def k1_off951 (v691 : BitVec 32) : Fin 2 → Nat :=
  let v708 : Index := Scalar.indexCast v691
  let c32_306 : Index := 32#32
  ![v708.toNat, 32]
def k1_off952 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v710 : Index := Scalar.indexCast v693
  let c32_307 : Index := 32#32
  ![v710.toNat, 32]
def k1_off953 (v691 : BitVec 32) : Fin 2 → Nat :=
  let v715 : Index := Scalar.indexCast v691
  let c48_309 : Index := 48#32
  ![v715.toNat, 48]
def k1_off954 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v717 : Index := Scalar.indexCast v693
  let c48_310 : Index := 48#32
  ![v717.toNat, 48]
def k1_off955 (v691 : BitVec 32) : Fin 2 → Nat :=
  let v722 : Index := Scalar.indexCast v691
  let c64_312 : Index := 64#32
  ![v722.toNat, 64]
def k1_off956 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v724 : Index := Scalar.indexCast v693
  let c64_313 : Index := 64#32
  ![v724.toNat, 64]
def k1_off957 (v691 : BitVec 32) : Fin 2 → Nat :=
  let v729 : Index := Scalar.indexCast v691
  let c80_315 : Index := 80#32
  ![v729.toNat, 80]
def k1_off958 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v731 : Index := Scalar.indexCast v693
  let c80_316 : Index := 80#32
  ![v731.toNat, 80]
def k1_off959 (v691 : BitVec 32) : Fin 2 → Nat :=
  let v736 : Index := Scalar.indexCast v691
  let c96_318 : Index := 96#32
  ![v736.toNat, 96]
def k1_off960 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v738 : Index := Scalar.indexCast v693
  let c96_319 : Index := 96#32
  ![v738.toNat, 96]
def k1_off961 (v691 : BitVec 32) : Fin 2 → Nat :=
  let v743 : Index := Scalar.indexCast v691
  let c112_321 : Index := 112#32
  ![v743.toNat, 112]

def k1_chk60 (v11 : BitVec 32) (k1_t5 : Fin (k1_t5_loop v11).trips) (v691 : BitVec 32) : Prop :=
  (∀ (k1_h8 : k1_cond8 v11 k1_t5 = 1#1), ∀ a, (k1_off947 v691) a + S1x16.size a ≤ S321x128.size a) ∧
  (∀ (k1_h8 : k1_cond8 v11 k1_t5 = 1#1), ∀ a, (k1_off949 v691) a + S1x16.size a ≤ S321x128.size a) ∧
  (∀ (k1_h8 : k1_cond8 v11 k1_t5 = 1#1), ∀ a, (k1_off951 v691) a + S1x16.size a ≤ S321x128.size a) ∧
  (∀ (k1_h8 : k1_cond8 v11 k1_t5 = 1#1), ∀ a, (k1_off953 v691) a + S1x16.size a ≤ S321x128.size a) ∧
  (∀ (k1_h8 : k1_cond8 v11 k1_t5 = 1#1), ∀ a, (k1_off955 v691) a + S1x16.size a ≤ S321x128.size a) ∧
  (∀ (k1_h8 : k1_cond8 v11 k1_t5 = 1#1), ∀ a, (k1_off957 v691) a + S1x16.size a ≤ S321x128.size a) ∧
  (∀ (k1_h8 : k1_cond8 v11 k1_t5 = 1#1), ∀ a, (k1_off959 v691) a + S1x16.size a ≤ S321x128.size a) ∧
  (∀ (k1_h8 : k1_cond8 v11 k1_t5 = 1#1), ∀ a, (k1_off961 v691) a + S1x16.size a ≤ S321x128.size a)
theorem k1_off947_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off947 v691) a + S1x16.size a ≤ S321x128.size a := fun v11 k1_t5 v691 k1_hw60 k1_h8 => k1_hw60.1 k1_h8
theorem k1_off949_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off949 v691) a + S1x16.size a ≤ S321x128.size a := fun v11 k1_t5 v691 k1_hw60 k1_h8 => k1_hw60.2.1 k1_h8
theorem k1_off951_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off951 v691) a + S1x16.size a ≤ S321x128.size a := fun v11 k1_t5 v691 k1_hw60 k1_h8 => k1_hw60.2.2.1 k1_h8
theorem k1_off953_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off953 v691) a + S1x16.size a ≤ S321x128.size a := fun v11 k1_t5 v691 k1_hw60 k1_h8 => k1_hw60.2.2.2.1 k1_h8
theorem k1_off955_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off955 v691) a + S1x16.size a ≤ S321x128.size a := fun v11 k1_t5 v691 k1_hw60 k1_h8 => k1_hw60.2.2.2.2.1 k1_h8
theorem k1_off957_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off957 v691) a + S1x16.size a ≤ S321x128.size a := fun v11 k1_t5 v691 k1_hw60 k1_h8 => k1_hw60.2.2.2.2.2.1 k1_h8
theorem k1_off959_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off959 v691) a + S1x16.size a ≤ S321x128.size a := fun v11 k1_t5 v691 k1_hw60 k1_h8 => k1_hw60.2.2.2.2.2.2.1 k1_h8
theorem k1_off961_inb : ∀ (v11 : BitVec 32) (k1_t5 : Fin (k1_t5_loop v11).trips) (v691 : BitVec 32) (k1_hw60 : k1_chk60 v11 k1_t5 v691), ∀ (k1_h8 : k1_cond8 v11 k1_t5 = 1#1), ∀ a, (k1_off961 v691) a + S1x16.size a ≤ S321x128.size a := fun v11 k1_t5 v691 k1_hw60 k1_h8 => k1_hw60.2.2.2.2.2.2.2 k1_h8

def k1_off962 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_299 : BitVec 32 := 16#32
  let v692 : BitVec 32 := Scalar.muli arg17 c16_i32_299
  let c10_i32 : BitVec 32 := 10#32
  let v693 : BitVec 32 := Scalar.addi v692 c10_i32
  let v745 : Index := Scalar.indexCast v693
  let c112_322 : Index := 112#32
  ![v745.toNat, 112]
def k1_off963 (v751 : BitVec 32) : Fin 2 → Nat :=
  let v754 : Index := Scalar.indexCast v751
  let c0_325 : Index := 0#32
  ![v754.toNat, 0]

def k1_off964 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v756 : Index := Scalar.indexCast v753
  let c0_326 : Index := 0#32
  ![v756.toNat, 0]
def k1_off965 (v751 : BitVec 32) : Fin 2 → Nat :=
  let v761 : Index := Scalar.indexCast v751
  let c16_328 : Index := 16#32
  ![v761.toNat, 16]
def k1_off966 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v763 : Index := Scalar.indexCast v753
  let c16_329 : Index := 16#32
  ![v763.toNat, 16]
def k1_off967 (v751 : BitVec 32) : Fin 2 → Nat :=
  let v768 : Index := Scalar.indexCast v751
  let c32_331 : Index := 32#32
  ![v768.toNat, 32]
def k1_off968 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v770 : Index := Scalar.indexCast v753
  let c32_332 : Index := 32#32
  ![v770.toNat, 32]
def k1_off969 (v751 : BitVec 32) : Fin 2 → Nat :=
  let v775 : Index := Scalar.indexCast v751
  let c48_334 : Index := 48#32
  ![v775.toNat, 48]
def k1_off970 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v777 : Index := Scalar.indexCast v753
  let c48_335 : Index := 48#32
  ![v777.toNat, 48]
def k1_off971 (v751 : BitVec 32) : Fin 2 → Nat :=
  let v782 : Index := Scalar.indexCast v751
  let c64_337 : Index := 64#32
  ![v782.toNat, 64]
def k1_off972 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v784 : Index := Scalar.indexCast v753
  let c64_338 : Index := 64#32
  ![v784.toNat, 64]
def k1_off973 (v751 : BitVec 32) : Fin 2 → Nat :=
  let v789 : Index := Scalar.indexCast v751
  let c80_340 : Index := 80#32
  ![v789.toNat, 80]
def k1_off974 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v791 : Index := Scalar.indexCast v753
  let c80_341 : Index := 80#32
  ![v791.toNat, 80]
def k1_off975 (v751 : BitVec 32) : Fin 2 → Nat :=
  let v796 : Index := Scalar.indexCast v751
  let c96_343 : Index := 96#32
  ![v796.toNat, 96]
def k1_off976 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v798 : Index := Scalar.indexCast v753
  let c96_344 : Index := 96#32
  ![v798.toNat, 96]
def k1_off977 (v751 : BitVec 32) : Fin 2 → Nat :=
  let v803 : Index := Scalar.indexCast v751
  let c112_346 : Index := 112#32
  ![v803.toNat, 112]

def k1_chk61 (v11 : BitVec 32) (k1_t5 : Fin (k1_t5_loop v11).trips) (v751 : BitVec 32) : Prop :=
  (∀ (k1_h8 : k1_cond8 v11 k1_t5 = 1#1), ∀ a, (k1_off963 v751) a + S1x16.size a ≤ S321x128.size a) ∧
  (∀ (k1_h8 : k1_cond8 v11 k1_t5 = 1#1), ∀ a, (k1_off965 v751) a + S1x16.size a ≤ S321x128.size a) ∧
  (∀ (k1_h8 : k1_cond8 v11 k1_t5 = 1#1), ∀ a, (k1_off967 v751) a + S1x16.size a ≤ S321x128.size a) ∧
  (∀ (k1_h8 : k1_cond8 v11 k1_t5 = 1#1), ∀ a, (k1_off969 v751) a + S1x16.size a ≤ S321x128.size a) ∧
  (∀ (k1_h8 : k1_cond8 v11 k1_t5 = 1#1), ∀ a, (k1_off971 v751) a + S1x16.size a ≤ S321x128.size a) ∧
  (∀ (k1_h8 : k1_cond8 v11 k1_t5 = 1#1), ∀ a, (k1_off973 v751) a + S1x16.size a ≤ S321x128.size a) ∧
  (∀ (k1_h8 : k1_cond8 v11 k1_t5 = 1#1), ∀ a, (k1_off975 v751) a + S1x16.size a ≤ S321x128.size a) ∧
  (∀ (k1_h8 : k1_cond8 v11 k1_t5 = 1#1), ∀ a, (k1_off977 v751) a + S1x16.size a ≤ S321x128.size a)
theorem k1_off963_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off963 v751) a + S1x16.size a ≤ S321x128.size a := fun v11 k1_t5 v751 k1_hw61 k1_h8 => k1_hw61.1 k1_h8
theorem k1_off965_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off965 v751) a + S1x16.size a ≤ S321x128.size a := fun v11 k1_t5 v751 k1_hw61 k1_h8 => k1_hw61.2.1 k1_h8
theorem k1_off967_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off967 v751) a + S1x16.size a ≤ S321x128.size a := fun v11 k1_t5 v751 k1_hw61 k1_h8 => k1_hw61.2.2.1 k1_h8
theorem k1_off969_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off969 v751) a + S1x16.size a ≤ S321x128.size a := fun v11 k1_t5 v751 k1_hw61 k1_h8 => k1_hw61.2.2.2.1 k1_h8
theorem k1_off971_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off971 v751) a + S1x16.size a ≤ S321x128.size a := fun v11 k1_t5 v751 k1_hw61 k1_h8 => k1_hw61.2.2.2.2.1 k1_h8
theorem k1_off973_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off973 v751) a + S1x16.size a ≤ S321x128.size a := fun v11 k1_t5 v751 k1_hw61 k1_h8 => k1_hw61.2.2.2.2.2.1 k1_h8
theorem k1_off975_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off975 v751) a + S1x16.size a ≤ S321x128.size a := fun v11 k1_t5 v751 k1_hw61 k1_h8 => k1_hw61.2.2.2.2.2.2.1 k1_h8
theorem k1_off977_inb : ∀ (v11 : BitVec 32) (k1_t5 : Fin (k1_t5_loop v11).trips) (v751 : BitVec 32) (k1_hw61 : k1_chk61 v11 k1_t5 v751), ∀ (k1_h8 : k1_cond8 v11 k1_t5 = 1#1), ∀ a, (k1_off977 v751) a + S1x16.size a ≤ S321x128.size a := fun v11 k1_t5 v751 k1_hw61 k1_h8 => k1_hw61.2.2.2.2.2.2.2 k1_h8

def k1_off978 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_324 : BitVec 32 := 16#32
  let v752 : BitVec 32 := Scalar.muli arg17 c16_i32_324
  let c11_i32 : BitVec 32 := 11#32
  let v753 : BitVec 32 := Scalar.addi v752 c11_i32
  let v805 : Index := Scalar.indexCast v753
  let c112_347 : Index := 112#32
  ![v805.toNat, 112]
def k1_off979 (v811 : BitVec 32) : Fin 2 → Nat :=
  let v814 : Index := Scalar.indexCast v811
  let c0_350 : Index := 0#32
  ![v814.toNat, 0]

def k1_off980 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v816 : Index := Scalar.indexCast v813
  let c0_351 : Index := 0#32
  ![v816.toNat, 0]
def k1_off981 (v811 : BitVec 32) : Fin 2 → Nat :=
  let v821 : Index := Scalar.indexCast v811
  let c16_353 : Index := 16#32
  ![v821.toNat, 16]
def k1_off982 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v823 : Index := Scalar.indexCast v813
  let c16_354 : Index := 16#32
  ![v823.toNat, 16]
def k1_off983 (v811 : BitVec 32) : Fin 2 → Nat :=
  let v828 : Index := Scalar.indexCast v811
  let c32_356 : Index := 32#32
  ![v828.toNat, 32]
def k1_off984 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v830 : Index := Scalar.indexCast v813
  let c32_357 : Index := 32#32
  ![v830.toNat, 32]
def k1_off985 (v811 : BitVec 32) : Fin 2 → Nat :=
  let v835 : Index := Scalar.indexCast v811
  let c48_359 : Index := 48#32
  ![v835.toNat, 48]
def k1_off986 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v837 : Index := Scalar.indexCast v813
  let c48_360 : Index := 48#32
  ![v837.toNat, 48]
def k1_off987 (v811 : BitVec 32) : Fin 2 → Nat :=
  let v842 : Index := Scalar.indexCast v811
  let c64_362 : Index := 64#32
  ![v842.toNat, 64]
def k1_off988 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v844 : Index := Scalar.indexCast v813
  let c64_363 : Index := 64#32
  ![v844.toNat, 64]
def k1_off989 (v811 : BitVec 32) : Fin 2 → Nat :=
  let v849 : Index := Scalar.indexCast v811
  let c80_365 : Index := 80#32
  ![v849.toNat, 80]
def k1_off990 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v851 : Index := Scalar.indexCast v813
  let c80_366 : Index := 80#32
  ![v851.toNat, 80]
def k1_off991 (v811 : BitVec 32) : Fin 2 → Nat :=
  let v856 : Index := Scalar.indexCast v811
  let c96_368 : Index := 96#32
  ![v856.toNat, 96]
def k1_off992 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v858 : Index := Scalar.indexCast v813
  let c96_369 : Index := 96#32
  ![v858.toNat, 96]
def k1_off993 (v811 : BitVec 32) : Fin 2 → Nat :=
  let v863 : Index := Scalar.indexCast v811
  let c112_371 : Index := 112#32
  ![v863.toNat, 112]

def k1_chk62 (v11 : BitVec 32) (k1_t5 : Fin (k1_t5_loop v11).trips) (v811 : BitVec 32) : Prop :=
  (∀ (k1_h8 : k1_cond8 v11 k1_t5 = 1#1), ∀ a, (k1_off979 v811) a + S1x16.size a ≤ S321x128.size a) ∧
  (∀ (k1_h8 : k1_cond8 v11 k1_t5 = 1#1), ∀ a, (k1_off981 v811) a + S1x16.size a ≤ S321x128.size a) ∧
  (∀ (k1_h8 : k1_cond8 v11 k1_t5 = 1#1), ∀ a, (k1_off983 v811) a + S1x16.size a ≤ S321x128.size a) ∧
  (∀ (k1_h8 : k1_cond8 v11 k1_t5 = 1#1), ∀ a, (k1_off985 v811) a + S1x16.size a ≤ S321x128.size a) ∧
  (∀ (k1_h8 : k1_cond8 v11 k1_t5 = 1#1), ∀ a, (k1_off987 v811) a + S1x16.size a ≤ S321x128.size a) ∧
  (∀ (k1_h8 : k1_cond8 v11 k1_t5 = 1#1), ∀ a, (k1_off989 v811) a + S1x16.size a ≤ S321x128.size a) ∧
  (∀ (k1_h8 : k1_cond8 v11 k1_t5 = 1#1), ∀ a, (k1_off991 v811) a + S1x16.size a ≤ S321x128.size a) ∧
  (∀ (k1_h8 : k1_cond8 v11 k1_t5 = 1#1), ∀ a, (k1_off993 v811) a + S1x16.size a ≤ S321x128.size a)
theorem k1_off979_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off979 v811) a + S1x16.size a ≤ S321x128.size a := fun v11 k1_t5 v811 k1_hw62 k1_h8 => k1_hw62.1 k1_h8
theorem k1_off981_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off981 v811) a + S1x16.size a ≤ S321x128.size a := fun v11 k1_t5 v811 k1_hw62 k1_h8 => k1_hw62.2.1 k1_h8
theorem k1_off983_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off983 v811) a + S1x16.size a ≤ S321x128.size a := fun v11 k1_t5 v811 k1_hw62 k1_h8 => k1_hw62.2.2.1 k1_h8
theorem k1_off985_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off985 v811) a + S1x16.size a ≤ S321x128.size a := fun v11 k1_t5 v811 k1_hw62 k1_h8 => k1_hw62.2.2.2.1 k1_h8
theorem k1_off987_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off987 v811) a + S1x16.size a ≤ S321x128.size a := fun v11 k1_t5 v811 k1_hw62 k1_h8 => k1_hw62.2.2.2.2.1 k1_h8
theorem k1_off989_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off989 v811) a + S1x16.size a ≤ S321x128.size a := fun v11 k1_t5 v811 k1_hw62 k1_h8 => k1_hw62.2.2.2.2.2.1 k1_h8
theorem k1_off991_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off991 v811) a + S1x16.size a ≤ S321x128.size a := fun v11 k1_t5 v811 k1_hw62 k1_h8 => k1_hw62.2.2.2.2.2.2.1 k1_h8
theorem k1_off993_inb : ∀ (v11 : BitVec 32) (k1_t5 : Fin (k1_t5_loop v11).trips) (v811 : BitVec 32) (k1_hw62 : k1_chk62 v11 k1_t5 v811), ∀ (k1_h8 : k1_cond8 v11 k1_t5 = 1#1), ∀ a, (k1_off993 v811) a + S1x16.size a ≤ S321x128.size a := fun v11 k1_t5 v811 k1_hw62 k1_h8 => k1_hw62.2.2.2.2.2.2.2 k1_h8

def k1_off994 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_349 : BitVec 32 := 16#32
  let v812 : BitVec 32 := Scalar.muli arg17 c16_i32_349
  let c12_i32 : BitVec 32 := 12#32
  let v813 : BitVec 32 := Scalar.addi v812 c12_i32
  let v865 : Index := Scalar.indexCast v813
  let c112_372 : Index := 112#32
  ![v865.toNat, 112]
def k1_off995 (v871 : BitVec 32) : Fin 2 → Nat :=
  let v874 : Index := Scalar.indexCast v871
  let c0_375 : Index := 0#32
  ![v874.toNat, 0]

def k1_off996 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v876 : Index := Scalar.indexCast v873
  let c0_376 : Index := 0#32
  ![v876.toNat, 0]
def k1_off997 (v871 : BitVec 32) : Fin 2 → Nat :=
  let v881 : Index := Scalar.indexCast v871
  let c16_378 : Index := 16#32
  ![v881.toNat, 16]
def k1_off998 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v883 : Index := Scalar.indexCast v873
  let c16_379 : Index := 16#32
  ![v883.toNat, 16]
def k1_off999 (v871 : BitVec 32) : Fin 2 → Nat :=
  let v888 : Index := Scalar.indexCast v871
  let c32_381 : Index := 32#32
  ![v888.toNat, 32]
def k1_off1000 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v890 : Index := Scalar.indexCast v873
  let c32_382 : Index := 32#32
  ![v890.toNat, 32]
def k1_off1001 (v871 : BitVec 32) : Fin 2 → Nat :=
  let v895 : Index := Scalar.indexCast v871
  let c48_384 : Index := 48#32
  ![v895.toNat, 48]
def k1_off1002 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v897 : Index := Scalar.indexCast v873
  let c48_385 : Index := 48#32
  ![v897.toNat, 48]
def k1_off1003 (v871 : BitVec 32) : Fin 2 → Nat :=
  let v902 : Index := Scalar.indexCast v871
  let c64_387 : Index := 64#32
  ![v902.toNat, 64]
def k1_off1004 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v904 : Index := Scalar.indexCast v873
  let c64_388 : Index := 64#32
  ![v904.toNat, 64]
def k1_off1005 (v871 : BitVec 32) : Fin 2 → Nat :=
  let v909 : Index := Scalar.indexCast v871
  let c80_390 : Index := 80#32
  ![v909.toNat, 80]
def k1_off1006 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v911 : Index := Scalar.indexCast v873
  let c80_391 : Index := 80#32
  ![v911.toNat, 80]
def k1_off1007 (v871 : BitVec 32) : Fin 2 → Nat :=
  let v916 : Index := Scalar.indexCast v871
  let c96_393 : Index := 96#32
  ![v916.toNat, 96]
def k1_off1008 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v918 : Index := Scalar.indexCast v873
  let c96_394 : Index := 96#32
  ![v918.toNat, 96]
def k1_off1009 (v871 : BitVec 32) : Fin 2 → Nat :=
  let v923 : Index := Scalar.indexCast v871
  let c112_396 : Index := 112#32
  ![v923.toNat, 112]

def k1_chk63 (v11 : BitVec 32) (k1_t5 : Fin (k1_t5_loop v11).trips) (v871 : BitVec 32) : Prop :=
  (∀ (k1_h8 : k1_cond8 v11 k1_t5 = 1#1), ∀ a, (k1_off995 v871) a + S1x16.size a ≤ S321x128.size a) ∧
  (∀ (k1_h8 : k1_cond8 v11 k1_t5 = 1#1), ∀ a, (k1_off997 v871) a + S1x16.size a ≤ S321x128.size a) ∧
  (∀ (k1_h8 : k1_cond8 v11 k1_t5 = 1#1), ∀ a, (k1_off999 v871) a + S1x16.size a ≤ S321x128.size a) ∧
  (∀ (k1_h8 : k1_cond8 v11 k1_t5 = 1#1), ∀ a, (k1_off1001 v871) a + S1x16.size a ≤ S321x128.size a) ∧
  (∀ (k1_h8 : k1_cond8 v11 k1_t5 = 1#1), ∀ a, (k1_off1003 v871) a + S1x16.size a ≤ S321x128.size a) ∧
  (∀ (k1_h8 : k1_cond8 v11 k1_t5 = 1#1), ∀ a, (k1_off1005 v871) a + S1x16.size a ≤ S321x128.size a) ∧
  (∀ (k1_h8 : k1_cond8 v11 k1_t5 = 1#1), ∀ a, (k1_off1007 v871) a + S1x16.size a ≤ S321x128.size a) ∧
  (∀ (k1_h8 : k1_cond8 v11 k1_t5 = 1#1), ∀ a, (k1_off1009 v871) a + S1x16.size a ≤ S321x128.size a)
theorem k1_off995_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off995 v871) a + S1x16.size a ≤ S321x128.size a := fun v11 k1_t5 v871 k1_hw63 k1_h8 => k1_hw63.1 k1_h8
theorem k1_off997_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off997 v871) a + S1x16.size a ≤ S321x128.size a := fun v11 k1_t5 v871 k1_hw63 k1_h8 => k1_hw63.2.1 k1_h8
theorem k1_off999_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off999 v871) a + S1x16.size a ≤ S321x128.size a := fun v11 k1_t5 v871 k1_hw63 k1_h8 => k1_hw63.2.2.1 k1_h8
theorem k1_off1001_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off1001 v871) a + S1x16.size a ≤ S321x128.size a := fun v11 k1_t5 v871 k1_hw63 k1_h8 => k1_hw63.2.2.2.1 k1_h8
theorem k1_off1003_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off1003 v871) a + S1x16.size a ≤ S321x128.size a := fun v11 k1_t5 v871 k1_hw63 k1_h8 => k1_hw63.2.2.2.2.1 k1_h8
theorem k1_off1005_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off1005 v871) a + S1x16.size a ≤ S321x128.size a := fun v11 k1_t5 v871 k1_hw63 k1_h8 => k1_hw63.2.2.2.2.2.1 k1_h8
theorem k1_off1007_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off1007 v871) a + S1x16.size a ≤ S321x128.size a := fun v11 k1_t5 v871 k1_hw63 k1_h8 => k1_hw63.2.2.2.2.2.2.1 k1_h8
theorem k1_off1009_inb : ∀ (v11 : BitVec 32) (k1_t5 : Fin (k1_t5_loop v11).trips) (v871 : BitVec 32) (k1_hw63 : k1_chk63 v11 k1_t5 v871), ∀ (k1_h8 : k1_cond8 v11 k1_t5 = 1#1), ∀ a, (k1_off1009 v871) a + S1x16.size a ≤ S321x128.size a := fun v11 k1_t5 v871 k1_hw63 k1_h8 => k1_hw63.2.2.2.2.2.2.2 k1_h8

def k1_off1010 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_374 : BitVec 32 := 16#32
  let v872 : BitVec 32 := Scalar.muli arg17 c16_i32_374
  let c13_i32 : BitVec 32 := 13#32
  let v873 : BitVec 32 := Scalar.addi v872 c13_i32
  let v925 : Index := Scalar.indexCast v873
  let c112_397 : Index := 112#32
  ![v925.toNat, 112]
def k1_off1011 (v931 : BitVec 32) : Fin 2 → Nat :=
  let v934 : Index := Scalar.indexCast v931
  let c0_400 : Index := 0#32
  ![v934.toNat, 0]

def k1_off1012 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v936 : Index := Scalar.indexCast v933
  let c0_401 : Index := 0#32
  ![v936.toNat, 0]
def k1_off1013 (v931 : BitVec 32) : Fin 2 → Nat :=
  let v941 : Index := Scalar.indexCast v931
  let c16_403 : Index := 16#32
  ![v941.toNat, 16]
def k1_off1014 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v943 : Index := Scalar.indexCast v933
  let c16_404 : Index := 16#32
  ![v943.toNat, 16]
def k1_off1015 (v931 : BitVec 32) : Fin 2 → Nat :=
  let v948 : Index := Scalar.indexCast v931
  let c32_406 : Index := 32#32
  ![v948.toNat, 32]
def k1_off1016 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v950 : Index := Scalar.indexCast v933
  let c32_407 : Index := 32#32
  ![v950.toNat, 32]
def k1_off1017 (v931 : BitVec 32) : Fin 2 → Nat :=
  let v955 : Index := Scalar.indexCast v931
  let c48_409 : Index := 48#32
  ![v955.toNat, 48]
def k1_off1018 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v957 : Index := Scalar.indexCast v933
  let c48_410 : Index := 48#32
  ![v957.toNat, 48]
def k1_off1019 (v931 : BitVec 32) : Fin 2 → Nat :=
  let v962 : Index := Scalar.indexCast v931
  let c64_412 : Index := 64#32
  ![v962.toNat, 64]
def k1_off1020 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v964 : Index := Scalar.indexCast v933
  let c64_413 : Index := 64#32
  ![v964.toNat, 64]
def k1_off1021 (v931 : BitVec 32) : Fin 2 → Nat :=
  let v969 : Index := Scalar.indexCast v931
  let c80_415 : Index := 80#32
  ![v969.toNat, 80]
def k1_off1022 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v971 : Index := Scalar.indexCast v933
  let c80_416 : Index := 80#32
  ![v971.toNat, 80]
def k1_off1023 (v931 : BitVec 32) : Fin 2 → Nat :=
  let v976 : Index := Scalar.indexCast v931
  let c96_418 : Index := 96#32
  ![v976.toNat, 96]
def k1_off1024 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v978 : Index := Scalar.indexCast v933
  let c96_419 : Index := 96#32
  ![v978.toNat, 96]
def k1_off1025 (v931 : BitVec 32) : Fin 2 → Nat :=
  let v983 : Index := Scalar.indexCast v931
  let c112_421 : Index := 112#32
  ![v983.toNat, 112]

def k1_chk64 (v11 : BitVec 32) (k1_t5 : Fin (k1_t5_loop v11).trips) (v931 : BitVec 32) : Prop :=
  (∀ (k1_h8 : k1_cond8 v11 k1_t5 = 1#1), ∀ a, (k1_off1011 v931) a + S1x16.size a ≤ S321x128.size a) ∧
  (∀ (k1_h8 : k1_cond8 v11 k1_t5 = 1#1), ∀ a, (k1_off1013 v931) a + S1x16.size a ≤ S321x128.size a) ∧
  (∀ (k1_h8 : k1_cond8 v11 k1_t5 = 1#1), ∀ a, (k1_off1015 v931) a + S1x16.size a ≤ S321x128.size a) ∧
  (∀ (k1_h8 : k1_cond8 v11 k1_t5 = 1#1), ∀ a, (k1_off1017 v931) a + S1x16.size a ≤ S321x128.size a) ∧
  (∀ (k1_h8 : k1_cond8 v11 k1_t5 = 1#1), ∀ a, (k1_off1019 v931) a + S1x16.size a ≤ S321x128.size a) ∧
  (∀ (k1_h8 : k1_cond8 v11 k1_t5 = 1#1), ∀ a, (k1_off1021 v931) a + S1x16.size a ≤ S321x128.size a) ∧
  (∀ (k1_h8 : k1_cond8 v11 k1_t5 = 1#1), ∀ a, (k1_off1023 v931) a + S1x16.size a ≤ S321x128.size a) ∧
  (∀ (k1_h8 : k1_cond8 v11 k1_t5 = 1#1), ∀ a, (k1_off1025 v931) a + S1x16.size a ≤ S321x128.size a)
theorem k1_off1011_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1011 v931) a + S1x16.size a ≤ S321x128.size a := fun v11 k1_t5 v931 k1_hw64 k1_h8 => k1_hw64.1 k1_h8
theorem k1_off1013_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1013 v931) a + S1x16.size a ≤ S321x128.size a := fun v11 k1_t5 v931 k1_hw64 k1_h8 => k1_hw64.2.1 k1_h8
theorem k1_off1015_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1015 v931) a + S1x16.size a ≤ S321x128.size a := fun v11 k1_t5 v931 k1_hw64 k1_h8 => k1_hw64.2.2.1 k1_h8
theorem k1_off1017_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1017 v931) a + S1x16.size a ≤ S321x128.size a := fun v11 k1_t5 v931 k1_hw64 k1_h8 => k1_hw64.2.2.2.1 k1_h8
theorem k1_off1019_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1019 v931) a + S1x16.size a ≤ S321x128.size a := fun v11 k1_t5 v931 k1_hw64 k1_h8 => k1_hw64.2.2.2.2.1 k1_h8
theorem k1_off1021_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1021 v931) a + S1x16.size a ≤ S321x128.size a := fun v11 k1_t5 v931 k1_hw64 k1_h8 => k1_hw64.2.2.2.2.2.1 k1_h8
theorem k1_off1023_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1023 v931) a + S1x16.size a ≤ S321x128.size a := fun v11 k1_t5 v931 k1_hw64 k1_h8 => k1_hw64.2.2.2.2.2.2.1 k1_h8
theorem k1_off1025_inb : ∀ (v11 : BitVec 32) (k1_t5 : Fin (k1_t5_loop v11).trips) (v931 : BitVec 32) (k1_hw64 : k1_chk64 v11 k1_t5 v931), ∀ (k1_h8 : k1_cond8 v11 k1_t5 = 1#1), ∀ a, (k1_off1025 v931) a + S1x16.size a ≤ S321x128.size a := fun v11 k1_t5 v931 k1_hw64 k1_h8 => k1_hw64.2.2.2.2.2.2.2 k1_h8

def k1_off1026 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_399 : BitVec 32 := 16#32
  let v932 : BitVec 32 := Scalar.muli arg17 c16_i32_399
  let c14_i32 : BitVec 32 := 14#32
  let v933 : BitVec 32 := Scalar.addi v932 c14_i32
  let v985 : Index := Scalar.indexCast v933
  let c112_422 : Index := 112#32
  ![v985.toNat, 112]
def k1_off1027 (v991 : BitVec 32) : Fin 2 → Nat :=
  let v994 : Index := Scalar.indexCast v991
  let c0_425 : Index := 0#32
  ![v994.toNat, 0]

def k1_off1028 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v996 : Index := Scalar.indexCast v993
  let c0_426 : Index := 0#32
  ![v996.toNat, 0]
def k1_off1029 (v991 : BitVec 32) : Fin 2 → Nat :=
  let v1001 : Index := Scalar.indexCast v991
  let c16_428 : Index := 16#32
  ![v1001.toNat, 16]
def k1_off1030 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v1003 : Index := Scalar.indexCast v993
  let c16_429 : Index := 16#32
  ![v1003.toNat, 16]
def k1_off1031 (v991 : BitVec 32) : Fin 2 → Nat :=
  let v1008 : Index := Scalar.indexCast v991
  let c32_431 : Index := 32#32
  ![v1008.toNat, 32]
def k1_off1032 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v1010 : Index := Scalar.indexCast v993
  let c32_432 : Index := 32#32
  ![v1010.toNat, 32]
def k1_off1033 (v991 : BitVec 32) : Fin 2 → Nat :=
  let v1015 : Index := Scalar.indexCast v991
  let c48_434 : Index := 48#32
  ![v1015.toNat, 48]
def k1_off1034 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v1017 : Index := Scalar.indexCast v993
  let c48_435 : Index := 48#32
  ![v1017.toNat, 48]
def k1_off1035 (v991 : BitVec 32) : Fin 2 → Nat :=
  let v1022 : Index := Scalar.indexCast v991
  let c64_437 : Index := 64#32
  ![v1022.toNat, 64]
def k1_off1036 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v1024 : Index := Scalar.indexCast v993
  let c64_438 : Index := 64#32
  ![v1024.toNat, 64]
def k1_off1037 (v991 : BitVec 32) : Fin 2 → Nat :=
  let v1029 : Index := Scalar.indexCast v991
  let c80_440 : Index := 80#32
  ![v1029.toNat, 80]
def k1_off1038 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v1031 : Index := Scalar.indexCast v993
  let c80_441 : Index := 80#32
  ![v1031.toNat, 80]
def k1_off1039 (v991 : BitVec 32) : Fin 2 → Nat :=
  let v1036 : Index := Scalar.indexCast v991
  let c96_443 : Index := 96#32
  ![v1036.toNat, 96]
def k1_off1040 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v1038 : Index := Scalar.indexCast v993
  let c96_444 : Index := 96#32
  ![v1038.toNat, 96]
def k1_off1041 (v991 : BitVec 32) : Fin 2 → Nat :=
  let v1043 : Index := Scalar.indexCast v991
  let c112_446 : Index := 112#32
  ![v1043.toNat, 112]

def k1_chk65 (v11 : BitVec 32) (k1_t5 : Fin (k1_t5_loop v11).trips) (v991 : BitVec 32) : Prop :=
  (∀ (k1_h8 : k1_cond8 v11 k1_t5 = 1#1), ∀ a, (k1_off1027 v991) a + S1x16.size a ≤ S321x128.size a) ∧
  (∀ (k1_h8 : k1_cond8 v11 k1_t5 = 1#1), ∀ a, (k1_off1029 v991) a + S1x16.size a ≤ S321x128.size a) ∧
  (∀ (k1_h8 : k1_cond8 v11 k1_t5 = 1#1), ∀ a, (k1_off1031 v991) a + S1x16.size a ≤ S321x128.size a) ∧
  (∀ (k1_h8 : k1_cond8 v11 k1_t5 = 1#1), ∀ a, (k1_off1033 v991) a + S1x16.size a ≤ S321x128.size a) ∧
  (∀ (k1_h8 : k1_cond8 v11 k1_t5 = 1#1), ∀ a, (k1_off1035 v991) a + S1x16.size a ≤ S321x128.size a) ∧
  (∀ (k1_h8 : k1_cond8 v11 k1_t5 = 1#1), ∀ a, (k1_off1037 v991) a + S1x16.size a ≤ S321x128.size a) ∧
  (∀ (k1_h8 : k1_cond8 v11 k1_t5 = 1#1), ∀ a, (k1_off1039 v991) a + S1x16.size a ≤ S321x128.size a) ∧
  (∀ (k1_h8 : k1_cond8 v11 k1_t5 = 1#1), ∀ a, (k1_off1041 v991) a + S1x16.size a ≤ S321x128.size a)
theorem k1_off1027_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1027 v991) a + S1x16.size a ≤ S321x128.size a := fun v11 k1_t5 v991 k1_hw65 k1_h8 => k1_hw65.1 k1_h8
theorem k1_off1029_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1029 v991) a + S1x16.size a ≤ S321x128.size a := fun v11 k1_t5 v991 k1_hw65 k1_h8 => k1_hw65.2.1 k1_h8
theorem k1_off1031_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1031 v991) a + S1x16.size a ≤ S321x128.size a := fun v11 k1_t5 v991 k1_hw65 k1_h8 => k1_hw65.2.2.1 k1_h8
theorem k1_off1033_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1033 v991) a + S1x16.size a ≤ S321x128.size a := fun v11 k1_t5 v991 k1_hw65 k1_h8 => k1_hw65.2.2.2.1 k1_h8
theorem k1_off1035_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1035 v991) a + S1x16.size a ≤ S321x128.size a := fun v11 k1_t5 v991 k1_hw65 k1_h8 => k1_hw65.2.2.2.2.1 k1_h8
theorem k1_off1037_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1037 v991) a + S1x16.size a ≤ S321x128.size a := fun v11 k1_t5 v991 k1_hw65 k1_h8 => k1_hw65.2.2.2.2.2.1 k1_h8
theorem k1_off1039_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1039 v991) a + S1x16.size a ≤ S321x128.size a := fun v11 k1_t5 v991 k1_hw65 k1_h8 => k1_hw65.2.2.2.2.2.2.1 k1_h8
theorem k1_off1041_inb : ∀ (v11 : BitVec 32) (k1_t5 : Fin (k1_t5_loop v11).trips) (v991 : BitVec 32) (k1_hw65 : k1_chk65 v11 k1_t5 v991), ∀ (k1_h8 : k1_cond8 v11 k1_t5 = 1#1), ∀ a, (k1_off1041 v991) a + S1x16.size a ≤ S321x128.size a := fun v11 k1_t5 v991 k1_hw65 k1_h8 => k1_hw65.2.2.2.2.2.2.2 k1_h8

def k1_off1042 (k1_t7 : Fin k1_t7_loop.trips) : Fin 2 → Nat :=
  let c0_i32_48 : BitVec 32 := 0#32
  let c1_i32_49 : BitVec 32 := 1#32
  let arg17 : BitVec 32 := Scf.iv c0_i32_48 c1_i32_49 k1_t7
  let c16_i32_424 : BitVec 32 := 16#32
  let v992 : BitVec 32 := Scalar.muli arg17 c16_i32_424
  let c15_i32 : BitVec 32 := 15#32
  let v993 : BitVec 32 := Scalar.addi v992 c15_i32
  let v1045 : Index := Scalar.indexCast v993
  let c112_447 : Index := 112#32
  ![v1045.toNat, 112]
@[reducible] def k1_t8_loop : Scf.Loop 32 :=
  let c0_i32_27 : BitVec 32 := 0#32
  let c320_i32_28 : BitVec 32 := 320#32
  let v59 : BitVec 32 := Scalar.addi c0_i32_27 c320_i32_28
  let c1_i32_29 : BitVec 32 := 1#32
  ⟨c0_i32_27, v59, c1_i32_29⟩
def k1_off1043 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v67 : Index := Scalar.indexCast arg15
  let c0_34 : Index := 0#32
  ![v67.toNat, 0]
def k1_off1044 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v75 : Index := Scalar.indexCast arg15
  let c16 : Index := 16#32
  ![v75.toNat, 16]
def k1_off1045 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v83 : Index := Scalar.indexCast arg15
  let c32 : Index := 32#32
  ![v83.toNat, 32]
def k1_off1046 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v91 : Index := Scalar.indexCast arg15
  let c48 : Index := 48#32
  ![v91.toNat, 48]
def k1_off1047 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v99 : Index := Scalar.indexCast arg15
  let c64 : Index := 64#32
  ![v99.toNat, 64]
def k1_off1048 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v107 : Index := Scalar.indexCast arg15
  let c80 : Index := 80#32
  ![v107.toNat, 80]
def k1_off1049 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v115 : Index := Scalar.indexCast arg15
  let c96 : Index := 96#32
  ![v115.toNat, 96]
def k1_off1050 (k1_t8 : Fin k1_t8_loop.trips) : Fin 2 → Nat :=
  let c0_i32_27 : BitVec 32 := 0#32
  let c1_i32_29 : BitVec 32 := 1#32
  let arg15 : BitVec 32 := Scf.iv c0_i32_27 c1_i32_29 k1_t8
  let v123 : Index := Scalar.indexCast arg15
  let c112 : Index := 112#32
  ![v123.toNat, 112]
def k1_cond10 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v61 : BitVec 1 := Scalar.cmpi .slt v1 c31_i32
  let v62 : BitVec 32 := Scalar.extui v61
  let c0_i32_31 : BitVec 32 := 0#32
  let v63 : BitVec 1 := Scalar.cmpi .ne v62 c0_i32_31
  v63

def k1_off1051 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_36_r3 : BitVec 32 := 0#32
  ![v2.toNat, 0]
def k1_cond11 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_32 : BitVec 32 := 31#32
  let v64 : BitVec 1 := Scalar.cmpi .eq v1 c31_i32_32
  let v65 : BitVec 32 := Scalar.extui v64
  let c0_i32_33 : BitVec 32 := 0#32
  let v66 : BitVec 1 := Scalar.cmpi .ne v65 c0_i32_33
  v66

def k1_off1052 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_36_r4 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S10000 : Shape := ⟨1, ![10000]⟩
abbrev S1x320000x1 : Shape := ⟨3, ![1, 320000, 1]⟩
abbrev S10000x1x1 : Shape := ⟨3, ![10000, 1, 1]⟩
abbrev S10000x320000x1 : Shape := ⟨3, ![10000, 320000, 1]⟩
abbrev S1x320000x128 : Shape := ⟨3, ![1, 320000, 128]⟩
abbrev S10000x320000x128 : Shape := ⟨3, ![10000, 320000, 128]⟩

abbrev nBuf : Space → Nat
  | .hbm => 99
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000x128, .f32⟩
  | .hbm, ⟨3, _⟩ => ⟨S1x320000, .i32⟩
  | .hbm, ⟨4, _⟩ => ⟨S320000, .i32⟩
  | .hbm, ⟨5, _⟩ => ⟨S1x320000, .i32⟩
  | .hbm, ⟨6, _⟩ => ⟨S320000, .i32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S1, .i32⟩
  | .hbm, ⟨16, _⟩ => ⟨S_, .i32⟩
  | .hbm, ⟨17, _⟩ => ⟨S320000x1, .i32⟩
  | .hbm, ⟨18, _⟩ => ⟨S320000x1, .i1⟩
  | .hbm, ⟨19, _⟩ => ⟨S1x1, .i32⟩
  | .hbm, ⟨20, _⟩ => ⟨S320000x1, .i32⟩
  | .hbm, ⟨21, _⟩ => ⟨S320000x1, .i1⟩
  | .hbm, ⟨22, _⟩ => ⟨S320000x1, .i1⟩
  | .hbm, ⟨23, _⟩ => ⟨S_, .i1⟩
  | .hbm, ⟨24, _⟩ => ⟨S320000, .i1⟩
  | .hbm, ⟨25, _⟩ => ⟨S320000x128, .f32⟩
  | .hbm, ⟨26, _⟩ => ⟨S320000x128, .i1⟩
  | .hbm, ⟨27, _⟩ => ⟨S_, .f32⟩
  | .hbm, ⟨28, _⟩ => ⟨S320000x128, .f32⟩
  | .hbm, ⟨29, _⟩ => ⟨S320000x128, .f32⟩
  | .hbm, ⟨30, _⟩ => ⟨S10000, .i32⟩
  | .hbm, ⟨31, _⟩ => ⟨S1x320000x1, .i32⟩
  | .hbm, ⟨32, _⟩ => ⟨S10000x1x1, .i32⟩
  | .hbm, ⟨33, _⟩ => ⟨S10000x320000x1, .i32⟩
  | .hbm, ⟨34, _⟩ => ⟨S10000x320000x1, .i32⟩
  | .hbm, ⟨35, _⟩ => ⟨S10000x320000x1, .i1⟩
  | .hbm, ⟨36, _⟩ => ⟨S1x320000x128, .f32⟩
  | .hbm, ⟨37, _⟩ => ⟨S_, .f32⟩
  | .hbm, ⟨38, _⟩ => ⟨S_, .f32⟩
  | .hbm, ⟨39, _⟩ => ⟨S10000x320000x128, .i1⟩
  | .hbm, ⟨40, _⟩ => ⟨S10000x320000x128, .f32⟩
  | .hbm, ⟨41, _⟩ => ⟨S10000x320000x128, .f32⟩
  | .hbm, ⟨42, _⟩ => ⟨S10000x320000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .i1⟩
  | .hbm, ⟨49, _⟩ => ⟨S_, .f32⟩
  | .hbm, ⟨50, _⟩ => ⟨S_, .f32⟩
  | .hbm, ⟨51, _⟩ => ⟨S10000x128, .f32⟩
  | .hbm, ⟨52, _⟩ => ⟨S10000x128, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S1, .i32⟩
  | .hbm, ⟨62, _⟩ => ⟨S_, .i32⟩
  | .hbm, ⟨63, _⟩ => ⟨S320000x1, .i32⟩
  | .hbm, ⟨64, _⟩ => ⟨S320000x1, .i1⟩
  | .hbm, ⟨65, _⟩ => ⟨S1x1, .i32⟩
  | .hbm, ⟨66, _⟩ => ⟨S320000x1, .i32⟩
  | .hbm, ⟨67, _⟩ => ⟨S320000x1, .i1⟩
  | .hbm, ⟨68, _⟩ => ⟨S320000x1, .i1⟩
  | .hbm, ⟨69, _⟩ => ⟨S_, .i1⟩
  | .hbm, ⟨70, _⟩ => ⟨S320000, .i1⟩
  | .hbm, ⟨71, _⟩ => ⟨S320000x128, .f32⟩
  | .hbm, ⟨72, _⟩ => ⟨S320000x128, .i1⟩
  | .hbm, ⟨73, _⟩ => ⟨S_, .f32⟩
  | .hbm, ⟨74, _⟩ => ⟨S320000x128, .f32⟩
  | .hbm, ⟨75, _⟩ => ⟨S320000x128, .f32⟩
  | .hbm, ⟨76, _⟩ => ⟨S10000, .i32⟩
  | .hbm, ⟨77, _⟩ => ⟨S1x320000x1, .i32⟩
  | .hbm, ⟨78, _⟩ => ⟨S10000x1x1, .i32⟩
  | .hbm, ⟨79, _⟩ => ⟨S10000x320000x1, .i32⟩
  | .hbm, ⟨80, _⟩ => ⟨S10000x320000x1, .i32⟩
  | .hbm, ⟨81, _⟩ => ⟨S10000x320000x1, .i1⟩
  | .hbm, ⟨82, _⟩ => ⟨S1x320000x128, .f32⟩
  | .hbm, ⟨83, _⟩ => ⟨S_, .f32⟩
  | .hbm, ⟨84, _⟩ => ⟨S_, .f32⟩
  | .hbm, ⟨85, _⟩ => ⟨S10000x320000x128, .i1⟩
  | .hbm, ⟨86, _⟩ => ⟨S10000x320000x128, .f32⟩
  | .hbm, ⟨87, _⟩ => ⟨S10000x320000x128, .f32⟩
  | .hbm, ⟨88, _⟩ => ⟨S10000x320000x128, .f32⟩
  | .hbm, ⟨89, _⟩ => ⟨S_, .f32⟩
  | .hbm, ⟨90, _⟩ => ⟨S10000x128, .f32⟩
  | .hbm, ⟨91, _⟩ => ⟨S10000x128, .f32⟩
  | .hbm, ⟨92, _⟩ => ⟨S_, .f32⟩
  | .hbm, ⟨93, _⟩ => ⟨S10000x128, .f32⟩
  | .hbm, ⟨94, _⟩ => ⟨S10000x128, .i1⟩
  | .hbm, ⟨95, _⟩ => ⟨S_, .f32⟩
  | .hbm, ⟨96, _⟩ => ⟨S_, .f32⟩
  | .hbm, ⟨97, _⟩ => ⟨S10000x128, .f32⟩
  | .hbm, ⟨98, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_v17 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_call3_cst : Ref sig .tc := ⟨.hbm, 73, rfl⟩
abbrev main_call3_v15 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_cst_3 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_v26 : Ref sig .tc := ⟨.hbm, 88, rfl⟩
abbrev main_cst_4 : Ref sig .tc := ⟨.hbm, 89, rfl⟩
abbrev main_v27 : Ref sig .tc := ⟨.hbm, 90, rfl⟩
abbrev main_v28 : Ref sig .tc := ⟨.hbm, 91, rfl⟩
abbrev main_cst_5 : Ref sig .tc := ⟨.hbm, 92, rfl⟩
abbrev main_v29 : Ref sig .tc := ⟨.hbm, 93, rfl⟩
abbrev main_v30 : Ref sig .tc := ⟨.hbm, 94, rfl⟩
abbrev main_cst_6 : Ref sig .tc := ⟨.hbm, 95, rfl⟩
abbrev main_call5_v0 : Ref sig .tc := ⟨.hbm, 96, rfl⟩
abbrev main_call5_v1 : Ref sig .tc := ⟨.hbm, 97, rfl⟩
abbrev main_v31 : Ref sig .tc := ⟨.hbm, 98, rfl⟩

abbrev nD : Nat := 1
abbrev τ : Topo := Topo.v7x

variable {F : FTy → Type} [FloatOps F]
-- ==== Layer.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S10000x128, .f32⟩
  | .hbm, ⟨7, _⟩ => ⟨S1x128, .f32⟩
  | .hbm, ⟨8, _⟩ => ⟨S1x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_14 : BitVec 32 := 0#32
  let v19 : BitVec 1 := Scalar.cmpi .ne v18 c0_i32_14
  v19

def k0_cond2 (i : grid0.Coords) : BitVec 1 :=
  let arg0 : BitVec 32 := BitVec.ofNat 32 (i 0).val
  let c0_i32_15 : BitVec 32 := 0#32
  let v20 : BitVec 1 := Scalar.cmpi .sgt arg0 c0_i32_15
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LayerReferenceIdeal.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S128x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S10000x128, .f32⟩
  | .hbm, ⟨17, _⟩ => ⟨S_, .f32⟩
  | .hbm, ⟨18, _⟩ => ⟨S128, .f32⟩
  | .hbm, ⟨19, _⟩ => ⟨S1x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Norm.lean ====
abbrev S10000x128 : Shape := ⟨2, ![10000, 128]⟩
abbrev S1x128 : Shape := ⟨2, ![1, 128]⟩
abbrev S128 : Shape := ⟨1, ![128]⟩
abbrev S2000x128 : Shape := ⟨2, ![2000, 128]⟩

abbrev nBuf : Space → Nat
  | .hbm => 10
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormIdeal.lean ====
variable {F : FTy → Type} [FloatOps F] [Named F]
def κ : String → Option EReal := fun
  | "inv_n" => some ((1 / 10000 : ℝ) : EReal)
  | _ => none
-- ==== NormReferenceIdeal.lean ====
abbrev S10000x128 : Shape := ⟨2, ![10000, 128]⟩
abbrev S1x128 : Shape := ⟨2, ![1, 128]⟩
abbrev S128 : Shape := ⟨1, ![128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Head.lean ====
abbrev S10000x128 : Shape := ⟨2, ![10000, 128]⟩
abbrev S1x128 : Shape := ⟨2, ![1, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S8x64 : Shape := ⟨2, ![8, 64]⟩
abbrev S1x1 : Shape := ⟨2, ![1, 1]⟩
abbrev S1x8 : Shape := ⟨2, ![1, 8]⟩
abbrev S10000x8 : Shape := ⟨2, ![10000, 8]⟩
abbrev S2000x128 : Shape := ⟨2, ![2000, 128]⟩
abbrev S2000x8 : Shape := ⟨2, ![2000, 8]⟩
abbrev S2000x64 : Shape := ⟨2, ![2000, 64]⟩

abbrev nBuf : Space → Nat
  | .hbm => 19
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x64, .f32⟩
  | .hbm, ⟨15, _⟩ => ⟨S8x64, .f32⟩
  | .hbm, ⟨16, _⟩ => ⟨S1x1, .f32⟩
  | .hbm, ⟨17, _⟩ => ⟨S1x8, .f32⟩
  | .hbm, ⟨18, _⟩ => ⟨S10000x8, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S64x128, .f32⟩
  | .local _ .vmem, ⟨10, _⟩ => ⟨S1x64, .f32⟩
  | .local _ .vmem, ⟨11, _⟩ => ⟨S8x64, .f32⟩
  | .local _ .vmem, ⟨12, _⟩ => ⟨S1x8, .f32⟩
  | .local _ .vmem, ⟨13, _⟩ => ⟨S2000x8, .f32⟩
  | .local _ .vmem, ⟨14, _⟩ => ⟨S2000x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== HeadIdeal.lean ====
variable {F : FTy → Type} [FloatOps F] [Named F]
def κ : String → Option EReal := fun
  | "inv_n" => some ((1 / 10000 : ℝ) : EReal)
  | _ => none
-- ==== HeadReferenceIdeal.lean ====
abbrev S10000x128 : Shape := ⟨2, ![10000, 128]⟩
abbrev S1x128 : Shape := ⟨2, ![1, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S128x64 : Shape := ⟨2, ![128, 64]⟩
abbrev S10000x64 : Shape := ⟨2, ![10000, 64]⟩
abbrev S64x1 : Shape := ⟨2, ![64, 1]⟩
abbrev S10000x1 : Shape := ⟨2, ![10000, 1]⟩
abbrev S1x1 : Shape := ⟨2, ![1, 1]⟩
abbrev S10000x8 : Shape := ⟨2, ![10000, 8]⟩

abbrev nBuf : Space → Nat
  | .hbm => 69
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S128x64, .f32⟩
  | .hbm, ⟨45, _⟩ => ⟨S10000x64, .f32⟩
  | .hbm, ⟨46, _⟩ => ⟨S1x64, .f32⟩
  | .hbm, ⟨47, _⟩ => ⟨S10000x64, .f32⟩
  | .hbm, ⟨48, _⟩ => ⟨S10000x64, .f32⟩
  | .hbm, ⟨49, _⟩ => ⟨S_, .f32⟩
  | .hbm, ⟨50, _⟩ => ⟨S10000x64, .f32⟩
  | .hbm, ⟨51, _⟩ => ⟨S10000x64, .f32⟩
  | .hbm, ⟨52, _⟩ => ⟨S64x1, .f32⟩
  | .hbm, ⟨53, _⟩ => ⟨S10000x1, .f32⟩
  | .hbm, ⟨54, _⟩ => ⟨S1x1, .f32⟩
  | .hbm, ⟨55, _⟩ => ⟨S10000x1, .f32⟩
  | .hbm, ⟨56, _⟩ => ⟨S10000x1, .f32⟩
  | .hbm, ⟨57, _⟩ => ⟨S10000x1, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .f32⟩
  | .hbm, ⟨62, _⟩ => ⟨S_, .f32⟩
  | .hbm, ⟨63, _⟩ => ⟨S10000x1, .f32⟩
  | .hbm, ⟨64, _⟩ => ⟨S10000x1, .f32⟩
  | .hbm, ⟨65, _⟩ => ⟨S_, .f32⟩
  | .hbm, ⟨66, _⟩ => ⟨S10000x1, .f32⟩
  | .hbm, ⟨67, _⟩ => ⟨S10000x1, .f32⟩
  | .hbm, ⟨68, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Proof.Lane.lean ====
/-
  The accumulation of one batch, as a structured program. The printed trips of the two batch loops are 16 lanes, each 8
  column groups, unrolled over many parts; here each is one line of a small program, and the printed text is it by
  definitional unfolding.
-/
module

public import proofs.«01_k».proof.Proof.Gen.KernelIdeal
public import proofs.«01_k».proof.Proof.Gen.KernelIdeal.Skeleton

@[expose] public section

noncomputable section

namespace Cert.Proof.Scan

open Cert.KernelIdeal Cert.KernelIdeal.Gen
open Idealize.ShloMosaic Idealize.SL Idealize.SL.Sem

variable {F : FTy → Type} [FloatOps F]

/-- The effects of the tile at grid coordinates `i`. -/
abbrev TileEff (F : FTy → Type) (i : grid0.Coords) := TpuEff nD τ sig (Elt F) Λ₀ (.scVector ((i 0).castLE hcore0) ((i 1).castLE hsub0))

abbrev AccRef : Type := Memref sig .scVector .vmem S321x128 .f32
abbrev RowsRef : Type := Memref sig .scVector .vmem S128x128 .f32

/-- Offsets of the column group `c` of the row a word names. -/
abbrev colOff (v : BitVec 32) (c : ℕ) : Fin 2 → ℕ := ![(Scalar.indexCast v).toNat, c]

/-- One column group: 16 lanes of a row of the accumulator become their maximum with 16 lanes of a gathered row. -/
def colMax (i : grid0.Coords) (acc : AccRef) (rows : RowsRef) (oa ob : Fin 2 → ℕ)
    (ha : ∀ a, oa a + S1x16.size a ≤ S321x128.size a) (hb : ∀ a, ob a + S1x16.size a ≤ S128x128.size a) : Prog (TileEff F i) PUnit := do
  let u : Vec F S1x16 .f32 ← Prog.lift (.load acc (Rect.unit (s := S321x128) oa S1x16.size ha).toLoadRect (View.loadsAt_vmem h_S1x16))
  let w : Vec F S1x16 .f32 ← Prog.lift (.load rows (Rect.unit (s := S128x128) ob S1x16.size hb).toLoadRect (View.loadsAt_vmem h_S1x16))
  let _u' : Vec F S1x16 .f32 ← Prog.lift (.load acc (Rect.unit (s := S321x128) oa S1x16.size ha).toLoadRect (View.loadsAt_vmem h_S1x16))
  Prog.lift (.store acc (Rect.unit (s := S321x128) oa S1x16.size ha)
    (shapeCast S1x16 (maximumf (shapeCast S16 u shapeCasts_S1x16_S16) (shapeCast S16 w shapeCasts_S1x16_S16)) shapeCasts_S16_S1x16)
    Finset.univ (View.stores_vmem_bits_univ h_S1x16 rfl) (.inl rfl))

/-- What a check of a row number must give: the row's column groups lie in the accumulator. -/
abbrev RowIn (chk : BitVec 32 → Prop) : Prop :=
  ∀ v, chk v → ∀ c : ℕ, c + 16 ≤ 128 → ∀ a, colOff v c a + S1x16.size a ≤ S321x128.size a

/-- The word of gathered row `j` of trip `t`. -/
abbrev rowWord (t j : ℕ) : BitVec 32 := Scalar.addi (Scalar.muli (Scf.iv 0#32 1#32 t) 16#32) (BitVec.ofNat 32 j)

/-- That word's column groups lie in the batch's rows. -/
abbrev BatchIn (t j : ℕ) : Prop := ∀ c : ℕ, c + 16 ≤ 128 → ∀ a, colOff (rowWord t j) c a + S1x16.size a ≤ S128x128.size a

/-- One lane: the check of its row number, then the row's eight column groups. -/
def lane (i : grid0.Coords) (acc : AccRef) (rows : RowsRef) (chk : BitVec 32 → Prop) (dec : ∀ v, Decidable (chk v)) (hchk : RowIn chk)
    (v b : BitVec 32) (hb : ∀ c : ℕ, c + 16 ≤ 128 → ∀ a, colOff b c a + S1x16.size a ≤ S128x128.size a) : Prog (TileEff F i) PUnit := do
  have h : chk v := (← Prog.lift (TpuEff.assume (chk v) (dec v))).down
  colMax i acc rows (colOff v 0) (colOff b 0) (hchk v h 0 (by decide)) (hb 0 (by decide))
  colMax i acc rows (colOff v 16) (colOff b 16) (hchk v h 16 (by decide)) (hb 16 (by decide))
  colMax i acc rows (colOff v 32) (colOff b 32) (hchk v h 32 (by decide)) (hb 32 (by decide))
  colMax i acc rows (colOff v 48) (colOff b 48) (hchk v h 48 (by decide)) (hb 48 (by decide))
  colMax i acc rows (colOff v 64) (colOff b 64) (hchk v h 64 (by decide)) (hb 64 (by decide))
  colMax i acc rows (colOff v 80) (colOff b 80) (hchk v h 80 (by decide)) (hb 80 (by decide))
  colMax i acc rows (colOff v 96) (colOff b 96) (hchk v h 96 (by decide)) (hb 96 (by decide))
  colMax i acc rows (colOff v 112) (colOff b 112) (hchk v h 112 (by decide)) (hb 112 (by decide))

theorem slices_lane (j : ℕ) (hj : j < 16) : S16.Slices ![j] S1 :=
  ⟨rfl, fun a => match a with | 0 => (show j + 1 ≤ 16 by omega)⟩

/-- The row number of lane `j` of sixteen. -/
abbrev laneWord (d : Vec F S16 .i32) (j : ℕ) (hj : j < 16) : BitVec 32 := extractAt ![0] (extractStridedSlice S1 ![j] d (slices_lane j hj)) inpos_S1_p0

theorem batchIn (t j : ℕ) (ht : t < 8) (hj : j < 16) : BatchIn t j := by
  have e : (rowWord t j).toNat = t * 16 + j := by
    simp only [rowWord, Scalar.addi, Scalar.muli, Scf.iv, IntOp.addi, IntOp.muli, BitVec.toNat_add, BitVec.toNat_mul, BitVec.toNat_ofNat]
    omega
  intro c hc a
  match a with
  | 0 => show (rowWord t j).toNat + 1 ≤ 128; omega
  | 1 => show c + 16 ≤ 128; omega

/-- One trip over a batch: sixteen row numbers, sixteen lanes. -/
def trip (i : grid0.Coords) (dst : Memref sig .scVector .vmem S16384 .i32) (acc : AccRef) (rows : RowsRef) (chk : BitVec 32 → Prop) (dec : ∀ v, Decidable (chk v))
    (hchk : RowIn chk) (od : Fin 1 → ℕ) (hod : ∀ a, od a + S16.size a ≤ S16384.size a) (t : Fin 8) : Prog (TileEff F i) (BitVec 32) := do
  let d : Vec F S16 .i32 ← Prog.lift (.load dst (Rect.unit (s := S16384) od S16.size hod).toLoadRect (View.loadsAt_vmem h_S16))
  lane i acc rows chk dec hchk (laneWord d 0 (by decide)) (rowWord t 0) (batchIn t 0 t.isLt (by decide))
  lane i acc rows chk dec hchk (laneWord d 1 (by decide)) (rowWord t 1) (batchIn t 1 t.isLt (by decide))
  lane i acc rows chk dec hchk (laneWord d 2 (by decide)) (rowWord t 2) (batchIn t 2 t.isLt (by decide))
  lane i acc rows chk dec hchk (laneWord d 3 (by decide)) (rowWord t 3) (batchIn t 3 t.isLt (by decide))
  lane i acc rows chk dec hchk (laneWord d 4 (by decide)) (rowWord t 4) (batchIn t 4 t.isLt (by decide))
  lane i acc rows chk dec hchk (laneWord d 5 (by decide)) (rowWord t 5) (batchIn t 5 t.isLt (by decide))
  lane i acc rows chk dec hchk (laneWord d 6 (by decide)) (rowWord t 6) (batchIn t 6 t.isLt (by decide))
  lane i acc rows chk dec hchk (laneWord d 7 (by decide)) (rowWord t 7) (batchIn t 7 t.isLt (by decide))
  lane i acc rows chk dec hchk (laneWord d 8 (by decide)) (rowWord t 8) (batchIn t 8 t.isLt (by decide))
  lane i acc rows chk dec hchk (laneWord d 9 (by decide)) (rowWord t 9) (batchIn t 9 t.isLt (by decide))
  lane i acc rows chk dec hchk (laneWord d 10 (by decide)) (rowWord t 10) (batchIn t 10 t.isLt (by decide))
  lane i acc rows chk dec hchk (laneWord d 11 (by decide)) (rowWord t 11) (batchIn t 11 t.isLt (by decide))
  lane i acc rows chk dec hchk (laneWord d 12 (by decide)) (rowWord t 12) (batchIn t 12 t.isLt (by decide))
  lane i acc rows chk dec hchk (laneWord d 13 (by decide)) (rowWord t 13) (batchIn t 13 t.isLt (by decide))
  lane i acc rows chk dec hchk (laneWord d 14 (by decide)) (rowWord t 14) (batchIn t 14 t.isLt (by decide))
  lane i acc rows chk dec hchk (laneWord d 15 (by decide)) (rowWord t 15) (batchIn t 15 t.isLt (by decide))
  pure 0#32

theorem rowIn_chk4 (v19 : BitVec 32) (k : Fin (k0_t6_loop v19).trips) (h4 : k0_cond4 v19 k = 1#1) : RowIn (k0_chk4 v19 k) := by
  intro v h c hc a
  have h0 := h.1 h4 0
  match a with
  | 0 => exact h0
  | 1 => exact hc

theorem rowIn_chk20 (v19 : BitVec 32) (k : Fin (k0_t6_loop v19).trips) (h6 : k0_cond6 v19 k = 1#1) : RowIn (k0_chk20 v19 k) := by
  intro v h c hc a
  have h0 := h.1 h6 0
  match a with
  | 0 => exact h0
  | 1 => exact hc

theorem trips7 : k0_t7_loop.trips = 8 := by decide
theorem trips8 : k0_t8_loop.trips = 8 := by decide

set_option maxRecDepth 65536 in
set_option maxHeartbeats 4000000 in
theorem t7_body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (v19 : BitVec 32) (hw3 : k0_chk3 v19) (k : Fin (k0_t6_loop v19).trips) (h4 : k0_cond4 v19 k = 1#1) (v97 : BitVec 32) (t : Fin k0_t7_loop.trips) (x : BitVec 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 v19 hw3 k h4 v97 t x
      = trip i arg14 arg15 arg16 (k0_chk4 v19 k) (k0_chk4.dec v19 k) (rowIn_chk4 v19 k h4) (k0_off17 v19 k t) (k0_off17_inb v19 hw3 k t h4) (Fin.cast trips7 t) := rfl

set_option maxRecDepth 65536 in
set_option maxHeartbeats 4000000 in
theorem t8_body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (v19 : BitVec 32) (hw3 : k0_chk3 v19) (k : Fin (k0_t6_loop v19).trips) (h6 : k0_cond6 v19 k = 1#1) (v97 : BitVec 32) (t : Fin k0_t8_loop.trips) (x : BitVec 32) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 v19 hw3 k h6 v97 t x
      = trip i arg14 arg15 arg17 (k0_chk20 v19 k) (k0_chk20.dec v19 k) (rowIn_chk20 v19 k h6) (k0_off275 v19 k t) (k0_off275_inb v19 hw3 k t h6) (Fin.cast trips8 t) := rfl

end Cert.Proof.Scan

end
-- ==== Proof.Chunk.lean ====
/-
  The scan of the edges, as a structured program: one vector of sixteen edges, and one half of a trip of the chunk loop (a
  chunk awaited, scanned and the chunk after next asked for). The printed trip is two halves, by definitional unfolding.
-/
module

public import proofs.«01_k».proof.Proof.Lane

@[expose] public section

noncomputable section

namespace Cert.Proof.Scan

open Cert.KernelIdeal Cert.KernelIdeal.Gen
open Idealize.ShloMosaic Idealize.SL Idealize.SL.Sem

variable {F : FTy → Type} [FloatOps F]

abbrev ChunkRef : Type := Memref sig .scVector .vmem S3200 .i32
abbrev ListRef : Type := Memref sig .scVector .vmem S16384 .i32
abbrev EdgeRef : Type := Memref sig .scVector .hbm S320000 .i32

/-- One vector of sixteen edges: their positions from the running count, and the owned ones written there. -/
def vecStep (i : grid0.Coords) (cs cd : ChunkRef) (sl dl : ListRef) (off : Fin 1 → ℕ) (hoff : ∀ a, off a + S16.size a ≤ S3200.size a)
    (cnt : BitVec 32) : Prog (TileEff F i) (BitVec 32) := do
  let d : Vec F S16 .i32 ← Prog.lift (.load cd (Rect.unit (s := S3200) off S16.size hoff).toLoadRect (View.loadsAt_vmem h_S16))
  let s : Vec F S16 .i32 ← Prog.lift (.load cs (Rect.unit (s := S3200) off S16.size hoff).toLoadRect (View.loadsAt_vmem h_S16))
  have hw : k0_chk1 (k0_pay627 i cnt d) := (← Prog.lift (TpuEff.assume (k0_chk1 (k0_pay627 i cnt d)) (k0_chk1.dec (k0_pay627 i cnt d)))).down
  SparseCore.vectorStoreIdx sl ![k0_pay627 i cnt d] s (k0_pay624 i d) false (k0_idx1_inb (k0_pay627 i cnt d) hw) (View.stores_vmem_bits_univ h_S16384 rfl)
  SparseCore.vectorStoreIdx dl ![k0_pay627 i cnt d] (k0_pay628 i d) (k0_pay624 i d) false (k0_idx2_inb (k0_pay627 i cnt d) hw) (View.stores_vmem_bits_univ h_S16384 rfl)
  pure (Scalar.addi cnt (extractAt ![0] (k0_pay629 i d) inpos_S1_p0))

/-- A slice of 3200 edges. -/
abbrev edges (a : EdgeRef) (off : Fin 1 → ℕ) (hoff : ∀ a, off a + S3200.size a ≤ S320000.size a) : Memref sig .scVector .hbm S3200 .i32 :=
  a.slice (Rect.unit (s := S320000) off S3200.size hoff) (fun _ => rfl)

/-- Two copies started on one semaphore: a chunk's sources and its destinations. -/
def startChunk (i : grid0.Coords) {α : Type} (src dst : EdgeRef) (cs cd : ChunkRef) (hcs : cs.IsWhole) (hcd : cd.IsWhole) (sem : DmaSems sig S_) (off : Fin 1 → ℕ)
    (hoff : ∀ a, off a + S3200.size a ≤ S320000.size a) (k : PUnit.{1} → Prog (TileEff F i) α) : Prog (TileEff F i) α := do
  Prog.lift (.enqueueDma (edges src off hoff) (.here cs) (.dma sem.sem) (View.wordExact_bits rfl) hcs.wordExact ⟨Or.inl rfl, trivial⟩)
  Prog.lift (.enqueueDma (edges dst off hoff) (.here cd) (.dma sem.sem) (View.wordExact_bits rfl) hcd.wordExact ⟨Or.inl rfl, trivial⟩)
  k ⟨⟩

/-- Half a trip: both copies awaited, the chunk scanned from the clamped count, the next chunk of these buffers started. -/
def half (i : grid0.Coords) {α : Type} (src dst : EdgeRef) (cs cd : ChunkRef) (hcs : cs.IsWhole) (hcd : cd.IsWhole) (sl dl : ListRef) (sem : DmaSems sig S_)
    (cond : BitVec 1) (off : Fin 1 → ℕ) (hoff : cond = 1#1 → ∀ a, off a + S3200.size a ≤ S320000.size a) (cnt : BitVec 32)
    (k : BitVec 32 → Prog (TileEff F i) α) : Prog (TileEff F i) α := do
  Prog.lift (.waitDma2 sem.sem (edges src ![0] inb_S320000_S3200_0) cs (View.wordExact_bits rfl) hcs.wordExact)
  Prog.lift (.waitDma2 sem.sem (edges dst ![0] inb_S320000_S3200_0) cd (View.wordExact_bits rfl) hcd.wordExact)
  let c : BitVec 32 ← Scf.Loop.for k0_t4_loop k0_t4_ok (Scalar.minsi cnt 13184#32) (fun t => vecStep i cs cd sl dl (k0_off10 t) (k0_off10_inb t))
  if h : cond = 1#1 then startChunk i src dst cs cd hcs hcd sem off (hoff h) (fun _ => pure ⟨⟩) else pure ⟨⟩
  k c

set_option maxRecDepth 65536 in
set_option maxHeartbeats 4000000 in
theorem t3_body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (k : Fin k0_t3_loop.trips) (x : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 k x
      = half i arg3 arg4 arg9 arg10 harg9 harg10 arg13 arg14 arg19 (k0_cond1 k) (k0_off11 k) (k0_off11_inb k) x fun c =>
        half i arg3 arg4 arg11 arg12 harg11 harg12 arg13 arg14 arg20 (k0_cond2 k) (k0_off13 k) (k0_off13_inb k) c fun c' => pure c' := rfl

end Cert.Proof.Scan

end
-- ==== Proof.Base.lean ====
/-
  The program as the launch theorem sees it, the ghost state, the arrays and a tile's buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.LoopRemainder
public import Idealize.ShloMosaic.Lib.VecWindow
public import Idealize.ShloMosaic.Lib.Writes
public import Idealize.ShloMosaic.Lib.Pointwise
public import Idealize.ShloMosaic.Lib.Pipeline.Value
public import proofs.«01_k».proof.Proof.Gen.KernelIdeal
public import proofs.«01_k».proof.Proof.Gen.KernelIdeal.Skeleton

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 2 := sc (F := F)
theorem nSub_zero : (K (F := F)).nSub 0 = 16 := rfl
theorem nCore_zero : (K (F := F)).nCore 0 = 2 := rfl
theorem nSub_one : (K (F := F)).nSub 1 = 16 := rfl
theorem nCore_one : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

/-- The assertions' model. -/
abbrev MM (F : FTy → Type) := MT nD τ sig (HIx 2) (Elt F) ℕ UU ℕ

abbrev EH : Emb UH (MT nD τ sig (HIx 2) (Elt F) ℕ UU ℕ) := embL

/-! ## A tile -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

/-- The thread of the tile at grid coordinates `L` of device `d`. -/
abbrev thr (d : Dev nD) (L : grid0.Coords) : Thread nD τ := V d (cV L) (jV L)

end Cert.Proof.Scan

end
-- ==== Proof.Accum.lean ====
/-
  The accumulation of gathered rows: what a column group, a lane, a trip and a batch leave in the accumulator, as plain
  functions of its contents, and the runs of the structured programs of Lane.lean.
-/
module

public import proofs.«01_k».proof.Proof.Base
public import proofs.«01_k».proof.Proof.Lane

@[expose] public section

noncomputable section

namespace Cert.Proof.Scan

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "accV" => (Memref.whole Cert.KernelIdeal.cc0_scratch6 : Memref Cert.KernelIdeal.sig Kind.scVector Space.vmem Cert.KernelIdeal.S321x128 EltTy.f32)
local notation "dstlV" => (Memref.whole Cert.KernelIdeal.cc0_scratch5 : Memref Cert.KernelIdeal.sig Kind.scVector Space.vmem Cert.KernelIdeal.S16384 EltTy.i32)

/-- The accumulator with row `dd` raised to row `r` of the batch in its first `n` columns. -/
def upTo (f : S321x128.Idx → Elt F .f32) (R : S128x128.Idx → Elt F .f32) (dd : ℕ) (r : Fin 128) (n : ℕ) : S321x128.Idx → Elt F .f32 :=
  fun x => if (x 0).val = dd ∧ (x 1).val < n then FloatOps.maximumf (f x) (R (ix2 r (x 1))) else f x

/-- The accumulator with row `dd` raised to a row. -/
def rowMax (f : S321x128.Idx → Elt F .f32) (row : Fin 128 → Elt F .f32) (dd : ℕ) : S321x128.Idx → Elt F .f32 :=
  fun x => if (x 0).val = dd then FloatOps.maximumf (f x) (row (x 1)) else f x

/-- The accumulator after the first `n` rows of a list: row `p` of the list raises row `dst p` of the accumulator. -/
def accFold (f : S321x128.Idx → Elt F .f32) (row : ℕ → Fin 128 → Elt F .f32) (dst : ℕ → ℕ) : ℕ → S321x128.Idx → Elt F .f32
  | 0 => f
  | n + 1 => rowMax (accFold f row dst n) (row n) (dst n)

theorem upTo_zero (f : S321x128.Idx → Elt F .f32) (R : S128x128.Idx → Elt F .f32) (dd : ℕ) (r : Fin 128) : upTo f R dd r 0 = f := by
  funext x; simp [upTo]

theorem upTo_full (f : S321x128.Idx → Elt F .f32) (R : S128x128.Idx → Elt F .f32) (dd : ℕ) (r : Fin 128) : upTo f R dd r 128 = rowMax f (fun c => R (ix2 r c)) dd := by
  funext x
  have : (x 1).val < 128 := (x 1).isLt
  simp [upTo, rowMax, this]

theorem cast_max (u w : Vec F S1x16 .f32) :
    shapeCast S1x16 (maximumf (shapeCast S16 u shapeCasts_S1x16_S16) (shapeCast S16 w shapeCasts_S1x16_S16)) shapeCasts_S16_S1x16
      = fun y => FloatOps.maximumf (u y) (w y) := by
  funext y
  have hu := congrFun (shapeCast_shapeCast u shapeCasts_S1x16_S16 shapeCasts_S16_S1x16) y
  have hw := congrFun (shapeCast_shapeCast w shapeCasts_S1x16_S16 shapeCasts_S16_S1x16) y
  show FloatOps.maximumf (shapeCast S1x16 (shapeCast S16 u _) _ y) (shapeCast S1x16 (shapeCast S16 w _) _ y) = _
  rw [hu, hw]

/-- The store of one column group carries the raised columns sixteen further. -/
theorem put_upTo (f : S321x128.Idx → Elt F .f32) (R : S128x128.Idx → Elt F .f32) (v b : BitVec 32) (r : Fin 128) (n : ℕ) (hb : b.toNat = r.val)
    (ha : ∀ a, colOff v n a + S1x16.size a ≤ S321x128.size a) (hB : ∀ a, colOff b n a + S1x16.size a ≤ S128x128.size a) :
    VecWindow.put (upTo f R v.toNat r n) (colOff v n) S1x16.size
        (shapeCast S1x16 (maximumf (shapeCast S16 (VecWindow.window (upTo f R v.toNat r n) (colOff v n) S1x16.size ha) shapeCasts_S1x16_S16)
          (shapeCast S16 (VecWindow.window R (colOff b n) S1x16.size hB) shapeCasts_S1x16_S16)) shapeCasts_S16_S1x16)
      = upTo f R v.toNat r (n + 16) := by
  rw [cast_max (F := F)]
  funext x
  have e0 : colOff v n 0 = v.toNat := rfl
  have e1 : colOff v n 1 = n := rfl
  have s0 : S1x16.size 0 = 1 := rfl
  have s1 : S1x16.size 1 = 16 := rfl
  unfold VecWindow.put
  split
  · rename_i h
    have h0 := h 0; have h1 := h 1
    rw [e0, s0] at h0; rw [e1, s1] at h1
    have x0 : (x 0).val = v.toNat := by omega
    have w1 : VecWindow.window (upTo f R v.toNat r n) (colOff v n) S1x16.size ha (Rect.unitLocal (s := S321x128) (off := colOff v n) (size := S1x16.size) x h) = f x := by
      unfold VecWindow.window
      have : (Rect.unit (s := S321x128) (colOff v n) S1x16.size ha).emb (Rect.unitLocal (s := S321x128) (off := colOff v n) (size := S1x16.size) x h) = x := by
        funext a; apply Fin.ext
        show colOff v n a + 1 * ((x a).val - colOff v n a) = (x a).val
        have := (h a).1; omega
      rw [this, upTo, if_neg (by omega)]
    have w2 : VecWindow.window R (colOff b n) S1x16.size hB (Rect.unitLocal (s := S321x128) (off := colOff v n) (size := S1x16.size) x h) = R (ix2 r (x 1)) := by
      unfold VecWindow.window
      congr 1; funext a; apply Fin.ext
      match a with
      | 0 =>
        show b.toNat + 1 * ((x 0).val - v.toNat) = r.val
        omega
      | 1 =>
        show n + 1 * ((x 1).val - n) = (x 1).val
        omega
    show FloatOps.maximumf _ _ = _
    rw [w1, w2, upTo, if_pos ⟨x0, by omega⟩]
  · rename_i h
    unfold upTo
    by_cases hx : (x 0).val = v.toNat ∧ (x 1).val < n
    · rw [if_pos hx, if_pos ⟨hx.1, by omega⟩]
    · rw [if_neg hx, if_neg]
      rintro ⟨h0, h1⟩
      apply h
      intro a
      match a with
      | 0 => show v.toNat ≤ (x 0).val ∧ (x 0).val < v.toNat + 1; omega
      | 1 =>
        show n ≤ (x 1).val ∧ (x 1).val < n + 16
        exact ⟨by by_contra hn; exact hx ⟨h0, by omega⟩, h1⟩

theorem writes_acc (f : S321x128.Idx → Elt F .f32) (off : Fin 2 → ℕ) (inb : ∀ a, off a + S1x16.size a ≤ S321x128.size a) (w : Vec F S1x16 .f32) :
    (accV).view.writes (Elt F) f [⟨Rect.unit (s := S321x128) off S1x16.size inb, w⟩] = VecWindow.put f off S1x16.size w :=
  View.read_writes_cons_put (accV).view f inb w [] rfl

theorem readAt_acc (f : S321x128.Idx → Elt F .f32) (off : Fin 2 → ℕ) (inb : ∀ a, off a + S1x16.size a ≤ S321x128.size a) :
    (accV).view.readAt (Elt F) (Rect.unit (s := S321x128) off S1x16.size inb).toLoadRect f = VecWindow.window f off S1x16.size inb :=
  View.readAt_unit (accV).view f inb rfl inb

/-- The same of the views' own reads and writes. -/
theorem store_upTo {κ : Kind} (w : View sig κ .vmem S128x128 .f32) (f : S321x128.Idx → Elt F .f32) (g : w.ty.Contents (Elt F)) (v b : BitVec 32) (r : Fin 128) (n : ℕ) (hb : b.toNat = r.val)
    (ha : ∀ a, colOff v n a + S1x16.size a ≤ S321x128.size a) (hB : ∀ a, colOff b n a + S1x16.size a ≤ S128x128.size a) :
    (accV).view.writes (Elt F) (upTo f (w.read (Elt F) g) v.toNat r n) [⟨Rect.unit (s := S321x128) (colOff v n) S1x16.size ha,
        shapeCast S1x16 (maximumf (shapeCast S16 ((accV).view.readAt (Elt F) (Rect.unit (s := S321x128) (colOff v n) S1x16.size ha).toLoadRect (upTo f (w.read (Elt F) g) v.toNat r n)) shapeCasts_S1x16_S16)
          (shapeCast S16 (w.readAt (Elt F) (Rect.unit (s := S128x128) (colOff b n) S1x16.size hB).toLoadRect g) shapeCasts_S1x16_S16)) shapeCasts_S16_S1x16⟩]
      = upTo f (w.read (Elt F) g) v.toNat r (n + 16) := by
  rw [writes_acc, readAt_acc, View.readAt_unit w g hB rfl hB]
  exact put_upTo f _ v b r n hb ha hB

section Run

variable (d : Dev nD) (L : grid0.Coords)

local notation "𝕄" => MM F

abbrev accPts (f : S321x128.Idx → Elt F .f32) : sProp (MM F) := (accV).view.loc (thr d L) ↦{fullShare} f

/-- One column group's run. -/
theorem wp_colMax (rows : RowsRef) (q : PosShare TreeShare) (g : Buf (Elt F) (rows.view.loc (thr d L))) (f : S321x128.Idx → Elt F .f32)
    (v b : BitVec 32) (r : Fin 128) (n : ℕ) (hb : b.toNat = r.val)
    (ha : ∀ a, colOff v n a + S1x16.size a ≤ S321x128.size a) (hB : ∀ a, colOff b n a + S1x16.size a ≤ S128x128.size a) (Q : PUnit → sProp 𝕄) :
    iprop(accPts d L (upTo f (rows.view.read (Elt F) g) v.toNat r n) ∗ (rows.view.loc (thr d L) ↦[rows.view.set]{q} g))
      ⊢ iprop((iprop(accPts d L (upTo f (rows.view.read (Elt F) g) v.toNat r (n + 16)) ∗ (rows.view.loc (thr d L) ↦[rows.view.set]{q} g)) -∗ Q ⟨⟩)
        -∗ wp frame (wpE (defs₀ (F := F)) 𝒱₀ (thr d L) none) Set.univ (colMax L accV rows (colOff v n) (colOff b n) ha hB) Q) := by
  unfold colMax
  iintro ⟨Ha, Hr⟩ HQ
  iapply (wp_load 𝒱₀ (thr d L) none Set.univ (m := accV) (S := Finset.univ) (Finset.subset_univ _)) $$ Ha; iintro Ha
  iapply (wp_load 𝒱₀ (thr d L) none Set.univ (m := rows) (S := rows.view.set) (View.setOn_subset_set rows.view _)) $$ Hr; iintro Hr
  iapply (wp_load 𝒱₀ (thr d L) none Set.univ (m := accV) (S := Finset.univ) (Finset.subset_univ _)) $$ Ha; iintro Ha
  iapply (wp_store_writes₀ 𝒱₀ (thr d L) none Set.univ (m := accV) (r := Rect.unit (s := S321x128) (colOff v n) S1x16.size ha) (S := Finset.univ) (Finset.subset_univ _)) $$ Ha; iintro Ha
  sl_step
  iapply HQ
  isplitl [Ha]
  · rw [← store_upTo rows.view f g v b r n hb ha hB]
    iexact Ha
  · iexact Hr

/-- One lane's run. -/
theorem wp_lane (rows : RowsRef) (q : PosShare TreeShare) (g : Buf (Elt F) (rows.view.loc (thr d L))) (f : S321x128.Idx → Elt F .f32)
    (chk : BitVec 32 → Prop) (dec : ∀ v, Decidable (chk v)) (hchk : RowIn chk)
    (v b : BitVec 32) (r : Fin 128) (hv : chk v) (hb : b.toNat = r.val)
    (hB : ∀ c : ℕ, c + 16 ≤ 128 → ∀ a, colOff b c a + S1x16.size a ≤ S128x128.size a) (Q : PUnit → sProp 𝕄) :
    iprop(accPts d L f ∗ (rows.view.loc (thr d L) ↦[rows.view.set]{q} g))
      ⊢ iprop((iprop(accPts d L (rowMax f (fun c => rows.view.read (Elt F) g (ix2 r c)) v.toNat) ∗ (rows.view.loc (thr d L) ↦[rows.view.set]{q} g)) -∗ Q ⟨⟩)
        -∗ wp frame (wpE (defs₀ (F := F)) 𝒱₀ (thr d L) none) Set.univ (lane L accV rows chk dec hchk v b hB) Q) := by
  unfold lane
  iintro ⟨Ha, Hr⟩ HQ
  rw [← upTo_zero f (rows.view.read (Elt F) g) v.toNat r]
  rw [show rowMax (upTo f (rows.view.read (Elt F) g) v.toNat r 0) (fun c => rows.view.read (Elt F) g (ix2 r c)) v.toNat = upTo f (rows.view.read (Elt F) g) v.toNat r 128 by
    rw [upTo_zero, upTo_full]]
  rw [wp_bind]
  unfold Prog.lift
  rw [wp_assume_of 𝒱₀ (thr d L) none Set.univ hv]
  sl_step
  rw [wp_bind]
  iapply (wp_colMax d L rows q g f v b r 0 hb _ _ _) $$ [Ha Hr]
  · isplitl [Ha]
    · iexact Ha
    · iexact Hr
  iintro ⟨Ha, Hr⟩
  rw [wp_bind]
  iapply (wp_colMax d L rows q g f v b r 16 hb _ _ _) $$ [Ha Hr]
  · isplitl [Ha]
    · iexact Ha
    · iexact Hr
  iintro ⟨Ha, Hr⟩
  rw [wp_bind]
  iapply (wp_colMax d L rows q g f v b r 32 hb _ _ _) $$ [Ha Hr]
  · isplitl [Ha]
    · iexact Ha
    · iexact Hr
  iintro ⟨Ha, Hr⟩
  rw [wp_bind]
  iapply (wp_colMax d L rows q g f v b r 48 hb _ _ _) $$ [Ha Hr]
  · isplitl [Ha]
    · iexact Ha
    · iexact Hr
  iintro ⟨Ha, Hr⟩
  rw [wp_bind]
  iapply (wp_colMax d L rows q g f v b r 64 hb _ _ _) $$ [Ha Hr]
  · isplitl [Ha]
    · iexact Ha
    · iexact Hr
  iintro ⟨Ha, Hr⟩
  rw [wp_bind]
  iapply (wp_colMax d L rows q g f v b r 80 hb _ _ _) $$ [Ha Hr]
  · isplitl [Ha]
    · iexact Ha
    · iexact Hr
  iintro ⟨Ha, Hr⟩
  rw [wp_bind]
  iapply (wp_colMax d L rows q g f v b r 96 hb _ _ _) $$ [Ha Hr]
  · isplitl [Ha]
    · iexact Ha
    · iexact Hr
  iintro ⟨Ha, Hr⟩
  iapply (wp_colMax d L rows q g f v b r 112 hb _ _ _) $$ [Ha Hr]
  · isplitl [Ha]
    · iexact Ha
    · iexact Hr
  iexact HQ

theorem rowWord_toNat (t j : ℕ) (ht : t < 8) (hj : j < 16) : (rowWord t j).toNat = 16 * t + j := by
  simp only [rowWord, Scalar.addi, Scalar.muli, Scf.iv, IntOp.addi, IntOp.muli, BitVec.toNat_add, BitVec.toNat_mul, BitVec.toNat_ofNat]
  omega

/-- Entry `n` of a list of words (zero past its end). -/
def wordAt {m : ℕ} (f : (⟨1, ![m]⟩ : Shape).Idx → BitVec 32) (n : ℕ) : BitVec 32 := if h : n < m then f (ix1 ⟨n, h⟩) else 0#32

theorem laneWord_eq (fd : S16384.Idx → BitVec 32) (od : Fin 1 → ℕ) (hod : ∀ a, od a + S16.size a ≤ S16384.size a) (j : ℕ) (hj : j < 16) :
    laneWord (F := F) ((dstlV).view.readAt (Elt F) (Rect.unit (s := S16384) od S16.size hod).toLoadRect fd) j hj = wordAt (m := 16384) fd (od 0 + j) := by
  have h0 : od 0 + 16 ≤ 16384 := hod 0
  unfold wordAt
  rw [dif_pos (by omega)]
  show fd _ = fd _
  congr 1
  funext a
  apply Fin.ext
  match a with
  | 0 =>
    show od 0 + 1 * (j + 0) = od 0 + j
    omega

/-- One trip's run: sixteen more rows of the list. -/
theorem wp_trip (rows : RowsRef) (q q' : PosShare TreeShare) (g : Buf (Elt F) (rows.view.loc (thr d L))) (fd : S16384.Idx → BitVec 32)
    (f : S321x128.Idx → Elt F .f32) (row : ℕ → Fin 128 → Elt F .f32)
    (chk : BitVec 32 → Prop) (dec : ∀ v, Decidable (chk v)) (hchk : RowIn chk) (hc : ∀ n, chk (wordAt (m := 16384) fd n))
    (od : Fin 1 → ℕ) (hod : ∀ a, od a + S16.size a ≤ S16384.size a) (t : Fin 8) (p : ℕ) (hp : od 0 = p)
    (hR : ∀ j (hj : j < 16), (fun c => rows.view.read (Elt F) g (ix2 ⟨16 * t.val + j, by omega⟩ c)) = row (p + j)) (Q : BitVec 32 → sProp 𝕄) :
    iprop(accPts d L (accFold f row (fun n => (wordAt (m := 16384) fd n).toNat) p) ∗ (rows.view.loc (thr d L) ↦[rows.view.set]{q} g) ∗ ((dstlV).view.loc (thr d L) ↦{q'} fd))
      ⊢ iprop((iprop(accPts d L (accFold f row (fun n => (wordAt (m := 16384) fd n).toNat) (p + 16)) ∗ (rows.view.loc (thr d L) ↦[rows.view.set]{q} g) ∗ ((dstlV).view.loc (thr d L) ↦{q'} fd)) -∗ Q 0#32)
        -∗ wp frame (wpE (defs₀ (F := F)) 𝒱₀ (thr d L) none) Set.univ (trip L dstlV accV rows chk dec hchk od hod t) Q) := by
  subst hp
  have eW : ∀ j hj, laneWord (F := F) ((dstlV).view.readAt (Elt F) (Rect.unit (s := S16384) od S16.size hod).toLoadRect fd) j hj = wordAt (m := 16384) fd (od 0 + j) :=
    laneWord_eq fd od hod
  have eR : ∀ j (hj : j < 16) j', j' = j + 1 → rowMax (accFold f row (fun n => (wordAt (m := 16384) fd n).toNat) (od 0 + j))
      (fun c => rows.view.read (Elt F) g (ix2 ⟨16 * t.val + j, by omega⟩ c)) (wordAt (m := 16384) fd (od 0 + j)).toNat
        = accFold f row (fun n => (wordAt (m := 16384) fd n).toNat) (od 0 + j') := fun j hj j' e => by
    rw [hR j hj, e]; rfl
  unfold trip
  rw [show accFold f row (fun n => (wordAt (m := 16384) fd n).toNat) (od 0) = accFold f row (fun n => (wordAt (m := 16384) fd n).toNat) (od 0 + 0) from rfl]
  iintro ⟨Ha, Hr, Hd⟩ HQ
  rw [wp_bind]
  unfold Prog.lift
  iapply (wp_load 𝒱₀ (thr d L) none Set.univ (m := dstlV) (S := Finset.univ) (Finset.subset_univ _)) $$ Hd; iintro Hd
  sl_step
  rw [wp_bind]
  rw [eW 0 (by decide)]
  iapply (wp_lane d L rows q g _ chk dec hchk _ _ ⟨16 * t.val + 0, by omega⟩ (hc _) (rowWord_toNat t.val 0 t.isLt (by decide)) _) $$ [Ha Hr]
  · isplitl [Ha]
    · iexact Ha
    · iexact Hr
  iintro ⟨Ha, Hr⟩
  rw [eR 0 (by decide) 1 rfl]
  rw [wp_bind]
  rw [eW 1 (by decide)]
  iapply (wp_lane d L rows q g _ chk dec hchk _ _ ⟨16 * t.val + 1, by omega⟩ (hc _) (rowWord_toNat t.val 1 t.isLt (by decide)) _) $$ [Ha Hr]
  · isplitl [Ha]
    · iexact Ha
    · iexact Hr
  iintro ⟨Ha, Hr⟩
  rw [eR 1 (by decide) 2 rfl]
  rw [wp_bind]
  rw [eW 2 (by decide)]
  iapply (wp_lane d L rows q g _ chk dec hchk _ _ ⟨16 * t.val + 2, by omega⟩ (hc _) (rowWord_toNat t.val 2 t.isLt (by decide)) _) $$ [Ha Hr]
  · isplitl [Ha]
    · iexact Ha
    · iexact Hr
  iintro ⟨Ha, Hr⟩
  rw [eR 2 (by decide) 3 rfl]
  rw [wp_bind]
  rw [eW 3 (by decide)]
  iapply (wp_lane d L rows q g _ chk dec hchk _ _ ⟨16 * t.val + 3, by omega⟩ (hc _) (rowWord_toNat t.val 3 t.isLt (by decide)) _) $$ [Ha Hr]
  · isplitl [Ha]
    · iexact Ha
    · iexact Hr
  iintro ⟨Ha, Hr⟩
  rw [eR 3 (by decide) 4 rfl]
  rw [wp_bind]
  rw [eW 4 (by decide)]
  iapply (wp_lane d L rows q g _ chk dec hchk _ _ ⟨16 * t.val + 4, by omega⟩ (hc _) (rowWord_toNat t.val 4 t.isLt (by decide)) _) $$ [Ha Hr]
  · isplitl [Ha]
    · iexact Ha
    · iexact Hr
  iintro ⟨Ha, Hr⟩
  rw [eR 4 (by decide) 5 rfl]
  rw [wp_bind]
  rw [eW 5 (by decide)]
  iapply (wp_lane d L rows q g _ chk dec hchk _ _ ⟨16 * t.val + 5, by omega⟩ (hc _) (rowWord_toNat t.val 5 t.isLt (by decide)) _) $$ [Ha Hr]
  · isplitl [Ha]
    · iexact Ha
    · iexact Hr
  iintro ⟨Ha, Hr⟩
  rw [eR 5 (by decide) 6 rfl]
  rw [wp_bind]
  rw [eW 6 (by decide)]
  iapply (wp_lane d L rows q g _ chk dec hchk _ _ ⟨16 * t.val + 6, by omega⟩ (hc _) (rowWord_toNat t.val 6 t.isLt (by decide)) _) $$ [Ha Hr]
  · isplitl [Ha]
    · iexact Ha
    · iexact Hr
  iintro ⟨Ha, Hr⟩
  rw [eR 6 (by decide) 7 rfl]
  rw [wp_bind]
  rw [eW 7 (by decide)]
  iapply (wp_lane d L rows q g _ chk dec hchk _ _ ⟨16 * t.val + 7, by omega⟩ (hc _) (rowWord_toNat t.val 7 t.isLt (by decide)) _) $$ [Ha Hr]
  · isplitl [Ha]
    · iexact Ha
    · iexact Hr
  iintro ⟨Ha, Hr⟩
  rw [eR 7 (by decide) 8 rfl]
  rw [wp_bind]
  rw [eW 8 (by decide)]
  iapply (wp_lane d L rows q g _ chk dec hchk _ _ ⟨16 * t.val + 8, by omega⟩ (hc _) (rowWord_toNat t.val 8 t.isLt (by decide)) _) $$ [Ha Hr]
  · isplitl [Ha]
    · iexact Ha
    · iexact Hr
  iintro ⟨Ha, Hr⟩
  rw [eR 8 (by decide) 9 rfl]
  rw [wp_bind]
  rw [eW 9 (by decide)]
  iapply (wp_lane d L rows q g _ chk dec hchk _ _ ⟨16 * t.val + 9, by omega⟩ (hc _) (rowWord_toNat t.val 9 t.isLt (by decide)) _) $$ [Ha Hr]
  · isplitl [Ha]
    · iexact Ha
    · iexact Hr
  iintro ⟨Ha, Hr⟩
  rw [eR 9 (by decide) 10 rfl]
  rw [wp_bind]
  rw [eW 10 (by decide)]
  iapply (wp_lane d L rows q g _ chk dec hchk _ _ ⟨16 * t.val + 10, by omega⟩ (hc _) (rowWord_toNat t.val 10 t.isLt (by decide)) _) $$ [Ha Hr]
  · isplitl [Ha]
    · iexact Ha
    · iexact Hr
  iintro ⟨Ha, Hr⟩
  rw [eR 10 (by decide) 11 rfl]
  rw [wp_bind]
  rw [eW 11 (by decide)]
  iapply (wp_lane d L rows q g _ chk dec hchk _ _ ⟨16 * t.val + 11, by omega⟩ (hc _) (rowWord_toNat t.val 11 t.isLt (by decide)) _) $$ [Ha Hr]
  · isplitl [Ha]
    · iexact Ha
    · iexact Hr
  iintro ⟨Ha, Hr⟩
  rw [eR 11 (by decide) 12 rfl]
  rw [wp_bind]
  rw [eW 12 (by decide)]
  iapply (wp_lane d L rows q g _ chk dec hchk _ _ ⟨16 * t.val + 12, by omega⟩ (hc _) (rowWord_toNat t.val 12 t.isLt (by decide)) _) $$ [Ha Hr]
  · isplitl [Ha]
    · iexact Ha
    · iexact Hr
  iintro ⟨Ha, Hr⟩
  rw [eR 12 (by decide) 13 rfl]
  rw [wp_bind]
  rw [eW 13 (by decide)]
  iapply (wp_lane d L rows q g _ chk dec hchk _ _ ⟨16 * t.val + 13, by omega⟩ (hc _) (rowWord_toNat t.val 13 t.isLt (by decide)) _) $$ [Ha Hr]
  · isplitl [Ha]
    · iexact Ha
    · iexact Hr
  iintro ⟨Ha, Hr⟩
  rw [eR 13 (by decide) 14 rfl]
  rw [wp_bind]
  rw [eW 14 (by decide)]
  iapply (wp_lane d L rows q g _ chk dec hchk _ _ ⟨16 * t.val + 14, by omega⟩ (hc _) (rowWord_toNat t.val 14 t.isLt (by decide)) _) $$ [Ha Hr]
  · isplitl [Ha]
    · iexact Ha
    · iexact Hr
  iintro ⟨Ha, Hr⟩
  rw [eR 14 (by decide) 15 rfl]
  rw [wp_bind]
  rw [eW 15 (by decide)]
  iapply (wp_lane d L rows q g _ chk dec hchk _ _ ⟨16 * t.val + 15, by omega⟩ (hc _) (rowWord_toNat t.val 15 t.isLt (by decide)) _) $$ [Ha Hr]
  · isplitl [Ha]
    · iexact Ha
    · iexact Hr
  iintro ⟨Ha, Hr⟩
  rw [eR 15 (by decide) 16 rfl]
  sl_step
  iapply HQ
  isplitl [Ha]
  · iexact Ha
  isplitl [Hr]
  · iexact Hr
  · iexact Hd

end Run

end Cert.Proof.Scan

end
-- ==== Proof.ScanMath.lean ====
/-
  The compaction's arithmetic: the edges of one tile counted, the sixteen lanes' prefix sums, and what a masked scatter of
  sixteen words leaves of a list.
-/
module

public import proofs.«01_k».proof.Proof.Accum

@[expose] public section

noncomputable section

namespace Cert.Proof.Scan

open Cert.KernelIdeal Cert.KernelIdeal.Gen
open Idealize.ShloMosaic
open Idealize.ShloMosaic.Pointwise

/-- The tile's number among the thirty-two, and the first node it owns. -/
def tileNo (L : grid0.Coords) : ℕ := (L 1).val * 2 + (L 0).val
def loNat (L : grid0.Coords) : ℕ := tileNo L * 320
theorem tileNo_lt (L : grid0.Coords) : tileNo L < 32 := by
  have h0 : (L 0).val < 2 := (L 0).isLt
  have h1 : (L 1).val < 16 := (L 1).isLt
  unfold tileNo; omega

/-- A destination the tile owns. -/
def hit (lo : ℕ) (d : BitVec 32) : Prop := lo ≤ d.toNat ∧ d.toNat < lo + 320

instance (lo : ℕ) (d : BitVec 32) : Decidable (hit lo d) := by unfold hit; infer_instance

/-- How many of the first `n` edges the tile owns. -/
def cntTo (lo : ℕ) (dst : ℕ → BitVec 32) : ℕ → ℕ
  | 0 => 0
  | n + 1 => cntTo lo dst n + if hit lo (dst n) then 1 else 0

theorem cntTo_mono (lo : ℕ) (dst : ℕ → BitVec 32) {m n : ℕ} (h : m ≤ n) : cntTo lo dst m ≤ cntTo lo dst n := by
  induction n, h using Nat.le_induction with
  | base => exact le_rfl
  | succ n _ ih => exact ih.trans (show cntTo lo dst n ≤ cntTo lo dst n + _ by omega)

theorem cntTo_add_le (lo : ℕ) (dst : ℕ → BitVec 32) (n j : ℕ) : cntTo lo dst (n + j) ≤ cntTo lo dst n + j := by
  induction j with
  | zero => exact le_rfl
  | succ j ih => show cntTo lo dst (n + j) + _ ≤ _; split <;> omega

/-! ## Sixteen lanes -/

/-- Lane `j` of a vector of sixteen. -/
abbrev ln (j : ℕ) (h : j < 16) : S16.Idx := ix1 ⟨j, h⟩

theorem ofLane_eq (k : Fin 16) : (Shape.ofLane (d := ![16]) k) = ln k.val k.isLt := by
  funext a
  match a with
  | 0 => rfl

theorem scan_filter : ∀ j : Fin 15, ((List.finRange 16).filter fun k => decide (0 < k.val ∧ k.val ≤ j.val + 1))
    = ((List.finRange 16).filter fun k => decide (0 < k.val ∧ k.val ≤ j.val)) ++ [⟨j.val + 1, by omega⟩] := by decide

theorem scan_eq (v : IVec S16 32) (j : ℕ) (h : j < 16) : scan .sum v (ln j h)
    = List.foldl (fun (r : BitVec 32) (k : Fin 16) => r + v (ln k.val k.isLt)) (v (ln 0 (by decide))) ((List.finRange 16).filter fun k => decide (0 < k.val ∧ k.val ≤ j)) := by
  have e : (fun (r : BitVec 32) (k : Fin 16) => ScanKind.step .sum r (v (Shape.ofLane (d := ![16]) k))) = fun r k => r + v (ln k.val k.isLt) := by
    funext r k
    rw [ofLane_eq]; rfl
  show List.foldl (fun (r : BitVec 32) (k : Fin 16) => ScanKind.step .sum r (v (Shape.ofLane (d := ![16]) k))) (v (Shape.ofLane (d := ![16]) (0 : Fin 16)))
    ((List.finRange 16).filter fun k => decide (0 < k.val ∧ k.val ≤ j)) = _
  rw [e, ofLane_eq]; rfl

theorem scan_zero (v : IVec S16 32) : scan .sum v (ln 0 (by decide)) = v (ln 0 (by decide)) := by
  have : ((List.finRange 16).filter fun k => decide (0 < k.val ∧ k.val ≤ 0)) = [] := by decide
  rw [scan_eq, this]; rfl

theorem scan_succ (v : IVec S16 32) (j : ℕ) (h : j + 1 < 16) :
    scan .sum v (ln (j + 1) h) = scan .sum v (ln j (by omega)) + v (ln (j + 1) h) := by
  have e := scan_filter ⟨j, by omega⟩
  rw [scan_eq, scan_eq]
  rw [show ((List.finRange 16).filter fun k => decide (0 < k.val ∧ k.val ≤ j + 1)) = _ from e, List.foldl_append]
  rfl

/-- The prefix sums of sixteen words of 0 or 1 are counts. -/
theorem scan_toNat (lo : ℕ) (dst : ℕ → BitVec 32) (n : ℕ) (v : IVec S16 32)
    (hv : ∀ j (h : j < 16), v (ln j h) = if hit lo (dst (n + j)) then 1#32 else 0#32) (j : ℕ) (h : j < 16) :
    (scan .sum v (ln j h)).toNat = cntTo lo dst (n + j + 1) - cntTo lo dst n := by
  induction j with
  | zero =>
    rw [scan_zero, hv]
    show _ = cntTo lo dst n + (if hit lo (dst n) then 1 else 0) - _
    rw [Nat.add_zero]
    split <;> simp
  | succ j ih =>
    rw [scan_succ, BitVec.toNat_add, ih (by omega), hv]
    have h1 := cntTo_add_le lo dst n (j + 1)
    have h2 : cntTo lo dst n ≤ cntTo lo dst (n + j + 1) := cntTo_mono lo dst (by omega)
    have h3 : cntTo lo dst (n + (j + 1) + 1) = cntTo lo dst (n + j + 1) + if hit lo (dst (n + (j + 1))) then 1 else 0 := rfl
    rw [h3]
    have h1' : cntTo lo dst (n + j + 1) ≤ cntTo lo dst n + (j + 1) := h1
    split
    · simp only [BitVec.toNat_ofNat]; omega
    · simp only [BitVec.toNat_ofNat]; omega

theorem lo_word (L : grid0.Coords) : (Scalar.muli (Scalar.addi (Scalar.muli (BitVec.ofNat 32 (L 1).val) 2#32) (BitVec.ofNat 32 (L 0).val)) 320#32).toNat = loNat L := by
  have h0 : (L 0).val < 2 := (L 0).isLt
  have h1 : (L 1).val < 16 := (L 1).isLt
  simp only [loNat, tileNo, Scalar.addi, Scalar.muli, IntOp.addi, IntOp.muli, BitVec.toNat_add, BitVec.toNat_mul, BitVec.toNat_ofNat]
  omega

theorem sge_small (a b : BitVec 32) (ha : a.toNat < 2 ^ 31) (hb : b.toNat < 2 ^ 31) : IntOp.cmpi .sge a b = if b.toNat ≤ a.toNat then 1#1 else 0#1 := by
  have e1 : a.toInt = a.toNat := BitVec.toInt_eq_toNat_of_lt (by omega)
  have e2 : b.toInt = b.toNat := BitVec.toInt_eq_toNat_of_lt (by omega)
  show BitVec.ofBool (b.sle a) = _
  rw [BitVec.sle_eq_decide, e1, e2]
  by_cases h : b.toNat ≤ a.toNat
  · simp [h]
  · simp [h]

theorem slt_small (a b : BitVec 32) (ha : a.toNat < 2 ^ 31) (hb : b.toNat < 2 ^ 31) : IntOp.cmpi .slt a b = if a.toNat < b.toNat then 1#1 else 0#1 := by
  have e1 : a.toInt = a.toNat := BitVec.toInt_eq_toNat_of_lt (by omega)
  have e2 : b.toInt = b.toNat := BitVec.toInt_eq_toNat_of_lt (by omega)
  show BitVec.ofBool (a.slt b) = _
  rw [BitVec.slt_eq_decide, e1, e2]
  by_cases h : a.toNat < b.toNat
  · simp [h]
  · simp [h]

variable {F : FTy → Type}

/-- The mask marks the destinations the tile owns. -/
theorem mask_eq (L : grid0.Coords) (v : Vec F S16 .i32) (x : S16.Idx) (hx : (v x).toNat < 10000) :
    k0_pay624 (F := F) L v x = if hit (loNat L) (v x) then 1#1 else 0#1 := by
  have hlo : loNat L ≤ 9920 := by have := tileNo_lt L; unfold loNat; omega
  have hl := lo_word L
  show IntOp.andi (IntOp.cmpi .sge (v x) (Scalar.muli (Scalar.addi (Scalar.muli (BitVec.ofNat 32 (L 1).val) 2#32) (BitVec.ofNat 32 (L 0).val)) 320#32))
    (IntOp.cmpi .slt (v x) (Scalar.addi (Scalar.muli (Scalar.addi (Scalar.muli (BitVec.ofNat 32 (L 1).val) 2#32) (BitVec.ofNat 32 (L 0).val)) 320#32) 320#32)) = _
  rw [sge_small _ _ (by omega) (by rw [hl]; omega), slt_small _ _ (by omega) (by
    simp only [Scalar.addi, IntOp.addi, BitVec.toNat_add]
    simp only [Scalar.addi, IntOp.addi] at hl
    rw [hl]; simp only [BitVec.toNat_ofNat]; omega)]
  rw [hl]
  have hl2 : (Scalar.addi (Scalar.muli (Scalar.addi (Scalar.muli (BitVec.ofNat 32 (L 1).val) 2#32) (BitVec.ofNat 32 (L 0).val)) 320#32) 320#32).toNat = loNat L + 320 := by
    show (_ + _ : BitVec 32).toNat = _
    rw [BitVec.toNat_add, hl]; simp only [BitVec.toNat_ofNat]; omega
  rw [hl2]
  unfold hit
  by_cases h1 : loNat L ≤ (v x).toNat <;> by_cases h2 : (v x).toNat < loNat L + 320 <;> simp [h1, h2, IntOp.andi]

section Lanes

variable (L : grid0.Coords) (dst : ℕ → BitVec 32) (n : ℕ) (v : Vec F S16 .i32)
  (hv : ∀ j (h : j < 16), v (ln j h) = dst (n + j)) (hd : ∀ e, (dst e).toNat < 10000)
include hv hd

theorem mask_lane (j : ℕ) (h : j < 16) : k0_pay624 (F := F) L v (ln j h) = if hit (loNat L) (dst (n + j)) then 1#1 else 0#1 := by
  rw [mask_eq L v _ (by rw [hv]; exact hd _), hv]

theorem sel_lane (j : ℕ) (h : j < 16) : k0_pay625 (F := F) L v (ln j h) = if hit (loNat L) (dst (n + j)) then 1#32 else 0#32 := by
  have := mask_lane L dst n v hv hd j h
  show (if k0_pay624 (F := F) L v (ln j h) = 1 then (1#32 : BitVec 32) else 0#32) = _
  rw [this]
  by_cases hh : hit (loNat L) (dst (n + j)) <;> simp [hh]

/-- Lane `j` writes at the count so far plus the owned lanes before it. -/
theorem pos_lane (cnt : BitVec 32) (hc : cnt.toNat ≤ 16384) (j : ℕ) (h : j < 16) :
    (k0_pay627 (F := F) L cnt v (ln j h)).toNat = cnt.toNat + (cntTo (loNat L) dst (n + j) - cntTo (loNat L) dst n) := by
  show (cnt + scan .sum (k0_pay625 (F := F) L v) (ln j h) - k0_pay625 (F := F) L v (ln j h)).toNat = _
  have hs := scan_toNat (loNat L) dst n (k0_pay625 (F := F) L v) (sel_lane L dst n v hv hd) j h
  have hl := sel_lane L dst n v hv hd j h
  have h1 := cntTo_add_le (loNat L) dst n j
  have h2 : cntTo (loNat L) dst n ≤ cntTo (loNat L) dst (n + j) := cntTo_mono _ dst (by omega)
  have h3 : cntTo (loNat L) dst (n + j + 1) = cntTo (loNat L) dst (n + j) + if hit (loNat L) (dst (n + j)) then 1 else 0 := rfl
  rw [BitVec.toNat_sub, BitVec.toNat_add, hs, hl, h3]
  split
  · simp only [BitVec.toNat_ofNat]; omega
  · simp only [BitVec.toNat_ofNat]; omega

/-- The count after the vector. -/
theorem count_step (cnt : BitVec 32) (hc : cnt.toNat ≤ 16384) :
    (Scalar.addi cnt (extractAt ![0] (k0_pay629 (F := F) L v) inpos_S1_p0)).toNat = cnt.toNat + (cntTo (loNat L) dst (n + 16) - cntTo (loNat L) dst n) := by
  have hs := scan_toNat (loNat L) dst n (k0_pay625 (F := F) L v) (sel_lane L dst n v hv hd) 15 (by decide)
  have h1 := cntTo_add_le (loNat L) dst n 16
  have e : extractAt ![0] (k0_pay629 (F := F) L v) inpos_S1_p0 = scan .sum (k0_pay625 (F := F) L v) (ln 15 (by decide)) := by
    unfold extractAt k0_pay629 k0_pay626 extractStridedSlice
    congr 1
    funext a
    match a with
    | 0 => rfl
  rw [e]
  show (cnt + _ : BitVec 32).toNat = _
  rw [BitVec.toNat_add, hs]
  show (cnt.toNat + (cntTo (loNat L) dst (n + 16) - cntTo (loNat L) dst n)) % 2 ^ 32 = _
  omega

end Lanes

/-! ## A list -/

/-- A fold over the sixteen lanes, by an invariant. -/
theorem foldl_finRange_ind {β : Type} (m : ℕ) (g : β → Fin m → β) (b : β) (P : ℕ → β → Prop) (h0 : P 0 b)
    (hs : ∀ (k : Fin m) s, P k.val s → P (k.val + 1) (g s k)) : P m ((List.finRange m).foldl g b) := by
  induction m with
  | zero => exact h0
  | succ m ih =>
    rw [List.finRange_succ_last, List.foldl_append, List.foldl_cons, List.foldl_nil, List.foldl_map]
    exact hs (Fin.last m) _ (ih (fun s k => g s k.castSucc) (fun k s h => hs k.castSucc s h))

/-- What a list of the tile's edges satisfies after `n` edges: every entry is acceptable; and, should the list not have
    overflowed, the owned edges stand in it at their ranks and the rest of it is still at its first value. -/
structure LInv (lo : ℕ) (dst : ℕ → BitVec 32) (ok : BitVec 32 → Prop) (val : ℕ → BitVec 32) (dflt : BitVec 32) (fits : Prop) (n cnt : ℕ)
    (l : S16384.Idx → BitVec 32) : Prop where
  okAll : ∀ p, p < 16384 → ok (wordAt (m := 16384) l p)
  entry : fits → ∀ e, e < n → hit lo (dst e) → wordAt (m := 16384) l (cntTo lo dst e) = val e
  rest : fits → ∀ p, cnt ≤ p → p < 16384 → wordAt (m := 16384) l p = dflt

theorem LInv.init (lo : ℕ) (dst : ℕ → BitVec 32) (ok : BitVec 32 → Prop) (val : ℕ → BitVec 32) (dflt : BitVec 32) (fits : Prop) (hok : ok dflt) :
    LInv lo dst ok val dflt fits 0 0 (fun _ => dflt) where
  okAll p hp := by unfold wordAt; rw [dif_pos hp]; exact hok
  entry _ e he := by omega
  rest _ p _ hp := by unfold wordAt; rw [dif_pos hp]

/-- One word written at position `i`. -/
theorem wordAt_write (l : S16384.Idx → BitVec 32) (i : S16384.Idx) (y : BitVec 32) (p : ℕ) (hp : p < 16384) [∀ j : S16384.Idx, Decidable (∀ a, (j a).val = (i a).val)] :
    wordAt (m := 16384) (fun j => if (∀ a, (j a).val = (i a).val) then y else l j) p = if p = (i 0).val then y else wordAt (m := 16384) l p := by
  unfold wordAt
  rw [dif_pos hp, dif_pos hp]
  show (if (∀ a, ((ix1 ⟨p, hp⟩ : S16384.Idx) a).val = (i a).val) then y else l (ix1 ⟨p, hp⟩)) = _
  by_cases h : p = (i 0).val
  · rw [if_pos h, if_pos]
    intro a
    match a with
    | 0 => exact h
  · rw [if_neg h, if_neg]
    intro hall
    exact h (hall 0)

/-- A masked scatter of sixteen words carries the list sixteen edges further. -/
theorem LInv.step [FloatOps F] (L : grid0.Coords) (dst : ℕ → BitVec 32) (ok : BitVec 32 → Prop) (val : ℕ → BitVec 32) (dflt : BitVec 32) (fits : Prop) (n : ℕ)
    (v : Vec F S16 .i32) (hv : ∀ j (h : j < 16), v (ln j h) = dst (n + j)) (hd : ∀ e, (dst e).toNat < 10000)
    (cnt : BitVec 32) (hc : cnt.toNat ≤ 16384) (hcnt : fits → cnt.toNat = cntTo (loNat L) dst n) (l : S16384.Idx → BitVec 32)
    (w : Vec F S16 .i32) (hw : ∀ j (h : j < 16), hit (loNat L) (dst (n + j)) → w (ln j h) = val (n + j))
    (hok : ∀ e, hit (loNat L) (dst e) → ok (val e))
    (hin : ∀ a x, ((![k0_pay627 (F := F) L cnt v] : Fin 1 → IVec S16 32) a x).toNat < S16384.size a)
    (hl : LInv (loNat L) dst ok val dflt fits n cnt.toNat l) :
    LInv (loNat L) dst ok val dflt fits (n + 16) (cnt.toNat + (cntTo (loNat L) dst (n + 16) - cntTo (loNat L) dst n))
      (storeIdx (F := F) (e := .i32) l ![k0_pay627 (F := F) L cnt v] w (k0_pay624 (F := F) L v) false hin) := by
  refine foldl_finRange_ind 16 _ l (fun j s => LInv (loNat L) dst ok val dflt fits (n + j) (cnt.toNat + (cntTo (loNat L) dst (n + j) - cntTo (loNat L) dst n)) s) ?_ ?_
  · rw [Nat.add_zero, Nat.sub_self, Nat.add_zero]; exact hl
  intro k s hs
  have hk := k.isLt
  have hm := mask_lane L dst n v hv hd k.val hk
  have hp := pos_lane L dst n v hv hd cnt hc k.val hk
  have h2 : cntTo (loNat L) dst n ≤ cntTo (loNat L) dst (n + k.val) := cntTo_mono _ dst (by omega)
  have h3 : cntTo (loNat L) dst (n + (k.val + 1)) = cntTo (loNat L) dst (n + k.val) + if hit (loNat L) (dst (n + k.val)) then 1 else 0 := rfl
  have hlane : (Shape.ofLane (d := ![16]) k) = ln k.val hk := ofLane_eq k
  show LInv _ dst ok val dflt fits _ _ (if k0_pay624 (F := F) L v (Shape.ofLane (d := ![16]) k) = 1 then _ else s)
  rw [hlane, hm]
  by_cases hh : hit (loNat L) (dst (n + k.val))
  · rw [if_pos hh, if_pos (show (1#1 : BitVec 1) = 1 from rfl)]
    rw [if_pos hh] at h3
    have hpos : ((idxAt (s := S16384) ![k0_pay627 (F := F) L cnt v] hin (ln k.val hk)) 0).val = cnt.toNat + (cntTo (loNat L) dst (n + k.val) - cntTo (loNat L) dst n) := hp
    refine ⟨fun p hpl => ?_, fun hf e he hhe => ?_, fun hf p hcp hpl => ?_⟩
    · simp only [Bool.false_eq_true, if_false]
      rw [wordAt_write _ _ _ _ hpl]
      split
      · rw [hw _ _ hh]; exact hok _ hh
      · exact hs.okAll p hpl
    · have hci := hcnt hf
      have hlt : cntTo (loNat L) dst e < 16384 := by
        have h5 : (k0_pay627 (F := F) L cnt v (ln k.val hk)).toNat < 16384 := hin 0 (ln k.val hk)
        have h6 : cntTo (loNat L) dst e ≤ cntTo (loNat L) dst (n + k.val) := cntTo_mono _ dst (by omega)
        omega
      simp only [Bool.false_eq_true, if_false]
      rw [wordAt_write _ _ _ _ hlt, hpos]
      rcases Nat.lt_or_ge e (n + k.val) with hlt' | hge
      · have h6 : cntTo (loNat L) dst (e + 1) ≤ cntTo (loNat L) dst (n + k.val) := cntTo_mono _ dst (by omega)
        have h7 : cntTo (loNat L) dst (e + 1) = cntTo (loNat L) dst e + if hit (loNat L) (dst e) then 1 else 0 := rfl
        rw [if_pos hhe] at h7
        rw [if_neg (by omega)]
        exact hs.entry hf e hlt' hhe
      · have : e = n + k.val := by omega
        subst this
        rw [if_pos (by omega), hw _ _ hh]
    · simp only [Bool.false_eq_true, if_false]
      rw [wordAt_write _ _ _ _ hpl, hpos, if_neg (by omega)]
      exact hs.rest hf p (by omega) hpl
  · rw [if_neg hh, if_neg (show ¬(0#1 : BitVec 1) = 1 by decide)]
    rw [if_neg hh, Nat.add_zero] at h3
    refine ⟨hs.okAll, fun hf e he hhe => ?_, fun hf p hcp hpl => hs.rest hf p (by omega) hpl⟩
    rcases Nat.lt_or_ge e (n + k.val) with hlt' | hge
    · exact hs.entry hf e hlt' hhe
    · have : e = n + k.val := by omega
      subst this
      exact absurd hhe hh

end Cert.Proof.Scan

end
-- ==== Proof.Scan.lean ====
/-
  One chunk scanned: sixteen edges at a time, the lists and the running count carried by `Scanned`.
-/
module

public import proofs.«01_k».proof.Proof.Chunk
public import proofs.«01_k».proof.Proof.ScanMath

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)

/-- The list of sources: node numbers, 0 where nothing is written. -/
abbrev okSrc (w : BitVec 32) : Prop := w.toNat < 10000
/-- The list of destinations: rows of the accumulator, 320 (the spare row) where nothing is written. -/
abbrev okDst (w : BitVec 32) : Prop := w.toNat < 321
/-- A destination's row in the tile's block. -/
abbrev rowOf (L : grid0.Coords) (dst : ℕ → BitVec 32) (e : ℕ) : BitVec 32 :=
  dst e - Scalar.muli (Scalar.addi (Scalar.muli (BitVec.ofNat 32 (L 1).val) 2#32) (BitVec.ofNat 32 (L 0).val)) 320#32
/-- The tile's lists never overflow: the count never needs clamping. -/
abbrev fitsT (L : grid0.Coords) (dst : ℕ → BitVec 32) : Prop := cntTo (loNat L) dst 316800 ≤ 13184

/-- The state of the two lists and of the count after `n` edges. -/
structure Scanned (L : grid0.Coords) (src dst : ℕ → BitVec 32) (n : ℕ) (cnt : BitVec 32) (ls ld : S16384.Idx → BitVec 32) : Prop where
  srcs : LInv (loNat L) dst okSrc src 0#32 (fitsT L dst) n cnt.toNat ls
  dsts : LInv (loNat L) dst okDst (rowOf L dst) 320#32 (fitsT L dst) n cnt.toNat ld
  count : fitsT L dst → cnt.toNat = cntTo (loNat L) dst n

theorem rowOf_toNat (L : grid0.Coords) (dst : ℕ → BitVec 32) (e : ℕ) (h : hit (loNat L) (dst e)) : (rowOf L dst e).toNat = (dst e).toNat - loNat L := by
  unfold rowOf
  have h1 := lo_word L
  have h2 : (dst e).toNat < 2 ^ 32 := (dst e).isLt
  have h3 := h.1
  rw [BitVec.toNat_sub, h1]
  omega

theorem rowOf_ok (L : grid0.Coords) (dst : ℕ → BitVec 32) (e : ℕ) (h : hit (loNat L) (dst e)) : okDst (rowOf L dst e) := by
  have h1 := h.1
  have h2 := h.2
  show (rowOf L dst e).toNat < 321
  rw [rowOf_toNat L dst e h]; omega

/-- Clamping the count at a chunk's start. -/
theorem min_toNat (cnt : BitVec 32) (hc : cnt.toNat ≤ 16384) : (Scalar.minsi cnt 13184#32).toNat = min cnt.toNat 13184 := by
  show (if cnt.slt 13184#32 then cnt else 13184#32 : BitVec 32).toNat = _
  rw [BitVec.slt_eq_decide]
  have h1 : cnt.toInt = cnt.toNat := by rw [BitVec.toInt_eq_toNat_of_lt (by omega)]
  have h2 : (13184#32 : BitVec 32).toInt = 13184 := by decide
  rw [h1, h2]
  split
  · rename_i h; simp only [decide_eq_true_eq] at h; omega
  · rename_i h
    simp only [decide_eq_true_eq] at h
    show 13184 = _
    omega

theorem Scanned.clamp {L : grid0.Coords} {src dst : ℕ → BitVec 32} {n : ℕ} {cnt : BitVec 32} {ls ld : S16384.Idx → BitVec 32}
    (h : Scanned L src dst n cnt ls ld) (hn : n ≤ 316800) (hc : cnt.toNat ≤ 16384) : Scanned L src dst n (Scalar.minsi cnt 13184#32) ls ld := by
  have e : fitsT L dst → (Scalar.minsi cnt 13184#32).toNat = cnt.toNat := fun hf => by
    have h1 := h.count hf
    have h2 : cntTo (loNat L) dst n ≤ cntTo (loNat L) dst 316800 := cntTo_mono _ dst hn
    have h3 : cntTo (loNat L) dst 316800 ≤ 13184 := hf
    rw [min_toNat cnt hc]; omega
  exact ⟨⟨h.srcs.okAll, h.srcs.entry, fun hf p hp => h.srcs.rest hf p (by rw [← e hf]; exact hp)⟩,
    ⟨h.dsts.okAll, h.dsts.entry, fun hf p hp => h.dsts.rest hf p (by rw [← e hf]; exact hp)⟩, fun hf => (e hf).trans (h.count hf)⟩

section Run

variable (d : Dev nD) (L : grid0.Coords) (src dst : ℕ → BitVec 32) (hsrc : ∀ e, (src e).toNat < 10000) (hdst : ∀ e, (dst e).toNat < 10000)

/-- The two lists held. -/
abbrev lists (ls ld : S16384.Idx → BitVec 32) : sProp (MM F) :=
  iprop(((srclV).view.loc (thr d L) ↦{fullShare} ls) ∗ ((dstlV).view.loc (thr d L) ↦{fullShare} ld))

/-- Two memrefs hold the edges from `n0` on. -/
structure Holds (cs cd : ChunkRef) (n0 : ℕ) (fs : Buf (Elt F) (cs.view.loc (thr d L))) (fd : Buf (Elt F) (cd.view.loc (thr d L))) : Prop where
  srcs : ∀ y : S3200.Idx, cs.view.read (Elt F) fs y = src (n0 + (y 0).val)
  dsts : ∀ y : S3200.Idx, cd.view.read (Elt F) fd y = dst (n0 + (y 0).val)

variable {cs cd : ChunkRef} {fs : Buf (Elt F) (cs.view.loc (thr d L))} {fd : Buf (Elt F) (cd.view.loc (thr d L))}

include hsrc hdst in
theorem wp_vecStep (n0 : ℕ) (hh : Holds d L src dst cs cd n0 fs fd) (off : Fin 1 → ℕ) (hoff : ∀ a, off a + S16.size a ≤ S3200.size a)
    (cnt : BitVec 32) (hc : cnt.toNat ≤ 16368) (ls ld : S16384.Idx → BitVec 32) (h : Scanned L src dst (n0 + off 0) cnt ls ld) (Q : BitVec 32 → sProp (MM F)) :
    iprop((cs.view.loc (thr d L) ↦[cs.view.set]{fullShare} fs) ∗ (cd.view.loc (thr d L) ↦[cd.view.set]{fullShare} fd) ∗ lists (F := F) d L ls ld)
      ⊢ iprop((∀ cnt' ls' ld', ⌜cnt'.toNat ≤ cnt.toNat + 16 ∧ Scanned L src dst (n0 + off 0 + 16) cnt' ls' ld'⌝ -∗
            ((cs.view.loc (thr d L) ↦[cs.view.set]{fullShare} fs) ∗ (cd.view.loc (thr d L) ↦[cd.view.set]{fullShare} fd) ∗ lists (F := F) d L ls' ld') -∗ Q cnt')
          -∗ wp frame (wpE (defs₀ (F := F)) 𝒱₀ (thr d L) none) Set.univ (vecStep L cs cd srclV dstlV off hoff cnt) Q) := by
  have hv : ∀ j (hj : j < 16), (cd.view.readAt (Elt F) (Rect.unit (s := S3200) off S16.size hoff).toLoadRect fd : Vec F S16 .i32) (ln j hj) = dst (n0 + off 0 + j) := fun j hj => by
    refine (hh.dsts _).trans ?_
    show dst (n0 + (off 0 + 1 * j)) = _
    rw [Nat.one_mul, Nat.add_assoc]
  have hw : ∀ j (hj : j < 16), (cs.view.readAt (Elt F) (Rect.unit (s := S3200) off S16.size hoff).toLoadRect fs : Vec F S16 .i32) (ln j hj) = src (n0 + off 0 + j) := fun j hj => by
    refine (hh.srcs _).trans ?_
    show src (n0 + (off 0 + 1 * j)) = _
    rw [Nat.one_mul, Nat.add_assoc]
  generalize hvd : (cd.view.readAt (Elt F) (Rect.unit (s := S3200) off S16.size hoff).toLoadRect fd : Vec F S16 .i32) = vd at hv
  generalize hvs : (cs.view.readAt (Elt F) (Rect.unit (s := S3200) off S16.size hoff).toLoadRect fs : Vec F S16 .i32) = vs at hw
  have hchk : k0_chk1 (k0_pay627 (F := F) L cnt vd) := by
    have : ∀ a x, ((![k0_pay627 (F := F) L cnt vd] : Fin 1 → IVec S16 32) a x).toNat < S16384.size a := fun a x => by
      match a with
      | 0 =>
        have h2 : (x 0).val < 16 := (x 0).isLt
        have hx : x = ln (x 0).val h2 := by
          funext b
          match b with
          | 0 => rfl
        have h3 := pos_lane L dst (n0 + off 0) vd hv hdst cnt (by omega) (x 0).val h2
        rw [← hx] at h3
        have h1 := cntTo_add_le (loNat L) dst (n0 + off 0) (x 0).val
        show (k0_pay627 (F := F) L cnt vd x).toNat < 16384
        rw [h3]
        omega
    exact ⟨this, this⟩
  have hcs := count_step (F := F) L dst (n0 + off 0) vd hv hdst cnt (by omega)
  have hle := cntTo_add_le (loNat L) dst (n0 + off 0) 16
  have hnew : Scanned L src dst (n0 + off 0 + 16) (Scalar.addi cnt (extractAt ![0] (k0_pay629 (F := F) L vd) inpos_S1_p0))
      (storeIdx (F := F) (e := .i32) ls ![k0_pay627 (F := F) L cnt vd] vs (k0_pay624 (F := F) L vd) false (k0_idx1_inb _ hchk))
      (storeIdx (F := F) (e := .i32) ld ![k0_pay627 (F := F) L cnt vd] (k0_pay628 (F := F) L vd) (k0_pay624 (F := F) L vd) false (k0_idx2_inb _ hchk)) := by
    refine ⟨?_, ?_, fun hf => ?_⟩
    · rw [hcs]
      exact LInv.step (F := F) L dst okSrc src 0#32 _ (n0 + off 0) vd hv hdst cnt (by omega) h.count ls vs (fun j hj _ => hw j hj) (fun e _ => hsrc e) _ h.srcs
    · rw [hcs]
      refine LInv.step (F := F) L dst okDst (rowOf L dst) 320#32 _ (n0 + off 0) vd hv hdst cnt (by omega) h.count ld _ (fun j hj _ => ?_) (fun e he => rowOf_ok L dst e he) _ h.dsts
      show vd (ln j hj) - _ = _
      rw [hv j hj]; rfl
    · have h1 := h.count hf
      have h2 : cntTo (loNat L) dst (n0 + off 0) ≤ cntTo (loNat L) dst (n0 + off 0 + 16) := cntTo_mono _ dst (by omega)
      rw [hcs]; omega
  unfold vecStep
  iintro ⟨Hs, Hd, Hls, Hld⟩ HQ
  unfold Prog.lift
  rw [wp_bind]
  iapply (wp_load 𝒱₀ (thr d L) none Set.univ (m := cd) (S := cd.view.set) (View.setOn_subset_set cd.view _)) $$ Hd; iintro Hd
  sl_step
  rw [wp_bind]
  iapply (wp_load 𝒱₀ (thr d L) none Set.univ (m := cs) (S := cs.view.set) (View.setOn_subset_set cs.view _)) $$ Hs; iintro Hs
  sl_step
  rw [hvd, hvs]
  rw [wp_bind]
  rw [wp_assume_of 𝒱₀ (thr d L) none Set.univ hchk]
  sl_step
  ihave Hls' := (Entails.of_eq (show ((srclV).view.loc (thr d L) ↦{fullShare} ls : sProp (MM F))
      = (((srclV).access (.whole S16384)).loc (thr d L) ↦[((srclV).access (.whole S16384)).set]{fullShare} ls) by
    rw [show ((srclV).access (.whole S16384)).set = Finset.univ from Memref.set_access_whole (cc0_scratch4 : Ref sig .scVector)])) $$ Hls
  iapply (SparseCore.wp_vectorStoreIdx 𝒱₀ (thr d L) none Set.univ (base := srclV)) $$ Hls'; iintro Hls
  ihave Hld' := (Entails.of_eq (show ((dstlV).view.loc (thr d L) ↦{fullShare} ld : sProp (MM F))
      = (((dstlV).access (.whole S16384)).loc (thr d L) ↦[((dstlV).access (.whole S16384)).set]{fullShare} ld) by
    rw [show ((dstlV).access (.whole S16384)).set = Finset.univ from Memref.set_access_whole (cc0_scratch5 : Ref sig .scVector)])) $$ Hld
  iapply (SparseCore.wp_vectorStoreIdx 𝒱₀ (thr d L) none Set.univ (base := dstlV)) $$ Hld'; iintro Hld
  sl_step
  iapply HQ
  · ipureintro
    exact ⟨by rw [hcs]; omega, hnew⟩
  isplitl [Hs]; · iexact Hs
  isplitl [Hd]; · iexact Hd
  isplitl [Hls]
  · iapply (Entails.of_eq (show (((srclV).access (.whole S16384)).loc (thr d L) ↦[((srclV).access (.whole S16384)).set]{fullShare}
        (((srclV).access (.whole S16384)).write (Elt F) ls (storeIdx (((srclV).access (.whole S16384)).read (Elt F) ls) ![k0_pay627 (F := F) L cnt vd] vs (k0_pay624 (F := F) L vd) false (k0_idx1_inb _ hchk)) Finset.univ) : sProp (MM F))
        = ((srclV).view.loc (thr d L) ↦{fullShare} _) by
      rw [show ((srclV).access (.whole S16384)).set = Finset.univ from Memref.set_access_whole (cc0_scratch4 : Ref sig .scVector), show ∀ w, ((srclV).access (.whole S16384)).write (Elt F) ls w Finset.univ = w from
        fun w => Memref.write_access_whole_univ (Elt F) (cc0_scratch4 : Ref sig .scVector) ls w, show ((srclV).access (.whole S16384)).read (Elt F) ls = ls from Memref.read_access_whole (Elt F) (cc0_scratch4 : Ref sig .scVector) ls]))
    iexact Hls
  · iapply (Entails.of_eq (show (((dstlV).access (.whole S16384)).loc (thr d L) ↦[((dstlV).access (.whole S16384)).set]{fullShare}
        (((dstlV).access (.whole S16384)).write (Elt F) ld (storeIdx (((dstlV).access (.whole S16384)).read (Elt F) ld) ![k0_pay627 (F := F) L cnt vd] (k0_pay628 (F := F) L vd) (k0_pay624 (F := F) L vd) false (k0_idx2_inb _ hchk)) Finset.univ) : sProp (MM F))
        = ((dstlV).view.loc (thr d L) ↦{fullShare} _) by
      rw [show ((dstlV).access (.whole S16384)).set = Finset.univ from Memref.set_access_whole (cc0_scratch5 : Ref sig .scVector), show ∀ w, ((dstlV).access (.whole S16384)).write (Elt F) ld w Finset.univ = w from
        fun w => Memref.write_access_whole_univ (Elt F) (cc0_scratch5 : Ref sig .scVector) ld w, show ((dstlV).access (.whole S16384)).read (Elt F) ld = ld from Memref.read_access_whole (Elt F) (cc0_scratch5 : Ref sig .scVector) ld]))
    iexact Hld

end Run

end Cert.Proof.Scan

end
-- ==== Proof.Slot.lean ====
/-
  A pair of chunk buffers: two copies in flight on one semaphore, awaited, scanned, started again.
-/
module

public import proofs.«01_k».proof.Proof.Scan
public import Idealize.ShloMosaic.Lib.Batch

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

/-- The edge arrays as sequences. -/
abbrev seqOf (g : S320000.Idx → BitVec 32) : ℕ → BitVec 32 := fun e => wordAt (m := 320000) g e

section Slot

variable (d : Dev nD) (L : grid0.Coords) (gs gd : S320000.Idx → BitVec 32) (q : PosShare TreeShare)
variable (cs cd : ChunkRef) (sem : DmaSems sig S_)

/-- What the copy of the sources from `off` on delivers: the buffer filled, its slice of the array back. -/
def delivS (off : Fin 1 → ℕ) (hoff : ∀ a, off a + S3200.size a ≤ S320000.size a) : sProp (MM F) :=
  iprop(∃ fs : Buf (Elt F) (cs.view.loc (thr d L)), ⌜∀ y : S3200.Idx, cs.view.read (Elt F) fs y = seqOf gs (off 0 + (y 0).val)⌝ ∗ (cs.view.loc (thr d L) ↦[cs.view.set]{fullShare} fs)
    ∗ ((edges srcE off hoff).view.loc (thr d L) ↦[(edges srcE off hoff).view.set]{q} gs))
def delivD (off : Fin 1 → ℕ) (hoff : ∀ a, off a + S3200.size a ≤ S320000.size a) : sProp (MM F) :=
  iprop(∃ fd : Buf (Elt F) (cd.view.loc (thr d L)), ⌜∀ y : S3200.Idx, cd.view.read (Elt F) fd y = seqOf gd (off 0 + (y 0).val)⌝ ∗ (cd.view.loc (thr d L) ↦[cd.view.set]{fullShare} fd)
    ∗ ((edges dstE off hoff).view.loc (thr d L) ↦[(edges dstE off hoff).view.set]{q} gd))
def deliv (off : Fin 1 → ℕ) (hoff : ∀ a, off a + S3200.size a ≤ S320000.size a) : Fin 2 → sProp (MM F)
  | 0 => delivS d L gs q cs off hoff
  | 1 => delivD d L gd q cd off hoff

instance deliv_storable (off : Fin 1 → ℕ) (hoff : ∀ a, off a + S3200.size a ≤ S320000.size a) :
    ∀ t, BI.Storable (upEmb : UEmb _ (MM F)) (deliv (F := F) d L gs gd q cs cd off hoff t)
  | 0 => by show BI.Storable (upEmb : UEmb _ (MM F)) (delivS d L gs q cs off hoff); unfold delivS; infer_instance
  | 1 => by show BI.Storable (upEmb : UEmb _ (MM F)) (delivD d L gd q cd off hoff); unfold delivD; infer_instance

/-- Nothing in flight: the buffers at whatever they hold, the semaphore at zero, the shares of the edge arrays whole. -/
def idle : sProp (MM F) :=
  iprop(∃ (fs : Buf (Elt F) (cs.view.loc (thr d L))) (fd : Buf (Elt F) (cd.view.loc (thr d L))), (cs.view.loc (thr d L) ↦[cs.view.set]{fullShare} fs)
    ∗ (cd.view.loc (thr d L) ↦[cd.view.set]{fullShare} fd) ∗ semVal (thr d L, .dma sem.sem) 0
    ∗ ((srcE).view.loc (thr d L) ↦{q} gs) ∗ ((dstE).view.loc (thr d L) ↦{q} gd))

/-- The buffers at the edges from `n0` on, nothing in flight. -/
def landed (n0 : ℕ) : sProp (MM F) :=
  iprop(∃ (fs : Buf (Elt F) (cs.view.loc (thr d L))) (fd : Buf (Elt F) (cd.view.loc (thr d L))), ⌜Holds d L (seqOf gs) (seqOf gd) cs cd n0 fs fd⌝
    ∗ (cs.view.loc (thr d L) ↦[cs.view.set]{fullShare} fs) ∗ (cd.view.loc (thr d L) ↦[cd.view.set]{fullShare} fd) ∗ semVal (thr d L, .dma sem.sem) 0
    ∗ ((srcE).view.loc (thr d L) ↦{q} gs) ∗ ((dstE).view.loc (thr d L) ↦{q} gd))

/-- Two copies in flight, of the edges from `n0` on. -/
def flight (N n0 : ℕ) : sProp (MM F) :=
  iprop(∃ (off : Fin 1 → ℕ) (hoff : ∀ a, off a + S3200.size a ≤ S320000.size a), ⌜off 0 = n0⌝
    ∗ Transfers.Batch countersEmb (thr d L) (.dma sem.sem) (default : HIx 2) N (deliv (F := F) d L gs gd q cs cd off hoff) 2 0
    ∗ ((srcE).view.loc (thr d L) ↦[Finset.univ \ (edges srcE off hoff).view.set]{q} gs)
    ∗ ((dstE).view.loc (thr d L) ↦[Finset.univ \ (edges dstE off hoff).view.set]{q} gd))

variable {cs cd}

theorem edges_read (a : EdgeRef) (g : Buf (Elt F) (a.view.loc (thr d L))) (off : Fin 1 → ℕ) (hoff : ∀ a, off a + S3200.size a ≤ S320000.size a) (y : S3200.Idx) :
    (edges a off hoff).view.read (Elt F) g y = a.view.read (Elt F) g (ix1 ⟨off 0 + (y 0).val, by
      have h1 : off 0 + 3200 ≤ 320000 := hoff 0
      have h2 : (y 0).val < 3200 := (y 0).isLt
      omega⟩) := by
  show a.view.read (Elt F) g _ = _
  congr 1
  funext b
  apply Fin.ext
  match b with
  | 0 =>
    show off 0 + 1 * (y 0).val = off 0 + (y 0).val
    omega

theorem seqOf_eq (g : S320000.Idx → BitVec 32) (e : ℕ) (h : e < 320000) : seqOf g e = g (ix1 ⟨e, h⟩) := by
  unfold seqOf wordAt; rw [dif_pos h]

variable {α : Type} (N : ℕ) (hNs : cs.view.dmaCredit = N) (hNd : cd.view.dmaCredit = N)
include hNs hNd

theorem wp_startChunk (hcs : cs.IsWhole) (hcd : cd.IsWhole) (off : Fin 1 → ℕ) (hoff : ∀ a, off a + S3200.size a ≤ S320000.size a) (n0 : ℕ) (h0 : off 0 = n0)
    (k : PUnit.{1} → Prog (TileEff F L) α) (Q : α → sProp (MM F)) :
    idle (F := F) d L gs gd q cs cd sem
      ⊢ iprop((flight (F := F) d L gs gd q cs cd sem N n0 -∗ wp frame (wpE (defs₀ (F := F)) 𝒱₀ (thr d L) none) Set.univ (k ⟨⟩) Q)
          -∗ wp frame (wpE (defs₀ (F := F)) 𝒱₀ (thr d L) none) Set.univ (startChunk L srcE dstE cs cd hcs hcd sem off hoff k) Q) := by
  unfold idle startChunk
  iintro ⟨%fs, %fd, Hcs, Hcd, Hsem, Hs, Hd⟩ HQ
  imod (Transfers.batch_alloc' countersEmb (thr d L) (sm := .dma sem.sem) (default : HIx 2) N (deliv (F := F) d L gs gd q cs cd off hoff) (E := Set.univ)) $$ Hsem with HB
  ihave Hs' := (pointsTo_split_subset (q := q) (f := gs) (S := Finset.univ) (Finset.subset_univ (edges srcE off hoff).view.set)).1 $$ Hs
  ihave Hd' := (pointsTo_split_subset (q := q) (f := gd) (S := Finset.univ) (Finset.subset_univ (edges dstE off hoff).view.set)).1 $$ Hd
  icases Hs' with ⟨Hs, Hsr⟩
  icases Hd' with ⟨Hd, Hdr⟩
  unfold Prog.lift
  iapply (Transfers.wp_dmaBatch countersEmb 𝒱₀ (thr d L) none (src := edges srcE off hoff) (dst := cs) (q := q) (Sd := cs.view.set) (D := deliv (F := F) d L gs gd q cs cd off hoff) (fs := gs) (default : HIx 2) N (sm := .dma sem.sem) hNs (subset_rfl) (show 0 < 2 by decide) (Nat.zero_le _) ?hS) $$ [Hs Hcs HB]
  case hS =>
    show _ ⊢ delivS d L gs q cs off hoff
    unfold delivS
    iintro ⟨Hc, Hs⟩
    iexists (cs.view.write (Elt F) fs (ReadAs.same.apply ((edges srcE off hoff).view.read (Elt F) gs)) Finset.univ)
    isplitr
    swap
    · isplitl [Hc]; · iexact Hc
      iexact Hs
    ipureintro
    intro y
    rw [View.read_write_univ]
    refine (edges_read (F := F) d L srcE gs off hoff y).trans ?_
    exact (seqOf_eq gs _ _).symm
  · isplitl [Hs]; · iexact Hs
    isplitl [Hcs]; · iexact Hcs
    iexact HB
  iintro HB
  iapply (Transfers.wp_dmaBatch countersEmb 𝒱₀ (thr d L) none (src := edges dstE off hoff) (dst := cd) (q := q) (Sd := cd.view.set) (D := deliv (F := F) d L gs gd q cs cd off hoff) (fs := gd) (default : HIx 2) N (sm := .dma sem.sem) hNd (subset_rfl) (show 1 < 2 by decide) (Nat.zero_le _) ?hD) $$ [Hd Hcd HB]
  case hD =>
    show _ ⊢ delivD d L gd q cd off hoff
    unfold delivD
    iintro ⟨Hc, Hs⟩
    iexists (cd.view.write (Elt F) fd (ReadAs.same.apply ((edges dstE off hoff).view.read (Elt F) gd)) Finset.univ)
    isplitr
    swap
    · isplitl [Hc]; · iexact Hc
      iexact Hs
    ipureintro
    intro y
    rw [View.read_write_univ]
    refine (edges_read (F := F) d L dstE gd off hoff y).trans ?_
    exact (seqOf_eq gd _ _).symm
  · isplitl [Hd]; · iexact Hd
    isplitl [Hcd]; · iexact Hcd
    iexact HB
  iintro HB
  iapply HQ
  unfold flight
  iexists off, hoff
  isplitr; · ipureintro; exact h0
  isplitl [HB]; · iexact HB
  isplitl [Hsr]; · iexact Hsr
  iexact Hdr

theorem wp_waitChunk (hN0 : 0 < N) (hcs : cs.IsWhole) (hcd : cd.IsWhole) (n0 : ℕ) (O : CellTallies nD τ sig (HIx 2)) (W : Waits sig (HIx 2))
    (k : PUnit.{1} → Prog (TileEff F L) α) (Q : α → sProp (MM F)) :
    iprop(flight (F := F) d L gs gd q cs cd sem N n0 ∗ owes (thr d L) O W ∗ Transfers.MayWaits (thr d L) (default : HIx 2) O)
      ⊢ iprop((landed (F := F) d L gs gd q cs cd sem n0 ∗ owes (thr d L) O (insert (SemLoc.dma sem.sem, (default : HIx 2)) (insert (SemLoc.dma sem.sem, (default : HIx 2)) W))
            -∗ wp frame (wpE (defs₀ (F := F)) 𝒱₀ (thr d L) none) Set.univ (k ⟨⟩) Q)
          -∗ wp frame (wpE (defs₀ (F := F)) 𝒱₀ (thr d L) none) Set.univ
            (Prog.op (.waitDma2 sem.sem (edges srcE ![0] inb_S320000_S3200_0) cs (View.wordExact_bits rfl) hcs.wordExact) fun _ =>
              Prog.op (.waitDma2 sem.sem (edges dstE ![0] inb_S320000_S3200_0) cd (View.wordExact_bits rfl) hcd.wordExact) k) Q) := by
  unfold flight
  iintro ⟨⟨%off, %hoff, %h0, HB, Hsr, Hdr⟩, HO, #Hmw⟩ HQ
  iapply (Transfers.wp_waitBatchO countersEmb 𝒱₀ (thr d L) none (D := deliv (F := F) d L gs gd q cs cd off hoff) (u := 0) (default : HIx 2) hNs (by omega)) $$ [HB HO]
  · isplitl [HB]; · iexact HB
    isplitl [HO]; · iexact HO
    iapply (Transfers.MayWaits.elim (SemLoc.dma sem.sem)) $$ Hmw
  iintro ⟨HB, HO⟩
  iapply (Transfers.wp_waitBatchLastO countersEmb 𝒱₀ (thr d L) none (D := deliv (F := F) d L gs gd q cs cd off hoff) (u := 0 + N) (default : HIx 2) hNd hN0 (by omega)) $$ [HB HO]
  · isplitl [HB]; · iexact HB
    isplitl [HO]; · iexact HO
    iapply (Transfers.MayWaits.elim (SemLoc.dma sem.sem)) $$ Hmw
  iintro ⟨HB, Hsem, HO⟩
  ihave HB' := (show bigSep Finset.univ (deliv (F := F) d L gs gd q cs cd off hoff) ⊢ iprop(delivS d L gs q cs off hoff ∗ delivD d L gd q cd off hoff) from
    Entails.of_eq (by rw [show (Finset.univ : Finset (Fin 2)) = insert 0 {1} by decide, bigSep_insert (by decide), bigSep_singleton]; rfl)) $$ HB
  unfold delivS delivD
  icases HB' with ⟨⟨%fs, %hfs, Hcs, Hs⟩, ⟨%fd, %hfd, Hcd, Hd⟩⟩
  ihave Hs' := (pointsTo_split_subset (ℓ := (srcE).view.loc (thr d L)) (I := (edges srcE off hoff).view.set) (q := q) (f := gs) (S := Finset.univ) (Finset.subset_univ _)).2 $$ [Hs Hsr]
  · isplitl [Hs] <;> iassumption
  ihave Hd' := (pointsTo_split_subset (ℓ := (dstE).view.loc (thr d L)) (I := (edges dstE off hoff).view.set) (q := q) (f := gd) (S := Finset.univ) (Finset.subset_univ _)).2 $$ [Hd Hdr]
  · isplitl [Hd] <;> iassumption
  iapply HQ
  isplitr [HO]
  · unfold landed
    iexists fs, fd
    isplitr
    · ipureintro
      exact ⟨fun y => by rw [← h0]; exact hfs y, fun y => by rw [← h0]; exact hfd y⟩
    isplitl [Hcs]; · iexact Hcs
    isplitl [Hcd]; · iexact Hcd
    isplitl [Hsem]; · iexact Hsem
    isplitl [Hs']; · iexact Hs'
    iexact Hd'
  · iexact HO

end Slot

end Cert.Proof.Scan

end
-- ==== Proof.Half.lean ====
/-
  A chunk scanned by the loop over its vectors; half a trip; the loop over the chunks.
-/
module

public import proofs.«01_k».proof.Proof.Slot

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

theorem trips4 : k0_t4_loop.trips = 200 := by decide +kernel
theorem trips3 : k0_t3_loop.trips = 50 := by decide +kernel
theorem cond1_iff : ∀ k : Fin k0_t3_loop.trips, k0_cond1 k = 1#1 ↔ 6400 * k.val + 6400 < 320000 := by decide +kernel
theorem cond2_iff : ∀ k : Fin k0_t3_loop.trips, k0_cond2 k = 1#1 ↔ 6400 * k.val + 9600 < 320000 := by decide +kernel

section Run

variable (d : Dev nD) (L : grid0.Coords) (src dst : ℕ → BitVec 32) (hsrc : ∀ e, (src e).toNat < 10000) (hdst : ∀ e, (dst e).toNat < 10000)
variable {cs cd : ChunkRef} {fs : Buf (Elt F) (cs.view.loc (thr d L))} {fd : Buf (Elt F) (cd.view.loc (thr d L))}

/-- What holds after `t` vectors of the chunk from `n0` on. -/
def scanInv (n0 : ℕ) (fs : Buf (Elt F) (cs.view.loc (thr d L))) (fd : Buf (Elt F) (cd.view.loc (thr d L))) (t : ℕ) (cnt : BitVec 32) : sProp (MM F) :=
  iprop(∃ ls ld, ⌜cnt.toNat ≤ 13184 + 16 * t ∧ Scanned L src dst (n0 + 16 * t) cnt ls ld⌝
    ∗ (cs.view.loc (thr d L) ↦[cs.view.set]{fullShare} fs) ∗ (cd.view.loc (thr d L) ↦[cd.view.set]{fullShare} fd) ∗ lists (F := F) d L ls ld)

include hsrc hdst in
theorem wp_scanChunk (n0 : ℕ) (hh : Holds d L src dst cs cd n0 fs fd)
    (cnt : BitVec 32) (hc : cnt.toNat ≤ 13184) (ls ld : S16384.Idx → BitVec 32) (h : Scanned L src dst n0 cnt ls ld) (Q : BitVec 32 → sProp (MM F)) :
    iprop((cs.view.loc (thr d L) ↦[cs.view.set]{fullShare} fs) ∗ (cd.view.loc (thr d L) ↦[cd.view.set]{fullShare} fd) ∗ lists (F := F) d L ls ld)
      ⊢ iprop((∀ cnt' ls' ld', ⌜cnt'.toNat ≤ 16384 ∧ Scanned L src dst (n0 + 3200) cnt' ls' ld'⌝ -∗
            ((cs.view.loc (thr d L) ↦[cs.view.set]{fullShare} fs) ∗ (cd.view.loc (thr d L) ↦[cd.view.set]{fullShare} fd) ∗ lists (F := F) d L ls' ld') -∗ Q cnt')
          -∗ wp frame (wpE (defs₀ (F := F)) 𝒱₀ (thr d L) none) Set.univ
            (Scf.Loop.for k0_t4_loop k0_t4_ok cnt (fun t => vecStep L cs cd srclV dstlV (k0_off10 t) (k0_off10_inb t))) Q) := by
  iintro ⟨Hs, Hd, Hls, Hld⟩ HQ
  iapply (Scf.wp_for frame (wpE (defs₀ (F := F)) 𝒱₀ (thr d L) none) Set.univ _ _ _ k0_t4_ok cnt _ (scanInv (F := F) d L src dst (cs := cs) (cd := cd) n0 fs fd) ?hb) $$ [Hs Hd Hls Hld HQ]
  case hb =>
    intro t c
    have ht : t.val < 200 := by have := t.isLt; exact this.trans_eq trips4
    have e0 : k0_off10 t 0 = 16 * t.val := by rw [k0_off10_eq]; rfl
    unfold scanInv
    iintro ⟨%ls, %ld, %hp, Hs, Hd, Hl⟩
    obtain ⟨hc, hS⟩ := hp
    iapply (wp_vecStep (F := F) d L src dst hsrc hdst n0 hh (k0_off10 t) (k0_off10_inb t) c (by omega) ls ld (by rw [e0]; exact hS)) $$ [Hs Hd Hl]
    · isplitl [Hs]; · iexact Hs
      isplitl [Hd]; · iexact Hd
      iexact Hl
    iintro %cnt' %ls' %ld' %hp' ⟨Hs, Hd, Hl⟩
    obtain ⟨hc', hS'⟩ := hp'
    iexists ls', ld'
    isplitr
    · ipureintro
      refine ⟨by omega, ?_⟩
      rw [e0] at hS'
      rw [show n0 + 16 * (t.val + 1) = n0 + 16 * t.val + 16 by omega]
      exact hS'
    isplitl [Hs]; · iexact Hs
    isplitl [Hd]; · iexact Hd
    iexact Hl
  isplitr [HQ]
  · unfold scanInv
    iexists ls, ld
    isplitr
    · ipureintro; exact ⟨by omega, h⟩
    isplitl [Hs]; · iexact Hs
    isplitl [Hd]; · iexact Hd
    isplitl [Hls] <;> iassumption
  · iintro %c HI
    unfold scanInv
    icases HI with ⟨%ls', %ld', %hp, Hs, Hd, Hl⟩
    obtain ⟨hc', hS'⟩ := hp
    rw [show (Scf.trips k0_t4_loop.lb k0_t4_loop.ub k0_t4_loop.st) = 200 from trips4] at hc' hS'
    iapply HQ
    · ipureintro; exact ⟨by omega, hS'⟩
    isplitl [Hs]; · iexact Hs
    isplitl [Hd]; · iexact Hd
    iexact Hl

/-- The waits recorded so far: the thread's own, and those on transfers' semaphores. -/
def owesA (O : CellTallies nD τ sig (HIx 2)) (W : Waits sig (HIx 2)) : sProp (MM F) :=
  iprop(∃ W', ⌜∀ p ∈ W', p ∈ W ∨ p.2 = none⌝ ∗ owes (thr d L) O W')

end Run

section Slots

variable (d : Dev nD) (L : grid0.Coords) (gs gd : S320000.Idx → BitVec 32) (q : PosShare TreeShare)
variable (hsrc : ∀ e, (seqOf gs e).toNat < 10000) (hdst : ∀ e, (seqOf gd e).toNat < 10000)
variable (cs cd : ChunkRef) (sem : DmaSems sig S_) (N : ℕ)

/-- A pair of buffers whose next chunk starts at edge `n0`: in flight while there is such a chunk. -/
def slot (n0 : ℕ) : sProp (MM F) := if n0 < 320000 then flight (F := F) d L gs gd q cs cd sem N n0 else idle (F := F) d L gs gd q cs cd sem

variable {cs cd}
variable {α : Type} (hNs : cs.view.dmaCredit = N) (hNd : cd.view.dmaCredit = N) (hN0 : 0 < N)
include hsrc hdst hNs hNd hN0

theorem wp_half (hcs : cs.IsWhole) (hcd : cd.IsWhole) (n0 n1 : ℕ) (hn0 : n0 ≤ 316800) (cond : BitVec 1) (hcond : cond = 1#1 ↔ n1 < 320000)
    (off : Fin 1 → ℕ) (hoff : cond = 1#1 → ∀ a, off a + S3200.size a ≤ S320000.size a) (h1 : off 0 = n1)
    (O : CellTallies nD τ sig (HIx 2)) (W : Waits sig (HIx 2)) (cnt : BitVec 32) (hc : cnt.toNat ≤ 16384) (ls ld : S16384.Idx → BitVec 32)
    (h : Scanned L (seqOf gs) (seqOf gd) n0 cnt ls ld) (k : BitVec 32 → Prog (TileEff F L) α) (Q : α → sProp (MM F)) :
    iprop(slot (F := F) d L gs gd q cs cd sem N n0 ∗ lists (F := F) d L ls ld ∗ owesA (F := F) d L O W ∗ Transfers.MayWaits (thr d L) (default : HIx 2) O)
      ⊢ iprop((∀ cnt' ls' ld', ⌜cnt'.toNat ≤ 16384 ∧ Scanned L (seqOf gs) (seqOf gd) (n0 + 3200) cnt' ls' ld'⌝ -∗
            (slot (F := F) d L gs gd q cs cd sem N n1 ∗ lists (F := F) d L ls' ld' ∗ owesA (F := F) d L O W)
            -∗ wp frame (wpE (defs₀ (F := F)) 𝒱₀ (thr d L) none) Set.univ (k cnt') Q)
          -∗ wp frame (wpE (defs₀ (F := F)) 𝒱₀ (thr d L) none) Set.univ
            (half L srcE dstE cs cd hcs hcd srclV dstlV sem cond off hoff cnt k) Q) := by
  have hmin := min_toNat cnt hc
  unfold half slot owesA
  rw [if_pos (by omega : n0 < 320000)]
  iintro ⟨HF, Hl, ⟨%W', %hW', HO⟩, #Hmw⟩ HQ
  iapply (wp_waitChunk (F := F) d L gs gd q sem N hNs hNd hN0 hcs hcd n0 O W' _ Q) $$ [HF HO]
  · isplitl [HF]; · iexact HF
    isplitl [HO]; · iexact HO
    iexact Hmw
  iintro ⟨HL, HO⟩
  unfold landed
  icases HL with ⟨%fs, %fd, %hh, Hcs, Hcd, Hsem, Hs, Hd⟩
  rw [show ∀ {β : Type} (f : PUnit → Prog (TileEff F L) β), (Prog.ret (E := TileEff F L) PUnit.unit).bind f = f PUnit.unit from fun _ => rfl]
  rw [wp_bind]
  iapply (wp_scanChunk (F := F) d L (seqOf gs) (seqOf gd) hsrc hdst n0 hh (Scalar.minsi cnt 13184#32) (by omega) ls ld (h.clamp hn0 hc)) $$ [Hcs Hcd Hl]
  · isplitl [Hcs]; · iexact Hcs
    isplitl [Hcd]; · iexact Hcd
    iexact Hl
  iintro %cnt' %ls' %ld' %hp ⟨Hcs, Hcd, Hl⟩
  ihave HI := (show iprop((cs.view.loc (thr d L) ↦[cs.view.set]{fullShare} fs) ∗ (cd.view.loc (thr d L) ↦[cd.view.set]{fullShare} fd) ∗ semVal (thr d L, .dma sem.sem) 0
    ∗ ((srcE).view.loc (thr d L) ↦{q} gs) ∗ ((dstE).view.loc (thr d L) ↦{q} gd)) ⊢ idle (F := F) d L gs gd q cs cd sem from by
      unfold idle
      iintro H
      iexists fs, fd
      iexact H) $$ [Hcs Hcd Hsem Hs Hd]
  · isplitl [Hcs]; · iexact Hcs
    isplitl [Hcd]; · iexact Hcd
    isplitl [Hsem]; · iexact Hsem
    isplitl [Hs] <;> iassumption
  have hW2 : ∀ p ∈ (insert (SemLoc.dma sem.sem, (default : HIx 2)) (insert (SemLoc.dma sem.sem, (default : HIx 2)) W')), p ∈ W ∨ p.2 = none := by
    intro p hp
    simp only [Set.mem_insert_iff, Finset.mem_insert] at hp
    rcases hp with rfl | rfl | hp
    · right; rfl
    · right; rfl
    · exact hW' p hp
  dsimp only
  by_cases hcd1 : cond = 1#1
  · rw [dif_pos hcd1, if_pos (hcond.1 hcd1), wp_bind]
    iapply (wp_startChunk (F := F) d L gs gd q sem N hNs hNd hcs hcd off (hoff hcd1) n1 h1) $$ HI
    iintro HF
    sl_step
    iapply HQ $$ [] [HF Hl HO]
    · ipureintro; exact hp
    isplitl [HF]; · iexact HF
    isplitl [Hl]; · iexact Hl
    iexists _
    isplitr
    swap; · iexact HO
    ipureintro; exact hW2
  · rw [dif_neg hcd1, if_neg (fun h => hcd1 (hcond.2 h))]
    iapply HQ $$ [] [HI Hl HO]
    · ipureintro; exact hp
    isplitl [HI]; · iexact HI
    isplitl [Hl]; · iexact Hl
    iexists _
    isplitr
    swap; · iexact HO
    ipureintro; exact hW2

end Slots

end Cert.Proof.Scan

end
-- ==== Proof.Rows.lean ====
/-
  The accumulator's row loops — every row filled before the scan, and finished after it — and the lists' first fill.
-/
module

public import proofs.«01_k».proof.Proof.Accum
public import proofs.«01_k».proof.Proof.Chunk

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "accV" => (Memref.whole cc0_scratch6 : Memref sig Kind.scVector Space.vmem S321x128 EltTy.f32)
local notation "srclV" => (Memref.whole cc0_scratch4 : Memref sig Kind.scVector Space.vmem S16384 EltTy.i32)
local notation "dstlV" => (Memref.whole cc0_scratch5 : Memref sig Kind.scVector Space.vmem S16384 EltTy.i32)

/-- The accumulator's first value. -/
def negInf : Elt F .f32 := Scalar.ofBits .f32 0xFF800000#32
/-- The last step on a value: a value that was never raised is 0. -/
def finV (x : Elt F .f32) : Elt F .f32 := Scalar.select (FloatOps.cmpf .oeq x (Scalar.ofBits .f32 0xFF800000#32)) (Scalar.ofBits .f32 0x00000000#32) x

/-- The accumulator with row `r` mapped in its first `n` columns. -/
def mapTo (g : Elt F .f32 → Elt F .f32) (f : S321x128.Idx → Elt F .f32) (r n : ℕ) : S321x128.Idx → Elt F .f32 :=
  fun x => if (x 0).val = r ∧ (x 1).val < n then g (f x) else f x
/-- The accumulator with its first `r` rows mapped. -/
def mapRows (g : Elt F .f32 → Elt F .f32) (f : S321x128.Idx → Elt F .f32) (r : ℕ) : S321x128.Idx → Elt F .f32 :=
  fun x => if (x 0).val < r then g (f x) else f x

theorem mapTo_zero (g : Elt F .f32 → Elt F .f32) (f : S321x128.Idx → Elt F .f32) (r : ℕ) : mapTo g f r 0 = f := by
  funext x; simp [mapTo]
theorem mapRows_zero (g : Elt F .f32 → Elt F .f32) (f : S321x128.Idx → Elt F .f32) : mapRows g f 0 = f := by
  funext x; simp [mapRows]
theorem mapTo_full (g : Elt F .f32 → Elt F .f32) (f : S321x128.Idx → Elt F .f32) (r : ℕ) : mapTo g (mapRows g f r) r 128 = mapRows g f (r + 1) := by
  funext x
  have h1 : (x 1).val < 128 := (x 1).isLt
  unfold mapTo mapRows
  by_cases h : (x 0).val = r
  · rw [if_pos ⟨h, h1⟩, if_neg (by omega), if_pos (by omega)]
  · rw [if_neg (fun h' => h h'.1)]
    by_cases h2 : (x 0).val < r
    · rw [if_pos h2, if_pos (by omega)]
    · rw [if_neg h2, if_neg (by omega)]

theorem put_mapTo (g : Elt F .f32 → Elt F .f32) (f : S321x128.Idx → Elt F .f32) (off : Fin 2 → ℕ) (r n : ℕ) (ho : off = ![r, n]) (w : Vec F S1x16 .f32)
    (ha : ∀ a, off a + S1x16.size a ≤ S321x128.size a) (hw : ∀ y, w y = g (VecWindow.window (mapTo g f r n) off S1x16.size ha y)) :
    VecWindow.put (mapTo g f r n) off S1x16.size w = mapTo g f r (n + 16) := by
  subst ho
  funext x
  have e0 : (![r, n] : Fin 2 → ℕ) 0 = r := rfl
  have e1 : (![r, n] : Fin 2 → ℕ) 1 = n := rfl
  have s0 : S1x16.size 0 = 1 := rfl
  have s1 : S1x16.size 1 = 16 := rfl
  unfold VecWindow.put
  split
  · rename_i h
    have h0 := h 0; have h1 := h 1
    rw [e0, s0] at h0; rw [e1, s1] at h1
    rw [hw]
    have w1 : VecWindow.window (mapTo g f r n) ![r, n] S1x16.size ha (Rect.unitLocal (s := S321x128) (off := ![r, n]) (size := S1x16.size) x h) = f x := by
      unfold VecWindow.window
      have : (Rect.unit (s := S321x128) ![r, n] S1x16.size ha).emb (Rect.unitLocal (s := S321x128) (off := ![r, n]) (size := S1x16.size) x h) = x := by
        funext a; apply Fin.ext
        show (![r, n] : Fin 2 → ℕ) a + 1 * ((x a).val - (![r, n] : Fin 2 → ℕ) a) = (x a).val
        have := (h a).1; omega
      rw [this, mapTo, if_neg (by omega)]
    rw [w1, mapTo, if_pos ⟨by omega, by omega⟩]
  · rename_i h
    unfold mapTo
    by_cases hx : (x 0).val = r ∧ (x 1).val < n
    · rw [if_pos hx, if_pos ⟨hx.1, by omega⟩]
    · rw [if_neg hx, if_neg]
      rintro ⟨h0, h1⟩
      apply h
      intro a
      match a with
      | 0 => show r ≤ (x 0).val ∧ (x 0).val < r + 1; omega
      | 1 =>
        show n ≤ (x 1).val ∧ (x 1).val < n + 16
        exact ⟨by by_contra hn; exact hx ⟨h0, by omega⟩, h1⟩

/-! ## The programs -/

/-- Sixteen columns of a row filled. -/
def colFill (i : grid0.Coords) (acc : AccRef) (off : Fin 2 → ℕ) (h : ∀ a, off a + S1x16.size a ≤ S321x128.size a) : Prog (TileEff F i) PUnit := do
  let _u : Vec F S1x16 .f32 ← Prog.lift (.load acc (Rect.unit (s := S321x128) off S1x16.size h).toLoadRect (View.loadsAt_vmem h_S1x16))
  Prog.lift (.store acc (Rect.unit (s := S321x128) off S1x16.size h) (shapeCast S1x16 (k0_pay621 (F := F)) shapeCasts_S16_S1x16)
    Finset.univ (View.stores_vmem_bits_univ h_S1x16 rfl) (.inl rfl))

/-- Sixteen columns of a row finished. -/
def colFin (i : grid0.Coords) (acc : AccRef) (off : Fin 2 → ℕ) (h : ∀ a, off a + S1x16.size a ≤ S321x128.size a) : Prog (TileEff F i) PUnit := do
  let u : Vec F S1x16 .f32 ← Prog.lift (.load acc (Rect.unit (s := S321x128) off S1x16.size h).toLoadRect (View.loadsAt_vmem h_S1x16))
  let _u : Vec F S1x16 .f32 ← Prog.lift (.load acc (Rect.unit (s := S321x128) off S1x16.size h).toLoadRect (View.loadsAt_vmem h_S1x16))
  Prog.lift (.store acc (Rect.unit (s := S321x128) off S1x16.size h) (shapeCast S1x16 (k0_pay613 u) shapeCasts_S16_S1x16)
    Finset.univ (View.stores_vmem_bits_univ h_S1x16 rfl) (.inl rfl))

/-- The two lists' first fill: sixteen words of each. -/
def listFill (i : grid0.Coords) (sl dl : ListRef) (off : Fin 1 → ℕ) (h : ∀ a, off a + S16.size a ≤ S16384.size a) : Prog (TileEff F i) (BitVec 32) := do
  let _u : Vec F S16 .i32 ← Prog.lift (.load sl (Rect.unit (s := S16384) off S16.size h).toLoadRect (View.loadsAt_vmem h_S16))
  Prog.lift (.store sl (Rect.unit (s := S16384) off S16.size h) k0_pay622 Finset.univ (View.stores_vmem_bits_univ h_S16 rfl) (.inl rfl))
  let _v : Vec F S16 .i32 ← Prog.lift (.load dl (Rect.unit (s := S16384) off S16.size h).toLoadRect (View.loadsAt_vmem h_S16))
  Prog.lift (.store dl (Rect.unit (s := S16384) off S16.size h) k0_pay623 Finset.univ (View.stores_vmem_bits_univ h_S16 rfl) (.inl rfl))
  pure 0#32

theorem t1_body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (k : Fin k0_t1_loop.trips) (x : BitVec 32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 k x = (do
        colFill i arg15 (k0_off1 k) (k0_off1_inb k)
        colFill i arg15 (k0_off2 k) (k0_off2_inb k)
        colFill i arg15 (k0_off3 k) (k0_off3_inb k)
        colFill i arg15 (k0_off4 k) (k0_off4_inb k)
        colFill i arg15 (k0_off5 k) (k0_off5_inb k)
        colFill i arg15 (k0_off6 k) (k0_off6_inb k)
        colFill i arg15 (k0_off7 k) (k0_off7_inb k)
        colFill i arg15 (k0_off8 k) (k0_off8_inb k)
        pure 0#32) := rfl

theorem t2_body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (k : Fin k0_t2_loop.trips) (x : BitVec 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 k x = listFill i arg13 arg14 (k0_off9 k) (k0_off9_inb k) := rfl

theorem t12_body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (k : Fin k0_t12_loop.trips) (x : BitVec 32) :
    k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 k x = (do
        colFin i arg15 (k0_off1048 k) (k0_off1048_inb k)
        colFin i arg15 (k0_off1049 k) (k0_off1049_inb k)
        colFin i arg15 (k0_off1050 k) (k0_off1050_inb k)
        colFin i arg15 (k0_off1051 k) (k0_off1051_inb k)
        colFin i arg15 (k0_off1052 k) (k0_off1052_inb k)
        colFin i arg15 (k0_off1053 k) (k0_off1053_inb k)
        colFin i arg15 (k0_off1054 k) (k0_off1054_inb k)
        colFin i arg15 (k0_off1055 k) (k0_off1055_inb k)
        pure 0#32) := rfl

theorem cast_fill (y : S1x16.Idx) : shapeCast S1x16 (k0_pay621 (F := F)) shapeCasts_S16_S1x16 y = negInf (F := F) := rfl
theorem cast_fin (u : Vec F S1x16 .f32) (y : S1x16.Idx) : shapeCast S1x16 (k0_pay613 u) shapeCasts_S16_S1x16 y = finV (u y) := by
  have hu := congrFun (shapeCast_shapeCast u shapeCasts_S1x16_S16 shapeCasts_S16_S1x16) y
  show finV (shapeCast S1x16 (shapeCast S16 u _) _ y) = _
  rw [hu]

section Run

variable (d : Dev nD) (L : grid0.Coords)

theorem wp_colFill (f : S321x128.Idx → Elt F .f32) (r n : ℕ) (off : Fin 2 → ℕ) (ho : off = ![r, n]) (ha : ∀ a, off a + S1x16.size a ≤ S321x128.size a) (Q : PUnit → sProp (MM F)) :
    accPts d L (mapTo (fun _ => negInf) f r n)
      ⊢ iprop((accPts d L (mapTo (fun _ => negInf) f r (n + 16)) -∗ Q ⟨⟩)
        -∗ wp frame (wpE (defs₀ (F := F)) 𝒱₀ (thr d L) none) Set.univ (colFill L accV off ha) Q) := by
  unfold colFill
  iintro Ha HQ
  iapply (wp_load 𝒱₀ (thr d L) none Set.univ (m := accV) (S := Finset.univ) (Finset.subset_univ _)) $$ Ha; iintro Ha
  iapply (wp_store_writes₀ 𝒱₀ (thr d L) none Set.univ (m := accV) (r := Rect.unit (s := S321x128) off S1x16.size ha) (S := Finset.univ) (Finset.subset_univ _)) $$ Ha; iintro Ha
  sl_step
  iapply HQ
  rw [← put_mapTo (fun _ => negInf) f off r n ho (shapeCast S1x16 (k0_pay621 (F := F)) shapeCasts_S16_S1x16) ha (fun y => cast_fill y), ← writes_acc (mapTo (fun _ => negInf) f r n) off ha]
  iexact Ha

theorem wp_colFin (f : S321x128.Idx → Elt F .f32) (r n : ℕ) (off : Fin 2 → ℕ) (ho : off = ![r, n]) (ha : ∀ a, off a + S1x16.size a ≤ S321x128.size a) (Q : PUnit → sProp (MM F)) :
    accPts d L (mapTo finV f r n)
      ⊢ iprop((accPts d L (mapTo finV f r (n + 16)) -∗ Q ⟨⟩)
        -∗ wp frame (wpE (defs₀ (F := F)) 𝒱₀ (thr d L) none) Set.univ (colFin L accV off ha) Q) := by
  unfold colFin
  iintro Ha HQ
  iapply (wp_load 𝒱₀ (thr d L) none Set.univ (m := accV) (S := Finset.univ) (Finset.subset_univ _)) $$ Ha; iintro Ha
  iapply (wp_load 𝒱₀ (thr d L) none Set.univ (m := accV) (S := Finset.univ) (Finset.subset_univ _)) $$ Ha; iintro Ha
  iapply (wp_store_writes₀ 𝒱₀ (thr d L) none Set.univ (m := accV) (r := Rect.unit (s := S321x128) off S1x16.size ha) (S := Finset.univ) (Finset.subset_univ _)) $$ Ha; iintro Ha
  sl_step
  iapply HQ
  rw [← put_mapTo finV f off r n ho (shapeCast S1x16 (k0_pay613 ((accV).view.readAt (Elt F) (Rect.unit (s := S321x128) off S1x16.size ha).toLoadRect (mapTo finV f r n))) shapeCasts_S16_S1x16) ha
    (fun y => by rw [cast_fin, readAt_acc]), ← writes_acc (mapTo finV f r n) off ha]
  iexact Ha

/-- A list with its first `n` words filled. -/
def fillTo (w : BitVec 32) (l : S16384.Idx → BitVec 32) (n : ℕ) : S16384.Idx → BitVec 32 := fun x => if (x 0).val < n then w else l x

theorem fillTo_zero (w : BitVec 32) (l : S16384.Idx → BitVec 32) : fillTo w l 0 = l := by funext x; simp [fillTo]
theorem fillTo_full (w : BitVec 32) (l : S16384.Idx → BitVec 32) : fillTo w l 16384 = fun _ => w := by
  funext x
  have : (x 0).val < 16384 := (x 0).isLt
  simp [fillTo, this]

theorem put_fillTo (w : BitVec 32) (l : S16384.Idx → BitVec 32) (off : Fin 1 → ℕ) (n : ℕ) (ho : off 0 = n) (v : S16.Idx → BitVec 32) (hv : ∀ y, v y = w) :
    VecWindow.put (s := S16384) (fillTo w l n) off S16.size v = fillTo w l (n + 16) := by
  funext x
  have s0 : S16.size 0 = 16 := rfl
  unfold VecWindow.put fillTo
  split
  · rename_i h
    have h0 := h 0
    rw [ho, s0] at h0
    rw [hv, if_pos (by omega)]
  · rename_i h
    by_cases hx : (x 0).val < n
    · rw [if_pos hx, if_pos (by omega)]
    · rw [if_neg hx, if_neg]
      intro h0
      apply h
      intro a
      match a with
      | 0 => rw [ho, s0]; omega

theorem writes_srcl (l : S16384.Idx → BitVec 32) (off : Fin 1 → ℕ) (inb : ∀ a, off a + S16.size a ≤ S16384.size a) (w : Vec F S16 .i32) :
    (srclV).view.writes (Elt F) l [⟨Rect.unit (s := S16384) off S16.size inb, w⟩] = VecWindow.put (s := S16384) l off S16.size w :=
  View.read_writes_cons_put (Val := Elt F) (srclV).view l inb w [] rfl
theorem writes_dstl (l : S16384.Idx → BitVec 32) (off : Fin 1 → ℕ) (inb : ∀ a, off a + S16.size a ≤ S16384.size a) (w : Vec F S16 .i32) :
    (dstlV).view.writes (Elt F) l [⟨Rect.unit (s := S16384) off S16.size inb, w⟩] = VecWindow.put (s := S16384) l off S16.size w :=
  View.read_writes_cons_put (Val := Elt F) (dstlV).view l inb w [] rfl

theorem wp_listFill (ls ld : S16384.Idx → BitVec 32) (n : ℕ) (off : Fin 1 → ℕ) (ho : off 0 = n) (ha : ∀ a, off a + S16.size a ≤ S16384.size a) (Q : BitVec 32 → sProp (MM F)) :
    iprop(((srclV).view.loc (thr d L) ↦{fullShare} (fillTo 0#32 ls n)) ∗ ((dstlV).view.loc (thr d L) ↦{fullShare} (fillTo 320#32 ld n)))
      ⊢ iprop((((srclV).view.loc (thr d L) ↦{fullShare} (fillTo 0#32 ls (n + 16))) ∗ ((dstlV).view.loc (thr d L) ↦{fullShare} (fillTo 320#32 ld (n + 16))) -∗ Q 0#32)
        -∗ wp frame (wpE (defs₀ (F := F)) 𝒱₀ (thr d L) none) Set.univ (listFill L srclV dstlV off ha) Q) := by
  unfold listFill
  iintro ⟨Hs, Hd⟩ HQ
  iapply (wp_load 𝒱₀ (thr d L) none Set.univ (m := srclV) (S := Finset.univ) (Finset.subset_univ _)) $$ Hs; iintro Hs
  iapply (wp_store_writes₀ 𝒱₀ (thr d L) none Set.univ (m := srclV) (r := Rect.unit (s := S16384) off S16.size ha) (S := Finset.univ) (Finset.subset_univ _)) $$ Hs; iintro Hs
  iapply (wp_load 𝒱₀ (thr d L) none Set.univ (m := dstlV) (S := Finset.univ) (Finset.subset_univ _)) $$ Hd; iintro Hd
  iapply (wp_store_writes₀ 𝒱₀ (thr d L) none Set.univ (m := dstlV) (r := Rect.unit (s := S16384) off S16.size ha) (S := Finset.univ) (Finset.subset_univ _)) $$ Hd; iintro Hd
  rw [show ∀ {β : Type} (f : PUnit → Prog (TileEff F L) β), (Prog.ret (E := TileEff F L) PUnit.unit).bind f = f PUnit.unit from fun _ => rfl]
  sl_step
  iapply HQ
  isplitl [Hs]
  · rw [← put_fillTo 0#32 ls off n ho k0_pay622 (fun _ => rfl), ← writes_srcl (F := F) (fillTo 0#32 ls n) off ha k0_pay622]
    iexact Hs
  · rw [← put_fillTo 320#32 ld off n ho k0_pay623 (fun _ => rfl), ← writes_dstl (F := F) (fillTo 320#32 ld n) off ha k0_pay623]
    iexact Hd

end Run

end Cert.Proof.Scan

end
-- ==== Proof.Words.lean ====
/-
  The words that count the batches: what they hold, and the check that the count passes.
-/
module

public import proofs.«01_k».proof.Proof.Base

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

/-- The number of batches of 128 edges as the kernel computes it from the count. -/
def nrW (v19 : BitVec 32) : BitVec 32 :=
  let v27 := Scalar.subi (Scalar.addi v19 128#32) 1#32
  let v33 := Scalar.subi (Scalar.extui (Scalar.cmpi .sgt v27 0#32)) (Scalar.extui (Scalar.cmpi .slt v27 0#32) : BitVec 32)
  let v38 := Scalar.subi (Scalar.extui (Scalar.cmpi .sgt 128#32 0#32)) (Scalar.extui (Scalar.cmpi .slt 128#32 0#32) : BitVec 32)
  let v42 := Scalar.andi (Scalar.cmpi .ne v33 v38) (Scalar.cmpi .ne (Scalar.remsi v27 128#32) 0#32)
  let v28 := Scalar.divsi v27 128#32
  Scalar.select v42 (Scalar.subi v28 1#32) v28

/-- Half the number of batches, rounded up, as the kernel computes it. -/
def hfW (v44 : BitVec 32) : BitVec 32 :=
  let v48 := Scalar.addi v44 1#32
  let v54 := Scalar.subi (Scalar.extui (Scalar.cmpi .sgt v48 0#32)) (Scalar.extui (Scalar.cmpi .slt v48 0#32) : BitVec 32)
  let v59 := Scalar.subi (Scalar.extui (Scalar.cmpi .sgt 2#32 0#32)) (Scalar.extui (Scalar.cmpi .slt 2#32 0#32) : BitVec 32)
  let v63 := Scalar.andi (Scalar.cmpi .ne v54 v59) (Scalar.cmpi .ne (Scalar.remsi v48 2#32) 0#32)
  let v49 := Scalar.divsi v48 2#32
  Scalar.select v63 (Scalar.subi v49 1#32) v49

/-- The loop over the pairs of batches. -/
def pairLoop (v44 : BitVec 32) : Scf.Loop 32 :=
  ⟨0#32, Scalar.addi 0#32 (Scalar.muli (Scalar.divsi (Scalar.subi (hfW v44) 0#32) 1#32) 1#32), 1#32⟩

/-- The bit that says that a batch is there. -/
def ltW (v44 w : BitVec 32) : BitVec 1 := Scalar.cmpi .ne (Scalar.extui (Scalar.cmpi .slt w v44) : BitVec 32) 0#32

theorem t6_eq (v19 : BitVec 32) : k0_t6_loop v19 = pairLoop (nrW v19) := rfl

theorem nr_all : ∀ c : Fin 16385, (nrW (BitVec.ofNat 32 c.val)).toNat = (c.val + 127) / 128 := by decide +kernel

/-- The number of batches. -/
def nr (v19 : BitVec 32) : ℕ := (v19.toNat + 127) / 128

theorem nr_toNat (v19 : BitVec 32) (h : v19.toNat ≤ 16384) : (nrW v19).toNat = nr v19 := by
  have := nr_all ⟨v19.toNat, by omega⟩
  rwa [BitVec.ofNat_toNat, BitVec.setWidth_eq] at this

theorem nr_le (v19 : BitVec 32) (h : v19.toNat ≤ 16384) : nr v19 ≤ 128 := by unfold nr; omega

theorem nrW_eq (v19 : BitVec 32) (h : v19.toNat ≤ 16384) : nrW v19 = BitVec.ofNat 32 (nr v19) := by
  rw [← nr_toNat v19 h, BitVec.ofNat_toNat, BitVec.setWidth_eq]

theorem pair_all : ∀ n : Fin 129, (pairLoop (BitVec.ofNat 32 n.val)).OK ∧ (pairLoop (BitVec.ofNat 32 n.val)).trips = (n.val + 1) / 2 := by decide +kernel

theorem t6_ok (v19 : BitVec 32) (h : v19.toNat ≤ 16384) : (k0_t6_loop v19).OK := by
  have := nr_le v19 h
  rw [t6_eq, nrW_eq v19 h]
  exact (pair_all ⟨nr v19, by omega⟩).1

theorem t6_trips (v19 : BitVec 32) (h : v19.toNat ≤ 16384) : (k0_t6_loop v19).trips = (nr v19 + 1) / 2 := by
  have := nr_le v19 h
  rw [t6_eq, nrW_eq v19 h]
  exact (pair_all ⟨nr v19, by omega⟩).2

theorem t6_lt (v19 : BitVec 32) (h : v19.toNat ≤ 16384) (k : Fin (k0_t6_loop v19).trips) : k.val < 64 := by
  have := nr_le v19 h
  have h1 : k.val < (nr v19 + 1) / 2 := lt_of_lt_of_eq k.isLt (t6_trips v19 h)
  omega

theorem ltW_all : ∀ n : Fin 129, ∀ a : Fin 160, ltW (BitVec.ofNat 32 n.val) (BitVec.ofNat 32 a.val) = 1#1 ↔ a.val < n.val := by decide +kernel

theorem ltW_iff (v19 : BitVec 32) (h : v19.toNat ≤ 16384) (w : BitVec 32) (a : ℕ) (hw : w = BitVec.ofNat 32 a) (ha : a < 160) :
    ltW (nrW v19) w = 1#1 ↔ a < nr v19 := by
  have := nr_le v19 h
  rw [nrW_eq v19 h, hw]
  exact ltW_all ⟨nr v19, by omega⟩ ⟨a, ha⟩

/-- The number of the first batch of pair `k`. -/
def evenW (k : ℕ) : BitVec 32 := Scalar.addi (Scalar.muli 2#32 (Scf.iv 0#32 1#32 k)) 0#32
/-- The number of the second batch of pair `k`. -/
def oddW (k : ℕ) : BitVec 32 := Scalar.addi (Scalar.muli 2#32 (Scf.iv 0#32 1#32 k)) 1#32

theorem even_all : ∀ k : Fin 64, evenW k.val = BitVec.ofNat 32 (2 * k.val) ∧ Scalar.addi (evenW k.val) 1#32 = BitVec.ofNat 32 (2 * k.val + 1)
    ∧ oddW k.val = BitVec.ofNat 32 (2 * k.val + 1) ∧ Scalar.addi (oddW k.val) 1#32 = BitVec.ofNat 32 (2 * k.val + 2)
    ∧ (Scalar.muli (Scalar.addi (evenW k.val) 1#32) 128#32).toNat = 128 * (2 * k.val + 1)
    ∧ (Scalar.muli (Scalar.addi (oddW k.val) 1#32) 128#32).toNat = 128 * (2 * k.val + 2) := by decide +kernel

theorem group_all : ∀ k : Fin 64, ∀ t : Fin 8,
    (Scalar.addi (Scalar.muli (evenW k.val) 128#32) (Scalar.muli (Scf.iv 0#32 1#32 t.val) 16#32)).toNat = 128 * (2 * k.val) + 16 * t.val
    ∧ (Scalar.addi (Scalar.muli (oddW k.val) 128#32) (Scalar.muli (Scf.iv 0#32 1#32 t.val) 16#32)).toNat = 128 * (2 * k.val + 1) + 16 * t.val := by decide +kernel

section Pair

variable (v19 : BitVec 32) (h : v19.toNat ≤ 16384) (k : Fin (k0_t6_loop v19).trips)
include h

theorem cond4_iff : k0_cond4 v19 k = 1#1 ↔ 2 * k.val < nr v19 := by
  have hk := t6_lt v19 h k
  exact ltW_iff v19 h _ _ (even_all ⟨k.val, hk⟩).1 (by omega)

theorem cond5_iff : k0_cond5 v19 k = 1#1 ↔ 2 * k.val + 1 < nr v19 := by
  have hk := t6_lt v19 h k
  exact ltW_iff v19 h _ _ (even_all ⟨k.val, hk⟩).2.1 (by omega)

theorem cond6_iff : k0_cond6 v19 k = 1#1 ↔ 2 * k.val + 1 < nr v19 := by
  have hk := t6_lt v19 h k
  exact ltW_iff v19 h _ _ (even_all ⟨k.val, hk⟩).2.2.1 (by omega)

theorem cond7_iff : k0_cond7 v19 k = 1#1 ↔ 2 * k.val + 2 < nr v19 := by
  have hk := t6_lt v19 h k
  exact ltW_iff v19 h _ _ (even_all ⟨k.val, hk⟩).2.2.2.1 (by omega)

theorem off16_eq : k0_off16 v19 k = ![128 * (2 * k.val + 1)] := by
  have hk := t6_lt v19 h k
  exact congrArg (fun n => (![n] : Fin 1 → ℕ)) (even_all ⟨k.val, hk⟩).2.2.2.2.1

theorem off274_eq : k0_off274 v19 k = ![128 * (2 * k.val + 2)] := by
  have hk := t6_lt v19 h k
  exact congrArg (fun n => (![n] : Fin 1 → ℕ)) (even_all ⟨k.val, hk⟩).2.2.2.2.2

theorem off17_eq (t : Fin k0_t7_loop.trips) : k0_off17 v19 k t = ![128 * (2 * k.val) + 16 * t.val] := by
  have hk := t6_lt v19 h k
  exact congrArg (fun n => (![n] : Fin 1 → ℕ)) (group_all ⟨k.val, hk⟩ ⟨t.val, t.isLt⟩).1

theorem off275_eq (t : Fin k0_t8_loop.trips) : k0_off275 v19 k t = ![128 * (2 * k.val + 1) + 16 * t.val] := by
  have hk := t6_lt v19 h k
  exact congrArg (fun n => (![n] : Fin 1 → ℕ)) (group_all ⟨k.val, hk⟩ ⟨t.val, t.isLt⟩).2

end Pair

/-- The remainder loop makes no trip. -/
theorem t9_trips (v19 : BitVec 32) : (k0_t9_loop v19).trips = 0 := Scf.rem_trips 0#32 _

theorem t9_ok (v19 : BitVec 32) : (k0_t9_loop v19).OK := Scf.rem_ok 0#32 _

theorem t9_none (v19 : BitVec 32) (k : Fin (k0_t9_loop v19).trips) : False := Nat.not_lt_zero k.val (lt_of_lt_of_eq k.isLt (t9_trips v19))

theorem trips7' : k0_t7_loop.trips = 8 := by decide +kernel
theorem trips8' : k0_t8_loop.trips = 8 := by decide +kernel

/-- A count within the lists passes the kernel's check. -/
theorem chk3_of (v19 : BitVec 32) (h : v19.toNat ≤ 16384) : k0_chk3 v19 := by
  have hn := nr_le v19 h
  refine ⟨t6_ok v19 h, ?_, ?_, ?_, ?_, t9_ok v19, fun k => (t9_none v19 k).elim, fun k => (t9_none v19 k).elim, fun k => (t9_none v19 k).elim,
    fun k => (t9_none v19 k).elim⟩
  · intro k h4 h5 a
    have h5' := (cond5_iff v19 h k).1 h5
    have : a = 0 := Subsingleton.elim _ _
    subst this
    rw [off16_eq v19 h k]
    show 128 * (2 * k.val + 1) + 128 ≤ 16384
    omega
  · intro k t h4 a
    have h4' := (cond4_iff v19 h k).1 h4
    have ht : t.val < 8 := trips7' ▸ t.isLt
    have : a = 0 := Subsingleton.elim _ _
    subst this
    rw [off17_eq v19 h k]
    show 128 * (2 * k.val) + 16 * t.val + 16 ≤ 16384
    omega
  · intro k h6 h7 a
    have h7' := (cond7_iff v19 h k).1 h7
    have : a = 0 := Subsingleton.elim _ _
    subst this
    rw [off274_eq v19 h k]
    show 128 * (2 * k.val + 2) + 128 ≤ 16384
    omega
  · intro k t h6 a
    have h6' := (cond6_iff v19 h k).1 h6
    have ht : t.val < 8 := trips8' ▸ t.isLt
    have : a = 0 := Subsingleton.elim _ _
    subst this
    rw [off275_eq v19 h k]
    show 128 * (2 * k.val + 1) + 16 * t.val + 16 ≤ 16384
    omega

end Cert.Proof.Scan

end
-- ==== Proof.Front.lean ====
/-
  The first part of a tile: the rows and the lists filled, the edges scanned.
-/
module

public import proofs.«01_k».proof.Proof.Half
public import proofs.«01_k».proof.Proof.Rows
public import proofs.«01_k».proof.Proof.Words

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

theorem trips1 : k0_t1_loop.trips = 321 := by decide +kernel
theorem trips2 : k0_t2_loop.trips = 1024 := by decide +kernel

theorem mapRows_full (g : Elt F .f32 → Elt F .f32) (f : S321x128.Idx → Elt F .f32) : mapRows g f 321 = fun x => g (f x) := by
  funext x
  have h : (x 0).val < 321 := (x 0).isLt
  simp only [mapRows, if_pos h]

/-- The end of the scan: the count checked and stored. -/
def frontEnd (i : grid0.Coords) (cb : Memref sig Kind.scVector Space.vmem S16 EltTy.i32) (v1 v19 : BitVec 32) : Prog (TileEff F i) (Σ' (v1 : BitVec 32) (v19 : BitVec 32), k0_chk3 v19) := do
  have k0_hw3 : k0_chk3 v19 := (← Prog.lift (TpuEff.assume (k0_chk3 v19) (k0_chk3.dec v19))).down
  let _u : Vec F S16 .i32 ← Prog.lift (.load cb (Rect.unit (s := S16) ![0] S16.size inb_S16_S16_0).toLoadRect (View.loadsAt_vmem h_S16))
  Prog.lift (.store cb (Rect.unit (s := S16) ![0] S16.size inb_S16_S16_0) (k0_pay636 v19) Finset.univ (View.stores_vmem_bits_univ h_S16 rfl) (.inl rfl))
  pure ⟨v1, v19, k0_hw3⟩

/-- The number of a tile, as a word. -/
def tileW (i : grid0.Coords) : BitVec 32 := Scalar.addi (Scalar.muli (BitVec.ofNat 32 (i 1).val) 2#32) (BitVec.ofNat 32 (i 0).val)

set_option maxRecDepth 65536 in
set_option maxHeartbeats 4000000 in
theorem part131_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) :
    k0_part131_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4
      = (Scf.Loop.for k0_t1_loop k0_t1_ok 0#32 (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4)) >>= fun _ =>
        (Scf.Loop.for k0_t2_loop k0_t2_ok 0#32 (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4)) >>= fun _ =>
        startChunk i arg3 arg4 arg9 arg10 harg9 harg10 arg19 ![0] inb_S320000_S3200_0 fun _ =>
        startChunk i arg3 arg4 arg11 arg12 harg11 harg12 arg20 ![3200] inb_S320000_S3200_3200 fun _ =>
        (Scf.Loop.for k0_t3_loop k0_t3_ok 0#32 (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4)) >>= fun v19 => frontEnd i arg18 (tileW i) v19 := rfl

theorem scanned_init (L : grid0.Coords) (src dst : ℕ → BitVec 32) : Scanned L src dst 0 0#32 (fun _ => 0#32) (fun _ => 320#32) where
  srcs := LInv.init _ _ _ _ _ _ (by unfold okSrc; decide)
  dsts := LInv.init _ _ _ _ _ _ (by unfold okDst; decide)
  count _ := rfl

section Front

variable (d : Dev nD) (L : grid0.Coords)

theorem wp_loop1 (f0 : S321x128.Idx → Elt F .f32) (Q : BitVec 32 → sProp (MM F)) :
    accPts d L f0
      ⊢ iprop((∀ v, accPts d L (fun _ => negInf) -∗ Q v)
        -∗ wp frame (wpE (defs₀ (F := F)) 𝒱₀ (thr d L) none) Set.univ (Scf.Loop.for k0_t1_loop k0_t1_ok 0#32 (k0_t1_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4)) Q) := by
  iintro Ha HQ
  iapply (Scf.wp_for frame (wpE (defs₀ (F := F)) 𝒱₀ (thr d L) none) Set.univ _ _ _ k0_t1_ok 0#32 _ (fun k _ => accPts d L (mapRows (fun _ => negInf) f0 k)) ?hb) $$ [Ha HQ]
  case hb =>
    intro k c
    rw [t1_body_eq]
    rw [← mapTo_zero (fun _ => negInf) (mapRows (fun _ => negInf) f0 k.val) k.val]
    iintro Ha
    rw [wp_bind]
    iapply (wp_colFill (F := F) d L (mapRows (fun _ => negInf) f0 k.val) k.val 0 (k0_off1 k) (k0_off1_eq k) (k0_off1_inb k)) $$ Ha; iintro Ha
    rw [wp_bind]
    iapply (wp_colFill (F := F) d L (mapRows (fun _ => negInf) f0 k.val) k.val 16 (k0_off2 k) (k0_off2_eq k) (k0_off2_inb k)) $$ Ha; iintro Ha
    rw [wp_bind]
    iapply (wp_colFill (F := F) d L (mapRows (fun _ => negInf) f0 k.val) k.val 32 (k0_off3 k) (k0_off3_eq k) (k0_off3_inb k)) $$ Ha; iintro Ha
    rw [wp_bind]
    iapply (wp_colFill (F := F) d L (mapRows (fun _ => negInf) f0 k.val) k.val 48 (k0_off4 k) (k0_off4_eq k) (k0_off4_inb k)) $$ Ha; iintro Ha
    rw [wp_bind]
    iapply (wp_colFill (F := F) d L (mapRows (fun _ => negInf) f0 k.val) k.val 64 (k0_off5 k) (k0_off5_eq k) (k0_off5_inb k)) $$ Ha; iintro Ha
    rw [wp_bind]
    iapply (wp_colFill (F := F) d L (mapRows (fun _ => negInf) f0 k.val) k.val 80 (k0_off6 k) (k0_off6_eq k) (k0_off6_inb k)) $$ Ha; iintro Ha
    rw [wp_bind]
    iapply (wp_colFill (F := F) d L (mapRows (fun _ => negInf) f0 k.val) k.val 96 (k0_off7 k) (k0_off7_eq k) (k0_off7_inb k)) $$ Ha; iintro Ha
    rw [wp_bind]
    iapply (wp_colFill (F := F) d L (mapRows (fun _ => negInf) f0 k.val) k.val 112 (k0_off8 k) (k0_off8_eq k) (k0_off8_inb k)) $$ Ha; iintro Ha
    sl_step
    rw [← mapTo_full]
    iexact Ha
  isplitr [HQ]
  · rw [mapRows_zero]; iexact Ha
  iintro %v Ha
  rw [show (Scf.trips k0_t1_loop.lb k0_t1_loop.ub k0_t1_loop.st) = 321 from trips1, mapRows_full]
  iapply HQ
  iexact Ha

theorem wp_loop2 (ls ld : S16384.Idx → BitVec 32) (Q : BitVec 32 → sProp (MM F)) :
    lists (F := F) d L ls ld
      ⊢ iprop((∀ v, lists (F := F) d L (fun _ => 0#32) (fun _ => 320#32) -∗ Q v)
        -∗ wp frame (wpE (defs₀ (F := F)) 𝒱₀ (thr d L) none) Set.univ (Scf.Loop.for k0_t2_loop k0_t2_ok 0#32 (k0_t2_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4)) Q) := by
  iintro Ha HQ
  iapply (Scf.wp_for frame (wpE (defs₀ (F := F)) 𝒱₀ (thr d L) none) Set.univ _ _ _ k0_t2_ok 0#32 _ (fun k _ => lists (F := F) d L (fillTo 0#32 ls (16 * k)) (fillTo 320#32 ld (16 * k))) ?hb) $$ [Ha HQ]
  case hb =>
    intro k c
    rw [t2_body_eq]
    iintro Ha
    iapply (wp_listFill (F := F) d L ls ld (16 * k.val) (k0_off9 k) (by rw [k0_off9_eq]; rfl) (k0_off9_inb k)) $$ Ha
    iintro Ha
    iexact Ha
  isplitr [HQ]
  · rw [fillTo_zero, fillTo_zero]; iexact Ha
  iintro %v Ha
  rw [show 16 * (Scf.trips k0_t2_loop.lb k0_t2_loop.ub k0_t2_loop.st) = 16384 from by rw [show (Scf.trips k0_t2_loop.lb k0_t2_loop.ub k0_t2_loop.st) = 1024 from trips2], fillTo_full, fillTo_full]
  iapply HQ
  iexact Ha

variable (gs gd : S320000.Idx → BitVec 32) (q q' : PosShare TreeShare)
variable (hsrc : ∀ e, (seqOf gs e).toNat < 10000) (hdst : ∀ e, (seqOf gd e).toNat < 10000)

/-- The credit of a chunk's copy. -/
abbrev chunkN : ℕ := (csA).view.dmaCredit
theorem cred_cdA : (cdA).view.dmaCredit = chunkN := by decide
theorem cred_csB : (csB).view.dmaCredit = chunkN := by decide
theorem cred_cdB : (cdB).view.dmaCredit = chunkN := by decide
theorem cred_pos : 0 < chunkN := by decide

/-- The state of the scan between two trips. -/
def tripInv (O : CellTallies nD τ sig (HIx 2)) (W : Waits sig (HIx 2)) (k : ℕ) (cnt : BitVec 32) : sProp (MM F) :=
  iprop(∃ ls ld, ⌜cnt.toNat ≤ 16384 ∧ Scanned L (seqOf gs) (seqOf gd) (6400 * k) cnt ls ld⌝
    ∗ slot (F := F) d L gs gd q csA cdA cc0_scratch10 chunkN (6400 * k) ∗ slot (F := F) d L gs gd q' csB cdB cc0_scratch11 chunkN (6400 * k + 3200)
    ∗ lists (F := F) d L ls ld ∗ owesA (F := F) d L O W ∗ Transfers.MayWaits (thr d L) (default : HIx 2) O)

include hsrc hdst

set_option maxHeartbeats 2000000 in
theorem wp_loop3 (O : CellTallies nD τ sig (HIx 2)) (W : Waits sig (HIx 2)) (Q : BitVec 32 → sProp (MM F)) :
    tripInv (F := F) d L gs gd q q' O W 0 0#32
      ⊢ iprop((∀ v, tripInv (F := F) d L gs gd q q' O W 50 v -∗ Q v)
        -∗ wp frame (wpE (defs₀ (F := F)) 𝒱₀ (thr d L) none) Set.univ (Scf.Loop.for k0_t3_loop k0_t3_ok 0#32 (k0_t3_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4)) Q) := by
  iintro Ha HQ
  iapply (Scf.wp_for frame (wpE (defs₀ (F := F)) 𝒱₀ (thr d L) none) Set.univ _ _ _ k0_t3_ok 0#32 _ (tripInv (F := F) d L gs gd q q' O W) ?hb) $$ [Ha HQ]
  case hb =>
    intro k c
    rw [t3_body_eq]
    have hk : k.val < 50 := lt_of_lt_of_eq k.isLt trips3
    unfold tripInv
    iintro ⟨%ls, %ld, %hp, HA, HB, Hl, HO, #Hmw⟩
    obtain ⟨hc, hS⟩ := hp
    iapply (wp_half (F := F) d L gs gd q hsrc hdst (cs := csA) (cd := cdA) cc0_scratch10 chunkN rfl cred_cdA cred_pos (Memref.isWhole_whole _) (Memref.isWhole_whole _) (6400 * k.val) (6400 * (k.val + 1)) (by omega)
      (k0_cond1 k) ((cond1_iff k).trans (by omega)) (k0_off11 k) (k0_off11_inb k) (by rw [k0_off11_eq]; show 6400 * k.val + 6400 = _; omega) O W c hc ls ld hS _ _) $$ [HA Hl HO]
    · isplitl [HA]; · iexact HA
      isplitl [Hl]; · iexact Hl
      isplitl [HO]; · iexact HO
      iexact Hmw
    iintro %c1 %ls1 %ld1 %hp1 ⟨HA, Hl, HO⟩
    obtain ⟨hc1, hS1⟩ := hp1
    iapply (wp_half (F := F) d L gs gd q' hsrc hdst (cs := csB) (cd := cdB) cc0_scratch11 chunkN cred_csB cred_cdB cred_pos (Memref.isWhole_whole _) (Memref.isWhole_whole _) (6400 * k.val + 3200) (6400 * (k.val + 1) + 3200) (by omega)
      (k0_cond2 k) ((cond2_iff k).trans (by omega)) (k0_off13 k) (k0_off13_inb k) (by rw [k0_off13_eq]; show 6400 * k.val + 9600 = _; omega) O W c1 hc1 ls1 ld1 hS1 _ _) $$ [HB Hl HO]
    · isplitl [HB]; · iexact HB
      isplitl [Hl]; · iexact Hl
      isplitl [HO]; · iexact HO
      iexact Hmw
    iintro %c2 %ls2 %ld2 %hp2 ⟨HB, Hl, HO⟩
    obtain ⟨hc2, hS2⟩ := hp2
    sl_step
    iexists ls2, ld2
    isplitr
    · ipureintro
      refine ⟨hc2, ?_⟩
      rw [show 6400 * (k.val + 1) = 6400 * k.val + 3200 + 3200 by omega]
      exact hS2
    isplitl [HA]; · iexact HA
    isplitl [HB]; · iexact HB
    isplitl [Hl]; · iexact Hl
    isplitl [HO]; · iexact HO
    iexact Hmw
  isplitr [HQ]; · iexact Ha
  iintro %v Ha
  rw [show (Scf.trips k0_t3_loop.lb k0_t3_loop.ub k0_t3_loop.st) = 50 from trips3]
  iapply HQ
  iexact Ha

omit hsrc hdst in
theorem slot_done (qq : PosShare TreeShare) (cs cd : ChunkRef) (sem : DmaSems sig S_) (N n0 : ℕ) (h : ¬ n0 < 320000) :
    slot (F := F) d L gs gd qq cs cd sem N n0 = idle (F := F) d L gs gd qq cs cd sem := by
  unfold slot; rw [if_neg h]

omit hsrc hdst in
/-- The count's buffer after its store: the count in every word. -/
theorem count_stored (fc : S16.Idx → BitVec 32) (v19 : BitVec 32) (y : S16.Idx) :
    (cntV).view.writes (Elt F) fc [⟨Rect.unit (s := S16) ![0] S16.size inb_S16_S16_0, k0_pay636 v19⟩] y = v19 := by
  have h := congrFun (View.read_writes_cons_put (Val := Elt F) (cntV).view fc inb_S16_S16_0 (k0_pay636 v19) [] rfl) y
  refine Eq.trans h ?_
  have hy : (y 0).val < 16 := (y 0).isLt
  unfold VecWindow.put
  rw [dif_pos (fun a => match a with
    | 0 => ⟨Nat.zero_le _, by show (y 0).val < 0 + 16; omega⟩)]
  show 0#32 + v19 = v19
  exact BitVec.zero_add v19

omit hsrc hdst in
theorem wp_frontEnd (v1 v19 : BitVec 32) (hc : v19.toNat ≤ 16384) (fc : S16.Idx → BitVec 32) (Q : (Σ' (v1 : BitVec 32) (v19 : BitVec 32), k0_chk3 v19) → sProp (MM F)) :
    ((cntV).view.loc (thr d L) ↦{fullShare} fc)
      ⊢ iprop(((∃ fc : S16.Idx → BitVec 32, ⌜∀ y, fc y = v19⌝ ∗ ((cntV).view.loc (thr d L) ↦{fullShare} fc)) -∗ Q ⟨v1, v19, chk3_of v19 hc⟩)
        -∗ wp frame (wpE (defs₀ (F := F)) 𝒱₀ (thr d L) none) Set.univ (frontEnd (F := F) L cntV v1 v19) Q) := by
  unfold frontEnd
  unfold Prog.lift
  iintro Hc HQ
  rw [wp_bind]
  rw [wp_assume_of 𝒱₀ (thr d L) none Set.univ (chk3_of v19 hc)]
  sl_step
  iapply (wp_load 𝒱₀ (thr d L) none Set.univ (m := cntV) (S := Finset.univ) (Finset.subset_univ _)) $$ Hc; iintro Hc
  iapply (wp_store_writes₀ 𝒱₀ (thr d L) none Set.univ (m := cntV) (r := Rect.unit (s := S16) ![0] S16.size inb_S16_S16_0) (S := Finset.univ) (Finset.subset_univ _)) $$ Hc; iintro Hc
  rw [show ∀ {β : Type} (f : PUnit → Prog (TileEff F L) β), (Prog.ret (E := TileEff F L) PUnit.unit).bind f = f PUnit.unit from fun _ => rfl]
  sl_step
  iapply HQ
  iexists _
  isplitr
  swap; · iexact Hc
  ipureintro
  exact count_stored (F := F) fc v19

/-- The state of a tile after its scan. -/
def frontPost (O : CellTallies nD τ sig (HIx 2)) (W : Waits sig (HIx 2)) (v19 : BitVec 32) (ls ld : S16384.Idx → BitVec 32) : sProp (MM F) :=
  iprop(accPts d L (fun _ => negInf) ∗ lists (F := F) d L ls ld
    ∗ idle (F := F) d L gs gd q csA cdA cc0_scratch10 ∗ idle (F := F) d L gs gd q' csB cdB cc0_scratch11
    ∗ (∃ fc : S16.Idx → BitVec 32, ⌜∀ y, fc y = v19⌝ ∗ ((cntV).view.loc (thr d L) ↦{fullShare} fc)) ∗ owesA (F := F) d L O W)

set_option maxHeartbeats 2000000 in
theorem wp_front (f0 : S321x128.Idx → Elt F .f32) (ls0 ld0 : S16384.Idx → BitVec 32) (fc : S16.Idx → BitVec 32) (O : CellTallies nD τ sig (HIx 2)) (W : Waits sig (HIx 2))
    (Q : (Σ' (v1 : BitVec 32) (v19 : BitVec 32), k0_chk3 v19) → sProp (MM F)) :
    iprop(accPts d L f0 ∗ lists (F := F) d L ls0 ld0 ∗ idle (F := F) d L gs gd q csA cdA cc0_scratch10 ∗ idle (F := F) d L gs gd q' csB cdB cc0_scratch11
      ∗ ((cntV).view.loc (thr d L) ↦{fullShare} fc) ∗ owesA (F := F) d L O W ∗ Transfers.MayWaits (thr d L) (default : HIx 2) O)
      ⊢ iprop((∀ v19 hw ls ld, ⌜v19.toNat ≤ 16384 ∧ Scanned L (seqOf gs) (seqOf gd) 320000 v19 ls ld⌝ -∗ frontPost (F := F) d L gs gd q q' O W v19 ls ld -∗ Q ⟨tileW L, v19, hw⟩)
        -∗ wp frame (wpE (defs₀ (F := F)) 𝒱₀ (thr d L) none) Set.univ (k0_part131_skel (F := F) L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4) Q) := by
  rw [part131_eq]
  iintro ⟨Ha, Hl, HA, HB, Hc, HO, #Hmw⟩ HQ
  rw [wp_bind]
  iapply (wp_loop1 (F := F) d L f0) $$ Ha; iintro %v1 Ha
  rw [wp_bind]
  iapply (wp_loop2 (F := F) d L ls0 ld0) $$ Hl; iintro %v2 Hl
  iapply (wp_startChunk (F := F) d L gs gd q (cs := csA) (cd := cdA) cc0_scratch10 chunkN rfl cred_cdA (Memref.isWhole_whole _) (Memref.isWhole_whole _) ![0] inb_S320000_S3200_0 0 rfl) $$ HA; iintro HA
  iapply (wp_startChunk (F := F) d L gs gd q' (cs := csB) (cd := cdB) cc0_scratch11 chunkN cred_csB cred_cdB (Memref.isWhole_whole _) (Memref.isWhole_whole _) ![3200] inb_S320000_S3200_3200 3200 rfl) $$ HB; iintro HB
  rw [wp_bind]
  iapply (wp_loop3 (F := F) d L gs gd q q' hsrc hdst O W) $$ [HA HB Hl HO]
  · unfold tripInv
    iexists (fun _ => 0#32), (fun _ => 320#32)
    isplitr
    · ipureintro
      refine ⟨by decide, ?_⟩
      exact scanned_init L _ _
    unfold slot
    rw [if_pos (by decide), if_pos (by decide)]
    isplitl [HA]; · iexact HA
    isplitl [HB]; · iexact HB
    isplitl [Hl]; · iexact Hl
    isplitl [HO]; · iexact HO
    iexact Hmw
  iintro %v19 HI
  unfold tripInv
  icases HI with ⟨%ls, %ld, %hp, HA, HB, Hl, HO, #Hmw2⟩
  obtain ⟨hc, hS⟩ := hp
  ihave HA := (Entails.of_eq (slot_done (F := F) d L gs gd q csA cdA cc0_scratch10 chunkN (6400 * 50) (by decide))) $$ HA
  ihave HB := (Entails.of_eq (slot_done (F := F) d L gs gd q' csB cdB cc0_scratch11 chunkN (6400 * 50 + 3200) (by decide))) $$ HB
  iapply (wp_frontEnd (F := F) d L (tileW L) v19 hc fc) $$ Hc
  iintro Hc
  iapply HQ $$ [] [Ha Hl HA HB Hc HO]
  · ipureintro; exact ⟨hc, hS⟩
  unfold frontPost
  isplitl [Ha]; · iexact Ha
  isplitl [Hl]; · iexact Hl
  isplitl [HA]; · iexact HA
  isplitl [HB]; · iexact HB
  isplitl [Hc]; · iexact Hc
  iexact HO

end Front

end Cert.Proof.Scan

end
-- ==== Proof.Gather.lean ====
/-
  The rows of the list's sources gathered by batches of 128 and folded into the rows of a tile.
-/
module

public import proofs.«01_k».proof.Proof.Front
public import Idealize.ShloMosaic.Lib.SparseCore.FromWhole

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

local notation "xV" => (Memref.whole main_arg0_scv : Memref sig Kind.scVector Space.hbm S10000x128 EltTy.f32)
local notation "rA" => (Memref.whole cc0_scratch7 : Memref sig Kind.scVector Space.vmem S128x128 EltTy.f32)
local notation "rB" => (Memref.whole cc0_scratch8 : Memref sig Kind.scVector Space.vmem S128x128 EltTy.f32)

/-! ## The programs -/

abbrev XRef : Type := Memref sig .scVector .hbm S10000x128 .f32

/-- All of the table. -/
abbrev tableAll (x : XRef) : Memref sig .scVector .hbm S10000x128 .f32 :=
  x.slice (Rect.unit (s := S10000x128) ![0, 0] S10000x128.size inb_S10000x128_S10000x128_0_0) (fun _ => rfl)

/-- A slice of 128 words of a list. -/
abbrev batchOf (sl : ListRef) (off : Fin 1 → ℕ) (hoff : ∀ a, off a + S128.size a ≤ S16384.size a) : Memref sig .scVector .vmem S128 .i32 :=
  sl.slice (Rect.unit (s := S16384) off S128.size hoff) (fun _ => rfl)

/-- The rows of a batch, started. -/
abbrev startRows (i : grid0.Coords) (x : XRef) (sl : ListRef) (rows : RowsRef) (sem : DmaSems sig S_) (off : Fin 1 → ℕ) (hoff : ∀ a, off a + S128.size a ≤ S16384.size a) :
    Prog (TileEff F i) PUnit.{1} :=
  SparseCore.enqueueIndirectGather rfl (tableAll x) rows gathers_S10000x128_S128x128 (batchOf sl off hoff) rfl sem.sem (View.wordExact_bits rfl) rfl (Or.inl rfl)

/-- A batch: its rows awaited, the next batch's started into the other buffer, its rows folded by `fold`. -/
def batch (i : grid0.Coords) {α : Type} (x : XRef) (sl : ListRef) (rows rows' : RowsRef) (hrows : rows.IsWhole) (sem sem' : DmaSems sig S_)
    (here next : BitVec 1) (off : Fin 1 → ℕ) (hoff : here = 1#1 → next = 1#1 → ∀ a, off a + S128.size a ≤ S16384.size a)
    (fold : here = 1#1 → Prog (TileEff F i) (BitVec 32)) (k : PUnit.{1} → Prog (TileEff F i) α) : Prog (TileEff F i) α := do
  if h4 : here = 1#1 then do
    SparseCore.waitIndirectGather sem.sem (tableAll x) rows (View.wordExact_bits rfl) hrows.wordExact
    if h5 : next = 1#1 then do
      startRows i x sl rows' sem' off (hoff h4 h5)
      pure ⟨⟩
    else do
      pure ⟨⟩
    let _v : BitVec 32 ← fold h4
    pure ⟨⟩
  else do
    pure ⟨⟩
  k ⟨⟩

set_option maxRecDepth 65536 in
set_option maxHeartbeats 4000000 in
theorem t6_body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (v19 : BitVec 32) (hw3 : k0_chk3 v19) (k : Fin (k0_t6_loop v19).trips) (y : BitVec 32) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 v19 hw3 k y
      = batch i arg2 arg13 arg16 arg17 harg16 arg21 arg22 (k0_cond4 v19 k) (k0_cond5 v19 k) (k0_off16 v19 k) (k0_off16_inb v19 hw3 k)
          (fun h4 => Scf.Loop.for k0_t7_loop k0_t7_ok 0#32 (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 v19 hw3 k h4 (Scalar.muli (evenW k.val) 128#32))) fun _ =>
        batch i arg2 arg13 arg17 arg16 harg17 arg22 arg21 (k0_cond6 v19 k) (k0_cond7 v19 k) (k0_off274 v19 k) (k0_off274_inb v19 hw3 k)
          (fun h6 => Scf.Loop.for k0_t8_loop k0_t8_ok 0#32 (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 v19 hw3 k h6 (Scalar.muli (oddW k.val) 128#32))) fun _ => pure 0#32 := rfl

/-! ## The checks of the rows' numbers -/

theorem rowOK (w : BitVec 32) (h : w.toNat < 321) (n : ℕ) (hn : n + 16 ≤ 128) : ∀ a, (![w.toNat, n] : Fin 2 → ℕ) a + S1x16.size a ≤ S321x128.size a := fun a =>
  match a with
  | 0 => show w.toNat + 1 ≤ 321 by omega
  | 1 => show n + 16 ≤ 128 by omega

theorem chk4_of (v19 : BitVec 32) (k : Fin (k0_t6_loop v19).trips) (w : BitVec 32) (h : w.toNat < 321) : k0_chk4 v19 k w :=
  ⟨fun _ => rowOK w h 0 (by decide), fun _ => rowOK w h 16 (by decide), fun _ => rowOK w h 32 (by decide), fun _ => rowOK w h 48 (by decide),
    fun _ => rowOK w h 64 (by decide), fun _ => rowOK w h 80 (by decide), fun _ => rowOK w h 96 (by decide), fun _ => rowOK w h 112 (by decide)⟩

theorem chk20_of (v19 : BitVec 32) (k : Fin (k0_t6_loop v19).trips) (w : BitVec 32) (h : w.toNat < 321) : k0_chk20 v19 k w :=
  ⟨fun _ => rowOK w h 0 (by decide), fun _ => rowOK w h 16 (by decide), fun _ => rowOK w h 32 (by decide), fun _ => rowOK w h 48 (by decide),
    fun _ => rowOK w h 64 (by decide), fun _ => rowOK w h 80 (by decide), fun _ => rowOK w h 96 (by decide), fun _ => rowOK w h 112 (by decide)⟩

theorem word_lt (f : S16384.Idx → BitVec 32) (b : ℕ) (hb : 0 < b) (h : ∀ p, p < 16384 → (wordAt (m := 16384) f p).toNat < b) (n : ℕ) : (wordAt (m := 16384) f n).toNat < b := by
  by_cases hn : n < 16384
  · exact h n hn
  · unfold wordAt; rw [dif_neg hn]; exact hb

/-! ## The rows of a batch -/

/-- Row `p` of the list: the table's row that the list's word names. -/
def rowAt (gx : S10000x128.Idx → Elt F .f32) (ls : S16384.Idx → BitVec 32) (p : ℕ) (c : Fin 128) : Elt F .f32 :=
  gx (ix2 ⟨(wordAt (m := 16384) ls p).toNat % 10000, Nat.mod_lt _ (by decide)⟩ c)

section Rows

variable (d : Dev nD) (L : grid0.Coords) (gx : S10000x128.Idx → Elt F .f32) (ls : S16384.Idx → BitVec 32) (qx ql : PosShare TreeShare)
variable (rows : RowsRef) (sem : DmaSems sig S_)

/-- Nothing in flight into `rows`. -/
def gIdle : sProp (MM F) :=
  iprop(∃ fr : Buf (Elt F) (rows.view.loc (thr d L)), (rows.view.loc (thr d L) ↦{fullShare} fr) ∗ semVal (thr d L, .dma sem.sem) 0
    ∗ ((xV).view.loc (thr d L) ↦{qx} gx) ∗ ((srclV).view.loc (thr d L) ↦{ql} ls))

/-- What the copy of batch `b` delivers. -/
def gRows (b : ℕ) : sProp (MM F) :=
  iprop(∃ fr : Buf (Elt F) (rows.view.loc (thr d L)), ⌜∀ (j : Fin 128) (c : Fin 128), rows.view.read (Elt F) fr (ix2 j c) = rowAt gx ls (128 * b + j.val) c⌝
    ∗ (rows.view.loc (thr d L) ↦{fullShare} fr) ∗ ((xV).view.loc (thr d L) ↦{qx} gx) ∗ ((srclV).view.loc (thr d L) ↦{ql} ls))

/-- Batch `b` in flight into `rows`. -/
def gFlight (N b : ℕ) : sProp (MM F) :=
  Transfers.Flight countersEmb (thr d L) (.dma sem.sem) (default : HIx 2) N (gRows (F := F) d L gx ls qx ql rows b)

theorem table_read (y : S10000x128.Idx) : (tableAll xV).view.read (Elt F) gx y = gx y := by
  show gx _ = gx y
  congr 1
  funext b
  apply Fin.ext
  match b with
  | 0 => show 0 + 1 * (y 0).val = (y 0).val; omega
  | 1 => show 0 + 1 * (y 1).val = (y 1).val; omega

theorem batch_read (off : Fin 1 → ℕ) (hoff : ∀ a, off a + S128.size a ≤ S16384.size a) (y : S128.Idx) :
    (batchOf srclV off hoff).view.read (Elt F) ls y = wordAt (m := 16384) ls (off 0 + (y 0).val) := by
  have h1 : off 0 + 128 ≤ 16384 := hoff 0
  have h2 : (y 0).val < 128 := (y 0).isLt
  unfold wordAt
  rw [dif_pos (by omega)]
  show ls _ = ls _
  congr 1
  funext b
  apply Fin.ext
  match b with
  | 0 => show off 0 + 1 * (y 0).val = off 0 + (y 0).val; omega

theorem batch_in (hls : ∀ p, p < 16384 → okSrc (wordAt (m := 16384) ls p)) (off : Fin 1 → ℕ) (hoff : ∀ a, off a + S128.size a ≤ S16384.size a) (y : S128.Idx) :
    ((batchOf srclV off hoff).view.read (Elt F) ls y).toNat < S10000x128.size gathers_S10000x128_S128x128.axis := by
  rw [batch_read]
  have h1 : off 0 + 128 ≤ 16384 := hoff 0
  have h2 : (y 0).val < 128 := (y 0).isLt
  exact hls _ (by omega)

theorem gather_row (hls : ∀ p, p < 16384 → okSrc (wordAt (m := 16384) ls p)) (off : Fin 1 → ℕ) (hoff : ∀ a, off a + S128.size a ≤ S16384.size a) (b : ℕ) (hb : off 0 = 128 * b)
    (j c : Fin 128) :
    SparseCore.gatherPayload gathers_S10000x128_S128x128 ((tableAll xV).view.read (Elt F) gx)
      (SparseCore.rows ((batchOf srclV off hoff).view.read (Elt F) ls) rfl (batch_in (F := F) ls hls off hoff)) (ix2 j c)
      = rowAt gx ls (128 * b + j.val) c := by
  unfold SparseCore.gatherPayload
  rw [table_read]
  unfold rowAt
  congr 1
  have h1 : off 0 + 128 ≤ 16384 := hoff 0
  have hj := j.isLt
  funext a
  apply Fin.ext
  match a with
  | 0 =>
    refine (congrArg Fin.val (Shape.Gathers.idx_axis gathers_S10000x128_S128x128 _ _)).trans ?_
    show ((batchOf srclV off hoff).view.read (Elt F) ls _).toNat = (wordAt (m := 16384) ls (128 * b + j.val)).toNat % 10000
    rw [batch_read]
    have e : (S128.rowMajor.symm (Fin.cast rfl j) : S128.Idx) = ix1 j := (S128.rowMajor.symm_apply_eq).2 (Fin.ext (by rw [Shape.rowMajor_val_one]; rfl))
    have e2 : ((S128.rowMajor.symm (Fin.cast rfl j) : S128.Idx) 0).val = j.val := by rw [e]; rfl
    have e3 : off 0 + ((S128.rowMajor.symm (Fin.cast rfl j) : S128.Idx) 0).val = 128 * b + j.val := by rw [e2, hb]
    refine (congrArg (fun n => (wordAt (m := 16384) ls n).toNat) e3).trans ?_
    rw [Nat.mod_eq_of_lt]
    exact hls _ (by omega)
  | 1 => rfl

variable {rows}
variable {α : Type} (hw : rows.IsWhole)

theorem wp_startRows (N : ℕ) (hN : ∀ h : S10000x128.Gathers 0 S128x128, ∑ j, (rows.slice (S128x128.rowRect h.axis' j) (S128x128.stride_rowRect h.axis' j)).view.dmaCredit = N)
    (hls : ∀ p, p < 16384 → okSrc (wordAt (m := 16384) ls p)) (off : Fin 1 → ℕ)
    (hoff : ∀ a, off a + S128.size a ≤ S16384.size a) (b : ℕ) (hb : off 0 = 128 * b) (k : PUnit.{1} → Prog (TileEff F L) α) (Q : α → sProp (MM F)) :
    gIdle (F := F) d L gx ls qx ql rows sem
      ⊢ iprop((gFlight (F := F) d L gx ls qx ql rows sem N b -∗ wp frame (wpE (defs₀ (F := F)) 𝒱₀ (thr d L) none) Set.univ (k ⟨⟩) Q)
          -∗ wp frame (wpE (defs₀ (F := F)) 𝒱₀ (thr d L) none) Set.univ (startRows L xV srclV rows sem off hoff >>= k) Q) := by
  unfold gIdle
  iintro ⟨%fr, Hr, Hsem, Hx, Hl⟩ HQ
  iapply (SparseCore.wp_gatherFromWhole countersEmb 𝒱₀ (thr d L) none (src := tableAll xV) (dst := rows) (hg := gathers_S10000x128_S128x128) (offs := batchOf srclV off hoff)
    (q := qx) (qo := ql) (fs := gx) (fd := fr) (fo := ls) (default : HIx 2) N (hN _) (by decide) (batch_in (F := F) ls hls off hoff)) $$ [Hx Hr Hl Hsem]
  · isplitl [Hx]; · iexact Hx
    isplitl [Hr]; · iexact Hr
    isplitl [Hl]; · iexact Hl
    iexact Hsem
  iintro Hf
  iapply HQ
  unfold gFlight
  iapply (Transfers.Flight_mono countersEmb (thr d L) ?hm) $$ Hf
  case hm =>
    unfold gRows
    iintro ⟨Hr, Hx, Hl⟩
    iexists _
    isplitr
    swap
    · isplitl [Hr]; · iexact Hr
      isplitl [Hx]; · iexact Hx
      iexact Hl
    ipureintro
    intro j c
    rw [View.read_write_univ]
    exact gather_row (F := F) gx ls hls off hoff b hb j c

theorem wp_waitRows (N : ℕ) (hN : rows.view.dmaCredit = N) (b : ℕ) (O : CellTallies nD τ sig (HIx 2)) (W : Waits sig (HIx 2)) (hw : rows.IsWhole)
    (k : PUnit.{1} → Prog (TileEff F L) α) (Q : α → sProp (MM F)) :
    iprop(gFlight (F := F) d L gx ls qx ql rows sem N b ∗ owes (thr d L) O W ∗ Transfers.MayWaits (thr d L) (default : HIx 2) O)
      ⊢ iprop((gRows (F := F) d L gx ls qx ql rows b ∗ semVal (thr d L, .dma sem.sem) 0 ∗ owes (thr d L) O (insert (SemLoc.dma sem.sem, (default : HIx 2)) W)
            -∗ wp frame (wpE (defs₀ (F := F)) 𝒱₀ (thr d L) none) Set.univ (k ⟨⟩) Q)
          -∗ wp frame (wpE (defs₀ (F := F)) 𝒱₀ (thr d L) none) Set.univ
            (SparseCore.waitIndirectGather sem.sem (tableAll xV) rows (View.wordExact_bits rfl) hw.wordExact >>= k) Q) := by
  unfold gFlight
  iintro ⟨HF, HO, Hmw⟩ HQ
  iapply (Transfers.wp_waitLocalO countersEmb 𝒱₀ (thr d L) none (k := k) (srcw := tableAll xV) (dstw := rows) (hsrc := View.wordExact_bits rfl) (hdst := hw.wordExact) (sem := sem.sem) (default : HIx 2) hN (D := gRows (F := F) d L gx ls qx ql rows b)) $$ [HF HO Hmw]
  · isplitl [HF]; · iexact HF
    isplitl [HO]; · iexact HO
    iapply (Transfers.MayWaits.elim (SemLoc.dma sem.sem)) $$ Hmw
  iexact HQ

end Rows

/-! ## A batch folded -/

section Fold

variable (d : Dev nD) (L : grid0.Coords) (gx : S10000x128.Idx → Elt F .f32) (ls ld : S16384.Idx → BitVec 32) (q' : PosShare TreeShare)

/-- The accumulator after the first `n` rows of the list. -/
def accAt (n : ℕ) : sProp (MM F) := accPts d L (accFold (fun _ => negInf) (rowAt gx ls) (fun n => (wordAt (m := 16384) ld n).toNat) n)

theorem wp_fold (rows : RowsRef) (hset : rows.view.set = Finset.univ) (b : ℕ) (fr : Buf (Elt F) (rows.view.loc (thr d L)))
    (hfr : ∀ (j : Fin 128) (c : Fin 128), rows.view.read (Elt F) fr (ix2 j c) = rowAt gx ls (128 * b + j.val) c)
    (chk : BitVec 32 → Prop) (dec : ∀ v, Decidable (chk v)) (hchk : RowIn chk) (hc : ∀ n, chk (wordAt (m := 16384) ld n))
    (ℓ : Scf.Loop 32) (hok : ℓ.OK) (h8 : ℓ.trips = 8) (body : Fin ℓ.trips → BitVec 32 → Prog (TileEff F L) (BitVec 32))
    (od : Fin ℓ.trips → Fin 1 → ℕ) (hod : ∀ t, ∀ a, od t a + S16.size a ≤ S16384.size a) (hod0 : ∀ t, od t 0 = 128 * b + 16 * t.val)
    (hbody : ∀ t y, body t y = trip L dstlV accV rows chk dec hchk (od t) (hod t) (Fin.cast h8 t)) (Q : BitVec 32 → sProp (MM F)) :
    iprop(accAt (F := F) d L gx ls ld (128 * b) ∗ (rows.view.loc (thr d L) ↦{fullShare} fr) ∗ ((dstlV).view.loc (thr d L) ↦{q'} ld))
      ⊢ iprop((∀ v, (accAt (F := F) d L gx ls ld (128 * (b + 1)) ∗ (rows.view.loc (thr d L) ↦{fullShare} fr) ∗ ((dstlV).view.loc (thr d L) ↦{q'} ld)) -∗ Q v)
        -∗ wp frame (wpE (defs₀ (F := F)) 𝒱₀ (thr d L) none) Set.univ (Scf.Loop.for ℓ hok 0#32 body) Q) := by
  unfold accAt
  iintro H HQ
  iapply (Scf.wp_for frame (wpE (defs₀ (F := F)) 𝒱₀ (thr d L) none) Set.univ _ _ _ hok 0#32 _
    (fun k _ => iprop(accPts d L (accFold (fun _ => negInf) (rowAt gx ls) (fun n => (wordAt (m := 16384) ld n).toNat) (128 * b + 16 * k))
      ∗ (rows.view.loc (thr d L) ↦{fullShare} fr) ∗ ((dstlV).view.loc (thr d L) ↦{q'} ld))) ?hb) $$ [H HQ]
  case hb =>
    intro t y
    have hw := wp_trip (F := F) d L rows fullShare q' fr ld (fun _ => negInf) (rowAt gx ls) chk dec hchk hc (od t) (hod t) (Fin.cast h8 t) (128 * b + 16 * t.val) (hod0 t)
      (fun j hj => by
        funext c
        rw [hfr]
        congr 1
        show 128 * b + (16 * t.val + j) = 128 * b + 16 * t.val + j
        omega)
      (fun _ => iprop(accPts d L (accFold (fun _ => negInf) (rowAt gx ls) (fun n => (wordAt (m := 16384) ld n).toNat) (128 * b + 16 * (t.val + 1)))
      ∗ (rows.view.loc (thr d L) ↦{fullShare} fr) ∗ ((dstlV).view.loc (thr d L) ↦{q'} ld)))
    rw [hset] at hw
    rw [hbody]
    iintro H
    iapply hw $$ H
    iintro H
    rw [show 128 * b + 16 * t.val + 16 = 128 * b + 16 * (t.val + 1) by omega]
    iexact H
  isplitr [HQ]
  · iexact H
  iintro %v H
  rw [show (Scf.trips ℓ.lb ℓ.ub ℓ.st) = 8 from h8]
  iapply HQ
  rw [show 128 * b + 16 * 8 = 128 * (b + 1) by omega]
  iexact H

end Fold

/-! ## A batch -/

section Batch

variable (d : Dev nD) (L : grid0.Coords) (gx : S10000x128.Idx → Elt F .f32) (ls ld : S16384.Idx → BitVec 32) (q' : PosShare TreeShare) (nb : ℕ)

/-- A buffer of rows before batch `b` of `nb`: its copy in flight, or nothing. -/
def gSlot (qx ql : PosShare TreeShare) (rows : RowsRef) (sem : DmaSems sig S_) (N b : ℕ) : sProp (MM F) :=
  if b < nb then gFlight (F := F) d L gx ls qx ql rows sem N b else gIdle (F := F) d L gx ls qx ql rows sem

theorem gIdle_of (qx ql : PosShare TreeShare) (rows : RowsRef) (sem : DmaSems sig S_) (fr : Buf (Elt F) (rows.view.loc (thr d L))) :
    iprop((rows.view.loc (thr d L) ↦{fullShare} fr) ∗ semVal (thr d L, .dma sem.sem) 0
      ∗ ((xV).view.loc (thr d L) ↦{qx} gx) ∗ ((srclV).view.loc (thr d L) ↦{ql} ls)) ⊢ gIdle (F := F) d L gx ls qx ql rows sem := by
  unfold gIdle
  iintro H
  iexists fr
  iexact H

variable {α : Type} {rows rows' : RowsRef} (hrows : rows.IsWhole) (sem sem' : DmaSems sig S_) (qx ql qx' ql' : PosShare TreeShare)

theorem wp_batch (N : ℕ) (hN : ∀ h : S10000x128.Gathers 0 S128x128, ∑ j, (rows'.slice (S128x128.rowRect h.axis' j) (S128x128.stride_rowRect h.axis' j)).view.dmaCredit = N)
    (N' : ℕ) (hN' : rows.view.dmaCredit = N')
    (hls : ∀ p, p < 16384 → okSrc (wordAt (m := 16384) ls p)) (b : ℕ)
    (here next : BitVec 1) (hhere : here = 1#1 ↔ b < nb) (hnext : next = 1#1 ↔ b + 1 < nb)
    (off : Fin 1 → ℕ) (hoff : here = 1#1 → next = 1#1 → ∀ a, off a + S128.size a ≤ S16384.size a) (hb : off 0 = 128 * (b + 1))
    (fold : here = 1#1 → Prog (TileEff F L) (BitVec 32))
    (hfold : ∀ (h : here = 1#1) (fr : Buf (Elt F) (rows.view.loc (thr d L))) (_ : ∀ (j : Fin 128) (c : Fin 128), rows.view.read (Elt F) fr (ix2 j c) = rowAt gx ls (128 * b + j.val) c)
      (Q : BitVec 32 → sProp (MM F)),
      iprop(accAt (F := F) d L gx ls ld (128 * b) ∗ (rows.view.loc (thr d L) ↦{fullShare} fr) ∗ ((dstlV).view.loc (thr d L) ↦{q'} ld))
      ⊢ iprop((∀ v, (accAt (F := F) d L gx ls ld (128 * (b + 1)) ∗ (rows.view.loc (thr d L) ↦{fullShare} fr) ∗ ((dstlV).view.loc (thr d L) ↦{q'} ld)) -∗ Q v)
        -∗ wp frame (wpE (defs₀ (F := F)) 𝒱₀ (thr d L) none) Set.univ (fold h) Q))
    (O : CellTallies nD τ sig (HIx 2)) (W : Waits sig (HIx 2))
    (k : PUnit.{1} → Prog (TileEff F L) α) (Q : α → sProp (MM F)) :
    iprop(gSlot (F := F) d L gx ls nb qx ql rows sem N' b ∗ gIdle (F := F) d L gx ls qx' ql' rows' sem' ∗ accAt (F := F) d L gx ls ld (128 * min b nb)
        ∗ ((dstlV).view.loc (thr d L) ↦{q'} ld) ∗ owesA (F := F) d L O W ∗ Transfers.MayWaits (thr d L) (default : HIx 2) O)
      ⊢ iprop((gIdle (F := F) d L gx ls qx ql rows sem ∗ gSlot (F := F) d L gx ls nb qx' ql' rows' sem' N (b + 1) ∗ accAt (F := F) d L gx ls ld (128 * min (b + 1) nb)
        ∗ ((dstlV).view.loc (thr d L) ↦{q'} ld) ∗ owesA (F := F) d L O W
            -∗ wp frame (wpE (defs₀ (F := F)) 𝒱₀ (thr d L) none) Set.univ (k ⟨⟩) Q)
          -∗ wp frame (wpE (defs₀ (F := F)) 𝒱₀ (thr d L) none) Set.univ
            (batch L xV srclV rows rows' hrows sem sem' here next off hoff fold k) Q) := by
  unfold batch gSlot owesA
  by_cases hh : b < nb
  · rw [if_pos hh, dif_pos (hhere.2 hh), show min b nb = b by omega, show min (b + 1) nb = b + 1 by omega]
    dsimp only
    iintro ⟨HF, HI, Ha, Hd, ⟨%W', %hW', HO⟩, #Hmw⟩ HQ
    have hW2 : ∀ p ∈ (insert (SemLoc.dma sem.sem, (default : HIx 2)) W'), p ∈ W ∨ p.2 = none := by
      intro p hp
      simp only [Set.mem_insert_iff, Finset.mem_insert] at hp
      rcases hp with rfl | hp
      · right; rfl
      · exact hW' p hp
    iapply (wp_waitRows (F := F) d L gx ls qx ql sem N' hN' b O W' hrows _ Q) $$ [HF HO]
    · isplitl [HF]; · iexact HF
      isplitl [HO]; · iexact HO
      iexact Hmw
    iintro ⟨HR, Hsem, HO⟩
    unfold gRows
    icases HR with ⟨%fr, %hfr, Hr, Hx, Hl⟩
    by_cases hn : next = 1#1
    · rw [dif_pos hn, if_pos (hnext.1 hn), wp_bind]
      iapply (wp_startRows (F := F) d L gx ls qx' ql' sem' N hN hls off (hoff (hhere.2 hh) hn) (b + 1) hb) $$ HI
      iintro HF
      sl_step
      rw [wp_bind]
      iapply (hfold (hhere.2 hh) fr hfr) $$ [Ha Hr Hd]
      · isplitl [Ha]; · iexact Ha
        isplitl [Hr]; · iexact Hr
        iexact Hd
      iintro %v ⟨Ha, Hr, Hd⟩
      iapply HQ
      isplitl [Hr Hsem Hx Hl]
      · iapply (gIdle_of (F := F) d L gx ls qx ql rows sem fr)
        isplitl [Hr]; · iexact Hr
        isplitl [Hsem]; · iexact Hsem
        isplitl [Hx]; · iexact Hx
        iexact Hl
      isplitl [HF]; · iexact HF
      isplitl [Ha]; · iexact Ha
      isplitl [Hd]; · iexact Hd
      iexists _
      isplitr
      swap; · iexact HO
      ipureintro; exact hW2
    · rw [dif_neg hn, if_neg (fun h => hn (hnext.2 h))]
      rw [wp_bind]
      iapply (hfold (hhere.2 hh) fr hfr) $$ [Ha Hr Hd]
      · isplitl [Ha]; · iexact Ha
        isplitl [Hr]; · iexact Hr
        iexact Hd
      iintro %v ⟨Ha, Hr, Hd⟩
      iapply HQ
      isplitl [Hr Hsem Hx Hl]
      · iapply (gIdle_of (F := F) d L gx ls qx ql rows sem fr)
        isplitl [Hr]; · iexact Hr
        isplitl [Hsem]; · iexact Hsem
        isplitl [Hx]; · iexact Hx
        iexact Hl
      isplitl [HI]; · iexact HI
      isplitl [Ha]; · iexact Ha
      isplitl [Hd]; · iexact Hd
      iexists _
      isplitr
      swap; · iexact HO
      ipureintro; exact hW2
  · rw [if_neg hh, dif_neg (fun h => hh (hhere.1 h)), show min b nb = nb by omega, show min (b + 1) nb = nb by omega, if_neg (by omega : ¬ (b + 1 < nb))]
    dsimp only
    iintro ⟨HF, HI, Ha, Hd, HO, #Hmw⟩ HQ
    iapply HQ
    isplitl [HF]; · iexact HF
    isplitl [HI]; · iexact HI
    isplitl [Ha]; · iexact Ha
    isplitl [Hd]; · iexact Hd
    iexact HO

end Batch

/-! ## All the batches -/

section Loop

variable (d : Dev nD) (L : grid0.Coords) (gx : S10000x128.Idx → Elt F .f32) (ls ld : S16384.Idx → BitVec 32) (q' : PosShare TreeShare)
variable (v19 : BitVec 32) (hv : v19.toNat ≤ 16384) (hls : ∀ p, p < 16384 → okSrc (wordAt (m := 16384) ls p)) (hld : ∀ p, p < 16384 → okDst (wordAt (m := 16384) ld p))
variable (qx ql qx' ql' : PosShare TreeShare)

abbrev credRows : ℕ := (rA).view.dmaCredit

theorem cred_rA : ∀ h : S10000x128.Gathers 0 S128x128, ∑ j, ((rA).slice (S128x128.rowRect h.axis' j) (S128x128.stride_rowRect h.axis' j)).view.dmaCredit = credRows := by decide +kernel
theorem cred_rB : ∀ h : S10000x128.Gathers 0 S128x128, ∑ j, ((rB).slice (S128x128.rowRect h.axis' j) (S128x128.stride_rowRect h.axis' j)).view.dmaCredit = credRows := by decide +kernel
theorem cred_B : (rB).view.dmaCredit = credRows := by decide +kernel

/-- Before trip `k` of the batches' loop: batch `2 k` in flight. -/
def batchInv (O : CellTallies nD τ sig (HIx 2)) (W : Waits sig (HIx 2)) (b : ℕ) : sProp (MM F) :=
  iprop(gSlot (F := F) d L gx ls (nr v19) qx ql rA cc0_scratch12 credRows b ∗ gIdle (F := F) d L gx ls qx' ql' rB cc0_scratch13 ∗ accAt (F := F) d L gx ls ld (128 * min b (nr v19))
        ∗ ((dstlV).view.loc (thr d L) ↦{q'} ld) ∗ owesA (F := F) d L O W ∗ Transfers.MayWaits (thr d L) (default : HIx 2) O)

include hv hls hld in
set_option maxHeartbeats 2000000 in
theorem wp_batches (hw3 : k0_chk3 v19) (O : CellTallies nD τ sig (HIx 2)) (W : Waits sig (HIx 2)) (Q : BitVec 32 → sProp (MM F)) :
    batchInv (F := F) d L gx ls ld q' v19 qx ql qx' ql' O W 0
      ⊢ iprop((∀ v, (gIdle (F := F) d L gx ls qx ql rA cc0_scratch12 ∗ gIdle (F := F) d L gx ls qx' ql' rB cc0_scratch13 ∗ accAt (F := F) d L gx ls ld (128 * nr v19)
            ∗ ((dstlV).view.loc (thr d L) ↦{q'} ld) ∗ owesA (F := F) d L O W) -∗ Q v)
        -∗ wp frame (wpE (defs₀ (F := F)) 𝒱₀ (thr d L) none) Set.univ
          (Scf.Loop.for (k0_t6_loop v19) (k0_t6_ok v19 hw3) 0#32 (k0_t6_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v19 hw3)) Q) := by
  have hldw : ∀ n, (wordAt (m := 16384) ld n).toNat < 321 := word_lt ld 321 (by decide) hld
  iintro H HQ
  iapply (Scf.wp_for frame (wpE (defs₀ (F := F)) 𝒱₀ (thr d L) none) Set.univ _ _ _ (k0_t6_ok v19 hw3) 0#32 _
    (fun k _ => batchInv (F := F) d L gx ls ld q' v19 qx ql qx' ql' O W (2 * k)) ?hb) $$ [H HQ]
  case hb =>
    intro k y
    rw [t6_body_eq]
    unfold batchInv
    iintro ⟨HS, HI, Ha, Hd, HO, #Hmw⟩
    iapply (wp_batch (F := F) d L gx ls ld q' (nr v19) (rows := rA) (rows' := rB) (Memref.isWhole_whole _) cc0_scratch12 cc0_scratch13 qx ql qx' ql' credRows cred_rB credRows rfl hls
      (2 * k.val) (k0_cond4 v19 k) (k0_cond5 v19 k) (cond4_iff v19 hv k) (cond5_iff v19 hv k) (k0_off16 v19 k) (k0_off16_inb v19 hw3 k)
      (by rw [off16_eq v19 hv k]; rfl) _
      (fun h4 fr hfr Q => wp_fold (F := F) d L gx ls ld q' rA (View.set_whole _) (2 * k.val) fr hfr (k0_chk4 v19 k) (k0_chk4.dec v19 k) (rowIn_chk4 v19 k h4) (fun n => chk4_of v19 k _ (hldw n))
        k0_t7_loop k0_t7_ok trips7' _ (fun t => k0_off17 v19 k t) (fun t => k0_off17_inb v19 hw3 k t h4) (fun t => by rw [off17_eq v19 hv k t]; rfl)
        (fun t y => t7_body_eq L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v19 hw3 k h4 _ t y) Q)
      O W _ _) $$ [HS HI Ha Hd HO]
    · isplitl [HS]; · iexact HS
      isplitl [HI]; · iexact HI
      isplitl [Ha]; · iexact Ha
      isplitl [Hd]; · iexact Hd
      isplitl [HO]; · iexact HO
      iexact Hmw
    iintro ⟨HI, HS, Ha, Hd, HO⟩
    iapply (wp_batch (F := F) d L gx ls ld q' (nr v19) (rows := rB) (rows' := rA) (Memref.isWhole_whole _) cc0_scratch13 cc0_scratch12 qx' ql' qx ql credRows cred_rA credRows cred_B hls
      (2 * k.val + 1) (k0_cond6 v19 k) (k0_cond7 v19 k) (cond6_iff v19 hv k) (cond7_iff v19 hv k) (k0_off274 v19 k) (k0_off274_inb v19 hw3 k)
      (by rw [off274_eq v19 hv k]; rfl) _
      (fun h4 fr hfr Q => wp_fold (F := F) d L gx ls ld q' rB (View.set_whole _) (2 * k.val + 1) fr hfr (k0_chk20 v19 k) (k0_chk20.dec v19 k) (rowIn_chk20 v19 k h4) (fun n => chk20_of v19 k _ (hldw n))
        k0_t8_loop k0_t8_ok trips8' _ (fun t => k0_off275 v19 k t) (fun t => k0_off275_inb v19 hw3 k t h4) (fun t => by rw [off275_eq v19 hv k t]; rfl)
        (fun t y => t8_body_eq L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v19 hw3 k h4 _ t y) Q)
      O W _ _) $$ [HS HI Ha Hd HO]
    · isplitl [HS]; · iexact HS
      isplitl [HI]; · iexact HI
      isplitl [Ha]; · iexact Ha
      isplitl [Hd]; · iexact Hd
      isplitl [HO]; · iexact HO
      iexact Hmw
    iintro ⟨HI, HS, Ha, Hd, HO⟩
    sl_step
    rw [show 2 * (k.val + 1) = 2 * k.val + 1 + 1 by omega]
    isplitl [HS]; · iexact HS
    isplitl [HI]; · iexact HI
    isplitl [Ha]; · iexact Ha
    isplitl [Hd]; · iexact Hd
    isplitl [HO]; · iexact HO
    iexact Hmw
  isplitr [HQ]
  · iexact H
  iintro %v H
  rw [show (Scf.trips (k0_t6_loop v19).lb (k0_t6_loop v19).ub (k0_t6_loop v19).st) = (nr v19 + 1) / 2 from t6_trips v19 hv]
  unfold batchInv gSlot
  rw [if_neg (by omega : ¬ (2 * ((nr v19 + 1) / 2) < nr v19)), show min (2 * ((nr v19 + 1) / 2)) (nr v19) = nr v19 by omega]
  icases H with ⟨HS, HI, Ha, Hd, HO, Hmw⟩
  iapply HQ
  isplitl [HS]; · iexact HS
  isplitl [HI]; · iexact HI
  isplitl [Ha]; · iexact Ha
  isplitl [Hd]; · iexact Hd
  iexact HO

end Loop

end Cert.Proof.Scan

end
-- ==== Proof.Tile.lean ====
/-
  A tile's whole run: the scan, the copies out of its list, the batches, and its rows written out.
-/
module

public import proofs.«01_k».proof.Proof.Gather

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

local notation "xV" => (Memref.whole main_arg0_scv : Memref sig Kind.scVector Space.hbm S10000x128 EltTy.f32)
local notation "rA" => (Memref.whole cc0_scratch7 : Memref sig Kind.scVector Space.vmem S128x128 EltTy.f32)
local notation "rB" => (Memref.whole cc0_scratch8 : Memref sig Kind.scVector Space.vmem S128x128 EltTy.f32)
local notation "aggV" => (Memref.whole main_v4_0_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

/-! ## A copy out, awaited -/

/-- A copy to the chip's memory, awaited at once. -/
def outCopy (i : grid0.Coords) {α : Type} {s : Shape} {e : EltTy} (src : Memref sig .scVector .vmem s e) (dst : Memref sig .scVector .hbm s e) (hsrc : src.view.WordExact) (hdst : dst.view.WordExact)
    (sem : DmaSems sig S_) (hsem : DmaTarget.Typed (nD := nD) .vmem (.dma sem.sem) (DmaTarget.here (p := .scVector ((i 0).castLE hcore0) ((i 1).castLE hsub0)) dst)) (k : PUnit.{1} → Prog (TileEff F i) α) : Prog (TileEff F i) α := do
  Prog.lift (.enqueueDma src (.here dst) (.dma sem.sem) hsrc hdst hsem)
  Prog.lift (.waitDma2 sem.sem src dst hsrc hdst)
  k ⟨⟩

/-- The first batch started where there is one. -/
def startFirst (i : grid0.Coords) {α : Type} (x : XRef) (sl : ListRef) (rows : RowsRef) (sem : DmaSems sig S_) (cond : BitVec 1) (k : PUnit.{1} → Prog (TileEff F i) α) : Prog (TileEff F i) α := do
  if cond = 1#1 then do
    startRows i x sl rows sem ![0] inb_S16384_S128_0
    pure ⟨⟩
  else do
    pure ⟨⟩
  k ⟨⟩

/-- Whether there is a batch. -/
def someW (v19 : BitVec 32) : BitVec 1 := Scalar.cmpi .ne (Scalar.extui (Scalar.cmpi .sgt (nrW v19) 0#32) : BitVec 32) 0#32

theorem some_all : ∀ n : Fin 129, Scalar.cmpi .ne (Scalar.extui (Scalar.cmpi .sgt (BitVec.ofNat 32 n.val) 0#32) : BitVec 32) 0#32 = 1#1 ↔ 0 < n.val := by decide +kernel

theorem someW_iff (v19 : BitVec 32) (h : v19.toNat ≤ 16384) : someW v19 = 1#1 ↔ 0 < nr v19 := by
  have := nr_le v19 h
  unfold someW
  rw [nrW_eq v19 h]
  exact some_all ⟨nr v19, by omega⟩

set_option maxRecDepth 65536 in
set_option maxHeartbeats 4000000 in
theorem part132_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) (v1 v19 : BitVec 32) :
    k0_part132_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 v1 v19
      = outCopy i arg18 (arg8.slice (Rect.unit (s := S512) (k0_off14 i) S16.size (k0_off14_inb i)) (fun _ => rfl)) harg18.wordExact (View.wordExact_bits rfl) v81_r0 ⟨Or.inl rfl, trivial⟩ fun _ =>
        outCopy i arg13 (arg6.slice (Rect.unit (s := S524288) (k0_off15 i) S16384.size (k0_off15_inb i)) (fun _ => rfl)) harg13.wordExact (View.wordExact_bits rfl) v81_r1 ⟨Or.inl rfl, trivial⟩ fun _ =>
        outCopy i arg14 (arg7.slice (Rect.unit (s := S524288) (k0_off15 i) S16384.size (k0_off15_inb i)) (fun _ => rfl)) harg14.wordExact (View.wordExact_bits rfl) v81_r2 ⟨Or.inl rfl, trivial⟩ fun _ =>
        startFirst i arg2 arg13 arg16 arg21 (someW v19) fun _ => pure ⟨nrW v19, Scalar.addi (nrW v19) 1#32⟩ := rfl

/-- The last tile's rows written out. -/
def finish80 (i : grid0.Coords) (acc : AccRef) (agg : XRef) (sem' : DmaSems sig S_) : Prog (TileEff F i) PUnit :=
  if h13 : k0_cond13 i = 1#1 then
    outCopy i (acc.slice (Rect.unit (s := S321x128) ![0, 0] S80x128.size inb_S321x128_S80x128_0_0) (fun _ => rfl))
      (agg.slice (Rect.unit (s := S10000x128) (k0_off1057 i) S80x128.size (k0_off1057_inb i h13)) (fun _ => rfl)) (View.wordExact_bits rfl) (View.wordExact_bits rfl) sem' ⟨Or.inl rfl, trivial⟩ fun _ => pure ⟨⟩
  else pure ⟨⟩

/-- The rows written out. -/
def finish (i : grid0.Coords) (acc : AccRef) (agg : XRef) (sem sem' : DmaSems sig S_) : Prog (TileEff F i) PUnit :=
  if h12 : k0_cond12 i = 1#1 then
    outCopy i (acc.slice (Rect.unit (s := S321x128) ![0, 0] S320x128.size inb_S321x128_S320x128_0_0) (fun _ => rfl))
      (agg.slice (Rect.unit (s := S10000x128) (k0_off1056 i) S320x128.size (k0_off1056_inb i h12)) (fun _ => rfl)) (View.wordExact_bits rfl) (View.wordExact_bits rfl) sem ⟨Or.inl rfl, trivial⟩ fun _ =>
    finish80 i acc agg sem'
  else finish80 i acc agg sem'

/-- The pairs of batches, as the body counts them. -/
def pairsW (v48 : BitVec 32) : BitVec 32 :=
  let v49 : BitVec 32 := Scalar.divsi v48 2#32
  let v50 : BitVec 1 := Scalar.cmpi .sgt v48 0#32
  let v51 : BitVec 32 := Scalar.extui v50
  let v52 : BitVec 1 := Scalar.cmpi .slt v48 0#32
  let v53 : BitVec 32 := Scalar.extui v52
  let v54 : BitVec 32 := Scalar.subi v51 v53
  let v55 : BitVec 1 := Scalar.cmpi .sgt 2#32 0#32
  let v56 : BitVec 32 := Scalar.extui v55
  let v57 : BitVec 1 := Scalar.cmpi .slt 2#32 0#32
  let v58 : BitVec 32 := Scalar.extui v57
  let v59 : BitVec 32 := Scalar.subi v56 v58
  let v60 : BitVec 1 := Scalar.cmpi .ne v54 v59
  let v61 : BitVec 32 := Scalar.remsi v48 2#32
  let v62 : BitVec 1 := Scalar.cmpi .ne v61 0#32
  let v63 : BitVec 1 := Scalar.andi v60 v62
  let v64 : BitVec 32 := Scalar.subi v49 1#32
  let v65 : BitVec 32 := Scalar.select v63 v64 v49
  let v66 : BitVec 32 := Scalar.subi v65 0#32
  let v68 : BitVec 32 := Scalar.divsi v66 1#32
  let v69 : BitVec 32 := Scalar.muli v68 1#32
  Scalar.addi 0#32 v69

set_option maxRecDepth 65536 in
set_option maxHeartbeats 4000000 in
theorem body_eq (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S10000x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .hbm S512 .i32) (harg8 : arg8.IsWhole) (arg9 : Memref sig .scVector .vmem S3200 .i32) (harg9 : arg9.IsWhole) (arg10 : Memref sig .scVector .vmem S3200 .i32) (harg10 : arg10.IsWhole) (arg11 : Memref sig .scVector .vmem S3200 .i32) (harg11 : arg11.IsWhole) (arg12 : Memref sig .scVector .vmem S3200 .i32) (harg12 : arg12.IsWhole) (arg13 : Memref sig .scVector .vmem S16384 .i32) (harg13 : arg13.IsWhole) (arg14 : Memref sig .scVector .vmem S16384 .i32) (harg14 : arg14.IsWhole) (arg15 : Memref sig .scVector .vmem S321x128 .f32) (harg15 : arg15.IsWhole) (arg16 : Memref sig .scVector .vmem S128x128 .f32) (harg16 : arg16.IsWhole) (arg17 : Memref sig .scVector .vmem S128x128 .f32) (harg17 : arg17.IsWhole) (arg18 : Memref sig .scVector .vmem S16 .i32) (harg18 : arg18.IsWhole) (arg19 arg20 arg21 arg22 v81_r0 v81_r1 v81_r2 v81_r3 v81_r4 : DmaSems sig S_) :
    cc0__sc_segmax_scan_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 = (k0_part131_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 >>= fun s =>
      k0_part132_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 s.1 s.2.1 >>= fun t =>
      Scf.Loop.for (k0_t6_loop s.2.1) (k0_t6_ok s.2.1 s.2.2) 0#32 (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 s.2.1 s.2.2) >>= fun v71 =>
      Scf.Loop.for (k0_t9_loop s.2.1) (k0_t9_ok s.2.1 s.2.2) v71 (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4 s.2.1 s.2.2 (pairsW t.2)) >>= fun _ =>
      Scf.Loop.for k0_t12_loop k0_t12_ok 0#32 (k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v81_r0 v81_r1 v81_r2 v81_r3 v81_r4) >>= fun _ =>
      finish i arg15 arg5 v81_r3 v81_r4) := rfl

/-! ## The copies' run -/

section Copy

variable (d : Dev nD) (L : grid0.Coords) {α : Type} {s : Shape} {e : EltTy} (src : Memref sig .scVector .vmem s e) (dst : Memref sig .scVector .hbm s e) (hsrc : src.view.WordExact) (hdst : dst.view.WordExact)
    (sem : DmaSems sig S_) (hsem : DmaTarget.Typed (nD := nD) .vmem (.dma sem.sem) (DmaTarget.here (p := .scVector ((L 0).castLE hcore0) ((L 1).castLE hsub0)) dst))

theorem wp_outCopy (q : PosShare TreeShare) (fs : Buf (Elt F) (src.view.loc (thr d L))) (Sd : Finset (Idx (dst.view.loc (thr d L)))) (fd : Buf (Elt F) (dst.view.loc (thr d L))) (N : ℕ)
    (hN : dst.view.dmaCredit = N) (hN0 : 0 < N) (hSd : dst.view.set ⊆ Sd) (O : CellTallies nD τ sig (HIx 2)) (W : Waits sig (HIx 2)) (k : PUnit.{1} → Prog (TileEff F L) α) (Q : α → sProp (MM F)) :
    iprop((src.view.loc (thr d L) ↦{q} fs) ∗ (dst.view.loc (thr d L) ↦[Sd]{fullShare} fd) ∗ semVal (thr d L, .dma sem.sem) 0 ∗ owesA (F := F) d L O W ∗ Transfers.MayWaits (thr d L) (default : HIx 2) O)
      ⊢ iprop(((src.view.loc (thr d L) ↦{q} fs) ∗ (dst.view.loc (thr d L) ↦[Sd]{fullShare} (dst.view.write (Elt F) fd (src.view.read (Elt F) fs) Finset.univ)) ∗ semVal (thr d L, .dma sem.sem) 0 ∗ owesA (F := F) d L O W
            -∗ wp frame (wpE (defs₀ (F := F)) 𝒱₀ (thr d L) none) Set.univ (k ⟨⟩) Q)
          -∗ wp frame (wpE (defs₀ (F := F)) 𝒱₀ (thr d L) none) Set.univ (outCopy L src dst hsrc hdst sem hsem k) Q) := by
  unfold outCopy owesA
  iintro ⟨Hs, Hd, Hsem, ⟨%W', %hW', HO⟩, #Hmw⟩ HQ
  unfold Prog.lift
  iapply (Transfers.wp_dmaFromWhole countersEmb 𝒱₀ (thr d L) none (src := src) (dst := dst) (via := ReadAs.same) (q := q) (fs := fs) (Sd := Sd) (fd := fd) (sm := .dma sem.sem) (default : HIx 2) N hN hN0 hSd) $$ [Hs Hd Hsem]
  · isplitl [Hs]; · iexact Hs
    isplitl [Hd]; · iexact Hd
    iexact Hsem
  iintro HF
  iapply (Transfers.wp_waitLocalO countersEmb 𝒱₀ (thr d L) none (srcw := src) (dstw := dst) (default : HIx 2) hN) $$ [HF HO]
  · isplitl [HF]; · iexact HF
    isplitl [HO]; · iexact HO
    iapply (Transfers.MayWaits.elim (SemLoc.dma sem.sem)) $$ Hmw
  iintro ⟨⟨Hd, Hs⟩, Hsem, HO⟩
  iapply HQ
  isplitl [Hs]; · iexact Hs
  isplitl [Hd]; · iexact Hd
  isplitl [Hsem]; · iexact Hsem
  iexists _
  isplitr
  swap; · iexact HO
  ipureintro
  intro p hp
  simp only [Set.mem_insert_iff, Finset.mem_insert] at hp
  rcases hp with rfl | hp
  · right; rfl
  · exact hW' p hp

end Copy

/-! ## What a tile owns of the results -/

/-- The block of `B` words, of a result, that a tile owns. -/
def own1 (n B : ℕ) (L : grid0.Coords) : Finset (Shape.Idx ⟨1, ![n]⟩) := Finset.univ.filter fun x => (x 0).val / B = tileNo L

/-- The rows of the result that a tile owns. -/
def ownRows (L : grid0.Coords) : Finset S10000x128.Idx := Finset.univ.filter fun x => (x 0).val / 320 = tileNo L

theorem off14_eq' (L : grid0.Coords) : k0_off14 L 0 = tileNo L * 16 := by
  rw [k0_off14_eq]
  show 32 * (L 1).val + 16 * (L 0).val = _
  unfold tileNo; omega
theorem off15_eq' (L : grid0.Coords) : k0_off15 L 0 = tileNo L * 16384 := by
  rw [k0_off15_eq]
  show 32768 * (L 1).val + 16384 * (L 0).val = _
  unfold tileNo; omega
theorem off1056_eq' (L : grid0.Coords) : k0_off1056 L = ![loNat L, 0] := by
  rw [k0_off1056_eq]
  have : 640 * (L 1).val + 320 * (L 0).val = loNat L := by unfold loNat tileNo; omega
  rw [this]
theorem off1057_eq' (L : grid0.Coords) : k0_off1057 L = ![loNat L, 0] := by
  rw [k0_off1057_eq]
  have : 640 * (L 1).val + 320 * (L 0).val = loNat L := by unfold loNat tileNo; omega
  rw [this]

theorem cond12_iff : ∀ L : grid0.Coords, k0_cond12 L = 1#1 ↔ tileNo L < 31 := by decide +kernel
theorem cond13_iff : ∀ L : grid0.Coords, k0_cond13 L = 1#1 ↔ tileNo L = 31 := by decide +kernel

theorem sub_cnt (L : grid0.Coords) :
    ((outC).slice (Rect.unit (s := S512) (k0_off14 L) S16.size (k0_off14_inb L)) (fun _ => rfl) : Memref sig Kind.scVector Space.hbm S16 EltTy.i32).view.set ⊆ own1 512 16 L := by
  intro i hi
  obtain ⟨y, _, rfl⟩ := Finset.mem_map.1 hi
  have h := off14_eq' L
  have hy : (y 0).val < 16 := (y 0).isLt
  refine Finset.mem_filter.2 ⟨Finset.mem_univ _, ?_⟩
  show (k0_off14 L 0 + 1 * (y 0).val) / 16 = tileNo L
  omega

theorem sub_src (L : grid0.Coords) :
    ((outS).slice (Rect.unit (s := S524288) (k0_off15 L) S16384.size (k0_off15_inb L)) (fun _ => rfl) : Memref sig Kind.scVector Space.hbm S16384 EltTy.i32).view.set ⊆ own1 524288 16384 L := by
  intro i hi
  obtain ⟨y, _, rfl⟩ := Finset.mem_map.1 hi
  have h := off15_eq' L
  have hy : (y 0).val < 16384 := (y 0).isLt
  refine Finset.mem_filter.2 ⟨Finset.mem_univ _, ?_⟩
  show (k0_off15 L 0 + 1 * (y 0).val) / 16384 = tileNo L
  omega

theorem sub_dst (L : grid0.Coords) :
    ((outD).slice (Rect.unit (s := S524288) (k0_off15 L) S16384.size (k0_off15_inb L)) (fun _ => rfl) : Memref sig Kind.scVector Space.hbm S16384 EltTy.i32).view.set ⊆ own1 524288 16384 L := by
  intro i hi
  obtain ⟨y, _, rfl⟩ := Finset.mem_map.1 hi
  have h := off15_eq' L
  have hy : (y 0).val < 16384 := (y 0).isLt
  refine Finset.mem_filter.2 ⟨Finset.mem_univ _, ?_⟩
  show (k0_off15 L 0 + 1 * (y 0).val) / 16384 = tileNo L
  omega

theorem pos_cnt : ∀ L : grid0.Coords, 0 < ((outC).slice (Rect.unit (s := S512) (k0_off14 L) S16.size (k0_off14_inb L)) (fun _ => rfl) : Memref sig Kind.scVector Space.hbm S16 EltTy.i32).view.dmaCredit := by decide +kernel
theorem pos_src : ∀ L : grid0.Coords, 0 < ((outS).slice (Rect.unit (s := S524288) (k0_off15 L) S16384.size (k0_off15_inb L)) (fun _ => rfl) : Memref sig Kind.scVector Space.hbm S16384 EltTy.i32).view.dmaCredit := by decide +kernel
theorem pos_dst : ∀ L : grid0.Coords, 0 < ((outD).slice (Rect.unit (s := S524288) (k0_off15 L) S16384.size (k0_off15_inb L)) (fun _ => rfl) : Memref sig Kind.scVector Space.hbm S16384 EltTy.i32).view.dmaCredit := by decide +kernel

/-! What the copies out leave in a tile's blocks. -/

/-- Where a view's write lands, and what it puts there. -/
theorem write_at {κ κ' : Kind} {sp sp' : Space} {s : Shape} (v : View sig κ sp s .i32) (v' : View sig κ' sp' s .i32) (f : v.ty.Contents (Elt F)) (w : v'.ty.Contents (Elt F)) (y : s.Idx)
    (x : v.ty.shape.Idx) (hx : v.emb y = x) (r : BitVec 32) (hr : v'.read (Elt F) w y = r) : _root_.cast (congrArg (Elt F) v.elt_eq) (v.write (Elt F) f (v'.read (Elt F) w) Finset.univ x) = r := by
  subst hx
  exact (congrFun (View.read_write_univ (Val := Elt F) (v := v) f (v'.read (Elt F) w)) y).trans hr

theorem cnt_words (L : grid0.Coords) (f : S512.Idx → BitVec 32) (w : S16.Idx → BitVec 32) (x : S512.Idx) (hx : x ∈ own1 512 16 L) :
    ((outC).slice (Rect.unit (s := S512) (k0_off14 L) S16.size (k0_off14_inb L)) (fun _ => rfl) : Memref sig Kind.scVector Space.hbm S16 EltTy.i32).view.write (Elt F) f ((cntV).view.read (Elt F) w) Finset.univ x = w (ix1 ⟨(x 0).val % 16, Nat.mod_lt _ (by decide)⟩) := by
  have hx' : (x 0).val / 16 = tileNo L := (Finset.mem_filter.1 hx).2
  have ho := off14_eq' L
  let y : S16.Idx := ix1 ⟨(x 0).val % 16, Nat.mod_lt _ (by decide)⟩
  have hy : ((outC).slice (Rect.unit (s := S512) (k0_off14 L) S16.size (k0_off14_inb L)) (fun _ => rfl) : Memref sig Kind.scVector Space.hbm S16 EltTy.i32).view.emb y = x := by
    funext a
    apply Fin.ext
    match a with
    | 0 => show k0_off14 L 0 + 1 * ((x 0).val % 16) = (x 0).val; omega
  have h := congrFun (View.read_write_univ (Val := Elt F) (v := ((outC).slice (Rect.unit (s := S512) (k0_off14 L) S16.size (k0_off14_inb L)) (fun _ => rfl) : Memref sig Kind.scVector Space.hbm S16 EltTy.i32).view) f ((cntV).view.read (Elt F) w)) y
  rw [View.read, hy] at h
  exact Eq.trans rfl (h.trans rfl)

theorem src_words (L : grid0.Coords) (f : S524288.Idx → BitVec 32) (w : S16384.Idx → BitVec 32) (x : S524288.Idx) (hx : x ∈ own1 524288 16384 L) :
    ((outS).slice (Rect.unit (s := S524288) (k0_off15 L) S16384.size (k0_off15_inb L)) (fun _ => rfl) : Memref sig Kind.scVector Space.hbm S16384 EltTy.i32).view.write (Elt F) f ((srclV).view.read (Elt F) w) Finset.univ x = w (ix1 ⟨(x 0).val % 16384, Nat.mod_lt _ (by decide)⟩) := by
  have hx' : (x 0).val / 16384 = tileNo L := (Finset.mem_filter.1 hx).2
  have ho := off15_eq' L
  let y : S16384.Idx := ix1 ⟨(x 0).val % 16384, Nat.mod_lt _ (by decide)⟩
  have hy : ((outS).slice (Rect.unit (s := S524288) (k0_off15 L) S16384.size (k0_off15_inb L)) (fun _ => rfl) : Memref sig Kind.scVector Space.hbm S16384 EltTy.i32).view.emb y = x := by
    funext a
    apply Fin.ext
    match a with
    | 0 => show k0_off15 L 0 + 1 * ((x 0).val % 16384) = (x 0).val; omega
  have h := write_at (F := F) (((outS).slice (Rect.unit (s := S524288) (k0_off15 L) S16384.size (k0_off15_inb L)) (fun _ => rfl) : Memref sig Kind.scVector Space.hbm S16384 EltTy.i32).view) (srclV).view f w y x hy (w y) rfl
  exact (cast_eq _ _).symm.trans h

theorem dst_words (L : grid0.Coords) (f : S524288.Idx → BitVec 32) (w : S16384.Idx → BitVec 32) (x : S524288.Idx) (hx : x ∈ own1 524288 16384 L) :
    ((outD).slice (Rect.unit (s := S524288) (k0_off15 L) S16384.size (k0_off15_inb L)) (fun _ => rfl) : Memref sig Kind.scVector Space.hbm S16384 EltTy.i32).view.write (Elt F) f ((dstlV).view.read (Elt F) w) Finset.univ x = w (ix1 ⟨(x 0).val % 16384, Nat.mod_lt _ (by decide)⟩) := by
  have hx' : (x 0).val / 16384 = tileNo L := (Finset.mem_filter.1 hx).2
  have ho := off15_eq' L
  let y : S16384.Idx := ix1 ⟨(x 0).val % 16384, Nat.mod_lt _ (by decide)⟩
  have hy : ((outD).slice (Rect.unit (s := S524288) (k0_off15 L) S16384.size (k0_off15_inb L)) (fun _ => rfl) : Memref sig Kind.scVector Space.hbm S16384 EltTy.i32).view.emb y = x := by
    funext a
    apply Fin.ext
    match a with
    | 0 => show k0_off15 L 0 + 1 * ((x 0).val % 16384) = (x 0).val; omega
  have h := write_at (F := F) (((outD).slice (Rect.unit (s := S524288) (k0_off15 L) S16384.size (k0_off15_inb L)) (fun _ => rfl) : Memref sig Kind.scVector Space.hbm S16384 EltTy.i32).view) (dstlV).view f w y x hy (w y) rfl
  exact (cast_eq _ _).symm.trans h

section Own

variable (d : Dev nD) (L : grid0.Coords)

/-- A tile's part of the lists' and the counts' results, holding anything. -/
def listsOut : sProp (MM F) :=
  iprop((∃ f : S512.Idx → BitVec 32, (outC).view.loc (thr d L) ↦[own1 512 16 L]{fullShare} f)
    ∗ (∃ f : S524288.Idx → BitVec 32, (outS).view.loc (thr d L) ↦[own1 524288 16384 L]{fullShare} f)
    ∗ (∃ f : S524288.Idx → BitVec 32, (outD).view.loc (thr d L) ↦[own1 524288 16384 L]{fullShare} f))

/-- A tile's part of the lists' and the counts' results as the scan leaves it. -/
structure Listed (cnt : BitVec 32) (ls ld : S16384.Idx → BitVec 32) (fC : S512.Idx → BitVec 32) (fS fD : S524288.Idx → BitVec 32) : Prop where
  count : ∀ x ∈ own1 512 16 L, fC x = cnt
  srcs : ∀ x ∈ own1 524288 16384 L, fS x = ls (ix1 ⟨(x 0).val % 16384, Nat.mod_lt _ (by decide)⟩)
  dsts : ∀ x ∈ own1 524288 16384 L, fD x = ld (ix1 ⟨(x 0).val % 16384, Nat.mod_lt _ (by decide)⟩)

/-- A tile's part of the lists' and the counts' results, holding its count and its lists. -/
def listsHold (cnt : BitVec 32) (ls ld : S16384.Idx → BitVec 32) : sProp (MM F) :=
  iprop(∃ (fC : S512.Idx → BitVec 32) (fS fD : S524288.Idx → BitVec 32), ⌜Listed L cnt ls ld fC fS fD⌝ ∗ ((outC).view.loc (thr d L) ↦[own1 512 16 L]{fullShare} fC)
    ∗ ((outS).view.loc (thr d L) ↦[own1 524288 16384 L]{fullShare} fS) ∗ ((outD).view.loc (thr d L) ↦[own1 524288 16384 L]{fullShare} fD))

/-- A tile's part of the lists' and the counts' results, holding what the scan of the edges leaves. -/
def listsScanned (gs gd : S320000.Idx → BitVec 32) : sProp (MM F) :=
  iprop(∃ (cnt : BitVec 32) (ls ld : S16384.Idx → BitVec 32), ⌜cnt.toNat ≤ 16384 ∧ Scanned L (seqOf gs) (seqOf gd) 320000 cnt ls ld⌝ ∗ listsHold (F := F) d L cnt ls ld)

/-- The semaphores of the three copies out. -/
def sems3 : sProp (MM F) :=
  iprop(semVal (thr d L, .dma (cc0_scoped0).sem) 0 ∗ semVal (thr d L, .dma (cc0_scoped1).sem) 0 ∗ semVal (thr d L, .dma (cc0_scoped2).sem) 0)

variable (gx : S10000x128.Idx → Elt F .f32) (ls ld : S16384.Idx → BitVec 32) (qx : PosShare TreeShare)

theorem wp_startFirst {α : Type} (hls : ∀ p, p < 16384 → okSrc (wordAt (m := 16384) ls p)) (ql : PosShare TreeShare) (v19 : BitVec 32) (hv : v19.toNat ≤ 16384)
    (k : PUnit.{1} → Prog (TileEff F L) α) (Q : α → sProp (MM F)) :
    gIdle (F := F) d L gx ls qx ql rA cc0_scratch12
      ⊢ iprop((gSlot (F := F) d L gx ls (nr v19) qx ql rA cc0_scratch12 credRows 0 -∗ wp frame (wpE (defs₀ (F := F)) 𝒱₀ (thr d L) none) Set.univ (k ⟨⟩) Q)
          -∗ wp frame (wpE (defs₀ (F := F)) 𝒱₀ (thr d L) none) Set.univ (startFirst L xV srclV rA cc0_scratch12 (someW v19) k) Q) := by
  unfold startFirst gSlot
  by_cases hc : someW v19 = 1#1
  · rw [if_pos hc, if_pos ((someW_iff v19 hv).1 hc)]
    dsimp only
    iintro HI HQ
    iapply (wp_startRows (F := F) d L gx ls qx ql cc0_scratch12 credRows cred_rA hls ![0] inb_S16384_S128_0 0 rfl) $$ HI
    iexact HQ
  · rw [if_neg hc, if_neg (fun h => hc ((someW_iff v19 hv).2 h))]
    iintro HI HQ
    iapply HQ
    iexact HI

set_option maxHeartbeats 2000000 in
theorem wp_part132 (hls : ∀ p, p < 16384 → okSrc (wordAt (m := 16384) ls p)) (v1 v19 : BitVec 32) (hv : v19.toNat ≤ 16384) (fc : S16.Idx → BitVec 32) (hfc : ∀ y, fc y = v19) (fr : S128x128.Idx → Elt F .f32)
    (O : CellTallies nD τ sig (HIx 2)) (W : Waits sig (HIx 2)) (Q : (Σ' (v44 : BitVec 32), BitVec 32) → sProp (MM F)) :
    iprop(lists (F := F) d L ls ld ∗ ((cntV).view.loc (thr d L) ↦{fullShare} fc) ∗ listsOut (F := F) d L ∗ sems3 (F := F) d L
      ∗ ((rA).view.loc (thr d L) ↦{fullShare} fr) ∗ semVal (thr d L, .dma (cc0_scratch12).sem) 0 ∗ ((xV).view.loc (thr d L) ↦{qx} gx)
      ∗ owesA (F := F) d L O W ∗ Transfers.MayWaits (thr d L) (default : HIx 2) O)
      ⊢ iprop((∀ v, (gSlot (F := F) d L gx ls (nr v19) qx fullShare.left rA cc0_scratch12 credRows 0 ∗ ((srclV).view.loc (thr d L) ↦{fullShare.right} ls) ∗ ((dstlV).view.loc (thr d L) ↦{fullShare} ld)
          ∗ ((cntV).view.loc (thr d L) ↦{fullShare} fc) ∗ listsHold (F := F) d L v19 ls ld ∗ sems3 (F := F) d L ∗ owesA (F := F) d L O W) -∗ Q v)
        -∗ wp frame (wpE (defs₀ (F := F)) 𝒱₀ (thr d L) none) Set.univ (k0_part132_skel (F := F) L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v1 v19) Q) := by
  rw [part132_eq]
  unfold lists listsOut listsHold sems3
  iintro ⟨⟨Hl, Hd⟩, Hc, ⟨⟨%f1, Ho1⟩, ⟨%f2, Ho2⟩, ⟨%f3, Ho3⟩⟩, ⟨Hs1, Hs2, Hs3⟩, Hr, Hsem, Hx, HO, #Hmw⟩ HQ
  iapply (wp_outCopy (F := F) d L cntV ((outC).slice (Rect.unit (s := S512) (k0_off14 L) S16.size (k0_off14_inb L)) (fun _ => rfl) : Memref sig Kind.scVector Space.hbm S16 EltTy.i32) _ _ cc0_scoped0 _ fullShare fc (own1 512 16 L) f1 _ rfl (pos_cnt L) (sub_cnt L) O W) $$ [Hc Ho1 Hs1 HO]
  · isplitl [Hc]; · iexact Hc
    isplitl [Ho1]; · iexact Ho1
    isplitl [Hs1]; · iexact Hs1
    isplitl [HO]; · iexact HO
    iexact Hmw
  iintro ⟨Hc, Ho1, Hs1, HO⟩
  iapply (wp_outCopy (F := F) d L srclV ((outS).slice (Rect.unit (s := S524288) (k0_off15 L) S16384.size (k0_off15_inb L)) (fun _ => rfl) : Memref sig Kind.scVector Space.hbm S16384 EltTy.i32) _ _ cc0_scoped1 _ fullShare ls (own1 524288 16384 L) f2 _ rfl (pos_src L) (sub_src L) O W) $$ [Hl Ho2 Hs2 HO]
  · isplitl [Hl]; · iexact Hl
    isplitl [Ho2]; · iexact Ho2
    isplitl [Hs2]; · iexact Hs2
    isplitl [HO]; · iexact HO
    iexact Hmw
  iintro ⟨Hl, Ho2, Hs2, HO⟩
  iapply (wp_outCopy (F := F) d L dstlV ((outD).slice (Rect.unit (s := S524288) (k0_off15 L) S16384.size (k0_off15_inb L)) (fun _ => rfl) : Memref sig Kind.scVector Space.hbm S16384 EltTy.i32) _ _ cc0_scoped2 _ fullShare ld (own1 524288 16384 L) f3 _ rfl (pos_dst L) (sub_dst L) O W) $$ [Hd Ho3 Hs3 HO]
  · isplitl [Hd]; · iexact Hd
    isplitl [Ho3]; · iexact Ho3
    isplitl [Hs3]; · iexact Hs3
    isplitl [HO]; · iexact HO
    iexact Hmw
  iintro ⟨Hd, Ho3, Hs3, HO⟩
  ihave Hl2 := (pointsTo_share (PosShare.mem_left_op_right fullShare)).1 $$ Hl
  icases Hl2 with ⟨Hl, Hlr⟩
  iapply (wp_startFirst (F := F) d L gx ls qx hls fullShare.left v19 hv) $$ [Hr Hsem Hx Hl]
  · iapply (gIdle_of (F := F) d L gx ls qx fullShare.left rA cc0_scratch12 fr)
    isplitl [Hr]; · iexact Hr
    isplitl [Hsem]; · iexact Hsem
    isplitl [Hx]; · iexact Hx
    iexact Hl
  iintro HS
  sl_step
  iapply HQ
  isplitl [HS]; · iexact HS
  isplitl [Hlr]; · iexact Hlr
  isplitl [Hd]; · iexact Hd
  isplitl [Hc]; · iexact Hc
  isplitl [Ho1 Ho2 Ho3]
  · iexists _, _, _
    isplitr
    swap
    · isplitl [Ho1]; · iexact Ho1
      isplitl [Ho2]; · iexact Ho2
      iexact Ho3
    ipureintro
    exact ⟨fun x hx => (cnt_words (F := F) L f1 fc x hx).trans (hfc _), fun x hx => src_words (F := F) L f2 ls x hx, fun x hx => dst_words (F := F) L f3 ld x hx⟩
  isplitl [Hs1 Hs2 Hs3]
  · isplitl [Hs1]; · iexact Hs1
    isplitl [Hs2]; · iexact Hs2
    iexact Hs3
  iexact HO

end Own

end Cert.Proof.Scan

end
-- ==== Proof.Body.lean ====
/-
  A tile's whole run, from its buffers to its rows of the result.
-/
module

public import proofs.«01_k».proof.Proof.Tile

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

local notation "xV" => (Memref.whole main_arg0_scv : Memref sig Kind.scVector Space.hbm S10000x128 EltTy.f32)
local notation "rA" => (Memref.whole cc0_scratch7 : Memref sig Kind.scVector Space.vmem S128x128 EltTy.f32)
local notation "rB" => (Memref.whole cc0_scratch8 : Memref sig Kind.scVector Space.vmem S128x128 EltTy.f32)
local notation "aggV" => (Memref.whole main_v4_0_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

theorem trips12 : k0_t12_loop.trips = 320 := by decide +kernel

section Run

variable (d : Dev nD) (L : grid0.Coords)

theorem wp_loop12 (f0 : S321x128.Idx → Elt F .f32) (Q : BitVec 32 → sProp (MM F)) :
    accPts d L f0
      ⊢ iprop((∀ v, accPts d L (mapRows finV f0 320) -∗ Q v)
        -∗ wp frame (wpE (defs₀ (F := F)) 𝒱₀ (thr d L) none) Set.univ (Scf.Loop.for k0_t12_loop k0_t12_ok 0#32 (k0_t12_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4)) Q) := by
  iintro Ha HQ
  iapply (Scf.wp_for frame (wpE (defs₀ (F := F)) 𝒱₀ (thr d L) none) Set.univ _ _ _ k0_t12_ok 0#32 _ (fun k _ => accPts d L (mapRows finV f0 k)) ?hb) $$ [Ha HQ]
  case hb =>
    intro k c
    rw [t12_body_eq]
    rw [← mapTo_zero finV (mapRows finV f0 k.val) k.val]
    iintro Ha
    rw [wp_bind]
    iapply (wp_colFin (F := F) d L (mapRows finV f0 k.val) k.val 0 (k0_off1048 k) (k0_off1048_eq k) (k0_off1048_inb k)) $$ Ha; iintro Ha
    rw [wp_bind]
    iapply (wp_colFin (F := F) d L (mapRows finV f0 k.val) k.val 16 (k0_off1049 k) (k0_off1049_eq k) (k0_off1049_inb k)) $$ Ha; iintro Ha
    rw [wp_bind]
    iapply (wp_colFin (F := F) d L (mapRows finV f0 k.val) k.val 32 (k0_off1050 k) (k0_off1050_eq k) (k0_off1050_inb k)) $$ Ha; iintro Ha
    rw [wp_bind]
    iapply (wp_colFin (F := F) d L (mapRows finV f0 k.val) k.val 48 (k0_off1051 k) (k0_off1051_eq k) (k0_off1051_inb k)) $$ Ha; iintro Ha
    rw [wp_bind]
    iapply (wp_colFin (F := F) d L (mapRows finV f0 k.val) k.val 64 (k0_off1052 k) (k0_off1052_eq k) (k0_off1052_inb k)) $$ Ha; iintro Ha
    rw [wp_bind]
    iapply (wp_colFin (F := F) d L (mapRows finV f0 k.val) k.val 80 (k0_off1053 k) (k0_off1053_eq k) (k0_off1053_inb k)) $$ Ha; iintro Ha
    rw [wp_bind]
    iapply (wp_colFin (F := F) d L (mapRows finV f0 k.val) k.val 96 (k0_off1054 k) (k0_off1054_eq k) (k0_off1054_inb k)) $$ Ha; iintro Ha
    rw [wp_bind]
    iapply (wp_colFin (F := F) d L (mapRows finV f0 k.val) k.val 112 (k0_off1055 k) (k0_off1055_eq k) (k0_off1055_inb k)) $$ Ha; iintro Ha
    sl_step
    rw [← mapTo_full]
    iexact Ha
  isplitr [HQ]
  · rw [mapRows_zero]; iexact Ha
  iintro %v Ha
  rw [show (Scf.trips k0_t12_loop.lb k0_t12_loop.ub k0_t12_loop.st) = 320 from trips12]
  iapply HQ
  iexact Ha

/-- The tile's rows of the result, holding the first rows of `f`. -/
def RowsOut (f : S321x128.Idx → Elt F .f32) (fa : S10000x128.Idx → Elt F .f32) : Prop :=
  ∀ x : S10000x128.Idx, x ∈ ownRows L → fa x = f (ix2 ⟨(x 0).val % 320, lt_trans (Nat.mod_lt _ (by decide)) (by decide)⟩ (x 1))

theorem pos_320 (h : k0_cond12 L = 1#1) : 0 < ((aggV).slice (Rect.unit (s := S10000x128) (k0_off1056 L) S320x128.size (k0_off1056_inb L h)) (fun _ => rfl) : Memref sig Kind.scVector Space.hbm S320x128 EltTy.f32).view.dmaCredit := by
  revert L; decide +kernel
theorem pos_80 (h : k0_cond13 L = 1#1) : 0 < ((aggV).slice (Rect.unit (s := S10000x128) (k0_off1057 L) S80x128.size (k0_off1057_inb L h)) (fun _ => rfl) : Memref sig Kind.scVector Space.hbm S80x128 EltTy.f32).view.dmaCredit := by
  revert L; decide +kernel

theorem sub_320 (h : k0_cond12 L = 1#1) :
    ((aggV).slice (Rect.unit (s := S10000x128) (k0_off1056 L) S320x128.size (k0_off1056_inb L h)) (fun _ => rfl) : Memref sig Kind.scVector Space.hbm S320x128 EltTy.f32).view.set ⊆ ownRows L := by
  intro i hi
  obtain ⟨y, _, rfl⟩ := Finset.mem_map.1 hi
  have e : k0_off1056 L 0 = loNat L := by rw [off1056_eq']; rfl
  have hy : (y 0).val < 320 := (y 0).isLt
  refine Finset.mem_filter.2 ⟨Finset.mem_univ _, ?_⟩
  show (k0_off1056 L 0 + 1 * (y 0).val) / 320 = tileNo L
  unfold loNat at e
  omega

theorem sub_80 (h : k0_cond13 L = 1#1) :
    ((aggV).slice (Rect.unit (s := S10000x128) (k0_off1057 L) S80x128.size (k0_off1057_inb L h)) (fun _ => rfl) : Memref sig Kind.scVector Space.hbm S80x128 EltTy.f32).view.set ⊆ ownRows L := by
  intro i hi
  obtain ⟨y, _, rfl⟩ := Finset.mem_map.1 hi
  have e : k0_off1057 L 0 = loNat L := by rw [off1057_eq']; rfl
  have hy : (y 0).val < 80 := (y 0).isLt
  refine Finset.mem_filter.2 ⟨Finset.mem_univ _, ?_⟩
  show (k0_off1057 L 0 + 1 * (y 0).val) / 320 = tileNo L
  unfold loNat at e
  omega

/-- A block of `n` rows copied out. -/
theorem rows_block (n : ℕ) (off : Fin 2 → ℕ) (lo : ℕ) (ho : off = ![lo, 0]) (inb : ∀ a, off a + (⟨2, ![n, 128]⟩ : Shape).size a ≤ S10000x128.size a)
    (inb' : ∀ a, (![0, 0] : Fin 2 → ℕ) a + (⟨2, ![n, 128]⟩ : Shape).size a ≤ S321x128.size a)
    (f : S321x128.Idx → Elt F .f32) (fa : S10000x128.Idx → Elt F .f32) (x : S10000x128.Idx) (r : Fin 321) (hr : r.val < n) (hx : (x 0).val = lo + r.val) :
    ((aggV).slice (Rect.unit (s := S10000x128) off (⟨2, ![n, 128]⟩ : Shape).size inb) (fun _ => rfl) : Memref sig Kind.scVector Space.hbm ⟨2, ![n, 128]⟩ EltTy.f32).view.write (Elt F) fa
      (((accV).slice (Rect.unit (s := S321x128) ![0, 0] (⟨2, ![n, 128]⟩ : Shape).size inb') (fun _ => rfl) : Memref sig Kind.scVector Space.vmem ⟨2, ![n, 128]⟩ EltTy.f32).view.read (Elt F) f) Finset.univ x
      = f (ix2 r (x 1)) := by
  subst ho
  let y : (⟨2, ![n, 128]⟩ : Shape).Idx := ix2 ⟨r.val, hr⟩ (x 1)
  have hy : ((aggV).slice (Rect.unit (s := S10000x128) ![lo, 0] (⟨2, ![n, 128]⟩ : Shape).size inb) (fun _ => rfl) : Memref sig Kind.scVector Space.hbm ⟨2, ![n, 128]⟩ EltTy.f32).view.emb y = x := by
    funext a
    apply Fin.ext
    match a with
    | 0 => show lo + 1 * r.val = (x 0).val; omega
    | 1 => show 0 + 1 * (x 1).val = (x 1).val; omega
  have h := congrFun (View.read_write_univ (Val := Elt F) (v := ((aggV).slice (Rect.unit (s := S10000x128) ![lo, 0] (⟨2, ![n, 128]⟩ : Shape).size inb) (fun _ => rfl) : Memref sig Kind.scVector Space.hbm ⟨2, ![n, 128]⟩ EltTy.f32).view) fa
    (((accV).slice (Rect.unit (s := S321x128) ![0, 0] (⟨2, ![n, 128]⟩ : Shape).size inb') (fun _ => rfl) : Memref sig Kind.scVector Space.vmem ⟨2, ![n, 128]⟩ EltTy.f32).view.read (Elt F) f)) y
  rw [View.read, hy] at h
  refine Eq.trans ?_ (h.trans ?_)
  · rfl
  · show f _ = f _
    congr 1
    funext a
    apply Fin.ext
    match a with
    | 0 => show 0 + 1 * r.val = r.val; omega
    | 1 => show 0 + 1 * (x 1).val = (x 1).val; omega

theorem rows_320 (h : k0_cond12 L = 1#1) (f : S321x128.Idx → Elt F .f32) (fa : S10000x128.Idx → Elt F .f32) :
    RowsOut L f (((aggV).slice (Rect.unit (s := S10000x128) (k0_off1056 L) S320x128.size (k0_off1056_inb L h)) (fun _ => rfl) : Memref sig Kind.scVector Space.hbm S320x128 EltTy.f32).view.write (Elt F) fa
      (((accV).slice (Rect.unit (s := S321x128) ![0, 0] S320x128.size inb_S321x128_S320x128_0_0) (fun _ => rfl) : Memref sig Kind.scVector Space.vmem S320x128 EltTy.f32).view.read (Elt F) f) Finset.univ) := by
  intro x hx
  have hx2 : (x 0).val / 320 = tileNo L := (Finset.mem_filter.1 hx).2
  exact rows_block 320 (k0_off1056 L) (loNat L) (off1056_eq' L) (k0_off1056_inb L h) inb_S321x128_S320x128_0_0 f fa x ⟨(x 0).val % 320, by omega⟩ (Nat.mod_lt _ (by decide))
    (by show (x 0).val = loNat L + (x 0).val % 320; unfold loNat; omega)

theorem rows_80 (h : k0_cond13 L = 1#1) (f : S321x128.Idx → Elt F .f32) (fa : S10000x128.Idx → Elt F .f32) :
    RowsOut L f (((aggV).slice (Rect.unit (s := S10000x128) (k0_off1057 L) S80x128.size (k0_off1057_inb L h)) (fun _ => rfl) : Memref sig Kind.scVector Space.hbm S80x128 EltTy.f32).view.write (Elt F) fa
      (((accV).slice (Rect.unit (s := S321x128) ![0, 0] S80x128.size inb_S321x128_S80x128_0_0) (fun _ => rfl) : Memref sig Kind.scVector Space.vmem S80x128 EltTy.f32).view.read (Elt F) f) Finset.univ) := by
  intro x hx
  have hx2 : (x 0).val / 320 = tileNo L := (Finset.mem_filter.1 hx).2
  have hl : (x 0).val < 10000 := (x 0).isLt
  have ht := (cond13_iff L).1 h
  exact rows_block 80 (k0_off1057 L) (loNat L) (off1057_eq' L) (k0_off1057_inb L h) inb_S321x128_S80x128_0_0 f fa x ⟨(x 0).val % 320, by omega⟩ (by show (x 0).val % 320 < 80; omega)
    (by show (x 0).val = loNat L + (x 0).val % 320; unfold loNat; omega)

set_option maxHeartbeats 1000000 in
theorem wp_finish (f : S321x128.Idx → Elt F .f32) (fa : S10000x128.Idx → Elt F .f32) (O : CellTallies nD τ sig (HIx 2)) (W : Waits sig (HIx 2)) (Q : PUnit → sProp (MM F)) :
    iprop(accPts d L f ∗ ((aggV).view.loc (thr d L) ↦[ownRows L]{fullShare} fa) ∗ semVal (thr d L, .dma (cc0_scoped3).sem) 0 ∗ semVal (thr d L, .dma (cc0_scoped4).sem) 0
      ∗ owesA (F := F) d L O W ∗ Transfers.MayWaits (thr d L) (default : HIx 2) O)
      ⊢ iprop((accPts d L f ∗ (∃ fa : S10000x128.Idx → Elt F .f32, ⌜RowsOut L f fa⌝ ∗ ((aggV).view.loc (thr d L) ↦[ownRows L]{fullShare} fa)) ∗ semVal (thr d L, .dma (cc0_scoped3).sem) 0 ∗ semVal (thr d L, .dma (cc0_scoped4).sem) 0
          ∗ owesA (F := F) d L O W -∗ Q ⟨⟩)
        -∗ wp frame (wpE (defs₀ (F := F)) 𝒱₀ (thr d L) none) Set.univ (finish L accV aggV cc0_scoped3 cc0_scoped4) Q) := by
  have hlt := tileNo_lt L
  unfold finish finish80
  by_cases h12 : k0_cond12 L = 1#1
  · have h13 : ¬ k0_cond13 L = 1#1 := fun h => by have := (cond12_iff L).1 h12; have := (cond13_iff L).1 h; omega
    rw [dif_pos h12, dif_neg h13]
    iintro ⟨Ha, Ho, Hs3, Hs4, HO, #Hmw⟩ HQ
    iapply (wp_outCopy (F := F) d L ((accV).slice (Rect.unit (s := S321x128) ![0, 0] S320x128.size inb_S321x128_S320x128_0_0) (fun _ => rfl) : Memref sig Kind.scVector Space.vmem S320x128 EltTy.f32)
      ((aggV).slice (Rect.unit (s := S10000x128) (k0_off1056 L) S320x128.size (k0_off1056_inb L h12)) (fun _ => rfl) : Memref sig Kind.scVector Space.hbm S320x128 EltTy.f32) _ _
      cc0_scoped3 _ fullShare f (ownRows L) fa _ rfl (pos_320 L h12) (sub_320 L h12) O W) $$ [Ha Ho Hs3 HO]
    · isplitl [Ha]; · iexact Ha
      isplitl [Ho]; · iexact Ho
      isplitl [Hs3]; · iexact Hs3
      isplitl [HO]; · iexact HO
      iexact Hmw
    iintro ⟨Ha, Ho, Hs3, HO⟩
    sl_step
    iapply HQ
    isplitl [Ha]; · iexact Ha
    isplitl [Ho]
    · iexists _
      isplitr
      swap; · iexact Ho
      ipureintro
      exact rows_320 L h12 f fa
    isplitl [Hs3]; · iexact Hs3
    isplitl [Hs4]; · iexact Hs4
    iexact HO
  · have h13 : k0_cond13 L = 1#1 := (cond13_iff L).2 (by
      have : ¬ tileNo L < 31 := fun h => h12 ((cond12_iff L).2 h)
      omega)
    rw [dif_neg h12, dif_pos h13]
    iintro ⟨Ha, Ho, Hs3, Hs4, HO, #Hmw⟩ HQ
    iapply (wp_outCopy (F := F) d L ((accV).slice (Rect.unit (s := S321x128) ![0, 0] S80x128.size inb_S321x128_S80x128_0_0) (fun _ => rfl) : Memref sig Kind.scVector Space.vmem S80x128 EltTy.f32)
      ((aggV).slice (Rect.unit (s := S10000x128) (k0_off1057 L) S80x128.size (k0_off1057_inb L h13)) (fun _ => rfl) : Memref sig Kind.scVector Space.hbm S80x128 EltTy.f32) _ _
      cc0_scoped4 _ fullShare f (ownRows L) fa _ rfl (pos_80 L h13) (sub_80 L h13) O W) $$ [Ha Ho Hs4 HO]
    · isplitl [Ha]; · iexact Ha
      isplitl [Ho]; · iexact Ho
      isplitl [Hs4]; · iexact Hs4
      isplitl [HO]; · iexact HO
      iexact Hmw
    iintro ⟨Ha, Ho, Hs4, HO⟩
    sl_step
    iapply HQ
    isplitl [Ha]; · iexact Ha
    isplitl [Ho]
    · iexists _
      isplitr
      swap; · iexact Ho
      ipureintro
      exact rows_80 L h13 f fa
    isplitl [Hs3]; · iexact Hs3
    isplitl [Hs4]; · iexact Hs4
    iexact HO

end Run

end Cert.Proof.Scan

end
-- ==== Proof.TileRun.lean ====
/-
  A tile's whole run, with its buffers and semaphores gathered.
-/
module

public import proofs.«01_k».proof.Proof.Body

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

local notation "xV" => (Memref.whole main_arg0_scv : Memref sig Kind.scVector Space.hbm S10000x128 EltTy.f32)
local notation "rA" => (Memref.whole cc0_scratch7 : Memref sig Kind.scVector Space.vmem S128x128 EltTy.f32)
local notation "rB" => (Memref.whole cc0_scratch8 : Memref sig Kind.scVector Space.vmem S128x128 EltTy.f32)
local notation "aggV" => (Memref.whole main_v4_0_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

section Tile

variable (d : Dev nD) (L : grid0.Coords) (gx : S10000x128.Idx → Elt F .f32) (gs gd : S320000.Idx → BitVec 32) (q : PosShare TreeShare)

/-- The tile's own buffers, holding anything. -/
def scr : sProp (MM F) :=
  iprop((∃ f : S321x128.Idx → Elt F .f32, (accV).view.loc (thr d L) ↦{fullShare} f)
    ∗ (∃ f : S16384.Idx → BitVec 32, (srclV).view.loc (thr d L) ↦{fullShare} f)
    ∗ (∃ f : S16384.Idx → BitVec 32, (dstlV).view.loc (thr d L) ↦{fullShare} f)
    ∗ (∃ f : S3200.Idx → BitVec 32, (csA).view.loc (thr d L) ↦{fullShare} f)
    ∗ (∃ f : S3200.Idx → BitVec 32, (cdA).view.loc (thr d L) ↦{fullShare} f)
    ∗ (∃ f : S3200.Idx → BitVec 32, (csB).view.loc (thr d L) ↦{fullShare} f)
    ∗ (∃ f : S3200.Idx → BitVec 32, (cdB).view.loc (thr d L) ↦{fullShare} f)
    ∗ (∃ f : S128x128.Idx → Elt F .f32, (rA).view.loc (thr d L) ↦{fullShare} f)
    ∗ (∃ f : S128x128.Idx → Elt F .f32, (rB).view.loc (thr d L) ↦{fullShare} f)
    ∗ (∃ f : S16.Idx → BitVec 32, (cntV).view.loc (thr d L) ↦{fullShare} f))

/-- The tile's own semaphores, at zero. -/
def sems : sProp (MM F) :=
  iprop(semVal (thr d L, .dma (cc0_scratch10).sem) 0 ∗ semVal (thr d L, .dma (cc0_scratch11).sem) 0 ∗ semVal (thr d L, .dma (cc0_scratch12).sem) 0 ∗ semVal (thr d L, .dma (cc0_scratch13).sem) 0 ∗ semVal (thr d L, .dma (cc0_scoped0).sem) 0 ∗ semVal (thr d L, .dma (cc0_scoped1).sem) 0 ∗ semVal (thr d L, .dma (cc0_scoped2).sem) 0 ∗ semVal (thr d L, .dma (cc0_scoped3).sem) 0 ∗ semVal (thr d L, .dma (cc0_scoped4).sem) 0)

/-- The tile's share of the operands. -/
def ins : sProp (MM F) :=
  iprop(((xV).view.loc (thr d L) ↦{q} gx) ∗ ((srcE).view.loc (thr d L) ↦{q} gs) ∗ ((dstE).view.loc (thr d L) ↦{q} gd))

/-- What the tile leaves in its rows: the list's rows folded, an empty row at zero. -/
def TileOut (gx : S10000x128.Idx → Elt F .f32) (gs gd : S320000.Idx → BitVec 32) (fa : S10000x128.Idx → Elt F .f32) : Prop :=
  ∃ (cnt : BitVec 32) (ls ld : S16384.Idx → BitVec 32), cnt.toNat ≤ 16384 ∧ Scanned L (seqOf gs) (seqOf gd) 320000 cnt ls ld ∧
    RowsOut L (mapRows finV (accFold (fun _ => negInf) (rowAt gx ls) (fun n => (wordAt (m := 16384) ld n).toNat) (128 * nr cnt)) 320) fa

theorem idle_of (cs cd : Memref sig .scVector .vmem S3200 .i32) (hcs : cs.view.set = Finset.univ) (hcd : cd.view.set = Finset.univ) (sem : DmaSems sig S_) (fs : Buf (Elt F) (cs.view.loc (thr d L))) (fd : Buf (Elt F) (cd.view.loc (thr d L))) :
    iprop((cs.view.loc (thr d L) ↦{fullShare} fs) ∗ (cd.view.loc (thr d L) ↦{fullShare} fd) ∗ semVal (thr d L, .dma sem.sem) 0
      ∗ ((srcE).view.loc (thr d L) ↦{q} gs) ∗ ((dstE).view.loc (thr d L) ↦{q} gd)) ⊢ idle (F := F) d L gs gd q cs cd sem := by
  unfold idle
  rw [hcs, hcd]
  iintro H
  iexists fs, fd
  iexact H

theorem of_idle (cs cd : Memref sig .scVector .vmem S3200 .i32) (hcs : cs.view.set = Finset.univ) (hcd : cd.view.set = Finset.univ) (sem : DmaSems sig S_) :
    idle (F := F) d L gs gd q cs cd sem ⊢
    iprop((∃ fs : Buf (Elt F) (cs.view.loc (thr d L)), cs.view.loc (thr d L) ↦{fullShare} fs) ∗ (∃ fd : Buf (Elt F) (cd.view.loc (thr d L)), cd.view.loc (thr d L) ↦{fullShare} fd) ∗ semVal (thr d L, .dma sem.sem) 0
      ∗ ((srcE).view.loc (thr d L) ↦{q} gs) ∗ ((dstE).view.loc (thr d L) ↦{q} gd)) := by
  unfold idle
  rw [hcs, hcd]
  iintro ⟨%fs, %fd, H1, H2, H3, H4, H5⟩
  isplitl [H1]; · iexists _; iexact H1
  isplitl [H2]; · iexists _; iexact H2
  isplitl [H3]; · iexact H3
  isplitl [H4]; · iexact H4
  iexact H5

variable (hsrc : ∀ e, (seqOf gs e).toNat < 10000) (hdst : ∀ e, (seqOf gd e).toNat < 10000)
include hsrc hdst

/-- The run after the scan. -/
theorem wp_rest (v1 v19 : BitVec 32) (hw : k0_chk3 v19) (hv : v19.toNat ≤ 16384) (ls ld : S16384.Idx → BitVec 32) (hS : Scanned L (seqOf gs) (seqOf gd) 320000 v19 ls ld)
    (fc : S16.Idx → BitVec 32) (hfc : ∀ y, fc y = v19) (fr : S128x128.Idx → Elt F .f32) (qx qx' : PosShare TreeShare) (fa : S10000x128.Idx → Elt F .f32)
    (O : CellTallies nD τ sig (HIx 2)) (W : Waits sig (HIx 2)) (Q : PUnit → sProp (MM F)) :
    iprop(accPts d L (fun _ => negInf) ∗ lists (F := F) d L ls ld ∗ ((cntV).view.loc (thr d L) ↦{fullShare} fc) ∗ listsOut (F := F) d L ∗ sems3 (F := F) d L
      ∗ ((rA).view.loc (thr d L) ↦{fullShare} fr) ∗ semVal (thr d L, .dma (cc0_scratch12).sem) 0 ∗ ((xV).view.loc (thr d L) ↦{qx} gx)
      ∗ (∃ fr' : S128x128.Idx → Elt F .f32, (rB).view.loc (thr d L) ↦{fullShare} fr') ∗ semVal (thr d L, .dma (cc0_scratch13).sem) 0 ∗ ((xV).view.loc (thr d L) ↦{qx'} gx)
      ∗ ((aggV).view.loc (thr d L) ↦[ownRows L]{fullShare} fa) ∗ semVal (thr d L, .dma (cc0_scoped3).sem) 0 ∗ semVal (thr d L, .dma (cc0_scoped4).sem) 0
      ∗ owesA (F := F) d L O W ∗ Transfers.MayWaits (thr d L) (default : HIx 2) O)
      ⊢ iprop(((∃ f, accPts d L f) ∗ lists (F := F) d L ls ld ∗ ((cntV).view.loc (thr d L) ↦{fullShare} fc) ∗ listsHold (F := F) d L v19 ls ld ∗ sems3 (F := F) d L
      ∗ (∃ fr : S128x128.Idx → Elt F .f32, (rA).view.loc (thr d L) ↦{fullShare} fr) ∗ semVal (thr d L, .dma (cc0_scratch12).sem) 0 ∗ ((xV).view.loc (thr d L) ↦{qx} gx)
      ∗ (∃ fr' : S128x128.Idx → Elt F .f32, (rB).view.loc (thr d L) ↦{fullShare} fr') ∗ semVal (thr d L, .dma (cc0_scratch13).sem) 0 ∗ ((xV).view.loc (thr d L) ↦{qx'} gx)
      ∗ (∃ fa : S10000x128.Idx → Elt F .f32, ⌜TileOut L gx gs gd fa⌝ ∗ ((aggV).view.loc (thr d L) ↦[ownRows L]{fullShare} fa)) ∗ semVal (thr d L, .dma (cc0_scoped3).sem) 0 ∗ semVal (thr d L, .dma (cc0_scoped4).sem) 0
      ∗ owesA (F := F) d L O W -∗ Q ⟨⟩)
        -∗ wp frame (wpE (defs₀ (F := F)) 𝒱₀ (thr d L) none) Set.univ (k0_part132_skel (F := F) L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v1 v19 >>= fun t =>
      Scf.Loop.for (k0_t6_loop v19) (k0_t6_ok v19 hw) 0#32 (k0_t6_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v19 hw) >>= fun v71 =>
      Scf.Loop.for (k0_t9_loop v19) (k0_t9_ok v19 hw) v71 (k0_t9_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v19 hw (pairsW t.2)) >>= fun _ =>
      Scf.Loop.for k0_t12_loop k0_t12_ok 0#32 (k0_t12_body L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4) >>= fun _ =>
      finish L accV aggV cc0_scoped3 cc0_scoped4) Q) := by
  iintro ⟨Ha, Hl, Hc, Hlo, Hs3, HrA, H12, Hx, ⟨%fr', HrB⟩, H13, Hx', Hfa, Hsc3, Hsc4, HO, #Hmw⟩ HQ
  rw [wp_bind]
  iapply (wp_part132 (F := F) d L gx ls ld qx hS.srcs.okAll v1 v19 hv fc hfc fr O W) $$ [Hl Hc Hlo Hs3 HrA H12 Hx HO]
  · isplitl [Hl]; · iexact Hl
    isplitl [Hc]; · iexact Hc
    isplitl [Hlo]; · iexact Hlo
    isplitl [Hs3]; · iexact Hs3
    isplitl [HrA]; · iexact HrA
    isplitl [H12]; · iexact H12
    isplitl [Hx]; · iexact Hx
    isplitl [HO]; · iexact HO
    iexact Hmw
  iintro %t ⟨HS, Hlr, Hd, Hc, Hlo, Hs3, HO⟩
  rw [wp_bind]
  iapply (wp_batches (F := F) d L gx ls ld fullShare v19 hv hS.srcs.okAll hS.dsts.okAll qx fullShare.left qx' fullShare.right hw O W) $$ [HS HrB H13 Hx' Hlr Hd Ha HO]
  · unfold batchInv
    isplitl [HS]; · iexact HS
    isplitl [HrB H13 Hx' Hlr]
    · iapply (gIdle_of (F := F) d L gx ls qx' fullShare.right rB cc0_scratch13 fr')
      isplitl [HrB]; · iexact HrB
      isplitl [H13]; · iexact H13
      isplitl [Hx']; · iexact Hx'
      iexact Hlr
    isplitl [Ha]
    · unfold accAt
      rw [show 128 * min 0 (nr v19) = 0 by simp]
      iexact Ha
    isplitl [Hd]; · iexact Hd
    isplitl [HO]; · iexact HO
    iexact Hmw
  iintro %v71 ⟨HA, HB, Ha, Hd, HO⟩
  rw [wp_bind]
  iapply (Scf.wp_for frame (wpE (defs₀ (F := F)) 𝒱₀ (thr d L) none) Set.univ _ _ _ (k0_t9_ok v19 hw) v71 _ (fun _ _ => iprop(emp)) ?hb) $$ [Ha HA HB Hd HO Hc Hlo Hs3 Hfa Hsc3 Hsc4 HQ]
  case hb => exact fun k _ => (t9_none v19 k).elim
  isplitr [Ha HA HB Hd HO Hc Hlo Hs3 Hfa Hsc3 Hsc4 HQ]
  · iempintro
  iintro %v72 _
  rw [wp_bind]
  unfold accAt
  iapply (wp_loop12 (F := F) d L _) $$ Ha; iintro %v74 Ha
  iapply (wp_finish (F := F) d L _ fa O W) $$ [Ha Hfa Hsc3 Hsc4 HO]
  · isplitl [Ha]; · iexact Ha
    isplitl [Hfa]; · iexact Hfa
    isplitl [Hsc3]; · iexact Hsc3
    isplitl [Hsc4]; · iexact Hsc4
    isplitl [HO]; · iexact HO
    iexact Hmw
  iintro ⟨Ha, ⟨%fa', %hfa, Hfa⟩, Hsc3, Hsc4, HO⟩
  unfold gIdle
  icases HA with ⟨%fr1, HrA, H12, Hx, Hl⟩
  icases HB with ⟨%fr2, HrB, H13, Hx', Hlr⟩
  ihave Hl2 := (pointsTo_share (PosShare.mem_left_op_right fullShare)).2 $$ [Hl Hlr]
  · isplitl [Hl] <;> iassumption
  iapply HQ
  isplitl [Ha]; · iexists _; iexact Ha
  isplitl [Hl2 Hd]
  · unfold lists
    isplitl [Hl2] <;> iassumption
  isplitl [Hc]; · iexact Hc
  isplitl [Hlo]; · iexact Hlo
  isplitl [Hs3]; · iexact Hs3
  isplitl [HrA]; · iexists _; iexact HrA
  isplitl [H12]; · iexact H12
  isplitl [Hx]; · iexact Hx
  isplitl [HrB]; · iexists _; iexact HrB
  isplitl [H13]; · iexact H13
  isplitl [Hx']; · iexact Hx'
  isplitl [Hfa]
  · iexists fa'
    isplitr
    · ipureintro
      exact ⟨v19, ls, ld, hv, hS, hfa⟩
    · iexact Hfa
  isplitl [Hsc3]; · iexact Hsc3
  isplitl [Hsc4]; · iexact Hsc4
  iexact HO

set_option maxHeartbeats 1000000 in
/-- A tile's run. -/
theorem wp_tile (O : CellTallies nD τ sig (HIx 2)) (W : Waits sig (HIx 2)) (Q : PUnit → sProp (MM F)) :
    iprop(scr (F := F) d L ∗ sems (F := F) d L ∗ ins (F := F) d L gx gs gd q ∗ listsOut (F := F) d L
      ∗ (∃ fa : S10000x128.Idx → Elt F .f32, (aggV).view.loc (thr d L) ↦[ownRows L]{fullShare} fa) ∗ owesA (F := F) d L O W ∗ Transfers.MayWaits (thr d L) (default : HIx 2) O)
      ⊢ iprop((scr (F := F) d L ∗ sems (F := F) d L ∗ ins (F := F) d L gx gs gd q ∗ listsScanned (F := F) d L gs gd
          ∗ (∃ fa : S10000x128.Idx → Elt F .f32, ⌜TileOut L gx gs gd fa⌝ ∗ ((aggV).view.loc (thr d L) ↦[ownRows L]{fullShare} fa)) ∗ owesA (F := F) d L O W -∗ Q ⟨⟩)
        -∗ wp frame (wpE (defs₀ (F := F)) 𝒱₀ (thr d L) none) Set.univ (cc0__sc_segmax_scan_body (F := F) L (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4) Q) := by
  rw [body_eq]
  unfold scr sems ins
  iintro ⟨⟨⟨%f0, Ha⟩, ⟨%ls0, Hls⟩, ⟨%ld0, Hld⟩, ⟨%f1, HcsA⟩, ⟨%f2, HcdA⟩, ⟨%f3, HcsB⟩, ⟨%f4, HcdB⟩, ⟨%f5, HrA⟩, ⟨%f6, HrB⟩, ⟨%f7, Hc⟩⟩,
    ⟨H10, H11, H12, H13, Hs0, Hs1, Hs2, Hs3, Hs4⟩, ⟨Hx, Hsr, Hdr⟩, Hlo, ⟨%fa, Hfa⟩, HO, #Hmw⟩ HQ
  ihave Hx2 := (pointsTo_share (PosShare.mem_left_op_right q)).1 $$ Hx
  icases Hx2 with ⟨Hx, Hx'⟩
  ihave Hsr2 := (pointsTo_share (PosShare.mem_left_op_right q)).1 $$ Hsr
  icases Hsr2 with ⟨Hsr, Hsr'⟩
  ihave Hdr2 := (pointsTo_share (PosShare.mem_left_op_right q)).1 $$ Hdr
  icases Hdr2 with ⟨Hdr, Hdr'⟩
  rw [wp_bind]
  iapply (wp_front (F := F) d L gs gd q.left q.right hsrc hdst f0 ls0 ld0 f7 O W) $$ [Ha Hls Hld HcsA HcdA HcsB HcdB H10 H11 Hsr Hsr' Hdr Hdr' Hc HO]
  · isplitl [Ha]; · iexact Ha
    isplitl [Hls Hld]
    · unfold lists
      isplitl [Hls] <;> iassumption
    isplitl [HcsA HcdA H10 Hsr Hdr]
    · iapply (idle_of (F := F) d L gs gd q.left csA cdA (View.set_whole _) (View.set_whole _) cc0_scratch10 f1 f2)
      isplitl [HcsA]; · iexact HcsA
      isplitl [HcdA]; · iexact HcdA
      isplitl [H10]; · iexact H10
      isplitl [Hsr]; · iexact Hsr
      iexact Hdr
    isplitl [HcsB HcdB H11 Hsr' Hdr']
    · iapply (idle_of (F := F) d L gs gd q.right csB cdB (View.set_whole _) (View.set_whole _) cc0_scratch11 f3 f4)
      isplitl [HcsB]; · iexact HcsB
      isplitl [HcdB]; · iexact HcdB
      isplitl [H11]; · iexact H11
      isplitl [Hsr']; · iexact Hsr'
      iexact Hdr'
    isplitl [Hc]; · iexact Hc
    isplitl [HO]; · iexact HO
    iexact Hmw
  iintro %v19 %hw %ls %ld %hS HP
  unfold frontPost
  icases HP with ⟨Ha, Hl, HA, HB, ⟨%fc, %hfc, Hc⟩, HO⟩
  iapply (wp_rest (F := F) d L gx gs gd hsrc hdst (tileW L) v19 hw hS.1 ls ld hS.2 fc hfc f5 q.left q.right fa O W) $$ [Ha Hl Hc Hlo Hs0 Hs1 Hs2 HrA H12 Hx HrB H13 Hx' Hfa Hs3 Hs4 HO]
  · isplitl [Ha]; · iexact Ha
    isplitl [Hl]; · iexact Hl
    isplitl [Hc]; · iexact Hc
    isplitl [Hlo]; · iexact Hlo
    isplitl [Hs0 Hs1 Hs2]
    · unfold sems3
      isplitl [Hs0]; · iexact Hs0
      isplitl [Hs1]; · iexact Hs1
      iexact Hs2
    isplitl [HrA]; · iexact HrA
    isplitl [H12]; · iexact H12
    isplitl [Hx]; · iexact Hx
    isplitl [HrB]; · iexists _; iexact HrB
    isplitl [H13]; · iexact H13
    isplitl [Hx']; · iexact Hx'
    isplitl [Hfa]; · iexact Hfa
    isplitl [Hs3]; · iexact Hs3
    isplitl [Hs4]; · iexact Hs4
    isplitl [HO]; · iexact HO
    iexact Hmw
  iintro ⟨Ha, Hl, Hc, Hlo, Hs, HrA, H12, Hx, HrB, H13, Hx', Hfa, Hs3, Hs4, HO⟩
  ihave HA' := (of_idle (F := F) d L gs gd q.left csA cdA (View.set_whole _) (View.set_whole _) cc0_scratch10) $$ HA
  icases HA' with ⟨HcsA, HcdA, H10, Hsr, Hdr⟩
  ihave HB' := (of_idle (F := F) d L gs gd q.right csB cdB (View.set_whole _) (View.set_whole _) cc0_scratch11) $$ HB
  icases HB' with ⟨HcsB, HcdB, H11, Hsr', Hdr'⟩
  unfold lists sems3
  icases Hl with ⟨Hls, Hld⟩
  icases Hs with ⟨Hs0, Hs1, Hs2⟩
  ihave Hx2 := (pointsTo_share (PosShare.mem_left_op_right q)).2 $$ [Hx Hx']
  · isplitl [Hx] <;> iassumption
  ihave Hsr2 := (pointsTo_share (PosShare.mem_left_op_right q)).2 $$ [Hsr Hsr']
  · isplitl [Hsr] <;> iassumption
  ihave Hdr2 := (pointsTo_share (PosShare.mem_left_op_right q)).2 $$ [Hdr Hdr']
  · isplitl [Hdr] <;> iassumption
  iapply HQ
  isplitl [Ha Hls Hld HcsA HcdA HcsB HcdB HrA HrB Hc]
  · isplitl [Ha]; · iexact Ha
    isplitl [Hls]; · iexists _; iexact Hls
    isplitl [Hld]; · iexists _; iexact Hld
    isplitl [HcsA]; · iexact HcsA
    isplitl [HcdA]; · iexact HcdA
    isplitl [HcsB]; · iexact HcsB
    isplitl [HcdB]; · iexact HcdB
    isplitl [HrA]; · iexact HrA
    isplitl [HrB]; · iexact HrB
    iexists _; iexact Hc
  isplitl [H10 H11 H12 H13 Hs0 Hs1 Hs2 Hs3 Hs4]
  · isplitl [H10]; · iexact H10
    isplitl [H11]; · iexact H11
    isplitl [H12]; · iexact H12
    isplitl [H13]; · iexact H13
    isplitl [Hs0]; · iexact Hs0
    isplitl [Hs1]; · iexact Hs1
    isplitl [Hs2]; · iexact Hs2
    isplitl [Hs3]; · iexact Hs3
    iexact Hs4
  isplitl [Hx2 Hsr2 Hdr2]
  · isplitl [Hx2]; · iexact Hx2
    isplitl [Hsr2]; · iexact Hsr2
    iexact Hdr2
  isplitl [Hlo]
  · unfold listsScanned
    iexists v19, ls, ld
    isplitr
    · ipureintro; exact hS
    iexact Hlo
  isplitl [Hfa]; · iexact Hfa
  iexact HO

end Tile

end Cert.Proof.Scan

end
-- ==== Proof.ReuseRows.lean ====
/-
  The second call's words, lanes and rows: its loops are the first call's last ones, over its own buffers.
-/
module

public import proofs.«01_k».proof.Proof.Rows
public import proofs.«01_k».proof.Proof.Words

@[expose] public section

noncomputable section

namespace Cert.Proof.Reuse

open Cert.Proof.Scan
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc1_scratch0 : Memref sig Kind.scVector Space.vmem S16384 EltTy.i32)
local notation "dstlV" => (Memref.whole cc1_scratch1 : Memref sig Kind.scVector Space.vmem S16384 EltTy.i32)
local notation "accV" => (Memref.whole cc1_scratch2 : Memref sig Kind.scVector Space.vmem S321x128 EltTy.f32)
local notation "rA" => (Memref.whole cc1_scratch3 : Memref sig Kind.scVector Space.vmem S128x128 EltTy.f32)
local notation "rB" => (Memref.whole cc1_scratch4 : Memref sig Kind.scVector Space.vmem S128x128 EltTy.f32)
local notation "cntV" => (Memref.whole cc1_scratch5 : Memref sig Kind.scVector Space.vmem S16 EltTy.i32)
local notation "xV" => (Memref.whole main_arg2_scv : Memref sig Kind.scVector Space.hbm S10000x128 EltTy.f32)
local notation "aggV" => (Memref.whole main_v5_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

theorem writes_acc (f : S321x128.Idx → Elt F .f32) (off : Fin 2 → ℕ) (inb : ∀ a, off a + S1x16.size a ≤ S321x128.size a) (w : Vec F S1x16 .f32) :
    (accV).view.writes (Elt F) f [⟨Rect.unit (s := S321x128) off S1x16.size inb, w⟩] = VecWindow.put f off S1x16.size w :=
  View.read_writes_cons_put (accV).view f inb w [] rfl

theorem readAt_acc (f : S321x128.Idx → Elt F .f32) (off : Fin 2 → ℕ) (inb : ∀ a, off a + S1x16.size a ≤ S321x128.size a) :
    (accV).view.readAt (Elt F) (Rect.unit (s := S321x128) off S1x16.size inb).toLoadRect f = VecWindow.window f off S1x16.size inb :=
  View.readAt_unit (accV).view f inb rfl inb

/-- The same of the views' own reads and writes. -/
theorem store_upTo {κ : Kind} (w : View sig κ .vmem S128x128 .f32) (f : S321x128.Idx → Elt F .f32) (g : w.ty.Contents (Elt F)) (v b : BitVec 32) (r : Fin 128) (n : ℕ) (hb : b.toNat = r.val)
    (ha : ∀ a, colOff v n a + S1x16.size a ≤ S321x128.size a) (hB : ∀ a, colOff b n a + S1x16.size a ≤ S128x128.size a) :
    (accV).view.writes (Elt F) (upTo f (w.read (Elt F) g) v.toNat r n) [⟨Rect.unit (s := S321x128) (colOff v n) S1x16.size ha,
        shapeCast S1x16 (maximumf (shapeCast S16 ((accV).view.readAt (Elt F) (Rect.unit (s := S321x128) (colOff v n) S1x16.size ha).toLoadRect (upTo f (w.read (Elt F) g) v.toNat r n)) shapeCasts_S1x16_S16)
          (shapeCast S16 (w.readAt (Elt F) (Rect.unit (s := S128x128) (colOff b n) S1x16.size hB).toLoadRect g) shapeCasts_S1x16_S16)) shapeCasts_S16_S1x16⟩]
      = upTo f (w.read (Elt F) g) v.toNat r (n + 16) := by
  rw [writes_acc, readAt_acc, View.readAt_unit w g hB rfl hB]
  exact put_upTo f _ v b r n hb ha hB

section Run

variable (d : Dev nD) (L : grid0.Coords)

abbrev accPts (f : S321x128.Idx → Elt F .f32) : sProp (MM F) := (accV).view.loc (thr d L) ↦{fullShare} f

/-- One column group's run. -/
theorem wp_colMax (rows : RowsRef) (q : PosShare TreeShare) (g : Buf (Elt F) (rows.view.loc (thr d L))) (f : S321x128.Idx → Elt F .f32)
    (v b : BitVec 32) (r : Fin 128) (n : ℕ) (hb : b.toNat = r.val)
    (ha : ∀ a, colOff v n a + S1x16.size a ≤ S321x128.size a) (hB : ∀ a, colOff b n a + S1x16.size a ≤ S128x128.size a) (Q : PUnit → sProp 𝕄) :
    iprop(accPts d L (upTo f (rows.view.read (Elt F) g) v.toNat r n) ∗ (rows.view.loc (thr d L) ↦[rows.view.set]{q} g))
      ⊢ iprop((iprop(accPts d L (upTo f (rows.view.read (Elt F) g) v.toNat r (n + 16)) ∗ (rows.view.loc (thr d L) ↦[rows.view.set]{q} g)) -∗ Q ⟨⟩)
        -∗ wp frame (wpE (defs₀ (F := F)) 𝒱₀ (thr d L) none) Set.univ (colMax L accV rows (colOff v n) (colOff b n) ha hB) Q) := by
  unfold colMax
  iintro ⟨Ha, Hr⟩ HQ
  iapply (wp_load 𝒱₀ (thr d L) none Set.univ (m := accV) (S := Finset.univ) (Finset.subset_univ _)) $$ Ha; iintro Ha
  iapply (wp_load 𝒱₀ (thr d L) none Set.univ (m := rows) (S := rows.view.set) (View.setOn_subset_set rows.view _)) $$ Hr; iintro Hr
  iapply (wp_load 𝒱₀ (thr d L) none Set.univ (m := accV) (S := Finset.univ) (Finset.subset_univ _)) $$ Ha; iintro Ha
  iapply (wp_store_writes₀ 𝒱₀ (thr d L) none Set.univ (m := accV) (r := Rect.unit (s := S321x128) (colOff v n) S1x16.size ha) (S := Finset.univ) (Finset.subset_univ _)) $$ Ha; iintro Ha
  sl_step
  iapply HQ
  isplitl [Ha]
  · rw [← store_upTo rows.view f g v b r n hb ha hB]
    iexact Ha
  · iexact Hr

/-- One lane's run. -/
theorem wp_lane (rows : RowsRef) (q : PosShare TreeShare) (g : Buf (Elt F) (rows.view.loc (thr d L))) (f : S321x128.Idx → Elt F .f32)
    (chk : BitVec 32 → Prop) (dec : ∀ v, Decidable (chk v)) (hchk : RowIn chk)
    (v b : BitVec 32) (r : Fin 128) (hv : chk v) (hb : b.toNat = r.val)
    (hB : ∀ c : ℕ, c + 16 ≤ 128 → ∀ a, colOff b c a + S1x16.size a ≤ S128x128.size a) (Q : PUnit → sProp 𝕄) :
    iprop(accPts d L f ∗ (rows.view.loc (thr d L) ↦[rows.view.set]{q} g))
      ⊢ iprop((iprop(accPts d L (rowMax f (fun c => rows.view.read (Elt F) g (ix2 r c)) v.toNat) ∗ (rows.view.loc (thr d L) ↦[rows.view.set]{q} g)) -∗ Q ⟨⟩)
        -∗ wp frame (wpE (defs₀ (F := F)) 𝒱₀ (thr d L) none) Set.univ (lane L accV rows chk dec hchk v b hB) Q) := by
  unfold lane
  iintro ⟨Ha, Hr⟩ HQ
  rw [← upTo_zero f (rows.view.read (Elt F) g) v.toNat r]
  rw [show rowMax (upTo f (rows.view.read (Elt F) g) v.toNat r 0) (fun c => rows.view.read (Elt F) g (ix2 r c)) v.toNat = upTo f (rows.view.read (Elt F) g) v.toNat r 128 by
    rw [upTo_zero, upTo_full]]
  rw [wp_bind]
  unfold Prog.lift
  rw [wp_assume_of 𝒱₀ (thr d L) none Set.univ hv]
  sl_step
  rw [wp_bind]
  iapply (wp_colMax d L rows q g f v b r 0 hb _ _ _) $$ [Ha Hr]
  · isplitl [Ha]
    · iexact Ha
    · iexact Hr
  iintro ⟨Ha, Hr⟩
  rw [wp_bind]
  iapply (wp_colMax d L rows q g f v b r 16 hb _ _ _) $$ [Ha Hr]
  · isplitl [Ha]
    · iexact Ha
    · iexact Hr
  iintro ⟨Ha, Hr⟩
  rw [wp_bind]
  iapply (wp_colMax d L rows q g f v b r 32 hb _ _ _) $$ [Ha Hr]
  · isplitl [Ha]
    · iexact Ha
    · iexact Hr
  iintro ⟨Ha, Hr⟩
  rw [wp_bind]
  iapply (wp_colMax d L rows q g f v b r 48 hb _ _ _) $$ [Ha Hr]
  · isplitl [Ha]
    · iexact Ha
    · iexact Hr
  iintro ⟨Ha, Hr⟩
  rw [wp_bind]
  iapply (wp_colMax d L rows q g f v b r 64 hb _ _ _) $$ [Ha Hr]
  · isplitl [Ha]
    · iexact Ha
    · iexact Hr
  iintro ⟨Ha, Hr⟩
  rw [wp_bind]
  iapply (wp_colMax d L rows q g f v b r 80 hb _ _ _) $$ [Ha Hr]
  · isplitl [Ha]
    · iexact Ha
    · iexact Hr
  iintro ⟨Ha, Hr⟩
  rw [wp_bind]
  iapply (wp_colMax d L rows q g f v b r 96 hb _ _ _) $$ [Ha Hr]
  · isplitl [Ha]
    · iexact Ha
    · iexact Hr
  iintro ⟨Ha, Hr⟩
  iapply (wp_colMax d L rows q g f v b r 112 hb _ _ _) $$ [Ha Hr]
  · isplitl [Ha]
    · iexact Ha
    · iexact Hr
  iexact HQ

theorem laneWord_eq (fd : S16384.Idx → BitVec 32) (od : Fin 1 → ℕ) (hod : ∀ a, od a + S16.size a ≤ S16384.size a) (j : ℕ) (hj : j < 16) :
    laneWord (F := F) ((dstlV).view.readAt (Elt F) (Rect.unit (s := S16384) od S16.size hod).toLoadRect fd) j hj = wordAt (m := 16384) fd (od 0 + j) := by
  have h0 : od 0 + 16 ≤ 16384 := hod 0
  unfold wordAt
  rw [dif_pos (by omega)]
  show fd _ = fd _
  congr 1
  funext a
  apply Fin.ext
  match a with
  | 0 =>
    show od 0 + 1 * (j + 0) = od 0 + j
    omega

/-- One trip's run: sixteen more rows of the list. -/
theorem wp_trip (rows : RowsRef) (q q' : PosShare TreeShare) (g : Buf (Elt F) (rows.view.loc (thr d L))) (fd : S16384.Idx → BitVec 32)
    (f : S321x128.Idx → Elt F .f32) (row : ℕ → Fin 128 → Elt F .f32)
    (chk : BitVec 32 → Prop) (dec : ∀ v, Decidable (chk v)) (hchk : RowIn chk) (hc : ∀ n, chk (wordAt (m := 16384) fd n))
    (od : Fin 1 → ℕ) (hod : ∀ a, od a + S16.size a ≤ S16384.size a) (t : Fin 8) (p : ℕ) (hp : od 0 = p)
    (hR : ∀ j (hj : j < 16), (fun c => rows.view.read (Elt F) g (ix2 ⟨16 * t.val + j, by omega⟩ c)) = row (p + j)) (Q : BitVec 32 → sProp 𝕄) :
    iprop(accPts d L (accFold f row (fun n => (wordAt (m := 16384) fd n).toNat) p) ∗ (rows.view.loc (thr d L) ↦[rows.view.set]{q} g) ∗ ((dstlV).view.loc (thr d L) ↦{q'} fd))
      ⊢ iprop((iprop(accPts d L (accFold f row (fun n => (wordAt (m := 16384) fd n).toNat) (p + 16)) ∗ (rows.view.loc (thr d L) ↦[rows.view.set]{q} g) ∗ ((dstlV).view.loc (thr d L) ↦{q'} fd)) -∗ Q 0#32)
        -∗ wp frame (wpE (defs₀ (F := F)) 𝒱₀ (thr d L) none) Set.univ (trip L dstlV accV rows chk dec hchk od hod t) Q) := by
  subst hp
  have eW : ∀ j hj, laneWord (F := F) ((dstlV).view.readAt (Elt F) (Rect.unit (s := S16384) od S16.size hod).toLoadRect fd) j hj = wordAt (m := 16384) fd (od 0 + j) :=
    laneWord_eq fd od hod
  have eR : ∀ j (hj : j < 16) j', j' = j + 1 → rowMax (accFold f row (fun n => (wordAt (m := 16384) fd n).toNat) (od 0 + j))
      (fun c => rows.view.read (Elt F) g (ix2 ⟨16 * t.val + j, by omega⟩ c)) (wordAt (m := 16384) fd (od 0 + j)).toNat
        = accFold f row (fun n => (wordAt (m := 16384) fd n).toNat) (od 0 + j') := fun j hj j' e => by
    rw [hR j hj, e]; rfl
  unfold trip
  rw [show accFold f row (fun n => (wordAt (m := 16384) fd n).toNat) (od 0) = accFold f row (fun n => (wordAt (m := 16384) fd n).toNat) (od 0 + 0) from rfl]
  iintro ⟨Ha, Hr, Hd⟩ HQ
  rw [wp_bind]
  unfold Prog.lift
  iapply (wp_load 𝒱₀ (thr d L) none Set.univ (m := dstlV) (S := Finset.univ) (Finset.subset_univ _)) $$ Hd; iintro Hd
  sl_step
  rw [wp_bind]
  rw [eW 0 (by decide)]
  iapply (wp_lane d L rows q g _ chk dec hchk _ _ ⟨16 * t.val + 0, by omega⟩ (hc _) (rowWord_toNat t.val 0 t.isLt (by decide)) _) $$ [Ha Hr]
  · isplitl [Ha]
    · iexact Ha
    · iexact Hr
  iintro ⟨Ha, Hr⟩
  rw [eR 0 (by decide) 1 rfl]
  rw [wp_bind]
  rw [eW 1 (by decide)]
  iapply (wp_lane d L rows q g _ chk dec hchk _ _ ⟨16 * t.val + 1, by omega⟩ (hc _) (rowWord_toNat t.val 1 t.isLt (by decide)) _) $$ [Ha Hr]
  · isplitl [Ha]
    · iexact Ha
    · iexact Hr
  iintro ⟨Ha, Hr⟩
  rw [eR 1 (by decide) 2 rfl]
  rw [wp_bind]
  rw [eW 2 (by decide)]
  iapply (wp_lane d L rows q g _ chk dec hchk _ _ ⟨16 * t.val + 2, by omega⟩ (hc _) (rowWord_toNat t.val 2 t.isLt (by decide)) _) $$ [Ha Hr]
  · isplitl [Ha]
    · iexact Ha
    · iexact Hr
  iintro ⟨Ha, Hr⟩
  rw [eR 2 (by decide) 3 rfl]
  rw [wp_bind]
  rw [eW 3 (by decide)]
  iapply (wp_lane d L rows q g _ chk dec hchk _ _ ⟨16 * t.val + 3, by omega⟩ (hc _) (rowWord_toNat t.val 3 t.isLt (by decide)) _) $$ [Ha Hr]
  · isplitl [Ha]
    · iexact Ha
    · iexact Hr
  iintro ⟨Ha, Hr⟩
  rw [eR 3 (by decide) 4 rfl]
  rw [wp_bind]
  rw [eW 4 (by decide)]
  iapply (wp_lane d L rows q g _ chk dec hchk _ _ ⟨16 * t.val + 4, by omega⟩ (hc _) (rowWord_toNat t.val 4 t.isLt (by decide)) _) $$ [Ha Hr]
  · isplitl [Ha]
    · iexact Ha
    · iexact Hr
  iintro ⟨Ha, Hr⟩
  rw [eR 4 (by decide) 5 rfl]
  rw [wp_bind]
  rw [eW 5 (by decide)]
  iapply (wp_lane d L rows q g _ chk dec hchk _ _ ⟨16 * t.val + 5, by omega⟩ (hc _) (rowWord_toNat t.val 5 t.isLt (by decide)) _) $$ [Ha Hr]
  · isplitl [Ha]
    · iexact Ha
    · iexact Hr
  iintro ⟨Ha, Hr⟩
  rw [eR 5 (by decide) 6 rfl]
  rw [wp_bind]
  rw [eW 6 (by decide)]
  iapply (wp_lane d L rows q g _ chk dec hchk _ _ ⟨16 * t.val + 6, by omega⟩ (hc _) (rowWord_toNat t.val 6 t.isLt (by decide)) _) $$ [Ha Hr]
  · isplitl [Ha]
    · iexact Ha
    · iexact Hr
  iintro ⟨Ha, Hr⟩
  rw [eR 6 (by decide) 7 rfl]
  rw [wp_bind]
  rw [eW 7 (by decide)]
  iapply (wp_lane d L rows q g _ chk dec hchk _ _ ⟨16 * t.val + 7, by omega⟩ (hc _) (rowWord_toNat t.val 7 t.isLt (by decide)) _) $$ [Ha Hr]
  · isplitl [Ha]
    · iexact Ha
    · iexact Hr
  iintro ⟨Ha, Hr⟩
  rw [eR 7 (by decide) 8 rfl]
  rw [wp_bind]
  rw [eW 8 (by decide)]
  iapply (wp_lane d L rows q g _ chk dec hchk _ _ ⟨16 * t.val + 8, by omega⟩ (hc _) (rowWord_toNat t.val 8 t.isLt (by decide)) _) $$ [Ha Hr]
  · isplitl [Ha]
    · iexact Ha
    · iexact Hr
  iintro ⟨Ha, Hr⟩
  rw [eR 8 (by decide) 9 rfl]
  rw [wp_bind]
  rw [eW 9 (by decide)]
  iapply (wp_lane d L rows q g _ chk dec hchk _ _ ⟨16 * t.val + 9, by omega⟩ (hc _) (rowWord_toNat t.val 9 t.isLt (by decide)) _) $$ [Ha Hr]
  · isplitl [Ha]
    · iexact Ha
    · iexact Hr
  iintro ⟨Ha, Hr⟩
  rw [eR 9 (by decide) 10 rfl]
  rw [wp_bind]
  rw [eW 10 (by decide)]
  iapply (wp_lane d L rows q g _ chk dec hchk _ _ ⟨16 * t.val + 10, by omega⟩ (hc _) (rowWord_toNat t.val 10 t.isLt (by decide)) _) $$ [Ha Hr]
  · isplitl [Ha]
    · iexact Ha
    · iexact Hr
  iintro ⟨Ha, Hr⟩
  rw [eR 10 (by decide) 11 rfl]
  rw [wp_bind]
  rw [eW 11 (by decide)]
  iapply (wp_lane d L rows q g _ chk dec hchk _ _ ⟨16 * t.val + 11, by omega⟩ (hc _) (rowWord_toNat t.val 11 t.isLt (by decide)) _) $$ [Ha Hr]
  · isplitl [Ha]
    · iexact Ha
    · iexact Hr
  iintro ⟨Ha, Hr⟩
  rw [eR 11 (by decide) 12 rfl]
  rw [wp_bind]
  rw [eW 12 (by decide)]
  iapply (wp_lane d L rows q g _ chk dec hchk _ _ ⟨16 * t.val + 12, by omega⟩ (hc _) (rowWord_toNat t.val 12 t.isLt (by decide)) _) $$ [Ha Hr]
  · isplitl [Ha]
    · iexact Ha
    · iexact Hr
  iintro ⟨Ha, Hr⟩
  rw [eR 12 (by decide) 13 rfl]
  rw [wp_bind]
  rw [eW 13 (by decide)]
  iapply (wp_lane d L rows q g _ chk dec hchk _ _ ⟨16 * t.val + 13, by omega⟩ (hc _) (rowWord_toNat t.val 13 t.isLt (by decide)) _) $$ [Ha Hr]
  · isplitl [Ha]
    · iexact Ha
    · iexact Hr
  iintro ⟨Ha, Hr⟩
  rw [eR 13 (by decide) 14 rfl]
  rw [wp_bind]
  rw [eW 14 (by decide)]
  iapply (wp_lane d L rows q g _ chk dec hchk _ _ ⟨16 * t.val + 14, by omega⟩ (hc _) (rowWord_toNat t.val 14 t.isLt (by decide)) _) $$ [Ha Hr]
  · isplitl [Ha]
    · iexact Ha
    · iexact Hr
  iintro ⟨Ha, Hr⟩
  rw [eR 14 (by decide) 15 rfl]
  rw [wp_bind]
  rw [eW 15 (by decide)]
  iapply (wp_lane d L rows q g _ chk dec hchk _ _ ⟨16 * t.val + 15, by omega⟩ (hc _) (rowWord_toNat t.val 15 t.isLt (by decide)) _) $$ [Ha Hr]
  · isplitl [Ha]
    · iexact Ha
    · iexact Hr
  iintro ⟨Ha, Hr⟩
  rw [eR 15 (by decide) 16 rfl]
  sl_step
  iapply HQ
  isplitl [Ha]
  · iexact Ha
  isplitl [Hr]
  · iexact Hr
  · iexact Hd

end Run

theorem rowIn_chk4 (v19 : BitVec 32) (k : Fin (k1_t2_loop v19).trips) (h4 : k1_cond2 v19 k = 1#1) : RowIn (k1_chk2 v19 k) := by
  intro v h c hc a
  have h0 := h.1 h4 0
  match a with
  | 0 => exact h0
  | 1 => exact hc

theorem rowIn_chk20 (v19 : BitVec 32) (k : Fin (k1_t2_loop v19).trips) (h6 : k1_cond4 v19 k = 1#1) : RowIn (k1_chk18 v19 k) := by
  intro v h c hc a
  have h0 := h.1 h6 0
  match a with
  | 0 => exact h0
  | 1 => exact hc

theorem trips7 : k1_t3_loop.trips = 8 := by decide
theorem trips8 : k1_t4_loop.trips = 8 := by decide

set_option maxRecDepth 65536 in
set_option maxHeartbeats 4000000 in
theorem t7_body_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) (v19 : BitVec 32) (hw3 : k1_chk1 v19) (k : Fin (k1_t2_loop v19).trips) (h4 : k1_cond2 v19 k = 1#1) (v97 : BitVec 32) (w13 w128 w14 w19 : BitVec 32) (w20 : BitVec 1) (t : Fin k1_t3_loop.trips) (x : BitVec 32) :
    k1_t3_body (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v19 hw3 w13 w128 w14 w19 w20 k h4 v97 t x
      = trip i arg8 arg9 arg10 (k1_chk2 v19 k) (k1_chk2.dec v19 k) (rowIn_chk4 v19 k h4) (k1_off12 v19 k t) (k1_off12_inb v19 hw3 k t h4) (Fin.cast trips7 t) := rfl

set_option maxRecDepth 65536 in
set_option maxHeartbeats 4000000 in
theorem t8_body_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) (v19 : BitVec 32) (hw3 : k1_chk1 v19) (k : Fin (k1_t2_loop v19).trips) (h6 : k1_cond4 v19 k = 1#1) (v97 : BitVec 32) (w13 w128 w14 w19 : BitVec 32) (w20 : BitVec 1) (t : Fin k1_t4_loop.trips) (x : BitVec 32) :
    k1_t4_body (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v19 hw3 w13 w128 w14 w19 w20 k h6 v97 t x
      = trip i arg8 arg9 arg11 (k1_chk18 v19 k) (k1_chk18.dec v19 k) (rowIn_chk20 v19 k h6) (k1_off270 v19 k t) (k1_off270_inb v19 hw3 k t h6) (Fin.cast trips8 t) := rfl

theorem t1_body_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) (k : Fin k1_t1_loop.trips) (x : BitVec 32) :
    k1_t1_body (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 k x = (do
        colFill i arg9 (k1_off1 k) (k1_off1_inb k)
        colFill i arg9 (k1_off2 k) (k1_off2_inb k)
        colFill i arg9 (k1_off3 k) (k1_off3_inb k)
        colFill i arg9 (k1_off4 k) (k1_off4_inb k)
        colFill i arg9 (k1_off5 k) (k1_off5_inb k)
        colFill i arg9 (k1_off6 k) (k1_off6_inb k)
        colFill i arg9 (k1_off7 k) (k1_off7_inb k)
        colFill i arg9 (k1_off8 k) (k1_off8_inb k)
        pure 0#32) := rfl

theorem t12_body_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) (w27 : BitVec 32) (k : Fin k1_t8_loop.trips) (x : BitVec 32) :
    k1_t8_body (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 w27 k x = (do
        colFin i arg9 (k1_off1043 k) (k1_off1043_inb k)
        colFin i arg9 (k1_off1044 k) (k1_off1044_inb k)
        colFin i arg9 (k1_off1045 k) (k1_off1045_inb k)
        colFin i arg9 (k1_off1046 k) (k1_off1046_inb k)
        colFin i arg9 (k1_off1047 k) (k1_off1047_inb k)
        colFin i arg9 (k1_off1048 k) (k1_off1048_inb k)
        colFin i arg9 (k1_off1049 k) (k1_off1049_inb k)
        colFin i arg9 (k1_off1050 k) (k1_off1050_inb k)
        pure 0#32) := rfl

theorem cast_fill (y : S1x16.Idx) : shapeCast S1x16 (k1_pay613 (F := F)) shapeCasts_S16_S1x16 y = negInf (F := F) := rfl
theorem cast_fin (u : Vec F S1x16 .f32) (y : S1x16.Idx) : shapeCast S1x16 (k1_pay605 u) shapeCasts_S16_S1x16 y = finV (u y) := by
  have hu := congrFun (shapeCast_shapeCast u shapeCasts_S1x16_S16 shapeCasts_S16_S1x16) y
  show finV (shapeCast S1x16 (shapeCast S16 u _) _ y) = _
  rw [hu]

section Run

variable (d : Dev nD) (L : grid0.Coords)

theorem wp_colFill (f : S321x128.Idx → Elt F .f32) (r n : ℕ) (off : Fin 2 → ℕ) (ho : off = ![r, n]) (ha : ∀ a, off a + S1x16.size a ≤ S321x128.size a) (Q : PUnit → sProp (MM F)) :
    accPts d L (mapTo (fun _ => negInf) f r n)
      ⊢ iprop((accPts d L (mapTo (fun _ => negInf) f r (n + 16)) -∗ Q ⟨⟩)
        -∗ wp frame (wpE (defs₀ (F := F)) 𝒱₀ (thr d L) none) Set.univ (colFill L accV off ha) Q) := by
  unfold colFill
  iintro Ha HQ
  iapply (wp_load 𝒱₀ (thr d L) none Set.univ (m := accV) (S := Finset.univ) (Finset.subset_univ _)) $$ Ha; iintro Ha
  iapply (wp_store_writes₀ 𝒱₀ (thr d L) none Set.univ (m := accV) (r := Rect.unit (s := S321x128) off S1x16.size ha) (S := Finset.univ) (Finset.subset_univ _)) $$ Ha; iintro Ha
  sl_step
  iapply HQ
  rw [← put_mapTo (fun _ => negInf) f off r n ho (shapeCast S1x16 (k1_pay613 (F := F)) shapeCasts_S16_S1x16) ha (fun y => cast_fill y), ← writes_acc (mapTo (fun _ => negInf) f r n) off ha]
  iexact Ha

theorem wp_colFin (f : S321x128.Idx → Elt F .f32) (r n : ℕ) (off : Fin 2 → ℕ) (ho : off = ![r, n]) (ha : ∀ a, off a + S1x16.size a ≤ S321x128.size a) (Q : PUnit → sProp (MM F)) :
    accPts d L (mapTo finV f r n)
      ⊢ iprop((accPts d L (mapTo finV f r (n + 16)) -∗ Q ⟨⟩)
        -∗ wp frame (wpE (defs₀ (F := F)) 𝒱₀ (thr d L) none) Set.univ (colFin L accV off ha) Q) := by
  unfold colFin
  iintro Ha HQ
  iapply (wp_load 𝒱₀ (thr d L) none Set.univ (m := accV) (S := Finset.univ) (Finset.subset_univ _)) $$ Ha; iintro Ha
  iapply (wp_load 𝒱₀ (thr d L) none Set.univ (m := accV) (S := Finset.univ) (Finset.subset_univ _)) $$ Ha; iintro Ha
  iapply (wp_store_writes₀ 𝒱₀ (thr d L) none Set.univ (m := accV) (r := Rect.unit (s := S321x128) off S1x16.size ha) (S := Finset.univ) (Finset.subset_univ _)) $$ Ha; iintro Ha
  sl_step
  iapply HQ
  rw [← put_mapTo finV f off r n ho (shapeCast S1x16 (k1_pay605 ((accV).view.readAt (Elt F) (Rect.unit (s := S321x128) off S1x16.size ha).toLoadRect (mapTo finV f r n))) shapeCasts_S16_S1x16) ha
    (fun y => by rw [cast_fin, readAt_acc]), ← writes_acc (mapTo finV f r n) off ha]
  iexact Ha

end Run

theorem t6_eq (v19 : BitVec 32) : k1_t2_loop v19 = pairLoop (nrW v19) := rfl

theorem t6_ok (v19 : BitVec 32) (h : v19.toNat ≤ 16384) : (k1_t2_loop v19).OK := by
  have := nr_le v19 h
  rw [t6_eq, nrW_eq v19 h]
  exact (pair_all ⟨nr v19, by omega⟩).1

theorem t6_trips (v19 : BitVec 32) (h : v19.toNat ≤ 16384) : (k1_t2_loop v19).trips = (nr v19 + 1) / 2 := by
  have := nr_le v19 h
  rw [t6_eq, nrW_eq v19 h]
  exact (pair_all ⟨nr v19, by omega⟩).2

theorem t6_lt (v19 : BitVec 32) (h : v19.toNat ≤ 16384) (k : Fin (k1_t2_loop v19).trips) : k.val < 64 := by
  have := nr_le v19 h
  have h1 : k.val < (nr v19 + 1) / 2 := lt_of_lt_of_eq k.isLt (t6_trips v19 h)
  omega

section Pair

variable (v19 : BitVec 32) (h : v19.toNat ≤ 16384) (k : Fin (k1_t2_loop v19).trips)
include h

theorem cond4_iff : k1_cond2 v19 k = 1#1 ↔ 2 * k.val < nr v19 := by
  have hk := t6_lt v19 h k
  exact ltW_iff v19 h _ _ (even_all ⟨k.val, hk⟩).1 (by omega)

theorem cond5_iff : k1_cond3 v19 k = 1#1 ↔ 2 * k.val + 1 < nr v19 := by
  have hk := t6_lt v19 h k
  exact ltW_iff v19 h _ _ (even_all ⟨k.val, hk⟩).2.1 (by omega)

theorem cond6_iff : k1_cond4 v19 k = 1#1 ↔ 2 * k.val + 1 < nr v19 := by
  have hk := t6_lt v19 h k
  exact ltW_iff v19 h _ _ (even_all ⟨k.val, hk⟩).2.2.1 (by omega)

theorem cond7_iff : k1_cond5 v19 k = 1#1 ↔ 2 * k.val + 2 < nr v19 := by
  have hk := t6_lt v19 h k
  exact ltW_iff v19 h _ _ (even_all ⟨k.val, hk⟩).2.2.2.1 (by omega)

theorem off16_eq : k1_off11 v19 k = ![128 * (2 * k.val + 1)] := by
  have hk := t6_lt v19 h k
  exact congrArg (fun n => (![n] : Fin 1 → ℕ)) (even_all ⟨k.val, hk⟩).2.2.2.2.1

theorem off274_eq : k1_off269 v19 k = ![128 * (2 * k.val + 2)] := by
  have hk := t6_lt v19 h k
  exact congrArg (fun n => (![n] : Fin 1 → ℕ)) (even_all ⟨k.val, hk⟩).2.2.2.2.2

theorem off17_eq (t : Fin k1_t3_loop.trips) : k1_off12 v19 k t = ![128 * (2 * k.val) + 16 * t.val] := by
  have hk := t6_lt v19 h k
  exact congrArg (fun n => (![n] : Fin 1 → ℕ)) (group_all ⟨k.val, hk⟩ ⟨t.val, t.isLt⟩).1

theorem off275_eq (t : Fin k1_t4_loop.trips) : k1_off270 v19 k t = ![128 * (2 * k.val + 1) + 16 * t.val] := by
  have hk := t6_lt v19 h k
  exact congrArg (fun n => (![n] : Fin 1 → ℕ)) (group_all ⟨k.val, hk⟩ ⟨t.val, t.isLt⟩).2

end Pair

/-- The remainder loop makes no trip. -/
theorem t9_trips (v19 : BitVec 32) : (k1_t5_loop v19).trips = 0 := Scf.rem_trips 0#32 _

theorem t9_ok (v19 : BitVec 32) : (k1_t5_loop v19).OK := Scf.rem_ok 0#32 _

theorem t9_none (v19 : BitVec 32) (k : Fin (k1_t5_loop v19).trips) : False := Nat.not_lt_zero k.val (lt_of_lt_of_eq k.isLt (t9_trips v19))

theorem trips7' : k1_t3_loop.trips = 8 := by decide +kernel
theorem trips8' : k1_t4_loop.trips = 8 := by decide +kernel

/-- A count within the lists passes the kernel's check. -/
theorem chk3_of (v19 : BitVec 32) (h : v19.toNat ≤ 16384) : k1_chk1 v19 := by
  have hn := nr_le v19 h
  refine ⟨t6_ok v19 h, ?_, ?_, ?_, ?_, t9_ok v19, fun k => (t9_none v19 k).elim, fun k => (t9_none v19 k).elim, fun k => (t9_none v19 k).elim,
    fun k => (t9_none v19 k).elim⟩
  · intro k h4 h5 a
    have h5' := (cond5_iff v19 h k).1 h5
    have : a = 0 := Subsingleton.elim _ _
    subst this
    rw [off16_eq v19 h k]
    show 128 * (2 * k.val + 1) + 128 ≤ 16384
    omega
  · intro k t h4 a
    have h4' := (cond4_iff v19 h k).1 h4
    have ht : t.val < 8 := trips7' ▸ t.isLt
    have : a = 0 := Subsingleton.elim _ _
    subst this
    rw [off17_eq v19 h k]
    show 128 * (2 * k.val) + 16 * t.val + 16 ≤ 16384
    omega
  · intro k h6 h7 a
    have h7' := (cond7_iff v19 h k).1 h7
    have : a = 0 := Subsingleton.elim _ _
    subst this
    rw [off274_eq v19 h k]
    show 128 * (2 * k.val + 2) + 128 ≤ 16384
    omega
  · intro k t h6 a
    have h6' := (cond6_iff v19 h k).1 h6
    have ht : t.val < 8 := trips8' ▸ t.isLt
    have : a = 0 := Subsingleton.elim _ _
    subst this
    rw [off275_eq v19 h k]
    show 128 * (2 * k.val + 1) + 16 * t.val + 16 ≤ 16384
    omega

end Cert.Proof.Reuse

end
-- ==== Proof.ReuseGather.lean ====
/-
  The rows the second call gathers by batches and folds into the rows of a tile.
-/
module

public import proofs.«01_k».proof.Proof.Gather
public import proofs.«01_k».proof.Proof.ReuseRows

@[expose] public section

noncomputable section

namespace Cert.Proof.Reuse

open Cert.Proof.Scan
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc1_scratch0 : Memref sig Kind.scVector Space.vmem S16384 EltTy.i32)
local notation "dstlV" => (Memref.whole cc1_scratch1 : Memref sig Kind.scVector Space.vmem S16384 EltTy.i32)
local notation "accV" => (Memref.whole cc1_scratch2 : Memref sig Kind.scVector Space.vmem S321x128 EltTy.f32)
local notation "rA" => (Memref.whole cc1_scratch3 : Memref sig Kind.scVector Space.vmem S128x128 EltTy.f32)
local notation "rB" => (Memref.whole cc1_scratch4 : Memref sig Kind.scVector Space.vmem S128x128 EltTy.f32)
local notation "cntV" => (Memref.whole cc1_scratch5 : Memref sig Kind.scVector Space.vmem S16 EltTy.i32)
local notation "xV" => (Memref.whole main_arg2_scv : Memref sig Kind.scVector Space.hbm S10000x128 EltTy.f32)
local notation "aggV" => (Memref.whole main_v5_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

set_option maxRecDepth 65536 in
set_option maxHeartbeats 4000000 in
theorem t6_body_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) (v19 : BitVec 32) (hw3 : k1_chk1 v19) (w13 w128 w14 w19 : BitVec 32) (w20 : BitVec 1) (k : Fin (k1_t2_loop v19).trips) (y : BitVec 32) :
    k1_t2_body (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v19 hw3 w13 w128 w14 w19 w20 k y
      = batch i arg2 arg7 arg10 arg11 harg10 arg13 arg14 (k1_cond2 v19 k) (k1_cond3 v19 k) (k1_off11 v19 k) (k1_off11_inb v19 hw3 k)
          (fun h4 => Scf.Loop.for k1_t3_loop k1_t3_ok 0#32 (k1_t3_body i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v19 hw3 w13 w128 w14 w19 w20 k h4 (Scalar.muli (evenW k.val) 128#32))) fun _ =>
        batch i arg2 arg7 arg11 arg10 harg11 arg14 arg13 (k1_cond4 v19 k) (k1_cond5 v19 k) (k1_off269 v19 k) (k1_off269_inb v19 hw3 k)
          (fun h6 => Scf.Loop.for k1_t4_loop k1_t4_ok 0#32 (k1_t4_body i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v19 hw3 w13 w128 w14 w19 w20 k h6 (Scalar.muli (oddW k.val) 128#32))) fun _ => pure 0#32 := rfl

theorem chk4_of (v19 : BitVec 32) (k : Fin (k1_t2_loop v19).trips) (w : BitVec 32) (h : w.toNat < 321) : k1_chk2 v19 k w :=
  ⟨fun _ => rowOK w h 0 (by decide), fun _ => rowOK w h 16 (by decide), fun _ => rowOK w h 32 (by decide), fun _ => rowOK w h 48 (by decide),
    fun _ => rowOK w h 64 (by decide), fun _ => rowOK w h 80 (by decide), fun _ => rowOK w h 96 (by decide), fun _ => rowOK w h 112 (by decide)⟩

theorem chk20_of (v19 : BitVec 32) (k : Fin (k1_t2_loop v19).trips) (w : BitVec 32) (h : w.toNat < 321) : k1_chk18 v19 k w :=
  ⟨fun _ => rowOK w h 0 (by decide), fun _ => rowOK w h 16 (by decide), fun _ => rowOK w h 32 (by decide), fun _ => rowOK w h 48 (by decide),
    fun _ => rowOK w h 64 (by decide), fun _ => rowOK w h 80 (by decide), fun _ => rowOK w h 96 (by decide), fun _ => rowOK w h 112 (by decide)⟩

section Rows

variable (d : Dev nD) (L : grid0.Coords) (gx : S10000x128.Idx → Elt F .f32) (ls : S16384.Idx → BitVec 32) (qx ql : PosShare TreeShare)
variable (rows : RowsRef) (sem : DmaSems sig S_)

/-- Nothing in flight into `rows`. -/
def gIdle : sProp (MM F) :=
  iprop(∃ fr : Buf (Elt F) (rows.view.loc (thr d L)), (rows.view.loc (thr d L) ↦{fullShare} fr) ∗ semVal (thr d L, .dma sem.sem) 0
    ∗ ((xV).view.loc (thr d L) ↦{qx} gx) ∗ ((srclV).view.loc (thr d L) ↦{ql} ls))

/-- What the copy of batch `b` delivers. -/
def gRows (b : ℕ) : sProp (MM F) :=
  iprop(∃ fr : Buf (Elt F) (rows.view.loc (thr d L)), ⌜∀ (j : Fin 128) (c : Fin 128), rows.view.read (Elt F) fr (ix2 j c) = rowAt gx ls (128 * b + j.val) c⌝
    ∗ (rows.view.loc (thr d L) ↦{fullShare} fr) ∗ ((xV).view.loc (thr d L) ↦{qx} gx) ∗ ((srclV).view.loc (thr d L) ↦{ql} ls))

/-- Batch `b` in flight into `rows`. -/
def gFlight (N b : ℕ) : sProp (MM F) :=
  Transfers.Flight countersEmb (thr d L) (.dma sem.sem) (default : HIx 2) N (gRows (F := F) d L gx ls qx ql rows b)

theorem table_read (y : S10000x128.Idx) : (tableAll xV).view.read (Elt F) gx y = gx y := by
  show gx _ = gx y
  congr 1
  funext b
  apply Fin.ext
  match b with
  | 0 => show 0 + 1 * (y 0).val = (y 0).val; omega
  | 1 => show 0 + 1 * (y 1).val = (y 1).val; omega

theorem batch_read (off : Fin 1 → ℕ) (hoff : ∀ a, off a + S128.size a ≤ S16384.size a) (y : S128.Idx) :
    (batchOf srclV off hoff).view.read (Elt F) ls y = wordAt (m := 16384) ls (off 0 + (y 0).val) := by
  have h1 : off 0 + 128 ≤ 16384 := hoff 0
  have h2 : (y 0).val < 128 := (y 0).isLt
  unfold wordAt
  rw [dif_pos (by omega)]
  show ls _ = ls _
  congr 1
  funext b
  apply Fin.ext
  match b with
  | 0 => show off 0 + 1 * (y 0).val = off 0 + (y 0).val; omega

theorem batch_in (hls : ∀ p, p < 16384 → okSrc (wordAt (m := 16384) ls p)) (off : Fin 1 → ℕ) (hoff : ∀ a, off a + S128.size a ≤ S16384.size a) (y : S128.Idx) :
    ((batchOf srclV off hoff).view.read (Elt F) ls y).toNat < S10000x128.size gathers_S10000x128_S128x128.axis := by
  rw [batch_read]
  have h1 : off 0 + 128 ≤ 16384 := hoff 0
  have h2 : (y 0).val < 128 := (y 0).isLt
  exact hls _ (by omega)

theorem gather_row (hls : ∀ p, p < 16384 → okSrc (wordAt (m := 16384) ls p)) (off : Fin 1 → ℕ) (hoff : ∀ a, off a + S128.size a ≤ S16384.size a) (b : ℕ) (hb : off 0 = 128 * b)
    (j c : Fin 128) :
    SparseCore.gatherPayload gathers_S10000x128_S128x128 ((tableAll xV).view.read (Elt F) gx)
      (SparseCore.rows ((batchOf srclV off hoff).view.read (Elt F) ls) rfl (batch_in (F := F) ls hls off hoff)) (ix2 j c)
      = rowAt gx ls (128 * b + j.val) c := by
  unfold SparseCore.gatherPayload
  rw [table_read]
  unfold rowAt
  congr 1
  have h1 : off 0 + 128 ≤ 16384 := hoff 0
  have hj := j.isLt
  funext a
  apply Fin.ext
  match a with
  | 0 =>
    refine (congrArg Fin.val (Shape.Gathers.idx_axis gathers_S10000x128_S128x128 _ _)).trans ?_
    show ((batchOf srclV off hoff).view.read (Elt F) ls _).toNat = (wordAt (m := 16384) ls (128 * b + j.val)).toNat % 10000
    rw [batch_read]
    have e : (S128.rowMajor.symm (Fin.cast rfl j) : S128.Idx) = ix1 j := (S128.rowMajor.symm_apply_eq).2 (Fin.ext (by rw [Shape.rowMajor_val_one]; rfl))
    have e2 : ((S128.rowMajor.symm (Fin.cast rfl j) : S128.Idx) 0).val = j.val := by rw [e]; rfl
    have e3 : off 0 + ((S128.rowMajor.symm (Fin.cast rfl j) : S128.Idx) 0).val = 128 * b + j.val := by rw [e2, hb]
    refine (congrArg (fun n => (wordAt (m := 16384) ls n).toNat) e3).trans ?_
    rw [Nat.mod_eq_of_lt]
    exact hls _ (by omega)
  | 1 => rfl

variable {rows}
variable {α : Type} (hw : rows.IsWhole)

theorem wp_startRows (N : ℕ) (hN : ∀ h : S10000x128.Gathers 0 S128x128, ∑ j, (rows.slice (S128x128.rowRect h.axis' j) (S128x128.stride_rowRect h.axis' j)).view.dmaCredit = N)
    (hls : ∀ p, p < 16384 → okSrc (wordAt (m := 16384) ls p)) (off : Fin 1 → ℕ)
    (hoff : ∀ a, off a + S128.size a ≤ S16384.size a) (b : ℕ) (hb : off 0 = 128 * b) (k : PUnit.{1} → Prog (TileEff F L) α) (Q : α → sProp (MM F)) :
    gIdle (F := F) d L gx ls qx ql rows sem
      ⊢ iprop((gFlight (F := F) d L gx ls qx ql rows sem N b -∗ wp frame (wpE (defs₀ (F := F)) 𝒱₀ (thr d L) none) Set.univ (k ⟨⟩) Q)
          -∗ wp frame (wpE (defs₀ (F := F)) 𝒱₀ (thr d L) none) Set.univ (startRows L xV srclV rows sem off hoff >>= k) Q) := by
  unfold gIdle
  iintro ⟨%fr, Hr, Hsem, Hx, Hl⟩ HQ
  iapply (SparseCore.wp_gatherFromWhole countersEmb 𝒱₀ (thr d L) none (src := tableAll xV) (dst := rows) (hg := gathers_S10000x128_S128x128) (offs := batchOf srclV off hoff)
    (q := qx) (qo := ql) (fs := gx) (fd := fr) (fo := ls) (default : HIx 2) N (hN _) (by decide) (batch_in (F := F) ls hls off hoff)) $$ [Hx Hr Hl Hsem]
  · isplitl [Hx]; · iexact Hx
    isplitl [Hr]; · iexact Hr
    isplitl [Hl]; · iexact Hl
    iexact Hsem
  iintro Hf
  iapply HQ
  unfold gFlight
  iapply (Transfers.Flight_mono countersEmb (thr d L) ?hm) $$ Hf
  case hm =>
    unfold gRows
    iintro ⟨Hr, Hx, Hl⟩
    iexists _
    isplitr
    swap
    · isplitl [Hr]; · iexact Hr
      isplitl [Hx]; · iexact Hx
      iexact Hl
    ipureintro
    intro j c
    rw [View.read_write_univ]
    exact gather_row (F := F) gx ls hls off hoff b hb j c

theorem wp_waitRows (N : ℕ) (hN : rows.view.dmaCredit = N) (b : ℕ) (O : CellTallies nD τ sig (HIx 2)) (W : Waits sig (HIx 2)) (hw : rows.IsWhole)
    (k : PUnit.{1} → Prog (TileEff F L) α) (Q : α → sProp (MM F)) :
    iprop(gFlight (F := F) d L gx ls qx ql rows sem N b ∗ owes (thr d L) O W ∗ Transfers.MayWaits (thr d L) (default : HIx 2) O)
      ⊢ iprop((gRows (F := F) d L gx ls qx ql rows b ∗ semVal (thr d L, .dma sem.sem) 0 ∗ owes (thr d L) O (insert (SemLoc.dma sem.sem, (default : HIx 2)) W)
            -∗ wp frame (wpE (defs₀ (F := F)) 𝒱₀ (thr d L) none) Set.univ (k ⟨⟩) Q)
          -∗ wp frame (wpE (defs₀ (F := F)) 𝒱₀ (thr d L) none) Set.univ
            (SparseCore.waitIndirectGather sem.sem (tableAll xV) rows (View.wordExact_bits rfl) hw.wordExact >>= k) Q) := by
  unfold gFlight
  iintro ⟨HF, HO, Hmw⟩ HQ
  iapply (Transfers.wp_waitLocalO countersEmb 𝒱₀ (thr d L) none (k := k) (srcw := tableAll xV) (dstw := rows) (hsrc := View.wordExact_bits rfl) (hdst := hw.wordExact) (sem := sem.sem) (default : HIx 2) hN (D := gRows (F := F) d L gx ls qx ql rows b)) $$ [HF HO Hmw]
  · isplitl [HF]; · iexact HF
    isplitl [HO]; · iexact HO
    iapply (Transfers.MayWaits.elim (SemLoc.dma sem.sem)) $$ Hmw
  iexact HQ

end Rows

/-! ## A batch folded -/

section Fold

variable (d : Dev nD) (L : grid0.Coords) (gx : S10000x128.Idx → Elt F .f32) (ls ld : S16384.Idx → BitVec 32) (q' : PosShare TreeShare)

/-- The accumulator after the first `n` rows of the list. -/
def accAt (n : ℕ) : sProp (MM F) := accPts d L (accFold (fun _ => negInf) (rowAt gx ls) (fun n => (wordAt (m := 16384) ld n).toNat) n)

theorem wp_fold (rows : RowsRef) (hset : rows.view.set = Finset.univ) (b : ℕ) (fr : Buf (Elt F) (rows.view.loc (thr d L)))
    (hfr : ∀ (j : Fin 128) (c : Fin 128), rows.view.read (Elt F) fr (ix2 j c) = rowAt gx ls (128 * b + j.val) c)
    (chk : BitVec 32 → Prop) (dec : ∀ v, Decidable (chk v)) (hchk : RowIn chk) (hc : ∀ n, chk (wordAt (m := 16384) ld n))
    (ℓ : Scf.Loop 32) (hok : ℓ.OK) (h8 : ℓ.trips = 8) (body : Fin ℓ.trips → BitVec 32 → Prog (TileEff F L) (BitVec 32))
    (od : Fin ℓ.trips → Fin 1 → ℕ) (hod : ∀ t, ∀ a, od t a + S16.size a ≤ S16384.size a) (hod0 : ∀ t, od t 0 = 128 * b + 16 * t.val)
    (hbody : ∀ t y, body t y = trip L dstlV accV rows chk dec hchk (od t) (hod t) (Fin.cast h8 t)) (Q : BitVec 32 → sProp (MM F)) :
    iprop(accAt (F := F) d L gx ls ld (128 * b) ∗ (rows.view.loc (thr d L) ↦{fullShare} fr) ∗ ((dstlV).view.loc (thr d L) ↦{q'} ld))
      ⊢ iprop((∀ v, (accAt (F := F) d L gx ls ld (128 * (b + 1)) ∗ (rows.view.loc (thr d L) ↦{fullShare} fr) ∗ ((dstlV).view.loc (thr d L) ↦{q'} ld)) -∗ Q v)
        -∗ wp frame (wpE (defs₀ (F := F)) 𝒱₀ (thr d L) none) Set.univ (Scf.Loop.for ℓ hok 0#32 body) Q) := by
  unfold accAt
  iintro H HQ
  iapply (Scf.wp_for frame (wpE (defs₀ (F := F)) 𝒱₀ (thr d L) none) Set.univ _ _ _ hok 0#32 _
    (fun k _ => iprop(accPts d L (accFold (fun _ => negInf) (rowAt gx ls) (fun n => (wordAt (m := 16384) ld n).toNat) (128 * b + 16 * k))
      ∗ (rows.view.loc (thr d L) ↦{fullShare} fr) ∗ ((dstlV).view.loc (thr d L) ↦{q'} ld))) ?hb) $$ [H HQ]
  case hb =>
    intro t y
    have hw := wp_trip (F := F) d L rows fullShare q' fr ld (fun _ => negInf) (rowAt gx ls) chk dec hchk hc (od t) (hod t) (Fin.cast h8 t) (128 * b + 16 * t.val) (hod0 t)
      (fun j hj => by
        funext c
        rw [hfr]
        congr 1
        show 128 * b + (16 * t.val + j) = 128 * b + 16 * t.val + j
        omega)
      (fun _ => iprop(accPts d L (accFold (fun _ => negInf) (rowAt gx ls) (fun n => (wordAt (m := 16384) ld n).toNat) (128 * b + 16 * (t.val + 1)))
      ∗ (rows.view.loc (thr d L) ↦{fullShare} fr) ∗ ((dstlV).view.loc (thr d L) ↦{q'} ld)))
    rw [hset] at hw
    rw [hbody]
    iintro H
    iapply hw $$ H
    iintro H
    rw [show 128 * b + 16 * t.val + 16 = 128 * b + 16 * (t.val + 1) by omega]
    iexact H
  isplitr [HQ]
  · iexact H
  iintro %v H
  rw [show (Scf.trips ℓ.lb ℓ.ub ℓ.st) = 8 from h8]
  iapply HQ
  rw [show 128 * b + 16 * 8 = 128 * (b + 1) by omega]
  iexact H

end Fold

/-! ## A batch -/

section Batch

variable (d : Dev nD) (L : grid0.Coords) (gx : S10000x128.Idx → Elt F .f32) (ls ld : S16384.Idx → BitVec 32) (q' : PosShare TreeShare) (nb : ℕ)

/-- A buffer of rows before batch `b` of `nb`: its copy in flight, or nothing. -/
def gSlot (qx ql : PosShare TreeShare) (rows : RowsRef) (sem : DmaSems sig S_) (N b : ℕ) : sProp (MM F) :=
  if b < nb then gFlight (F := F) d L gx ls qx ql rows sem N b else gIdle (F := F) d L gx ls qx ql rows sem

theorem gIdle_of (qx ql : PosShare TreeShare) (rows : RowsRef) (sem : DmaSems sig S_) (fr : Buf (Elt F) (rows.view.loc (thr d L))) :
    iprop((rows.view.loc (thr d L) ↦{fullShare} fr) ∗ semVal (thr d L, .dma sem.sem) 0
      ∗ ((xV).view.loc (thr d L) ↦{qx} gx) ∗ ((srclV).view.loc (thr d L) ↦{ql} ls)) ⊢ gIdle (F := F) d L gx ls qx ql rows sem := by
  unfold gIdle
  iintro H
  iexists fr
  iexact H

variable {α : Type} {rows rows' : RowsRef} (hrows : rows.IsWhole) (sem sem' : DmaSems sig S_) (qx ql qx' ql' : PosShare TreeShare)

theorem wp_batch (N : ℕ) (hN : ∀ h : S10000x128.Gathers 0 S128x128, ∑ j, (rows'.slice (S128x128.rowRect h.axis' j) (S128x128.stride_rowRect h.axis' j)).view.dmaCredit = N)
    (N' : ℕ) (hN' : rows.view.dmaCredit = N')
    (hls : ∀ p, p < 16384 → okSrc (wordAt (m := 16384) ls p)) (b : ℕ)
    (here next : BitVec 1) (hhere : here = 1#1 ↔ b < nb) (hnext : next = 1#1 ↔ b + 1 < nb)
    (off : Fin 1 → ℕ) (hoff : here = 1#1 → next = 1#1 → ∀ a, off a + S128.size a ≤ S16384.size a) (hb : off 0 = 128 * (b + 1))
    (fold : here = 1#1 → Prog (TileEff F L) (BitVec 32))
    (hfold : ∀ (h : here = 1#1) (fr : Buf (Elt F) (rows.view.loc (thr d L))) (_ : ∀ (j : Fin 128) (c : Fin 128), rows.view.read (Elt F) fr (ix2 j c) = rowAt gx ls (128 * b + j.val) c)
      (Q : BitVec 32 → sProp (MM F)),
      iprop(accAt (F := F) d L gx ls ld (128 * b) ∗ (rows.view.loc (thr d L) ↦{fullShare} fr) ∗ ((dstlV).view.loc (thr d L) ↦{q'} ld))
      ⊢ iprop((∀ v, (accAt (F := F) d L gx ls ld (128 * (b + 1)) ∗ (rows.view.loc (thr d L) ↦{fullShare} fr) ∗ ((dstlV).view.loc (thr d L) ↦{q'} ld)) -∗ Q v)
        -∗ wp frame (wpE (defs₀ (F := F)) 𝒱₀ (thr d L) none) Set.univ (fold h) Q))
    (O : CellTallies nD τ sig (HIx 2)) (W : Waits sig (HIx 2))
    (k : PUnit.{1} → Prog (TileEff F L) α) (Q : α → sProp (MM F)) :
    iprop(gSlot (F := F) d L gx ls nb qx ql rows sem N' b ∗ gIdle (F := F) d L gx ls qx' ql' rows' sem' ∗ accAt (F := F) d L gx ls ld (128 * min b nb)
        ∗ ((dstlV).view.loc (thr d L) ↦{q'} ld) ∗ owesA (F := F) d L O W ∗ Transfers.MayWaits (thr d L) (default : HIx 2) O)
      ⊢ iprop((gIdle (F := F) d L gx ls qx ql rows sem ∗ gSlot (F := F) d L gx ls nb qx' ql' rows' sem' N (b + 1) ∗ accAt (F := F) d L gx ls ld (128 * min (b + 1) nb)
        ∗ ((dstlV).view.loc (thr d L) ↦{q'} ld) ∗ owesA (F := F) d L O W
            -∗ wp frame (wpE (defs₀ (F := F)) 𝒱₀ (thr d L) none) Set.univ (k ⟨⟩) Q)
          -∗ wp frame (wpE (defs₀ (F := F)) 𝒱₀ (thr d L) none) Set.univ
            (batch L xV srclV rows rows' hrows sem sem' here next off hoff fold k) Q) := by
  unfold batch gSlot owesA
  by_cases hh : b < nb
  · rw [if_pos hh, dif_pos (hhere.2 hh), show min b nb = b by omega, show min (b + 1) nb = b + 1 by omega]
    dsimp only
    iintro ⟨HF, HI, Ha, Hd, ⟨%W', %hW', HO⟩, #Hmw⟩ HQ
    have hW2 : ∀ p ∈ (insert (SemLoc.dma sem.sem, (default : HIx 2)) W'), p ∈ W ∨ p.2 = none := by
      intro p hp
      simp only [Set.mem_insert_iff, Finset.mem_insert] at hp
      rcases hp with rfl | hp
      · right; rfl
      · exact hW' p hp
    iapply (wp_waitRows (F := F) d L gx ls qx ql sem N' hN' b O W' hrows _ Q) $$ [HF HO]
    · isplitl [HF]; · iexact HF
      isplitl [HO]; · iexact HO
      iexact Hmw
    iintro ⟨HR, Hsem, HO⟩
    unfold gRows
    icases HR with ⟨%fr, %hfr, Hr, Hx, Hl⟩
    by_cases hn : next = 1#1
    · rw [dif_pos hn, if_pos (hnext.1 hn), wp_bind]
      iapply (wp_startRows (F := F) d L gx ls qx' ql' sem' N hN hls off (hoff (hhere.2 hh) hn) (b + 1) hb) $$ HI
      iintro HF
      sl_step
      rw [wp_bind]
      iapply (hfold (hhere.2 hh) fr hfr) $$ [Ha Hr Hd]
      · isplitl [Ha]; · iexact Ha
        isplitl [Hr]; · iexact Hr
        iexact Hd
      iintro %v ⟨Ha, Hr, Hd⟩
      iapply HQ
      isplitl [Hr Hsem Hx Hl]
      · iapply (gIdle_of (F := F) d L gx ls qx ql rows sem fr)
        isplitl [Hr]; · iexact Hr
        isplitl [Hsem]; · iexact Hsem
        isplitl [Hx]; · iexact Hx
        iexact Hl
      isplitl [HF]; · iexact HF
      isplitl [Ha]; · iexact Ha
      isplitl [Hd]; · iexact Hd
      iexists _
      isplitr
      swap; · iexact HO
      ipureintro; exact hW2
    · rw [dif_neg hn, if_neg (fun h => hn (hnext.2 h))]
      rw [wp_bind]
      iapply (hfold (hhere.2 hh) fr hfr) $$ [Ha Hr Hd]
      · isplitl [Ha]; · iexact Ha
        isplitl [Hr]; · iexact Hr
        iexact Hd
      iintro %v ⟨Ha, Hr, Hd⟩
      iapply HQ
      isplitl [Hr Hsem Hx Hl]
      · iapply (gIdle_of (F := F) d L gx ls qx ql rows sem fr)
        isplitl [Hr]; · iexact Hr
        isplitl [Hsem]; · iexact Hsem
        isplitl [Hx]; · iexact Hx
        iexact Hl
      isplitl [HI]; · iexact HI
      isplitl [Ha]; · iexact Ha
      isplitl [Hd]; · iexact Hd
      iexists _
      isplitr
      swap; · iexact HO
      ipureintro; exact hW2
  · rw [if_neg hh, dif_neg (fun h => hh (hhere.1 h)), show min b nb = nb by omega, show min (b + 1) nb = nb by omega, if_neg (by omega : ¬ (b + 1 < nb))]
    dsimp only
    iintro ⟨HF, HI, Ha, Hd, HO, #Hmw⟩ HQ
    iapply HQ
    isplitl [HF]; · iexact HF
    isplitl [HI]; · iexact HI
    isplitl [Ha]; · iexact Ha
    isplitl [Hd]; · iexact Hd
    iexact HO

end Batch

/-! ## All the batches -/

section Loop

variable (d : Dev nD) (L : grid0.Coords) (gx : S10000x128.Idx → Elt F .f32) (ls ld : S16384.Idx → BitVec 32) (q' : PosShare TreeShare)
variable (v19 : BitVec 32) (hv : v19.toNat ≤ 16384) (hls : ∀ p, p < 16384 → okSrc (wordAt (m := 16384) ls p)) (hld : ∀ p, p < 16384 → okDst (wordAt (m := 16384) ld p))
variable (qx ql qx' ql' : PosShare TreeShare)

abbrev credRows : ℕ := (rA).view.dmaCredit

theorem cred_rA : ∀ h : S10000x128.Gathers 0 S128x128, ∑ j, ((rA).slice (S128x128.rowRect h.axis' j) (S128x128.stride_rowRect h.axis' j)).view.dmaCredit = credRows := by decide +kernel
theorem cred_rB : ∀ h : S10000x128.Gathers 0 S128x128, ∑ j, ((rB).slice (S128x128.rowRect h.axis' j) (S128x128.stride_rowRect h.axis' j)).view.dmaCredit = credRows := by decide +kernel
theorem cred_B : (rB).view.dmaCredit = credRows := by decide +kernel

/-- Before trip `k` of the batches' loop: batch `2 k` in flight. -/
def batchInv (O : CellTallies nD τ sig (HIx 2)) (W : Waits sig (HIx 2)) (b : ℕ) : sProp (MM F) :=
  iprop(gSlot (F := F) d L gx ls (nr v19) qx ql rA cc1_scratch6 credRows b ∗ gIdle (F := F) d L gx ls qx' ql' rB cc1_scratch7 ∗ accAt (F := F) d L gx ls ld (128 * min b (nr v19))
        ∗ ((dstlV).view.loc (thr d L) ↦{q'} ld) ∗ owesA (F := F) d L O W ∗ Transfers.MayWaits (thr d L) (default : HIx 2) O)

include hv hls hld in
set_option maxHeartbeats 2000000 in
theorem wp_batches (hw3 : k1_chk1 v19) (w13 w128 w14 w19 : BitVec 32) (w20 : BitVec 1) (O : CellTallies nD τ sig (HIx 2)) (W : Waits sig (HIx 2)) (Q : BitVec 32 → sProp (MM F)) :
    batchInv (F := F) d L gx ls ld q' v19 qx ql qx' ql' O W 0
      ⊢ iprop((∀ v, (gIdle (F := F) d L gx ls qx ql rA cc1_scratch6 ∗ gIdle (F := F) d L gx ls qx' ql' rB cc1_scratch7 ∗ accAt (F := F) d L gx ls ld (128 * nr v19)
            ∗ ((dstlV).view.loc (thr d L) ↦{q'} ld) ∗ owesA (F := F) d L O W) -∗ Q v)
        -∗ wp frame (wpE (defs₀ (F := F)) 𝒱₀ (thr d L) none) Set.univ
          (Scf.Loop.for (k1_t2_loop v19) (k1_t2_ok v19 hw3) 0#32 (k1_t2_body L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4 v19 hw3 w13 w128 w14 w19 w20)) Q) := by
  have hldw : ∀ n, (wordAt (m := 16384) ld n).toNat < 321 := word_lt ld 321 (by decide) hld
  iintro H HQ
  iapply (Scf.wp_for frame (wpE (defs₀ (F := F)) 𝒱₀ (thr d L) none) Set.univ _ _ _ (k1_t2_ok v19 hw3) 0#32 _
    (fun k _ => batchInv (F := F) d L gx ls ld q' v19 qx ql qx' ql' O W (2 * k)) ?hb) $$ [H HQ]
  case hb =>
    intro k y
    rw [t6_body_eq]
    unfold batchInv
    iintro ⟨HS, HI, Ha, Hd, HO, #Hmw⟩
    iapply (wp_batch (F := F) d L gx ls ld q' (nr v19) (rows := rA) (rows' := rB) (Memref.isWhole_whole _) cc1_scratch6 cc1_scratch7 qx ql qx' ql' credRows cred_rB credRows rfl hls
      (2 * k.val) (k1_cond2 v19 k) (k1_cond3 v19 k) (cond4_iff v19 hv k) (cond5_iff v19 hv k) (k1_off11 v19 k) (k1_off11_inb v19 hw3 k)
      (by rw [off16_eq v19 hv k]; rfl) _
      (fun h4 fr hfr Q => wp_fold (F := F) d L gx ls ld q' rA (View.set_whole _) (2 * k.val) fr hfr (k1_chk2 v19 k) (k1_chk2.dec v19 k) (rowIn_chk4 v19 k h4) (fun n => chk4_of v19 k _ (hldw n))
        k1_t3_loop k1_t3_ok trips7' _ (fun t => k1_off12 v19 k t) (fun t => k1_off12_inb v19 hw3 k t h4) (fun t => by rw [off17_eq v19 hv k t]; rfl)
        (fun t y => t7_body_eq L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4 v19 hw3 k h4 _ _ _ _ _ _ t y) Q)
      O W _ _) $$ [HS HI Ha Hd HO]
    · isplitl [HS]; · iexact HS
      isplitl [HI]; · iexact HI
      isplitl [Ha]; · iexact Ha
      isplitl [Hd]; · iexact Hd
      isplitl [HO]; · iexact HO
      iexact Hmw
    iintro ⟨HI, HS, Ha, Hd, HO⟩
    iapply (wp_batch (F := F) d L gx ls ld q' (nr v19) (rows := rB) (rows' := rA) (Memref.isWhole_whole _) cc1_scratch7 cc1_scratch6 qx' ql' qx ql credRows cred_rA credRows cred_B hls
      (2 * k.val + 1) (k1_cond4 v19 k) (k1_cond5 v19 k) (cond6_iff v19 hv k) (cond7_iff v19 hv k) (k1_off269 v19 k) (k1_off269_inb v19 hw3 k)
      (by rw [off274_eq v19 hv k]; rfl) _
      (fun h4 fr hfr Q => wp_fold (F := F) d L gx ls ld q' rB (View.set_whole _) (2 * k.val + 1) fr hfr (k1_chk18 v19 k) (k1_chk18.dec v19 k) (rowIn_chk20 v19 k h4) (fun n => chk20_of v19 k _ (hldw n))
        k1_t4_loop k1_t4_ok trips8' _ (fun t => k1_off270 v19 k t) (fun t => k1_off270_inb v19 hw3 k t h4) (fun t => by rw [off275_eq v19 hv k t]; rfl)
        (fun t y => t8_body_eq L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4 v19 hw3 k h4 _ _ _ _ _ _ t y) Q)
      O W _ _) $$ [HS HI Ha Hd HO]
    · isplitl [HS]; · iexact HS
      isplitl [HI]; · iexact HI
      isplitl [Ha]; · iexact Ha
      isplitl [Hd]; · iexact Hd
      isplitl [HO]; · iexact HO
      iexact Hmw
    iintro ⟨HI, HS, Ha, Hd, HO⟩
    sl_step
    rw [show 2 * (k.val + 1) = 2 * k.val + 1 + 1 by omega]
    isplitl [HS]; · iexact HS
    isplitl [HI]; · iexact HI
    isplitl [Ha]; · iexact Ha
    isplitl [Hd]; · iexact Hd
    isplitl [HO]; · iexact HO
    iexact Hmw
  isplitr [HQ]
  · iexact H
  iintro %v H
  rw [show (Scf.trips (k1_t2_loop v19).lb (k1_t2_loop v19).ub (k1_t2_loop v19).st) = (nr v19 + 1) / 2 from t6_trips v19 hv]
  unfold batchInv gSlot
  rw [if_neg (by omega : ¬ (2 * ((nr v19 + 1) / 2) < nr v19)), show min (2 * ((nr v19 + 1) / 2)) (nr v19) = nr v19 by omega]
  icases H with ⟨HS, HI, Ha, Hd, HO, Hmw⟩
  iapply HQ
  isplitl [HS]; · iexact HS
  isplitl [HI]; · iexact HI
  isplitl [Ha]; · iexact Ha
  isplitl [Hd]; · iexact Hd
  iexact HO

end Loop

end Cert.Proof.Reuse

end
-- ==== Proof.ReuseTile.lean ====
/-
  The second call's run on a tile: its count and lists copied in, its batches, and its rows written out.
-/
module

public import proofs.«01_k».proof.Proof.Body
public import proofs.«01_k».proof.Proof.ReuseGather

@[expose] public section

noncomputable section

namespace Cert.Proof.Reuse

open Cert.Proof.Scan
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc1_scratch0 : Memref sig Kind.scVector Space.vmem S16384 EltTy.i32)
local notation "dstlV" => (Memref.whole cc1_scratch1 : Memref sig Kind.scVector Space.vmem S16384 EltTy.i32)
local notation "accV" => (Memref.whole cc1_scratch2 : Memref sig Kind.scVector Space.vmem S321x128 EltTy.f32)
local notation "rA" => (Memref.whole cc1_scratch3 : Memref sig Kind.scVector Space.vmem S128x128 EltTy.f32)
local notation "rB" => (Memref.whole cc1_scratch4 : Memref sig Kind.scVector Space.vmem S128x128 EltTy.f32)
local notation "cntV" => (Memref.whole cc1_scratch5 : Memref sig Kind.scVector Space.vmem S16 EltTy.i32)
local notation "xV" => (Memref.whole main_arg2_scv : Memref sig Kind.scVector Space.hbm S10000x128 EltTy.f32)
local notation "aggV" => (Memref.whole main_v5_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

/-! ## A copy in, awaited -/

/-- A copy from the chip's memory, awaited at once. -/
def inCopy (i : grid0.Coords) {α : Type} {s : Shape} {e : EltTy} (src : Memref sig .scVector .hbm s e) (dst : Memref sig .scVector .vmem s e) (hsrc : src.view.WordExact) (hdst : dst.view.WordExact)
    (sem : DmaSems sig S_) (hsem : DmaTarget.Typed (nD := nD) .hbm (.dma sem.sem) (DmaTarget.here (p := .scVector ((i 0).castLE hcore0) ((i 1).castLE hsub0)) dst)) (k : PUnit.{1} → Prog (TileEff F i) α) : Prog (TileEff F i) α := do
  Prog.lift (.enqueueDma src (.here dst) (.dma sem.sem) hsrc hdst hsem)
  Prog.lift (.waitDma2 sem.sem src dst hsrc hdst)
  k ⟨⟩

/-- The count plus a batch less one, as a word. -/
def w13 (v11 : BitVec 32) : BitVec 32 := Scalar.subi (Scalar.addi v11 128#32) 1#32
/-- The quotient of that word by a batch. -/
def w14 (v11 : BitVec 32) : BitVec 32 := Scalar.divsi (w13 v11) 128#32
/-- The sign of that word. -/
def w19 (v11 : BitVec 32) : BitVec 32 := Scalar.subi (Scalar.extui (Scalar.cmpi .sgt (w13 v11) 0#32)) (Scalar.extui (Scalar.cmpi .slt (w13 v11) 0#32))
/-- Whether a batch has words. -/
def w20 : BitVec 1 := Scalar.cmpi .sgt 128#32 0#32

/-- The last tile's rows written out. -/
def finish80 (i : grid0.Coords) (acc : AccRef) (agg : XRef) (sem' : DmaSems sig S_) : Prog (TileEff F i) PUnit :=
  if h13 : k1_cond11 i = 1#1 then
    outCopy i (acc.slice (Rect.unit (s := S321x128) ![0, 0] S80x128.size inb_S321x128_S80x128_0_0) (fun _ => rfl))
      (agg.slice (Rect.unit (s := S10000x128) (k1_off1052 i) S80x128.size (k1_off1052_inb i h13)) (fun _ => rfl)) (View.wordExact_bits rfl) (View.wordExact_bits rfl) sem' ⟨Or.inl rfl, trivial⟩ fun _ => pure ⟨⟩
  else pure ⟨⟩

/-- The rows written out. -/
def finish (i : grid0.Coords) (acc : AccRef) (agg : XRef) (sem sem' : DmaSems sig S_) : Prog (TileEff F i) PUnit :=
  if h12 : k1_cond10 i = 1#1 then
    outCopy i (acc.slice (Rect.unit (s := S321x128) ![0, 0] S320x128.size inb_S321x128_S320x128_0_0) (fun _ => rfl))
      (agg.slice (Rect.unit (s := S10000x128) (k1_off1051 i) S320x128.size (k1_off1051_inb i h12)) (fun _ => rfl)) (View.wordExact_bits rfl) (View.wordExact_bits rfl) sem ⟨Or.inl rfl, trivial⟩ fun _ =>
    finish80 i acc agg sem'
  else finish80 i acc agg sem'

/-- What the first part hands on. -/
abbrev Head : Type := Σ' (_ : BitVec 32) (v11 : BitVec 32) (_ : k1_chk1 v11) (_ : BitVec 32) (_ : BitVec 32) (_ : BitVec 32) (_ : BitVec 32), BitVec 1

/-- The count, of a count's buffer. -/
def countWord (v9 : Vec F S16 .i32) : BitVec 32 := extractAt ![0] (k1_pay614 v9) inpos_S1_p0

theorem countWord_eq (v9 : S16.Idx → BitVec 32) (v : BitVec 32) (h : ∀ y, v9 y = v) : countWord (F := F) v9 = v := h _

/-- The count checked, and the words made of it. -/
def countTail (i : grid0.Coords) (c : BitVec 32) : Prog (TileEff F i) Head :=
  (Prog.lift (TpuEff.assume (k1_chk1 c) (k1_chk1.dec c)) : Prog (TileEff F i) _) >>= fun hw => Prog.ret ⟨tileW i, c, hw.down, w13 c, 128#32, w14 c, w19 c, w20⟩

/-- The count read and checked. -/
def countOf (i : grid0.Coords) (cb : Memref sig Kind.scVector Space.vmem S16 EltTy.i32) : Prog (TileEff F i) Head := do
  let v9 : Vec F S16 .i32 ← Prog.lift (.load cb (Rect.unit (s := S16) ![0] S16.size inb_S16_S16_0).toLoadRect (View.loadsAt_vmem h_S16))
  countTail i (countWord (F := F) v9)

set_option maxRecDepth 65536 in
set_option maxHeartbeats 4000000 in
theorem part131_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) :
    k1_part131_skel (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4
      = (Scf.Loop.for k1_t1_loop k1_t1_ok 0#32 (k1_t1_body i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4) >>= fun _ =>
        inCopy i (arg3.slice (Rect.unit (s := S524288) (k1_off9 i) S16384.size (k1_off9_inb i)) (fun _ => rfl)) arg7 (View.wordExact_bits rfl) harg7.wordExact v67_r0 ⟨Or.inl rfl, trivial⟩ fun _ =>
        inCopy i (arg4.slice (Rect.unit (s := S524288) (k1_off9 i) S16384.size (k1_off9_inb i)) (fun _ => rfl)) arg8 (View.wordExact_bits rfl) harg8.wordExact v67_r1 ⟨Or.inl rfl, trivial⟩ fun _ =>
        inCopy i (arg5.slice (Rect.unit (s := S512) (k1_off10 i) S16.size (k1_off10_inb i)) (fun _ => rfl)) arg12 (View.wordExact_bits rfl) harg12.wordExact v67_r2 ⟨Or.inl rfl, trivial⟩ fun _ =>
        countOf i arg12) := rfl

set_option maxRecDepth 65536 in
set_option maxHeartbeats 4000000 in
theorem part132_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) (v11 : BitVec 32) (hw : k1_chk1 v11) :
    k1_part132_skel (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v11 hw (w13 v11) 128#32 (w14 v11) (w19 v11) w20
      = startFirst i arg2 arg7 arg10 arg13 (someW v11) (fun _ =>
        Scf.Loop.for (k1_t2_loop v11) (k1_t2_ok v11 hw) 0#32 (k1_t2_body i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v11 hw (w13 v11) 128#32 (w14 v11) (w19 v11) w20) >>= fun v57 =>
        Scf.Loop.for (k1_t5_loop v11) (k1_t5_ok v11 hw) v57 (k1_t5_body i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 v11 hw (w13 v11) 128#32 (w14 v11) (w19 v11) w20 (pairsW (Scalar.addi (nrW v11) 1#32))) >>= fun _ =>
        pure ⟨0#32, 0#32, 320#32⟩) := rfl

set_option maxRecDepth 65536 in
set_option maxHeartbeats 4000000 in
theorem body_eq (i : grid0.Coords) (arg2 : Memref sig .scVector .hbm S10000x128 .f32) (harg2 : arg2.IsWhole) (arg3 : Memref sig .scVector .hbm S524288 .i32) (harg3 : arg3.IsWhole) (arg4 : Memref sig .scVector .hbm S524288 .i32) (harg4 : arg4.IsWhole) (arg5 : Memref sig .scVector .hbm S512 .i32) (harg5 : arg5.IsWhole) (arg6 : Memref sig .scVector .hbm S10000x128 .f32) (harg6 : arg6.IsWhole) (arg7 : Memref sig .scVector .vmem S16384 .i32) (harg7 : arg7.IsWhole) (arg8 : Memref sig .scVector .vmem S16384 .i32) (harg8 : arg8.IsWhole) (arg9 : Memref sig .scVector .vmem S321x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S16 .i32) (harg12 : arg12.IsWhole) (arg13 arg14 v67_r0 v67_r1 v67_r2 v67_r3 v67_r4 : DmaSems sig S_) :
    cc1__sc_segmax_reuse_body (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 = (k1_part131_skel (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 >>= fun s =>
      k1_part132_skel (F := F) i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 s.2.1 s.2.2.1 s.2.2.2.1 s.2.2.2.2.1 s.2.2.2.2.2.1 s.2.2.2.2.2.2.1 s.2.2.2.2.2.2.2 >>= fun t =>
      Scf.Loop.for k1_t8_loop k1_t8_ok t.1 (k1_t8_body i arg2 harg2 arg3 harg3 arg4 harg4 arg5 harg5 arg6 harg6 arg7 harg7 arg8 harg8 arg9 harg9 arg10 harg10 arg11 harg11 arg12 harg12 arg13 arg14 v67_r0 v67_r1 v67_r2 v67_r3 v67_r4 t.2.1) >>= fun _ =>
      finish i arg9 arg6 v67_r3 v67_r4) := rfl

/-! ## The copies' run -/

section Copy

variable (d : Dev nD) (L : grid0.Coords) {α : Type} {s : Shape} {e : EltTy} (src : Memref sig .scVector .hbm s e) (dst : Memref sig .scVector .vmem s e) (hsrc : src.view.WordExact) (hdst : dst.view.WordExact)
    (sem : DmaSems sig S_) (hsem : DmaTarget.Typed (nD := nD) .hbm (.dma sem.sem) (DmaTarget.here (p := .scVector ((L 0).castLE hcore0) ((L 1).castLE hsub0)) dst))

theorem wp_inCopy (q : PosShare TreeShare) (Ss : Finset (Idx (src.view.loc (thr d L)))) (fs : Buf (Elt F) (src.view.loc (thr d L))) (fd : Buf (Elt F) (dst.view.loc (thr d L))) (N : ℕ)
    (hN : dst.view.dmaCredit = N) (hN0 : 0 < N) (hSs : src.view.set ⊆ Ss) (O : CellTallies nD τ sig (HIx 2)) (W : Waits sig (HIx 2)) (k : PUnit.{1} → Prog (TileEff F L) α) (Q : α → sProp (MM F)) :
    iprop((src.view.loc (thr d L) ↦[Ss]{q} fs) ∗ (dst.view.loc (thr d L) ↦{fullShare} fd) ∗ semVal (thr d L, .dma sem.sem) 0 ∗ owesA (F := F) d L O W ∗ Transfers.MayWaits (thr d L) (default : HIx 2) O)
      ⊢ iprop(((src.view.loc (thr d L) ↦[Ss]{q} fs) ∗ (dst.view.loc (thr d L) ↦{fullShare} (dst.view.write (Elt F) fd (src.view.read (Elt F) fs) Finset.univ)) ∗ semVal (thr d L, .dma sem.sem) 0 ∗ owesA (F := F) d L O W
            -∗ wp frame (wpE (defs₀ (F := F)) 𝒱₀ (thr d L) none) Set.univ (k ⟨⟩) Q)
          -∗ wp frame (wpE (defs₀ (F := F)) 𝒱₀ (thr d L) none) Set.univ (inCopy L src dst hsrc hdst sem hsem k) Q) := by
  unfold inCopy owesA
  iintro ⟨Hs, Hd, Hsem, ⟨%W', %hW', HO⟩, #Hmw⟩ HQ
  ihave Hs2 := ((pointsTo_split_subset hSs).1) $$ Hs
  icases Hs2 with ⟨Hs, Hrest⟩
  unfold Prog.lift
  iapply (Transfers.wp_dmaLocal countersEmb 𝒱₀ (thr d L) none (src := src) (dst := dst) (via := ReadAs.same) (q := q) (fs := fs) (Sd := Finset.univ) (fd := fd) (sm := .dma sem.sem) (default : HIx 2) N hN hN0 (Finset.subset_univ _)) $$ [Hs Hd Hsem]
  · isplitl [Hs]; · iexact Hs
    isplitl [Hd]; · iexact Hd
    iexact Hsem
  iintro HF
  iapply (Transfers.wp_waitLocalO countersEmb 𝒱₀ (thr d L) none (srcw := src) (dstw := dst) (default : HIx 2) hN) $$ [HF HO]
  · isplitl [HF]; · iexact HF
    isplitl [HO]; · iexact HO
    iapply (Transfers.MayWaits.elim (SemLoc.dma sem.sem)) $$ Hmw
  iintro ⟨⟨Hd, Hs⟩, Hsem, HO⟩
  iapply HQ
  isplitl [Hs Hrest]
  · iapply ((pointsTo_split_subset hSs).2)
    isplitl [Hs]; · iexact Hs
    iexact Hrest
  isplitl [Hd]; · iexact Hd
  isplitl [Hsem]; · iexact Hsem
  iexists _
  isplitr
  swap; · iexact HO
  ipureintro
  intro p hp
  simp only [Set.mem_insert_iff, Finset.mem_insert] at hp
  rcases hp with rfl | hp
  · right; rfl
  · exact hW' p hp

end Copy

/-! ## What the copies in read -/

theorem off10_eq' (L : grid0.Coords) : k1_off10 L 0 = tileNo L * 16 := by
  rw [k1_off10_eq]
  show 32 * (L 1).val + 16 * (L 0).val = _
  unfold tileNo; omega
theorem off9_eq' (L : grid0.Coords) : k1_off9 L 0 = tileNo L * 16384 := by
  rw [k1_off9_eq]
  show 32768 * (L 1).val + 16384 * (L 0).val = _
  unfold tileNo; omega

theorem in_cnt (L : grid0.Coords) : ((outC).slice (Rect.unit (s := S512) (k1_off10 L) S16.size (k1_off10_inb L)) (fun _ => rfl) : Memref sig Kind.scVector Space.hbm S16 EltTy.i32).view.set ⊆ own1 512 16 L := by
  intro i hi
  obtain ⟨y, _, rfl⟩ := Finset.mem_map.1 hi
  have h := off10_eq' L
  have hy : (y 0).val < 16 := (y 0).isLt
  refine Finset.mem_filter.2 ⟨Finset.mem_univ _, ?_⟩
  show (k1_off10 L 0 + 1 * (y 0).val) / 16 = tileNo L
  omega

theorem in_src (L : grid0.Coords) : ((outS).slice (Rect.unit (s := S524288) (k1_off9 L) S16384.size (k1_off9_inb L)) (fun _ => rfl) : Memref sig Kind.scVector Space.hbm S16384 EltTy.i32).view.set ⊆ own1 524288 16384 L := by
  intro i hi
  obtain ⟨y, _, rfl⟩ := Finset.mem_map.1 hi
  have h := off9_eq' L
  have hy : (y 0).val < 16384 := (y 0).isLt
  refine Finset.mem_filter.2 ⟨Finset.mem_univ _, ?_⟩
  show (k1_off9 L 0 + 1 * (y 0).val) / 16384 = tileNo L
  omega

theorem in_dst (L : grid0.Coords) : ((outD).slice (Rect.unit (s := S524288) (k1_off9 L) S16384.size (k1_off9_inb L)) (fun _ => rfl) : Memref sig Kind.scVector Space.hbm S16384 EltTy.i32).view.set ⊆ own1 524288 16384 L := by
  intro i hi
  obtain ⟨y, _, rfl⟩ := Finset.mem_map.1 hi
  have h := off9_eq' L
  have hy : (y 0).val < 16384 := (y 0).isLt
  refine Finset.mem_filter.2 ⟨Finset.mem_univ _, ?_⟩
  show (k1_off9 L 0 + 1 * (y 0).val) / 16384 = tileNo L
  omega

theorem got_cnt (L : grid0.Coords) (f : S512.Idx → BitVec 32) (g : S16.Idx → BitVec 32) (w : S16.Idx → BitVec 32)
    (h : ∀ x ∈ own1 512 16 L, f x = w (ix1 ⟨(x 0).val % 16, Nat.mod_lt _ (by decide)⟩)) :
    (cntV).view.write (Elt F) g (((outC).slice (Rect.unit (s := S512) (k1_off10 L) S16.size (k1_off10_inb L)) (fun _ => rfl) : Memref sig Kind.scVector Space.hbm S16 EltTy.i32).view.read (Elt F) f) Finset.univ = w := by
  have e : (cntV).view.write (Elt F) g (((outC).slice (Rect.unit (s := S512) (k1_off10 L) S16.size (k1_off10_inb L)) (fun _ => rfl) : Memref sig Kind.scVector Space.hbm S16 EltTy.i32).view.read (Elt F) f) Finset.univ = ((outC).slice (Rect.unit (s := S512) (k1_off10 L) S16.size (k1_off10_inb L)) (fun _ => rfl) : Memref sig Kind.scVector Space.hbm S16 EltTy.i32).view.read (Elt F) f :=
    View.read_write_univ (Val := Elt F) (v := (cntV).view) g (((outC).slice (Rect.unit (s := S512) (k1_off10 L) S16.size (k1_off10_inb L)) (fun _ => rfl) : Memref sig Kind.scVector Space.hbm S16 EltTy.i32).view.read (Elt F) f)
  refine e.trans ?_
  funext y
  have ho := off10_eq' L
  have hy : (y 0).val < 16 := (y 0).isLt
  refine (h (((outC).slice (Rect.unit (s := S512) (k1_off10 L) S16.size (k1_off10_inb L)) (fun _ => rfl) : Memref sig Kind.scVector Space.hbm S16 EltTy.i32).view.emb y) (in_cnt L (Finset.mem_map.2 ⟨y, Finset.mem_univ _, rfl⟩))).trans ?_
  congr 1
  funext a
  apply Fin.ext
  match a with
  | 0 => show (k1_off10 L 0 + 1 * (y 0).val) % 16 = (y 0).val; omega

theorem got_src (L : grid0.Coords) (f : S524288.Idx → BitVec 32) (g : S16384.Idx → BitVec 32) (w : S16384.Idx → BitVec 32)
    (h : ∀ x ∈ own1 524288 16384 L, f x = w (ix1 ⟨(x 0).val % 16384, Nat.mod_lt _ (by decide)⟩)) :
    (srclV).view.write (Elt F) g (((outS).slice (Rect.unit (s := S524288) (k1_off9 L) S16384.size (k1_off9_inb L)) (fun _ => rfl) : Memref sig Kind.scVector Space.hbm S16384 EltTy.i32).view.read (Elt F) f) Finset.univ = w := by
  funext y
  have ho := off9_eq' L
  have hy : (y 0).val < 16384 := (y 0).isLt
  refine (cast_eq _ _).symm.trans (write_at (F := F) (srclV).view (((outS).slice (Rect.unit (s := S524288) (k1_off9 L) S16384.size (k1_off9_inb L)) (fun _ => rfl) : Memref sig Kind.scVector Space.hbm S16384 EltTy.i32).view) g f y y rfl (w y) ?_)
  refine (cast_eq _ _).trans ((h (((outS).slice (Rect.unit (s := S524288) (k1_off9 L) S16384.size (k1_off9_inb L)) (fun _ => rfl) : Memref sig Kind.scVector Space.hbm S16384 EltTy.i32).view.emb y) (in_src L (Finset.mem_map.2 ⟨y, Finset.mem_univ _, rfl⟩))).trans ?_)
  congr 1
  funext a
  apply Fin.ext
  match a with
  | 0 => show (k1_off9 L 0 + 1 * (y 0).val) % 16384 = (y 0).val; omega

theorem got_dst (L : grid0.Coords) (f : S524288.Idx → BitVec 32) (g : S16384.Idx → BitVec 32) (w : S16384.Idx → BitVec 32)
    (h : ∀ x ∈ own1 524288 16384 L, f x = w (ix1 ⟨(x 0).val % 16384, Nat.mod_lt _ (by decide)⟩)) :
    (dstlV).view.write (Elt F) g (((outD).slice (Rect.unit (s := S524288) (k1_off9 L) S16384.size (k1_off9_inb L)) (fun _ => rfl) : Memref sig Kind.scVector Space.hbm S16384 EltTy.i32).view.read (Elt F) f) Finset.univ = w := by
  funext y
  have ho := off9_eq' L
  have hy : (y 0).val < 16384 := (y 0).isLt
  refine (cast_eq _ _).symm.trans (write_at (F := F) (dstlV).view (((outD).slice (Rect.unit (s := S524288) (k1_off9 L) S16384.size (k1_off9_inb L)) (fun _ => rfl) : Memref sig Kind.scVector Space.hbm S16384 EltTy.i32).view) g f y y rfl (w y) ?_)
  refine (cast_eq _ _).trans ((h (((outD).slice (Rect.unit (s := S524288) (k1_off9 L) S16384.size (k1_off9_inb L)) (fun _ => rfl) : Memref sig Kind.scVector Space.hbm S16384 EltTy.i32).view.emb y) (in_dst L (Finset.mem_map.2 ⟨y, Finset.mem_univ _, rfl⟩))).trans ?_)
  congr 1
  funext a
  apply Fin.ext
  match a with
  | 0 => show (k1_off9 L 0 + 1 * (y 0).val) % 16384 = (y 0).val; omega

theorem pos_in_cnt : 0 < (cntV).view.dmaCredit := by decide +kernel
theorem pos_in_src : 0 < (srclV).view.dmaCredit := by decide +kernel
theorem pos_in_dst : 0 < (dstlV).view.dmaCredit := by decide +kernel

theorem trips1 : k1_t1_loop.trips = 321 := by decide +kernel
theorem trips12 : k1_t8_loop.trips = 320 := by decide +kernel

section Own

variable (d : Dev nD) (L : grid0.Coords)

/-- The tile's two lists. -/
def lists (ls ld : S16384.Idx → BitVec 32) : sProp (MM F) :=
  iprop(((srclV).view.loc (thr d L) ↦{fullShare} ls) ∗ ((dstlV).view.loc (thr d L) ↦{fullShare} ld))

/-- The semaphores of the three copies in. -/
def sems3 : sProp (MM F) :=
  iprop(semVal (thr d L, .dma (cc1_scoped0).sem) 0 ∗ semVal (thr d L, .dma (cc1_scoped1).sem) 0 ∗ semVal (thr d L, .dma (cc1_scoped2).sem) 0)

theorem wp_loop1 (f0 : S321x128.Idx → Elt F .f32) (Q : BitVec 32 → sProp (MM F)) :
    accPts d L f0
      ⊢ iprop((∀ v, accPts d L (fun _ => negInf) -∗ Q v)
        -∗ wp frame (wpE (defs₀ (F := F)) 𝒱₀ (thr d L) none) Set.univ (Scf.Loop.for k1_t1_loop k1_t1_ok 0#32 (k1_t1_body L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4)) Q) := by
  iintro Ha HQ
  iapply (Scf.wp_for frame (wpE (defs₀ (F := F)) 𝒱₀ (thr d L) none) Set.univ _ _ _ k1_t1_ok 0#32 _ (fun k _ => accPts d L (mapRows (fun _ => negInf) f0 k)) ?hb) $$ [Ha HQ]
  case hb =>
    intro k c
    rw [t1_body_eq]
    rw [← mapTo_zero (fun _ => negInf) (mapRows (fun _ => negInf) f0 k.val) k.val]
    iintro Ha
    rw [wp_bind]
    iapply (wp_colFill (F := F) d L (mapRows (fun _ => negInf) f0 k.val) k.val 0 (k1_off1 k) (k1_off1_eq k) (k1_off1_inb k)) $$ Ha; iintro Ha
    rw [wp_bind]
    iapply (wp_colFill (F := F) d L (mapRows (fun _ => negInf) f0 k.val) k.val 16 (k1_off2 k) (k1_off2_eq k) (k1_off2_inb k)) $$ Ha; iintro Ha
    rw [wp_bind]
    iapply (wp_colFill (F := F) d L (mapRows (fun _ => negInf) f0 k.val) k.val 32 (k1_off3 k) (k1_off3_eq k) (k1_off3_inb k)) $$ Ha; iintro Ha
    rw [wp_bind]
    iapply (wp_colFill (F := F) d L (mapRows (fun _ => negInf) f0 k.val) k.val 48 (k1_off4 k) (k1_off4_eq k) (k1_off4_inb k)) $$ Ha; iintro Ha
    rw [wp_bind]
    iapply (wp_colFill (F := F) d L (mapRows (fun _ => negInf) f0 k.val) k.val 64 (k1_off5 k) (k1_off5_eq k) (k1_off5_inb k)) $$ Ha; iintro Ha
    rw [wp_bind]
    iapply (wp_colFill (F := F) d L (mapRows (fun _ => negInf) f0 k.val) k.val 80 (k1_off6 k) (k1_off6_eq k) (k1_off6_inb k)) $$ Ha; iintro Ha
    rw [wp_bind]
    iapply (wp_colFill (F := F) d L (mapRows (fun _ => negInf) f0 k.val) k.val 96 (k1_off7 k) (k1_off7_eq k) (k1_off7_inb k)) $$ Ha; iintro Ha
    rw [wp_bind]
    iapply (wp_colFill (F := F) d L (mapRows (fun _ => negInf) f0 k.val) k.val 112 (k1_off8 k) (k1_off8_eq k) (k1_off8_inb k)) $$ Ha; iintro Ha
    sl_step
    rw [← mapTo_full]
    iexact Ha
  isplitr [HQ]
  · rw [mapRows_zero]; iexact Ha
  iintro %v Ha
  rw [show (Scf.trips k1_t1_loop.lb k1_t1_loop.ub k1_t1_loop.st) = 321 from trips1, mapRows_full]
  iapply HQ
  iexact Ha

theorem wp_countTail (v11 : BitVec 32) (hc : v11.toNat ≤ 16384) (c : BitVec 32) (e : c = v11) (P : sProp (MM F)) (Q : Head → sProp (MM F)) :
    P ⊢ iprop((P -∗ Q ⟨tileW L, v11, chk3_of v11 hc, w13 v11, 128#32, w14 v11, w19 v11, w20⟩)
        -∗ wp frame (wpE (defs₀ (F := F)) 𝒱₀ (thr d L) none) Set.univ (countTail (F := F) L c) Q) := by
  subst e
  unfold countTail
  unfold Prog.lift
  iintro Hc HQ
  rw [wp_bind]
  rw [wp_assume_of 𝒱₀ (thr d L) none Set.univ (chk3_of c hc)]
  sl_step
  sl_step
  iapply HQ
  iexact Hc

theorem wp_countOf (v11 : BitVec 32) (hc : v11.toNat ≤ 16384) (fc : S16.Idx → BitVec 32) (hfc : ∀ y, fc y = v11) (Q : Head → sProp (MM F)) :
    ((cntV).view.loc (thr d L) ↦{fullShare} fc)
      ⊢ iprop((((cntV).view.loc (thr d L) ↦{fullShare} fc) -∗ Q ⟨tileW L, v11, chk3_of v11 hc, w13 v11, 128#32, w14 v11, w19 v11, w20⟩)
        -∗ wp frame (wpE (defs₀ (F := F)) 𝒱₀ (thr d L) none) Set.univ (countOf (F := F) L cntV) Q) := by
  unfold countOf
  unfold Prog.lift
  iintro Hc HQ
  rw [wp_bind]
  iapply (wp_load 𝒱₀ (thr d L) none Set.univ (m := cntV) (S := Finset.univ) (Finset.subset_univ _)) $$ Hc; iintro Hc
  sl_step
  iapply (wp_countTail (F := F) d L v11 hc _ (countWord_eq (F := F) _ v11 (fun y => hfc _)) _ Q) $$ Hc
  iexact HQ

set_option maxHeartbeats 2000000 in
theorem wp_part131 (f0 : S321x128.Idx → Elt F .f32) (ls0 ld0 : S16384.Idx → BitVec 32) (fc : S16.Idx → BitVec 32) (v11 : BitVec 32) (hc : v11.toNat ≤ 16384) (ls ld : S16384.Idx → BitVec 32)
    (O : CellTallies nD τ sig (HIx 2)) (W : Waits sig (HIx 2)) (Q : Head → sProp (MM F)) :
    iprop(accPts d L f0 ∗ lists (F := F) d L ls0 ld0 ∗ ((cntV).view.loc (thr d L) ↦{fullShare} fc) ∗ listsHold (F := F) d L v11 ls ld ∗ sems3 (F := F) d L
      ∗ owesA (F := F) d L O W ∗ Transfers.MayWaits (thr d L) (default : HIx 2) O)
      ⊢ iprop(((accPts d L (fun _ => negInf) ∗ lists (F := F) d L ls ld ∗ (∃ fc : S16.Idx → BitVec 32, (cntV).view.loc (thr d L) ↦{fullShare} fc) ∗ listsHold (F := F) d L v11 ls ld ∗ sems3 (F := F) d L
          ∗ owesA (F := F) d L O W) -∗ Q ⟨tileW L, v11, chk3_of v11 hc, w13 v11, 128#32, w14 v11, w19 v11, w20⟩)
        -∗ wp frame (wpE (defs₀ (F := F)) 𝒱₀ (thr d L) none) Set.univ (k1_part131_skel (F := F) L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4) Q) := by
  rw [part131_eq]
  unfold lists listsHold sems3
  iintro ⟨Ha, ⟨Hl, Hd⟩, Hc, ⟨%fC, %fS, %fD, %hL, Ho1, Ho2, Ho3⟩, ⟨Hs1, Hs2, Hs3⟩, HO, #Hmw⟩ HQ
  rw [wp_bind]
  iapply (wp_loop1 (F := F) d L f0) $$ Ha; iintro %v1 Ha
  iapply (wp_inCopy (F := F) d L ((outS).slice (Rect.unit (s := S524288) (k1_off9 L) S16384.size (k1_off9_inb L)) (fun _ => rfl) : Memref sig Kind.scVector Space.hbm S16384 EltTy.i32) srclV _ _ cc1_scoped0 _ fullShare (own1 524288 16384 L) fS ls0 _ rfl pos_in_src (in_src L) O W) $$ [Ho2 Hl Hs1 HO]
  · isplitl [Ho2]; · iexact Ho2
    isplitl [Hl]; · iexact Hl
    isplitl [Hs1]; · iexact Hs1
    isplitl [HO]; · iexact HO
    iexact Hmw
  rw [got_src (F := F) L fS ls0 ls hL.srcs]
  iintro ⟨Ho2, Hl, Hs1, HO⟩
  iapply (wp_inCopy (F := F) d L ((outD).slice (Rect.unit (s := S524288) (k1_off9 L) S16384.size (k1_off9_inb L)) (fun _ => rfl) : Memref sig Kind.scVector Space.hbm S16384 EltTy.i32) dstlV _ _ cc1_scoped1 _ fullShare (own1 524288 16384 L) fD ld0 _ rfl pos_in_dst (in_dst L) O W) $$ [Ho3 Hd Hs2 HO]
  · isplitl [Ho3]; · iexact Ho3
    isplitl [Hd]; · iexact Hd
    isplitl [Hs2]; · iexact Hs2
    isplitl [HO]; · iexact HO
    iexact Hmw
  rw [got_dst (F := F) L fD ld0 ld hL.dsts]
  iintro ⟨Ho3, Hd, Hs2, HO⟩
  iapply (wp_inCopy (F := F) d L ((outC).slice (Rect.unit (s := S512) (k1_off10 L) S16.size (k1_off10_inb L)) (fun _ => rfl) : Memref sig Kind.scVector Space.hbm S16 EltTy.i32) cntV _ _ cc1_scoped2 _ fullShare (own1 512 16 L) fC fc _ rfl pos_in_cnt (in_cnt L) O W) $$ [Ho1 Hc Hs3 HO]
  · isplitl [Ho1]; · iexact Ho1
    isplitl [Hc]; · iexact Hc
    isplitl [Hs3]; · iexact Hs3
    isplitl [HO]; · iexact HO
    iexact Hmw
  rw [got_cnt (F := F) L fC fc (fun _ => v11) hL.count]
  iintro ⟨Ho1, Hc, Hs3, HO⟩
  iapply (wp_countOf (F := F) d L v11 hc (fun _ => v11) (fun _ => rfl)) $$ Hc
  iintro Hc
  iapply HQ
  isplitl [Ha]; · iexact Ha
  isplitl [Hl Hd]
  · isplitl [Hl]; · iexact Hl
    iexact Hd
  isplitl [Hc]; · iexists _; iexact Hc
  isplitl [Ho1 Ho2 Ho3]
  · iexists fC, fS, fD
    isplitr
    · ipureintro; exact hL
    isplitl [Ho1]; · iexact Ho1
    isplitl [Ho2]; · iexact Ho2
    iexact Ho3
  isplitl [Hs1 Hs2 Hs3]
  · isplitl [Hs1]; · iexact Hs1
    isplitl [Hs2]; · iexact Hs2
    iexact Hs3
  iexact HO

variable (gx : S10000x128.Idx → Elt F .f32) (ls ld : S16384.Idx → BitVec 32) (qx : PosShare TreeShare)

theorem wp_startFirst {α : Type} (hls : ∀ p, p < 16384 → okSrc (wordAt (m := 16384) ls p)) (ql : PosShare TreeShare) (v19 : BitVec 32) (hv : v19.toNat ≤ 16384)
    (k : PUnit.{1} → Prog (TileEff F L) α) (Q : α → sProp (MM F)) :
    gIdle (F := F) d L gx ls qx ql rA cc1_scratch6
      ⊢ iprop((gSlot (F := F) d L gx ls (nr v19) qx ql rA cc1_scratch6 credRows 0 -∗ wp frame (wpE (defs₀ (F := F)) 𝒱₀ (thr d L) none) Set.univ (k ⟨⟩) Q)
          -∗ wp frame (wpE (defs₀ (F := F)) 𝒱₀ (thr d L) none) Set.univ (startFirst L xV srclV rA cc1_scratch6 (someW v19) k) Q) := by
  unfold startFirst gSlot
  by_cases hc : someW v19 = 1#1
  · rw [if_pos hc, if_pos ((someW_iff v19 hv).1 hc)]
    dsimp only
    iintro HI HQ
    iapply (wp_startRows (F := F) d L gx ls qx ql cc1_scratch6 credRows cred_rA hls ![0] inb_S16384_S128_0 0 rfl) $$ HI
    iexact HQ
  · rw [if_neg hc, if_neg (fun h => hc ((someW_iff v19 hv).2 h))]
    iintro HI HQ
    iapply HQ
    iexact HI

set_option maxHeartbeats 2000000 in
theorem wp_part132 (hls : ∀ p, p < 16384 → okSrc (wordAt (m := 16384) ls p)) (hld : ∀ p, p < 16384 → okDst (wordAt (m := 16384) ld p)) (v11 : BitVec 32) (hw : k1_chk1 v11) (hv : v11.toNat ≤ 16384)
    (fr fr' : S128x128.Idx → Elt F .f32) (qx' : PosShare TreeShare)
    (O : CellTallies nD τ sig (HIx 2)) (W : Waits sig (HIx 2)) (Q : (Σ' (_ : BitVec 32) (_ : BitVec 32), BitVec 32) → sProp (MM F)) :
    iprop(accPts d L (fun _ => negInf) ∗ lists (F := F) d L ls ld
      ∗ ((rA).view.loc (thr d L) ↦{fullShare} fr) ∗ semVal (thr d L, .dma (cc1_scratch6).sem) 0 ∗ ((xV).view.loc (thr d L) ↦{qx} gx)
      ∗ ((rB).view.loc (thr d L) ↦{fullShare} fr') ∗ semVal (thr d L, .dma (cc1_scratch7).sem) 0 ∗ ((xV).view.loc (thr d L) ↦{qx'} gx)
      ∗ owesA (F := F) d L O W ∗ Transfers.MayWaits (thr d L) (default : HIx 2) O)
      ⊢ iprop(((accAt (F := F) d L gx ls ld (128 * nr v11) ∗ lists (F := F) d L ls ld
          ∗ (∃ fr : S128x128.Idx → Elt F .f32, (rA).view.loc (thr d L) ↦{fullShare} fr) ∗ semVal (thr d L, .dma (cc1_scratch6).sem) 0 ∗ ((xV).view.loc (thr d L) ↦{qx} gx)
          ∗ (∃ fr' : S128x128.Idx → Elt F .f32, (rB).view.loc (thr d L) ↦{fullShare} fr') ∗ semVal (thr d L, .dma (cc1_scratch7).sem) 0 ∗ ((xV).view.loc (thr d L) ↦{qx'} gx)
          ∗ owesA (F := F) d L O W) -∗ Q ⟨0#32, 0#32, 320#32⟩)
        -∗ wp frame (wpE (defs₀ (F := F)) 𝒱₀ (thr d L) none) Set.univ (k1_part132_skel (F := F) L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4 v11 hw (w13 v11) 128#32 (w14 v11) (w19 v11) w20) Q) := by
  rw [part132_eq]
  unfold lists
  iintro ⟨Ha, ⟨Hl, Hd⟩, HrA, H12, Hx, HrB, H13, Hx', HO, #Hmw⟩ HQ
  ihave Hl2 := (pointsTo_share (PosShare.mem_left_op_right fullShare)).1 $$ Hl
  icases Hl2 with ⟨Hl, Hlr⟩
  iapply (wp_startFirst (F := F) d L gx ls qx hls fullShare.left v11 hv) $$ [HrA H12 Hx Hl]
  · iapply (gIdle_of (F := F) d L gx ls qx fullShare.left rA cc1_scratch6 fr)
    isplitl [HrA]; · iexact HrA
    isplitl [H12]; · iexact H12
    isplitl [Hx]; · iexact Hx
    iexact Hl
  iintro HS
  rw [wp_bind]
  iapply (wp_batches (F := F) d L gx ls ld fullShare v11 hv hls hld qx fullShare.left qx' fullShare.right hw (w13 v11) 128#32 (w14 v11) (w19 v11) w20 O W) $$ [HS HrB H13 Hx' Hlr Hd Ha HO]
  · unfold batchInv
    isplitl [HS]; · iexact HS
    isplitl [HrB H13 Hx' Hlr]
    · iapply (gIdle_of (F := F) d L gx ls qx' fullShare.right rB cc1_scratch7 fr')
      isplitl [HrB]; · iexact HrB
      isplitl [H13]; · iexact H13
      isplitl [Hx']; · iexact Hx'
      iexact Hlr
    isplitl [Ha]
    · unfold accAt
      rw [show 128 * min 0 (nr v11) = 0 by simp]
      iexact Ha
    isplitl [Hd]; · iexact Hd
    isplitl [HO]; · iexact HO
    iexact Hmw
  iintro %v71 ⟨HA, HB, Ha, Hd, HO⟩
  rw [wp_bind]
  iapply (Scf.wp_for frame (wpE (defs₀ (F := F)) 𝒱₀ (thr d L) none) Set.univ _ _ _ (k1_t5_ok v11 hw) v71 _ (fun _ _ => iprop(emp)) ?hb) $$ [Ha HA HB Hd HO HQ]
  case hb => exact fun k _ => (t9_none v11 k).elim
  isplitr [Ha HA HB Hd HO HQ]
  · iempintro
  iintro %v72 _
  sl_step
  unfold gIdle
  icases HA with ⟨%fr1, HrA, H12, Hx, Hl⟩
  icases HB with ⟨%fr2, HrB, H13, Hx', Hlr⟩
  ihave Hl2 := (pointsTo_share (PosShare.mem_left_op_right fullShare)).2 $$ [Hl Hlr]
  · isplitl [Hl] <;> iassumption
  iapply HQ
  isplitl [Ha]; · iexact Ha
  isplitl [Hl2 Hd]
  · isplitl [Hl2] <;> iassumption
  isplitl [HrA]; · iexists _; iexact HrA
  isplitl [H12]; · iexact H12
  isplitl [Hx]; · iexact Hx
  isplitl [HrB]; · iexists _; iexact HrB
  isplitl [H13]; · iexact H13
  isplitl [Hx']; · iexact Hx'
  iexact HO

end Own

end Cert.Proof.Reuse

end
-- ==== Proof.ReuseBody.lean ====
/-
  The end of the second call's run: an empty row made zero, and the tile's rows written out.
-/
module

public import proofs.«01_k».proof.Proof.ReuseTile

@[expose] public section

noncomputable section

namespace Cert.Proof.Reuse

open Cert.Proof.Scan
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc1_scratch0 : Memref sig Kind.scVector Space.vmem S16384 EltTy.i32)
local notation "dstlV" => (Memref.whole cc1_scratch1 : Memref sig Kind.scVector Space.vmem S16384 EltTy.i32)
local notation "accV" => (Memref.whole cc1_scratch2 : Memref sig Kind.scVector Space.vmem S321x128 EltTy.f32)
local notation "rA" => (Memref.whole cc1_scratch3 : Memref sig Kind.scVector Space.vmem S128x128 EltTy.f32)
local notation "rB" => (Memref.whole cc1_scratch4 : Memref sig Kind.scVector Space.vmem S128x128 EltTy.f32)
local notation "cntV" => (Memref.whole cc1_scratch5 : Memref sig Kind.scVector Space.vmem S16 EltTy.i32)
local notation "xV" => (Memref.whole main_arg2_scv : Memref sig Kind.scVector Space.hbm S10000x128 EltTy.f32)
local notation "aggV" => (Memref.whole main_v5_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

theorem off1056_eq' (L : grid0.Coords) : k1_off1051 L = ![loNat L, 0] := by
  rw [k1_off1051_eq]
  have : 640 * (L 1).val + 320 * (L 0).val = loNat L := by unfold loNat tileNo; omega
  rw [this]
theorem off1057_eq' (L : grid0.Coords) : k1_off1052 L = ![loNat L, 0] := by
  rw [k1_off1052_eq]
  have : 640 * (L 1).val + 320 * (L 0).val = loNat L := by unfold loNat tileNo; omega
  rw [this]

theorem cond12_iff : ∀ L : grid0.Coords, k1_cond10 L = 1#1 ↔ tileNo L < 31 := by decide +kernel
theorem cond13_iff : ∀ L : grid0.Coords, k1_cond11 L = 1#1 ↔ tileNo L = 31 := by decide +kernel

section Run

variable (d : Dev nD) (L : grid0.Coords)

theorem wp_loop12 (f0 : S321x128.Idx → Elt F .f32) (Q : BitVec 32 → sProp (MM F)) :
    accPts d L f0
      ⊢ iprop((∀ v, accPts d L (mapRows finV f0 320) -∗ Q v)
        -∗ wp frame (wpE (defs₀ (F := F)) 𝒱₀ (thr d L) none) Set.univ (Scf.Loop.for k1_t8_loop k1_t8_ok 0#32 (k1_t8_body L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4 0#32)) Q) := by
  iintro Ha HQ
  iapply (Scf.wp_for frame (wpE (defs₀ (F := F)) 𝒱₀ (thr d L) none) Set.univ _ _ _ k1_t8_ok 0#32 _ (fun k _ => accPts d L (mapRows finV f0 k)) ?hb) $$ [Ha HQ]
  case hb =>
    intro k c
    rw [t12_body_eq]
    rw [← mapTo_zero finV (mapRows finV f0 k.val) k.val]
    iintro Ha
    rw [wp_bind]
    iapply (wp_colFin (F := F) d L (mapRows finV f0 k.val) k.val 0 (k1_off1043 k) (k1_off1043_eq k) (k1_off1043_inb k)) $$ Ha; iintro Ha
    rw [wp_bind]
    iapply (wp_colFin (F := F) d L (mapRows finV f0 k.val) k.val 16 (k1_off1044 k) (k1_off1044_eq k) (k1_off1044_inb k)) $$ Ha; iintro Ha
    rw [wp_bind]
    iapply (wp_colFin (F := F) d L (mapRows finV f0 k.val) k.val 32 (k1_off1045 k) (k1_off1045_eq k) (k1_off1045_inb k)) $$ Ha; iintro Ha
    rw [wp_bind]
    iapply (wp_colFin (F := F) d L (mapRows finV f0 k.val) k.val 48 (k1_off1046 k) (k1_off1046_eq k) (k1_off1046_inb k)) $$ Ha; iintro Ha
    rw [wp_bind]
    iapply (wp_colFin (F := F) d L (mapRows finV f0 k.val) k.val 64 (k1_off1047 k) (k1_off1047_eq k) (k1_off1047_inb k)) $$ Ha; iintro Ha
    rw [wp_bind]
    iapply (wp_colFin (F := F) d L (mapRows finV f0 k.val) k.val 80 (k1_off1048 k) (k1_off1048_eq k) (k1_off1048_inb k)) $$ Ha; iintro Ha
    rw [wp_bind]
    iapply (wp_colFin (F := F) d L (mapRows finV f0 k.val) k.val 96 (k1_off1049 k) (k1_off1049_eq k) (k1_off1049_inb k)) $$ Ha; iintro Ha
    rw [wp_bind]
    iapply (wp_colFin (F := F) d L (mapRows finV f0 k.val) k.val 112 (k1_off1050 k) (k1_off1050_eq k) (k1_off1050_inb k)) $$ Ha; iintro Ha
    sl_step
    rw [← mapTo_full]
    iexact Ha
  isplitr [HQ]
  · rw [mapRows_zero]; iexact Ha
  iintro %v Ha
  rw [show (Scf.trips k1_t8_loop.lb k1_t8_loop.ub k1_t8_loop.st) = 320 from trips12]
  iapply HQ
  iexact Ha

theorem pos_320 (h : k1_cond10 L = 1#1) : 0 < ((aggV).slice (Rect.unit (s := S10000x128) (k1_off1051 L) S320x128.size (k1_off1051_inb L h)) (fun _ => rfl) : Memref sig Kind.scVector Space.hbm S320x128 EltTy.f32).view.dmaCredit := by
  revert L; decide +kernel
theorem pos_80 (h : k1_cond11 L = 1#1) : 0 < ((aggV).slice (Rect.unit (s := S10000x128) (k1_off1052 L) S80x128.size (k1_off1052_inb L h)) (fun _ => rfl) : Memref sig Kind.scVector Space.hbm S80x128 EltTy.f32).view.dmaCredit := by
  revert L; decide +kernel

theorem sub_320 (h : k1_cond10 L = 1#1) :
    ((aggV).slice (Rect.unit (s := S10000x128) (k1_off1051 L) S320x128.size (k1_off1051_inb L h)) (fun _ => rfl) : Memref sig Kind.scVector Space.hbm S320x128 EltTy.f32).view.set ⊆ ownRows L := by
  intro i hi
  obtain ⟨y, _, rfl⟩ := Finset.mem_map.1 hi
  have e : k1_off1051 L 0 = loNat L := by rw [off1056_eq']; rfl
  have hy : (y 0).val < 320 := (y 0).isLt
  refine Finset.mem_filter.2 ⟨Finset.mem_univ _, ?_⟩
  show (k1_off1051 L 0 + 1 * (y 0).val) / 320 = tileNo L
  unfold loNat at e
  omega

theorem sub_80 (h : k1_cond11 L = 1#1) :
    ((aggV).slice (Rect.unit (s := S10000x128) (k1_off1052 L) S80x128.size (k1_off1052_inb L h)) (fun _ => rfl) : Memref sig Kind.scVector Space.hbm S80x128 EltTy.f32).view.set ⊆ ownRows L := by
  intro i hi
  obtain ⟨y, _, rfl⟩ := Finset.mem_map.1 hi
  have e : k1_off1052 L 0 = loNat L := by rw [off1057_eq']; rfl
  have hy : (y 0).val < 80 := (y 0).isLt
  refine Finset.mem_filter.2 ⟨Finset.mem_univ _, ?_⟩
  show (k1_off1052 L 0 + 1 * (y 0).val) / 320 = tileNo L
  unfold loNat at e
  omega

/-- A block of `n` rows copied out. -/
theorem rows_block (n : ℕ) (off : Fin 2 → ℕ) (lo : ℕ) (ho : off = ![lo, 0]) (inb : ∀ a, off a + (⟨2, ![n, 128]⟩ : Shape).size a ≤ S10000x128.size a)
    (inb' : ∀ a, (![0, 0] : Fin 2 → ℕ) a + (⟨2, ![n, 128]⟩ : Shape).size a ≤ S321x128.size a)
    (f : S321x128.Idx → Elt F .f32) (fa : S10000x128.Idx → Elt F .f32) (x : S10000x128.Idx) (r : Fin 321) (hr : r.val < n) (hx : (x 0).val = lo + r.val) :
    ((aggV).slice (Rect.unit (s := S10000x128) off (⟨2, ![n, 128]⟩ : Shape).size inb) (fun _ => rfl) : Memref sig Kind.scVector Space.hbm ⟨2, ![n, 128]⟩ EltTy.f32).view.write (Elt F) fa
      (((accV).slice (Rect.unit (s := S321x128) ![0, 0] (⟨2, ![n, 128]⟩ : Shape).size inb') (fun _ => rfl) : Memref sig Kind.scVector Space.vmem ⟨2, ![n, 128]⟩ EltTy.f32).view.read (Elt F) f) Finset.univ x
      = f (ix2 r (x 1)) := by
  subst ho
  let y : (⟨2, ![n, 128]⟩ : Shape).Idx := ix2 ⟨r.val, hr⟩ (x 1)
  have hy : ((aggV).slice (Rect.unit (s := S10000x128) ![lo, 0] (⟨2, ![n, 128]⟩ : Shape).size inb) (fun _ => rfl) : Memref sig Kind.scVector Space.hbm ⟨2, ![n, 128]⟩ EltTy.f32).view.emb y = x := by
    funext a
    apply Fin.ext
    match a with
    | 0 => show lo + 1 * r.val = (x 0).val; omega
    | 1 => show 0 + 1 * (x 1).val = (x 1).val; omega
  have h := congrFun (View.read_write_univ (Val := Elt F) (v := ((aggV).slice (Rect.unit (s := S10000x128) ![lo, 0] (⟨2, ![n, 128]⟩ : Shape).size inb) (fun _ => rfl) : Memref sig Kind.scVector Space.hbm ⟨2, ![n, 128]⟩ EltTy.f32).view) fa
    (((accV).slice (Rect.unit (s := S321x128) ![0, 0] (⟨2, ![n, 128]⟩ : Shape).size inb') (fun _ => rfl) : Memref sig Kind.scVector Space.vmem ⟨2, ![n, 128]⟩ EltTy.f32).view.read (Elt F) f)) y
  rw [View.read, hy] at h
  refine Eq.trans ?_ (h.trans ?_)
  · rfl
  · show f _ = f _
    congr 1
    funext a
    apply Fin.ext
    match a with
    | 0 => show 0 + 1 * r.val = r.val; omega
    | 1 => show 0 + 1 * (x 1).val = (x 1).val; omega

theorem rows_320 (h : k1_cond10 L = 1#1) (f : S321x128.Idx → Elt F .f32) (fa : S10000x128.Idx → Elt F .f32) :
    RowsOut L f (((aggV).slice (Rect.unit (s := S10000x128) (k1_off1051 L) S320x128.size (k1_off1051_inb L h)) (fun _ => rfl) : Memref sig Kind.scVector Space.hbm S320x128 EltTy.f32).view.write (Elt F) fa
      (((accV).slice (Rect.unit (s := S321x128) ![0, 0] S320x128.size inb_S321x128_S320x128_0_0) (fun _ => rfl) : Memref sig Kind.scVector Space.vmem S320x128 EltTy.f32).view.read (Elt F) f) Finset.univ) := by
  intro x hx
  have hx2 : (x 0).val / 320 = tileNo L := (Finset.mem_filter.1 hx).2
  exact rows_block 320 (k1_off1051 L) (loNat L) (off1056_eq' L) (k1_off1051_inb L h) inb_S321x128_S320x128_0_0 f fa x ⟨(x 0).val % 320, by omega⟩ (Nat.mod_lt _ (by decide))
    (by show (x 0).val = loNat L + (x 0).val % 320; unfold loNat; omega)

theorem rows_80 (h : k1_cond11 L = 1#1) (f : S321x128.Idx → Elt F .f32) (fa : S10000x128.Idx → Elt F .f32) :
    RowsOut L f (((aggV).slice (Rect.unit (s := S10000x128) (k1_off1052 L) S80x128.size (k1_off1052_inb L h)) (fun _ => rfl) : Memref sig Kind.scVector Space.hbm S80x128 EltTy.f32).view.write (Elt F) fa
      (((accV).slice (Rect.unit (s := S321x128) ![0, 0] S80x128.size inb_S321x128_S80x128_0_0) (fun _ => rfl) : Memref sig Kind.scVector Space.vmem S80x128 EltTy.f32).view.read (Elt F) f) Finset.univ) := by
  intro x hx
  have hx2 : (x 0).val / 320 = tileNo L := (Finset.mem_filter.1 hx).2
  have hl : (x 0).val < 10000 := (x 0).isLt
  have ht := (cond13_iff L).1 h
  exact rows_block 80 (k1_off1052 L) (loNat L) (off1057_eq' L) (k1_off1052_inb L h) inb_S321x128_S80x128_0_0 f fa x ⟨(x 0).val % 320, by omega⟩ (by show (x 0).val % 320 < 80; omega)
    (by show (x 0).val = loNat L + (x 0).val % 320; unfold loNat; omega)

set_option maxHeartbeats 1000000 in
theorem wp_finish (f : S321x128.Idx → Elt F .f32) (fa : S10000x128.Idx → Elt F .f32) (O : CellTallies nD τ sig (HIx 2)) (W : Waits sig (HIx 2)) (Q : PUnit → sProp (MM F)) :
    iprop(accPts d L f ∗ ((aggV).view.loc (thr d L) ↦[ownRows L]{fullShare} fa) ∗ semVal (thr d L, .dma (cc1_scoped3).sem) 0 ∗ semVal (thr d L, .dma (cc1_scoped4).sem) 0
      ∗ owesA (F := F) d L O W ∗ Transfers.MayWaits (thr d L) (default : HIx 2) O)
      ⊢ iprop((accPts d L f ∗ (∃ fa : S10000x128.Idx → Elt F .f32, ⌜RowsOut L f fa⌝ ∗ ((aggV).view.loc (thr d L) ↦[ownRows L]{fullShare} fa)) ∗ semVal (thr d L, .dma (cc1_scoped3).sem) 0 ∗ semVal (thr d L, .dma (cc1_scoped4).sem) 0
          ∗ owesA (F := F) d L O W -∗ Q ⟨⟩)
        -∗ wp frame (wpE (defs₀ (F := F)) 𝒱₀ (thr d L) none) Set.univ (finish L accV aggV cc1_scoped3 cc1_scoped4) Q) := by
  have hlt := tileNo_lt L
  unfold finish finish80
  by_cases h12 : k1_cond10 L = 1#1
  · have h13 : ¬ k1_cond11 L = 1#1 := fun h => by have := (cond12_iff L).1 h12; have := (cond13_iff L).1 h; omega
    rw [dif_pos h12, dif_neg h13]
    iintro ⟨Ha, Ho, Hs3, Hs4, HO, #Hmw⟩ HQ
    iapply (wp_outCopy (F := F) d L ((accV).slice (Rect.unit (s := S321x128) ![0, 0] S320x128.size inb_S321x128_S320x128_0_0) (fun _ => rfl) : Memref sig Kind.scVector Space.vmem S320x128 EltTy.f32)
      ((aggV).slice (Rect.unit (s := S10000x128) (k1_off1051 L) S320x128.size (k1_off1051_inb L h12)) (fun _ => rfl) : Memref sig Kind.scVector Space.hbm S320x128 EltTy.f32) _ _
      cc1_scoped3 _ fullShare f (ownRows L) fa _ rfl (pos_320 L h12) (sub_320 L h12) O W) $$ [Ha Ho Hs3 HO]
    · isplitl [Ha]; · iexact Ha
      isplitl [Ho]; · iexact Ho
      isplitl [Hs3]; · iexact Hs3
      isplitl [HO]; · iexact HO
      iexact Hmw
    iintro ⟨Ha, Ho, Hs3, HO⟩
    sl_step
    iapply HQ
    isplitl [Ha]; · iexact Ha
    isplitl [Ho]
    · iexists _
      isplitr
      swap; · iexact Ho
      ipureintro
      exact rows_320 L h12 f fa
    isplitl [Hs3]; · iexact Hs3
    isplitl [Hs4]; · iexact Hs4
    iexact HO
  · have h13 : k1_cond11 L = 1#1 := (cond13_iff L).2 (by
      have : ¬ tileNo L < 31 := fun h => h12 ((cond12_iff L).2 h)
      omega)
    rw [dif_neg h12, dif_pos h13]
    iintro ⟨Ha, Ho, Hs3, Hs4, HO, #Hmw⟩ HQ
    iapply (wp_outCopy (F := F) d L ((accV).slice (Rect.unit (s := S321x128) ![0, 0] S80x128.size inb_S321x128_S80x128_0_0) (fun _ => rfl) : Memref sig Kind.scVector Space.vmem S80x128 EltTy.f32)
      ((aggV).slice (Rect.unit (s := S10000x128) (k1_off1052 L) S80x128.size (k1_off1052_inb L h13)) (fun _ => rfl) : Memref sig Kind.scVector Space.hbm S80x128 EltTy.f32) _ _
      cc1_scoped4 _ fullShare f (ownRows L) fa _ rfl (pos_80 L h13) (sub_80 L h13) O W) $$ [Ha Ho Hs4 HO]
    · isplitl [Ha]; · iexact Ha
      isplitl [Ho]; · iexact Ho
      isplitl [Hs4]; · iexact Hs4
      isplitl [HO]; · iexact HO
      iexact Hmw
    iintro ⟨Ha, Ho, Hs4, HO⟩
    sl_step
    iapply HQ
    isplitl [Ha]; · iexact Ha
    isplitl [Ho]
    · iexists _
      isplitr
      swap; · iexact Ho
      ipureintro
      exact rows_80 L h13 f fa
    isplitl [Hs3]; · iexact Hs3
    isplitl [Hs4]; · iexact Hs4
    iexact HO

end Run

end Cert.Proof.Reuse

end
-- ==== Proof.ReuseRun.lean ====
/-
  A tile's whole run of the second call, with its buffers and semaphores gathered.
-/
module

public import proofs.«01_k».proof.Proof.TileRun
public import proofs.«01_k».proof.Proof.ReuseBody

@[expose] public section

noncomputable section

namespace Cert.Proof.Reuse

open Cert.Proof.Scan
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc1_scratch0 : Memref sig Kind.scVector Space.vmem S16384 EltTy.i32)
local notation "dstlV" => (Memref.whole cc1_scratch1 : Memref sig Kind.scVector Space.vmem S16384 EltTy.i32)
local notation "accV" => (Memref.whole cc1_scratch2 : Memref sig Kind.scVector Space.vmem S321x128 EltTy.f32)
local notation "rA" => (Memref.whole cc1_scratch3 : Memref sig Kind.scVector Space.vmem S128x128 EltTy.f32)
local notation "rB" => (Memref.whole cc1_scratch4 : Memref sig Kind.scVector Space.vmem S128x128 EltTy.f32)
local notation "cntV" => (Memref.whole cc1_scratch5 : Memref sig Kind.scVector Space.vmem S16 EltTy.i32)
local notation "xV" => (Memref.whole main_arg2_scv : Memref sig Kind.scVector Space.hbm S10000x128 EltTy.f32)
local notation "aggV" => (Memref.whole main_v5_scv : Memref sig Kind.scVector Space.hbm S10000x128 EltTy.f32)
local notation "outS" => (Memref.whole main_v4_1_scv : Memref sig Kind.scVector Space.hbm S524288 EltTy.i32)
local notation "outD" => (Memref.whole main_v4_2_scv : Memref sig Kind.scVector Space.hbm S524288 EltTy.i32)
local notation "outC" => (Memref.whole main_v4_3_scv : Memref sig Kind.scVector Space.hbm S512 EltTy.i32)

section Tile

variable (d : Dev nD) (L : grid0.Coords) (gx : S10000x128.Idx → Elt F .f32) (gs gd : S320000.Idx → BitVec 32) (q : PosShare TreeShare)

/-- The tile's own buffers, holding anything. -/
def scr : sProp (MM F) :=
  iprop((∃ f : S16384.Idx → BitVec 32, (srclV).view.loc (thr d L) ↦{fullShare} f)
    ∗ (∃ f : S16384.Idx → BitVec 32, (dstlV).view.loc (thr d L) ↦{fullShare} f)
    ∗ (∃ f : S321x128.Idx → Elt F .f32, (accV).view.loc (thr d L) ↦{fullShare} f)
    ∗ (∃ f : S128x128.Idx → Elt F .f32, (rA).view.loc (thr d L) ↦{fullShare} f)
    ∗ (∃ f : S128x128.Idx → Elt F .f32, (rB).view.loc (thr d L) ↦{fullShare} f)
    ∗ (∃ f : S16.Idx → BitVec 32, (cntV).view.loc (thr d L) ↦{fullShare} f))

/-- The tile's own semaphores, at zero. -/
def sems : sProp (MM F) :=
  iprop(semVal (thr d L, .dma (cc1_scratch6).sem) 0 ∗ semVal (thr d L, .dma (cc1_scratch7).sem) 0 ∗ semVal (thr d L, .dma (cc1_scoped0).sem) 0 ∗ semVal (thr d L, .dma (cc1_scoped1).sem) 0 ∗ semVal (thr d L, .dma (cc1_scoped2).sem) 0 ∗ semVal (thr d L, .dma (cc1_scoped3).sem) 0 ∗ semVal (thr d L, .dma (cc1_scoped4).sem) 0)

set_option maxHeartbeats 1000000 in
/-- A tile's run. -/
theorem wp_tile (O : CellTallies nD τ sig (HIx 2)) (W : Waits sig (HIx 2)) (Q : PUnit → sProp (MM F)) :
    iprop(scr (F := F) d L ∗ sems (F := F) d L ∗ ((xV).view.loc (thr d L) ↦{q} gx) ∗ listsScanned (F := F) d L gs gd
      ∗ (∃ fa : S10000x128.Idx → Elt F .f32, (aggV).view.loc (thr d L) ↦[ownRows L]{fullShare} fa) ∗ owesA (F := F) d L O W ∗ Transfers.MayWaits (thr d L) (default : HIx 2) O)
      ⊢ iprop((scr (F := F) d L ∗ sems (F := F) d L ∗ ((xV).view.loc (thr d L) ↦{q} gx) ∗ listsScanned (F := F) d L gs gd
          ∗ (∃ fa : S10000x128.Idx → Elt F .f32, ⌜TileOut L gx gs gd fa⌝ ∗ ((aggV).view.loc (thr d L) ↦[ownRows L]{fullShare} fa)) ∗ owesA (F := F) d L O W -∗ Q ⟨⟩)
        -∗ wp frame (wpE (defs₀ (F := F)) 𝒱₀ (thr d L) none) Set.univ (cc1__sc_segmax_reuse_body (F := F) L (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4) Q) := by
  rw [body_eq]
  unfold scr sems listsScanned
  iintro ⟨⟨⟨%ls0, Hls⟩, ⟨%ld0, Hld⟩, ⟨%f0, Ha⟩, ⟨%f5, HrA⟩, ⟨%f6, HrB⟩, ⟨%f7, Hc⟩⟩, ⟨H12, H13, Hs0, Hs1, Hs2, Hs3, Hs4⟩, Hx, ⟨%v11, %ls, %ld, %hS, Hlo⟩, ⟨%fa, Hfa⟩, HO, #Hmw⟩ HQ
  ihave Hx2 := (pointsTo_share (PosShare.mem_left_op_right q)).1 $$ Hx
  icases Hx2 with ⟨Hx, Hx'⟩
  rw [wp_bind]
  iapply (wp_part131 (F := F) d L f0 ls0 ld0 f7 v11 hS.1 ls ld O W) $$ [Ha Hls Hld Hc Hlo Hs0 Hs1 Hs2 HO]
  · isplitl [Ha]; · iexact Ha
    isplitl [Hls Hld]
    · unfold lists
      isplitl [Hls] <;> iassumption
    isplitl [Hc]; · iexact Hc
    isplitl [Hlo]; · iexact Hlo
    isplitl [Hs0 Hs1 Hs2]
    · unfold sems3
      isplitl [Hs0]; · iexact Hs0
      isplitl [Hs1]; · iexact Hs1
      iexact Hs2
    isplitl [HO]; · iexact HO
    iexact Hmw
  iintro ⟨Ha, Hl, Hc, Hlo, Hs, HO⟩
  rw [wp_bind]
  iapply (wp_part132 (F := F) d L gx ls ld q.left hS.2.srcs.okAll hS.2.dsts.okAll v11 (chk3_of v11 hS.1) hS.1 f5 f6 q.right O W) $$ [Ha Hl HrA H12 Hx HrB H13 Hx' HO]
  · isplitl [Ha]; · iexact Ha
    isplitl [Hl]; · iexact Hl
    isplitl [HrA]; · iexact HrA
    isplitl [H12]; · iexact H12
    isplitl [Hx]; · iexact Hx
    isplitl [HrB]; · iexact HrB
    isplitl [H13]; · iexact H13
    isplitl [Hx']; · iexact Hx'
    isplitl [HO]; · iexact HO
    iexact Hmw
  iintro ⟨Ha, Hl, HrA, H12, Hx, HrB, H13, Hx', HO⟩
  rw [wp_bind]
  unfold accAt
  iapply (wp_loop12 (F := F) d L _) $$ Ha; iintro %v74 Ha
  iapply (wp_finish (F := F) d L _ fa O W) $$ [Ha Hfa Hs3 Hs4 HO]
  · isplitl [Ha]; · iexact Ha
    isplitl [Hfa]; · iexact Hfa
    isplitl [Hs3]; · iexact Hs3
    isplitl [Hs4]; · iexact Hs4
    isplitl [HO]; · iexact HO
    iexact Hmw
  iintro ⟨Ha, ⟨%fa', %hfa, Hfa⟩, Hs3, Hs4, HO⟩
  unfold lists sems3
  icases Hl with ⟨Hls, Hld⟩
  icases Hs with ⟨Hs0, Hs1, Hs2⟩
  ihave Hx2 := (pointsTo_share (PosShare.mem_left_op_right q)).2 $$ [Hx Hx']
  · isplitl [Hx] <;> iassumption
  iapply HQ
  isplitl [Hls Hld Ha HrA HrB Hc]
  · isplitl [Hls]; · iexists _; iexact Hls
    isplitl [Hld]; · iexists _; iexact Hld
    isplitl [Ha]; · iexists _; iexact Ha
    isplitl [HrA]; · iexact HrA
    isplitl [HrB]; · iexact HrB
    iexact Hc
  isplitl [H12 H13 Hs0 Hs1 Hs2 Hs3 Hs4]
  · isplitl [H12]; · iexact H12
    isplitl [H13]; · iexact H13
    isplitl [Hs0]; · iexact Hs0
    isplitl [Hs1]; · iexact Hs1
    isplitl [Hs2]; · iexact Hs2
    isplitl [Hs3]; · iexact Hs3
    iexact Hs4
  isplitl [Hx2]; · iexact Hx2
  isplitl [Hlo]
  · iexists v11, ls, ld
    isplitr
    · ipureintro; exact hS
    iexact Hlo
  isplitl [Hfa]
  · iexists fa'
    isplitr
    · ipureintro
      exact ⟨v11, ls, ld, hS.1, hS.2, hfa⟩
    · iexact Hfa
  iexact HO

end Tile

end Cert.Proof.Reuse

end
-- ==== Proof.Tasks.lean ====
/-
  The two calls' tasks: what each is handed and leaves, and a tile's buffers and semaphores among all.
-/
module

public import proofs.«01_k».proof.Proof.ReuseRun
public import Idealize.ShloMosaic.Lib.ShareLeaves

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

open Idealize.ShloMosaic.ShareLeaves
open Idealize.ShloMosaic.SparseCore.Cfg (tileRest ownBufs ownSems0 ownCells ownRefs mem_ownCells mem_ownRefs)
open Idealize.ShloMosaic.Rounds

local notation "xV" => (Memref.whole main_arg0_scv : Memref sig Kind.scVector Space.hbm S10000x128 EltTy.f32)
local notation "aggV" => (Memref.whole main_v4_0_scv : Memref sig Kind.scVector Space.hbm S10000x128 EltTy.f32)
local notation "hV" => (Memref.whole main_arg2_scv : Memref sig Kind.scVector Space.hbm S10000x128 EltTy.f32)
local notation "agg2V" => (Memref.whole main_v5_scv : Memref sig Kind.scVector Space.hbm S10000x128 EltTy.f32)

/-- The coordinates of the tile on SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tiles, by SparseCore and subcore. -/
abbrev Tl : Type := Fin 2 × Fin 16

/-- A tile's coordinates. -/
abbrev Lt (t : Tl) : grid0.Coords := coordsV t.1 t.2

/-- The tiles, numbered. -/
def tileIx : Tl ≃ Fin (2 ^ 5) := finProdFinEquiv.trans (finCongr (by norm_num))

/-- A tile's share of the operands. -/
abbrev qt (t : Tl) : PosShare TreeShare := leaf 5 fullShare (tileIx t)

omit [FloatOps F] in
theorem split_self (A B : sProp (MM F)) : A ⊢ |={Set.univ}=> iprop(A ∗ (B -∗ B)) := by
  iintro H; imodintro
  isplitl [H]; · iexact H
  iintro H; iexact H

section Pay

variable (gx gh : Dev nD → S10000x128.Idx → Elt F .f32) (gs gd : Dev nD → S320000.Idx → BitVec 32)

/-- What a task is handed: its share of the operands, its part of the results. -/
def goP (d : Dev nD) (t : Tl) : sProp (MM F) :=
  iprop(ins (F := F) d (Lt t) (gx d) (gs d) (gd d) (qt t) ∗ listsOut (F := F) d (Lt t)
    ∗ ∃ fa : S10000x128.Idx → Elt F .f32, (aggV).view.loc (thr d (Lt t)) ↦[ownRows (Lt t)]{fullShare} fa)

/-- What a task leaves: the same, its lists those of its scan, its rows of the result computed. -/
def tdP (d : Dev nD) (t : Tl) : sProp (MM F) :=
  iprop(ins (F := F) d (Lt t) (gx d) (gs d) (gd d) (qt t) ∗ listsScanned (F := F) d (Lt t) (gs d) (gd d)
    ∗ ∃ fa : S10000x128.Idx → Elt F .f32, ⌜TileOut (Lt t) (gx d) (gs d) (gd d) fa⌝ ∗ (aggV).view.loc (thr d (Lt t)) ↦[ownRows (Lt t)]{fullShare} fa)

/-- What a task of the second call is handed: its share of the features, its lists, its part of the result. -/
def go1P (d : Dev nD) (t : Tl) : sProp (MM F) :=
  iprop(((hV).view.loc (thr d (Lt t)) ↦{qt t} gh d) ∗ listsScanned (F := F) d (Lt t) (gs d) (gd d)
    ∗ ∃ fa : S10000x128.Idx → Elt F .f32, (agg2V).view.loc (thr d (Lt t)) ↦[ownRows (Lt t)]{fullShare} fa)

/-- What it leaves: the same, its rows of the result computed. -/
def td1P (d : Dev nD) (t : Tl) : sProp (MM F) :=
  iprop(((hV).view.loc (thr d (Lt t)) ↦{qt t} gh d) ∗ listsScanned (F := F) d (Lt t) (gs d) (gd d)
    ∗ ∃ fa : S10000x128.Idx → Elt F .f32, ⌜TileOut (Lt t) (gh d) (gs d) (gd d) fa⌝ ∗ (agg2V).view.loc (thr d (Lt t)) ↦[ownRows (Lt t)]{fullShare} fa)

omit [FloatOps F] in
instance listsHold_storable (d : Dev nD) (L : grid0.Coords) (cnt : BitVec 32) (ls ld : S16384.Idx → BitVec 32) : BI.Storable (upEmb : UEmb _ (MM F)) (listsHold (F := F) d L cnt ls ld) := by
  unfold listsHold
  infer_instance
omit [FloatOps F] in
instance listsScanned_storable (d : Dev nD) (L : grid0.Coords) (s t : S320000.Idx → BitVec 32) : BI.Storable (upEmb : UEmb _ (MM F)) (listsScanned (F := F) d L s t) := by
  unfold listsScanned
  infer_instance
instance goP_storable (d : Dev nD) (t : Tl) : BI.Storable (upEmb : UEmb _ (MM F)) (goP gx gs gd d t) := by
  unfold goP ins listsOut
  infer_instance
instance tdP_storable (d : Dev nD) (t : Tl) : BI.Storable (upEmb : UEmb _ (MM F)) (tdP gx gs gd d t) := by
  unfold tdP ins
  infer_instance
instance go1P_storable (d : Dev nD) (t : Tl) : BI.Storable (upEmb : UEmb _ (MM F)) (go1P gh gs gd d t) := by
  unfold go1P
  infer_instance
instance td1P_storable (d : Dev nD) (t : Tl) : BI.Storable (upEmb : UEmb _ (MM F)) (td1P gh gs gd d t) := by
  unfold td1P
  infer_instance

/-- A task as a tile. -/
abbrev tl (c : Fin ((K (F := F)).nCore 0)) (i : Fin ((K (F := F)).nSub 0)) : Tl := (Fin.cast nCore_zero c, Fin.cast nSub_zero i)
/-- A task of the second call as a tile. -/
abbrev tl1 (c : Fin ((K (F := F)).nCore 1)) (i : Fin ((K (F := F)).nSub 1)) : Tl := (Fin.cast nCore_one c, Fin.cast nSub_one i)

/-- What the handshakes carry: a SparseCore's, its tasks'. -/
def P : (K (F := F)).Pay (nD := nD) (Val := Elt F) (Name := ℕ) (U := UU) where
  st := fun q d c => match q with | 0 => bigSep Finset.univ fun i => goP gx gs gd d (tl c i) | 1 => bigSep Finset.univ fun i => go1P gh gs gd d (tl1 c i)
  dn := fun q d c => match q with | 0 => bigSep Finset.univ fun i => tdP gx gs gd d (tl c i) | 1 => bigSep Finset.univ fun i => td1P gh gs gd d (tl1 c i)
  go := fun q d c i => match q with | 0 => goP gx gs gd d (tl c i) | 1 => go1P gh gs gd d (tl1 c i)
  td := fun q d c i => match q with | 0 => tdP gx gs gd d (tl c i) | 1 => td1P gh gs gd d (tl1 c i)
  x := fun _ _ => iprop(emp)

theorem P_st (d : Dev nD) (c : Fin ((K (F := F)).nCore 0)) : (P (F := F) gx gh gs gd).st 0 d c = bigSep Finset.univ fun i => goP gx gs gd d (tl c i) := by
  unfold P; rfl
theorem P_dn (d : Dev nD) (c : Fin ((K (F := F)).nCore 0)) : (P (F := F) gx gh gs gd).dn 0 d c = bigSep Finset.univ fun i => tdP gx gs gd d (tl c i) := by
  unfold P; rfl
theorem P_go (d : Dev nD) (c : Fin ((K (F := F)).nCore 0)) (i : Fin ((K (F := F)).nSub 0)) : (P (F := F) gx gh gs gd).go 0 d c i = goP gx gs gd d (tl c i) := by
  unfold P; rfl
theorem P_td (d : Dev nD) (c : Fin ((K (F := F)).nCore 0)) (i : Fin ((K (F := F)).nSub 0)) : (P (F := F) gx gh gs gd).td 0 d c i = tdP gx gs gd d (tl c i) := by
  unfold P; rfl
theorem P_st1 (d : Dev nD) (c : Fin ((K (F := F)).nCore 1)) : (P (F := F) gx gh gs gd).st 1 d c = bigSep Finset.univ fun i => go1P gh gs gd d (tl1 c i) := by
  unfold P; rfl
theorem P_dn1 (d : Dev nD) (c : Fin ((K (F := F)).nCore 1)) : (P (F := F) gx gh gs gd).dn 1 d c = bigSep Finset.univ fun i => td1P gh gs gd d (tl1 c i) := by
  unfold P; rfl
theorem P_go1 (d : Dev nD) (c : Fin ((K (F := F)).nCore 1)) (i : Fin ((K (F := F)).nSub 1)) : (P (F := F) gx gh gs gd).go 1 d c i = go1P gh gs gd d (tl1 c i) := by
  unfold P; rfl
theorem P_td1 (d : Dev nD) (c : Fin ((K (F := F)).nCore 1)) (i : Fin ((K (F := F)).nSub 1)) : (P (F := F) gx gh gs gd).td 1 d c i = td1P gh gs gd d (tl1 c i) := by
  unfold P; rfl

instance P_storable : (P (F := F) gx gh gs gd).IsStorable where
  st q d c := by
    match q with
    | 0 => rw [P_st]; infer_instance
    | 1 => rw [P_st1]; infer_instance
  dn q d c := by
    match q with
    | 0 => rw [P_dn]; infer_instance
    | 1 => rw [P_dn1]; infer_instance
  go q d c i := by
    match q with
    | 0 => rw [P_go]; infer_instance
    | 1 => rw [P_go1]; infer_instance
  td q d c i := by
    match q with
    | 0 => rw [P_td]; infer_instance
    | 1 => rw [P_td1]; infer_instance

theorem vecSplit : (K (F := F)).VecSplit' (P (F := F) gx gh gs gd) 0 := by
  intro d c
  simp only [P_st, P_dn, P_go, P_td]
  exact split_self _ _
theorem vecSplit1 : (K (F := F)).VecSplit' (P (F := F) gx gh gs gd) 1 := by
  intro d c
  simp only [P_st1, P_dn1, P_go1, P_td1]
  exact split_self _ _

end Pay

section Own

variable (d : Dev nD) (L : grid0.Coords)

/-- The cell of a tile's DMA semaphore. -/
abbrev cellOf (s : DmaSem sig) : GSem nD τ sig := (thr d L, .dma s)

/-- The tile's nine semaphores. -/
abbrev semSet : Finset (DmaSem sig) := {(cc0_scratch10).sem, (cc0_scratch11).sem, (cc0_scratch12).sem, (cc0_scratch13).sem, (cc0_scoped0).sem, (cc0_scoped1).sem, (cc0_scoped2).sem, (cc0_scoped3).sem, (cc0_scoped4).sem}

/-- The tile's ten buffers. -/
abbrev bufSet : Finset (Ref sig .scVector) := {cc0_scratch6, cc0_scratch4, cc0_scratch5, cc0_scratch0, cc0_scratch1, cc0_scratch2, cc0_scratch3, cc0_scratch7, cc0_scratch8, cc0_scratch9}

/-- The tile's cells among all. -/
def cellEmb : DmaSem sig ↪ GSem nD τ sig := ⟨fun s => cellOf d L s, fun _ _ h => SemLoc.dma.inj (Prod.mk.inj h).2⟩
/-- The tile's buffers among the device's. -/
def bufEmb : Ref sig .scVector ↪ DevRef τ sig := ⟨fun b => (Proc.scVector (cV L) (jV L)).devRef b, fun _ _ h => Proc.devRef_injective _ h⟩

theorem sems_scoped : ∀ s ∈ semSet, (SemLoc.dma s : SemLoc sig).isScoped .scVector = true := by decide
theorem bufs_owner : ∀ b ∈ bufSet, ∀ (c : Fin τ.nSC) (j : Fin τ.nSub), ((Proc.scVector c j).devRef b : DevRef τ sig).owner = .proc (.scVector c j) := by
  intro b hb c j
  simp only [bufSet, Finset.mem_insert, Finset.mem_singleton] at hb
  rcases hb with rfl | rfl | rfl | rfl | rfl | rfl | rfl | rfl | rfl | rfl <;> rfl

theorem ownSems0_V : (ownSems0 (thr d L) : sProp (MM F)) = iprop(sems (F := F) d L ∗ bigSep (ownCells (thr d L) \ semSet.map (cellEmb d L)) fun g => semVal g 0) := by
  unfold SparseCore.Cfg.ownSems0 sems
  rw [SparseCore.bigSep_sdiff_split' (t := semSet.map (cellEmb d L)) ?h, BI.bigSep_map,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  case h =>
    intro g hg
    obtain ⟨s, hs, rfl⟩ := Finset.mem_map.1 hg
    exact (mem_ownCells (g := cellOf d L s)).mpr ⟨rfl, sems_scoped s hs⟩
  rfl

/-- The tile's own buffers: the ten, at some contents, and the rest. -/
theorem ownBufs_V : (ownBufs (thr d L) : sProp (MM F))
    = iprop(scr (F := F) d L ∗ bigSep (ownRefs (τ := τ) (.scVector (cV L) (jV L)) \ bufSet.map (bufEmb L)) fun b => iprop(∃ f, ((d, b) : Loc nD τ sig) ↦{fullShare} f)) := by
  unfold SparseCore.Cfg.ownBufs scr
  refine (SparseCore.bigSep_sdiff_split' (t := bufSet.map (bufEmb L)) ?h).trans ?_
  case h =>
    intro g hg
    obtain ⟨b, hb, rfl⟩ := Finset.mem_map.1 hg
    exact SparseCore.Cfg.mem_ownRefs_of_owner (p := Proc.scVector (cV L) (jV L)) (b := (Proc.scVector (cV L) (jV L)).devRef b) (bufs_owner b hb _ _)
  rw [BI.bigSep_map,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

end Own

end Cert.Proof.Scan

/-! ## The second call's buffers and semaphores -/

namespace Cert.Proof.Reuse

open Cert.Proof.Scan
open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (tileRest ownBufs ownSems0 ownCells ownRefs mem_ownCells mem_ownRefs)

variable {F : FTy → Type} [FloatOps F]

section Own

variable (d : Dev nD) (L : grid0.Coords)

/-- The tile's seven semaphores. -/
abbrev semSet : Finset (DmaSem sig) := {(cc1_scratch6).sem, (cc1_scratch7).sem, (cc1_scoped0).sem, (cc1_scoped1).sem, (cc1_scoped2).sem, (cc1_scoped3).sem, (cc1_scoped4).sem}

/-- The tile's six buffers. -/
abbrev bufSet : Finset (Ref sig .scVector) := {cc1_scratch0, cc1_scratch1, cc1_scratch2, cc1_scratch3, cc1_scratch4, cc1_scratch5}

theorem sems_scoped : ∀ s ∈ semSet, (SemLoc.dma s : SemLoc sig).isScoped .scVector = true := by decide
theorem bufs_owner : ∀ b ∈ bufSet, ∀ (c : Fin τ.nSC) (j : Fin τ.nSub), ((Proc.scVector c j).devRef b : DevRef τ sig).owner = .proc (.scVector c j) := by
  intro b hb c j
  simp only [bufSet, Finset.mem_insert, Finset.mem_singleton] at hb
  rcases hb with rfl | rfl | rfl | rfl | rfl | rfl <;> rfl

theorem ownSems0_V : (ownSems0 (thr d L) : sProp (MM F)) = iprop(sems (F := F) d L ∗ bigSep (ownCells (thr d L) \ semSet.map (cellEmb d L)) fun g => semVal g 0) := by
  unfold SparseCore.Cfg.ownSems0 sems
  rw [SparseCore.bigSep_sdiff_split' (t := semSet.map (cellEmb d L)) ?h, BI.bigSep_map,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  case h =>
    intro g hg
    obtain ⟨s, hs, rfl⟩ := Finset.mem_map.1 hg
    exact (mem_ownCells (g := cellOf d L s)).mpr ⟨rfl, sems_scoped s hs⟩
  rfl

/-- The tile's own buffers: the six, at some contents, and the rest. -/
theorem ownBufs_V : (ownBufs (thr d L) : sProp (MM F))
    = iprop(scr (F := F) d L ∗ bigSep (ownRefs (τ := τ) (.scVector (cV L) (jV L)) \ bufSet.map (bufEmb L)) fun b => iprop(∃ f, ((d, b) : Loc nD τ sig) ↦{fullShare} f)) := by
  unfold SparseCore.Cfg.ownBufs scr
  refine (SparseCore.bigSep_sdiff_split' (t := bufSet.map (bufEmb L)) ?h).trans ?_
  case h =>
    intro g hg
    obtain ⟨b, hb, rfl⟩ := Finset.mem_map.1 hg
    exact SparseCore.Cfg.mem_ownRefs_of_owner (p := Proc.scVector (cV L) (jV L)) (b := (Proc.scVector (cV L) (jV L)).devRef b) (bufs_owner b hb _ _)
  rw [BI.bigSep_map,
    SparseCore.bigSep_insert' (by decide), SparseCore.bigSep_insert' (by decide), SparseCore.bigSep_insert' (by decide), SparseCore.bigSep_insert' (by decide),
    SparseCore.bigSep_insert' (by decide), bigSep_singleton]
  rfl

end Own

end Cert.Proof.Reuse

end
-- ==== Proof.Obl.lean ====
/-
  The launch theorem's obligation for a tile of either call, and the launch's ghost state.
-/
module

public import proofs.«01_k».proof.Proof.Tasks

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

open Idealize.ShloMosaic.ShareLeaves
open Idealize.ShloMosaic.SparseCore.Cfg (tileRest ownBufs ownSems0 ownCells ownRefs mem_ownCells mem_ownRefs)
open Idealize.ShloMosaic.Rounds

local notation "xV" => (Memref.whole main_arg0_scv : Memref sig Kind.scVector Space.hbm S10000x128 EltTy.f32)
local notation "aggV" => (Memref.whole main_v4_0_scv : Memref sig Kind.scVector Space.hbm S10000x128 EltTy.f32)
local notation "hV" => (Memref.whole main_arg2_scv : Memref sig Kind.scVector Space.hbm S10000x128 EltTy.f32)
local notation "agg2V" => (Memref.whole main_v5_scv : Memref sig Kind.scVector Space.hbm S10000x128 EltTy.f32)

variable (gx gh : Dev nD → S10000x128.Idx → Elt F .f32) (gs gd : Dev nD → S320000.Idx → BitVec 32)

section Body

variable (hsrc : ∀ d e, (seqOf (gs d) e).toNat < 10000) (hdst : ∀ d e, (seqOf (gd d) e).toNat < 10000)
include hsrc hdst

/-- A task from what the launch hands it. -/
theorem tile_body (d : Dev nD) (t : Tl) (O : CellTallies nD τ sig (HIx 2)) (W : Waits sig (HIx 2)) (hO : ∀ g, O g none = 0) :
    iprop(levAts (K (F := F)).L (K (F := F)).lev ∗ emp ∗ goP gx gs gd d t
        ∗ scopedBufs (thr d (Lt t)) ∗ scopedSems0 (thr d (Lt t)) ∗ owes (thr d (Lt t)) O W)
      ⊢ wp frame (wpE (defs₀ (F := F)) 𝒱₀ (thr d (Lt t)) none) Set.univ
          (cc0__sc_segmax_scan_body (F := F) (Lt t) (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4)
          fun _ => iprop(tdP gx gs gd d t ∗ scopedBufs (thr d (Lt t)) ∗ scopedSems0 (thr d (Lt t))
            ∗ ∃ W', ⌜∀ p ∈ W', p ∈ W ∨ p.2 = none⌝ ∗ owes (thr d (Lt t)) O W') := by
  rw [(K (F := F)).scopedBufs_V facts d (cV (Lt t)) (jV (Lt t)), SparseCore.Cfg.scopedSems0_V (Val := Elt F) d (cV (Lt t)) (jV (Lt t)), ownSems0_V, ownBufs_V]
  unfold goP tdP
  iintro ⟨#Hlv, -, ⟨Hin, Hlo, Hfa⟩, ⟨Hscr, Hbufs⟩, ⟨Hsm, Hsems⟩, HO⟩
  ihave Hmw := (show levAts (K (F := F)).L (K (F := F)).lev ⊢ Transfers.MayWaits (thr d (Lt t)) (default : HIx 2) O from
    (K (F := F)).mayWaits_none (thr := thr d (Lt t)) hO) $$ Hlv
  iapply (wp_tile (F := F) d (Lt t) (gx d) (gs d) (gd d) (qt t) (hsrc d) (hdst d) O W) $$ [Hin Hlo Hfa Hscr Hsm HO Hmw]
  · isplitl [Hscr]; · iexact Hscr
    isplitl [Hsm]; · iexact Hsm
    isplitl [Hin]; · iexact Hin
    isplitl [Hlo]; · iexact Hlo
    isplitl [Hfa]; · iexact Hfa
    isplitl [HO]
    · unfold owesA
      iexists W
      isplitr
      · ipureintro; exact fun p hp => .inl hp
      · iexact HO
    iexact Hmw
  iintro ⟨Hscr, Hsm, Hin, Hlo, Hfa, HO⟩
  isplitl [Hin Hlo Hfa]
  · isplitl [Hin]; · iexact Hin
    isplitl [Hlo]; · iexact Hlo
    iexact Hfa
  isplitl [Hscr Hbufs]
  · isplitl [Hscr]; · iexact Hscr
    iexact Hbufs
  isplitl [Hsm Hsems]
  · isplitl [Hsm]; · iexact Hsm
    iexact Hsems
  unfold owesA
  iexact HO

end Body

theorem defs₀_vector (c : Fin τ.nSC) (s : Fin τ.nSub) :
    defs₀ (F := F) (.scVector c s) 0 ()
      = SparseCore.onTile hcore0 hsub0 (fun c s => cc0__sc_segmax_scan_body (F := F) (coordsV c s) (Memref.whole main_arg0_scv) (Memref.isWhole_whole _) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole main_v4_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4) ⟨⟩ c s := rfl

/-- A task of the second call from what the launch hands it. -/
theorem tile_body1 (d : Dev nD) (t : Tl) (O : CellTallies nD τ sig (HIx 2)) (W : Waits sig (HIx 2)) (hO : ∀ g, O g none = 0) :
    iprop(levAts (K (F := F)).L (K (F := F)).lev ∗ emp ∗ go1P gh gs gd d t
        ∗ scopedBufs (thr d (Lt t)) ∗ scopedSems0 (thr d (Lt t)) ∗ owes (thr d (Lt t)) O W)
      ⊢ wp frame (wpE (defs₀ (F := F)) 𝒱₀ (thr d (Lt t)) none) Set.univ
          (cc1__sc_segmax_reuse_body (F := F) (Lt t) (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4)
          fun _ => iprop(td1P gh gs gd d t ∗ scopedBufs (thr d (Lt t)) ∗ scopedSems0 (thr d (Lt t))
            ∗ ∃ W', ⌜∀ p ∈ W', p ∈ W ∨ p.2 = none⌝ ∗ owes (thr d (Lt t)) O W') := by
  rw [(K (F := F)).scopedBufs_V facts d (cV (Lt t)) (jV (Lt t)), SparseCore.Cfg.scopedSems0_V (Val := Elt F) d (cV (Lt t)) (jV (Lt t)), Reuse.ownSems0_V, Reuse.ownBufs_V]
  unfold go1P td1P
  iintro ⟨#Hlv, -, ⟨Hin, Hlo, Hfa⟩, ⟨Hscr, Hbufs⟩, ⟨Hsm, Hsems⟩, HO⟩
  ihave Hmw := (show levAts (K (F := F)).L (K (F := F)).lev ⊢ Transfers.MayWaits (thr d (Lt t)) (default : HIx 2) O from
    (K (F := F)).mayWaits_none (thr := thr d (Lt t)) hO) $$ Hlv
  iapply (Reuse.wp_tile (F := F) d (Lt t) (gh d) (gs d) (gd d) (qt t) O W) $$ [Hin Hlo Hfa Hscr Hsm HO Hmw]
  · isplitl [Hscr]; · iexact Hscr
    isplitl [Hsm]; · iexact Hsm
    isplitl [Hin]; · iexact Hin
    isplitl [Hlo]; · iexact Hlo
    isplitl [Hfa]; · iexact Hfa
    isplitl [HO]
    · unfold owesA
      iexists W
      isplitr
      · ipureintro; exact fun p hp => .inl hp
      · iexact HO
    iexact Hmw
  iintro ⟨Hscr, Hsm, Hin, Hlo, Hfa, HO⟩
  isplitl [Hin Hlo Hfa]
  · isplitl [Hin]; · iexact Hin
    isplitl [Hlo]; · iexact Hlo
    iexact Hfa
  isplitl [Hscr Hbufs]
  · isplitl [Hscr]; · iexact Hscr
    iexact Hbufs
  isplitl [Hsm Hsems]
  · isplitl [Hsm]; · iexact Hsm
    iexact Hsems
  unfold owesA
  iexact HO

theorem defs₀_vector1 (c : Fin τ.nSC) (s : Fin τ.nSub) :
    defs₀ (F := F) (.scVector c s) 1 ()
      = SparseCore.onTile hcore1 hsub1 (fun c s => cc1__sc_segmax_reuse_body (F := F) (coordsV c s) (Memref.whole main_arg2_scv) (Memref.isWhole_whole _) (Memref.whole main_v4_1_scv) (Memref.isWhole_whole _) (Memref.whole main_v4_2_scv) (Memref.isWhole_whole _) (Memref.whole main_v4_3_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 cc1_scoped2 cc1_scoped3 cc1_scoped4) ⟨⟩ c s := rfl

omit [FloatOps F] in
theorem obl_post {thr : Thread nD τ} {A B C : sProp (MM F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hsrc : ∀ d e, (seqOf (gs d) e).toNat < 10000) (hdst : ∀ d e, (seqOf (gd d) e).toNat < 10000) :
    (K (F := F)).TileObl (D (F := F)) 𝒱 (P (F := F) gx gh gs gd) v₀ 0 := by
  intro d c i O W hO _ _
  simp only [show (P (F := F) gx gh gs gd).ox = fun _ _ => 0 from rfl, add_zero, P_go, P_td]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body gx gs gd hsrc hdst d (tl c i) O W hO).trans (wp_mono frame _ _ fun _ => obl_post)

set_option maxRecDepth 16384 in
theorem tileObl1 : (K (F := F)).TileObl (D (F := F)) 𝒱 (P (F := F) gx gh gs gd) v₀ 1 := by
  intro d c i O W hO _ _
  simp only [show (P (F := F) gx gh gs gd).ox = fun _ _ => 0 from rfl, add_zero, P_go1, P_td1]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body1 gh gs gd d (tl1 c i) O W hO).trans (wp_mono frame _ _ fun _ => obl_post)

/-! ## The launch element of the ghost state -/

/-- The handshakes' rounds; no counter. -/
def u₀ : UU := (initOf (K (F := F)).hsCells (K (F := F)).hsToks, 1)

omit [FloatOps F] in
theorem emps {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P (F := F) gx gh gs gd).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 2 => (P (F := F) gx gh gs gd).x q thr) = bigSep Finset.univ fun _ => iprop(emp) from
    bigSep_congr fun _ _ => emps _, emps]
  iempintro

end Cert.Proof.Scan

end
-- ==== Proof.Launch.lean ====
/-
  What the two calls' tasks are handed and leave, all together.
-/
module

public import proofs.«01_k».proof.Proof.Obl

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

open Idealize.ShloMosaic.ShareLeaves
open Idealize.ShloMosaic.SparseCore.Cfg (tileRest ownBufs ownSems0 ownCells ownRefs mem_ownCells mem_ownRefs)
open Idealize.ShloMosaic.Rounds
open Idealize.ShloMosaic.StableHlo (held wp_hlo_within)

local notation "xV" => (Memref.whole main_arg0_scv : Memref sig Kind.scVector Space.hbm S10000x128 EltTy.f32)
local notation "aggV" => (Memref.whole main_v4_0_scv : Memref sig Kind.scVector Space.hbm S10000x128 EltTy.f32)
local notation "hV" => (Memref.whole main_arg2_scv : Memref sig Kind.scVector Space.hbm S10000x128 EltTy.f32)
local notation "agg2V" => (Memref.whole main_v5_scv : Memref sig Kind.scVector Space.hbm S10000x128 EltTy.f32)

/-! ## The arrays -/

abbrev xLoc (d : Dev nD) : Loc nD τ sig := (SparseCore.T d).loc main_arg0
abbrev eLoc (d : Dev nD) : Loc nD τ sig := (SparseCore.T d).loc main_arg1
abbrev srcLoc (d : Dev nD) : Loc nD τ sig := (SparseCore.T d).loc main_v1
abbrev dstLoc (d : Dev nD) : Loc nD τ sig := (SparseCore.T d).loc main_v3
abbrev aggLoc (d : Dev nD) : Loc nD τ sig := (SparseCore.T d).loc main_v4_0
abbrev sLoc (d : Dev nD) : Loc nD τ sig := (SparseCore.T d).loc main_v4_1
abbrev dLoc (d : Dev nD) : Loc nD τ sig := (SparseCore.T d).loc main_v4_2
abbrev cLoc (d : Dev nD) : Loc nD τ sig := (SparseCore.T d).loc main_v4_3
abbrev hLoc (d : Dev nD) : Loc nD τ sig := (SparseCore.T d).loc main_arg2
abbrev agg2Loc (d : Dev nD) : Loc nD τ sig := (SparseCore.T d).loc main_v5

/-! ## The tiles' pieces -/

theorem tileNo_Lt (t : Tl) : tileNo (Lt t) = t.2.val * 2 + t.1.val := rfl
theorem tileNo_inj {t t' : Tl} (h : tileNo (Lt t) = tileNo (Lt t')) : t = t' := by
  rw [tileNo_Lt, tileNo_Lt] at h
  have h1 := t.1.isLt
  have h2 := t'.1.isLt
  exact Prod.ext (Fin.ext (by omega)) (Fin.ext (by omega))

/-- The tile with a given number. -/
def tileOf (n : ℕ) (h : n < 32) : Tl := (⟨n % 2, by omega⟩, ⟨n / 2, by omega⟩)
theorem tileNo_tileOf (n : ℕ) (h : n < 32) : tileNo (Lt (tileOf n h)) = n := by
  rw [tileNo_Lt]
  show n / 2 * 2 + n % 2 = n
  omega

theorem own1_disjoint (n B : ℕ) : ∀ t ∈ (Finset.univ : Finset Tl), ∀ t' ∈ (Finset.univ : Finset Tl), t ≠ t' → Disjoint (own1 n B (Lt t)) (own1 n B (Lt t')) := by
  intro t _ t' _ h
  refine Finset.disjoint_left.2 fun x hx hx' => h (tileNo_inj ?_)
  exact (Finset.mem_filter.1 hx).2.symm.trans (Finset.mem_filter.1 hx').2
theorem own1_cover (n B : ℕ) (h : n ≤ 32 * B) : (Finset.univ : Finset Tl).biUnion (fun t => own1 n B (Lt t)) = Finset.univ := by
  refine Finset.eq_univ_iff_forall.2 fun x => ?_
  have hx : (x 0).val < n := (x 0).isLt
  have h' : (x 0).val / B < 32 := Nat.div_lt_of_lt_mul (by rw [Nat.mul_comm]; exact hx.trans_le h)
  exact Finset.mem_biUnion.2 ⟨tileOf _ h', Finset.mem_univ _, Finset.mem_filter.2 ⟨Finset.mem_univ _, (tileNo_tileOf _ h').symm⟩⟩
theorem ownRows_disjoint : ∀ t ∈ (Finset.univ : Finset Tl), ∀ t' ∈ (Finset.univ : Finset Tl), t ≠ t' → Disjoint (ownRows (Lt t)) (ownRows (Lt t')) := by
  intro t _ t' _ h
  refine Finset.disjoint_left.2 fun x hx hx' => h (tileNo_inj ?_)
  exact (Finset.mem_filter.1 hx).2.symm.trans (Finset.mem_filter.1 hx').2
theorem ownRows_cover : (Finset.univ : Finset Tl).biUnion (fun t => ownRows (Lt t)) = Finset.univ := by
  refine Finset.eq_univ_iff_forall.2 fun x => ?_
  have hx : (x 0).val < 10000 := (x 0).isLt
  have h' : (x 0).val / 320 < 32 := by omega
  exact Finset.mem_biUnion.2 ⟨tileOf _ h', Finset.mem_univ _, Finset.mem_filter.2 ⟨Finset.mem_univ _, (tileNo_tileOf _ h').symm⟩⟩

/-- An operand shared among the tiles. -/
theorem shares_eq {ℓ : Loc nD τ sig} (f : Buf (Elt F) ℓ) : (ℓ ↦{fullShare} f : sProp (MM F)) = bigSep Finset.univ fun t : Tl => ℓ ↦{qt t} f := by
  rw [pointsTo_leaves Finset.univ f 5 fullShare, bigSep_univ_equiv tileIx]

/-- An array cut into the tiles' pieces, whatever each holds. -/
theorem cut_pieces {ℓ : Loc nD τ sig} (sets : Tl → Finset (Idx ℓ)) (hd : ∀ t ∈ (Finset.univ : Finset Tl), ∀ t' ∈ (Finset.univ : Finset Tl), t ≠ t' → Disjoint (sets t) (sets t'))
    (hc : (Finset.univ : Finset Tl).biUnion sets = Finset.univ) (f : Buf (Elt F) ℓ) :
    (ℓ ↦{fullShare} f : sProp (MM F)) ⊢ bigSep Finset.univ fun t : Tl => iprop(∃ f, ℓ ↦[sets t]{fullShare} f) := by
  rw [← hc, pointsTo_biUnion Finset.univ (ℓ := ℓ) sets hd]
  exact bigSep_mono fun t _ => exists_intro (Φ := fun f => (ℓ ↦[sets t]{fullShare} f : sProp (MM F))) f

section Res

variable (gx gh : Dev nD → S10000x128.Idx → Elt F .f32) (gs gd : Dev nD → S320000.Idx → BitVec 32)

/-- Every tile's rows of the result are as computed. -/
def AllOut (gx : S10000x128.Idx → Elt F .f32) (gs gd : S320000.Idx → BitVec 32) (fa : S10000x128.Idx → Elt F .f32) : Prop :=
  ∀ t : Tl, TileOut (Lt t) gx gs gd fa

theorem RowsOut_congr (L : grid0.Coords) (f : S321x128.Idx → Elt F .f32) {fa fa' : S10000x128.Idx → Elt F .f32} (h : ∀ x ∈ ownRows L, fa' x = fa x) (H : RowsOut L f fa) : RowsOut L f fa' :=
  fun x hx => (h x hx).trans (H x hx)

theorem TileOut_congr (L : grid0.Coords) (gx : S10000x128.Idx → Elt F .f32) (gs gd : S320000.Idx → BitVec 32) {fa fa' : S10000x128.Idx → Elt F .f32} (h : ∀ x ∈ ownRows L, fa' x = fa x)
    (H : TileOut L gx gs gd fa) : TileOut L gx gs gd fa' := by
  obtain ⟨cnt, ls, ld, h1, h2, h3⟩ := H
  exact ⟨cnt, ls, ld, h1, h2, RowsOut_congr L _ h h3⟩

theorem rows_join (d : Dev nD) (gx : S10000x128.Idx → Elt F .f32) (gs gd : S320000.Idx → BitVec 32) :
    (bigSep Finset.univ fun t : Tl => iprop(∃ fa : Buf (Elt F) (aggLoc d), ⌜TileOut (Lt t) gx gs gd fa⌝ ∗ aggLoc d ↦[ownRows (Lt t)]{fullShare} fa))
      ⊢ (iprop(∃ fa : Buf (Elt F) (aggLoc d), ⌜AllOut gx gs gd fa⌝ ∗ aggLoc d ↦{fullShare} fa) : sProp (MM F)) := by
  have : Nonempty (Buf (Elt F) (aggLoc d)) := ⟨gx⟩
  refine (bigSep_exists_pi Finset.univ (fun (t : Tl) (fa : Buf (Elt F) (aggLoc d)) => iprop(⌜TileOut (Lt t) gx gs gd fa⌝ ∗ aggLoc d ↦[ownRows (Lt t)]{fullShare} fa))).trans ?_
  iintro ⟨%fs, H⟩
  ihave H1 := (bigSep_pure_sep Finset.univ (fun t : Tl => TileOut (Lt t) gx gs gd (fs t)) (fun t : Tl => (aggLoc d ↦[ownRows (Lt t)]{fullShare} fs t : sProp (MM F)))) $$ H
  icases H1 with ⟨%hall, H1⟩
  ihave H2 := (pointsTo_biUnion_join (ℓ := aggLoc d) (q := fullShare) (Val := Elt F) Finset.univ (fun t : Tl => ownRows (Lt t)) fs gx ownRows_disjoint) $$ H1
  icases H2 with ⟨%g, %hg, Hg⟩
  rw [ownRows_cover]
  iexists g
  isplitr
  · ipureintro
    exact fun t => TileOut_congr (Lt t) gx gs gd (hg t (Finset.mem_univ t)) (hall t (Finset.mem_univ t))
  · iexact Hg

theorem rows_join1 (d : Dev nD) (gx : S10000x128.Idx → Elt F .f32) (gs gd : S320000.Idx → BitVec 32) :
    (bigSep Finset.univ fun t : Tl => iprop(∃ fa : Buf (Elt F) (agg2Loc d), ⌜TileOut (Lt t) gx gs gd fa⌝ ∗ agg2Loc d ↦[ownRows (Lt t)]{fullShare} fa))
      ⊢ (iprop(∃ fa : Buf (Elt F) (agg2Loc d), ⌜AllOut gx gs gd fa⌝ ∗ agg2Loc d ↦{fullShare} fa) : sProp (MM F)) := by
  have : Nonempty (Buf (Elt F) (agg2Loc d)) := ⟨gx⟩
  refine (bigSep_exists_pi Finset.univ (fun (t : Tl) (fa : Buf (Elt F) (agg2Loc d)) => iprop(⌜TileOut (Lt t) gx gs gd fa⌝ ∗ agg2Loc d ↦[ownRows (Lt t)]{fullShare} fa))).trans ?_
  iintro ⟨%fs, H⟩
  ihave H1 := (bigSep_pure_sep Finset.univ (fun t : Tl => TileOut (Lt t) gx gs gd (fs t)) (fun t : Tl => (agg2Loc d ↦[ownRows (Lt t)]{fullShare} fs t : sProp (MM F)))) $$ H
  icases H1 with ⟨%hall, H1⟩
  ihave H2 := (pointsTo_biUnion_join (ℓ := agg2Loc d) (q := fullShare) (Val := Elt F) Finset.univ (fun t : Tl => ownRows (Lt t)) fs gx ownRows_disjoint) $$ H1
  icases H2 with ⟨%g, %hg, Hg⟩
  rw [ownRows_cover]
  iexists g
  isplitr
  · ipureintro
    exact fun t => TileOut_congr (Lt t) gx gs gd (hg t (Finset.mem_univ t)) (hall t (Finset.mem_univ t))
  · iexact Hg

/-- What the tasks are handed, all together. -/
theorem go_all (d : Dev nD) (f0 : Buf (Elt F) (aggLoc d)) (f1 : Buf (Elt F) (sLoc d)) (f2 : Buf (Elt F) (dLoc d)) (f3 : Buf (Elt F) (cLoc d)) :
    iprop((xLoc d ↦{fullShare} gx d) ∗ (srcLoc d ↦{fullShare} gs d) ∗ (dstLoc d ↦{fullShare} gd d)
      ∗ (aggLoc d ↦{fullShare} f0) ∗ (sLoc d ↦{fullShare} f1) ∗ (dLoc d ↦{fullShare} f2) ∗ (cLoc d ↦{fullShare} f3))
      ⊢ (bigSep Finset.univ fun t : Tl => goP gx gs gd d t : sProp (MM F)) := by
  unfold goP ins listsOut
  rw [bigSep_sep', bigSep_sep', bigSep_sep', bigSep_sep', bigSep_sep', bigSep_sep', shares_eq (ℓ := xLoc d), shares_eq (ℓ := srcLoc d), shares_eq (ℓ := dstLoc d)]
  iintro ⟨Hx, Hs, Hd, H0, H1, H2, H3⟩
  isplitl [Hx Hs Hd]
  · isplitl [Hx]; · iexact Hx
    isplitl [Hs]; · iexact Hs
    iexact Hd
  isplitl [H1 H2 H3]
  · isplitl [H3]; · iapply (cut_pieces (ℓ := cLoc d) (fun t => own1 512 16 (Lt t)) (own1_disjoint _ _) (own1_cover _ _ (by decide)) f3); iexact H3
    isplitl [H1]; · iapply (cut_pieces (ℓ := sLoc d) (fun t => own1 524288 16384 (Lt t)) (own1_disjoint _ _) (own1_cover _ _ (by decide)) f1); iexact H1
    iapply (cut_pieces (ℓ := dLoc d) (fun t => own1 524288 16384 (Lt t)) (own1_disjoint _ _) (own1_cover _ _ (by decide)) f2); iexact H2
  iapply (cut_pieces (ℓ := aggLoc d) (fun t => ownRows (Lt t)) ownRows_disjoint ownRows_cover f0); iexact H0

/-- The tiles' lists, all together. -/
abbrev allLists (d : Dev nD) : sProp (MM F) := bigSep Finset.univ fun t : Tl => listsScanned (F := F) d (Lt t) (gs d) (gd d)

/-- What the tasks leave, all together. -/
theorem td_all (d : Dev nD) : (bigSep Finset.univ fun t : Tl => tdP gx gs gd d t : sProp (MM F))
      ⊢ iprop((xLoc d ↦{fullShare} gx d) ∗ allLists (F := F) gs gd d ∗ ∃ fa : Buf (Elt F) (aggLoc d), ⌜AllOut (gx d) (gs d) (gd d) fa⌝ ∗ aggLoc d ↦{fullShare} fa) := by
  unfold tdP ins
  rw [bigSep_sep', bigSep_sep', bigSep_sep', bigSep_sep', shares_eq (ℓ := xLoc d)]
  iintro ⟨⟨Hx, -, -⟩, Hl, H⟩
  isplitl [Hx]; · iexact Hx
  isplitl [Hl]; · iexact Hl
  iapply (rows_join d (gx d) (gs d) (gd d)); iexact H

/-- What the second call's tasks are handed, all together. -/
theorem go1_all (d : Dev nD) (f0 : Buf (Elt F) (agg2Loc d)) :
    iprop((hLoc d ↦{fullShare} gh d) ∗ allLists (F := F) gs gd d ∗ (agg2Loc d ↦{fullShare} f0))
      ⊢ (bigSep Finset.univ fun t : Tl => go1P gh gs gd d t : sProp (MM F)) := by
  unfold go1P
  rw [bigSep_sep', bigSep_sep', shares_eq (ℓ := hLoc d)]
  iintro ⟨Hh, Hl, H0⟩
  isplitl [Hh]; · iexact Hh
  isplitl [Hl]; · iexact Hl
  iapply (cut_pieces (ℓ := agg2Loc d) (fun t => ownRows (Lt t)) ownRows_disjoint ownRows_cover f0); iexact H0

/-- What they leave, all together. -/
theorem td1_all (d : Dev nD) : (bigSep Finset.univ fun t : Tl => td1P gh gs gd d t : sProp (MM F))
      ⊢ iprop((hLoc d ↦{fullShare} gh d) ∗ ∃ fa : Buf (Elt F) (agg2Loc d), ⌜AllOut (gh d) (gs d) (gd d) fa⌝ ∗ agg2Loc d ↦{fullShare} fa) := by
  unfold td1P
  rw [bigSep_sep', bigSep_sep', shares_eq (ℓ := hLoc d)]
  iintro ⟨Hh, -, H⟩
  isplitl [Hh]; · iexact Hh
  iapply (rows_join1 d (gh d) (gs d) (gd d)); iexact H

/-- The tasks by SparseCore and subcore. -/
theorem bigSep_tiles (Φ : Tl → sProp (MM F)) : (bigSep Finset.univ fun c : Fin ((K (F := F)).nCore 0) => bigSep Finset.univ fun i : Fin ((K (F := F)).nSub 0) => Φ (tl c i))
    = bigSep Finset.univ Φ := by
  rw [bigSep_univ_prod]
  rfl

theorem st_all (d : Dev nD) : (bigSep Finset.univ fun c : Fin ((K (F := F)).nCore 0) => (P (F := F) gx gh gs gd).st 0 d c) = bigSep Finset.univ fun t : Tl => goP gx gs gd d t := by
  simp only [P_st]
  exact bigSep_tiles _
theorem dn_all (d : Dev nD) : (bigSep Finset.univ fun c : Fin ((K (F := F)).nCore 0) => (P (F := F) gx gh gs gd).dn 0 d c) = bigSep Finset.univ fun t : Tl => tdP gx gs gd d t := by
  simp only [P_dn]
  exact bigSep_tiles _

/-- The second call's tasks by SparseCore and subcore. -/
theorem bigSep_tiles1 (Φ : Tl → sProp (MM F)) : (bigSep Finset.univ fun c : Fin ((K (F := F)).nCore 1) => bigSep Finset.univ fun i : Fin ((K (F := F)).nSub 1) => Φ (tl1 c i))
    = bigSep Finset.univ Φ := by
  rw [bigSep_univ_prod]
  rfl

theorem st_all1 (d : Dev nD) : (bigSep Finset.univ fun c : Fin ((K (F := F)).nCore 1) => (P (F := F) gx gh gs gd).st 1 d c) = bigSep Finset.univ fun t : Tl => go1P gh gs gd d t := by
  simp only [P_st1]
  exact bigSep_tiles1 _
theorem dn_all1 (d : Dev nD) : (bigSep Finset.univ fun c : Fin ((K (F := F)).nCore 1) => (P (F := F) gx gh gs gd).dn 1 d c) = bigSep Finset.univ fun t : Tl => td1P gh gs gd d t := by
  simp only [P_dn1]
  exact bigSep_tiles1 _

end Res

end Cert.Proof.Scan

end
-- ==== Proof.Math.lean ====
/-
  What the tiles' lists and accumulators amount to over the extended reals: the maximum, over the edges that end in a
  node, of their sources' features.
-/
module

public import proofs.«01_k».proof.Proof.Launch

@[expose] public section

noncomputable section

namespace Cert.Proof.Scan

open Cert.KernelIdeal Cert.KernelIdeal.Gen
open Idealize.ShloMosaic

abbrev srcOf (src : ℕ → BitVec 32) (e : ℕ) : Fin 10000 := ⟨(src e).toNat % 10000, Nat.mod_lt _ (by decide)⟩

/-- The maximum of the features of the sources of the edges that end in a node; ⊥ where none does. -/
def segMax (gx : S10000x128.Idx → EReal) (src dst : ℕ → BitVec 32) (n : ℕ) (c : Fin 128) : EReal :=
  ((Finset.range 320000).filter fun e => (dst e).toNat = n).sup fun e => gx (ix2 (srcOf src e) c)

/-- The kernel's result at a node: 0 where no edge ends. -/
def segOut (gx : S10000x128.Idx → EReal) (src dst : ℕ → BitVec 32) : S10000x128.Idx → EReal :=
  fun x => if segMax gx src dst (x 0).val (x 1) = ⊥ then 0 else segMax gx src dst (x 0).val (x 1)

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_zero : Ideal.ofBits .f32 0x00000000#32 = 0 := by simp [Ideal.ofBits, Ideal.ieee]

theorem negInf_eq : negInf (F := Ideal) = (⊥ : EReal) := ofBits_negInf

theorem finV_eq (x : EReal) : finV (F := Ideal) x = if x = ⊥ then (0 : EReal) else x := by
  show Scalar.select (Ideal.cmp .oeq x (Ideal.ofBits .f32 0xFF800000#32)) (Ideal.ofBits .f32 0x00000000#32) x = _
  rw [ofBits_negInf, ofBits_zero]
  by_cases h : x = ⊥
  · simp [Ideal.cmp, Scalar.select, h]
  · simp [Ideal.cmp, Scalar.select, h]

/-- The accumulation of a list is a maximum over its positions. -/
theorem accFold_sup (row : ℕ → Fin 128 → EReal) (dst : ℕ → ℕ) (P : ℕ) (x : S321x128.Idx) :
    accFold (F := Ideal) (fun _ => negInf) row dst P x = ((Finset.range P).filter fun p => dst p = (x 0).val).sup fun p => row p (x 1) := by
  induction P with
  | zero => simpa [accFold] using negInf_eq
  | succ P ih =>
    rw [Finset.range_add_one, Finset.filter_insert]
    show (if (x 0).val = dst P then max (accFold (F := Ideal) (fun _ => negInf) row dst P x) (row P (x 1)) else accFold (F := Ideal) (fun _ => negInf) row dst P x) = _
    rw [ih]
    by_cases h : dst P = (x 0).val
    · rw [if_pos h.symm, if_pos h, Finset.sup_insert, max_comm]
    · rw [if_neg (fun e => h e.symm), if_neg h]

/-- Every position below the count is the rank of an owned edge. -/
theorem exists_rank (lo : ℕ) (dst : ℕ → BitVec 32) (n p : ℕ) (hp : p < cntTo lo dst n) : ∃ e, e < n ∧ hit lo (dst e) ∧ cntTo lo dst e = p := by
  induction n with
  | zero => exact absurd hp (Nat.not_lt_zero _)
  | succ n ih =>
    by_cases h : p < cntTo lo dst n
    · obtain ⟨e, h1, h2, h3⟩ := ih h
      exact ⟨e, by omega, h2, h3⟩
    · have hs : cntTo lo dst (n + 1) = cntTo lo dst n + if hit lo (dst n) then 1 else 0 := rfl
      by_cases hh : hit lo (dst n)
      · rw [if_pos hh] at hs
        exact ⟨n, by omega, hh, by omega⟩
      · rw [if_neg hh] at hs
        omega

/-- What the accumulator holds at a node's row when the tile's lists did not overflow. -/
theorem acc_eq (L : grid0.Coords) (gx : S10000x128.Idx → EReal) (src dst : ℕ → BitVec 32) (cnt : BitVec 32) (ls ld : S16384.Idx → BitVec 32)
    (hc : cnt.toNat ≤ 16384) (hS : Scanned L src dst 320000 cnt ls ld) (hf : fitsT L dst) (n : ℕ) (hn : n / 320 = tileNo L) (c : Fin 128) (x : S321x128.Idx)
    (hx0 : (x 0).val = n % 320) (hx1 : x 1 = c) :
    accFold (F := Ideal) (fun _ => negInf) (rowAt (F := Ideal) gx ls) (fun p => (wordAt (m := 16384) ld p).toNat) (128 * nr cnt) x = segMax gx src dst n c := by
  have hP : 128 * nr cnt ≤ 16384 := by have := nr_le cnt hc; omega
  have hPc : cnt.toNat ≤ 128 * nr cnt := by unfold nr; omega
  have hcnt := hS.count hf
  have hlo : loNat L = tileNo L * 320 := rfl
  rw [accFold_sup, hx0, hx1]
  unfold segMax
  apply le_antisymm
  · refine Finset.sup_le fun p hp => ?_
    obtain ⟨hp1, hp2⟩ := Finset.mem_filter.1 hp
    have hp1' := Finset.mem_range.1 hp1
    by_cases h : p < cnt.toNat
    · obtain ⟨e, he, hh, hr⟩ := exists_rank (loNat L) dst 320000 p (by omega)
      have e1 := hS.srcs.entry hf e he hh
      have e2 := hS.dsts.entry hf e he hh
      rw [hr] at e1 e2
      rw [e2, rowOf_toNat L dst e hh] at hp2
      have hh1 := hh.1
      have hde : (dst e).toNat = n := by omega
      have hv : rowAt (F := Ideal) gx ls p c = gx (ix2 (srcOf src e) c) := by
        unfold rowAt
        simp only [e1]
      rw [hv]
      exact Finset.le_sup (f := fun e => gx (ix2 (srcOf src e) c)) (Finset.mem_filter.2 ⟨Finset.mem_range.2 he, hde⟩)
    · have e2 := hS.dsts.rest hf p (by omega) (by omega)
      rw [e2] at hp2
      have : (320#32).toNat = 320 := rfl
      omega
  · refine Finset.sup_le fun e he => ?_
    obtain ⟨he1, he2⟩ := Finset.mem_filter.1 he
    have he1' := Finset.mem_range.1 he1
    have hh : hit (loNat L) (dst e) := ⟨by omega, by omega⟩
    have e1 := hS.srcs.entry hf e he1' hh
    have e2 := hS.dsts.entry hf e he1' hh
    have hlt : cntTo (loNat L) dst e < cnt.toNat := by
      have h1 : cntTo (loNat L) dst (e + 1) ≤ cntTo (loNat L) dst 320000 := cntTo_mono _ _ (by omega)
      have h2 : cntTo (loNat L) dst (e + 1) = cntTo (loNat L) dst e + if hit (loNat L) (dst e) then 1 else 0 := rfl
      rw [if_pos hh] at h2
      omega
    have hv : gx (ix2 (srcOf src e) c) = rowAt (F := Ideal) gx ls (cntTo (loNat L) dst e) c := by
      unfold rowAt
      simp only [e1]
    rw [hv]
    refine Finset.le_sup (f := fun p => rowAt (F := Ideal) gx ls p c) (Finset.mem_filter.2 ⟨Finset.mem_range.2 (by omega), ?_⟩)
    rw [e2, rowOf_toNat L dst e hh]
    omega

/-- The tiles' results make one array. -/
theorem allOut_eq (gx : S10000x128.Idx → EReal) (gs gd : S320000.Idx → BitVec 32) (fa : S10000x128.Idx → EReal)
    (hf : ∀ t : Tl, fitsT (Lt t) (seqOf gd)) (h : AllOut (F := Ideal) gx gs gd fa) : fa = segOut gx (seqOf gs) (seqOf gd) := by
  funext x
  have hx : (x 0).val < 10000 := (x 0).isLt
  have hq : (x 0).val / 320 < 32 := by omega
  obtain ⟨cnt, ls, ld, hc, hS, hR⟩ := h (tileOf _ hq)
  have ht := tileNo_tileOf _ hq
  have e := hR x (Finset.mem_filter.2 ⟨Finset.mem_univ _, ht.symm⟩)
  refine (e.trans (if_pos (show (x 0).val % 320 < 320 from Nat.mod_lt _ (by decide)))).trans ?_
  exact (congrArg (finV (F := Ideal)) (acc_eq _ gx _ _ cnt ls ld hc hS (hf _) (x 0).val ht.symm (x 1) _ rfl rfl)).trans (finV_eq _)

end Cert.Proof.Scan

end
-- ==== Proof.Ref.lean ====
/-
  The reference's run, and what each of its two results is at a node: the maximum, over the edges that end in it, of their
  sources' features, where that is finite, else 0.
-/
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent
public import Idealize.ShloMosaic.Lib.ReduceAll
public import Idealize.ShloMosaic.Lib.IdealHost
public import Idealize.ShloMosaic.Lib.Pipeline.Value
public import Idealize.ShloMosaic.PureOps.Ideal.Laws
public import Idealize.ShloMosaic.Lib.Routing.Ops

@[expose] public section

noncomputable section

namespace Cert.Proof.Ref

open Cert.ReferenceIdeal Cert.ReferenceIdeal.Facts₀ Cert.ReferenceIdeal.Facts
open Idealize.ShloMosaic Idealize.ShloMosaic.ValueIdx Idealize.SL.Sem

/-! ## The result as a function of the arguments -/

/-- A row of the edge list. -/
def src (e : IVec S2x320000 32) : IVec S320000 32 := shapeCast S320000 (extractStridedSlice S1x320000 ![0, 0] e slices_S2x320000_S1x320000_0_0) shapeCasts_S1x320000_S320000
def dst (e : IVec S2x320000 32) : IVec S320000 32 := shapeCast S320000 (extractStridedSlice S1x320000 ![1, 0] e slices_S2x320000_S1x320000_1_0) shapeCasts_S1x320000_S320000

/-- The indices of the gathered rows, negative ones counted from the end. -/
def wrapped (s : IVec S320000 32) : IVec S320000x1 32 :=
  broadcastInDim S320000x1 ![0] bcast_S320000_S320000x1_0
    (select (cmpi .slt s (broadcastInDim S320000 ![] bcast_S_S320000 (constantI S_ 32 0#32))) (addi s (broadcastInDim S320000 ![] bcast_S_S320000 (constantI S_ 32 10000#32))) s)

/-- Which of them are in range. -/
def inside (s : IVec S320000 32) : IVec S320000x1 1 :=
  andi (cmpi .sge (wrapped s) (broadcastInDim S320000x1 ![] bcast_S_S320000x1 (constantI S_ 32 0#32)))
    (cmpi .sle (wrapped s) (broadcastInDim S320000x1 ![0, 1] bcast_S1x1_S320000x1_0_1 (broadcastInDim S1x1 ![1] bcast_S1_S1x1_1 (constantI S1 32 9999#32))))

/-- The gathered rows. -/
def msgs (x : FVec Ideal S10000x128 .f32) (s : IVec S320000 32) : FVec Ideal S320000x128 .f32 :=
  select (broadcastInDim S320000x128 ![0] bcast_S320000_S320000x128_0 (Host.reduce IntOp.andi (inside s) (constantI S_ 1 1#1) reducesTo_S320000x1_S320000_d1 h_S_))
    (Host.gather gather_S10000x128_S320000x1_S320000x128_1_0_n_n_0_1_1128 x (wrapped s))
    (broadcastInDim S320000x128 ![] bcast_S_S320000x128 (constant S_ .f32 0x7FC00000#32))

/-- Which edges end in which node. -/
def mine (d : IVec S320000 32) : IVec S10000x320000x1 1 :=
  cmpi .eq (broadcastInDim S10000x320000x1 ![0, 1, 2] bcast_S1x320000x1_S10000x320000x1_0_1_2 (broadcastInDim S1x320000x1 ![1] bcast_S320000_S1x320000x1_1 d))
    (broadcastInDim S10000x320000x1 ![0, 1, 2] bcast_S10000x1x1_S10000x320000x1_0_1_2 (broadcastInDim S10000x1x1 ![0] bcast_S10000_S10000x1x1_0 (iotaInDim S10000 32 0)))

/-- The rows, masked per node. -/
def masked (x : FVec Ideal S10000x128 .f32) (e : IVec S2x320000 32) : FVec Ideal S10000x320000x128 .f32 :=
  select (broadcastInDim S10000x320000x128 ![0, 1, 2] bcast_S10000x320000x1_S10000x320000x128_0_1_2 (mine (dst e)))
    (broadcastInDim S10000x320000x128 ![0, 1, 2] bcast_S1x320000x128_S10000x320000x128_0_1_2 (broadcastInDim S1x320000x128 ![1, 2] bcast_S320000x128_S1x320000x128_1_2 (msgs x (src e))))
    (broadcastInDim S10000x320000x128 ![] bcast_S_S10000x320000x128 (constant S_ .f32 0xFF800000#32))

def agg (x : FVec Ideal S10000x128 .f32) (e : IVec S2x320000 32) : FVec Ideal S10000x128 .f32 :=
  Host.reduce FloatOps.maximumf (masked x e) (constant S_ .f32 0xFF800000#32) reducesTo_S10000x320000x128_S10000x128_d1 h_S_

/-- The reference's result. -/
def out (x : FVec Ideal S10000x128 .f32) (e : IVec S2x320000 32) : FVec Ideal S10000x128 .f32 :=
  select (cmpf .olt (Host.absf (agg x e)) (broadcastInDim S10000x128 ![] bcast_S_S10000x128 (constant S_ .f32 0x7F800000#32))) (agg x e)
    (broadcastInDim S10000x128 ![] bcast_S_S10000x128 (constant S_ .f32 0x00000000#32))

/-! ## The run -/

/-! The values that pass between the module's functions and its main text are the buffers' contents themselves. -/

theorem arg0_of : (StableHlo.TRef.of main_arg0 : StableHlo.TRef sig ⟨S10000x128, .f32⟩).ofBuf (Val := Elt Ideal) = fun v => v := rfl
theorem v1_of : (StableHlo.TRef.of main_v1 : StableHlo.TRef sig ⟨S320000, .i32⟩).ofBuf (Val := Elt Ideal) = fun v => v := rfl
theorem v10_of : (StableHlo.TRef.of main_v10 : StableHlo.TRef sig ⟨S10000x320000x1, .i1⟩).ofBuf (Val := Elt Ideal) = fun v => v := rfl
theorem v11_of : (StableHlo.TRef.of main_v11 : StableHlo.TRef sig ⟨S1x320000x128, .f32⟩).ofBuf (Val := Elt Ideal) = fun v => v := rfl
theorem cst_of : (StableHlo.TRef.of main_cst : StableHlo.TRef sig ⟨S_, .f32⟩).ofBuf (Val := Elt Ideal) = fun v => v := rfl
theorem v16_of : (StableHlo.TRef.of main_v16 : StableHlo.TRef sig ⟨S10000x128, .i1⟩).ofBuf (Val := Elt Ideal) = fun v => v := rfl
theorem v13_of : (StableHlo.TRef.of main_v13 : StableHlo.TRef sig ⟨S10000x128, .f32⟩).ofBuf (Val := Elt Ideal) = fun v => v := rfl
theorem cst_2_of : (StableHlo.TRef.of main_cst_2 : StableHlo.TRef sig ⟨S_, .f32⟩).ofBuf (Val := Elt Ideal) = fun v => v := rfl
theorem arg2_of : (StableHlo.TRef.of main_arg2 : StableHlo.TRef sig ⟨S10000x128, .f32⟩).ofBuf (Val := Elt Ideal) = fun v => v := rfl
theorem v24_of : (StableHlo.TRef.of main_v24 : StableHlo.TRef sig ⟨S10000x320000x1, .i1⟩).ofBuf (Val := Elt Ideal) = fun v => v := rfl
theorem v25_of : (StableHlo.TRef.of main_v25 : StableHlo.TRef sig ⟨S1x320000x128, .f32⟩).ofBuf (Val := Elt Ideal) = fun v => v := rfl
theorem cst_3_of : (StableHlo.TRef.of main_cst_3 : StableHlo.TRef sig ⟨S_, .f32⟩).ofBuf (Val := Elt Ideal) = fun v => v := rfl
theorem v30_of : (StableHlo.TRef.of main_v30 : StableHlo.TRef sig ⟨S10000x128, .i1⟩).ofBuf (Val := Elt Ideal) = fun v => v := rfl
theorem v27_of : (StableHlo.TRef.of main_v27 : StableHlo.TRef sig ⟨S10000x128, .f32⟩).ofBuf (Val := Elt Ideal) = fun v => v := rfl
theorem cst_6_of : (StableHlo.TRef.of main_cst_6 : StableHlo.TRef sig ⟨S_, .f32⟩).ofBuf (Val := Elt Ideal) = fun v => v := rfl
theorem v4_to : (StableHlo.TRef.of main_v4 : StableHlo.TRef sig ⟨S320000x128, .f32⟩).toBuf (Val := Elt Ideal) = fun v => v := rfl
theorem v12_to : (StableHlo.TRef.of main_v12 : StableHlo.TRef sig ⟨S10000x320000x128, .f32⟩).toBuf (Val := Elt Ideal) = fun v => v := rfl
theorem v17_to : (StableHlo.TRef.of main_v17 : StableHlo.TRef sig ⟨S10000x128, .f32⟩).toBuf (Val := Elt Ideal) = fun v => v := rfl
theorem v18_to : (StableHlo.TRef.of main_v18 : StableHlo.TRef sig ⟨S320000x128, .f32⟩).toBuf (Val := Elt Ideal) = fun v => v := rfl
theorem v26_to : (StableHlo.TRef.of main_v26 : StableHlo.TRef sig ⟨S10000x320000x128, .f32⟩).toBuf (Val := Elt Ideal) = fun v => v := rfl
theorem v31_to : (StableHlo.TRef.of main_v31 : StableHlo.TRef sig ⟨S10000x128, .f32⟩).toBuf (Val := Elt Ideal) = fun v => v := rfl

set_option maxHeartbeats 2000000 in
set_option maxRecDepth 20000 in
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17) = out (m ((c.tc : Thread nD τ).loc main_arg0)) (m ((c.tc : Thread nD τ).loc main_arg1))
      ∧ r.2.mem ((c.tc : Thread nD τ).loc main_v31) = out (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · simp only [StableHlo.TRef.ofBuf_toBuf]
    rw [arg0_of, v1_of, v10_of, v11_of, cst_of, v16_of, v13_of, cst_2_of, v4_to, v12_to, v17_to]
    unfold out agg masked mine msgs inside wrapped src dst
    rfl
  · simp only [StableHlo.TRef.ofBuf_toBuf]
    rw [arg2_of, v1_of, v24_of, v25_of, cst_3_of, v30_of, v27_of, cst_6_of, v18_to, v26_to, v31_to]
    unfold out agg masked mine msgs inside wrapped src dst
    rfl

theorem run_args (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2.2, sem_eq_zero_of_no_sems (by decide) r.2⟩) (run_value m ρ)

/-! ## The result at a node -/

theorem negInf_bits : Ideal.ofBits .f32 0xFF800000#32 = ⊥ := by simp [Ideal.ofBits, Ideal.ieee]
theorem posInf_bits : Ideal.ofBits .f32 0x7F800000#32 = ⊤ := by simp [Ideal.ofBits, Ideal.ieee]
theorem zero_bits : Ideal.ofBits .f32 0x00000000#32 = 0 := by simp [Ideal.ofBits, Ideal.ieee]

/-- The running maximum over a finite set, masked, is the maximum over the part that the mask keeps. -/
theorem fold_max {α : Type} [Fintype α] (b : EReal) (hb : b = ⊥) (p : α → Prop) [DecidablePred p] (f : α → EReal) (g : α → EReal) (hg : ∀ k, g k = if p k then f k else ⊥) :
    Finset.univ.fold (FloatOps.maximumf (F := Ideal) (φ := .f32)) b g = (Finset.univ.filter p).sup f := by
  subst hb
  show Finset.univ.sup g = _
  apply le_antisymm
  · refine Finset.sup_le fun k _ => ?_
    rw [hg]
    by_cases h : p k
    · rw [if_pos h]
      exact Finset.le_sup (Finset.mem_filter.2 ⟨Finset.mem_univ _, h⟩)
    · rw [if_neg h]
      exact bot_le
  · refine Finset.sup_le fun k hk => ?_
    refine le_trans (le_of_eq ?_) (Finset.le_sup (Finset.mem_univ k))
    rw [hg, if_pos (Finset.mem_filter.1 hk).2]

/-- What is not finite is replaced by zero. -/
theorem finite_apply {F : FTy → Type} [FloatOps F] (g : FVec F S10000x128 .f32) (i : S10000x128.Idx) :
    select (cmpf .olt (Host.absf g) (broadcastInDim S10000x128 ![] bcast_S_S10000x128 (constant S_ .f32 0x7F800000#32))) g
      (broadcastInDim S10000x128 ![] bcast_S_S10000x128 (constant S_ .f32 0x00000000#32)) i
    = Scalar.select (FloatOps.cmpf .olt (FloatOps.hostAbsf (g i)) (FloatOps.ofBits .f32 0x7F800000#32)) (g i) (FloatOps.ofBits .f32 0x00000000#32) := rfl

section Value

variable (x : FVec Ideal S10000x128 .f32) (e : IVec S2x320000 32)

theorem src_apply (k : Fin 320000) : src e (ix1 k) = e (ix2 0 k) := by
  unfold src
  rw [shapeCast_apply _ _ (ix1 k) (ix2 0 k) ?h, extractStridedSlice_apply _ _ _ (ix2 0 k) (ix2 0 k) ?h']
  case h => rw [Shape.rowMajor_val_two, Shape.rowMajor_val_one]; simp [ix2, ix1]
  case h' =>
    intro a
    match a with
    | 0 => simp [ix2]
    | 1 => simp [ix2]

theorem dst_apply (k : Fin 320000) : dst e (ix1 k) = e (ix2 1 k) := by
  unfold dst
  rw [shapeCast_apply _ _ (ix1 k) (ix2 0 k) ?h, extractStridedSlice_apply _ _ _ (ix2 0 k) (ix2 1 k) ?h']
  case h => rw [Shape.rowMajor_val_two, Shape.rowMajor_val_one]; simp [ix2, ix1]
  case h' =>
    intro a
    match a with
    | 0 => simp [ix2]
    | 1 => simp [ix2]

/-- A node's number is not negative when read signed. -/
theorem not_neg (v : BitVec 32) (h : v.toNat < 10000) : IntOp.cmpi .slt v 0#32 = 0#1 := by
  have e1 : v.toInt = v.toNat := BitVec.toInt_eq_toNat_of_lt (by omega)
  show BitVec.ofBool (v.slt 0#32) = _
  have h2 : (0#32 : BitVec 32).toInt = 0 := by decide
  rw [BitVec.slt_eq_decide, e1, h2, decide_eq_false (by omega)]
  rfl

theorem is_inside (v : BitVec 32) (h : v.toNat < 10000) : IntOp.andi (IntOp.cmpi .sge v 0#32) (IntOp.cmpi .sle v 9999#32) = 1#1 := by
  have e1 : v.toInt = v.toNat := BitVec.toInt_eq_toNat_of_lt (by omega)
  show IntOp.andi (BitVec.ofBool ((0#32).sle v)) (BitVec.ofBool (v.sle 9999#32)) = _
  rw [BitVec.sle_eq_decide, BitVec.sle_eq_decide, e1]
  have h1 : (9999#32 : BitVec 32).toInt = 9999 := by decide
  have h2 : (0#32 : BitVec 32).toInt = 0 := by decide
  rw [h1, h2, decide_eq_true (by omega), decide_eq_true (by omega)]
  rfl

variable (s : IVec S320000 32) (hs : ∀ k : Fin 320000, (s (ix1 k)).toNat < 10000)
include hs

theorem wrapped_apply (k : Fin 320000) : wrapped s (ix2 k 0) = s (ix1 k) := by
  unfold wrapped
  rw [broadcastInDim_apply _ _ _ (ix2 k 0) (ix1 k) fun a => match a with | 0 => rfl]
  show Scalar.select (IntOp.cmpi .slt (s (ix1 k)) 0#32) _ _ = _
  rw [not_neg _ (hs k)]
  rfl

theorem inside_apply (j : S320000x1.Idx) : inside s j = 1#1 := by
  obtain ⟨k, rfl⟩ : ∃ k : Fin 320000, j = ix2 k 0 := by
    refine ⟨j 0, ?_⟩
    funext a
    match a with
    | 0 => rfl
    | 1 => exact Subsingleton.elim (α := Fin 1) _ _
  show IntOp.andi (IntOp.cmpi .sge (wrapped s (ix2 k 0)) 0#32) (IntOp.cmpi .sle (wrapped s (ix2 k 0)) 9999#32) = _
  rw [wrapped_apply s hs]
  exact is_inside _ (hs _)

omit hs in
/-- A gathered row. -/
theorem gather_apply (idx : IVec S320000x1 32) (k : Fin 320000) (c : Fin 128) (h : (idx (ix2 k 0)).toNat < 10000) :
    Host.gather gather_S10000x128_S320000x1_S320000x128_1_0_n_n_0_1_1128 x idx (ix2 k c) = x (ix2 ⟨(idx (ix2 k 0)).toNat, h⟩ c) :=
  Routing.gather_row _ rfl rfl rfl rfl rfl x idx k c ⟨_, h⟩ (by simp) (by decide)

theorem msgs_apply (k : Fin 320000) (c : Fin 128) : msgs x s (ix2 k c) = x (ix2 ⟨(s (ix1 k)).toNat, hs k⟩ c) := by
  unfold msgs
  have h1 : broadcastInDim S320000x128 ![0] bcast_S320000_S320000x128_0 (Host.reduce IntOp.andi (inside s) (constantI S_ 1 1#1) reducesTo_S320000x1_S320000_d1 h_S_) (ix2 k c) = 1#1 := by
    rw [broadcastInDim_apply _ _ _ (ix2 k c) (ix1 k) fun a => match a with | 0 => rfl]
    exact Host.reduce_andi_one _ _ _ _ _ rfl (inside_apply s hs)
  show Scalar.select (broadcastInDim S320000x128 ![0] bcast_S320000_S320000x128_0 (Host.reduce IntOp.andi (inside s) (constantI S_ 1 1#1) reducesTo_S320000x1_S320000_d1 h_S_) (ix2 k c)) _ _ = _
  rw [h1]
  have h2 := wrapped_apply s hs k
  refine (gather_apply x (wrapped s) k c (by rw [h2]; exact hs k)).trans ?_
  simp only [h2]

omit hs in
theorem mine_apply (d : IVec S320000 32) (n : Fin 10000) (k : Fin 320000) : mine d (ix3 n k 0) = if (d (ix1 k)).toNat = n.val then 1#1 else 0#1 := by
  have e1 : mine d (ix3 n k 0) = IntOp.cmpi .eq (d (ix1 k)) (BitVec.ofNat 32 n.val) := by
    unfold mine
    refine congrArg₂ (IntOp.cmpi .eq) ?_ ?_
    · rw [broadcastInDim_apply _ _ _ (ix3 n k 0) (ix3 0 k 0) fun a => match a with | 0 => rfl | 1 => rfl | 2 => rfl]
      exact broadcastInDim_apply _ _ _ (ix3 0 k 0) (ix1 k) fun a => match a with | 0 => rfl
    · rw [broadcastInDim_apply _ _ _ (ix3 n k 0) (ix3 n 0 0) fun a => match a with | 0 => rfl | 1 => rfl | 2 => rfl]
      exact broadcastInDim_apply _ _ _ (ix3 n 0 0) (ix1 n) fun a => match a with | 0 => rfl
  have hn : (BitVec.ofNat 32 n.val).toNat = n.val := by rw [BitVec.toNat_ofNat]; have := n.isLt; omega
  rw [e1]
  show BitVec.ofBool (d (ix1 k) == BitVec.ofNat 32 n.val) = _
  by_cases h : (d (ix1 k)).toNat = n.val
  · rw [if_pos h, beq_iff_eq.2 (BitVec.eq_of_toNat_eq (h.trans hn.symm))]
    rfl
  · rw [if_neg h, beq_eq_false_iff_ne.2 fun e => h ((congrArg BitVec.toNat e).trans hn)]
    rfl

end Value

section Whole

variable (x : FVec Ideal S10000x128 .f32) (e : IVec S2x320000 32) (hr : ∀ j, (e j).toNat < 10000)
include hr

/-- The row of an edge's source. -/
def row (k : Fin 320000) (c : Fin 128) : EReal := x (ix2 ⟨(e (ix2 0 k)).toNat, hr _⟩ c)

theorem masked_apply (n : Fin 10000) (k : Fin 320000) (c : Fin 128) :
    masked x e (ix3 n k c) = if (e (ix2 1 k)).toNat = n.val then row x e hr k c else (⊥ : EReal) := by
  have h1 : masked x e (ix3 n k c) = Scalar.select (mine (dst e) (ix3 n k 0)) (msgs x (src e) (ix2 k c)) (Ideal.ofBits .f32 0xFF800000#32) := by
    unfold masked
    refine congr (congrArg₂ Scalar.select ?_ ?_) ?_
    · exact broadcastInDim_apply _ _ _ (ix3 n k c) (ix3 n k 0) fun a => match a with | 0 => rfl | 1 => rfl | 2 => rfl
    · rw [broadcastInDim_apply _ _ _ (ix3 n k c) (ix3 0 k c) fun a => match a with | 0 => rfl | 1 => rfl | 2 => rfl]
      exact broadcastInDim_apply _ _ _ (ix3 0 k c) (ix2 k c) fun a => match a with | 0 => rfl | 1 => rfl
    · rfl
  have hs : ∀ k : Fin 320000, (src e (ix1 k)).toNat < 10000 := fun k => by rw [src_apply]; exact hr _
  have h2 : msgs x (src e) (ix2 k c) = row x e hr k c := by
    refine (msgs_apply x (src e) hs k c).trans ?_
    unfold row
    simp only [src_apply]
  rw [h1, h2, mine_apply, dst_apply, negInf_bits]
  by_cases h : (e (ix2 1 k)).toNat = n.val
  · rw [if_pos h, if_pos h]; rfl
  · rw [if_neg h, if_neg h]; rfl

omit hr in
theorem reduces_edges : S10000x320000x128.Reduces [1] S10000x128 := by decide

omit hr in
theorem lift_edge (n : Fin 10000) (c : Fin 128) (k : Fin 320000) : reduces_edges.lift (ix2 n c) k = ix3 n k c := by
  funext a
  apply Fin.ext
  refine (Shape.Reduces.lift_val reduces_edges (ix2 n c) k a).trans ?_
  match a with
  | 0 => rfl
  | 1 => rfl
  | 2 => rfl

/-- The maximum over the edges that end in a node. -/
def best (n : Fin 10000) (c : Fin 128) : EReal := (Finset.univ.filter fun k : Fin 320000 => (e (ix2 1 k)).toNat = n.val).sup fun k => row x e hr k c

theorem agg_apply (n : Fin 10000) (c : Fin 128) : agg x e (ix2 n c) = best x e hr n c := by
  unfold agg
  refine (Host.reduce_eq_fold_single FloatOps.maximumf (masked x e) _ reducesTo_S10000x320000x128_S10000x128_d1 reduces_edges h_S_ (ix2 n c)).trans ?_
  exact fold_max _ negInf_bits (fun k : Fin 320000 => (e (ix2 1 k)).toNat = n.val) (fun k => row x e hr k c) _
    fun k => (congrArg (masked x e) (lift_edge n c k)).trans (masked_apply x e hr n k c)

theorem out_apply (hfin : ∀ i, x i < (⊤ : EReal)) (n : Fin 10000) (c : Fin 128) :
    out x e (ix2 n c) = if best x e hr n c = ⊥ then (0 : EReal) else best x e hr n c := by
  have h1 : out x e (ix2 n c) = Scalar.select (FloatOps.cmpf .olt (FloatOps.hostAbsf (agg x e (ix2 n c))) (FloatOps.ofBits (F := Ideal) .f32 0x7F800000#32)) (agg x e (ix2 n c)) (FloatOps.ofBits .f32 0x00000000#32) := by
    unfold out
    exact finite_apply (agg x e) (ix2 n c)
  rw [h1, agg_apply x e hr]
  show Scalar.select (Ideal.cmp .olt (max (best x e hr n c) (-(best x e hr n c))) (Ideal.ofBits .f32 0x7F800000#32)) (best x e hr n c) (Ideal.ofBits .f32 0x00000000#32) = _
  rw [posInf_bits, zero_bits]
  have ht : best x e hr n c < ⊤ := (Finset.sup_lt_iff (bot_lt_top)).2 fun k _ => hfin _
  by_cases h : best x e hr n c = ⊥
  · rw [if_pos h, h]
    simp [Ideal.cmp, Scalar.select]
  · rw [if_neg h]
    have h3 : max (best x e hr n c) (-(best x e hr n c)) < ⊤ := max_lt ht (by
      rw [lt_top_iff_ne_top]
      intro h4
      exact h (EReal.neg_eq_top_iff.1 h4))
    simp [Ideal.cmp, Scalar.select, h3]

end Whole

end Cert.Proof.Ref

end
-- ==== Proof.Run.lean ====
/-
  The run of the whole program from any memory whose indices are in range.
-/
module

public import proofs.«01_k».proof.Proof.Launch

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pointwise

variable {F : FTy → Type} [FloatOps F]

local notation "𝕄" => MM F
local notation "srclV" => (Memref.whole cc0_scratch4 : Memref sig Kind.scVector Space.vmem S16384 EltTy.i32)
local notation "dstlV" => (Memref.whole cc0_scratch5 : Memref sig Kind.scVector Space.vmem S16384 EltTy.i32)
local notation "srcE" => (Memref.whole main_v1_scv : Memref sig Kind.scVector Space.hbm S320000 EltTy.i32)
local notation "dstE" => (Memref.whole main_v3_scv : Memref sig Kind.scVector Space.hbm S320000 EltTy.i32)

local notation "accV" => (Memref.whole cc0_scratch6 : Memref sig Kind.scVector Space.vmem S321x128 EltTy.f32)
local notation "csA" => (Memref.whole cc0_scratch0 : Memref sig Kind.scVector Space.vmem S3200 EltTy.i32)
local notation "cdA" => (Memref.whole cc0_scratch1 : Memref sig Kind.scVector Space.vmem S3200 EltTy.i32)
local notation "csB" => (Memref.whole cc0_scratch2 : Memref sig Kind.scVector Space.vmem S3200 EltTy.i32)
local notation "cdB" => (Memref.whole cc0_scratch3 : Memref sig Kind.scVector Space.vmem S3200 EltTy.i32)
local notation "cntV" => (Memref.whole cc0_scratch9 : Memref sig Kind.scVector Space.vmem S16 EltTy.i32)

open Idealize.ShloMosaic.SparseCore.Cfg (tileRest ownBufs ownSems0 ownCells ownRefs mem_ownCells mem_ownRefs)
open Idealize.ShloMosaic.Rounds
open Idealize.ShloMosaic.StableHlo (held wp_hlo_within)

variable (m : (ℓ : Loc nD τ sig) → Buf (Elt F) ℓ) (ρ : Dev nD → PrngReg)

abbrev dr (b : Ref sig .tc) : DevRef τ sig := Proc.devRef .tc b

/-- The twelve arrays of the program. -/
abbrev S10 : Finset (DevRef τ sig) := {dr main_arg0, dr main_arg1, dr main_v0, dr main_v1, dr main_v2, dr main_v3, dr main_v4_0, dr main_v4_1, dr main_v4_2, dr main_v4_3, dr main_arg2, dr main_v5}

abbrev op0 : HloOp τ sig (Elt F) := StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 (rfl : (.i32 : EltTy) = .i32) shapeCasts_S1x320000_S320000
abbrev op2 : HloOp τ sig (Elt F) := StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 (rfl : (.i32 : EltTy) = .i32) shapeCasts_S1x320000_S320000

theorem hop0 : (op0 (F := F)).bufs ⊆ S10 := show ({dr main_arg1, dr main_v0} : Finset (DevRef τ sig)) ⊆ S10 by decide
theorem hop1 : (op1 (F := F)).bufs ⊆ S10 := show ({dr main_v0, dr main_v1} : Finset (DevRef τ sig)) ⊆ S10 by decide
theorem hop2 : (op2 (F := F)).bufs ⊆ S10 := show ({dr main_arg1, dr main_v2} : Finset (DevRef τ sig)) ⊆ S10 by decide
theorem hop3 : (op3 (F := F)).bufs ⊆ S10 := show ({dr main_v2, dr main_v3} : Finset (DevRef τ sig)) ⊆ S10 by decide

/-- The launch contents; and after each of the four operations. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)

/-- The sources, and the destinations. -/
def srcW (d : Dev nD) : S320000.Idx → BitVec 32 := V4 m d (dr main_v1)
def dstW (d : Dev nD) : S320000.Idx → BitVec 32 := V4 m d (dr main_v3)

theorem held_S10 (d : Dev nD) (W : Valuation τ sig (Elt F)) :
    (held (SparseCore.T d) S10 W : sProp (MM F)) = iprop((xLoc d ↦{fullShare} W (dr main_arg0)) ∗ (eLoc d ↦{fullShare} W (dr main_arg1))
      ∗ ((SparseCore.T d).loc main_v0 ↦{fullShare} W (dr main_v0)) ∗ (srcLoc d ↦{fullShare} W (dr main_v1)) ∗ ((SparseCore.T d).loc main_v2 ↦{fullShare} W (dr main_v2)) ∗ (dstLoc d ↦{fullShare} W (dr main_v3))
      ∗ (aggLoc d ↦{fullShare} W (dr main_v4_0)) ∗ (sLoc d ↦{fullShare} W (dr main_v4_1)) ∗ (dLoc d ↦{fullShare} W (dr main_v4_2)) ∗ (cLoc d ↦{fullShare} W (dr main_v4_3))
      ∗ (hLoc d ↦{fullShare} W (dr main_arg2)) ∗ (agg2Loc d ↦{fullShare} W (dr main_v5))) := by
  unfold held S10
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp (MM F)) = held (SparseCore.T d) S10 (V0 m d) := by
  rw [held_S10]
  unfold unscopedBufs
  rw [show (Finset.univ.filter fun b : Ref sig .tc => ¬ b.isScoped) = {main_arg0, main_arg1, main_v0, main_v1, main_v2, main_v3, main_v4_0, main_v4_1, main_v4_2, main_v4_3, main_arg2, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem V4_kept (d : Dev nD) (b : DevRef τ sig) (h : b ∉ ({dr main_v0, dr main_v1, dr main_v2, dr main_v3} : Finset (DevRef τ sig))) : V4 m d b = m (d, b) := by
  simp only [Finset.mem_insert, Finset.mem_singleton, not_or] at h
  unfold V4 V3 V2 V1
  rw [(op3 (F := F)).result_of_not_mem _ (show b ∉ ({dr main_v3} : Finset (DevRef τ sig)) from fun e => h.2.2.2 (Finset.mem_singleton.1 e)),
    (op2 (F := F)).result_of_not_mem _ (show b ∉ ({dr main_v2} : Finset (DevRef τ sig)) from fun e => h.2.2.1 (Finset.mem_singleton.1 e)),
    (op1 (F := F)).result_of_not_mem _ (show b ∉ ({dr main_v1} : Finset (DevRef τ sig)) from fun e => h.2.1 (Finset.mem_singleton.1 e)),
    (op0 (F := F)).result_of_not_mem _ (show b ∉ ({dr main_v0} : Finset (DevRef τ sig)) from fun e => h.1 (Finset.mem_singleton.1 e))]
  rfl
theorem V4_x (d : Dev nD) : V4 m d (dr main_arg0) = m (xLoc d) := V4_kept m d _ (by decide)
theorem V4_h (d : Dev nD) : V4 m d (dr main_arg2) = m (hLoc d) := V4_kept m d _ (by decide)
theorem V4_e (d : Dev nD) : V4 m d (dr main_arg1) = m (eLoc d) := V4_kept m d _ (by decide)

/-- What the program leaves: the arguments at their launch contents, the tiles' rows computed. -/
abbrev FIN (d : Dev nD) : sProp (MM F) :=
  iprop((xLoc d ↦{fullShare} m (xLoc d)) ∗ (eLoc d ↦{fullShare} m (eLoc d)) ∗ (hLoc d ↦{fullShare} m (hLoc d))
    ∗ (∃ fa : Buf (Elt F) (aggLoc d), ⌜AllOut (m (xLoc d)) (srcW m d) (dstW m d) fa⌝ ∗ aggLoc d ↦{fullShare} fa)
    ∗ ∃ fa : Buf (Elt F) (agg2Loc d), ⌜AllOut (m (hLoc d)) (srcW m d) (dstW m d) fa⌝ ∗ agg2Loc d ↦{fullShare} fa)

/-- What the handshakes carry, at this memory. -/
abbrev Pm : (K (F := F)).Pay (nD := nD) (Val := Elt F) (Name := ℕ) (U := UU) := P (F := F) (fun d => m (xLoc d)) (fun d => m (hLoc d)) (fun d => srcW m d) (fun d => dstW m d)

/-- The program on a device's TensorCore. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S10) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S10) hop1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S10) hop2 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S10) hop3 (V := V3 m d)) $$ [Hb Hheld]
  · isplitl [Hb]; · iexact Hb
    iexact Hheld
  iintro ⟨Hb, Hheld⟩
  rw [wp_ret]; imodintro
  ihave Hh := (Entails.of_eq (show (held (SparseCore.T d) S10 ((op3 (F := F)).result (V3 m d)) : sProp (MM F)) = held (SparseCore.T d) S10 (V4 m d) from rfl)) $$ Hheld
  ihave Hh' := (Entails.of_eq (held_S10 (F := F) d (V4 m d))) $$ Hh
  icases Hh' with ⟨Hx, He, -, Hs, -, Hd, H0, H1, H2, H3, Hh, H5⟩
  ihave Hx' := (Entails.of_eq (congrArg (fun f => (xLoc d ↦{fullShare} f : sProp (MM F))) (V4_x m d))) $$ Hx
  ihave He' := (Entails.of_eq (congrArg (fun f => (eLoc d ↦{fullShare} f : sProp (MM F))) (V4_e m d))) $$ He
  ihave Hg := (Entails.of_eq (congrArg (fun f => (hLoc d ↦{fullShare} f : sProp (MM F))) (V4_h m d))) $$ Hh
  iapply ((K (F := F)).wp_run (D (F := F)) 𝒱 (EH := EH) (P := Pm m) κ d 0) $$ [Hst Hx' Hs Hd H0 H1 H2 H3 Hb He' Hg H5 Hts]
  isplitr; · iexact Hctx
  isplitl [Hst]; · iexact Hst
  isplitl [Hx' Hs Hd H0 H1 H2 H3]
  · rw [st_all]
    iapply (go_all (fun d => m (xLoc d)) (fun d => srcW m d) (fun d => dstW m d) d _ _ _ _)
    isplitl [Hx']; · iexact Hx'
    isplitl [Hs]; · iexact Hs
    isplitl [Hd]; · iexact Hd
    isplitl [H0]; · iexact H0
    isplitl [H1]; · iexact H1
    isplitl [H2]; · iexact H2
    iexact H3
  iintro ⟨Hst, Hdn⟩
  ihave Hdn1 := (Entails.of_eq (dn_all (fun d => m (xLoc d)) (fun d => m (hLoc d)) (fun d => srcW m d) (fun d => dstW m d) d)) $$ Hdn
  ihave Hdn2 := (td_all (fun d => m (xLoc d)) (fun d => srcW m d) (fun d => dstW m d) d) $$ Hdn1
  icases Hdn2 with ⟨Hx, Hls, Hagg⟩
  iapply ((K (F := F)).wp_run (D (F := F)) 𝒱 (EH := EH) (P := Pm m) κ d 1) $$ [Hst Hg Hls H5 Hx Hagg Hb He' Hts]
  isplitr; · iexact Hctx
  isplitl [Hst]; · iexact Hst
  isplitl [Hg Hls H5]
  · rw [st_all1]
    iapply (go1_all (fun d => m (hLoc d)) (fun d => srcW m d) (fun d => dstW m d) d _)
    isplitl [Hg]; · iexact Hg
    isplitl [Hls]; · iexact Hls
    iexact H5
  iintro ⟨Hst, Hdm⟩
  ihave Hdm1 := (Entails.of_eq (dn_all1 (fun d => m (xLoc d)) (fun d => m (hLoc d)) (fun d => srcW m d) (fun d => dstW m d) d)) $$ Hdm
  ihave Hdm2 := (td1_all (fun d => m (hLoc d)) (fun d => srcW m d) (fun d => dstW m d) d) $$ Hdm1
  icases Hdm2 with ⟨Hg, Hagg2⟩
  imodintro
  isplitl [Hst]; · iexact Hst
  isplitr [Hb Hts]
  · isplitl [Hx]; · iexact Hx
    isplitl [He']; · iexact He'
    isplitl [Hg]; · iexact Hg
    isplitl [Hagg]; · iexact Hagg
    iexact Hagg2
  isplitl [Hb] <;> iassumption

/-- What the claims read of a device's final state. -/
def fq (d : Dev nD) (s' : Phys nD τ sig (Elt F)) : Prop :=
  s'.mem.mem (xLoc d) = m (xLoc d) ∧ s'.mem.mem (eLoc d) = m (eLoc d) ∧ s'.mem.mem (hLoc d) = m (hLoc d)
    ∧ AllOut (m (xLoc d)) (srcW m d) (dstW m d) (s'.mem.mem (aggLoc d)) ∧ AllOut (m (hLoc d)) (srcW m d) (dstW m d) (s'.mem.mem (agg2Loc d))

set_option maxRecDepth 16384 in
theorem hfin (d : Dev nD) (s' : Phys nD τ sig (Elt F)) : iprop(FIN m d ∗ SI s') ⊢ (⌜fq m d s'⌝ : sProp (MM F)) := by
  iintro ⟨⟨Hx, He, Hh, ⟨%fa, %hfa, Ha⟩, %fb, %hfb, Hb⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h3, HSI, -⟩
  ihave H := (persistent_entails_right (SI_pointsTo_agree (st := s') (ℓ := aggLoc d) (I := Finset.univ) (q := fullShare) (f := fa))) $$ [HSI Ha]
  · isplitl [HSI] <;> iassumption
  icases H with ⟨%h4, HSI, -⟩
  ihave H := (SI_pointsTo_agree (st := s') (ℓ := agg2Loc d) (I := Finset.univ) (q := fullShare) (f := fb)) $$ [HSI Hb]
  · isplitl [HSI] <;> iassumption
  icases H with %h5
  ipureintro
  refine ⟨funext fun i => h1 i (Finset.mem_univ i), funext fun i => h2 i (Finset.mem_univ i), funext fun i => h3 i (Finset.mem_univ i), ?_, ?_⟩
  · rw [show s'.mem.mem (aggLoc d) = fa from funext fun i => h4 i (Finset.mem_univ i)]
    exact hfa
  · rw [show s'.mem.mem (agg2Loc d) = fb from funext fun i => h5 i (Finset.mem_univ i)]
    exact hfb

/-- The final states. -/
def QC : PUnit × MemSt nD τ sig (Elt F) → Prop := fun r =>
  (∀ d : Dev nD, r.2.mem (xLoc d) = m (xLoc d) ∧ r.2.mem (eLoc d) = m (eLoc d) ∧ r.2.mem (hLoc d) = m (hLoc d)
    ∧ AllOut (m (xLoc d)) (srcW m d) (dstW m d) (r.2.mem (aggLoc d)) ∧ AllOut (m (hLoc d)) (srcW m d) (dstW m d) (r.2.mem (agg2Loc d))) ∧ r.2.sem = fun _ => 0

theorem run_main' [∀ e, Nonempty (Elt F e)] (hsrc : ∀ d e, (seqOf (srcW m d) e).toNat < 10000) (hdst : ∀ d e, (seqOf (dstW m d) e).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => (nomatch hq) | 1 => (nomatch hq))
    (fun q _ => match q with
      | 0 => tileObl (fun d => m (xLoc d)) (fun d => m (hLoc d)) (fun d => srcW m d) (fun d => dstW m d) hsrc hdst
      | 1 => tileObl1 (fun d => m (xLoc d)) (fun d => m (hLoc d)) (fun d => srcW m d) (fun d => dstW m d))
    (fun q _ => match q with
      | 0 => SparseCore.Cfg.VecSplit.of_plain (vecSplit (fun d => m (xLoc d)) (fun d => m (hLoc d)) (fun d => srcW m d) (fun d => dstW m d))
      | 1 => SparseCore.Cfg.VecSplit.of_plain (vecSplit1 (fun d => m (xLoc d)) (fun d => m (hLoc d)) (fun d => srcW m d) (fun d => dstW m d)))
    m ρ main (fun _ => iprop(emp)) (FIN m) (u₀ (F := F)) (sep_elim_left.trans (hu₀ (fun d => m (xLoc d)) (fun d => m (hLoc d)) (fun d => srcW m d) (fun d => dstW m d))) (hmain m ρ) (fq m) (hfin m) (QC m) (fun _ h hz => ⟨h, hz⟩)

/-! ## The two rows of the indices -/

/-- One row of the indices, as an array of its own. -/
theorem row_eq (r : Fin 2) (f : S2x320000.Idx → BitVec 32) (hs : S2x320000.Slices ![r.val, 0] S1x320000) (hc : S1x320000.ShapeCasts S320000) (e : Fin 320000) :
    shapeCast S320000 (extractStridedSlice S1x320000 ![r.val, 0] f hs) hc (ix1 e) = f (ix2 r e) := by
  rw [shapeCast_apply _ hc (ix1 e) (ix2 0 e) ?h, extractStridedSlice_apply _ _ hs (ix2 0 e) (ix2 r e) ?h']
  case h =>
    rw [Shape.rowMajor_val_two, Shape.rowMajor_val_one]
    simp [ix2, ix1]
  case h' =>
    intro a
    match a with
    | 0 => simp [ix2]
    | 1 => simp [ix2]

theorem srcW_eq (d : Dev nD) (e : Fin 320000) : srcW m d (ix1 e) = m (eLoc d) (ix2 0 e) := by
  have h : V4 m d (dr main_v1) = shapeCast S320000 (extractStridedSlice S1x320000 ![0, 0] (m (eLoc d)) slices_S2x320000_S1x320000_0_0) shapeCasts_S1x320000_S320000 := by
    unfold V4 V3 V2 V1
    rw [(op3 (F := F)).result_of_not_mem _ (show dr main_v1 ∉ ({dr main_v3} : Finset (DevRef τ sig)) by decide),
      (op2 (F := F)).result_of_not_mem _ (show dr main_v1 ∉ ({dr main_v2} : Finset (DevRef τ sig)) by decide), StableHlo.reshape_result, StableHlo.unary_result]
    rfl
  unfold srcW
  rw [h]
  exact row_eq 0 _ _ _ e
theorem dstW_eq (d : Dev nD) (e : Fin 320000) : dstW m d (ix1 e) = m (eLoc d) (ix2 1 e) := by
  have h : V4 m d (dr main_v3) = shapeCast S320000 (extractStridedSlice S1x320000 ![1, 0] (m (eLoc d)) slices_S2x320000_S1x320000_1_0) shapeCasts_S1x320000_S320000 := by
    unfold V4 V3
    rw [StableHlo.reshape_result, StableHlo.unary_result]
    unfold V2 V1
    rw [(op1 (F := F)).result_of_not_mem _ (show dr main_arg1 ∉ ({dr main_v1} : Finset (DevRef τ sig)) by decide),
      (op0 (F := F)).result_of_not_mem _ (show dr main_arg1 ∉ ({dr main_v0} : Finset (DevRef τ sig)) by decide)]
    rfl
  unfold dstW
  rw [h]
  exact row_eq 1 _ _ _ e

/-- Every index is a node's number. -/
def PreOK : Prop := ∀ (d : Dev nD) (j : S2x320000.Idx), (m (eLoc d) j).toNat < 10000

theorem seq_lt (f : S320000.Idx → BitVec 32) (h : ∀ e : Fin 320000, (f (ix1 e)).toNat < 10000) (e : ℕ) : (seqOf f e).toNat < 10000 := by
  unfold seqOf wordAt
  split
  · exact h _
  · decide

theorem run_main [∀ e, Nonempty (Elt F e)] (hpre : PreOK m) :
    θ_run (Cert.KernelIdeal.defs (F := F)) (Cert.KernelIdeal.threads (F := F)) ⟨m, fun _ => 0, ρ⟩ (QC m) :=
  run_main' m ρ (fun d => seq_lt _ fun e => by rw [srcW_eq]; exact hpre d _) (fun d => seq_lt _ fun e => by rw [dstW_eq]; exact hpre d _)

end Cert.Proof.Scan

end
-- ==== Proof.Pre.lean ====
/-
  What the two preconditions say of the arguments: the indices are nodes' numbers; and, for the second, the features are
  finite and no tile owns more of the edges before the last chunk than its lists have room for.
-/
module

public import proofs.«01_k».proof.Proof.Slot
public import proofs.«01_k».proof.Proof.Gen.Pre_fits
public import proofs.«01_k».proof.Proof.Gen.Pre_in_range
public import Idealize.ShloMosaic.Lib.ReduceAll
public import Idealize.ShloMosaic.Lib.WordSum
public import Idealize.ShloMosaic.Lib.IdealHost

@[expose] public section

noncomputable section

namespace Cert.Proof.Scan

open Idealize.ShloMosaic
open scoped BigOperators

variable {F : FTy → Type} [FloatOps F]

/-- A word between 0 and 9999 when read signed. -/
theorem small_of_words (v : BitVec 32) (e : IntOp.andi (IntOp.cmpi .sge v 0#32) (IntOp.cmpi .slt v 10000#32) = 1#1) : v.toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem subs_ {t : Shape} (h : t.rank = 0) : Subsingleton t.Idx := ⟨fun a b => funext fun x => (h ▸ x).elim0⟩

theorem range_of_pre (a : FVec F Cert.Pre_in_range.S10000x128 .f32) (b : IVec Cert.Pre_in_range.S2x320000 32) (c : FVec F Cert.Pre_in_range.S10000x128 .f32) (h : Cert.Pre_in_range.fn (F := F) a b c = fun _ => 1#1)
    (j : Cert.Pre_in_range.S2x320000.Idx) : (b j).toNat < 10000 := by
  haveI : Subsingleton Cert.Pre_in_range.S_.Idx := subs_ rfl
  have e := congrFun h ix0
  unfold Cert.Pre_in_range.fn at e
  exact small_of_words _ (Host.reduce_andi_all _ _ _ _ _ e j)

/-! ## The second precondition -/

/-- The count of a tile's edges as a sum. -/
theorem cntTo_eq_sum (lo : ℕ) (dst : ℕ → BitVec 32) (n : ℕ) : cntTo lo dst n = ∑ i ∈ Finset.range n, if hit lo (dst i) then 1 else 0 := by
  induction n with
  | zero => rfl
  | succ n ih => rw [Finset.sum_range_succ, ← ih]; rfl

/-- A fold of word additions over words of 0 or 1 is a count. -/
theorem fold_addi_count (n : ℕ) (hn : n < 2 ^ 31) (P : Fin n → Prop) [DecidablePred P] (f : Fin n → BitVec 32) (hf : ∀ k, f k = if P k then 1#32 else 0#32) :
    ((Finset.univ : Finset (Fin n)).fold IntOp.addi 0#32 f).toNat = ∑ k : Fin n, if P k then 1 else 0 := by
  have e : (Finset.univ : Finset (Fin n)).fold IntOp.addi 0#32 f = ∑ k : Fin n, f k := rfl
  have hv : ∀ k, (f k).toNat = if P k then 1 else 0 := fun k => by rw [hf]; split <;> rfl
  have hs : ∑ k : Fin n, (f k).toNat ≤ n := by
    calc ∑ k : Fin n, (f k).toNat ≤ ∑ _k : Fin n, 1 := Finset.sum_le_sum fun k _ => by rw [hv]; split <;> omega
      _ = n := by simp
  rw [e, WordSum.toNat_sum _ _ (by omega)]
  exact Finset.sum_congr rfl fun k _ => hv k

theorem sle_small (a b : BitVec 32) (ha : a.toNat < 2 ^ 31) (hb : b.toNat < 2 ^ 31) (h : IntOp.cmpi .sle a b = 1#1) : a.toNat ≤ b.toNat := by
  have e1 : a.toInt = a.toNat := BitVec.toInt_eq_toNat_of_lt (by omega)
  have e2 : b.toInt = b.toNat := BitVec.toInt_eq_toNat_of_lt (by omega)
  have h' : BitVec.ofBool (a.sle b) = 1#1 := h
  rw [BitVec.sle_eq_decide, e1, e2] at h'
  by_contra hc
  rw [decide_eq_false (by omega)] at h'
  exact absurd h' (by decide)

/-- One element of the table of owned edges. -/
theorem owned_word (d : BitVec 32) (t : Fin 32) (hd : d.toNat < 10000) :
    (IntOp.andi (IntOp.cmpi .sge d (BitVec.ofNat 32 t.val * 320#32)) (IntOp.cmpi .slt d (BitVec.ofNat 32 t.val * 320#32 + 320#32))).setWidth 32
      = if hit (t.val * 320) d then 1#32 else 0#32 := by
  have ht := t.isLt
  have hl : (BitVec.ofNat 32 t.val * 320#32).toNat = t.val * 320 := by
    simp only [BitVec.toNat_mul, BitVec.toNat_ofNat]; omega
  have hl' : (BitVec.ofNat 32 t.val * 320#32 + 320#32).toNat = t.val * 320 + 320 := by
    rw [BitVec.toNat_add, hl]; simp only [BitVec.toNat_ofNat]; omega
  rw [sge_small _ _ (by omega) (by omega), slt_small _ _ (by omega) (by omega), hl, hl']
  unfold hit
  by_cases h1 : t.val * 320 ≤ d.toNat <;> by_cases h2 : d.toNat < t.val * 320 + 320 <;> simp [h1, h2, IntOp.andi]

structure FitsOK (a : FVec F Cert.Pre_fits.S10000x128 .f32) (b : IVec Cert.Pre_fits.S2x320000 32) (c : FVec F Cert.Pre_fits.S10000x128 .f32) : Prop where
  range : ∀ j, (b j).toNat < 10000
  finite : ∀ i, FloatOps.cmpf .olt (FloatOps.hostAbsf (a i)) (FloatOps.ofBits .f32 0x7F800000#32) = 1#1
  finite' : ∀ i, FloatOps.cmpf .olt (FloatOps.hostAbsf (c i)) (FloatOps.ofBits .f32 0x7F800000#32) = 1#1
  room : ∀ (t : Fin 32) (dst : ℕ → BitVec 32), (∀ k : Fin 316800, dst k.val = b (ix2 1 ⟨k.val, by omega⟩)) → cntTo (t.val * 320) dst 316800 ≤ 13184

section Table
open Cert.Pre_fits Cert.Pre_fits.Facts

/-- The first node of each tile, as a column. -/
def tileCol : IVec S32x1 32 := muli (broadcastInDim S32x1 ![0] bcast_S32_S32x1_0 (iotaInDim S32 32 0)) (broadcastInDim S32x1 ![] bcast_S_S32x1 (constantI S_ 32 320#32))
def tileEnd : IVec S32x1 32 := addi tileCol (broadcastInDim S32x1 ![] bcast_S_S32x1 (constantI S_ 32 320#32))
def dstRow (b : IVec S2x320000 32) : IVec S32x316800 32 := broadcastInDim S32x316800 ![0, 1] bcast_S1x316800_S32x316800_0_1 (extractStridedSlice S1x316800 ![1, 0] b slices_S2x320000_S1x316800_1_0)
/-- The table of owned edges: 1 where the tile owns the edge. -/
def owned (b : IVec S2x320000 32) : IVec S32x316800 32 :=
  extui 32 (andi (cmpi .sge (dstRow b) (broadcastInDim S32x316800 ![0, 1] bcast_S32x1_S32x316800_0_1 tileCol))
    (cmpi .slt (dstRow b) (broadcastInDim S32x316800 ![0, 1] bcast_S32x1_S32x316800_0_1 tileEnd))) natLt_1_32

theorem dstRow_apply (b : IVec S2x320000 32) (t : Fin 32) (k : Fin 316800) : dstRow b (ix2 t k) = b (ix2 1 ⟨k.val, by omega⟩) := by
  unfold dstRow
  rw [broadcastInDim_apply _ _ _ (ix2 t k) (ix2 0 k) ?h, extractStridedSlice_apply _ _ _ (ix2 0 k) (ix2 1 ⟨k.val, by omega⟩) ?h']
  case h =>
    intro a
    match a with
    | 0 => rfl
    | 1 => rfl
  case h' =>
    intro a
    match a with
    | 0 => simp [ix2]
    | 1 => simp [ix2]

theorem col_apply (x : IVec S32x1 32) (t : Fin 32) (k : Fin 316800) : broadcastInDim S32x316800 ![0, 1] bcast_S32x1_S32x316800_0_1 x (ix2 t k) = x (ix2 t 0) :=
  broadcastInDim_apply _ _ _ (ix2 t k) (ix2 t 0) fun a => match a with
    | 0 => rfl
    | 1 => rfl

theorem tileCol_apply (t : Fin 32) : tileCol (ix2 t 0) = BitVec.ofNat 32 t.val * 320#32 := by
  show broadcastInDim S32x1 ![0] bcast_S32_S32x1_0 (iotaInDim S32 32 0) (ix2 t 0) * 320#32 = _
  rw [broadcastInDim_apply _ _ _ (ix2 t 0) (ix1 t) fun a => match a with | 0 => rfl]
  rfl

theorem owned_apply (b : IVec S2x320000 32) (hb : ∀ j, (b j).toNat < 10000) (t : Fin 32) (k : Fin 316800) :
    owned b (ix2 t k) = if hit (t.val * 320) (b (ix2 1 ⟨k.val, by omega⟩)) then 1#32 else 0#32 := by
  rw [← owned_word _ t (hb _)]
  show BitVec.setWidth 32 (IntOp.andi (IntOp.cmpi .sge (dstRow b (ix2 t k)) (broadcastInDim S32x316800 ![0, 1] bcast_S32x1_S32x316800_0_1 tileCol (ix2 t k)))
    (IntOp.cmpi .slt (dstRow b (ix2 t k)) (broadcastInDim S32x316800 ![0, 1] bcast_S32x1_S32x316800_0_1 tileEnd (ix2 t k)))) = _
  rw [dstRow_apply, col_apply, col_apply]
  show BitVec.setWidth 32 (IntOp.andi (IntOp.cmpi .sge _ (tileCol (ix2 t 0))) (IntOp.cmpi .slt _ (tileCol (ix2 t 0) + 320#32))) = _
  rw [tileCol_apply]

theorem reduces_row : S32x316800.Reduces [1] S32 := by decide

theorem lift_row (t : Fin 32) (k : Fin 316800) : reduces_row.lift (ix1 t) k = ix2 t k := by
  funext a
  apply Fin.ext
  refine (Shape.Reduces.lift_val reduces_row (ix1 t) k a).trans ?_
  match a with
  | 0 => rfl
  | 1 => rfl

end Table

set_option maxHeartbeats 1000000 in
theorem fits_of_pre (a : FVec F Cert.Pre_fits.S10000x128 .f32) (b : IVec Cert.Pre_fits.S2x320000 32) (c : FVec F Cert.Pre_fits.S10000x128 .f32) (h : Cert.Pre_fits.fn (F := F) a b c = fun _ => 1#1) : FitsOK a b c := by
  haveI : Subsingleton Cert.Pre_fits.S_.Idx := subs_ rfl
  have e := congrFun h ix0
  unfold Cert.Pre_fits.fn Cert.Pre_fits.fn_part1 at e
  obtain ⟨e1, e2⟩ := IntOp.andi_eq_one.1 e
  obtain ⟨e0, e6⟩ := IntOp.andi_eq_one.1 e1
  obtain ⟨e3, e4⟩ := IntOp.andi_eq_one.1 e0
  have hr : ∀ j, (b j).toNat < 10000 := fun j => small_of_words _ (Host.reduce_andi_all _ _ _ _ _ e3 j)
  refine ⟨hr, fun i => Host.reduce_andi_all _ _ _ _ _ e4 i, fun i => Host.reduce_andi_all _ _ _ _ _ e6 i, fun t dst hdst => ?_⟩
  have e5 : IntOp.cmpi .sle (Host.reduce IntOp.addi (owned b) (constantI Cert.Pre_fits.S_ 32 0#32) Cert.Pre_fits.Facts.reducesTo_S32x316800_S32_d1 Cert.Pre_fits.Facts.h_S_ (ix1 t)) 13184#32 = 1#1 :=
    Host.reduce_andi_all _ _ _ _ _ e2 (ix1 t)
  rw [Host.reduce_eq_fold_single IntOp.addi _ _ _ reduces_row] at e5
  have hf := fold_addi_count 316800 (by decide) (fun k => hit (t.val * 320) (dst k.val)) (owned b ∘ reduces_row.lift (ix1 t)) fun k => by
    show owned b (reduces_row.lift (ix1 t) k) = _
    rw [lift_row, owned_apply b hr, hdst]
  have hlt : ∑ k : Fin 316800, (if hit (t.val * 320) (dst k.val) then 1 else 0) ≤ 316800 := by
    calc ∑ k : Fin 316800, (if hit (t.val * 320) (dst k.val) then 1 else 0) ≤ ∑ _k : Fin 316800, 1 := Finset.sum_le_sum fun k _ => by split <;> omega
      _ = 316800 := by simp
  have hc := sle_small _ _ (by
    refine lt_of_eq_of_lt hf ?_
    omega) (by decide) e5
  rw [cntTo_eq_sum, ← Fin.sum_univ_eq_sum_range (fun i => if hit (t.val * 320) (dst i) then 1 else 0)]
  exact hf.symm.trans_le hc

end Cert.Proof.Scan

end
-- ==== Proof.Join.lean ====
/-
  The reference's two results and the kernel's are one function of the arguments.
-/
module

public import proofs.«01_k».proof.Proof.Math
public import proofs.«01_k».proof.Proof.Ref
public import proofs.«01_k».proof.Proof.Run
public import proofs.«01_k».proof.Proof.Pre

@[expose] public section

noncomputable section

namespace Cert.Proof.Join

open Idealize.ShloMosaic Idealize.SL.Sem
open Cert.Proof.Scan (segMax segOut seqOf srcOf)

section Result

variable (x : FVec Ideal Cert.ReferenceIdeal.S10000x128 .f32) (e : IVec Cert.ReferenceIdeal.S2x320000 32) (hr : ∀ j, (e j).toNat < 10000)
variable (gs gd : Cert.KernelIdeal.S320000.Idx → BitVec 32) (hs : ∀ k : Fin 320000, gs (ix1 k) = e (ix2 0 k)) (hd : ∀ k : Fin 320000, gd (ix1 k) = e (ix2 1 k))
include hr hs hd

theorem row_eq (k : Fin 320000) (c : Fin 128) : Cert.Proof.Ref.row x e hr k c = x (ix2 (srcOf (seqOf gs) k.val) c) := by
  have h1 : seqOf gs k.val = e (ix2 0 k) := (Cert.Proof.Scan.seqOf_eq gs k.val k.isLt).trans (hs k)
  have h2 : srcOf (seqOf gs) k.val = ⟨(e (ix2 0 k)).toNat, hr _⟩ := by
    apply Fin.ext
    show (seqOf gs k.val).toNat % 10000 = _
    rw [h1]
    exact Nat.mod_eq_of_lt (hr _)
  rw [h2]
  rfl

theorem best_eq (n : Fin 10000) (c : Fin 128) : Cert.Proof.Ref.best x e hr n c = segMax x (seqOf gs) (seqOf gd) n.val c := by
  have h1 : ∀ k : Fin 320000, seqOf gd k.val = e (ix2 1 k) := fun k => (Cert.Proof.Scan.seqOf_eq gd k.val k.isLt).trans (hd k)
  unfold Cert.Proof.Ref.best segMax
  apply le_antisymm
  · refine Finset.sup_le fun k hk => ?_
    rw [row_eq x e hr gs gd hs hd]
    refine Finset.le_sup (f := fun i => x (ix2 (srcOf (seqOf gs) i) c)) (Finset.mem_filter.2 ⟨Finset.mem_range.2 k.isLt, ?_⟩)
    rw [h1]
    exact (Finset.mem_filter.1 hk).2
  · refine Finset.sup_le fun i hi => ?_
    obtain ⟨h2, h3⟩ := Finset.mem_filter.1 hi
    obtain ⟨k, rfl⟩ : ∃ k : Fin 320000, i = k.val := ⟨⟨i, Finset.mem_range.1 h2⟩, rfl⟩
    rw [h1] at h3
    refine le_trans (le_of_eq (row_eq x e hr gs gd hs hd k c).symm) ?_
    exact Finset.le_sup (f := fun k => Cert.Proof.Ref.row x e hr k c) (Finset.mem_filter.2 ⟨Finset.mem_univ _, h3⟩)

theorem out_eq (hfin : ∀ i, x i < (⊤ : EReal)) : Cert.Proof.Ref.out x e = segOut x (seqOf gs) (seqOf gd) := by
  funext i
  obtain ⟨n, c, rfl⟩ : ∃ (n : Fin 10000) (c : Fin 128), i = ValueIdx.ix2 n c := ⟨i 0, i 1, ValueIdx.eq_ix2 i⟩
  refine (Cert.Proof.Ref.out_apply x e hr hfin n c).trans ?_
  rw [best_eq x e hr gs gd hs hd]
  rfl

omit hr hs hd in
/-- What the precondition says of a feature. -/
theorem lt_top_of_finite (a : EReal) (h : FloatOps.cmpf (F := Ideal) (φ := .f32) .olt (FloatOps.hostAbsf (F := Ideal) (φ := .f32) a) (FloatOps.ofBits .f32 0x7F800000#32) = 1#1) : a < ⊤ := by
  have h1 : Ideal.cmp .olt (max a (-a)) (Ideal.ofBits .f32 0x7F800000#32) = 1#1 := h
  rw [Cert.Proof.Scan.ofBits_posInf] at h1
  refine lt_of_le_of_lt (le_max_left a (-a)) ?_
  by_contra h2
  simp [Ideal.cmp, h2] at h1

end Result

/-! ## The kernel's value -/

section Kernel

open Cert.KernelIdeal Cert.Proof.Scan

variable (m : (ℓ : Loc nD τ sig) → Buf (Elt Ideal) ℓ)

/-- What the preconditions give of a memory. -/
def OK : Prop := ∀ d : Dev nD, FitsOK (F := Ideal) (m (xLoc d)) (m (eLoc d)) (m (hLoc d))

/-- The two results: each node's maximum, of either array of features. -/
def val (d : Dev nD) : S10000x128.Idx → EReal := segOut (m (xLoc d)) (seqOf (srcW m d)) (seqOf (dstW m d))
def val2 (d : Dev nD) : S10000x128.Idx → EReal := segOut (m (hLoc d)) (seqOf (srcW m d)) (seqOf (dstW m d))

theorem room_of (hok : OK m) (d : Dev nD) (t : Tl) : fitsT (Lt t) (seqOf (dstW m d)) := by
  refine (hok d).room ⟨tileNo (Lt t), tileNo_lt _⟩ (seqOf (dstW m d)) fun k => ?_
  have hk : k.val < 320000 := by have := k.isLt; omega
  exact (seqOf_eq _ k.val hk).trans (dstW_eq m d ⟨k.val, hk⟩)

theorem kernel_val (hok : OK m) (d : Dev nD) (fa : S10000x128.Idx → EReal) (h : AllOut (F := Ideal) (m (xLoc d)) (srcW m d) (dstW m d) fa) : fa = val m d :=
  allOut_eq _ _ _ fa (fun t => room_of m hok d t) h

theorem kernel_val2 (hok : OK m) (d : Dev nD) (fa : S10000x128.Idx → EReal) (h : AllOut (F := Ideal) (m (hLoc d)) (srcW m d) (dstW m d) fa) : fa = val2 m d :=
  allOut_eq _ _ _ fa (fun t => room_of m hok d t) h

theorem ref_val (hok : OK m) (d : Dev nD) : Cert.Proof.Ref.out (m (xLoc d)) (m (eLoc d)) = val m d :=
  out_eq _ _ (hok d).range _ _ (fun k => srcW_eq m d k) (fun k => dstW_eq m d k) fun i => lt_top_of_finite _ ((hok d).finite i)

theorem ref_val2 (hok : OK m) (d : Dev nD) : Cert.Proof.Ref.out (m (hLoc d)) (m (eLoc d)) = val2 m d :=
  out_eq _ _ (hok d).range _ _ (fun k => srcW_eq m d k) (fun k => dstW_eq m d k) fun i => lt_top_of_finite _ ((hok d).finite' i)

end Kernel

end Cert.Proof.Join

end
-- ==== Proof.LayerOut.lean ====
/-
  What the layer's body leaves in each output's staging buffer, as a function of the input blocks: at the first grid
  point the row block of the linear map and its column sums, at a later point the same added to what the sums held.
-/
module

public import proofs.«01_k».proof.Proof.Gen.LayerIdeal.Frame
public import Idealize.ShloMosaic.Lib.Pipeline.Value
public import Idealize.ShloMosaic.Lib.Tactic

@[expose] public section

noncomputable section

namespace Cert.Proof.Layer

open Cert.LayerIdeal Cert.LayerIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section Out

variable (c : Dev nD) (i : grid0.Coords) (a1 : Memref sig .tc .vmem S2000x128 .f32) (h1 : a1.IsWhole) (a2 : Memref sig .tc .vmem S2000x128 .f32) (h2 : a2.IsWhole)
  (a3 : Memref sig .tc .vmem S128x128 .f32) (h3 : a3.IsWhole) (a4 : Memref sig .tc .vmem S1x128 .f32) (h4 : a4.IsWhole) (a5 : Memref sig .tc .vmem S128x128 .f32) (h5 : a5.IsWhole)
  (a6 : Memref sig .tc .vmem S2000x128 .f32) (h6 : a6.IsWhole) (a7 : Memref sig .tc .vmem S1x128 .f32) (h7 : a7.IsWhole) (a8 : Memref sig .tc .vmem S1x128 .f32) (h8 : a8.IsWhole)
  (x0 : Vec F S2000x128 .f32) (x1 : Vec F S2000x128 .f32) (x2 : Vec F S128x128 .f32) (x3 : Vec F S1x128 .f32) (x4 : Vec F S128x128 .f32) (xo6 : Vec F S1x128 .f32) (xo7 : Vec F S1x128 .f32)

theorem out_A_5 (hc0 : cond0_0 i) (hc1 : ¬cond0_1 i) :
    out0_A_5 c i a1 h1 a2 h2 a3 h3 a4 h4 a5 h5 a6 h6 a7 h7 a8 h8 hc0 hc1 x0 x1 x2 x3 x4 = k0_pay1 x0 x2 x3 x1 x4 := by
  unfold out0_A_5
  rw [View.read_writes_eq_canon _ _ _ (cover0_A_5 c i a1 h1 a2 h2 a3 h3 a4 h4 a5 h5 a6 h6 a7 h7 a8 h8 hc0 hc1 x0 x1 x2 x3 x4)]
  unfold kernelRun0_A
  dsimp only
  rw [View.canon_unit_zero hz]
  simp only [View.readAt_eq_ld, h1.read_unread, h2.read_unread, h3.read_unread, h4.read_unread, h5.read_unread, View.ld_unit_zero (S := S2000x128) hz, View.ld_unit_zero (S := S128x128) hz, View.ld_unit_zero (S := S1x128) hz]

theorem out_A_6 (hc0 : cond0_0 i) (hc1 : ¬cond0_1 i) :
    out0_A_6 c i a1 h1 a2 h2 a3 h3 a4 h4 a5 h5 a6 h6 a7 h7 a8 h8 hc0 hc1 x0 x1 x2 x3 x4 = k0_pay2 x0 x2 x3 x1 x4 := by
  unfold out0_A_6
  rw [View.read_writes_eq_canon _ _ _ (cover0_A_6 c i a1 h1 a2 h2 a3 h3 a4 h4 a5 h5 a6 h6 a7 h7 a8 h8 hc0 hc1 x0 x1 x2 x3 x4)]
  unfold kernelRun0_A
  dsimp only
  rw [View.canon_unit_zero hz]
  simp only [View.readAt_eq_ld, h1.read_unread, h2.read_unread, h3.read_unread, h4.read_unread, h5.read_unread, View.ld_unit_zero (S := S2000x128) hz, View.ld_unit_zero (S := S128x128) hz, View.ld_unit_zero (S := S1x128) hz]

theorem out_A_7 (hc0 : cond0_0 i) (hc1 : ¬cond0_1 i) :
    out0_A_7 c i a1 h1 a2 h2 a3 h3 a4 h4 a5 h5 a6 h6 a7 h7 a8 h8 hc0 hc1 x0 x1 x2 x3 x4 = k0_pay3 x0 x2 x3 x1 x4 := by
  unfold out0_A_7
  rw [View.read_writes_eq_canon _ _ _ (cover0_A_7 c i a1 h1 a2 h2 a3 h3 a4 h4 a5 h5 a6 h6 a7 h7 a8 h8 hc0 hc1 x0 x1 x2 x3 x4)]
  unfold kernelRun0_A
  dsimp only
  rw [View.canon_unit_zero hz]
  simp only [View.readAt_eq_ld, h1.read_unread, h2.read_unread, h3.read_unread, h4.read_unread, h5.read_unread, View.ld_unit_zero (S := S2000x128) hz, View.ld_unit_zero (S := S128x128) hz, View.ld_unit_zero (S := S1x128) hz]

theorem out_B_5 (hc0 : ¬cond0_0 i) (hc1 : cond0_1 i) :
    out0_B_5 c i a1 h1 a2 h2 a3 h3 a4 h4 a5 h5 a6 h6 a7 h7 a8 h8 hc0 hc1 x0 x1 x2 x3 x4 xo6 xo7 = k0_pay1 x0 x2 x3 x1 x4 := by
  unfold out0_B_5
  rw [View.read_writes_eq_canon _ _ _ (cover0_B_5 c i a1 h1 a2 h2 a3 h3 a4 h4 a5 h5 a6 h6 a7 h7 a8 h8 hc0 hc1 x0 x1 x2 x3 x4 xo6 xo7)]
  unfold kernelRun0_B
  dsimp only
  rw [View.canon_unit_zero hz]
  simp only [View.readAt_eq_ld, h1.read_unread, h2.read_unread, h3.read_unread, h4.read_unread, h5.read_unread, View.ld_unit_zero (S := S2000x128) hz, View.ld_unit_zero (S := S128x128) hz, View.ld_unit_zero (S := S1x128) hz]

theorem out_B_6 (hc0 : ¬cond0_0 i) (hc1 : cond0_1 i) :
    out0_B_6 c i a1 h1 a2 h2 a3 h3 a4 h4 a5 h5 a6 h6 a7 h7 a8 h8 hc0 hc1 x0 x1 x2 x3 x4 xo6 xo7 = k0_pay4 x0 x2 x3 x1 x4 xo6 := by
  unfold out0_B_6
  rw [View.read_writes_eq_canon _ _ _ (cover0_B_6 c i a1 h1 a2 h2 a3 h3 a4 h4 a5 h5 a6 h6 a7 h7 a8 h8 hc0 hc1 x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread, View.ld_unit_zero (S := S2000x128) hz, View.ld_unit_zero (S := S128x128) hz, View.ld_unit_zero (S := S1x128) hz]

theorem out_B_7 (hc0 : ¬cond0_0 i) (hc1 : cond0_1 i) :
    out0_B_7 c i a1 h1 a2 h2 a3 h3 a4 h4 a5 h5 a6 h6 a7 h7 a8 h8 hc0 hc1 x0 x1 x2 x3 x4 xo6 xo7 = k0_pay5 x0 x2 x3 x1 x4 xo7 := by
  unfold out0_B_7
  rw [View.read_writes_eq_canon _ _ _ (cover0_B_7 c i a1 h1 a2 h2 a3 h3 a4 h4 a5 h5 a6 h6 a7 h7 a8 h8 hc0 hc1 x0 x1 x2 x3 x4 xo6 xo7)]
  unfold kernelRun0_B
  dsimp only
  rw [View.canon_unit_zero hz]
  simp only [View.readAt_eq_ld, h1.read_unread, h2.read_unread, h3.read_unread, h4.read_unread, h5.read_unread, h8.read_unread, View.ld_unit_zero (S := S2000x128) hz, View.ld_unit_zero (S := S128x128) hz, View.ld_unit_zero (S := S1x128) hz]

end Out

end Cert.Proof.Layer

end
-- ==== Proof.LayerMath.lean ====
/-
  The layer's arithmetic at the extended reals, read at an index: one entry of the linear map, a block's column sums,
  and the reference's three results.
-/
module

public import proofs.«01_k».proof.Proof.Gen.LayerIdeal.Skeleton
public import proofs.«01_k».proof.Proof.Gen.LayerReferenceIdeal.Read
public import Idealize.ShloMosaic.Lib.Pipeline.Value
public import Idealize.ShloMosaic.Lib.MatmulPlain
public import Idealize.ShloMosaic.Lib.ValueIdx

@[expose] public section

noncomputable section

namespace Cert.Proof.Layer

open Cert.LayerIdeal Cert.LayerIdeal.Gen Idealize.ShloMosaic Idealize.SL.Sem Idealize.ShloMosaic.ValueIdx

/-- One entry of `a · Wlᵀ + b + x · Wrᵀ`, from one row of `a`, one of `x`, and a column. -/
def lin (a x : Fin 128 → EReal) (Wl : FVec Ideal S128x128 .f32) (b : EReal) (Wr : FVec Ideal S128x128 .f32) (l : Fin 128) : EReal :=
  ((∑ k : Fin 128, a k * Wl (ix2 l k)) + b) + ∑ k : Fin 128, x k * Wr (ix2 l k)

theorem zero_bits : Ideal.ofBits .f32 0x00000000#32 = 0 := by simp [Ideal.ofBits, Ideal.ieee]

section Block

variable (v0 : FVec Ideal S2000x128 .f32) (v1 : FVec Ideal S128x128 .f32) (v3 : FVec Ideal S1x128 .f32) (v7 : FVec Ideal S2000x128 .f32) (v8 : FVec Ideal S128x128 .f32)

theorem dot_apply (a : FVec Ideal S2000x128 .f32) (w : FVec Ideal S128x128 .f32) (r : Fin 2000) (l : Fin 128) :
    matmul dot_S2000x128_S128x128_S2000x128_1_1_0_0_n_n none a w (constant S2000x128 .f32 0x00000000#32) (ix2 r l) = ∑ k : Fin 128, a (ix2 r k) * w (ix2 l k) := by
  refine (Ideal.matmul_transposedRhs_apply (M := 2000) (K := 128) (N := 128) none a w (constant S2000x128 .f32 0x00000000#32) r l).trans ?_
  rw [constant_apply, zero_bits, zero_add]

theorem pay1_apply (r : Fin 2000) (l : Fin 128) :
    k0_pay1 (F := Ideal) v0 v1 v3 v7 v8 (ix2 r l) = lin (fun k => v0 (ix2 r k)) (fun k => v7 (ix2 r k)) v1 (v3 (ix2 0 l)) v8 l := by
  unfold k0_pay1 lin
  dsimp only
  rw [addf_apply, addf_apply, dot_apply, dot_apply, shapeCast_self]
  rw [broadcastTo_apply v3 broadcasts_S1x128_S2000x128 (ix2 r l) (ix2 0 l) (fun a => by
    match a with
    | ⟨0, _⟩ => rfl
    | ⟨1, _⟩ => rfl)]

theorem sum_apply (v : FVec Ideal S2000x128 .f32) (l : Fin 128) :
    shapeCast S1x128 (multiReduction .add [0] S128 v 0x00000000#32 reduces_S2000x128_S128 (.inl rfl) rfl) shapeCasts_S128_S1x128 (ix2 0 l) = ∑ r : Fin 2000, v (ix2 r l) := by
  refine (shapeCast_addUnit_apply ![128] _ shapeCasts_S128_S1x128 (ix2 0 l)).trans ?_
  refine (Ideal.multiReduction_add_single v 0x00000000#32 reduces_S2000x128_S128 (.inl rfl) rfl _).trans ?_
  refine Finset.sum_congr rfl fun k _ => congrArg v ?_
  funext a
  apply Fin.ext
  refine (Shape.Reduces.lift_val reduces_S2000x128_S128 _ k a).trans ?_
  match a with
  | 0 => rfl
  | 1 => rfl

theorem pay2_apply (l : Fin 128) : k0_pay2 (F := Ideal) v0 v1 v3 v7 v8 (ix2 0 l) = ∑ r : Fin 2000, k0_pay1 (F := Ideal) v0 v1 v3 v7 v8 (ix2 r l) := sum_apply _ l

theorem pay3_apply (l : Fin 128) : k0_pay3 (F := Ideal) v0 v1 v3 v7 v8 (ix2 0 l) = ∑ r : Fin 2000, k0_pay1 (F := Ideal) v0 v1 v3 v7 v8 (ix2 r l) * k0_pay1 (F := Ideal) v0 v1 v3 v7 v8 (ix2 r l) := sum_apply _ l

theorem pay4_apply (acc : FVec Ideal S1x128 .f32) (l : Fin 128) : k0_pay4 (F := Ideal) v0 v1 v3 v7 v8 acc (ix2 0 l) = acc (ix2 0 l) + k0_pay2 (F := Ideal) v0 v1 v3 v7 v8 (ix2 0 l) := by
  unfold k0_pay4
  rw [addf_apply, shapeCast_self]

theorem pay5_apply (acc : FVec Ideal S1x128 .f32) (l : Fin 128) : k0_pay5 (F := Ideal) v0 v1 v3 v7 v8 acc (ix2 0 l) = acc (ix2 0 l) + k0_pay3 (F := Ideal) v0 v1 v3 v7 v8 (ix2 0 l) := by
  unfold k0_pay5
  rw [addf_apply, shapeCast_self]

end Block

section Reference

open Cert.LayerReferenceIdeal.Read

variable (a x : FVec Ideal S10000x128 .f32) (Wl : FVec Ideal S128x128 .f32) (b : FVec Ideal S128 .f32) (Wr : FVec Ideal S128x128 .f32)

/-- The entry of the whole linear map at a row and a column. -/
def ent (r : Fin 10000) (l : Fin 128) : EReal := lin (fun k => a (ix2 r k)) (fun k => x (ix2 r k)) Wl (b (ix1 l)) Wr l

theorem ref_z (r : Fin 10000) (l : Fin 128) : val_main_v7 (F := Ideal) a x Wl b Wr (ix2 r l) = ent a x Wl b Wr r l := by
  rw [val_main_v7_apply, val_main_v4_apply, val_main_v1_apply, val_main_v6_apply, val_main_v3_apply, val_main_v2_apply]
  unfold ent lin
  refine congrArg₂ (· + ·) (congrArg₂ (· + ·) (Finset.sum_congr rfl fun k _ => ?_) ?_) (Finset.sum_congr rfl fun k _ => ?_)
  · rw [val_main_v0_apply]
    refine congrArg₂ (· * ·) (congrArg a ?_) (congrArg Wl ?_) <;> (funext c; match c with | ⟨0, _⟩ => rfl | ⟨1, _⟩ => rfl)
  · refine congrArg b ?_
    funext c; match c with | ⟨0, _⟩ => rfl
  · rw [val_main_v5_apply]
    refine congrArg₂ (· * ·) (congrArg x ?_) (congrArg Wr ?_) <;> (funext c; match c with | ⟨0, _⟩ => rfl | ⟨1, _⟩ => rfl)

theorem ref_s (l : Fin 128) : val_main_v9 (F := Ideal) a x Wl b Wr (ix2 0 l) = ∑ r : Fin 10000, ent a x Wl b Wr r l := by
  rw [val_main_v9_apply, val_main_v8_apply, val_main_cst_apply]
  refine (congrArg (· + _) zero_bits).trans ((zero_add _).trans (Finset.sum_congr rfl fun r _ => ?_))
  refine (congrArg (val_main_v7 (F := Ideal) a x Wl b Wr) ?_).trans (ref_z a x Wl b Wr r l)
  funext c; match c with | ⟨0, _⟩ => rfl | ⟨1, _⟩ => rfl

theorem ref_q (l : Fin 128) : val_main_v12 (F := Ideal) a x Wl b Wr (ix2 0 l) = ∑ r : Fin 10000, ent a x Wl b Wr r l * ent a x Wl b Wr r l := by
  rw [val_main_v12_apply, val_main_v11_apply, val_main_cst_0_apply]
  refine (congrArg (· + _) zero_bits).trans ((zero_add _).trans (Finset.sum_congr rfl fun r _ => ?_))
  rw [val_main_v10_apply]
  have h : val_main_v7 (F := Ideal) a x Wl b Wr (idx_main_v11 (idx_main_v12 (ix2 0 l)) r) = ent a x Wl b Wr r l := by
    refine (congrArg (val_main_v7 (F := Ideal) a x Wl b Wr) ?_).trans (ref_z a x Wl b Wr r l)
    funext c; match c with | ⟨0, _⟩ => rfl | ⟨1, _⟩ => rfl
  rw [h]
  rfl

end Reference

/-- A sum over the first rows, a row past the last one counting nothing. -/
def upTo (f : Fin 10000 → EReal) (n : ℕ) : EReal := ∑ i ∈ Finset.range n, if h : i < 10000 then f ⟨i, h⟩ else 0

theorem upTo_all (f : Fin 10000 → EReal) : upTo f 10000 = ∑ r : Fin 10000, f r := by
  unfold upTo
  rw [Finset.sum_range]
  exact Finset.sum_congr rfl fun i _ => dif_pos i.isLt

theorem upTo_zero (f : Fin 10000 → EReal) : upTo f 0 = 0 := rfl

theorem upTo_add (f : Fin 10000 → EReal) (n : ℕ) (hn : n + 2000 ≤ 10000) :
    upTo f (n + 2000) = upTo f n + ∑ r : Fin 2000, f ⟨n + r.val, by have := r.isLt; omega⟩ := by
  unfold upTo
  rw [Finset.sum_range_add, Finset.sum_range (n := 2000)]
  exact congrArg (_ + ·) (Finset.sum_congr rfl fun r _ => dif_pos (by have := r.isLt; omega))

end Cert.Proof.Layer

end
-- ==== Proof.LayerValue.lean ====
/-
  The layer's three outputs after the run: the rows of the linear map, block by block, and the column sums of its
  entries and of their squares, built up over the grid points; equal to what the reference leaves.
-/
module

public import proofs.«01_k».proof.Proof.LayerOut
public import proofs.«01_k».proof.Proof.LayerMath
public import proofs.«01_k».proof.Proof.Gen.LayerIdeal.Value
public import Idealize.ShloMosaic.Lib.StableHlo.Run

@[expose] public section

noncomputable section

namespace Cert.Proof.Layer

open Cert.LayerIdeal Cert.LayerIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-! ## The arguments, and the blocks the grid points read of them -/

abbrev argA : FVec Ideal S10000x128 .f32 := m (c.tc.loc main_arg0)
abbrev argX : FVec Ideal S10000x128 .f32 := m (c.tc.loc main_arg1)
abbrev argWl : FVec Ideal S128x128 .f32 := m (c.tc.loc main_arg2)
abbrev argB : FVec Ideal S128 .f32 := m (c.tc.loc main_arg3)
abbrev argWr : FVec Ideal S128x128 .f32 := m (c.tc.loc main_arg4)

/-- The linear map of the arguments at a row and a column. -/
abbrev entry (r : Fin 10000) (l : Fin 128) : EReal := ent (argA m c) (argX m c) (argWl m c) (argB m c) (argWr m c) r l

theorem point_lt (t : Fin cfg0.N) : t.val < 5 := lt_of_lt_of_eq t.isLt (show cfg0.N = 5 from N_0)

/-- Row `r` of the block at point `t`. -/
def rowAt (t : Fin cfg0.N) (r : Fin 2000) : Fin 10000 := ⟨2000 * t.val + r.val, by have := point_lt t; have := r.isLt; omega⟩

theorem blk_a (t : Fin cfg0.N) (r : Fin 2000) (k : Fin 128) : (iblk m c 0 t : FVec Ideal S2000x128 .f32) (ix2 r k) = argA m c (ix2 (rowAt t r) k) := by
  have hi : win0_0.index t 0 = t.val ∧ win0_0.index t 1 = 0 := by rcases fin_N0 t with rfl | rfl | rfl | rfl | rfl <;> decide
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2000 + 1 * r.val = 2000 * t.val + r.val; rw [hi.1]; omega
  | ⟨1, _⟩ => show win0_0.index t 1 * 128 + 1 * k.val = k.val; rw [hi.2]; omega

theorem blk_x (t : Fin cfg0.N) (r : Fin 2000) (k : Fin 128) : (iblk m c 1 t : FVec Ideal S2000x128 .f32) (ix2 r k) = argX m c (ix2 (rowAt t r) k) := by
  have hi : win0_1.index t 0 = t.val ∧ win0_1.index t 1 = 0 := by rcases fin_N0 t with rfl | rfl | rfl | rfl | rfl <;> decide
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 2000 + 1 * r.val = 2000 * t.val + r.val; rw [hi.1]; omega
  | ⟨1, _⟩ => show win0_1.index t 1 * 128 + 1 * k.val = k.val; rw [hi.2]; omega

theorem blk_wl (t : Fin cfg0.N) : (iblk m c 2 t : FVec Ideal S128x128 .f32) = argWl m c := by
  have hi : win0_2.index t 0 = 0 ∧ win0_2.index t 1 = 0 := by rcases fin_N0 t with rfl | rfl | rfl | rfl | rfl <;> decide
  funext j
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 128 + 1 * (j 0).val = (j 0).val; rw [hi.1]; omega
  | ⟨1, _⟩ => show win0_2.index t 1 * 128 + 1 * (j 1).val = (j 1).val; rw [hi.2]; omega

theorem blk_wr (t : Fin cfg0.N) : (iblk m c 4 t : FVec Ideal S128x128 .f32) = argWr m c := by
  have hi : win0_4.index t 0 = 0 ∧ win0_4.index t 1 = 0 := by rcases fin_N0 t with rfl | rfl | rfl | rfl | rfl <;> decide
  funext j
  unfold iblk
  rw [View.read_apply]
  show V m c main_arg4 _ = _
  rw [V_main_arg4]
  refine congrArg (m (c.tc.loc main_arg4)) ?_
  funext a
  apply Fin.ext
  match a with
  | ⟨0, _⟩ => show win0_4.index t 0 * 128 + 1 * (j 0).val = (j 0).val; rw [hi.1]; omega
  | ⟨1, _⟩ => show win0_4.index t 1 * 128 + 1 * (j 1).val = (j 1).val; rw [hi.2]; omega

/-- The bias row the region finds: the bias with a unit axis before it. -/
theorem V_row : (V m c main_v0 : FVec Ideal S1x128 .f32) = shapeCast S1x128 (argB m c) shapeCasts_S128_S1x128 := by
  show StableHlo.after hostOps0 (fun b => m (c, b)) main_v0 = _
  unfold hostOps0
  after_results
  rfl

theorem blk_b (t : Fin cfg0.N) (l : Fin 128) : (iblk m c 3 t : FVec Ideal S1x128 .f32) (ix2 0 l) = argB m c (ix1 l) := by
  have hi : win0_3.index t 0 = 0 ∧ win0_3.index t 1 = 0 := by rcases fin_N0 t with rfl | rfl | rfl | rfl | rfl <;> decide
  have hj : (iblk m c 3 t : FVec Ideal S1x128 .f32) (ix2 0 l) = (V m c main_v0 : FVec Ideal S1x128 .f32) (ix2 0 l) := by
    unfold iblk
    rw [View.read_apply]
    refine congrArg (V m c main_v0) ?_
    funext a
    apply Fin.ext
    match a with
    | ⟨0, _⟩ => show win0_3.index t 0 * 1 + 1 * 0 = 0; rw [hi.1]
    | ⟨1, _⟩ => show win0_3.index t 1 * 128 + 1 * l.val = l.val; rw [hi.2]; omega
  rw [hj, V_row]
  refine (shapeCast_addUnit_apply ![128] (argB m c) shapeCasts_S128_S1x128 (ix2 0 l)).trans (congrArg (argB m c) ?_)
  funext a
  match a with
  | ⟨0, _⟩ => rfl

/-- One entry of the block the body computes at point `t`. -/
theorem pay_entry (t : Fin cfg0.N) (r : Fin 2000) (l : Fin 128) :
    k0_pay1 (F := Ideal) (iblk m c 0 t) (iblk m c 2 t) (iblk m c 3 t) (iblk m c 1 t) (iblk m c 4 t) (ix2 r l) = entry m c (rowAt t r) l := by
  refine (pay1_apply (iblk m c 0 t) (iblk m c 2 t) (iblk m c 3 t) (iblk m c 1 t) (iblk m c 4 t) r l).trans ?_
  unfold entry ent
  rw [blk_wl, blk_wr, blk_b]
  refine congrArg₂ (fun p q => lin p q (argWl m c) (argB m c (ix1 l)) (argWr m c) l) (funext fun k => ?_) (funext fun k => ?_)
  · exact blk_a m c t r k
  · exact blk_x m c t r k

theorem sum_entry (t : Fin cfg0.N) (l : Fin 128) :
    k0_pay2 (F := Ideal) (iblk m c 0 t) (iblk m c 2 t) (iblk m c 3 t) (iblk m c 1 t) (iblk m c 4 t) (ix2 0 l) = ∑ r : Fin 2000, entry m c (rowAt t r) l :=
  (pay2_apply _ _ _ _ _ l).trans (Finset.sum_congr rfl fun r _ => pay_entry m c t r l)

theorem sumsq_entry (t : Fin cfg0.N) (l : Fin 128) :
    k0_pay3 (F := Ideal) (iblk m c 0 t) (iblk m c 2 t) (iblk m c 3 t) (iblk m c 1 t) (iblk m c 4 t) (ix2 0 l)
      = ∑ r : Fin 2000, entry m c (rowAt t r) l * entry m c (rowAt t r) l :=
  (pay3_apply _ _ _ _ _ l).trans (Finset.sum_congr rfl fun r _ => by rw [pay_entry m c t r l])

/-! ## The contents of the staging buffers after each point -/

theorem at_first (t : Fin cfg0.N) (h0 : t.val % 5 = 0) (h1 : ¬1 ≤ t.val) :
    outsAt0 m c t.val t.isLt = (k0_pay1 (F := Ideal) (iblk m c 0 t) (iblk m c 2 t) (iblk m c 3 t) (iblk m c 1 t) (iblk m c 4 t),
      k0_pay2 (F := Ideal) (iblk m c 0 t) (iblk m c 2 t) (iblk m c 3 t) (iblk m c 1 t) (iblk m c 4 t),
      k0_pay3 (F := Ideal) (iblk m c 0 t) (iblk m c 2 t) (iblk m c 3 t) (iblk m c 1 t) (iblk m c 4 t)) := by
  rw [outsAt0_A m c t h0 h1, out_A_5, out_A_6, out_A_7]

theorem at_later (t : Fin cfg0.N) (h0 : ¬t.val % 5 = 0) (h1 : 1 ≤ t.val) (hp : t.val - 1 < cfg0.N) :
    outsAt0 m c t.val t.isLt = (k0_pay1 (F := Ideal) (iblk m c 0 t) (iblk m c 2 t) (iblk m c 3 t) (iblk m c 1 t) (iblk m c 4 t),
      k0_pay4 (F := Ideal) (iblk m c 0 t) (iblk m c 2 t) (iblk m c 3 t) (iblk m c 1 t) (iblk m c 4 t) (outsAt0 m c (t.val - 1) hp).2.1,
      k0_pay5 (F := Ideal) (iblk m c 0 t) (iblk m c 2 t) (iblk m c 3 t) (iblk m c 1 t) (iblk m c 4 t) (outsAt0 m c (t.val - 1) hp).2.2) := by
  rw [outsAt0_B m c t h0 h1, out_B_5, out_B_6, out_B_7]

theorem rows_at (t : Fin cfg0.N) (r : Fin 2000) (l : Fin 128) : (outsAt0 m c t.val t.isLt).1 (ix2 r l) = entry m c (rowAt t r) l := by
  have hN := point_lt t
  by_cases h : 1 ≤ t.val
  · rw [at_later m c t (by omega) h (lt_of_le_of_lt (Nat.sub_le _ _) t.isLt)]
    exact pay_entry m c t r l
  · rw [at_first m c t (by omega) h]
    exact pay_entry m c t r l

/-- After point `n` the two rows hold the sums over the rows up to that point's block. -/
theorem sums_at (l : Fin 128) : ∀ (n : ℕ) (hn : n < cfg0.N),
    (outsAt0 m c n hn).2.1 (ix2 0 l) = upTo (fun r => entry m c r l) (2000 * n + 2000)
    ∧ (outsAt0 m c n hn).2.2 (ix2 0 l) = upTo (fun r => entry m c r l * entry m c r l) (2000 * n + 2000)
  | 0, hn => by
    rw [at_first m c ⟨0, hn⟩ (Nat.zero_mod 5) (Nat.not_succ_le_zero 0)]
    rw [upTo_add _ _ (by decide), upTo_add _ _ (by decide)]
    refine ⟨(sum_entry m c ⟨0, hn⟩ l).trans ?_, (sumsq_entry m c ⟨0, hn⟩ l).trans ?_⟩
    · exact (zero_add _).symm
    · exact (zero_add _).symm
  | n + 1, hn => by
    have hN := point_lt ⟨n + 1, hn⟩
    have hN' : n + 1 < 5 := hN
    obtain ⟨e1, e2⟩ := sums_at l n (Nat.lt_of_succ_lt hn)
    rw [at_later m c ⟨n + 1, hn⟩ (by show ¬(n + 1) % 5 = 0; omega) (by show 1 ≤ n + 1; omega) (Nat.lt_of_succ_lt hn)]
    rw [upTo_add _ _ (by omega), upTo_add _ _ (by omega)]
    refine ⟨(pay4_apply _ _ _ _ _ _ l).trans ?_, (pay5_apply _ _ _ _ _ _ l).trans ?_⟩
    · exact congrArg₂ (· + ·) e1 (sum_entry m c ⟨n + 1, hn⟩ l)
    · exact congrArg₂ (· + ·) e2 (sumsq_entry m c ⟨n + 1, hn⟩ l)

/-! ## The three arrays after the run -/

open Cert.LayerReferenceIdeal.Read

abbrev resZ : FVec Ideal S10000x128 .f32 := val_main_v7 (F := Ideal) (argA m c) (argX m c) (argWl m c) (argB m c) (argWr m c)
abbrev resS : FVec Ideal S1x128 .f32 := val_main_v9 (F := Ideal) (argA m c) (argX m c) (argWl m c) (argB m c) (argWr m c)
abbrev resQ : FVec Ideal S1x128 .f32 := val_main_v12 (F := Ideal) (argA m c) (argX m c) (argWl m c) (argB m c) (argWr m c)

theorem flushed_z (t : Fin cfg0.N) (_ : (cfg0.win 5).flush t = true) :
    (dats m 0 c).flushed 5 t = ((cfg0.win 5).blk t).view.read (Elt Ideal) (resZ m c) := by
  have hi : win0_5.index t 0 = t.val ∧ win0_5.index t 1 = 0 := by rcases fin_N0 t with rfl | rfl | rfl | rfl | rfl <;> decide
  rw [Cert.LayerIdeal.Value.flushed5]
  funext j
  rw [View.read_apply]
  show (outsAt0 m c t.val t.isLt).1 j = _
  obtain ⟨r, l, rfl⟩ : ∃ (r : Fin 2000) (l : Fin 128), j = ix2 r l := ⟨j 0, j 1, eq_ix2 j⟩
  rw [rows_at]
  refine (ref_z (argA m c) (argX m c) (argWl m c) (argB m c) (argWr m c) (rowAt t r) l).symm.trans (congrArg (resZ m c) ?_)
  funext a
  apply Fin.ext
  match a with
  | ⟨0, _⟩ => show 2000 * t.val + r.val = win0_5.index t 0 * 2000 + 1 * r.val; rw [hi.1]; omega
  | ⟨1, _⟩ => show l.val = win0_5.index t 1 * 128 + 1 * l.val; rw [hi.2]; omega

theorem final_z : (dats m 0 c).arrAt 5 cfg0.N = resZ m c :=
  (dats m 0 c).arrAt_eq_of_cover 5 (resZ m c) (flushed_z m c) fun i => by
    have hi0 : (i 0 : Nat) < 10000 := (i 0).isLt
    have hi1 : (i 1 : Nat) < 128 := (i 1).isLt
    obtain ⟨t, ht⟩ : ∃ t : Fin cfg0.N, t.val = (i 0 : Nat) / 2000 := ⟨⟨(i 0 : Nat) / 2000, by rw [show cfg0.N = 5 from N_0]; omega⟩, rfl⟩
    have hx : win0_5.index t 0 = t.val ∧ win0_5.index t 1 = 0 ∧ win0_5.xsize (grid0.coords t) 0 = 2000 ∧ win0_5.xsize (grid0.coords t) 1 = 128 := by
      rcases fin_N0 t with rfl | rfl | rfl | rfl | rfl <;> decide +kernel
    refine ⟨t, flush0_5 t, ?_⟩
    show i ∈ ((View.whole main_v1_0).slice (win0_5.rect t)).set
    rw [View.set_slice_whole, Rect.mem_set_unit]
    intro a
    match a with
    | ⟨0, _⟩ =>
      show win0_5.index t 0 * 2000 ≤ (i 0 : Nat) ∧ (i 0 : Nat) < win0_5.index t 0 * 2000 + win0_5.xsize (grid0.coords t) 0
      rw [hx.1, hx.2.2.1]; omega
    | ⟨1, _⟩ =>
      show win0_5.index t 1 * 128 ≤ (i 1 : Nat) ∧ (i 1 : Nat) < win0_5.index t 1 * 128 + win0_5.xsize (grid0.coords t) 1
      rw [hx.2.1, hx.2.2.2]; omega

theorem flushed_s (t : Fin cfg0.N) (hf : (cfg0.win 6).flush t = true) :
    (dats m 0 c).flushed 6 t = ((cfg0.win 6).blk t).view.read (Elt Ideal) (resS m c) := by
  have hi : win0_6.index t 0 = 0 ∧ win0_6.index t 1 = 0 := by rcases fin_N0 t with rfl | rfl | rfl | rfl | rfl <;> decide
  have h4 : t.val = 4 := by have := (flush0_6 t).mp hf; have := point_lt t; omega
  rw [Cert.LayerIdeal.Value.flushed6]
  funext j
  rw [View.read_apply]
  show (outsAt0 m c t.val t.isLt).2.1 j = _
  obtain ⟨z, l, rfl⟩ : ∃ (z : Fin 1) (l : Fin 128), j = ix2 z l := ⟨j 0, j 1, eq_ix2 j⟩
  obtain rfl : z = 0 := Subsingleton.elim _ _
  rw [(sums_at m c l t.val t.isLt).1, h4]
  refine ((upTo_all _).trans (ref_s (argA m c) (argX m c) (argWl m c) (argB m c) (argWr m c) l).symm).trans (congrArg (resS m c) ?_)
  funext a
  apply Fin.ext
  match a with
  | ⟨0, _⟩ => show 0 = win0_6.index t 0 * 1 + 1 * 0; rw [hi.1]
  | ⟨1, _⟩ => show l.val = win0_6.index t 1 * 128 + 1 * l.val; rw [hi.2]; omega

theorem flushed_q (t : Fin cfg0.N) (hf : (cfg0.win 7).flush t = true) :
    (dats m 0 c).flushed 7 t = ((cfg0.win 7).blk t).view.read (Elt Ideal) (resQ m c) := by
  have hi : win0_7.index t 0 = 0 ∧ win0_7.index t 1 = 0 := by rcases fin_N0 t with rfl | rfl | rfl | rfl | rfl <;> decide
  have h4 : t.val = 4 := by have := (flush0_7 t).mp hf; have := point_lt t; omega
  rw [Cert.LayerIdeal.Value.flushed7]
  funext j
  rw [View.read_apply]
  show (outsAt0 m c t.val t.isLt).2.2 j = _
  obtain ⟨z, l, rfl⟩ : ∃ (z : Fin 1) (l : Fin 128), j = ix2 z l := ⟨j 0, j 1, eq_ix2 j⟩
  obtain rfl : z = 0 := Subsingleton.elim _ _
  rw [(sums_at m c l t.val t.isLt).2, h4]
  refine ((upTo_all _).trans (ref_q (argA m c) (argX m c) (argWl m c) (argB m c) (argWr m c) l).symm).trans (congrArg (resQ m c) ?_)
  funext a
  apply Fin.ext
  match a with
  | ⟨0, _⟩ => show 0 = win0_7.index t 0 * 1 + 1 * 0; rw [hi.1]
  | ⟨1, _⟩ => show l.val = win0_7.index t 1 * 128 + 1 * l.val; rw [hi.2]; omega

theorem final_s : (dats m 0 c).arrAt 6 cfg0.N = resS m c :=
  (dats m 0 c).arrAt_eq_of_cover 6 (resS m c) (flushed_s m c) fun i => ⟨t0_4, (flush0_6 t0_4).mpr rfl, by
    have hi0 : (i 0 : Nat) < 1 := (i 0).isLt
    have hi1 : (i 1 : Nat) < 128 := (i 1).isLt
    show i ∈ ((View.whole main_v1_1).slice (win0_6.rect t0_4)).set
    rw [View.set_slice_whole, Rect.mem_set_unit]
    intro a
    match a with
    | ⟨0, _⟩ =>
      show win0_6.index t0_4 0 * 1 ≤ (i 0 : Nat) ∧ (i 0 : Nat) < win0_6.index t0_4 0 * 1 + win0_6.xsize (grid0.coords t0_4) 0
      rw [show win0_6.index t0_4 0 = 0 from by decide +kernel, show win0_6.xsize (grid0.coords t0_4) 0 = 1 from by decide +kernel]; omega
    | ⟨1, _⟩ =>
      show win0_6.index t0_4 1 * 128 ≤ (i 1 : Nat) ∧ (i 1 : Nat) < win0_6.index t0_4 1 * 128 + win0_6.xsize (grid0.coords t0_4) 1
      rw [show win0_6.index t0_4 1 = 0 from by decide +kernel, show win0_6.xsize (grid0.coords t0_4) 1 = 128 from by decide +kernel]; omega⟩

theorem final_q : (dats m 0 c).arrAt 7 cfg0.N = resQ m c :=
  (dats m 0 c).arrAt_eq_of_cover 7 (resQ m c) (flushed_q m c) fun i => ⟨t0_4, (flush0_7 t0_4).mpr rfl, by
    have hi0 : (i 0 : Nat) < 1 := (i 0).isLt
    have hi1 : (i 1 : Nat) < 128 := (i 1).isLt
    show i ∈ ((View.whole main_v1_2).slice (win0_7.rect t0_4)).set
    rw [View.set_slice_whole, Rect.mem_set_unit]
    intro a
    match a with
    | ⟨0, _⟩ =>
      show win0_7.index t0_4 0 * 1 ≤ (i 0 : Nat) ∧ (i 0 : Nat) < win0_7.index t0_4 0 * 1 + win0_7.xsize (grid0.coords t0_4) 0
      rw [show win0_7.index t0_4 0 = 0 from by decide +kernel, show win0_7.xsize (grid0.coords t0_4) 0 = 1 from by decide +kernel]; omega
    | ⟨1, _⟩ =>
      show win0_7.index t0_4 1 * 128 ≤ (i 1 : Nat) ∧ (i 1 : Nat) < win0_7.index t0_4 1 * 128 + win0_7.xsize (grid0.coords t0_4) 1
      rw [show win0_7.index t0_4 1 = 0 from by decide +kernel, show win0_7.xsize (grid0.coords t0_4) 1 = 128 from by decide +kernel]; omega⟩

end Cert.Proof.Layer

end
-- ==== Proof.NormMath.lean ====
/-
  The graph normalisation on the extended reals: the variance from the sums of a column's entries and of their squares is
  the mean of the centred entries' squares, and the quotient by its root is the product with the reciprocal root; for
  real entries and any scale of the mean.
-/
module

public import Idealize.ShloMosaic.PureOps.Ideal

@[expose] public section

noncomputable section

namespace Cert.Proof.Norm

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance of real entries about `a` times their mean, both ways. -/
theorem var_real (z : Fin 10000 → ℝ) (a m : ℝ) (hm : m = (∑ i, z i) * (1 / 10000)) :
    (∑ i, z i * z i) * (1 / 10000) - (2 - a) * a * m * m = (∑ i, (z i - a * m) * (z i - a * m)) * (1 / 10000) := by
  have h1 : ∀ i, (z i - a * m) * (z i - a * m) = z i * z i - 2 * (a * m) * z i + a * m * (a * m) := fun i => by ring
  have h2 : ∑ i, z i = 10000 * m := by rw [hm]; ring
  rw [Finset.sum_congr rfl fun i _ => h1 i, Finset.sum_add_distrib, Finset.sum_sub_distrib, ← Finset.mul_sum, h2,
    Finset.sum_const, Finset.card_univ, Fintype.card_fin, nsmul_eq_mul]
  push_cast
  ring

/-- The product with the reciprocal root of a positive real is the quotient by its root. -/
theorem mul_rsqrt (x : EReal) (v : ℝ) (hv : 0 < v) : x * Ideal.rsqrt (v : EReal) = Ideal.div x (Ideal.sqrt (v : EReal)) := by
  have hs : Real.sqrt v ≠ 0 := (Real.sqrt_pos.2 hv).ne'
  have e1 : Ideal.rsqrt (v : EReal) = (((Real.sqrt v)⁻¹ : ℝ) : EReal) := by
    rw [Ideal.rsqrt_coe, if_neg (not_lt.2 hv.le), if_neg hv.ne']
  have e2 : Ideal.sqrt (v : EReal) = ((Real.sqrt v : ℝ) : EReal) := by
    show (if v < 0 then ⊥ else ((Real.sqrt v : ℝ) : EReal)) = _
    rw [if_neg (not_lt.2 hv.le)]
  rw [e1, e2, Ideal.div_coe hs, one_div]

theorem mul_rsqrt_top (x : EReal) : x * Ideal.rsqrt ⊤ = Ideal.div x (Ideal.sqrt ⊤) := by
  show x * 0 = Ideal.div x ⊤
  rw [Ideal.div, if_neg EReal.top_ne_zero, EReal.inv_top]

theorem sum_top : ∑ _i : Fin 10000, (⊤ : EReal) = ⊤ := by
  rw [Fin.sum_univ_succ (n := 9999)]
  refine EReal.top_add_of_ne_bot ?_
  refine ne_of_gt (lt_of_lt_of_le EReal.bot_lt_zero (Finset.sum_nonneg fun _ _ => le_top))

section Column

variable (z : Fin 10000 → ℝ)

/-- The column's mean. -/
def mean : ℝ := (∑ i, z i) * (1 / 10000)

theorem mean_coe : (∑ i, (z i : EReal)) * ((1 / 10000 : ℝ) : EReal) = ((mean z : ℝ) : EReal) := by
  rw [← coe_sum, ← EReal.coe_mul]; rfl

theorem meansq_coe : (∑ i, (z i : EReal) * (z i : EReal)) * ((1 / 10000 : ℝ) : EReal) = (((∑ i, z i * z i) * (1 / 10000) : ℝ) : EReal) := by
  rw [EReal.coe_mul, coe_sum]
  simp only [EReal.coe_mul]

variable (e : ℝ) (he : 0 < e)

/-- The two variances, one offset added. -/
def varK (ms : EReal) : EReal :=
  (∑ i, (z i : EReal) * (z i : EReal)) * ((1 / 10000 : ℝ) : EReal) - (((2 : ℝ) : EReal) - ms) * ms * ((mean z : ℝ) : EReal) * ((mean z : ℝ) : EReal) + (e : EReal)
def varR (ms : EReal) : EReal :=
  (∑ i, ((z i : EReal) - ms * ((mean z : ℝ) : EReal)) * ((z i : EReal) - ms * ((mean z : ℝ) : EReal))) * ((1 / 10000 : ℝ) : EReal) + (e : EReal)

theorem varR_real (a : ℝ) : varR z e (a : EReal) = (((∑ i, (z i - a * mean z) * (z i - a * mean z)) * (1 / 10000) + e : ℝ) : EReal) := by
  unfold varR
  rw [EReal.coe_add, EReal.coe_mul, coe_sum]
  simp only [EReal.coe_mul, EReal.coe_sub]

theorem varK_real (a : ℝ) : varK z e (a : EReal) = varR z e (a : EReal) := by
  rw [varR_real, ← var_real z a (mean z) rfl]
  unfold varK
  rw [meansq_coe]
  simp only [EReal.coe_mul, EReal.coe_sub, EReal.coe_add]

include he in
theorem real_case (x : EReal) (a : ℝ) : x * Ideal.rsqrt (varK z e (a : EReal)) = Ideal.div x (Ideal.sqrt (varR z e (a : EReal))) := by
  rw [varK_real, varR_real]
  refine mul_rsqrt x _ ?_
  have h : 0 ≤ (∑ i, (z i - a * mean z) * (z i - a * mean z)) * (1 / 10000) :=
    mul_nonneg (Finset.sum_nonneg fun i _ => mul_self_nonneg _) (by norm_num)
  linarith

/-- With no mean an infinite scale is as good as none. -/
theorem varK_zero (ms : EReal) (hm : mean z = 0) : varK z e ms = varK z e ((0 : ℝ) : EReal) := by
  unfold varK
  rw [hm, EReal.coe_zero, mul_zero, mul_zero]
theorem varR_zero (ms : EReal) (hm : mean z = 0) : varR z e ms = varR z e ((0 : ℝ) : EReal) := by
  unfold varR
  rw [hm, EReal.coe_zero, mul_zero, mul_zero]

theorem varR_top (ms : EReal) (h : ∀ x : ℝ, ((x : EReal) - ms * ((mean z : ℝ) : EReal)) * ((x : EReal) - ms * ((mean z : ℝ) : EReal)) = ⊤) : varR z e ms = ⊤ := by
  unfold varR
  rw [Finset.sum_congr rfl fun i _ => h (z i), sum_top, EReal.top_mul_coe_of_pos (by norm_num), EReal.top_add_coe]

theorem varK_top (ms : EReal) (h : (((2 : ℝ) : EReal) - ms) * ms * ((mean z : ℝ) : EReal) * ((mean z : ℝ) : EReal) = ⊥) : varK z e ms = ⊤ := by
  unfold varK
  rw [h, meansq_coe, EReal.coe_sub_bot, EReal.top_add_coe]

include he in
/-- An entry times the reciprocal root of the one variance, and its quotient by the root of the other. -/
theorem scaled (x ms : EReal) : x * Ideal.rsqrt (varK z e ms) = Ideal.div x (Ideal.sqrt (varR z e ms)) := by
  rcases eq_or_ne (mean z) 0 with hm | hm
  · rw [varK_zero z e ms hm, varR_zero z e ms hm]
    exact real_case z e he x 0
  induction ms using EReal.rec with
  | coe a => exact real_case z e he x a
  | bot =>
    have h2 : (((2 : ℝ) : EReal) - ⊥) * ⊥ = ⊥ := by rw [EReal.coe_sub_bot, EReal.top_mul_bot]
    rcases lt_or_gt_of_ne hm with hn | hp
    · rw [varK_top z e ⊥ (by rw [h2, EReal.bot_mul_coe_of_neg hn, EReal.top_mul_coe_of_neg hn]),
        varR_top z e ⊥ fun y => by rw [EReal.bot_mul_coe_of_neg hn, EReal.sub_top, EReal.bot_mul_bot]]
      exact mul_rsqrt_top x
    · rw [varK_top z e ⊥ (by rw [h2, EReal.bot_mul_coe_of_pos hp, EReal.bot_mul_coe_of_pos hp]),
        varR_top z e ⊥ fun y => by rw [EReal.bot_mul_coe_of_pos hp, EReal.coe_sub_bot, EReal.top_mul_top]]
      exact mul_rsqrt_top x
  | top =>
    have h2 : (((2 : ℝ) : EReal) - ⊤) * ⊤ = ⊥ := by rw [EReal.sub_top, EReal.bot_mul_top]
    rcases lt_or_gt_of_ne hm with hn | hp
    · rw [varK_top z e ⊤ (by rw [h2, EReal.bot_mul_coe_of_neg hn, EReal.top_mul_coe_of_neg hn]),
        varR_top z e ⊤ fun y => by rw [EReal.top_mul_coe_of_neg hn, EReal.coe_sub_bot, EReal.top_mul_top]]
      exact mul_rsqrt_top x
    · rw [varK_top z e ⊤ (by rw [h2, EReal.bot_mul_coe_of_pos hp, EReal.bot_mul_coe_of_pos hp]),
        varR_top z e ⊤ fun y => by rw [EReal.top_mul_coe_of_pos hp, EReal.sub_top, EReal.bot_mul_bot]]
      exact mul_rsqrt_top x

end Column

/-! ## The constants -/

theorem bits_zero : Ideal.ofBits .f32 0x00000000#32 = 0 := by simp [Ideal.ofBits, Ideal.ieee]
theorem bits_two : Ideal.ofBits .f32 0x40000000#32 = ((2 : ℝ) : EReal) := by
  simp [Ideal.ofBits, Ideal.ieee, -EReal.coe_mul]; norm_num
theorem bits_n : Ideal.ofBits .f32 0x461C4000#32 = ((10000 : ℝ) : EReal) := by
  simp [Ideal.ofBits, Ideal.ieee, -EReal.coe_mul]; norm_num
theorem bits_eps : Ideal.ofBits .f32 0x3727C5AC#32 = ((10995116 / 2 ^ 40 : ℝ) : EReal) := by
  simp [Ideal.ofBits, Ideal.ieee, -EReal.coe_mul]; norm_num

end Cert.Proof.Norm
-- ==== Proof.NormValue.lean ====
/-
  The normalisation's output after the run, row block by row block: where the sums it is given are the linear map's, it
  is what the reference leaves.
-/
module

public import proofs.«01_k».proof.Proof.NormMath
public import proofs.«01_k».proof.Proof.Gen.NormIdeal.Value
public import proofs.«01_k».proof.Proof.Gen.NormReferenceIdeal.Run
public import proofs.«01_k».proof.Proof.Gen.NormReferenceIdeal.Read
public import proofs.«01_k».proof.Proof.Gen.Pre_sums
public import Idealize.ShloMosaic.Lib.ReduceAll
public import Idealize.ShloMosaic.Lib.IdealHost
public import Idealize.ShloMosaic.Lib.StableHlo.Run
public import Idealize.ShloMosaic.Lib.Tactic

@[expose] public section

noncomputable section

namespace Cert.Proof.Norm

open Idealize.ShloMosaic Idealize.ShloMosaic.TcCoe Idealize.SL.Sem Idealize.ShloMosaic.ValueIdx
open Idealize.ShloMosaic.Pipeline (Dat)
open scoped BigOperators

/-! ## What the precondition says -/

section Pre
open Cert.Pre_sums Cert.Pre_sums.Facts

/-- The entries are reals, and the two rows are the column sums. -/
structure SumsOK (z : FVec Ideal S10000x128 .f32) (s q : FVec Ideal S1x128 .f32) : Prop where
  real : ∀ i, z i ≠ ⊤ ∧ z i ≠ ⊥
  sum : ∀ l : Fin 128, s (ix2 0 l) = ∑ r : Fin 10000, z (ix2 r l)
  sumsq : ∀ l : Fin 128, q (ix2 0 l) = ∑ r : Fin 10000, z (ix2 r l) * z (ix2 r l)

theorem posInf : Ideal.ofBits .f32 0x7F800000#32 = ⊤ := by simp [Ideal.ofBits, Ideal.ieee]

theorem real_of_finite (a : EReal) (h : FloatOps.cmpf (F := Ideal) (φ := .f32) .olt (FloatOps.hostAbsf (F := Ideal) (φ := .f32) a) (FloatOps.ofBits .f32 0x7F800000#32) = 1#1) : a ≠ ⊤ ∧ a ≠ ⊥ := by
  have h1 : Ideal.cmp .olt (max a (-a)) (Ideal.ofBits .f32 0x7F800000#32) = 1#1 := h
  rw [posInf] at h1
  constructor
  · rintro rfl; simp [Ideal.cmp] at h1
  · rintro rfl; simp [Ideal.cmp] at h1

theorem eq_of_oeq (a b : EReal) (h : FloatOps.cmpf (F := Ideal) (φ := .f32) .oeq a b = 1#1) : a = b := by
  have h1 : Ideal.cmp .oeq a b = 1#1 := h
  by_contra h2
  simp [Ideal.cmp, h2] at h1

theorem andi_one (a b : BitVec 1) (h : IntOp.andi a b = 1#1) : a = 1#1 ∧ b = 1#1 := by
  revert h
  unfold IntOp.andi
  have := a.isLt
  have := b.isLt
  revert a b
  decide

/-- A column's sum, as the host takes it, at its place in the row. -/
theorem colSum_apply (x : FVec Ideal S10000x128 .f32) (l : Fin 128) :
    broadcastInDim S1x128 ![1] bcast_S128_S1x128_1 (Host.reduceAdd x (constant S_ .f32 0x00000000#32) reducesTo_S10000x128_S128_d0 h_S_) (ix2 0 l)
      = ∑ r : Fin 10000, x (ix2 r l) := by
  rw [broadcastInDim_apply _ bcast_S128_S1x128_1 _ (ix2 0 l) (ix1 l) (fun a => match a with
    | ⟨0, _⟩ => by show l.val = if (128 : Nat) = 1 then 0 else l.val; rw [if_neg (by decide)])]
  simp only [Host.reduceAdd, Ideal.hostReduceAdd_def]
  rw [Ideal.hostReduceAdd_single reducesTo_S10000x128_S128_d0 (by decide)]
  refine (congrArg (· + _) bits_zero).trans ((zero_add _).trans (Finset.sum_congr rfl fun k _ => ?_))
  exact congrArg x (funext fun a => Fin.ext (by match a with | ⟨0, _⟩ => rfl | ⟨1, _⟩ => rfl))

theorem sums_of_pre (z : FVec Ideal S10000x128 .f32) (s q : FVec Ideal S1x128 .f32) (w b ms : FVec Ideal S128 .f32)
    (h : Cert.Pre_sums.fn (F := Ideal) z s q w b ms = fun _ => 1#1) : SumsOK z s q := by
  haveI : Subsingleton S_.Idx := ⟨fun a b => funext fun x => x.elim0⟩
  have e := congrFun h ix0
  unfold Cert.Pre_sums.fn at e
  obtain ⟨e1, e2⟩ := andi_one _ _ e
  obtain ⟨e3, e4⟩ := andi_one _ _ e1
  refine ⟨fun i => real_of_finite _ (Host.reduce_andi_all _ _ _ _ _ e3 i), fun l => ?_, fun l => ?_⟩
  · exact (eq_of_oeq _ _ (Host.reduce_andi_all _ _ _ _ _ e4 (ix2 0 l))).trans (colSum_apply z l)
  · exact (eq_of_oeq _ _ (Host.reduce_andi_all _ _ _ _ _ e2 (ix2 0 l))).trans (colSum_apply (mulf z z) l)

end Pre

/-! ## One entry, both ways -/

section Entry

/-- An entry as the kernel computes it, from its column's sums. -/
def entK (z s q w b ms : EReal) : EReal :=
  max (w * (z - ms * (s * ((1 / 10000 : ℝ) : EReal)))
    * Ideal.rsqrt (q * ((1 / 10000 : ℝ) : EReal) - (((2 : ℝ) : EReal) - ms) * ms * (s * ((1 / 10000 : ℝ) : EReal)) * (s * ((1 / 10000 : ℝ) : EReal)) + ((10995116 / 2 ^ 40 : ℝ) : EReal)) + b) 0

/-- An entry as the reference has it, from its column. -/
def entR (z : Fin 10000 → EReal) (r : Fin 10000) (w b ms : EReal) : EReal :=
  max (Ideal.div (w * (z r - ms * ((∑ i, z i) * ((1 / 10000 : ℝ) : EReal))))
    (Ideal.sqrt ((∑ i, (z i - ms * ((∑ i, z i) * ((1 / 10000 : ℝ) : EReal))) * (z i - ms * ((∑ i, z i) * ((1 / 10000 : ℝ) : EReal)))) * ((1 / 10000 : ℝ) : EReal)
      + ((10995116 / 2 ^ 40 : ℝ) : EReal))) + b) 0

theorem ent_eq (z : Fin 10000 → EReal) (hz : ∀ i, z i ≠ ⊤ ∧ z i ≠ ⊥) (r : Fin 10000) (w b ms : EReal) :
    entK (z r) (∑ i, z i) (∑ i, z i * z i) w b ms = entR z r w b ms := by
  obtain ⟨y, rfl⟩ : ∃ y : Fin 10000 → ℝ, z = fun i => (y i : EReal) :=
    ⟨fun i => (z i).toReal, funext fun i => (EReal.coe_toReal (hz i).1 (hz i).2).symm⟩
  unfold entK entR
  dsimp only
  rw [mean_coe y]
  exact congrArg (fun t => max (t + b) 0) (scaled y _ (by positivity) _ ms)

end Entry

/-! ## The reference's entry -/

section Ref
open Cert.NormReferenceIdeal Cert.NormReferenceIdeal.Gen Cert.NormReferenceIdeal.Read

variable (x0 : FVec Ideal S10000x128 .f32) (x3 x4 x5 : FVec Ideal S128 .f32)

theorem div_n (a : EReal) : Ideal.div a ((10000 : ℝ) : EReal) = a * ((1 / 10000 : ℝ) : EReal) := Ideal.div_coe (by norm_num) a

theorem ref_mean (l : Fin 128) : val_main_v3 (F := Ideal) x0 (ix2 0 l) = (∑ r : Fin 10000, x0 (ix2 r l)) * ((1 / 10000 : ℝ) : EReal) := by
  have hs : ∑ r : Fin 10000, x0 (idx_main_v0 (idx_main_v1 (ix2 0 l)) r) = ∑ r : Fin 10000, x0 (ix2 r l) :=
    Finset.sum_congr rfl fun r _ => congrArg x0 (funext fun a => match a with
      | ⟨0, _⟩ => rfl
      | ⟨1, _⟩ => rfl)
  rw [val_main_v3_apply, val_main_v1_apply, val_main_v0_apply, hs, val_main_v2_apply, val_main_cst_0_apply, val_main_cst_apply]
  show Ideal.div (Ideal.ofBits .f32 0x00000000#32 + _) (Ideal.ofBits .f32 0x461C4000#32) = _
  rw [bits_zero, bits_n, zero_add, div_n]

theorem ref_out (r : Fin 10000) (l : Fin 128) :
    val_main_v7 (F := Ideal) x0 x5 (ix2 r l) = x0 (ix2 r l) - x5 (ix1 l) * ((∑ r : Fin 10000, x0 (ix2 r l)) * ((1 / 10000 : ℝ) : EReal)) := by
  have e1 : idx_main_v6 (ix2 r l) = ix2 0 l := by
    funext a
    match a with
    | ⟨0, _⟩ => rfl
    | ⟨1, _⟩ => rfl
  have e2 : idx_main_v4 (ix2 0 l) = ix1 l := by
    funext a
    match a with
    | ⟨0, _⟩ => rfl
  rw [val_main_v7_apply, val_main_v6_apply, e1, val_main_v5_apply, ref_mean, val_main_v4_apply, e2]
  rfl

theorem ref_root (l : Fin 128) :
    val_main_v18 (F := Ideal) x0 x5 (ix2 0 l)
      = Ideal.sqrt ((∑ r : Fin 10000, val_main_v7 (F := Ideal) x0 x5 (ix2 r l) * val_main_v7 (F := Ideal) x0 x5 (ix2 r l)) * ((1 / 10000 : ℝ) : EReal)
          + ((10995116 / 2 ^ 40 : ℝ) : EReal)) := by
  have hs : ∑ r : Fin 10000, val_main_v8 (F := Ideal) x0 x5 (idx_main_v9 (idx_main_v10 (ix2 0 l)) r)
      = ∑ r : Fin 10000, val_main_v7 (F := Ideal) x0 x5 (ix2 r l) * val_main_v7 (F := Ideal) x0 x5 (ix2 r l) :=
    Finset.sum_congr rfl fun r _ => by
      have e1 : idx_main_v9 (idx_main_v10 (ix2 0 l)) r = ix2 r l := by
        funext a
        match a with
        | ⟨0, _⟩ => rfl
        | ⟨1, _⟩ => rfl
      rw [e1, val_main_v8_apply]
      rfl
  rw [val_main_v18_apply, val_main_v17_apply, val_main_v12_apply, val_main_v10_apply, val_main_v9_apply, hs, val_main_v11_apply, val_main_cst_2_apply,
    val_main_cst_1_apply, val_main_v16_apply, val_main_cst_3_apply]
  show Ideal.sqrt (Ideal.div (Ideal.ofBits .f32 0x00000000#32 + _) (Ideal.ofBits .f32 0x461C4000#32) + Ideal.ofBits .f32 0x3727C5AC#32) = _
  rw [bits_zero, bits_n, bits_eps, zero_add, div_n]

theorem ref_entry (r : Fin 10000) (l : Fin 128) :
    val_main_v25 (F := Ideal) x0 x3 x4 x5 (ix2 r l) = entR (fun i => x0 (ix2 i l)) r (x3 (ix1 l)) (x4 (ix1 l)) (x5 (ix1 l)) := by
  have e1 : idx_main_v19 (ix2 r l) = ix2 0 l := by
    funext a
    match a with
    | ⟨0, _⟩ => rfl
    | ⟨1, _⟩ => rfl
  have e2 : idx_main_v13 (idx_main_v14 (ix2 r l)) = ix1 l := by
    funext a
    match a with
    | ⟨0, _⟩ => rfl
  have e3 : idx_main_v21 (idx_main_v22 (ix2 r l)) = ix1 l := by
    funext a
    match a with
    | ⟨0, _⟩ => rfl
  rw [val_main_v25_apply, val_main_v23_apply, val_main_v20_apply, val_main_v15_apply, val_main_v14_apply, val_main_v13_apply, e2, val_main_v19_apply, e1,
    ref_root, val_main_v22_apply, val_main_v21_apply, e3, val_main_v24_apply, val_main_cst_4_apply]
  simp only [ref_out]
  show max (Ideal.div _ _ + _) (Ideal.ofBits .f32 0x00000000#32) = _
  rw [bits_zero]
  rfl

end Ref

/-! ## The kernel's blocks and its final array -/

section Kernel
open Cert.NormIdeal Cert.NormIdeal.Gen

variable (m : (ℓ : Loc nD τ sig) → Buf (Elt Ideal) ℓ) (c : Dev nD)

abbrev argZ : FVec Ideal S10000x128 .f32 := m (c.tc.loc main_arg0)
abbrev argS : FVec Ideal S1x128 .f32 := m (c.tc.loc main_arg1)
abbrev argQ : FVec Ideal S1x128 .f32 := m (c.tc.loc main_arg2)
abbrev argW : FVec Ideal S128 .f32 := m (c.tc.loc main_arg3)
abbrev argB : FVec Ideal S128 .f32 := m (c.tc.loc main_arg4)
abbrev argMs : FVec Ideal S128 .f32 := m (c.tc.loc main_arg5)

theorem point_lt (t : Fin cfg0.N) : t.val < 5 := lt_of_lt_of_eq t.isLt (show cfg0.N = 5 from N_0)

/-- Row `r` of the block at point `t`. -/
def rowAt (t : Fin cfg0.N) (r : Fin 2000) : Fin 10000 := ⟨2000 * t.val + r.val, by have := point_lt t; have := r.isLt; omega⟩

theorem blk_z (t : Fin cfg0.N) (r : Fin 2000) (k : Fin 128) : (iblk m c 0 t : FVec Ideal S2000x128 .f32) (ix2 r k) = argZ m c (ix2 (rowAt t r) k) := by
  have hi : win0_0.index t 0 = t.val ∧ win0_0.index t 1 = 0 := by rcases fin_N0 t with rfl | rfl | rfl | rfl | rfl <;> decide
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2000 + 1 * r.val = 2000 * t.val + r.val; rw [hi.1]; omega
  | ⟨1, _⟩ => show win0_0.index t 1 * 128 + 1 * k.val = k.val; rw [hi.2]; omega

theorem blk_s (t : Fin cfg0.N) (l : Fin 128) : (iblk m c 1 t : FVec Ideal S1x128 .f32) (ix2 0 l) = argS m c (ix2 0 l) := by
  have hi : win0_1.index t 0 = 0 ∧ win0_1.index t 1 = 0 := by rcases fin_N0 t with rfl | rfl | rfl | rfl | rfl <;> decide
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 1 + 1 * 0 = 0; rw [hi.1]
  | ⟨1, _⟩ => show win0_1.index t 1 * 128 + 1 * l.val = l.val; rw [hi.2]; omega

theorem blk_q (t : Fin cfg0.N) (l : Fin 128) : (iblk m c 2 t : FVec Ideal S1x128 .f32) (ix2 0 l) = argQ m c (ix2 0 l) := by
  have hi : win0_2.index t 0 = 0 ∧ win0_2.index t 1 = 0 := by rcases fin_N0 t with rfl | rfl | rfl | rfl | rfl <;> decide
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 1 + 1 * 0 = 0; rw [hi.1]
  | ⟨1, _⟩ => show win0_2.index t 1 * 128 + 1 * l.val = l.val; rw [hi.2]; omega

/-- The three parameter rows the region finds: each parameter with a unit axis before it. -/
theorem V_w : (V m c main_v0 : FVec Ideal S1x128 .f32) = shapeCast S1x128 (argW m c) shapeCasts_S128_S1x128 := by
  show StableHlo.after hostOps0 (fun b => m (c, b)) main_v0 = _
  unfold hostOps0
  after_results
  rfl
theorem V_b : (V m c main_v1 : FVec Ideal S1x128 .f32) = shapeCast S1x128 (argB m c) shapeCasts_S128_S1x128 := by
  show StableHlo.after hostOps0 (fun b => m (c, b)) main_v1 = _
  unfold hostOps0
  after_results
  rfl
theorem V_ms : (V m c main_v2 : FVec Ideal S1x128 .f32) = shapeCast S1x128 (argMs m c) shapeCasts_S128_S1x128 := by
  show StableHlo.after hostOps0 (fun b => m (c, b)) main_v2 = _
  unfold hostOps0
  after_results
  rfl

theorem row_apply (x : FVec Ideal S128 .f32) (l : Fin 128) : shapeCast S1x128 x shapeCasts_S128_S1x128 (ix2 0 l) = x (ix1 l) := by
  refine (shapeCast_addUnit_apply ![128] x shapeCasts_S128_S1x128 (ix2 0 l)).trans (congrArg x ?_)
  funext a
  match a with
  | ⟨0, _⟩ => rfl

theorem blk_w (t : Fin cfg0.N) (l : Fin 128) : (iblk m c 3 t : FVec Ideal S1x128 .f32) (ix2 0 l) = argW m c (ix1 l) := by
  have hi : win0_3.index t 0 = 0 ∧ win0_3.index t 1 = 0 := by rcases fin_N0 t with rfl | rfl | rfl | rfl | rfl <;> decide
  have hj : (iblk m c 3 t : FVec Ideal S1x128 .f32) (ix2 0 l) = (V m c main_v0 : FVec Ideal S1x128 .f32) (ix2 0 l) := by
    unfold iblk
    rw [View.read_apply]
    refine congrArg (V m c main_v0) ?_
    funext a
    apply Fin.ext
    match a with
    | ⟨0, _⟩ => show win0_3.index t 0 * 1 + 1 * 0 = 0; rw [hi.1]
    | ⟨1, _⟩ => show win0_3.index t 1 * 128 + 1 * l.val = l.val; rw [hi.2]; omega
  rw [hj, V_w, row_apply]

theorem blk_b (t : Fin cfg0.N) (l : Fin 128) : (iblk m c 4 t : FVec Ideal S1x128 .f32) (ix2 0 l) = argB m c (ix1 l) := by
  have hi : win0_4.index t 0 = 0 ∧ win0_4.index t 1 = 0 := by rcases fin_N0 t with rfl | rfl | rfl | rfl | rfl <;> decide
  have hj : (iblk m c 4 t : FVec Ideal S1x128 .f32) (ix2 0 l) = (V m c main_v1 : FVec Ideal S1x128 .f32) (ix2 0 l) := by
    unfold iblk
    rw [View.read_apply]
    refine congrArg (V m c main_v1) ?_
    funext a
    apply Fin.ext
    match a with
    | ⟨0, _⟩ => show win0_4.index t 0 * 1 + 1 * 0 = 0; rw [hi.1]
    | ⟨1, _⟩ => show win0_4.index t 1 * 128 + 1 * l.val = l.val; rw [hi.2]; omega
  rw [hj, V_b, row_apply]

theorem blk_ms (t : Fin cfg0.N) (l : Fin 128) : (iblk m c 5 t : FVec Ideal S1x128 .f32) (ix2 0 l) = argMs m c (ix1 l) := by
  have hi : win0_5.index t 0 = 0 ∧ win0_5.index t 1 = 0 := by rcases fin_N0 t with rfl | rfl | rfl | rfl | rfl <;> decide
  have hj : (iblk m c 5 t : FVec Ideal S1x128 .f32) (ix2 0 l) = (V m c main_v2 : FVec Ideal S1x128 .f32) (ix2 0 l) := by
    unfold iblk
    rw [View.read_apply]
    refine congrArg (V m c main_v2) ?_
    funext a
    apply Fin.ext
    match a with
    | ⟨0, _⟩ => show win0_5.index t 0 * 1 + 1 * 0 = 0; rw [hi.1]
    | ⟨1, _⟩ => show win0_5.index t 1 * 128 + 1 * l.val = l.val; rw [hi.2]; omega
  rw [hj, V_ms, row_apply]

theorem inv_n : Named.named (F := Ideal) κ "inv_n" (φ := .f32) 0x38D1B717#32 = ((1 / 10000 : ℝ) : EReal) :=
  IdealRules.named_const.ideal_named_scalar _ _ _ _ rfl

/-- One entry of what the body leaves in the block, from the values it loads. -/
theorem body_entry (P0 : FVec Ideal S1x128 .f32) (P1 : FVec Ideal S2000x128 .f32) (P2 P3 P4 P5 : FVec Ideal S1x128 .f32) (r : Fin 2000) (l : Fin 128) :
    (Cert.NormIdeal.Value.E6 (F := Ideal) P0 P1 P2 P3 P4 P5 : FVec Ideal S2000x128 .f32) (ix2 r l)
      = entK (P1 (ix2 r l)) (P3 (ix2 0 l)) (P4 (ix2 0 l)) (P0 (ix2 0 l)) (P5 (ix2 0 l)) (P2 (ix2 0 l)) := by
  have e1 : Cert.NormIdeal.Value.ix6_0 (ix2 r l) = ix2 0 l := by
    funext a
    match a with
    | ⟨0, _⟩ => rfl
    | ⟨1, _⟩ => rfl
  have e2 : Cert.NormIdeal.Value.ix6_1 (ix2 r l) = ix2 r l := by
    funext a
    match a with
    | ⟨0, _⟩ => rfl
    | ⟨1, _⟩ => rfl
  show FloatOps.maximumf (FloatOps.addf (FloatOps.mulf (FloatOps.mulf (P0 (Cert.NormIdeal.Value.ix6_0 (ix2 r l))) (FloatOps.subf (P1 (Cert.NormIdeal.Value.ix6_1 (ix2 r l))) (FloatOps.mulf (P2 (Cert.NormIdeal.Value.ix6_0 (ix2 r l))) (FloatOps.mulf (P3 (Cert.NormIdeal.Value.ix6_0 (ix2 r l))) (Named.named κ "inv_n" 0x38D1B717#32))))) (FloatOps.rsqrt (FloatOps.addf (FloatOps.subf (FloatOps.mulf (P4 (Cert.NormIdeal.Value.ix6_0 (ix2 r l))) (Named.named κ "inv_n" 0x38D1B717#32)) (FloatOps.mulf (FloatOps.mulf (FloatOps.mulf (FloatOps.subf (Scalar.ofBits .f32 0x40000000#32) (P2 (Cert.NormIdeal.Value.ix6_0 (ix2 r l)))) (P2 (Cert.NormIdeal.Value.ix6_0 (ix2 r l)))) (FloatOps.mulf (P3 (Cert.NormIdeal.Value.ix6_0 (ix2 r l))) (Named.named κ "inv_n" 0x38D1B717#32))) (FloatOps.mulf (P3 (Cert.NormIdeal.Value.ix6_0 (ix2 r l))) (Named.named κ "inv_n" 0x38D1B717#32)))) (Scalar.ofBits .f32 0x3727C5AC#32)))) (P5 (Cert.NormIdeal.Value.ix6_0 (ix2 r l)))) (Scalar.ofBits .f32 0x00000000#32) = _
  rw [e1, e2, inv_n]
  show max (_ * (_ - _ * (_ * _)) * Ideal.rsqrt (_ * _ - (Ideal.ofBits .f32 0x40000000#32 - _) * _ * (_ * _) * (_ * _) + Ideal.ofBits .f32 0x3727C5AC#32) + _) (Ideal.ofBits .f32 0x00000000#32) = _
  rw [bits_two, bits_eps, bits_zero]
  rfl

theorem hz : (![0, 0] : Fin 2 → Nat) = fun _ => 0 := funext fun a => by fin_cases a <;> rfl

abbrev resH : FVec Ideal S10000x128 .f32 := Cert.NormReferenceIdeal.Read.val_main_v25 (F := Ideal) (argZ m c) (argW m c) (argB m c) (argMs m c)

variable (hok : SumsOK (argZ m c) (argS m c) (argQ m c))
include hok

theorem out_entry (t : Fin cfg0.N) (r : Fin 2000) (l : Fin 128) :
    out0_6 (F := Ideal) (iblk m c 0 t) (iblk m c 1 t) (iblk m c 2 t) (iblk m c 3 t) (iblk m c 4 t) (iblk m c 5 t) (ix2 r l) = resH m c (ix2 (rowAt t r) l) := by
  unfold out0_6
  simp only [View.ld_unit_zero (S := S2000x128) hz, View.ld_unit_zero (S := S1x128) hz]
  refine (Cert.NormIdeal.Value.canon6_eq _ _ _ _ _ _ (ix2 r l)).trans ((body_entry _ _ _ _ _ _ r l).trans ?_)
  rw [blk_z m c t r l, blk_s m c t l, blk_q m c t l, blk_w m c t l, blk_b m c t l, blk_ms m c t l]
  rw [hok.sum, hok.sumsq]
  exact (ent_eq (fun i => argZ m c (ix2 i l)) (fun i => hok.real _) (rowAt t r) _ _ _).trans
    (ref_entry (argZ m c) (argW m c) (argB m c) (argMs m c) (rowAt t r) l).symm

theorem flushed_h (t : Fin cfg0.N) (_ : (cfg0.win 6).flush t = true) :
    (dats m 0 c).flushed 6 t = ((cfg0.win 6).blk t).view.read (Elt Ideal) (resH m c) := by
  have hi : win0_6.index t 0 = t.val ∧ win0_6.index t 1 = 0 := by rcases fin_N0 t with rfl | rfl | rfl | rfl | rfl <;> decide
  rw [Cert.NormIdeal.Value.flushed6]
  funext j
  rw [View.read_apply]
  show out0_6 (F := Ideal) (iblk m c 0 t) (iblk m c 1 t) (iblk m c 2 t) (iblk m c 3 t) (iblk m c 4 t) (iblk m c 5 t) j = _
  obtain ⟨r, l, rfl⟩ : ∃ (r : Fin 2000) (l : Fin 128), j = ix2 r l := ⟨j 0, j 1, eq_ix2 j⟩
  rw [out_entry m c hok]
  refine congrArg (resH m c) ?_
  funext a
  apply Fin.ext
  match a with
  | ⟨0, _⟩ => show 2000 * t.val + r.val = win0_6.index t 0 * 2000 + 1 * r.val; rw [hi.1]; omega
  | ⟨1, _⟩ => show l.val = win0_6.index t 1 * 128 + 1 * l.val; rw [hi.2]; omega

theorem final_h : (dats m 0 c).arrAt 6 cfg0.N = resH m c :=
  (dats m 0 c).arrAt_eq_of_cover 6 (resH m c) (flushed_h m c hok) fun i => by
    have hi0 : (i 0 : Nat) < 10000 := (i 0).isLt
    have hi1 : (i 1 : Nat) < 128 := (i 1).isLt
    obtain ⟨t, ht⟩ : ∃ t : Fin cfg0.N, t.val = (i 0 : Nat) / 2000 := ⟨⟨(i 0 : Nat) / 2000, by rw [show cfg0.N = 5 from N_0]; omega⟩, rfl⟩
    have hx : win0_6.index t 0 = t.val ∧ win0_6.index t 1 = 0 ∧ win0_6.xsize (grid0.coords t) 0 = 2000 ∧ win0_6.xsize (grid0.coords t) 1 = 128 := by
      rcases fin_N0 t with rfl | rfl | rfl | rfl | rfl <;> decide +kernel
    refine ⟨t, flush0_6 t, ?_⟩
    show i ∈ ((View.whole main_v3).slice (win0_6.rect t)).set
    rw [View.set_slice_whole, Rect.mem_set_unit]
    intro a
    match a with
    | ⟨0, _⟩ =>
      show win0_6.index t 0 * 2000 ≤ (i 0 : Nat) ∧ (i 0 : Nat) < win0_6.index t 0 * 2000 + win0_6.xsize (grid0.coords t) 0
      rw [hx.1, hx.2.2.1]; omega
    | ⟨1, _⟩ =>
      show win0_6.index t 1 * 128 ≤ (i 1 : Nat) ∧ (i 1 : Nat) < win0_6.index t 1 * 128 + win0_6.xsize (grid0.coords t) 1
      rw [hx.2.1, hx.2.2.2]; omega

end Kernel

end Cert.Proof.Norm
-- ==== Proof.HeadValue.lean ====
/-
  The head's output after the run, row block by row block: where the sums it is given are the linear map's, every column
  of it is what the reference leaves.
-/
module

public import proofs.«01_k».proof.Proof.NormValue
public import proofs.«01_k».proof.Proof.Gen.HeadIdeal.Value
public import proofs.«01_k».proof.Proof.Gen.HeadReferenceIdeal.Run
public import proofs.«01_k».proof.Proof.Gen.HeadReferenceIdeal.Read
public import proofs.«01_k».proof.Proof.Gen.Pre_head_sums
public import Idealize.ShloMosaic.Lib.Pipeline.Value
public import Idealize.ShloMosaic.Lib.MatmulPlain
public import Idealize.ShloMosaic.Lib.ValueIdx

@[expose] public section

noncomputable section

namespace Cert.Proof.Head

open Idealize.ShloMosaic Idealize.ShloMosaic.TcCoe Idealize.SL.Sem Idealize.ShloMosaic.ValueIdx
open Idealize.ShloMosaic.Pipeline (Dat)
open Cert.Proof.Norm (SumsOK entK entR ent_eq ref_entry bits_zero body_entry hz)
open scoped BigOperators

/-- One entry of the head: two linear maps with a maximum with zero between them, from a row of features, then the
    logistic function, a hundred times. -/
def headE (f h : Fin 128 → EReal) (W1 : Fin 64 → Fin 128 → EReal) (b1 w2 : Fin 64 → EReal) (b2 : EReal) : EReal :=
  Ideal.logistic ((∑ k : Fin 64, max ((∑ j : Fin 128, (f j + h j) * W1 k j) + b1 k) 0 * w2 k) + b2) * Ideal.ofBits .f32 0x42C80000#32

/-- What the precondition says: the entries are reals, and the two rows are the column sums. -/
theorem sums_of_pre (z : FVec Ideal Cert.Pre_head_sums.S10000x128 .f32) (s q : FVec Ideal Cert.Pre_head_sums.S1x128 .f32) (w b ms : FVec Ideal Cert.Pre_head_sums.S128 .f32)
    (h1 : FVec Ideal Cert.Pre_head_sums.S10000x128 .f32) (W1 : FVec Ideal Cert.Pre_head_sums.S64x128 .f32) (b1 : FVec Ideal Cert.Pre_head_sums.S64 .f32) (W2 : FVec Ideal Cert.Pre_head_sums.S1x64 .f32) (b2 : FVec Ideal Cert.Pre_head_sums.S1 .f32)
    (h : Cert.Pre_head_sums.fn (F := Ideal) z s q w b ms h1 W1 b1 W2 b2 = fun _ => 1#1) : SumsOK z s q :=
  Cert.Proof.Norm.sums_of_pre z s q w b ms h

/-! ## The reference's entry -/

section Ref
open Cert.HeadReferenceIdeal Cert.HeadReferenceIdeal.Gen Cert.HeadReferenceIdeal.Read

variable (x0 : FVec Ideal S10000x128 .f32) (x3 x4 x5 : FVec Ideal S128 .f32) (x6 : FVec Ideal S10000x128 .f32) (x7 : FVec Ideal S64x128 .f32)
  (x8 : FVec Ideal S64 .f32) (x9 : FVec Ideal S1x64 .f32) (x10 : FVec Ideal S1 .f32)

theorem one_bits : Ideal.ofBits .f32 0x3F800000#32 = 1 := by
  simp [Ideal.ofBits, Ideal.ieee, -EReal.coe_mul]; norm_num

/-- The logistic function, spelt out in the host's operations. -/
theorem logit_apply (s b : EReal) :
    FloatOps.mulf (F := Ideal) (φ := .f32) (FloatOps.hostDivf (F := Ideal) (φ := .f32) (FloatOps.ofBits .f32 0x3F800000#32) (FloatOps.addf (F := Ideal) (φ := .f32) (FloatOps.ofBits .f32 0x3F800000#32)
      (FloatOps.hostUnary (F := Ideal) (φ := .f32) .exp (FloatOps.hostNegf (F := Ideal) (φ := .f32) (FloatOps.addf (F := Ideal) (φ := .f32) s b))))) (FloatOps.ofBits .f32 0x42C80000#32)
      = Ideal.logistic (s + b) * Ideal.ofBits .f32 0x42C80000#32 := by
  show Ideal.div (Ideal.ofBits .f32 0x3F800000#32) (Ideal.ofBits .f32 0x3F800000#32 + Ideal.exp (-(s + b))) * Ideal.ofBits .f32 0x42C80000#32 = _
  rw [one_bits]
  rfl

theorem norm_same : val_main_v25 (F := Ideal) x0 x3 x4 x5 = Cert.NormReferenceIdeal.Read.val_main_v25 (F := Ideal) x0 x3 x4 x5 := rfl

theorem ref_feat (r : Fin 10000) (j : Fin 128) :
    val_main_v26 (F := Ideal) x0 x3 x4 x5 x6 (ix2 r j) = entR (fun i => x0 (ix2 i j)) r (x3 (ix1 j)) (x4 (ix1 j)) (x5 (ix1 j)) + x6 (ix2 r j) := by
  rw [val_main_v26_apply, norm_same, ref_entry]
  rfl

theorem ref_lin (r : Fin 10000) (k : Fin 64) :
    val_main_v33 (F := Ideal) x0 x3 x4 x5 x6 x7 x8 (ix2 r k)
      = max ((∑ j : Fin 128, (entR (fun i => x0 (ix2 i j)) r (x3 (ix1 j)) (x4 (ix1 j)) (x5 (ix1 j)) + x6 (ix2 r j)) * x7 (ix2 k j)) + x8 (ix1 k)) 0 := by
  have hs : (∑ j : Fin 128, (val_main_v26 (F := Ideal) x0 x3 x4 x5 x6) (lidx_main_v28 (ix2 r k) j) * (val_main_v27 (F := Ideal) x7) (ridx_main_v28 (ix2 r k) j))
      = ∑ j : Fin 128, (entR (fun i => x0 (ix2 i j)) r (x3 (ix1 j)) (x4 (ix1 j)) (x5 (ix1 j)) + x6 (ix2 r j)) * x7 (ix2 k j) := by
    refine Finset.sum_congr rfl fun j _ => ?_
    have e1 : lidx_main_v28 (ix2 r k) j = ix2 r j := by
      funext a; match a with | ⟨0, _⟩ => rfl | ⟨1, _⟩ => rfl
    have e2 : idx_main_v27 (ridx_main_v28 (ix2 r k) j) = ix2 k j := by
      funext a; match a with | ⟨0, _⟩ => rfl | ⟨1, _⟩ => rfl
    rw [e1, ref_feat, val_main_v27_apply, e2]
  have e3 : idx_main_v29 (idx_main_v30 (ix2 r k)) = ix1 k := by
    funext a; match a with | ⟨0, _⟩ => rfl
  rw [val_main_v33_apply, val_main_v31_apply, val_main_v28_apply, hs, val_main_v30_apply, val_main_v29_apply, e3, val_main_v32_apply, val_main_cst_5_apply]
  exact congrArg (max _) bits_zero

theorem ref_head (r : Fin 10000) (l : Fin 8) :
    val_main_v47 (F := Ideal) x0 x3 x4 x5 x6 x7 x8 x9 x10 (ix2 r l)
      = headE (fun j => entR (fun i => x0 (ix2 i j)) r (x3 (ix1 j)) (x4 (ix1 j)) (x5 (ix1 j))) (fun j => x6 (ix2 r j)) (fun k j => x7 (ix2 k j)) (fun k => x8 (ix1 k))
          (fun k => x9 (ix2 0 k)) (x10 (ix1 0)) := by
  have e0 : idx_main_v47 (ix2 r l) = ix2 r 0 := by
    funext a; match a with | ⟨0, _⟩ => rfl | ⟨1, _⟩ => rfl
  have hs : (∑ k : Fin 64, (val_main_v33 (F := Ideal) x0 x3 x4 x5 x6 x7 x8) (lidx_main_v35 (ix2 r 0) k) * (val_main_v34 (F := Ideal) x9) (ridx_main_v35 (ix2 r 0) k))
      = ∑ k : Fin 64, max ((∑ j : Fin 128, (entR (fun i => x0 (ix2 i j)) r (x3 (ix1 j)) (x4 (ix1 j)) (x5 (ix1 j)) + x6 (ix2 r j)) * x7 (ix2 k j)) + x8 (ix1 k)) 0 * x9 (ix2 0 k) := by
    refine Finset.sum_congr rfl fun k _ => ?_
    have e1 : lidx_main_v35 (ix2 r 0) k = ix2 r k := by
      funext a; match a with | ⟨0, _⟩ => rfl | ⟨1, _⟩ => rfl
    have e2 : idx_main_v34 (ridx_main_v35 (ix2 r 0) k) = ix2 0 k := by
      funext a; match a with | ⟨0, _⟩ => rfl | ⟨1, _⟩ => rfl
    rw [e1, ref_lin, val_main_v34_apply, e2]
  have e3 : idx_main_v36 (idx_main_v37 (ix2 r 0)) = ix1 0 := by
    funext a; match a with | ⟨0, _⟩ => rfl
  rw [val_main_v47_apply, e0, val_main_v46_apply, val_main_v44_apply, val_main_v43_apply, val_main_cst_7_apply, val_main_v42_apply, val_main_v41_apply, val_main_cst_6_apply,
    val_main_v40_apply, val_main_v39_apply, val_main_v38_apply, val_main_v35_apply, hs, val_main_v37_apply, val_main_v36_apply, e3, val_main_v45_apply, val_main_cst_8_apply]
  exact logit_apply _ _

end Ref

/-! ## The kernel's entry -/

section Kernel
open Cert.HeadIdeal Cert.HeadIdeal.Gen

section Body

theorem dot1_apply (a : FVec Ideal S2000x128 .f32) (w : FVec Ideal S64x128 .f32) (r : Fin 2000) (k : Fin 64) :
    matmul dot_S2000x128_S64x128_S2000x64_1_1_0_0_n_n none a w (constant S2000x64 .f32 0x00000000#32) (ix2 r k) = ∑ j : Fin 128, a (ix2 r j) * w (ix2 k j) := by
  refine (Ideal.matmul_transposedRhs_apply (M := 2000) (K := 128) (N := 64) none a w (constant S2000x64 .f32 0x00000000#32) r k).trans ?_
  rw [constant_apply, bits_zero, zero_add]

theorem dot2_apply (a : FVec Ideal S2000x64 .f32) (w : FVec Ideal S8x64 .f32) (r : Fin 2000) (l : Fin 8) :
    matmul dot_S2000x64_S8x64_S2000x8_1_1_0_0_n_n none a w (constant S2000x8 .f32 0x00000000#32) (ix2 r l) = ∑ k : Fin 64, a (ix2 r k) * w (ix2 l k) := by
  refine (Ideal.matmul_transposedRhs_apply (M := 2000) (K := 64) (N := 8) none a w (constant S2000x8 .f32 0x00000000#32) r l).trans ?_
  rw [constant_apply, bits_zero, zero_add]

/-- The normalised row, as the normalisation's own body has it. -/
theorem norm_pay (v0 : FVec Ideal S2000x128 .f32) (v1 v4 v7 v18 v27 : FVec Ideal S1x128 .f32) (r : Fin 2000) (j : Fin 128) :
    (Cert.NormIdeal.Gen.k0_pay1 (F := Ideal) v0 v1 v4 v7 v18 v27 : FVec Ideal S2000x128 .f32) (ix2 r j)
      = entK (v0 (ix2 r j)) (v1 (ix2 0 j)) (v4 (ix2 0 j)) (v18 (ix2 0 j)) (v27 (ix2 0 j)) (v7 (ix2 0 j)) := by
  have h := Cert.NormIdeal.Value.canon6_eq (F := Ideal) v18 v0 v7 v1 v4 v27 (ix2 r j)
  rw [View.canon_unit_zero hz] at h
  exact h.trans (body_entry v18 v0 v7 v1 v4 v27 r j)

theorem pay2_apply (v0 : FVec Ideal S2000x128 .f32) (v1 v4 v7 v18 v27 : FVec Ideal S1x128 .f32) (v33 : FVec Ideal S2000x128 .f32) (v35 : FVec Ideal S64x128 .f32) (r : Fin 2000) (k : Fin 64) :
    k0_pay2 (F := Ideal) v0 v1 v4 v7 v18 v27 v33 v35 (ix2 r k)
      = ∑ j : Fin 128, (entK (v0 (ix2 r j)) (v1 (ix2 0 j)) (v4 (ix2 0 j)) (v18 (ix2 0 j)) (v27 (ix2 0 j)) (v7 (ix2 0 j)) + v33 (ix2 r j)) * v35 (ix2 k j) := by
  have e : k0_pay2 (F := Ideal) v0 v1 v4 v7 v18 v27 v33 v35
      = matmul dot_S2000x128_S64x128_S2000x64_1_1_0_0_n_n none (addf (Cert.NormIdeal.Gen.k0_pay1 (F := Ideal) v0 v1 v4 v7 v18 v27) v33) v35 (constant S2000x64 .f32 0x00000000#32) := rfl
  rw [e, dot1_apply]
  refine Finset.sum_congr rfl fun j _ => ?_
  rw [addf_apply, norm_pay]

theorem log_apply (x : FVec Ideal S2000x8 .f32) (i : S2000x8.Idx) : logistic x i = Ideal.logistic (x i) := rfl

theorem pay1_apply (v36 : FVec Ideal S2000x64 .f32) (v37 : FVec Ideal S1x64 .f32) (v43 : FVec Ideal S8x64 .f32) (v46 : FVec Ideal S1x8 .f32) (r : Fin 2000) (l : Fin 8) :
    k0_pay1 (F := Ideal) v36 v37 v43 v46 (ix2 r l)
      = Ideal.logistic ((∑ k : Fin 64, max (v36 (ix2 r k) + v37 (ix2 0 k)) 0 * v43 (ix2 l k)) + v46 (ix2 0 l)) * Ideal.ofBits .f32 0x42C80000#32 := by
  unfold k0_pay1
  rw [mulf_apply, log_apply, addf_apply, dot2_apply]
  simp only [shapeCast_self]
  rw [broadcastTo_apply v46 broadcasts_S1x8_S2000x8 (ix2 r l) (ix2 0 l) (fun a => by
    match a with
    | ⟨0, _⟩ => rfl
    | ⟨1, _⟩ => rfl)]
  have hs : (∑ k : Fin 64, maximumf (addf v36 (broadcastTo S2000x64 v37 broadcasts_S1x64_S2000x64)) (broadcast S2000x64 (Scalar.ofBits (F := Ideal) .f32 0x00000000#32)) (ix2 r k) * v43 (ix2 l k))
      = ∑ k : Fin 64, max (v36 (ix2 r k) + v37 (ix2 0 k)) 0 * v43 (ix2 l k) := by
    refine Finset.sum_congr rfl fun k _ => ?_
    rw [maximumf_apply, addf_apply]
    rw [broadcastTo_apply v37 broadcasts_S1x64_S2000x64 (ix2 r k) (ix2 0 k) (fun a => by
      match a with
      | ⟨0, _⟩ => rfl
      | ⟨1, _⟩ => rfl)]
    exact congrArg (fun t => max (v36 (ix2 r k) + v37 (ix2 0 k)) t * v43 (ix2 l k)) bits_zero
  rw [hs]
  rfl

end Body

variable (m : (ℓ : Loc nD τ sig) → Buf (Elt Ideal) ℓ) (c : Dev nD)

abbrev argZ : FVec Ideal S10000x128 .f32 := m (c.tc.loc main_arg0)
abbrev argS : FVec Ideal S1x128 .f32 := m (c.tc.loc main_arg1)
abbrev argQ : FVec Ideal S1x128 .f32 := m (c.tc.loc main_arg2)
abbrev argW : FVec Ideal S128 .f32 := m (c.tc.loc main_arg3)
abbrev argB : FVec Ideal S128 .f32 := m (c.tc.loc main_arg4)
abbrev argMs : FVec Ideal S128 .f32 := m (c.tc.loc main_arg5)
abbrev argH : FVec Ideal S10000x128 .f32 := m (c.tc.loc main_arg6)
abbrev argW1 : FVec Ideal S64x128 .f32 := m (c.tc.loc main_arg7)
abbrev argB1 : FVec Ideal S64 .f32 := m (c.tc.loc main_arg8)
abbrev argW2 : FVec Ideal S1x64 .f32 := m (c.tc.loc main_arg9)
abbrev argB2 : FVec Ideal S1 .f32 := m (c.tc.loc main_arg10)

theorem point_lt (t : Fin cfg0.N) : t.val < 5 := lt_of_lt_of_eq t.isLt (show cfg0.N = 5 from N_0)

/-- Row `r` of the block at point `t`. -/
def rowAt (t : Fin cfg0.N) (r : Fin 2000) : Fin 10000 := ⟨2000 * t.val + r.val, by have := point_lt t; have := r.isLt; omega⟩

theorem blk_z (t : Fin cfg0.N) (r : Fin 2000) (k : Fin 128) : (iblk m c 0 t : FVec Ideal S2000x128 .f32) (ix2 r k) = argZ m c (ix2 (rowAt t r) k) := by
  have hi : win0_0.index t 0 = t.val ∧ win0_0.index t 1 = 0 := by rcases fin_N0 t with rfl | rfl | rfl | rfl | rfl <;> decide
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2000 + 1 * r.val = 2000 * t.val + r.val; rw [hi.1]; omega
  | ⟨1, _⟩ => show win0_0.index t 1 * 128 + 1 * k.val = k.val; rw [hi.2]; omega

theorem blk_h (t : Fin cfg0.N) (r : Fin 2000) (k : Fin 128) : (iblk m c 6 t : FVec Ideal S2000x128 .f32) (ix2 r k) = argH m c (ix2 (rowAt t r) k) := by
  have hi : win0_6.index t 0 = t.val ∧ win0_6.index t 1 = 0 := by rcases fin_N0 t with rfl | rfl | rfl | rfl | rfl <;> decide
  unfold iblk
  rw [View.read_apply]
  show V m c main_arg6 _ = _
  rw [V_main_arg6]
  refine congrArg (m (c.tc.loc main_arg6)) ?_
  funext a
  apply Fin.ext
  match a with
  | ⟨0, _⟩ => show win0_6.index t 0 * 2000 + 1 * r.val = 2000 * t.val + r.val; rw [hi.1]; omega
  | ⟨1, _⟩ => show win0_6.index t 1 * 128 + 1 * k.val = k.val; rw [hi.2]; omega

theorem blk_s (t : Fin cfg0.N) (l : Fin 128) : (iblk m c 1 t : FVec Ideal S1x128 .f32) (ix2 0 l) = argS m c (ix2 0 l) := by
  have hi : win0_1.index t 0 = 0 ∧ win0_1.index t 1 = 0 := by rcases fin_N0 t with rfl | rfl | rfl | rfl | rfl <;> decide
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 1 + 1 * 0 = 0; rw [hi.1]
  | ⟨1, _⟩ => show win0_1.index t 1 * 128 + 1 * l.val = l.val; rw [hi.2]; omega

theorem blk_q (t : Fin cfg0.N) (l : Fin 128) : (iblk m c 2 t : FVec Ideal S1x128 .f32) (ix2 0 l) = argQ m c (ix2 0 l) := by
  have hi : win0_2.index t 0 = 0 ∧ win0_2.index t 1 = 0 := by rcases fin_N0 t with rfl | rfl | rfl | rfl | rfl <;> decide
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 1 + 1 * 0 = 0; rw [hi.1]
  | ⟨1, _⟩ => show win0_2.index t 1 * 128 + 1 * l.val = l.val; rw [hi.2]; omega

theorem blk_W1 (t : Fin cfg0.N) (k : Fin 64) (j : Fin 128) : (iblk m c 7 t : FVec Ideal S64x128 .f32) (ix2 k j) = argW1 m c (ix2 k j) := by
  have hi : win0_7.index t 0 = 0 ∧ win0_7.index t 1 = 0 := by rcases fin_N0 t with rfl | rfl | rfl | rfl | rfl <;> decide
  unfold iblk
  rw [View.read_apply]
  show V m c main_arg7 _ = _
  rw [V_main_arg7]
  refine congrArg (m (c.tc.loc main_arg7)) ?_
  funext a
  apply Fin.ext
  match a with
  | ⟨0, _⟩ => show win0_7.index t 0 * 64 + 1 * k.val = k.val; rw [hi.1]; omega
  | ⟨1, _⟩ => show win0_7.index t 1 * 128 + 1 * j.val = j.val; rw [hi.2]; omega

/-! The rows the region finds: each parameter with a unit axis before it, the second layer's repeated eight times. -/

theorem V_w : (V m c main_v0 : FVec Ideal S1x128 .f32) = shapeCast S1x128 (argW m c) shapeCasts_S128_S1x128 := by
  show StableHlo.after hostOps0 (fun b => m (c, b)) main_v0 = _
  unfold hostOps0
  after_results
  rfl
theorem V_b : (V m c main_v1 : FVec Ideal S1x128 .f32) = shapeCast S1x128 (argB m c) shapeCasts_S128_S1x128 := by
  show StableHlo.after hostOps0 (fun b => m (c, b)) main_v1 = _
  unfold hostOps0
  after_results
  rfl
theorem V_ms : (V m c main_v2 : FVec Ideal S1x128 .f32) = shapeCast S1x128 (argMs m c) shapeCasts_S128_S1x128 := by
  show StableHlo.after hostOps0 (fun b => m (c, b)) main_v2 = _
  unfold hostOps0
  after_results
  rfl
theorem V_b1 : (V m c main_v3 : FVec Ideal S1x64 .f32) = shapeCast S1x64 (argB1 m c) shapeCasts_S64_S1x64 := by
  show StableHlo.after hostOps0 (fun b => m (c, b)) main_v3 = _
  unfold hostOps0
  after_results
  rfl
theorem V_W2 : (V m c main_v4 : FVec Ideal S8x64 .f32) = broadcastInDim S8x64 ![0, 1] bcast_S1x64_S8x64_0_1 (argW2 m c) := by
  show StableHlo.after hostOps0 (fun b => m (c, b)) main_v4 = _
  unfold hostOps0
  after_results
theorem V_b2 : (V m c main_v6 : FVec Ideal S1x8 .f32) = broadcastInDim S1x8 ![0, 1] bcast_S1x1_S1x8_0_1 (shapeCast S1x1 (argB2 m c) shapeCasts_S1_S1x1) := by
  show StableHlo.after hostOps0 (fun b => m (c, b)) main_v6 = _
  unfold hostOps0
  after_results
  rfl

theorem row128_apply (x : FVec Ideal S128 .f32) (l : Fin 128) : shapeCast S1x128 x shapeCasts_S128_S1x128 (ix2 0 l) = x (ix1 l) := by
  refine (shapeCast_addUnit_apply ![128] x shapeCasts_S128_S1x128 (ix2 0 l)).trans (congrArg x ?_)
  funext a
  match a with
  | ⟨0, _⟩ => rfl
theorem row64_apply (x : FVec Ideal S64 .f32) (l : Fin 64) : shapeCast S1x64 x shapeCasts_S64_S1x64 (ix2 0 l) = x (ix1 l) := by
  refine (shapeCast_addUnit_apply ![64] x shapeCasts_S64_S1x64 (ix2 0 l)).trans (congrArg x ?_)
  funext a
  match a with
  | ⟨0, _⟩ => rfl
theorem row1_apply (x : FVec Ideal S1 .f32) : shapeCast S1x1 x shapeCasts_S1_S1x1 (ix2 0 0) = x (ix1 0) := by
  refine (shapeCast_addUnit_apply ![1] x shapeCasts_S1_S1x1 (ix2 0 0)).trans (congrArg x ?_)
  funext a
  match a with
  | ⟨0, _⟩ => rfl
theorem rows8_apply (x : FVec Ideal S1x64 .f32) (l : Fin 8) (k : Fin 64) : broadcastInDim S8x64 ![0, 1] bcast_S1x64_S8x64_0_1 x (ix2 l k) = x (ix2 0 k) :=
  broadcastInDim_apply _ bcast_S1x64_S8x64_0_1 x (ix2 l k) (ix2 0 k) (fun a => match a with
    | ⟨0, _⟩ => by show 0 = if (1 : Nat) = 1 then 0 else l.val; rw [if_pos rfl]
    | ⟨1, _⟩ => by show k.val = if (64 : Nat) = 1 then 0 else k.val; rw [if_neg (by decide)])
theorem cols8_apply (x : FVec Ideal S1x1 .f32) (l : Fin 8) : broadcastInDim S1x8 ![0, 1] bcast_S1x1_S1x8_0_1 x (ix2 0 l) = x (ix2 0 0) :=
  broadcastInDim_apply _ bcast_S1x1_S1x8_0_1 x (ix2 0 l) (ix2 0 0) (fun a => match a with
    | ⟨0, _⟩ => by show 0 = if (1 : Nat) = 1 then 0 else 0; rw [if_pos rfl]
    | ⟨1, _⟩ => by show 0 = if (1 : Nat) = 1 then 0 else l.val; rw [if_pos rfl])

theorem blk_w (t : Fin cfg0.N) (l : Fin 128) : (iblk m c 3 t : FVec Ideal S1x128 .f32) (ix2 0 l) = argW m c (ix1 l) := by
  have hi : win0_3.index t 0 = 0 ∧ win0_3.index t 1 = 0 := by rcases fin_N0 t with rfl | rfl | rfl | rfl | rfl <;> decide
  have hj : (iblk m c 3 t : FVec Ideal S1x128 .f32) (ix2 0 l) = (V m c main_v0 : FVec Ideal S1x128 .f32) (ix2 0 l) := by
    unfold iblk
    rw [View.read_apply]
    refine congrArg (V m c main_v0) ?_
    funext a
    apply Fin.ext
    match a with
    | ⟨0, _⟩ => show win0_3.index t 0 * 1 + 1 * 0 = 0; rw [hi.1]
    | ⟨1, _⟩ => show win0_3.index t 1 * 128 + 1 * l.val = l.val; rw [hi.2]; omega
  rw [hj, V_w, row128_apply]

theorem blk_b (t : Fin cfg0.N) (l : Fin 128) : (iblk m c 4 t : FVec Ideal S1x128 .f32) (ix2 0 l) = argB m c (ix1 l) := by
  have hi : win0_4.index t 0 = 0 ∧ win0_4.index t 1 = 0 := by rcases fin_N0 t with rfl | rfl | rfl | rfl | rfl <;> decide
  have hj : (iblk m c 4 t : FVec Ideal S1x128 .f32) (ix2 0 l) = (V m c main_v1 : FVec Ideal S1x128 .f32) (ix2 0 l) := by
    unfold iblk
    rw [View.read_apply]
    refine congrArg (V m c main_v1) ?_
    funext a
    apply Fin.ext
    match a with
    | ⟨0, _⟩ => show win0_4.index t 0 * 1 + 1 * 0 = 0; rw [hi.1]
    | ⟨1, _⟩ => show win0_4.index t 1 * 128 + 1 * l.val = l.val; rw [hi.2]; omega
  rw [hj, V_b, row128_apply]

theorem blk_ms (t : Fin cfg0.N) (l : Fin 128) : (iblk m c 5 t : FVec Ideal S1x128 .f32) (ix2 0 l) = argMs m c (ix1 l) := by
  have hi : win0_5.index t 0 = 0 ∧ win0_5.index t 1 = 0 := by rcases fin_N0 t with rfl | rfl | rfl | rfl | rfl <;> decide
  have hj : (iblk m c 5 t : FVec Ideal S1x128 .f32) (ix2 0 l) = (V m c main_v2 : FVec Ideal S1x128 .f32) (ix2 0 l) := by
    unfold iblk
    rw [View.read_apply]
    refine congrArg (V m c main_v2) ?_
    funext a
    apply Fin.ext
    match a with
    | ⟨0, _⟩ => show win0_5.index t 0 * 1 + 1 * 0 = 0; rw [hi.1]
    | ⟨1, _⟩ => show win0_5.index t 1 * 128 + 1 * l.val = l.val; rw [hi.2]; omega
  rw [hj, V_ms, row128_apply]

theorem blk_b1 (t : Fin cfg0.N) (l : Fin 64) : (iblk m c 8 t : FVec Ideal S1x64 .f32) (ix2 0 l) = argB1 m c (ix1 l) := by
  have hi : win0_8.index t 0 = 0 ∧ win0_8.index t 1 = 0 := by rcases fin_N0 t with rfl | rfl | rfl | rfl | rfl <;> decide
  have hj : (iblk m c 8 t : FVec Ideal S1x64 .f32) (ix2 0 l) = (V m c main_v3 : FVec Ideal S1x64 .f32) (ix2 0 l) := by
    unfold iblk
    rw [View.read_apply]
    refine congrArg (V m c main_v3) ?_
    funext a
    apply Fin.ext
    match a with
    | ⟨0, _⟩ => show win0_8.index t 0 * 1 + 1 * 0 = 0; rw [hi.1]
    | ⟨1, _⟩ => show win0_8.index t 1 * 64 + 1 * l.val = l.val; rw [hi.2]; omega
  rw [hj, V_b1, row64_apply]

theorem blk_b2 (t : Fin cfg0.N) (l : Fin 8) : (iblk m c 10 t : FVec Ideal S1x8 .f32) (ix2 0 l) = argB2 m c (ix1 0) := by
  have hi : win0_10.index t 0 = 0 ∧ win0_10.index t 1 = 0 := by rcases fin_N0 t with rfl | rfl | rfl | rfl | rfl <;> decide
  have hj : (iblk m c 10 t : FVec Ideal S1x8 .f32) (ix2 0 l) = (V m c main_v6 : FVec Ideal S1x8 .f32) (ix2 0 l) := by
    unfold iblk
    rw [View.read_apply]
    refine congrArg (V m c main_v6) ?_
    funext a
    apply Fin.ext
    match a with
    | ⟨0, _⟩ => show win0_10.index t 0 * 1 + 1 * 0 = 0; rw [hi.1]
    | ⟨1, _⟩ => show win0_10.index t 1 * 8 + 1 * l.val = l.val; rw [hi.2]; omega
  rw [hj, V_b2, cols8_apply, row1_apply]

theorem blk_W2 (t : Fin cfg0.N) (l : Fin 8) (k : Fin 64) : (iblk m c 9 t : FVec Ideal S8x64 .f32) (ix2 l k) = argW2 m c (ix2 0 k) := by
  have hi : win0_9.index t 0 = 0 ∧ win0_9.index t 1 = 0 := by rcases fin_N0 t with rfl | rfl | rfl | rfl | rfl <;> decide
  have hj : (iblk m c 9 t : FVec Ideal S8x64 .f32) (ix2 l k) = (V m c main_v4 : FVec Ideal S8x64 .f32) (ix2 l k) := by
    unfold iblk
    rw [View.read_apply]
    refine congrArg (V m c main_v4) ?_
    funext a
    apply Fin.ext
    match a with
    | ⟨0, _⟩ => show win0_9.index t 0 * 8 + 1 * l.val = l.val; rw [hi.1]; omega
    | ⟨1, _⟩ => show win0_9.index t 1 * 64 + 1 * k.val = k.val; rw [hi.2]; omega
  rw [hj, V_W2, rows8_apply]

abbrev resO : FVec Ideal S10000x8 .f32 :=
  Cert.HeadReferenceIdeal.Read.val_main_v47 (F := Ideal) (argZ m c) (argW m c) (argB m c) (argMs m c) (argH m c) (argW1 m c) (argB1 m c) (argW2 m c) (argB2 m c)

variable (hok : SumsOK (argZ m c) (argS m c) (argQ m c))
include hok

theorem out_entry (t : Fin cfg0.N) (r : Fin 2000) (l : Fin 8) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = resO m c (ix2 (rowAt t r) l) := by
  unfold out0_11
  rw [View.canon_unit_zero hz]
  simp only [View.ld_unit_zero (S := S2000x128) hz, View.ld_unit_zero (S := S1x128) hz, View.ld_unit_zero (S := S64x128) hz, View.ld_unit_zero (S := S1x64) hz, View.ld_unit_zero (S := S8x64) hz, View.ld_unit_zero (S := S1x8) hz]
  have hrow : ∀ j : Fin 128, entK ((iblk m c 0 t : FVec Ideal S2000x128 .f32) (ix2 r j)) ((iblk m c 1 t : FVec Ideal S1x128 .f32) (ix2 0 j)) ((iblk m c 2 t : FVec Ideal S1x128 .f32) (ix2 0 j)) ((iblk m c 3 t : FVec Ideal S1x128 .f32) (ix2 0 j)) ((iblk m c 4 t : FVec Ideal S1x128 .f32) (ix2 0 j)) ((iblk m c 5 t : FVec Ideal S1x128 .f32) (ix2 0 j))
      = entR (fun i => argZ m c (ix2 i j)) (rowAt t r) (argW m c (ix1 j)) (argB m c (ix1 j)) (argMs m c (ix1 j)) := fun j => by
    rw [blk_z m c t r j, blk_s m c t j, blk_q m c t j, blk_w m c t j, blk_b m c t j, blk_ms m c t j, hok.sum, hok.sumsq]
    exact ent_eq (fun i => argZ m c (ix2 i j)) (fun i => hok.real _) (rowAt t r) _ _ _
  have hlin : ∀ k : Fin 64, k0_pay2 (F := Ideal) (iblk m c 0 t) (iblk m c 1 t) (iblk m c 2 t) (iblk m c 5 t) (iblk m c 3 t) (iblk m c 4 t) (iblk m c 6 t) (iblk m c 7 t) (ix2 r k)
      = ∑ j : Fin 128, (entR (fun i => argZ m c (ix2 i j)) (rowAt t r) (argW m c (ix1 j)) (argB m c (ix1 j)) (argMs m c (ix1 j)) + argH m c (ix2 (rowAt t r) j)) * argW1 m c (ix2 k j) := fun k => by
    refine (pay2_apply _ _ _ _ _ _ _ _ r k).trans (Finset.sum_congr rfl fun j _ => ?_)
    rw [hrow j, blk_h m c t r j, blk_W1 m c t k j]
  refine (pay1_apply _ _ _ _ r l).trans (Eq.trans ?_ (ref_head (argZ m c) (argW m c) (argB m c) (argMs m c) (argH m c) (argW1 m c) (argB1 m c) (argW2 m c) (argB2 m c) (rowAt t r) l).symm)
  unfold headE
  have hsum : (∑ k : Fin 64, max (k0_pay2 (F := Ideal) (iblk m c 0 t) (iblk m c 1 t) (iblk m c 2 t) (iblk m c 5 t) (iblk m c 3 t) (iblk m c 4 t) (iblk m c 6 t) (iblk m c 7 t) (ix2 r k) + (iblk m c 8 t : FVec Ideal S1x64 .f32) (ix2 0 k)) 0 * (iblk m c 9 t : FVec Ideal S8x64 .f32) (ix2 l k))
      = ∑ k : Fin 64, max ((∑ j : Fin 128, (entR (fun i => argZ m c (ix2 i j)) (rowAt t r) (argW m c (ix1 j)) (argB m c (ix1 j)) (argMs m c (ix1 j)) + argH m c (ix2 (rowAt t r) j)) * argW1 m c (ix2 k j)) + argB1 m c (ix1 k)) 0 * argW2 m c (ix2 0 k) :=
    Finset.sum_congr rfl fun k _ => by rw [hlin k, blk_b1 m c t k, blk_W2 m c t l k]
  rw [hsum, blk_b2 m c t l]

theorem flushed_o (t : Fin cfg0.N) (_ : (cfg0.win 11).flush t = true) :
    (dats m 0 c).flushed 11 t = ((cfg0.win 11).blk t).view.read (Elt Ideal) (resO m c) := by
  have hi : win0_11.index t 0 = t.val ∧ win0_11.index t 1 = 0 := by rcases fin_N0 t with rfl | rfl | rfl | rfl | rfl <;> decide
  rw [Cert.HeadIdeal.Value.flushed11]
  funext j
  rw [View.read_apply]
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j = _
  obtain ⟨r, l, rfl⟩ : ∃ (r : Fin 2000) (l : Fin 8), j = ix2 r l := ⟨j 0, j 1, eq_ix2 j⟩
  rw [out_entry m c hok]
  refine congrArg (resO m c) ?_
  funext a
  apply Fin.ext
  match a with
  | ⟨0, _⟩ => show 2000 * t.val + r.val = win0_11.index t 0 * 2000 + 1 * r.val; rw [hi.1]; omega
  | ⟨1, _⟩ => show l.val = win0_11.index t 1 * 8 + 1 * l.val; rw [hi.2]; omega

theorem final_o : (dats m 0 c).arrAt 11 cfg0.N = resO m c :=
  (dats m 0 c).arrAt_eq_of_cover 11 (resO m c) (flushed_o m c hok) fun i => by
    have hi0 : (i 0 : Nat) < 10000 := (i 0).isLt
    have hi1 : (i 1 : Nat) < 8 := (i 1).isLt
    obtain ⟨t, ht⟩ : ∃ t : Fin cfg0.N, t.val = (i 0 : Nat) / 2000 := ⟨⟨(i 0 : Nat) / 2000, by rw [show cfg0.N = 5 from N_0]; omega⟩, rfl⟩
    have hx : win0_11.index t 0 = t.val ∧ win0_11.index t 1 = 0 ∧ win0_11.xsize (grid0.coords t) 0 = 2000 ∧ win0_11.xsize (grid0.coords t) 1 = 8 := by
      rcases fin_N0 t with rfl | rfl | rfl | rfl | rfl <;> decide +kernel
    refine ⟨t, flush0_11 t, ?_⟩
    show i ∈ ((View.whole main_v7).slice (win0_11.rect t)).set
    rw [View.set_slice_whole, Rect.mem_set_unit]
    intro a
    match a with
    | ⟨0, _⟩ =>
      show win0_11.index t 0 * 2000 ≤ (i 0 : Nat) ∧ (i 0 : Nat) < win0_11.index t 0 * 2000 + win0_11.xsize (grid0.coords t) 0
      rw [hx.1, hx.2.2.1]; omega
    | ⟨1, _⟩ =>
      show win0_11.index t 1 * 8 ≤ (i 1 : Nat) ∧ (i 1 : Nat) < win0_11.index t 1 * 8 + win0_11.xsize (grid0.coords t) 1
      rw [hx.2.1, hx.2.2.2]; omega

end Kernel

end Cert.Proof.Head

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_fits
public import proofs.«01_k».proof.Proof.Gen.Pre_in_range
public import proofs.«01_k».proof.Proof.Join
public import proofs.«01_k».proof.Proof.LayerValue
public import proofs.«01_k».proof.Proof.Gen.Layer
public import proofs.«01_k».proof.Proof.Gen.Layer.Frame
public import proofs.«01_k».proof.Proof.Gen.LayerIdeal
public import proofs.«01_k».proof.Proof.Gen.LayerIdeal.Frame
public import proofs.«01_k».proof.Proof.Gen.LayerIdeal.Value
public import proofs.«01_k».proof.Proof.Gen.LayerReferenceIdeal
public import proofs.«01_k».proof.Proof.Gen.LayerReferenceIdeal.Run
public import proofs.«01_k».proof.Proof.Gen.LayerReferenceIdeal.Read
public import proofs.«01_k».proof.Proof.NormValue
public import proofs.«01_k».proof.Proof.Gen.Pre_sums
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.HeadValue
public import proofs.«01_k».proof.Proof.Gen.Pre_head_sums
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadIdeal.Value
public import proofs.«01_k».proof.Proof.Gen.HeadReferenceIdeal
public import proofs.«01_k».proof.Proof.Gen.HeadReferenceIdeal.Run
public import proofs.«01_k».proof.Proof.Gen.HeadReferenceIdeal.Read
public import Idealize.ShloMosaic.Adequacy
public import Idealize.ShloMosaic.Init

@[expose] public section

noncomputable section

namespace Cert.Proof

open Idealize.ShloMosaic Idealize.SL.Sem Cert.Proof.Scan

set_option maxHeartbeats 8000000 in
/-- The kernel's frame: its run, read at the arguments and at the counters. -/
theorem frame_p : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ fun d j => range_of_pre (F := Bits) _ _ _ (hpre d) j)

theorem frame_pi : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ fun d j => range_of_pre (F := Ideal) _ _ _ (hpre d) j)

theorem ok_of_fits (m : (ℓ : Loc Cert.KernelIdeal.nD Cert.KernelIdeal.τ Cert.KernelIdeal.sig) → Buf (Elt Ideal) ℓ) (h : Cert.Pre_KernelIdeal_fits m) : Join.OK m :=
  fun d => fits_of_pre (F := Ideal) _ _ _ (h d)

theorem frame_pi_fits : Cert.quiescent_KernelIdeal_pre_fits := fun m ρ hpre =>
  (θ_run Cert.KernelIdeal.defs _ _).mono (fun _ h => ⟨fun c => ⟨(h.1 c).1, (h.1 c).2.1, (h.1 c).2.2.1⟩, h.2⟩)
    (run_main (F := Ideal) m ρ fun d j => (ok_of_fits m hpre d).range j)

/-- The kernel and the reference end with the same two arrays, `Join.val` and `Join.val2`. -/
theorem value : Cert.algebraic_KernelIdeal_ReferenceIdeal_pre_fits := by
  intro m ρ m' ρ' hpre hagree
  have hok := ok_of_fits m hpre
  refine ⟨fun c => Join.val m c, fun c => Join.val2 m c, ?_, ?_⟩
  · exact (θ_run Cert.KernelIdeal.defs _ _).mono (fun _ h c => ⟨Join.kernel_val m hok c _ (h.1 c).2.2.2.1, Join.kernel_val2 m hok c _ (h.1 c).2.2.2.2, (h.1 c).1, (h.1 c).2.1, (h.1 c).2.2.1⟩)
      (run_main (F := Ideal) m ρ fun d j => (hok d).range j)
  · refine (θ_run Cert.ReferenceIdeal.defs _ _).mono (fun _ h c => ⟨(h c).1.trans ?_, (h c).2.1.trans ?_, (h c).2.2⟩) (Ref.run_value m' ρ')
    · rw [(hagree c).1, (hagree c).2.1]
      exact Join.ref_val m hok c
    · rw [(hagree c).2.2, (hagree c).2.1]
      exact Join.ref_val2 m hok c

theorem preserves_layer : Cert.preserves_Layer_LayerIdeal := trivial

/-- The layer's reference: its run, read at the arguments; it has no counter. -/
theorem frame_lri : Cert.quiescent_LayerReferenceIdeal := fun m ρ _ =>
  (θ_run Cert.LayerReferenceIdeal.defs _ _).mono (fun r h => ⟨fun c => (h c).2.2.2, sem_eq_zero_of_no_sems (by decide) r.2⟩)
    (Cert.LayerReferenceIdeal.Value.run (F := Ideal) m ρ)

/-- The layer and its reference end with the same three arrays. -/
theorem value_layer : Cert.algebraic_LayerIdeal_LayerReferenceIdeal := by
  intro m ρ m' ρ' _ hagree
  refine ⟨fun c => Layer.resZ m c, fun c => Layer.resS m c, fun c => Layer.resQ m c, ?_, ?_⟩
  · exact (θ_run Cert.LayerIdeal.defs _ _).mono (fun _ h c => ⟨(h c).1.trans (Layer.final_z m c), (h c).2.1.trans (Layer.final_s m c),
      (h c).2.2.1.trans (Layer.final_q m c), (h c).2.2.2⟩) (Cert.LayerIdeal.Value.run_blocks (F := Ideal) m ρ)
  · refine (θ_run Cert.LayerReferenceIdeal.defs _ _).mono (fun _ h c => ⟨(h c).1.trans ?_, (h c).2.1.trans ?_, (h c).2.2.1.trans ?_, (h c).2.2.2⟩)
      (Cert.LayerReferenceIdeal.Value.run (F := Ideal) m' ρ')
    all_goals
      obtain ⟨e0, e1, e2, e3, e4⟩ := hagree c
      rw [e0, e1, e2, e3, e4]
    · exact Cert.LayerReferenceIdeal.Read.val_main_v7_eq ..
    · exact Cert.LayerReferenceIdeal.Read.val_main_v9_eq ..
    · exact Cert.LayerReferenceIdeal.Read.val_main_v12_eq ..

/-- The one difference of the ideal reading: the literal of 1/10000 is that real. -/
theorem preserves_norm : Cert.preserves_Norm_NormIdeal :=
  IdealRules.named_const.statement Cert.NormIdeal.κ "inv_n" .f32 0x38D1B717#32 ((1 / 10000 : ℝ) : EReal) rfl

/-- The normalisation's reference: its run, read at the arguments; it has no counter. -/
theorem frame_nri : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- The normalisation and its reference end with the same array. -/
theorem value_norm : Cert.algebraic_NormIdeal_NormReferenceIdeal_pre_sums := by
  intro m ρ m' ρ' hpre hagree
  refine ⟨fun c => Norm.resH m c, ?_, ?_⟩
  · exact (θ_run Cert.NormIdeal.defs _ _).mono (fun _ h c => ⟨(h c).1.trans (Norm.final_h m c (Norm.sums_of_pre _ _ _ _ _ _ (hpre c))), (h c).2⟩)
      (Cert.NormIdeal.Value.run_blocks (F := Ideal) m ρ)
  · refine (θ_run Cert.NormReferenceIdeal.defs _ _).mono (fun _ h c => ⟨(h c).1.trans ?_, (h c).2⟩)
      (Cert.NormReferenceIdeal.Value.run (F := Ideal) m' ρ')
    obtain ⟨e0, e1, e2, e3, e4, e5⟩ := hagree c
    rw [e0, e3, e4, e5]
    exact Cert.NormReferenceIdeal.Read.val_main_v25_eq ..

/-- The head runs the normalisation's text before its own: the same constant. -/
theorem preserves_head : Cert.preserves_Head_HeadIdeal :=
  IdealRules.named_const.statement Cert.HeadIdeal.κ "inv_n" .f32 0x38D1B717#32 ((1 / 10000 : ℝ) : EReal) rfl

/-- The head's reference: its run, read at the arguments; it has no counter. -/
theorem frame_hri : Cert.quiescent_HeadReferenceIdeal := fun m ρ _ =>
  (θ_run Cert.HeadReferenceIdeal.defs _ _).mono (fun r h => ⟨fun c => (h c).2, sem_eq_zero_of_no_sems (by decide) r.2⟩)
    (Cert.HeadReferenceIdeal.Value.run (F := Ideal) m ρ)

/-- The head and its reference end with the same array. -/
theorem value_head : Cert.algebraic_HeadIdeal_HeadReferenceIdeal_pre_head_sums := by
  intro m ρ m' ρ' hpre hagree
  refine ⟨fun c => Head.resO m c, ?_, ?_⟩
  · exact (θ_run Cert.HeadIdeal.defs _ _).mono (fun _ h c => ⟨(h c).1.trans (Head.final_o m c (Head.sums_of_pre _ _ _ _ _ _ _ _ _ _ _ (hpre c))), (h c).2⟩)
      (Cert.HeadIdeal.Value.run_blocks (F := Ideal) m ρ)
  · refine (θ_run Cert.HeadReferenceIdeal.defs _ _).mono (fun _ h c => ⟨(h c).1.trans ?_, (h c).2⟩)
      (Cert.HeadReferenceIdeal.Value.run (F := Ideal) m' ρ')
    obtain ⟨e0, e1, e2, e3, e4, e5, e6, e7, e8, e9, e10⟩ := hagree c
    rw [e0, e3, e4, e5, e6, e7, e8, e9, e10]
    exact Cert.HeadReferenceIdeal.Read.val_main_v47_eq ..

theorem claim : Cert.Claim :=
  ⟨Cert.Kernel.Gen.facts, Cert.KernelIdeal.Gen.facts, Cert.ReferenceIdeal.Gen.facts, Cert.Layer.Gen.facts, Cert.LayerIdeal.Gen.facts, Cert.LayerReferenceIdeal.Gen.facts,
    Cert.Norm.Gen.facts, Cert.NormIdeal.Gen.facts, Cert.NormReferenceIdeal.Gen.facts,
    Cert.Head.Gen.facts, Cert.HeadIdeal.Gen.facts, Cert.HeadReferenceIdeal.Gen.facts,
    Cert.Pre_in_range.Gen.facts, Cert.Pre_fits.Gen.facts, Cert.Pre_sums.Gen.facts, Cert.Pre_head_sums.Gen.facts,
    frame_p, frame_pi, frame_pi_fits, fun m ρ _ => Ref.run_args m ρ, fun m ρ _ => Ref.run_args m ρ,
    fun m ρ _ => Cert.Layer.Gen.frame (F := Bits) m ρ, fun m ρ _ => Cert.LayerIdeal.Gen.frame (F := Ideal) m ρ, frame_lri,
    fun m ρ _ => Cert.Norm.Gen.frame (F := Bits) m ρ, fun m ρ _ => Cert.NormIdeal.Gen.frame (F := Ideal) m ρ, fun m ρ _ => Cert.NormIdeal.Gen.frame (F := Ideal) m ρ,
    frame_nri, fun m ρ _ => frame_nri m ρ trivial,
    fun m ρ _ => Cert.Head.Gen.frame (F := Bits) m ρ, fun m ρ _ => Cert.HeadIdeal.Gen.frame (F := Ideal) m ρ, fun m ρ _ => Cert.HeadIdeal.Gen.frame (F := Ideal) m ρ,
    frame_hri, fun m ρ _ => frame_hri m ρ trivial,
    trivial, value, preserves_layer, value_layer, preserves_norm, value_norm, preserves_head, value_head⟩

end Cert.Proof

end
